-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.2 = (fun _ => 1#1)

def Pre_MlaK (m : (ℓ : Loc Cert.MlaK.nD Cert.MlaK.τ Cert.MlaK.sig) → Buf (Elt Bits) ℓ) : Prop :=
  True

def Pre_MlaKIdeal (m : (ℓ : Loc Cert.MlaKIdeal.nD Cert.MlaKIdeal.τ Cert.MlaKIdeal.sig) → Buf (Elt Ideal) ℓ) : Prop :=
  True

def Pre_MlaKIdeal_mla_finite [hPre_mla_finite : Cert.Pre_mla_finite.Facts] (m : (ℓ : Loc Cert.MlaKIdeal.nD Cert.MlaKIdeal.τ Cert.MlaKIdeal.sig) → Buf (Elt Ideal) ℓ) : Prop :=
  ∀ c : Dev Cert.MlaKIdeal.nD,
    (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).1 = (fun _ => 1#1)
    ∧ (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).2.1 = (fun _ => 1#1)
    ∧ (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).2.2.1 = (fun _ => 1#1)
    ∧ (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).2.2.2.1 = (fun _ => 1#1)
    ∧ (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).2.2.2.2.1 = (fun _ => 1#1)
    ∧ (Cert.Pre_mla_finite.fn (F := Ideal) (m ((c.tc : Thread Cert.MlaKIdeal.nD Cert.MlaKIdeal.τ).loc Cert.MlaKIdeal.main_arg0)) (m ((c.tc : Thread Cert.MlaKIdeal.nD Cert.MlaKIdeal.τ).loc Cert.MlaKIdeal.main_arg1)) (m ((c.tc : Thread Cert.MlaKIdeal.nD Cert.MlaKIdeal.τ).loc Cert.MlaKIdeal.main_arg2)) (m ((c.tc : Thread Cert.MlaKIdeal.nD Cert.MlaKIdeal.τ).loc Cert.MlaKIdeal.main_arg3)) (m ((c.tc : Thread Cert.MlaKIdeal.nD Cert.MlaKIdeal.τ).loc Cert.MlaKIdeal.main_arg4)) (m ((c.tc : Thread Cert.MlaKIdeal.nD Cert.MlaKIdeal.τ).loc Cert.MlaKIdeal.main_arg5))).2.2.2.2.2 = (fun _ => 1#1)

def Pre_MlaRIdeal (m : (ℓ : Loc Cert.MlaRIdeal.nD Cert.MlaRIdeal.τ Cert.MlaRIdeal.sig) → Buf (Elt Ideal) ℓ) : Prop :=
  True

def Pre_MlaRIdeal_mla_finite [hPre_mla_finite : Cert.Pre_mla_finite.Facts] (m : (ℓ : Loc Cert.MlaRIdeal.nD Cert.MlaRIdeal.τ Cert.MlaRIdeal.sig) → Buf (Elt Ideal) ℓ) : Prop :=
  ∀ c : Dev Cert.MlaRIdeal.nD,
    (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).1 = (fun _ => 1#1)
    ∧ (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).2.1 = (fun _ => 1#1)
    ∧ (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).2.2.1 = (fun _ => 1#1)
    ∧ (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).2.2.2.1 = (fun _ => 1#1)
    ∧ (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).2.2.2.2.1 = (fun _ => 1#1)
    ∧ (Cert.Pre_mla_finite.fn (F := Ideal) (m ((c.tc : Thread Cert.MlaRIdeal.nD Cert.MlaRIdeal.τ).loc Cert.MlaRIdeal.main_arg0)) (m ((c.tc : Thread Cert.MlaRIdeal.nD Cert.MlaRIdeal.τ).loc Cert.MlaRIdeal.main_arg1)) (m ((c.tc : Thread Cert.MlaRIdeal.nD Cert.MlaRIdeal.τ).loc Cert.MlaRIdeal.main_arg2)) (m ((c.tc : Thread Cert.MlaRIdeal.nD Cert.MlaRIdeal.τ).loc Cert.MlaRIdeal.main_arg3)) (m ((c.tc : Thread Cert.MlaRIdeal.nD Cert.MlaRIdeal.τ).loc Cert.MlaRIdeal.main_arg4)) (m ((c.tc : Thread Cert.MlaRIdeal.nD Cert.MlaRIdeal.τ).loc Cert.MlaRIdeal.main_arg5))).2.2.2.2.2 = (fun _ => 1#1)

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormKIdeal_norm_finite [hPre_norm_finite : Cert.Pre_norm_finite.Facts] (m : (ℓ : Loc Cert.NormKIdeal.nD Cert.NormKIdeal.τ Cert.NormKIdeal.sig) → Buf (Elt Ideal) ℓ) : Prop :=
  ∀ c : Dev Cert.NormKIdeal.nD,
    (Cert.Pre_norm_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3))).1 = (fun _ => 1#1)
    ∧ (Cert.Pre_norm_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3))).2.1 = (fun _ => 1#1)
    ∧ (Cert.Pre_norm_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3))).2.2 = (fun _ => 1#1)

def Pre_NormRIdeal (m : (ℓ : Loc Cert.NormRIdeal.nD Cert.NormRIdeal.τ Cert.NormRIdeal.sig) → Buf (Elt Ideal) ℓ) : Prop :=
  True

def Pre_NormRIdeal_norm_finite [hPre_norm_finite : Cert.Pre_norm_finite.Facts] (m : (ℓ : Loc Cert.NormRIdeal.nD Cert.NormRIdeal.τ Cert.NormRIdeal.sig) → Buf (Elt Ideal) ℓ) : Prop :=
  ∀ c : Dev Cert.NormRIdeal.nD,
    (Cert.Pre_norm_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3))).1 = (fun _ => 1#1)
    ∧ (Cert.Pre_norm_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3))).2.1 = (fun _ => 1#1)
    ∧ (Cert.Pre_norm_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3))).2.2 = (fun _ => 1#1)

def Pre_QnormK (m : (ℓ : Loc Cert.QnormK.nD Cert.QnormK.τ Cert.QnormK.sig) → Buf (Elt Bits) ℓ) : Prop :=
  True

def Pre_QnormKIdeal (m : (ℓ : Loc Cert.QnormKIdeal.nD Cert.QnormKIdeal.τ Cert.QnormKIdeal.sig) → Buf (Elt Ideal) ℓ) : Prop :=
  True

def Pre_QnormKIdeal_qnorm_finite [hPre_qnorm_finite : Cert.Pre_qnorm_finite.Facts] (m : (ℓ : Loc Cert.QnormKIdeal.nD Cert.QnormKIdeal.τ Cert.QnormKIdeal.sig) → Buf (Elt Ideal) ℓ) : Prop :=
  ∀ c : Dev Cert.QnormKIdeal.nD,
    (Cert.Pre_qnorm_finite.fn (F := Ideal) (m ((c.tc : Thread Cert.QnormKIdeal.nD Cert.QnormKIdeal.τ).loc Cert.QnormKIdeal.main_arg0)) (m ((c.tc : Thread Cert.QnormKIdeal.nD Cert.QnormKIdeal.τ).loc Cert.QnormKIdeal.main_arg1)) (m ((c.tc : Thread Cert.QnormKIdeal.nD Cert.QnormKIdeal.τ).loc Cert.QnormKIdeal.main_arg2))).1 = (fun _ => 1#1)
    ∧ (Cert.Pre_qnorm_finite.fn (F := Ideal) (m ((c.tc : Thread Cert.QnormKIdeal.nD Cert.QnormKIdeal.τ).loc Cert.QnormKIdeal.main_arg0)) (m ((c.tc : Thread Cert.QnormKIdeal.nD Cert.QnormKIdeal.τ).loc Cert.QnormKIdeal.main_arg1)) (m ((c.tc : Thread Cert.QnormKIdeal.nD Cert.QnormKIdeal.τ).loc Cert.QnormKIdeal.main_arg2))).2.1 = (fun _ => 1#1)
    ∧ (Cert.Pre_qnorm_finite.fn (F := Ideal) (m ((c.tc : Thread Cert.QnormKIdeal.nD Cert.QnormKIdeal.τ).loc Cert.QnormKIdeal.main_arg0)) (m ((c.tc : Thread Cert.QnormKIdeal.nD Cert.QnormKIdeal.τ).loc Cert.QnormKIdeal.main_arg1)) (m ((c.tc : Thread Cert.QnormKIdeal.nD Cert.QnormKIdeal.τ).loc Cert.QnormKIdeal.main_arg2))).2.2 = (fun _ => 1#1)

def Pre_QnormRIdeal (m : (ℓ : Loc Cert.QnormRIdeal.nD Cert.QnormRIdeal.τ Cert.QnormRIdeal.sig) → Buf (Elt Ideal) ℓ) : Prop :=
  True

def Pre_QnormRIdeal_qnorm_finite [hPre_qnorm_finite : Cert.Pre_qnorm_finite.Facts] (m : (ℓ : Loc Cert.QnormRIdeal.nD Cert.QnormRIdeal.τ Cert.QnormRIdeal.sig) → Buf (Elt Ideal) ℓ) : Prop :=
  ∀ c : Dev Cert.QnormRIdeal.nD,
    (Cert.Pre_qnorm_finite.fn (F := Ideal) (m ((c.tc : Thread Cert.QnormRIdeal.nD Cert.QnormRIdeal.τ).loc Cert.QnormRIdeal.main_arg0)) (m ((c.tc : Thread Cert.QnormRIdeal.nD Cert.QnormRIdeal.τ).loc Cert.QnormRIdeal.main_arg1)) (m ((c.tc : Thread Cert.QnormRIdeal.nD Cert.QnormRIdeal.τ).loc Cert.QnormRIdeal.main_arg2))).1 = (fun _ => 1#1)
    ∧ (Cert.Pre_qnorm_finite.fn (F := Ideal) (m ((c.tc : Thread Cert.QnormRIdeal.nD Cert.QnormRIdeal.τ).loc Cert.QnormRIdeal.main_arg0)) (m ((c.tc : Thread Cert.QnormRIdeal.nD Cert.QnormRIdeal.τ).loc Cert.QnormRIdeal.main_arg1)) (m ((c.tc : Thread Cert.QnormRIdeal.nD Cert.QnormRIdeal.τ).loc Cert.QnormRIdeal.main_arg2))).2.1 = (fun _ => 1#1)
    ∧ (Cert.Pre_qnorm_finite.fn (F := Ideal) (m ((c.tc : Thread Cert.QnormRIdeal.nD Cert.QnormRIdeal.τ).loc Cert.QnormRIdeal.main_arg0)) (m ((c.tc : Thread Cert.QnormRIdeal.nD Cert.QnormRIdeal.τ).loc Cert.QnormRIdeal.main_arg1)) (m ((c.tc : Thread Cert.QnormRIdeal.nD Cert.QnormRIdeal.τ).loc Cert.QnormRIdeal.main_arg2))).2.2 = (fun _ => 1#1)

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixRIdeal (m : (ℓ : Loc Cert.MixRIdeal.nD Cert.MixRIdeal.τ Cert.MixRIdeal.sig) → Buf (Elt Ideal) ℓ) : Prop :=
  True

def Pre_FeedK (m : (ℓ : Loc Cert.FeedK.nD Cert.FeedK.τ Cert.FeedK.sig) → Buf (Elt Bits) ℓ) : Prop :=
  True

def Pre_FeedKIdeal (m : (ℓ : Loc Cert.FeedKIdeal.nD Cert.FeedKIdeal.τ Cert.FeedKIdeal.sig) → Buf (Elt Ideal) ℓ) : Prop :=
  True

def Pre_FeedRIdeal (m : (ℓ : Loc Cert.FeedRIdeal.nD Cert.FeedRIdeal.τ Cert.FeedRIdeal.sig) → Buf (Elt Ideal) ℓ) : Prop :=
  True

def Pre_FnormK (m : (ℓ : Loc Cert.FnormK.nD Cert.FnormK.τ Cert.FnormK.sig) → Buf (Elt Bits) ℓ) : Prop :=
  True

def Pre_FnormKIdeal (m : (ℓ : Loc Cert.FnormKIdeal.nD Cert.FnormKIdeal.τ Cert.FnormKIdeal.sig) → Buf (Elt Ideal) ℓ) : Prop :=
  True

def Pre_FnormRIdeal (m : (ℓ : Loc Cert.FnormRIdeal.nD Cert.FnormRIdeal.τ Cert.FnormRIdeal.sig) → Buf (Elt Ideal) ℓ) : Prop :=
  True

def Pre_GeluK (m : (ℓ : Loc Cert.GeluK.nD Cert.GeluK.τ Cert.GeluK.sig) → Buf (Elt Bits) ℓ) : Prop :=
  True

def Pre_GeluKIdeal (m : (ℓ : Loc Cert.GeluKIdeal.nD Cert.GeluKIdeal.τ Cert.GeluKIdeal.sig) → Buf (Elt Ideal) ℓ) : Prop :=
  True

def Pre_GeluKIdeal_gelu_finite [hPre_gelu_finite : Cert.Pre_gelu_finite.Facts] (m : (ℓ : Loc Cert.GeluKIdeal.nD Cert.GeluKIdeal.τ Cert.GeluKIdeal.sig) → Buf (Elt Ideal) ℓ) : Prop :=
  ∀ c : Dev Cert.GeluKIdeal.nD,
    (Cert.Pre_gelu_finite.fn (F := Ideal) (m ((c.tc : Thread Cert.GeluKIdeal.nD Cert.GeluKIdeal.τ).loc Cert.GeluKIdeal.main_arg0)) (m ((c.tc : Thread Cert.GeluKIdeal.nD Cert.GeluKIdeal.τ).loc Cert.GeluKIdeal.main_arg1)) (m ((c.tc : Thread Cert.GeluKIdeal.nD Cert.GeluKIdeal.τ).loc Cert.GeluKIdeal.main_arg2)) (m ((c.tc : Thread Cert.GeluKIdeal.nD Cert.GeluKIdeal.τ).loc Cert.GeluKIdeal.main_arg3)) (m ((c.tc : Thread Cert.GeluKIdeal.nD Cert.GeluKIdeal.τ).loc Cert.GeluKIdeal.main_arg4))).1 = (fun _ => 1#1)
    ∧ (Cert.Pre_gelu_finite.fn (F := Ideal) (m ((c.tc : Thread Cert.GeluKIdeal.nD Cert.GeluKIdeal.τ).loc Cert.GeluKIdeal.main_arg0)) (m ((c.tc : Thread Cert.GeluKIdeal.nD Cert.GeluKIdeal.τ).loc Cert.GeluKIdeal.main_arg1)) (m ((c.tc : Thread Cert.GeluKIdeal.nD Cert.GeluKIdeal.τ).loc Cert.GeluKIdeal.main_arg2)) (m ((c.tc : Thread Cert.GeluKIdeal.nD Cert.GeluKIdeal.τ).loc Cert.GeluKIdeal.main_arg3)) (m ((c.tc : Thread Cert.GeluKIdeal.nD Cert.GeluKIdeal.τ).loc Cert.GeluKIdeal.main_arg4))).2.1 = (fun _ => 1#1)
    ∧ (Cert.Pre_gelu_finite.fn (F := Ideal) (m ((c.tc : Thread Cert.GeluKIdeal.nD Cert.GeluKIdeal.τ).loc Cert.GeluKIdeal.main_arg0)) (m ((c.tc : Thread Cert.GeluKIdeal.nD Cert.GeluKIdeal.τ).loc Cert.GeluKIdeal.main_arg1)) (m ((c.tc : Thread Cert.GeluKIdeal.nD Cert.GeluKIdeal.τ).loc Cert.GeluKIdeal.main_arg2)) (m ((c.tc : Thread Cert.GeluKIdeal.nD Cert.GeluKIdeal.τ).loc Cert.GeluKIdeal.main_arg3)) (m ((c.tc : Thread Cert.GeluKIdeal.nD Cert.GeluKIdeal.τ).loc Cert.GeluKIdeal.main_arg4))).2.2.1 = (fun _ => 1#1)
    ∧ (Cert.Pre_gelu_finite.fn (F := Ideal) (m ((c.tc : Thread Cert.GeluKIdeal.nD Cert.GeluKIdeal.τ).loc Cert.GeluKIdeal.main_arg0)) (m ((c.tc : Thread Cert.GeluKIdeal.nD Cert.GeluKIdeal.τ).loc Cert.GeluKIdeal.main_arg1)) (m ((c.tc : Thread Cert.GeluKIdeal.nD Cert.GeluKIdeal.τ).loc Cert.GeluKIdeal.main_arg2)) (m ((c.tc : Thread Cert.GeluKIdeal.nD Cert.GeluKIdeal.τ).loc Cert.GeluKIdeal.main_arg3)) (m ((c.tc : Thread Cert.GeluKIdeal.nD Cert.GeluKIdeal.τ).loc Cert.GeluKIdeal.main_arg4))).2.2.2.1 = (fun _ => 1#1)
    ∧ (Cert.Pre_gelu_finite.fn (F := Ideal) (m ((c.tc : Thread Cert.GeluKIdeal.nD Cert.GeluKIdeal.τ).loc Cert.GeluKIdeal.main_arg0)) (m ((c.tc : Thread Cert.GeluKIdeal.nD Cert.GeluKIdeal.τ).loc Cert.GeluKIdeal.main_arg1)) (m ((c.tc : Thread Cert.GeluKIdeal.nD Cert.GeluKIdeal.τ).loc Cert.GeluKIdeal.main_arg2)) (m ((c.tc : Thread Cert.GeluKIdeal.nD Cert.GeluKIdeal.τ).loc Cert.GeluKIdeal.main_arg3)) (m ((c.tc : Thread Cert.GeluKIdeal.nD Cert.GeluKIdeal.τ).loc Cert.GeluKIdeal.main_arg4))).2.2.2.2 = (fun _ => 1#1)

def Pre_GeluRIdeal (m : (ℓ : Loc Cert.GeluRIdeal.nD Cert.GeluRIdeal.τ Cert.GeluRIdeal.sig) → Buf (Elt Ideal) ℓ) : Prop :=
  True

def Pre_GeluRIdeal_gelu_finite [hPre_gelu_finite : Cert.Pre_gelu_finite.Facts] (m : (ℓ : Loc Cert.GeluRIdeal.nD Cert.GeluRIdeal.τ Cert.GeluRIdeal.sig) → Buf (Elt Ideal) ℓ) : Prop :=
  ∀ c : Dev Cert.GeluRIdeal.nD,
    (Cert.Pre_gelu_finite.fn (F := Ideal) (m ((c.tc : Thread Cert.GeluRIdeal.nD Cert.GeluRIdeal.τ).loc Cert.GeluRIdeal.main_arg0)) (m ((c.tc : Thread Cert.GeluRIdeal.nD Cert.GeluRIdeal.τ).loc Cert.GeluRIdeal.main_arg1)) (m ((c.tc : Thread Cert.GeluRIdeal.nD Cert.GeluRIdeal.τ).loc Cert.GeluRIdeal.main_arg2)) (m ((c.tc : Thread Cert.GeluRIdeal.nD Cert.GeluRIdeal.τ).loc Cert.GeluRIdeal.main_arg3)) (m ((c.tc : Thread Cert.GeluRIdeal.nD Cert.GeluRIdeal.τ).loc Cert.GeluRIdeal.main_arg4))).1 = (fun _ => 1#1)
    ∧ (Cert.Pre_gelu_finite.fn (F := Ideal) (m ((c.tc : Thread Cert.GeluRIdeal.nD Cert.GeluRIdeal.τ).loc Cert.GeluRIdeal.main_arg0)) (m ((c.tc : Thread Cert.GeluRIdeal.nD Cert.GeluRIdeal.τ).loc Cert.GeluRIdeal.main_arg1)) (m ((c.tc : Thread Cert.GeluRIdeal.nD Cert.GeluRIdeal.τ).loc Cert.GeluRIdeal.main_arg2)) (m ((c.tc : Thread Cert.GeluRIdeal.nD Cert.GeluRIdeal.τ).loc Cert.GeluRIdeal.main_arg3)) (m ((c.tc : Thread Cert.GeluRIdeal.nD Cert.GeluRIdeal.τ).loc Cert.GeluRIdeal.main_arg4))).2.1 = (fun _ => 1#1)
    ∧ (Cert.Pre_gelu_finite.fn (F := Ideal) (m ((c.tc : Thread Cert.GeluRIdeal.nD Cert.GeluRIdeal.τ).loc Cert.GeluRIdeal.main_arg0)) (m ((c.tc : Thread Cert.GeluRIdeal.nD Cert.GeluRIdeal.τ).loc Cert.GeluRIdeal.main_arg1)) (m ((c.tc : Thread Cert.GeluRIdeal.nD Cert.GeluRIdeal.τ).loc Cert.GeluRIdeal.main_arg2)) (m ((c.tc : Thread Cert.GeluRIdeal.nD Cert.GeluRIdeal.τ).loc Cert.GeluRIdeal.main_arg3)) (m ((c.tc : Thread Cert.GeluRIdeal.nD Cert.GeluRIdeal.τ).loc Cert.GeluRIdeal.main_arg4))).2.2.1 = (fun _ => 1#1)
    ∧ (Cert.Pre_gelu_finite.fn (F := Ideal) (m ((c.tc : Thread Cert.GeluRIdeal.nD Cert.GeluRIdeal.τ).loc Cert.GeluRIdeal.main_arg0)) (m ((c.tc : Thread Cert.GeluRIdeal.nD Cert.GeluRIdeal.τ).loc Cert.GeluRIdeal.main_arg1)) (m ((c.tc : Thread Cert.GeluRIdeal.nD Cert.GeluRIdeal.τ).loc Cert.GeluRIdeal.main_arg2)) (m ((c.tc : Thread Cert.GeluRIdeal.nD Cert.GeluRIdeal.τ).loc Cert.GeluRIdeal.main_arg3)) (m ((c.tc : Thread Cert.GeluRIdeal.nD Cert.GeluRIdeal.τ).loc Cert.GeluRIdeal.main_arg4))).2.2.2.1 = (fun _ => 1#1)
    ∧ (Cert.Pre_gelu_finite.fn (F := Ideal) (m ((c.tc : Thread Cert.GeluRIdeal.nD Cert.GeluRIdeal.τ).loc Cert.GeluRIdeal.main_arg0)) (m ((c.tc : Thread Cert.GeluRIdeal.nD Cert.GeluRIdeal.τ).loc Cert.GeluRIdeal.main_arg1)) (m ((c.tc : Thread Cert.GeluRIdeal.nD Cert.GeluRIdeal.τ).loc Cert.GeluRIdeal.main_arg2)) (m ((c.tc : Thread Cert.GeluRIdeal.nD Cert.GeluRIdeal.τ).loc Cert.GeluRIdeal.main_arg3)) (m ((c.tc : Thread Cert.GeluRIdeal.nD Cert.GeluRIdeal.τ).loc Cert.GeluRIdeal.main_arg4))).2.2.2.2 = (fun _ => 1#1)

def Pre_GeluR (m : (ℓ : Loc Cert.GeluR.nD Cert.GeluR.τ Cert.GeluR.sig) → Buf (Elt Bits) ℓ) : Prop :=
  True

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeRIdeal (m : (ℓ : Loc Cert.RopeRIdeal.nD Cert.RopeRIdeal.τ Cert.RopeRIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKIdeal_conv_finite [hPre_conv_finite : Cert.Pre_conv_finite.Facts] (m : (ℓ : Loc Cert.ConvKIdeal.nD Cert.ConvKIdeal.τ Cert.ConvKIdeal.sig) → Buf (Elt Ideal) ℓ) : Prop :=
  ∀ c : Dev Cert.ConvKIdeal.nD,
    (Cert.Pre_conv_finite.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3))).1 = (fun _ => 1#1)
    ∧ (Cert.Pre_conv_finite.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3))).2.1 = (fun _ => 1#1)
    ∧ (Cert.Pre_conv_finite.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3))).2.2.1 = (fun _ => 1#1)
    ∧ (Cert.Pre_conv_finite.fn (F := Ideal) (m ((c.tc : Thread Cert.ConvKIdeal.nD Cert.ConvKIdeal.τ).loc Cert.ConvKIdeal.main_arg0)) (m ((c.tc : Thread Cert.ConvKIdeal.nD Cert.ConvKIdeal.τ).loc Cert.ConvKIdeal.main_arg1)) (m ((c.tc : Thread Cert.ConvKIdeal.nD Cert.ConvKIdeal.τ).loc Cert.ConvKIdeal.main_arg2)) (m ((c.tc : Thread Cert.ConvKIdeal.nD Cert.ConvKIdeal.τ).loc Cert.ConvKIdeal.main_arg3))).2.2.2 = (fun _ => 1#1)

def Pre_ConvRIdeal (m : (ℓ : Loc Cert.ConvRIdeal.nD Cert.ConvRIdeal.τ Cert.ConvRIdeal.sig) → Buf (Elt Ideal) ℓ) : Prop :=
  True

def Pre_ConvRIdeal_conv_finite [hPre_conv_finite : Cert.Pre_conv_finite.Facts] (m : (ℓ : Loc Cert.ConvRIdeal.nD Cert.ConvRIdeal.τ Cert.ConvRIdeal.sig) → Buf (Elt Ideal) ℓ) : Prop :=
  ∀ c : Dev Cert.ConvRIdeal.nD,
    (Cert.Pre_conv_finite.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3))).1 = (fun _ => 1#1)
    ∧ (Cert.Pre_conv_finite.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3))).2.1 = (fun _ => 1#1)
    ∧ (Cert.Pre_conv_finite.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3))).2.2.1 = (fun _ => 1#1)
    ∧ (Cert.Pre_conv_finite.fn (F := Ideal) (m ((c.tc : Thread Cert.ConvRIdeal.nD Cert.ConvRIdeal.τ).loc Cert.ConvRIdeal.main_arg0)) (m ((c.tc : Thread Cert.ConvRIdeal.nD Cert.ConvRIdeal.τ).loc Cert.ConvRIdeal.main_arg1)) (m ((c.tc : Thread Cert.ConvRIdeal.nD Cert.ConvRIdeal.τ).loc Cert.ConvRIdeal.main_arg2)) (m ((c.tc : Thread Cert.ConvRIdeal.nD Cert.ConvRIdeal.τ).loc Cert.ConvRIdeal.main_arg3))).2.2.2 = (fun _ => 1#1)

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_YfwdK (m : (ℓ : Loc Cert.YfwdK.nD Cert.YfwdK.τ Cert.YfwdK.sig) → Buf (Elt Bits) ℓ) : Prop :=
  True

def Pre_YfwdKIdeal (m : (ℓ : Loc Cert.YfwdKIdeal.nD Cert.YfwdKIdeal.τ Cert.YfwdKIdeal.sig) → Buf (Elt Ideal) ℓ) : Prop :=
  True

def Pre_YfwdRIdeal (m : (ℓ : Loc Cert.YfwdRIdeal.nD Cert.YfwdRIdeal.τ Cert.YfwdRIdeal.sig) → Buf (Elt Ideal) ℓ) : Prop :=
  True

def Pre_GluK (m : (ℓ : Loc Cert.GluK.nD Cert.GluK.τ Cert.GluK.sig) → Buf (Elt Bits) ℓ) : Prop :=
  True

def Pre_GluKIdeal (m : (ℓ : Loc Cert.GluKIdeal.nD Cert.GluKIdeal.τ Cert.GluKIdeal.sig) → Buf (Elt Ideal) ℓ) : Prop :=
  True

def Pre_GluRIdeal (m : (ℓ : Loc Cert.GluRIdeal.nD Cert.GluRIdeal.τ Cert.GluRIdeal.sig) → Buf (Elt Ideal) ℓ) : Prop :=
  True

def Pre_RotK (m : (ℓ : Loc Cert.RotK.nD Cert.RotK.τ Cert.RotK.sig) → Buf (Elt Bits) ℓ) : Prop :=
  True

def Pre_RotKIdeal (m : (ℓ : Loc Cert.RotKIdeal.nD Cert.RotKIdeal.τ Cert.RotKIdeal.sig) → Buf (Elt Ideal) ℓ) : Prop :=
  True

def Pre_RotRIdeal (m : (ℓ : Loc Cert.RotRIdeal.nD Cert.RotRIdeal.τ Cert.RotRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def Pre_TnK (m : (ℓ : Loc Cert.TnK.nD Cert.TnK.τ Cert.TnK.sig) → Buf (Elt Bits) ℓ) : Prop :=
  True

def Pre_TnKIdeal (m : (ℓ : Loc Cert.TnKIdeal.nD Cert.TnKIdeal.τ Cert.TnKIdeal.sig) → Buf (Elt Ideal) ℓ) : Prop :=
  True

def Pre_TnRIdeal (m : (ℓ : Loc Cert.TnRIdeal.nD Cert.TnRIdeal.τ Cert.TnRIdeal.sig) → Buf (Elt Ideal) ℓ) : Prop :=
  True

def Pre_NtK (m : (ℓ : Loc Cert.NtK.nD Cert.NtK.τ Cert.NtK.sig) → Buf (Elt Bits) ℓ) : Prop :=
  True

def Pre_NtKIdeal (m : (ℓ : Loc Cert.NtKIdeal.nD Cert.NtKIdeal.τ Cert.NtKIdeal.sig) → Buf (Elt Ideal) ℓ) : Prop :=
  True

def Pre_NtRIdeal (m : (ℓ : Loc Cert.NtRIdeal.nD Cert.NtRIdeal.τ Cert.NtRIdeal.sig) → Buf (Elt Ideal) ℓ) : Prop :=
  True

def Pre_SumK (m : (ℓ : Loc Cert.SumK.nD Cert.SumK.τ Cert.SumK.sig) → Buf (Elt Bits) ℓ) : Prop :=
  True

def Pre_SumKIdeal (m : (ℓ : Loc Cert.SumKIdeal.nD Cert.SumKIdeal.τ Cert.SumKIdeal.sig) → Buf (Elt Ideal) ℓ) : Prop :=
  True

def Pre_SumRIdeal (m : (ℓ : Loc Cert.SumRIdeal.nD Cert.SumRIdeal.τ Cert.SumRIdeal.sig) → Buf (Elt Ideal) ℓ) : Prop :=
  True

def Pre_FlatK (m : (ℓ : Loc Cert.FlatK.nD Cert.FlatK.τ Cert.FlatK.sig) → Buf (Elt Bits) ℓ) : Prop :=
  True

def Pre_FlatKIdeal (m : (ℓ : Loc Cert.FlatKIdeal.nD Cert.FlatKIdeal.τ Cert.FlatKIdeal.sig) → Buf (Elt Ideal) ℓ) : Prop :=
  True

def Pre_FlatRIdeal (m : (ℓ : Loc Cert.FlatRIdeal.nD Cert.FlatRIdeal.τ Cert.FlatRIdeal.sig) → Buf (Elt Ideal) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_MlaK [hMlaK : Cert.MlaK.Facts] : Prop :=
  ∀ (m : (ℓ : Loc Cert.MlaK.nD Cert.MlaK.τ Cert.MlaK.sig) → Buf (Elt Bits) ℓ) (g : Dev Cert.MlaK.nD → PrngReg), Pre_MlaK m →
    θ_run (Cert.MlaK.defs (F := Bits)) (onTc (τ := Cert.MlaK.τ) (Cert.MlaK.main (F := Bits))) ⟨m, fun _ => 0, g⟩ (fun r => (∀ c : Dev Cert.MlaK.nD,
      r.2.mem ((c.tc : Thread Cert.MlaK.nD Cert.MlaK.τ).loc Cert.MlaK.main_arg0) = m ((c.tc : Thread Cert.MlaK.nD Cert.MlaK.τ).loc Cert.MlaK.main_arg0)
      ∧ r.2.mem ((c.tc : Thread Cert.MlaK.nD Cert.MlaK.τ).loc Cert.MlaK.main_arg1) = m ((c.tc : Thread Cert.MlaK.nD Cert.MlaK.τ).loc Cert.MlaK.main_arg1)
      ∧ r.2.mem ((c.tc : Thread Cert.MlaK.nD Cert.MlaK.τ).loc Cert.MlaK.main_arg2) = m ((c.tc : Thread Cert.MlaK.nD Cert.MlaK.τ).loc Cert.MlaK.main_arg2)
      ∧ r.2.mem ((c.tc : Thread Cert.MlaK.nD Cert.MlaK.τ).loc Cert.MlaK.main_arg3) = m ((c.tc : Thread Cert.MlaK.nD Cert.MlaK.τ).loc Cert.MlaK.main_arg3)
      ∧ r.2.mem ((c.tc : Thread Cert.MlaK.nD Cert.MlaK.τ).loc Cert.MlaK.main_arg4) = m ((c.tc : Thread Cert.MlaK.nD Cert.MlaK.τ).loc Cert.MlaK.main_arg4)
      ∧ r.2.mem ((c.tc : Thread Cert.MlaK.nD Cert.MlaK.τ).loc Cert.MlaK.main_arg5) = m ((c.tc : Thread Cert.MlaK.nD Cert.MlaK.τ).loc Cert.MlaK.main_arg5))
      ∧ r.2.sem = fun _ => 0)

def quiescent_MlaKIdeal [hMlaKIdeal : Cert.MlaKIdeal.Facts] : Prop :=
  ∀ (m : (ℓ : Loc Cert.MlaKIdeal.nD Cert.MlaKIdeal.τ Cert.MlaKIdeal.sig) → Buf (Elt Ideal) ℓ) (g : Dev Cert.MlaKIdeal.nD → PrngReg), Pre_MlaKIdeal m →
    θ_run (Cert.MlaKIdeal.defs (F := Ideal)) (onTc (τ := Cert.MlaKIdeal.τ) (Cert.MlaKIdeal.main (F := Ideal))) ⟨m, fun _ => 0, g⟩ (fun r => (∀ c : Dev Cert.MlaKIdeal.nD,
      r.2.mem ((c.tc : Thread Cert.MlaKIdeal.nD Cert.MlaKIdeal.τ).loc Cert.MlaKIdeal.main_arg0) = m ((c.tc : Thread Cert.MlaKIdeal.nD Cert.MlaKIdeal.τ).loc Cert.MlaKIdeal.main_arg0)
      ∧ r.2.mem ((c.tc : Thread Cert.MlaKIdeal.nD Cert.MlaKIdeal.τ).loc Cert.MlaKIdeal.main_arg1) = m ((c.tc : Thread Cert.MlaKIdeal.nD Cert.MlaKIdeal.τ).loc Cert.MlaKIdeal.main_arg1)
      ∧ r.2.mem ((c.tc : Thread Cert.MlaKIdeal.nD Cert.MlaKIdeal.τ).loc Cert.MlaKIdeal.main_arg2) = m ((c.tc : Thread Cert.MlaKIdeal.nD Cert.MlaKIdeal.τ).loc Cert.MlaKIdeal.main_arg2)
      ∧ r.2.mem ((c.tc : Thread Cert.MlaKIdeal.nD Cert.MlaKIdeal.τ).loc Cert.MlaKIdeal.main_arg3) = m ((c.tc : Thread Cert.MlaKIdeal.nD Cert.MlaKIdeal.τ).loc Cert.MlaKIdeal.main_arg3)
      ∧ r.2.mem ((c.tc : Thread Cert.MlaKIdeal.nD Cert.MlaKIdeal.τ).loc Cert.MlaKIdeal.main_arg4) = m ((c.tc : Thread Cert.MlaKIdeal.nD Cert.MlaKIdeal.τ).loc Cert.MlaKIdeal.main_arg4)
      ∧ r.2.mem ((c.tc : Thread Cert.MlaKIdeal.nD Cert.MlaKIdeal.τ).loc Cert.MlaKIdeal.main_arg5) = m ((c.tc : Thread Cert.MlaKIdeal.nD Cert.MlaKIdeal.τ).loc Cert.MlaKIdeal.main_arg5))
      ∧ r.2.sem = fun _ => 0)

def quiescent_MlaKIdeal_pre_mla_finite [hMlaKIdeal : Cert.MlaKIdeal.Facts] [hPre_mla_finite : Cert.Pre_mla_finite.Facts] : Prop :=
  ∀ (m : (ℓ : Loc Cert.MlaKIdeal.nD Cert.MlaKIdeal.τ Cert.MlaKIdeal.sig) → Buf (Elt Ideal) ℓ) (g : Dev Cert.MlaKIdeal.nD → PrngReg), Pre_MlaKIdeal_mla_finite m →
    θ_run (Cert.MlaKIdeal.defs (F := Ideal)) (onTc (τ := Cert.MlaKIdeal.τ) (Cert.MlaKIdeal.main (F := Ideal))) ⟨m, fun _ => 0, g⟩ (fun r => (∀ c : Dev Cert.MlaKIdeal.nD,
      r.2.mem ((c.tc : Thread Cert.MlaKIdeal.nD Cert.MlaKIdeal.τ).loc Cert.MlaKIdeal.main_arg0) = m ((c.tc : Thread Cert.MlaKIdeal.nD Cert.MlaKIdeal.τ).loc Cert.MlaKIdeal.main_arg0)
      ∧ r.2.mem ((c.tc : Thread Cert.MlaKIdeal.nD Cert.MlaKIdeal.τ).loc Cert.MlaKIdeal.main_arg1) = m ((c.tc : Thread Cert.MlaKIdeal.nD Cert.MlaKIdeal.τ).loc Cert.MlaKIdeal.main_arg1)
      ∧ r.2.mem ((c.tc : Thread Cert.MlaKIdeal.nD Cert.MlaKIdeal.τ).loc Cert.MlaKIdeal.main_arg2) = m ((c.tc : Thread Cert.MlaKIdeal.nD Cert.MlaKIdeal.τ).loc Cert.MlaKIdeal.main_arg2)
      ∧ r.2.mem ((c.tc : Thread Cert.MlaKIdeal.nD Cert.MlaKIdeal.τ).loc Cert.MlaKIdeal.main_arg3) = m ((c.tc : Thread Cert.MlaKIdeal.nD Cert.MlaKIdeal.τ).loc Cert.MlaKIdeal.main_arg3)
      ∧ r.2.mem ((c.tc : Thread Cert.MlaKIdeal.nD Cert.MlaKIdeal.τ).loc Cert.MlaKIdeal.main_arg4) = m ((c.tc : Thread Cert.MlaKIdeal.nD Cert.MlaKIdeal.τ).loc Cert.MlaKIdeal.main_arg4)
      ∧ r.2.mem ((c.tc : Thread Cert.MlaKIdeal.nD Cert.MlaKIdeal.τ).loc Cert.MlaKIdeal.main_arg5) = m ((c.tc : Thread Cert.MlaKIdeal.nD Cert.MlaKIdeal.τ).loc Cert.MlaKIdeal.main_arg5))
      ∧ r.2.sem = fun _ => 0)

def quiescent_MlaRIdeal [hMlaRIdeal : Cert.MlaRIdeal.Facts] : Prop :=
  ∀ (m : (ℓ : Loc Cert.MlaRIdeal.nD Cert.MlaRIdeal.τ Cert.MlaRIdeal.sig) → Buf (Elt Ideal) ℓ) (g : Dev Cert.MlaRIdeal.nD → PrngReg), Pre_MlaRIdeal m →
    θ_run (Cert.MlaRIdeal.defs (F := Ideal)) (onTc (τ := Cert.MlaRIdeal.τ) (Cert.MlaRIdeal.main (F := Ideal))) ⟨m, fun _ => 0, g⟩ (fun r => (∀ c : Dev Cert.MlaRIdeal.nD,
      r.2.mem ((c.tc : Thread Cert.MlaRIdeal.nD Cert.MlaRIdeal.τ).loc Cert.MlaRIdeal.main_arg0) = m ((c.tc : Thread Cert.MlaRIdeal.nD Cert.MlaRIdeal.τ).loc Cert.MlaRIdeal.main_arg0)
      ∧ r.2.mem ((c.tc : Thread Cert.MlaRIdeal.nD Cert.MlaRIdeal.τ).loc Cert.MlaRIdeal.main_arg1) = m ((c.tc : Thread Cert.MlaRIdeal.nD Cert.MlaRIdeal.τ).loc Cert.MlaRIdeal.main_arg1)
      ∧ r.2.mem ((c.tc : Thread Cert.MlaRIdeal.nD Cert.MlaRIdeal.τ).loc Cert.MlaRIdeal.main_arg2) = m ((c.tc : Thread Cert.MlaRIdeal.nD Cert.MlaRIdeal.τ).loc Cert.MlaRIdeal.main_arg2)
      ∧ r.2.mem ((c.tc : Thread Cert.MlaRIdeal.nD Cert.MlaRIdeal.τ).loc Cert.MlaRIdeal.main_arg3) = m ((c.tc : Thread Cert.MlaRIdeal.nD Cert.MlaRIdeal.τ).loc Cert.MlaRIdeal.main_arg3)
      ∧ r.2.mem ((c.tc : Thread Cert.MlaRIdeal.nD Cert.MlaRIdeal.τ).loc Cert.MlaRIdeal.main_arg4) = m ((c.tc : Thread Cert.MlaRIdeal.nD Cert.MlaRIdeal.τ).loc Cert.MlaRIdeal.main_arg4)
      ∧ r.2.mem ((c.tc : Thread Cert.MlaRIdeal.nD Cert.MlaRIdeal.τ).loc Cert.MlaRIdeal.main_arg5) = m ((c.tc : Thread Cert.MlaRIdeal.nD Cert.MlaRIdeal.τ).loc Cert.MlaRIdeal.main_arg5))
      ∧ r.2.sem = fun _ => 0)

def quiescent_MlaRIdeal_pre_mla_finite [hMlaRIdeal : Cert.MlaRIdeal.Facts] [hPre_mla_finite : Cert.Pre_mla_finite.Facts] : Prop :=
  ∀ (m : (ℓ : Loc Cert.MlaRIdeal.nD Cert.MlaRIdeal.τ Cert.MlaRIdeal.sig) → Buf (Elt Ideal) ℓ) (g : Dev Cert.MlaRIdeal.nD → PrngReg), Pre_MlaRIdeal_mla_finite m →
    θ_run (Cert.MlaRIdeal.defs (F := Ideal)) (onTc (τ := Cert.MlaRIdeal.τ) (Cert.MlaRIdeal.main (F := Ideal))) ⟨m, fun _ => 0, g⟩ (fun r => (∀ c : Dev Cert.MlaRIdeal.nD,
      r.2.mem ((c.tc : Thread Cert.MlaRIdeal.nD Cert.MlaRIdeal.τ).loc Cert.MlaRIdeal.main_arg0) = m ((c.tc : Thread Cert.MlaRIdeal.nD Cert.MlaRIdeal.τ).loc Cert.MlaRIdeal.main_arg0)
      ∧ r.2.mem ((c.tc : Thread Cert.MlaRIdeal.nD Cert.MlaRIdeal.τ).loc Cert.MlaRIdeal.main_arg1) = m ((c.tc : Thread Cert.MlaRIdeal.nD Cert.MlaRIdeal.τ).loc Cert.MlaRIdeal.main_arg1)
      ∧ r.2.mem ((c.tc : Thread Cert.MlaRIdeal.nD Cert.MlaRIdeal.τ).loc Cert.MlaRIdeal.main_arg2) = m ((c.tc : Thread Cert.MlaRIdeal.nD Cert.MlaRIdeal.τ).loc Cert.MlaRIdeal.main_arg2)
      ∧ r.2.mem ((c.tc : Thread Cert.MlaRIdeal.nD Cert.MlaRIdeal.τ).loc Cert.MlaRIdeal.main_arg3) = m ((c.tc : Thread Cert.MlaRIdeal.nD Cert.MlaRIdeal.τ).loc Cert.MlaRIdeal.main_arg3)
      ∧ r.2.mem ((c.tc : Thread Cert.MlaRIdeal.nD Cert.MlaRIdeal.τ).loc Cert.MlaRIdeal.main_arg4) = m ((c.tc : Thread Cert.MlaRIdeal.nD Cert.MlaRIdeal.τ).loc Cert.MlaRIdeal.main_arg4)
      ∧ r.2.mem ((c.tc : Thread Cert.MlaRIdeal.nD Cert.MlaRIdeal.τ).loc Cert.MlaRIdeal.main_arg5) = m ((c.tc : Thread Cert.MlaRIdeal.nD Cert.MlaRIdeal.τ).loc Cert.MlaRIdeal.main_arg5))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2)
      ∧ r.2.mem ((c.tc : Thread Cert.NormK.nD Cert.NormK.τ).loc Cert.NormK.main_arg3) = m ((c.tc : Thread Cert.NormK.nD Cert.NormK.τ).loc Cert.NormK.main_arg3))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ r.2.sem = fun _ => 0)

def quiescent_NormKIdeal_pre_norm_finite [hNormKIdeal : Cert.NormKIdeal.Facts] [hPre_norm_finite : Cert.Pre_norm_finite.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal_norm_finite m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_NormRIdeal_pre_norm_finite [hNormRIdeal : Cert.NormRIdeal.Facts] [hPre_norm_finite : Cert.Pre_norm_finite.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal_norm_finite m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_QnormK [hQnormK : Cert.QnormK.Facts] : Prop :=
  ∀ (m : (ℓ : Loc Cert.QnormK.nD Cert.QnormK.τ Cert.QnormK.sig) → Buf (Elt Bits) ℓ) (g : Dev Cert.QnormK.nD → PrngReg), Pre_QnormK m →
    θ_run (Cert.QnormK.defs (F := Bits)) (onTc (τ := Cert.QnormK.τ) (Cert.QnormK.main (F := Bits))) ⟨m, fun _ => 0, g⟩ (fun r => (∀ c : Dev Cert.QnormK.nD,
      r.2.mem ((c.tc : Thread Cert.QnormK.nD Cert.QnormK.τ).loc Cert.QnormK.main_arg0) = m ((c.tc : Thread Cert.QnormK.nD Cert.QnormK.τ).loc Cert.QnormK.main_arg0)
      ∧ r.2.mem ((c.tc : Thread Cert.QnormK.nD Cert.QnormK.τ).loc Cert.QnormK.main_arg1) = m ((c.tc : Thread Cert.QnormK.nD Cert.QnormK.τ).loc Cert.QnormK.main_arg1)
      ∧ r.2.mem ((c.tc : Thread Cert.QnormK.nD Cert.QnormK.τ).loc Cert.QnormK.main_arg2) = m ((c.tc : Thread Cert.QnormK.nD Cert.QnormK.τ).loc Cert.QnormK.main_arg2))
      ∧ r.2.sem = fun _ => 0)

def quiescent_QnormKIdeal [hQnormKIdeal : Cert.QnormKIdeal.Facts] : Prop :=
  ∀ (m : (ℓ : Loc Cert.QnormKIdeal.nD Cert.QnormKIdeal.τ Cert.QnormKIdeal.sig) → Buf (Elt Ideal) ℓ) (g : Dev Cert.QnormKIdeal.nD → PrngReg), Pre_QnormKIdeal m →
    θ_run (Cert.QnormKIdeal.defs (F := Ideal)) (onTc (τ := Cert.QnormKIdeal.τ) (Cert.QnormKIdeal.main (F := Ideal))) ⟨m, fun _ => 0, g⟩ (fun r => (∀ c : Dev Cert.QnormKIdeal.nD,
      r.2.mem ((c.tc : Thread Cert.QnormKIdeal.nD Cert.QnormKIdeal.τ).loc Cert.QnormKIdeal.main_arg0) = m ((c.tc : Thread Cert.QnormKIdeal.nD Cert.QnormKIdeal.τ).loc Cert.QnormKIdeal.main_arg0)
      ∧ r.2.mem ((c.tc : Thread Cert.QnormKIdeal.nD Cert.QnormKIdeal.τ).loc Cert.QnormKIdeal.main_arg1) = m ((c.tc : Thread Cert.QnormKIdeal.nD Cert.QnormKIdeal.τ).loc Cert.QnormKIdeal.main_arg1)
      ∧ r.2.mem ((c.tc : Thread Cert.QnormKIdeal.nD Cert.QnormKIdeal.τ).loc Cert.QnormKIdeal.main_arg2) = m ((c.tc : Thread Cert.QnormKIdeal.nD Cert.QnormKIdeal.τ).loc Cert.QnormKIdeal.main_arg2))
      ∧ r.2.sem = fun _ => 0)

def quiescent_QnormKIdeal_pre_qnorm_finite [hQnormKIdeal : Cert.QnormKIdeal.Facts] [hPre_qnorm_finite : Cert.Pre_qnorm_finite.Facts] : Prop :=
  ∀ (m : (ℓ : Loc Cert.QnormKIdeal.nD Cert.QnormKIdeal.τ Cert.QnormKIdeal.sig) → Buf (Elt Ideal) ℓ) (g : Dev Cert.QnormKIdeal.nD → PrngReg), Pre_QnormKIdeal_qnorm_finite m →
    θ_run (Cert.QnormKIdeal.defs (F := Ideal)) (onTc (τ := Cert.QnormKIdeal.τ) (Cert.QnormKIdeal.main (F := Ideal))) ⟨m, fun _ => 0, g⟩ (fun r => (∀ c : Dev Cert.QnormKIdeal.nD,
      r.2.mem ((c.tc : Thread Cert.QnormKIdeal.nD Cert.QnormKIdeal.τ).loc Cert.QnormKIdeal.main_arg0) = m ((c.tc : Thread Cert.QnormKIdeal.nD Cert.QnormKIdeal.τ).loc Cert.QnormKIdeal.main_arg0)
      ∧ r.2.mem ((c.tc : Thread Cert.QnormKIdeal.nD Cert.QnormKIdeal.τ).loc Cert.QnormKIdeal.main_arg1) = m ((c.tc : Thread Cert.QnormKIdeal.nD Cert.QnormKIdeal.τ).loc Cert.QnormKIdeal.main_arg1)
      ∧ r.2.mem ((c.tc : Thread Cert.QnormKIdeal.nD Cert.QnormKIdeal.τ).loc Cert.QnormKIdeal.main_arg2) = m ((c.tc : Thread Cert.QnormKIdeal.nD Cert.QnormKIdeal.τ).loc Cert.QnormKIdeal.main_arg2))
      ∧ r.2.sem = fun _ => 0)

def quiescent_QnormRIdeal [hQnormRIdeal : Cert.QnormRIdeal.Facts] : Prop :=
  ∀ (m : (ℓ : Loc Cert.QnormRIdeal.nD Cert.QnormRIdeal.τ Cert.QnormRIdeal.sig) → Buf (Elt Ideal) ℓ) (g : Dev Cert.QnormRIdeal.nD → PrngReg), Pre_QnormRIdeal m →
    θ_run (Cert.QnormRIdeal.defs (F := Ideal)) (onTc (τ := Cert.QnormRIdeal.τ) (Cert.QnormRIdeal.main (F := Ideal))) ⟨m, fun _ => 0, g⟩ (fun r => (∀ c : Dev Cert.QnormRIdeal.nD,
      r.2.mem ((c.tc : Thread Cert.QnormRIdeal.nD Cert.QnormRIdeal.τ).loc Cert.QnormRIdeal.main_arg0) = m ((c.tc : Thread Cert.QnormRIdeal.nD Cert.QnormRIdeal.τ).loc Cert.QnormRIdeal.main_arg0)
      ∧ r.2.mem ((c.tc : Thread Cert.QnormRIdeal.nD Cert.QnormRIdeal.τ).loc Cert.QnormRIdeal.main_arg1) = m ((c.tc : Thread Cert.QnormRIdeal.nD Cert.QnormRIdeal.τ).loc Cert.QnormRIdeal.main_arg1)
      ∧ r.2.mem ((c.tc : Thread Cert.QnormRIdeal.nD Cert.QnormRIdeal.τ).loc Cert.QnormRIdeal.main_arg2) = m ((c.tc : Thread Cert.QnormRIdeal.nD Cert.QnormRIdeal.τ).loc Cert.QnormRIdeal.main_arg2))
      ∧ r.2.sem = fun _ => 0)

def quiescent_QnormRIdeal_pre_qnorm_finite [hQnormRIdeal : Cert.QnormRIdeal.Facts] [hPre_qnorm_finite : Cert.Pre_qnorm_finite.Facts] : Prop :=
  ∀ (m : (ℓ : Loc Cert.QnormRIdeal.nD Cert.QnormRIdeal.τ Cert.QnormRIdeal.sig) → Buf (Elt Ideal) ℓ) (g : Dev Cert.QnormRIdeal.nD → PrngReg), Pre_QnormRIdeal_qnorm_finite m →
    θ_run (Cert.QnormRIdeal.defs (F := Ideal)) (onTc (τ := Cert.QnormRIdeal.τ) (Cert.QnormRIdeal.main (F := Ideal))) ⟨m, fun _ => 0, g⟩ (fun r => (∀ c : Dev Cert.QnormRIdeal.nD,
      r.2.mem ((c.tc : Thread Cert.QnormRIdeal.nD Cert.QnormRIdeal.τ).loc Cert.QnormRIdeal.main_arg0) = m ((c.tc : Thread Cert.QnormRIdeal.nD Cert.QnormRIdeal.τ).loc Cert.QnormRIdeal.main_arg0)
      ∧ r.2.mem ((c.tc : Thread Cert.QnormRIdeal.nD Cert.QnormRIdeal.τ).loc Cert.QnormRIdeal.main_arg1) = m ((c.tc : Thread Cert.QnormRIdeal.nD Cert.QnormRIdeal.τ).loc Cert.QnormRIdeal.main_arg1)
      ∧ r.2.mem ((c.tc : Thread Cert.QnormRIdeal.nD Cert.QnormRIdeal.τ).loc Cert.QnormRIdeal.main_arg2) = m ((c.tc : Thread Cert.QnormRIdeal.nD Cert.QnormRIdeal.τ).loc Cert.QnormRIdeal.main_arg2))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1)
      ∧ r.2.mem ((c.tc : Thread Cert.MixK.nD Cert.MixK.τ).loc Cert.MixK.main_arg2) = m ((c.tc : Thread Cert.MixK.nD Cert.MixK.τ).loc Cert.MixK.main_arg2)
      ∧ r.2.mem ((c.tc : Thread Cert.MixK.nD Cert.MixK.τ).loc Cert.MixK.main_arg3) = m ((c.tc : Thread Cert.MixK.nD Cert.MixK.τ).loc Cert.MixK.main_arg3))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3))
      ∧ r.2.sem = fun _ => 0)

def quiescent_MixRIdeal [hMixRIdeal : Cert.MixRIdeal.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3))
      ∧ r.2.sem = fun _ => 0)

def quiescent_FeedK [hFeedK : Cert.FeedK.Facts] : Prop :=
  ∀ (m : (ℓ : Loc Cert.FeedK.nD Cert.FeedK.τ Cert.FeedK.sig) → Buf (Elt Bits) ℓ) (g : Dev Cert.FeedK.nD → PrngReg), Pre_FeedK m →
    θ_run (Cert.FeedK.defs (F := Bits)) (onTc (τ := Cert.FeedK.τ) (Cert.FeedK.main (F := Bits))) ⟨m, fun _ => 0, g⟩ (fun r => (∀ c : Dev Cert.FeedK.nD,
      r.2.mem ((c.tc : Thread Cert.FeedK.nD Cert.FeedK.τ).loc Cert.FeedK.main_arg0) = m ((c.tc : Thread Cert.FeedK.nD Cert.FeedK.τ).loc Cert.FeedK.main_arg0)
      ∧ r.2.mem ((c.tc : Thread Cert.FeedK.nD Cert.FeedK.τ).loc Cert.FeedK.main_arg1) = m ((c.tc : Thread Cert.FeedK.nD Cert.FeedK.τ).loc Cert.FeedK.main_arg1)
      ∧ r.2.mem ((c.tc : Thread Cert.FeedK.nD Cert.FeedK.τ).loc Cert.FeedK.main_arg2) = m ((c.tc : Thread Cert.FeedK.nD Cert.FeedK.τ).loc Cert.FeedK.main_arg2)
      ∧ r.2.mem ((c.tc : Thread Cert.FeedK.nD Cert.FeedK.τ).loc Cert.FeedK.main_arg3) = m ((c.tc : Thread Cert.FeedK.nD Cert.FeedK.τ).loc Cert.FeedK.main_arg3))
      ∧ r.2.sem = fun _ => 0)

def quiescent_FeedKIdeal [hFeedKIdeal : Cert.FeedKIdeal.Facts] : Prop :=
  ∀ (m : (ℓ : Loc Cert.FeedKIdeal.nD Cert.FeedKIdeal.τ Cert.FeedKIdeal.sig) → Buf (Elt Ideal) ℓ) (g : Dev Cert.FeedKIdeal.nD → PrngReg), Pre_FeedKIdeal m →
    θ_run (Cert.FeedKIdeal.defs (F := Ideal)) (onTc (τ := Cert.FeedKIdeal.τ) (Cert.FeedKIdeal.main (F := Ideal))) ⟨m, fun _ => 0, g⟩ (fun r => (∀ c : Dev Cert.FeedKIdeal.nD,
      r.2.mem ((c.tc : Thread Cert.FeedKIdeal.nD Cert.FeedKIdeal.τ).loc Cert.FeedKIdeal.main_arg0) = m ((c.tc : Thread Cert.FeedKIdeal.nD Cert.FeedKIdeal.τ).loc Cert.FeedKIdeal.main_arg0)
      ∧ r.2.mem ((c.tc : Thread Cert.FeedKIdeal.nD Cert.FeedKIdeal.τ).loc Cert.FeedKIdeal.main_arg1) = m ((c.tc : Thread Cert.FeedKIdeal.nD Cert.FeedKIdeal.τ).loc Cert.FeedKIdeal.main_arg1)
      ∧ r.2.mem ((c.tc : Thread Cert.FeedKIdeal.nD Cert.FeedKIdeal.τ).loc Cert.FeedKIdeal.main_arg2) = m ((c.tc : Thread Cert.FeedKIdeal.nD Cert.FeedKIdeal.τ).loc Cert.FeedKIdeal.main_arg2)
      ∧ r.2.mem ((c.tc : Thread Cert.FeedKIdeal.nD Cert.FeedKIdeal.τ).loc Cert.FeedKIdeal.main_arg3) = m ((c.tc : Thread Cert.FeedKIdeal.nD Cert.FeedKIdeal.τ).loc Cert.FeedKIdeal.main_arg3))
      ∧ r.2.sem = fun _ => 0)

def quiescent_FeedRIdeal [hFeedRIdeal : Cert.FeedRIdeal.Facts] : Prop :=
  ∀ (m : (ℓ : Loc Cert.FeedRIdeal.nD Cert.FeedRIdeal.τ Cert.FeedRIdeal.sig) → Buf (Elt Ideal) ℓ) (g : Dev Cert.FeedRIdeal.nD → PrngReg), Pre_FeedRIdeal m →
    θ_run (Cert.FeedRIdeal.defs (F := Ideal)) (onTc (τ := Cert.FeedRIdeal.τ) (Cert.FeedRIdeal.main (F := Ideal))) ⟨m, fun _ => 0, g⟩ (fun r => (∀ c : Dev Cert.FeedRIdeal.nD,
      r.2.mem ((c.tc : Thread Cert.FeedRIdeal.nD Cert.FeedRIdeal.τ).loc Cert.FeedRIdeal.main_arg0) = m ((c.tc : Thread Cert.FeedRIdeal.nD Cert.FeedRIdeal.τ).loc Cert.FeedRIdeal.main_arg0)
      ∧ r.2.mem ((c.tc : Thread Cert.FeedRIdeal.nD Cert.FeedRIdeal.τ).loc Cert.FeedRIdeal.main_arg1) = m ((c.tc : Thread Cert.FeedRIdeal.nD Cert.FeedRIdeal.τ).loc Cert.FeedRIdeal.main_arg1)
      ∧ r.2.mem ((c.tc : Thread Cert.FeedRIdeal.nD Cert.FeedRIdeal.τ).loc Cert.FeedRIdeal.main_arg2) = m ((c.tc : Thread Cert.FeedRIdeal.nD Cert.FeedRIdeal.τ).loc Cert.FeedRIdeal.main_arg2)
      ∧ r.2.mem ((c.tc : Thread Cert.FeedRIdeal.nD Cert.FeedRIdeal.τ).loc Cert.FeedRIdeal.main_arg3) = m ((c.tc : Thread Cert.FeedRIdeal.nD Cert.FeedRIdeal.τ).loc Cert.FeedRIdeal.main_arg3))
      ∧ r.2.sem = fun _ => 0)

def quiescent_FnormK [hFnormK : Cert.FnormK.Facts] : Prop :=
  ∀ (m : (ℓ : Loc Cert.FnormK.nD Cert.FnormK.τ Cert.FnormK.sig) → Buf (Elt Bits) ℓ) (g : Dev Cert.FnormK.nD → PrngReg), Pre_FnormK m →
    θ_run (Cert.FnormK.defs (F := Bits)) (onTc (τ := Cert.FnormK.τ) (Cert.FnormK.main (F := Bits))) ⟨m, fun _ => 0, g⟩ (fun r => (∀ c : Dev Cert.FnormK.nD,
      r.2.mem ((c.tc : Thread Cert.FnormK.nD Cert.FnormK.τ).loc Cert.FnormK.main_arg0) = m ((c.tc : Thread Cert.FnormK.nD Cert.FnormK.τ).loc Cert.FnormK.main_arg0)
      ∧ r.2.mem ((c.tc : Thread Cert.FnormK.nD Cert.FnormK.τ).loc Cert.FnormK.main_arg1) = m ((c.tc : Thread Cert.FnormK.nD Cert.FnormK.τ).loc Cert.FnormK.main_arg1))
      ∧ r.2.sem = fun _ => 0)

def quiescent_FnormKIdeal [hFnormKIdeal : Cert.FnormKIdeal.Facts] : Prop :=
  ∀ (m : (ℓ : Loc Cert.FnormKIdeal.nD Cert.FnormKIdeal.τ Cert.FnormKIdeal.sig) → Buf (Elt Ideal) ℓ) (g : Dev Cert.FnormKIdeal.nD → PrngReg), Pre_FnormKIdeal m →
    θ_run (Cert.FnormKIdeal.defs (F := Ideal)) (onTc (τ := Cert.FnormKIdeal.τ) (Cert.FnormKIdeal.main (F := Ideal))) ⟨m, fun _ => 0, g⟩ (fun r => (∀ c : Dev Cert.FnormKIdeal.nD,
      r.2.mem ((c.tc : Thread Cert.FnormKIdeal.nD Cert.FnormKIdeal.τ).loc Cert.FnormKIdeal.main_arg0) = m ((c.tc : Thread Cert.FnormKIdeal.nD Cert.FnormKIdeal.τ).loc Cert.FnormKIdeal.main_arg0)
      ∧ r.2.mem ((c.tc : Thread Cert.FnormKIdeal.nD Cert.FnormKIdeal.τ).loc Cert.FnormKIdeal.main_arg1) = m ((c.tc : Thread Cert.FnormKIdeal.nD Cert.FnormKIdeal.τ).loc Cert.FnormKIdeal.main_arg1))
      ∧ r.2.sem = fun _ => 0)

def quiescent_FnormRIdeal [hFnormRIdeal : Cert.FnormRIdeal.Facts] : Prop :=
  ∀ (m : (ℓ : Loc Cert.FnormRIdeal.nD Cert.FnormRIdeal.τ Cert.FnormRIdeal.sig) → Buf (Elt Ideal) ℓ) (g : Dev Cert.FnormRIdeal.nD → PrngReg), Pre_FnormRIdeal m →
    θ_run (Cert.FnormRIdeal.defs (F := Ideal)) (onTc (τ := Cert.FnormRIdeal.τ) (Cert.FnormRIdeal.main (F := Ideal))) ⟨m, fun _ => 0, g⟩ (fun r => (∀ c : Dev Cert.FnormRIdeal.nD,
      r.2.mem ((c.tc : Thread Cert.FnormRIdeal.nD Cert.FnormRIdeal.τ).loc Cert.FnormRIdeal.main_arg0) = m ((c.tc : Thread Cert.FnormRIdeal.nD Cert.FnormRIdeal.τ).loc Cert.FnormRIdeal.main_arg0)
      ∧ r.2.mem ((c.tc : Thread Cert.FnormRIdeal.nD Cert.FnormRIdeal.τ).loc Cert.FnormRIdeal.main_arg1) = m ((c.tc : Thread Cert.FnormRIdeal.nD Cert.FnormRIdeal.τ).loc Cert.FnormRIdeal.main_arg1))
      ∧ r.2.sem = fun _ => 0)

def quiescent_GeluK [hGeluK : Cert.GeluK.Facts] : Prop :=
  ∀ (m : (ℓ : Loc Cert.GeluK.nD Cert.GeluK.τ Cert.GeluK.sig) → Buf (Elt Bits) ℓ) (g : Dev Cert.GeluK.nD → PrngReg), Pre_GeluK m →
    θ_run (Cert.GeluK.defs (F := Bits)) (onTc (τ := Cert.GeluK.τ) (Cert.GeluK.main (F := Bits))) ⟨m, fun _ => 0, g⟩ (fun r => (∀ c : Dev Cert.GeluK.nD,
      r.2.mem ((c.tc : Thread Cert.GeluK.nD Cert.GeluK.τ).loc Cert.GeluK.main_arg0) = m ((c.tc : Thread Cert.GeluK.nD Cert.GeluK.τ).loc Cert.GeluK.main_arg0)
      ∧ r.2.mem ((c.tc : Thread Cert.GeluK.nD Cert.GeluK.τ).loc Cert.GeluK.main_arg1) = m ((c.tc : Thread Cert.GeluK.nD Cert.GeluK.τ).loc Cert.GeluK.main_arg1)
      ∧ r.2.mem ((c.tc : Thread Cert.GeluK.nD Cert.GeluK.τ).loc Cert.GeluK.main_arg2) = m ((c.tc : Thread Cert.GeluK.nD Cert.GeluK.τ).loc Cert.GeluK.main_arg2)
      ∧ r.2.mem ((c.tc : Thread Cert.GeluK.nD Cert.GeluK.τ).loc Cert.GeluK.main_arg3) = m ((c.tc : Thread Cert.GeluK.nD Cert.GeluK.τ).loc Cert.GeluK.main_arg3)
      ∧ r.2.mem ((c.tc : Thread Cert.GeluK.nD Cert.GeluK.τ).loc Cert.GeluK.main_arg4) = m ((c.tc : Thread Cert.GeluK.nD Cert.GeluK.τ).loc Cert.GeluK.main_arg4))
      ∧ r.2.sem = fun _ => 0)

def quiescent_GeluKIdeal [hGeluKIdeal : Cert.GeluKIdeal.Facts] : Prop :=
  ∀ (m : (ℓ : Loc Cert.GeluKIdeal.nD Cert.GeluKIdeal.τ Cert.GeluKIdeal.sig) → Buf (Elt Ideal) ℓ) (g : Dev Cert.GeluKIdeal.nD → PrngReg), Pre_GeluKIdeal m →
    θ_run (Cert.GeluKIdeal.defs (F := Ideal)) (onTc (τ := Cert.GeluKIdeal.τ) (Cert.GeluKIdeal.main (F := Ideal))) ⟨m, fun _ => 0, g⟩ (fun r => (∀ c : Dev Cert.GeluKIdeal.nD,
      r.2.mem ((c.tc : Thread Cert.GeluKIdeal.nD Cert.GeluKIdeal.τ).loc Cert.GeluKIdeal.main_arg0) = m ((c.tc : Thread Cert.GeluKIdeal.nD Cert.GeluKIdeal.τ).loc Cert.GeluKIdeal.main_arg0)
      ∧ r.2.mem ((c.tc : Thread Cert.GeluKIdeal.nD Cert.GeluKIdeal.τ).loc Cert.GeluKIdeal.main_arg1) = m ((c.tc : Thread Cert.GeluKIdeal.nD Cert.GeluKIdeal.τ).loc Cert.GeluKIdeal.main_arg1)
      ∧ r.2.mem ((c.tc : Thread Cert.GeluKIdeal.nD Cert.GeluKIdeal.τ).loc Cert.GeluKIdeal.main_arg2) = m ((c.tc : Thread Cert.GeluKIdeal.nD Cert.GeluKIdeal.τ).loc Cert.GeluKIdeal.main_arg2)
      ∧ r.2.mem ((c.tc : Thread Cert.GeluKIdeal.nD Cert.GeluKIdeal.τ).loc Cert.GeluKIdeal.main_arg3) = m ((c.tc : Thread Cert.GeluKIdeal.nD Cert.GeluKIdeal.τ).loc Cert.GeluKIdeal.main_arg3)
      ∧ r.2.mem ((c.tc : Thread Cert.GeluKIdeal.nD Cert.GeluKIdeal.τ).loc Cert.GeluKIdeal.main_arg4) = m ((c.tc : Thread Cert.GeluKIdeal.nD Cert.GeluKIdeal.τ).loc Cert.GeluKIdeal.main_arg4))
      ∧ r.2.sem = fun _ => 0)

def quiescent_GeluKIdeal_pre_gelu_finite [hGeluKIdeal : Cert.GeluKIdeal.Facts] [hPre_gelu_finite : Cert.Pre_gelu_finite.Facts] : Prop :=
  ∀ (m : (ℓ : Loc Cert.GeluKIdeal.nD Cert.GeluKIdeal.τ Cert.GeluKIdeal.sig) → Buf (Elt Ideal) ℓ) (g : Dev Cert.GeluKIdeal.nD → PrngReg), Pre_GeluKIdeal_gelu_finite m →
    θ_run (Cert.GeluKIdeal.defs (F := Ideal)) (onTc (τ := Cert.GeluKIdeal.τ) (Cert.GeluKIdeal.main (F := Ideal))) ⟨m, fun _ => 0, g⟩ (fun r => (∀ c : Dev Cert.GeluKIdeal.nD,
      r.2.mem ((c.tc : Thread Cert.GeluKIdeal.nD Cert.GeluKIdeal.τ).loc Cert.GeluKIdeal.main_arg0) = m ((c.tc : Thread Cert.GeluKIdeal.nD Cert.GeluKIdeal.τ).loc Cert.GeluKIdeal.main_arg0)
      ∧ r.2.mem ((c.tc : Thread Cert.GeluKIdeal.nD Cert.GeluKIdeal.τ).loc Cert.GeluKIdeal.main_arg1) = m ((c.tc : Thread Cert.GeluKIdeal.nD Cert.GeluKIdeal.τ).loc Cert.GeluKIdeal.main_arg1)
      ∧ r.2.mem ((c.tc : Thread Cert.GeluKIdeal.nD Cert.GeluKIdeal.τ).loc Cert.GeluKIdeal.main_arg2) = m ((c.tc : Thread Cert.GeluKIdeal.nD Cert.GeluKIdeal.τ).loc Cert.GeluKIdeal.main_arg2)
      ∧ r.2.mem ((c.tc : Thread Cert.GeluKIdeal.nD Cert.GeluKIdeal.τ).loc Cert.GeluKIdeal.main_arg3) = m ((c.tc : Thread Cert.GeluKIdeal.nD Cert.GeluKIdeal.τ).loc Cert.GeluKIdeal.main_arg3)
      ∧ r.2.mem ((c.tc : Thread Cert.GeluKIdeal.nD Cert.GeluKIdeal.τ).loc Cert.GeluKIdeal.main_arg4) = m ((c.tc : Thread Cert.GeluKIdeal.nD Cert.GeluKIdeal.τ).loc Cert.GeluKIdeal.main_arg4))
      ∧ r.2.sem = fun _ => 0)

def quiescent_GeluRIdeal [hGeluRIdeal : Cert.GeluRIdeal.Facts] : Prop :=
  ∀ (m : (ℓ : Loc Cert.GeluRIdeal.nD Cert.GeluRIdeal.τ Cert.GeluRIdeal.sig) → Buf (Elt Ideal) ℓ) (g : Dev Cert.GeluRIdeal.nD → PrngReg), Pre_GeluRIdeal m →
    θ_run (Cert.GeluRIdeal.defs (F := Ideal)) (onTc (τ := Cert.GeluRIdeal.τ) (Cert.GeluRIdeal.main (F := Ideal))) ⟨m, fun _ => 0, g⟩ (fun r => (∀ c : Dev Cert.GeluRIdeal.nD,
      r.2.mem ((c.tc : Thread Cert.GeluRIdeal.nD Cert.GeluRIdeal.τ).loc Cert.GeluRIdeal.main_arg0) = m ((c.tc : Thread Cert.GeluRIdeal.nD Cert.GeluRIdeal.τ).loc Cert.GeluRIdeal.main_arg0)
      ∧ r.2.mem ((c.tc : Thread Cert.GeluRIdeal.nD Cert.GeluRIdeal.τ).loc Cert.GeluRIdeal.main_arg1) = m ((c.tc : Thread Cert.GeluRIdeal.nD Cert.GeluRIdeal.τ).loc Cert.GeluRIdeal.main_arg1)
      ∧ r.2.mem ((c.tc : Thread Cert.GeluRIdeal.nD Cert.GeluRIdeal.τ).loc Cert.GeluRIdeal.main_arg2) = m ((c.tc : Thread Cert.GeluRIdeal.nD Cert.GeluRIdeal.τ).loc Cert.GeluRIdeal.main_arg2)
      ∧ r.2.mem ((c.tc : Thread Cert.GeluRIdeal.nD Cert.GeluRIdeal.τ).loc Cert.GeluRIdeal.main_arg3) = m ((c.tc : Thread Cert.GeluRIdeal.nD Cert.GeluRIdeal.τ).loc Cert.GeluRIdeal.main_arg3)
      ∧ r.2.mem ((c.tc : Thread Cert.GeluRIdeal.nD Cert.GeluRIdeal.τ).loc Cert.GeluRIdeal.main_arg4) = m ((c.tc : Thread Cert.GeluRIdeal.nD Cert.GeluRIdeal.τ).loc Cert.GeluRIdeal.main_arg4))
      ∧ r.2.sem = fun _ => 0)

def quiescent_GeluRIdeal_pre_gelu_finite [hGeluRIdeal : Cert.GeluRIdeal.Facts] [hPre_gelu_finite : Cert.Pre_gelu_finite.Facts] : Prop :=
  ∀ (m : (ℓ : Loc Cert.GeluRIdeal.nD Cert.GeluRIdeal.τ Cert.GeluRIdeal.sig) → Buf (Elt Ideal) ℓ) (g : Dev Cert.GeluRIdeal.nD → PrngReg), Pre_GeluRIdeal_gelu_finite m →
    θ_run (Cert.GeluRIdeal.defs (F := Ideal)) (onTc (τ := Cert.GeluRIdeal.τ) (Cert.GeluRIdeal.main (F := Ideal))) ⟨m, fun _ => 0, g⟩ (fun r => (∀ c : Dev Cert.GeluRIdeal.nD,
      r.2.mem ((c.tc : Thread Cert.GeluRIdeal.nD Cert.GeluRIdeal.τ).loc Cert.GeluRIdeal.main_arg0) = m ((c.tc : Thread Cert.GeluRIdeal.nD Cert.GeluRIdeal.τ).loc Cert.GeluRIdeal.main_arg0)
      ∧ r.2.mem ((c.tc : Thread Cert.GeluRIdeal.nD Cert.GeluRIdeal.τ).loc Cert.GeluRIdeal.main_arg1) = m ((c.tc : Thread Cert.GeluRIdeal.nD Cert.GeluRIdeal.τ).loc Cert.GeluRIdeal.main_arg1)
      ∧ r.2.mem ((c.tc : Thread Cert.GeluRIdeal.nD Cert.GeluRIdeal.τ).loc Cert.GeluRIdeal.main_arg2) = m ((c.tc : Thread Cert.GeluRIdeal.nD Cert.GeluRIdeal.τ).loc Cert.GeluRIdeal.main_arg2)
      ∧ r.2.mem ((c.tc : Thread Cert.GeluRIdeal.nD Cert.GeluRIdeal.τ).loc Cert.GeluRIdeal.main_arg3) = m ((c.tc : Thread Cert.GeluRIdeal.nD Cert.GeluRIdeal.τ).loc Cert.GeluRIdeal.main_arg3)
      ∧ r.2.mem ((c.tc : Thread Cert.GeluRIdeal.nD Cert.GeluRIdeal.τ).loc Cert.GeluRIdeal.main_arg4) = m ((c.tc : Thread Cert.GeluRIdeal.nD Cert.GeluRIdeal.τ).loc Cert.GeluRIdeal.main_arg4))
      ∧ r.2.sem = fun _ => 0)

def quiescent_GeluR [hGeluR : Cert.GeluR.Facts] : Prop :=
  ∀ (m : (ℓ : Loc Cert.GeluR.nD Cert.GeluR.τ Cert.GeluR.sig) → Buf (Elt Bits) ℓ) (g : Dev Cert.GeluR.nD → PrngReg), Pre_GeluR m →
    θ_run (Cert.GeluR.defs (F := Bits)) (onTc (τ := Cert.GeluR.τ) (Cert.GeluR.main (F := Bits))) ⟨m, fun _ => 0, g⟩ (fun r => (∀ c : Dev Cert.GeluR.nD,
      r.2.mem ((c.tc : Thread Cert.GeluR.nD Cert.GeluR.τ).loc Cert.GeluR.main_arg0) = m ((c.tc : Thread Cert.GeluR.nD Cert.GeluR.τ).loc Cert.GeluR.main_arg0)
      ∧ r.2.mem ((c.tc : Thread Cert.GeluR.nD Cert.GeluR.τ).loc Cert.GeluR.main_arg1) = m ((c.tc : Thread Cert.GeluR.nD Cert.GeluR.τ).loc Cert.GeluR.main_arg1)
      ∧ r.2.mem ((c.tc : Thread Cert.GeluR.nD Cert.GeluR.τ).loc Cert.GeluR.main_arg2) = m ((c.tc : Thread Cert.GeluR.nD Cert.GeluR.τ).loc Cert.GeluR.main_arg2)
      ∧ r.2.mem ((c.tc : Thread Cert.GeluR.nD Cert.GeluR.τ).loc Cert.GeluR.main_arg3) = m ((c.tc : Thread Cert.GeluR.nD Cert.GeluR.τ).loc Cert.GeluR.main_arg3)
      ∧ r.2.mem ((c.tc : Thread Cert.GeluR.nD Cert.GeluR.τ).loc Cert.GeluR.main_arg4) = m ((c.tc : Thread Cert.GeluR.nD Cert.GeluR.τ).loc Cert.GeluR.main_arg4))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0)
      ∧ r.2.mem ((c.tc : Thread Cert.RopeK.nD Cert.RopeK.τ).loc Cert.RopeK.main_arg1) = m ((c.tc : Thread Cert.RopeK.nD Cert.RopeK.τ).loc Cert.RopeK.main_arg1)
      ∧ r.2.mem ((c.tc : Thread Cert.RopeK.nD Cert.RopeK.τ).loc Cert.RopeK.main_arg2) = m ((c.tc : Thread Cert.RopeK.nD Cert.RopeK.τ).loc Cert.RopeK.main_arg2)
      ∧ r.2.mem ((c.tc : Thread Cert.RopeK.nD Cert.RopeK.τ).loc Cert.RopeK.main_arg3) = m ((c.tc : Thread Cert.RopeK.nD Cert.RopeK.τ).loc Cert.RopeK.main_arg3))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
      ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ r.2.sem = fun _ => 0)

def quiescent_RopeRIdeal [hRopeRIdeal : Cert.RopeRIdeal.Facts] : Prop :=
  ∀ (m : (ℓ : Loc Cert.RopeRIdeal.nD Cert.RopeRIdeal.τ Cert.RopeRIdeal.sig) → Buf (Elt Ideal) ℓ) (g : Dev Cert.RopeRIdeal.nD → PrngReg), Pre_RopeRIdeal m →
    θ_run (Cert.RopeRIdeal.defs (F := Ideal)) (onTc (τ := Cert.RopeRIdeal.τ) (Cert.RopeRIdeal.main (F := Ideal))) ⟨m, fun _ => 0, g⟩ (fun r => (∀ c : Dev Cert.RopeRIdeal.nD,
      r.2.mem ((c.tc : Thread Cert.RopeRIdeal.nD Cert.RopeRIdeal.τ).loc Cert.RopeRIdeal.main_arg0) = m ((c.tc : Thread Cert.RopeRIdeal.nD Cert.RopeRIdeal.τ).loc Cert.RopeRIdeal.main_arg0)
      ∧ r.2.mem ((c.tc : Thread Cert.RopeRIdeal.nD Cert.RopeRIdeal.τ).loc Cert.RopeRIdeal.main_arg1) = m ((c.tc : Thread Cert.RopeRIdeal.nD Cert.RopeRIdeal.τ).loc Cert.RopeRIdeal.main_arg1)
      ∧ r.2.mem ((c.tc : Thread Cert.RopeRIdeal.nD Cert.RopeRIdeal.τ).loc Cert.RopeRIdeal.main_arg2) = m ((c.tc : Thread Cert.RopeRIdeal.nD Cert.RopeRIdeal.τ).loc Cert.RopeRIdeal.main_arg2)
      ∧ r.2.mem ((c.tc : Thread Cert.RopeRIdeal.nD Cert.RopeRIdeal.τ).loc Cert.RopeRIdeal.main_arg3) = m ((c.tc : Thread Cert.RopeRIdeal.nD Cert.RopeRIdeal.τ).loc Cert.RopeRIdeal.main_arg3))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvKIdeal_pre_conv_finite [hConvKIdeal : Cert.ConvKIdeal.Facts] [hPre_conv_finite : Cert.Pre_conv_finite.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal_conv_finite m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_ConvRIdeal_pre_conv_finite [hConvRIdeal : Cert.ConvRIdeal.Facts] [hPre_conv_finite : Cert.Pre_conv_finite.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal_conv_finite m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2))
      ∧ r.2.sem = fun _ => 0)

def quiescent_YfwdK [hYfwdK : Cert.YfwdK.Facts] : Prop :=
  ∀ (m : (ℓ : Loc Cert.YfwdK.nD Cert.YfwdK.τ Cert.YfwdK.sig) → Buf (Elt Bits) ℓ) (g : Dev Cert.YfwdK.nD → PrngReg), Pre_YfwdK m →
    θ_run (Cert.YfwdK.defs (F := Bits)) (onTc (τ := Cert.YfwdK.τ) (Cert.YfwdK.main (F := Bits))) ⟨m, fun _ => 0, g⟩ (fun r => (∀ c : Dev Cert.YfwdK.nD,
      r.2.mem ((c.tc : Thread Cert.YfwdK.nD Cert.YfwdK.τ).loc Cert.YfwdK.main_arg0) = m ((c.tc : Thread Cert.YfwdK.nD Cert.YfwdK.τ).loc Cert.YfwdK.main_arg0)
      ∧ r.2.mem ((c.tc : Thread Cert.YfwdK.nD Cert.YfwdK.τ).loc Cert.YfwdK.main_arg1) = m ((c.tc : Thread Cert.YfwdK.nD Cert.YfwdK.τ).loc Cert.YfwdK.main_arg1)
      ∧ r.2.mem ((c.tc : Thread Cert.YfwdK.nD Cert.YfwdK.τ).loc Cert.YfwdK.main_arg2) = m ((c.tc : Thread Cert.YfwdK.nD Cert.YfwdK.τ).loc Cert.YfwdK.main_arg2)
      ∧ r.2.mem ((c.tc : Thread Cert.YfwdK.nD Cert.YfwdK.τ).loc Cert.YfwdK.main_arg3) = m ((c.tc : Thread Cert.YfwdK.nD Cert.YfwdK.τ).loc Cert.YfwdK.main_arg3))
      ∧ r.2.sem = fun _ => 0)

def quiescent_YfwdKIdeal [hYfwdKIdeal : Cert.YfwdKIdeal.Facts] : Prop :=
  ∀ (m : (ℓ : Loc Cert.YfwdKIdeal.nD Cert.YfwdKIdeal.τ Cert.YfwdKIdeal.sig) → Buf (Elt Ideal) ℓ) (g : Dev Cert.YfwdKIdeal.nD → PrngReg), Pre_YfwdKIdeal m →
    θ_run (Cert.YfwdKIdeal.defs (F := Ideal)) (onTc (τ := Cert.YfwdKIdeal.τ) (Cert.YfwdKIdeal.main (F := Ideal))) ⟨m, fun _ => 0, g⟩ (fun r => (∀ c : Dev Cert.YfwdKIdeal.nD,
      r.2.mem ((c.tc : Thread Cert.YfwdKIdeal.nD Cert.YfwdKIdeal.τ).loc Cert.YfwdKIdeal.main_arg0) = m ((c.tc : Thread Cert.YfwdKIdeal.nD Cert.YfwdKIdeal.τ).loc Cert.YfwdKIdeal.main_arg0)
      ∧ r.2.mem ((c.tc : Thread Cert.YfwdKIdeal.nD Cert.YfwdKIdeal.τ).loc Cert.YfwdKIdeal.main_arg1) = m ((c.tc : Thread Cert.YfwdKIdeal.nD Cert.YfwdKIdeal.τ).loc Cert.YfwdKIdeal.main_arg1)
      ∧ r.2.mem ((c.tc : Thread Cert.YfwdKIdeal.nD Cert.YfwdKIdeal.τ).loc Cert.YfwdKIdeal.main_arg2) = m ((c.tc : Thread Cert.YfwdKIdeal.nD Cert.YfwdKIdeal.τ).loc Cert.YfwdKIdeal.main_arg2)
      ∧ r.2.mem ((c.tc : Thread Cert.YfwdKIdeal.nD Cert.YfwdKIdeal.τ).loc Cert.YfwdKIdeal.main_arg3) = m ((c.tc : Thread Cert.YfwdKIdeal.nD Cert.YfwdKIdeal.τ).loc Cert.YfwdKIdeal.main_arg3))
      ∧ r.2.sem = fun _ => 0)

def quiescent_YfwdRIdeal [hYfwdRIdeal : Cert.YfwdRIdeal.Facts] : Prop :=
  ∀ (m : (ℓ : Loc Cert.YfwdRIdeal.nD Cert.YfwdRIdeal.τ Cert.YfwdRIdeal.sig) → Buf (Elt Ideal) ℓ) (g : Dev Cert.YfwdRIdeal.nD → PrngReg), Pre_YfwdRIdeal m →
    θ_run (Cert.YfwdRIdeal.defs (F := Ideal)) (onTc (τ := Cert.YfwdRIdeal.τ) (Cert.YfwdRIdeal.main (F := Ideal))) ⟨m, fun _ => 0, g⟩ (fun r => (∀ c : Dev Cert.YfwdRIdeal.nD,
      r.2.mem ((c.tc : Thread Cert.YfwdRIdeal.nD Cert.YfwdRIdeal.τ).loc Cert.YfwdRIdeal.main_arg0) = m ((c.tc : Thread Cert.YfwdRIdeal.nD Cert.YfwdRIdeal.τ).loc Cert.YfwdRIdeal.main_arg0)
      ∧ r.2.mem ((c.tc : Thread Cert.YfwdRIdeal.nD Cert.YfwdRIdeal.τ).loc Cert.YfwdRIdeal.main_arg1) = m ((c.tc : Thread Cert.YfwdRIdeal.nD Cert.YfwdRIdeal.τ).loc Cert.YfwdRIdeal.main_arg1)
      ∧ r.2.mem ((c.tc : Thread Cert.YfwdRIdeal.nD Cert.YfwdRIdeal.τ).loc Cert.YfwdRIdeal.main_arg2) = m ((c.tc : Thread Cert.YfwdRIdeal.nD Cert.YfwdRIdeal.τ).loc Cert.YfwdRIdeal.main_arg2)
      ∧ r.2.mem ((c.tc : Thread Cert.YfwdRIdeal.nD Cert.YfwdRIdeal.τ).loc Cert.YfwdRIdeal.main_arg3) = m ((c.tc : Thread Cert.YfwdRIdeal.nD Cert.YfwdRIdeal.τ).loc Cert.YfwdRIdeal.main_arg3))
      ∧ r.2.sem = fun _ => 0)

def quiescent_GluK [hGluK : Cert.GluK.Facts] : Prop :=
  ∀ (m : (ℓ : Loc Cert.GluK.nD Cert.GluK.τ Cert.GluK.sig) → Buf (Elt Bits) ℓ) (g : Dev Cert.GluK.nD → PrngReg), Pre_GluK m →
    θ_run (Cert.GluK.defs (F := Bits)) (onTc (τ := Cert.GluK.τ) (Cert.GluK.main (F := Bits))) ⟨m, fun _ => 0, g⟩ (fun r => (∀ c : Dev Cert.GluK.nD,
      r.2.mem ((c.tc : Thread Cert.GluK.nD Cert.GluK.τ).loc Cert.GluK.main_arg0) = m ((c.tc : Thread Cert.GluK.nD Cert.GluK.τ).loc Cert.GluK.main_arg0)
      ∧ r.2.mem ((c.tc : Thread Cert.GluK.nD Cert.GluK.τ).loc Cert.GluK.main_arg1) = m ((c.tc : Thread Cert.GluK.nD Cert.GluK.τ).loc Cert.GluK.main_arg1)
      ∧ r.2.mem ((c.tc : Thread Cert.GluK.nD Cert.GluK.τ).loc Cert.GluK.main_arg2) = m ((c.tc : Thread Cert.GluK.nD Cert.GluK.τ).loc Cert.GluK.main_arg2))
      ∧ r.2.sem = fun _ => 0)

def quiescent_GluKIdeal [hGluKIdeal : Cert.GluKIdeal.Facts] : Prop :=
  ∀ (m : (ℓ : Loc Cert.GluKIdeal.nD Cert.GluKIdeal.τ Cert.GluKIdeal.sig) → Buf (Elt Ideal) ℓ) (g : Dev Cert.GluKIdeal.nD → PrngReg), Pre_GluKIdeal m →
    θ_run (Cert.GluKIdeal.defs (F := Ideal)) (onTc (τ := Cert.GluKIdeal.τ) (Cert.GluKIdeal.main (F := Ideal))) ⟨m, fun _ => 0, g⟩ (fun r => (∀ c : Dev Cert.GluKIdeal.nD,
      r.2.mem ((c.tc : Thread Cert.GluKIdeal.nD Cert.GluKIdeal.τ).loc Cert.GluKIdeal.main_arg0) = m ((c.tc : Thread Cert.GluKIdeal.nD Cert.GluKIdeal.τ).loc Cert.GluKIdeal.main_arg0)
      ∧ r.2.mem ((c.tc : Thread Cert.GluKIdeal.nD Cert.GluKIdeal.τ).loc Cert.GluKIdeal.main_arg1) = m ((c.tc : Thread Cert.GluKIdeal.nD Cert.GluKIdeal.τ).loc Cert.GluKIdeal.main_arg1)
      ∧ r.2.mem ((c.tc : Thread Cert.GluKIdeal.nD Cert.GluKIdeal.τ).loc Cert.GluKIdeal.main_arg2) = m ((c.tc : Thread Cert.GluKIdeal.nD Cert.GluKIdeal.τ).loc Cert.GluKIdeal.main_arg2))
      ∧ r.2.sem = fun _ => 0)

def quiescent_GluRIdeal [hGluRIdeal : Cert.GluRIdeal.Facts] : Prop :=
  ∀ (m : (ℓ : Loc Cert.GluRIdeal.nD Cert.GluRIdeal.τ Cert.GluRIdeal.sig) → Buf (Elt Ideal) ℓ) (g : Dev Cert.GluRIdeal.nD → PrngReg), Pre_GluRIdeal m →
    θ_run (Cert.GluRIdeal.defs (F := Ideal)) (onTc (τ := Cert.GluRIdeal.τ) (Cert.GluRIdeal.main (F := Ideal))) ⟨m, fun _ => 0, g⟩ (fun r => (∀ c : Dev Cert.GluRIdeal.nD,
      r.2.mem ((c.tc : Thread Cert.GluRIdeal.nD Cert.GluRIdeal.τ).loc Cert.GluRIdeal.main_arg0) = m ((c.tc : Thread Cert.GluRIdeal.nD Cert.GluRIdeal.τ).loc Cert.GluRIdeal.main_arg0)
      ∧ r.2.mem ((c.tc : Thread Cert.GluRIdeal.nD Cert.GluRIdeal.τ).loc Cert.GluRIdeal.main_arg1) = m ((c.tc : Thread Cert.GluRIdeal.nD Cert.GluRIdeal.τ).loc Cert.GluRIdeal.main_arg1)
      ∧ r.2.mem ((c.tc : Thread Cert.GluRIdeal.nD Cert.GluRIdeal.τ).loc Cert.GluRIdeal.main_arg2) = m ((c.tc : Thread Cert.GluRIdeal.nD Cert.GluRIdeal.τ).loc Cert.GluRIdeal.main_arg2))
      ∧ r.2.sem = fun _ => 0)

def quiescent_RotK [hRotK : Cert.RotK.Facts] : Prop :=
  ∀ (m : (ℓ : Loc Cert.RotK.nD Cert.RotK.τ Cert.RotK.sig) → Buf (Elt Bits) ℓ) (g : Dev Cert.RotK.nD → PrngReg), Pre_RotK m →
    θ_run (Cert.RotK.defs (F := Bits)) (onTc (τ := Cert.RotK.τ) (Cert.RotK.main (F := Bits))) ⟨m, fun _ => 0, g⟩ (fun r => (∀ c : Dev Cert.RotK.nD,
      r.2.mem ((c.tc : Thread Cert.RotK.nD Cert.RotK.τ).loc Cert.RotK.main_arg0) = m ((c.tc : Thread Cert.RotK.nD Cert.RotK.τ).loc Cert.RotK.main_arg0)
      ∧ r.2.mem ((c.tc : Thread Cert.RotK.nD Cert.RotK.τ).loc Cert.RotK.main_arg1) = m ((c.tc : Thread Cert.RotK.nD Cert.RotK.τ).loc Cert.RotK.main_arg1)
      ∧ r.2.mem ((c.tc : Thread Cert.RotK.nD Cert.RotK.τ).loc Cert.RotK.main_arg2) = m ((c.tc : Thread Cert.RotK.nD Cert.RotK.τ).loc Cert.RotK.main_arg2)
      ∧ r.2.mem ((c.tc : Thread Cert.RotK.nD Cert.RotK.τ).loc Cert.RotK.main_arg3) = m ((c.tc : Thread Cert.RotK.nD Cert.RotK.τ).loc Cert.RotK.main_arg3))
      ∧ r.2.sem = fun _ => 0)

def quiescent_RotKIdeal [hRotKIdeal : Cert.RotKIdeal.Facts] : Prop :=
  ∀ (m : (ℓ : Loc Cert.RotKIdeal.nD Cert.RotKIdeal.τ Cert.RotKIdeal.sig) → Buf (Elt Ideal) ℓ) (g : Dev Cert.RotKIdeal.nD → PrngReg), Pre_RotKIdeal m →
    θ_run (Cert.RotKIdeal.defs (F := Ideal)) (onTc (τ := Cert.RotKIdeal.τ) (Cert.RotKIdeal.main (F := Ideal))) ⟨m, fun _ => 0, g⟩ (fun r => (∀ c : Dev Cert.RotKIdeal.nD,
      r.2.mem ((c.tc : Thread Cert.RotKIdeal.nD Cert.RotKIdeal.τ).loc Cert.RotKIdeal.main_arg0) = m ((c.tc : Thread Cert.RotKIdeal.nD Cert.RotKIdeal.τ).loc Cert.RotKIdeal.main_arg0)
      ∧ r.2.mem ((c.tc : Thread Cert.RotKIdeal.nD Cert.RotKIdeal.τ).loc Cert.RotKIdeal.main_arg1) = m ((c.tc : Thread Cert.RotKIdeal.nD Cert.RotKIdeal.τ).loc Cert.RotKIdeal.main_arg1)
      ∧ r.2.mem ((c.tc : Thread Cert.RotKIdeal.nD Cert.RotKIdeal.τ).loc Cert.RotKIdeal.main_arg2) = m ((c.tc : Thread Cert.RotKIdeal.nD Cert.RotKIdeal.τ).loc Cert.RotKIdeal.main_arg2)
      ∧ r.2.mem ((c.tc : Thread Cert.RotKIdeal.nD Cert.RotKIdeal.τ).loc Cert.RotKIdeal.main_arg3) = m ((c.tc : Thread Cert.RotKIdeal.nD Cert.RotKIdeal.τ).loc Cert.RotKIdeal.main_arg3))
      ∧ r.2.sem = fun _ => 0)

def quiescent_RotRIdeal [hRotRIdeal : Cert.RotRIdeal.Facts] : Prop :=
  ∀ (m : (ℓ : Loc Cert.RotRIdeal.nD Cert.RotRIdeal.τ Cert.RotRIdeal.sig) → Buf (Elt Ideal) ℓ) (g : Dev Cert.RotRIdeal.nD → PrngReg), Pre_RotRIdeal m →
    θ_run (Cert.RotRIdeal.defs (F := Ideal)) (onTc (τ := Cert.RotRIdeal.τ) (Cert.RotRIdeal.main (F := Ideal))) ⟨m, fun _ => 0, g⟩ (fun r => (∀ c : Dev Cert.RotRIdeal.nD,
      r.2.mem ((c.tc : Thread Cert.RotRIdeal.nD Cert.RotRIdeal.τ).loc Cert.RotRIdeal.main_arg0) = m ((c.tc : Thread Cert.RotRIdeal.nD Cert.RotRIdeal.τ).loc Cert.RotRIdeal.main_arg0)
      ∧ r.2.mem ((c.tc : Thread Cert.RotRIdeal.nD Cert.RotRIdeal.τ).loc Cert.RotRIdeal.main_arg1) = m ((c.tc : Thread Cert.RotRIdeal.nD Cert.RotRIdeal.τ).loc Cert.RotRIdeal.main_arg1)
      ∧ r.2.mem ((c.tc : Thread Cert.RotRIdeal.nD Cert.RotRIdeal.τ).loc Cert.RotRIdeal.main_arg2) = m ((c.tc : Thread Cert.RotRIdeal.nD Cert.RotRIdeal.τ).loc Cert.RotRIdeal.main_arg2)
      ∧ r.2.mem ((c.tc : Thread Cert.RotRIdeal.nD Cert.RotRIdeal.τ).loc Cert.RotRIdeal.main_arg3) = m ((c.tc : Thread Cert.RotRIdeal.nD Cert.RotRIdeal.τ).loc Cert.RotRIdeal.main_arg3))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1))
      ∧ r.2.sem = fun _ => 0)

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2))
      ∧ r.2.sem = fun _ => 0)

def quiescent_TnK [hTnK : Cert.TnK.Facts] : Prop :=
  ∀ (m : (ℓ : Loc Cert.TnK.nD Cert.TnK.τ Cert.TnK.sig) → Buf (Elt Bits) ℓ) (g : Dev Cert.TnK.nD → PrngReg), Pre_TnK m →
    θ_run (Cert.TnK.defs (F := Bits)) (onTc (τ := Cert.TnK.τ) (Cert.TnK.main (F := Bits))) ⟨m, fun _ => 0, g⟩ (fun r => (∀ c : Dev Cert.TnK.nD,
      r.2.mem ((c.tc : Thread Cert.TnK.nD Cert.TnK.τ).loc Cert.TnK.main_arg0) = m ((c.tc : Thread Cert.TnK.nD Cert.TnK.τ).loc Cert.TnK.main_arg0)
      ∧ r.2.mem ((c.tc : Thread Cert.TnK.nD Cert.TnK.τ).loc Cert.TnK.main_arg1) = m ((c.tc : Thread Cert.TnK.nD Cert.TnK.τ).loc Cert.TnK.main_arg1))
      ∧ r.2.sem = fun _ => 0)

def quiescent_TnKIdeal [hTnKIdeal : Cert.TnKIdeal.Facts] : Prop :=
  ∀ (m : (ℓ : Loc Cert.TnKIdeal.nD Cert.TnKIdeal.τ Cert.TnKIdeal.sig) → Buf (Elt Ideal) ℓ) (g : Dev Cert.TnKIdeal.nD → PrngReg), Pre_TnKIdeal m →
    θ_run (Cert.TnKIdeal.defs (F := Ideal)) (onTc (τ := Cert.TnKIdeal.τ) (Cert.TnKIdeal.main (F := Ideal))) ⟨m, fun _ => 0, g⟩ (fun r => (∀ c : Dev Cert.TnKIdeal.nD,
      r.2.mem ((c.tc : Thread Cert.TnKIdeal.nD Cert.TnKIdeal.τ).loc Cert.TnKIdeal.main_arg0) = m ((c.tc : Thread Cert.TnKIdeal.nD Cert.TnKIdeal.τ).loc Cert.TnKIdeal.main_arg0)
      ∧ r.2.mem ((c.tc : Thread Cert.TnKIdeal.nD Cert.TnKIdeal.τ).loc Cert.TnKIdeal.main_arg1) = m ((c.tc : Thread Cert.TnKIdeal.nD Cert.TnKIdeal.τ).loc Cert.TnKIdeal.main_arg1))
      ∧ r.2.sem = fun _ => 0)

def quiescent_TnRIdeal [hTnRIdeal : Cert.TnRIdeal.Facts] : Prop :=
  ∀ (m : (ℓ : Loc Cert.TnRIdeal.nD Cert.TnRIdeal.τ Cert.TnRIdeal.sig) → Buf (Elt Ideal) ℓ) (g : Dev Cert.TnRIdeal.nD → PrngReg), Pre_TnRIdeal m →
    θ_run (Cert.TnRIdeal.defs (F := Ideal)) (onTc (τ := Cert.TnRIdeal.τ) (Cert.TnRIdeal.main (F := Ideal))) ⟨m, fun _ => 0, g⟩ (fun r => (∀ c : Dev Cert.TnRIdeal.nD,
      r.2.mem ((c.tc : Thread Cert.TnRIdeal.nD Cert.TnRIdeal.τ).loc Cert.TnRIdeal.main_arg0) = m ((c.tc : Thread Cert.TnRIdeal.nD Cert.TnRIdeal.τ).loc Cert.TnRIdeal.main_arg0)
      ∧ r.2.mem ((c.tc : Thread Cert.TnRIdeal.nD Cert.TnRIdeal.τ).loc Cert.TnRIdeal.main_arg1) = m ((c.tc : Thread Cert.TnRIdeal.nD Cert.TnRIdeal.τ).loc Cert.TnRIdeal.main_arg1))
      ∧ r.2.sem = fun _ => 0)

def quiescent_NtK [hNtK : Cert.NtK.Facts] : Prop :=
  ∀ (m : (ℓ : Loc Cert.NtK.nD Cert.NtK.τ Cert.NtK.sig) → Buf (Elt Bits) ℓ) (g : Dev Cert.NtK.nD → PrngReg), Pre_NtK m →
    θ_run (Cert.NtK.defs (F := Bits)) (onTc (τ := Cert.NtK.τ) (Cert.NtK.main (F := Bits))) ⟨m, fun _ => 0, g⟩ (fun r => (∀ c : Dev Cert.NtK.nD,
      r.2.mem ((c.tc : Thread Cert.NtK.nD Cert.NtK.τ).loc Cert.NtK.main_arg0) = m ((c.tc : Thread Cert.NtK.nD Cert.NtK.τ).loc Cert.NtK.main_arg0)
      ∧ r.2.mem ((c.tc : Thread Cert.NtK.nD Cert.NtK.τ).loc Cert.NtK.main_arg1) = m ((c.tc : Thread Cert.NtK.nD Cert.NtK.τ).loc Cert.NtK.main_arg1))
      ∧ r.2.sem = fun _ => 0)

def quiescent_NtKIdeal [hNtKIdeal : Cert.NtKIdeal.Facts] : Prop :=
  ∀ (m : (ℓ : Loc Cert.NtKIdeal.nD Cert.NtKIdeal.τ Cert.NtKIdeal.sig) → Buf (Elt Ideal) ℓ) (g : Dev Cert.NtKIdeal.nD → PrngReg), Pre_NtKIdeal m →
    θ_run (Cert.NtKIdeal.defs (F := Ideal)) (onTc (τ := Cert.NtKIdeal.τ) (Cert.NtKIdeal.main (F := Ideal))) ⟨m, fun _ => 0, g⟩ (fun r => (∀ c : Dev Cert.NtKIdeal.nD,
      r.2.mem ((c.tc : Thread Cert.NtKIdeal.nD Cert.NtKIdeal.τ).loc Cert.NtKIdeal.main_arg0) = m ((c.tc : Thread Cert.NtKIdeal.nD Cert.NtKIdeal.τ).loc Cert.NtKIdeal.main_arg0)
      ∧ r.2.mem ((c.tc : Thread Cert.NtKIdeal.nD Cert.NtKIdeal.τ).loc Cert.NtKIdeal.main_arg1) = m ((c.tc : Thread Cert.NtKIdeal.nD Cert.NtKIdeal.τ).loc Cert.NtKIdeal.main_arg1))
      ∧ r.2.sem = fun _ => 0)

def quiescent_NtRIdeal [hNtRIdeal : Cert.NtRIdeal.Facts] : Prop :=
  ∀ (m : (ℓ : Loc Cert.NtRIdeal.nD Cert.NtRIdeal.τ Cert.NtRIdeal.sig) → Buf (Elt Ideal) ℓ) (g : Dev Cert.NtRIdeal.nD → PrngReg), Pre_NtRIdeal m →
    θ_run (Cert.NtRIdeal.defs (F := Ideal)) (onTc (τ := Cert.NtRIdeal.τ) (Cert.NtRIdeal.main (F := Ideal))) ⟨m, fun _ => 0, g⟩ (fun r => (∀ c : Dev Cert.NtRIdeal.nD,
      r.2.mem ((c.tc : Thread Cert.NtRIdeal.nD Cert.NtRIdeal.τ).loc Cert.NtRIdeal.main_arg0) = m ((c.tc : Thread Cert.NtRIdeal.nD Cert.NtRIdeal.τ).loc Cert.NtRIdeal.main_arg0)
      ∧ r.2.mem ((c.tc : Thread Cert.NtRIdeal.nD Cert.NtRIdeal.τ).loc Cert.NtRIdeal.main_arg1) = m ((c.tc : Thread Cert.NtRIdeal.nD Cert.NtRIdeal.τ).loc Cert.NtRIdeal.main_arg1))
      ∧ r.2.sem = fun _ => 0)

def quiescent_SumK [hSumK : Cert.SumK.Facts] : Prop :=
  ∀ (m : (ℓ : Loc Cert.SumK.nD Cert.SumK.τ Cert.SumK.sig) → Buf (Elt Bits) ℓ) (g : Dev Cert.SumK.nD → PrngReg), Pre_SumK m →
    θ_run (Cert.SumK.defs (F := Bits)) (onTc (τ := Cert.SumK.τ) (Cert.SumK.main (F := Bits))) ⟨m, fun _ => 0, g⟩ (fun r => (∀ c : Dev Cert.SumK.nD,
      r.2.mem ((c.tc : Thread Cert.SumK.nD Cert.SumK.τ).loc Cert.SumK.main_arg0) = m ((c.tc : Thread Cert.SumK.nD Cert.SumK.τ).loc Cert.SumK.main_arg0))
      ∧ r.2.sem = fun _ => 0)

def quiescent_SumKIdeal [hSumKIdeal : Cert.SumKIdeal.Facts] : Prop :=
  ∀ (m : (ℓ : Loc Cert.SumKIdeal.nD Cert.SumKIdeal.τ Cert.SumKIdeal.sig) → Buf (Elt Ideal) ℓ) (g : Dev Cert.SumKIdeal.nD → PrngReg), Pre_SumKIdeal m →
    θ_run (Cert.SumKIdeal.defs (F := Ideal)) (onTc (τ := Cert.SumKIdeal.τ) (Cert.SumKIdeal.main (F := Ideal))) ⟨m, fun _ => 0, g⟩ (fun r => (∀ c : Dev Cert.SumKIdeal.nD,
      r.2.mem ((c.tc : Thread Cert.SumKIdeal.nD Cert.SumKIdeal.τ).loc Cert.SumKIdeal.main_arg0) = m ((c.tc : Thread Cert.SumKIdeal.nD Cert.SumKIdeal.τ).loc Cert.SumKIdeal.main_arg0))
      ∧ r.2.sem = fun _ => 0)

def quiescent_SumRIdeal [hSumRIdeal : Cert.SumRIdeal.Facts] : Prop :=
  ∀ (m : (ℓ : Loc Cert.SumRIdeal.nD Cert.SumRIdeal.τ Cert.SumRIdeal.sig) → Buf (Elt Ideal) ℓ) (g : Dev Cert.SumRIdeal.nD → PrngReg), Pre_SumRIdeal m →
    θ_run (Cert.SumRIdeal.defs (F := Ideal)) (onTc (τ := Cert.SumRIdeal.τ) (Cert.SumRIdeal.main (F := Ideal))) ⟨m, fun _ => 0, g⟩ (fun r => (∀ c : Dev Cert.SumRIdeal.nD,
      r.2.mem ((c.tc : Thread Cert.SumRIdeal.nD Cert.SumRIdeal.τ).loc Cert.SumRIdeal.main_arg0) = m ((c.tc : Thread Cert.SumRIdeal.nD Cert.SumRIdeal.τ).loc Cert.SumRIdeal.main_arg0))
      ∧ r.2.sem = fun _ => 0)

def quiescent_FlatK [hFlatK : Cert.FlatK.Facts] : Prop :=
  ∀ (m : (ℓ : Loc Cert.FlatK.nD Cert.FlatK.τ Cert.FlatK.sig) → Buf (Elt Bits) ℓ) (g : Dev Cert.FlatK.nD → PrngReg), Pre_FlatK m →
    θ_run (Cert.FlatK.defs (F := Bits)) (onTc (τ := Cert.FlatK.τ) (Cert.FlatK.main (F := Bits))) ⟨m, fun _ => 0, g⟩ (fun r => (∀ c : Dev Cert.FlatK.nD,
      r.2.mem ((c.tc : Thread Cert.FlatK.nD Cert.FlatK.τ).loc Cert.FlatK.main_arg0) = m ((c.tc : Thread Cert.FlatK.nD Cert.FlatK.τ).loc Cert.FlatK.main_arg0)
      ∧ r.2.mem ((c.tc : Thread Cert.FlatK.nD Cert.FlatK.τ).loc Cert.FlatK.main_arg1) = m ((c.tc : Thread Cert.FlatK.nD Cert.FlatK.τ).loc Cert.FlatK.main_arg1)
      ∧ r.2.mem ((c.tc : Thread Cert.FlatK.nD Cert.FlatK.τ).loc Cert.FlatK.main_arg2) = m ((c.tc : Thread Cert.FlatK.nD Cert.FlatK.τ).loc Cert.FlatK.main_arg2)
      ∧ r.2.mem ((c.tc : Thread Cert.FlatK.nD Cert.FlatK.τ).loc Cert.FlatK.main_arg3) = m ((c.tc : Thread Cert.FlatK.nD Cert.FlatK.τ).loc Cert.FlatK.main_arg3))
      ∧ r.2.sem = fun _ => 0)

def quiescent_FlatKIdeal [hFlatKIdeal : Cert.FlatKIdeal.Facts] : Prop :=
  ∀ (m : (ℓ : Loc Cert.FlatKIdeal.nD Cert.FlatKIdeal.τ Cert.FlatKIdeal.sig) → Buf (Elt Ideal) ℓ) (g : Dev Cert.FlatKIdeal.nD → PrngReg), Pre_FlatKIdeal m →
    θ_run (Cert.FlatKIdeal.defs (F := Ideal)) (onTc (τ := Cert.FlatKIdeal.τ) (Cert.FlatKIdeal.main (F := Ideal))) ⟨m, fun _ => 0, g⟩ (fun r => (∀ c : Dev Cert.FlatKIdeal.nD,
      r.2.mem ((c.tc : Thread Cert.FlatKIdeal.nD Cert.FlatKIdeal.τ).loc Cert.FlatKIdeal.main_arg0) = m ((c.tc : Thread Cert.FlatKIdeal.nD Cert.FlatKIdeal.τ).loc Cert.FlatKIdeal.main_arg0)
      ∧ r.2.mem ((c.tc : Thread Cert.FlatKIdeal.nD Cert.FlatKIdeal.τ).loc Cert.FlatKIdeal.main_arg1) = m ((c.tc : Thread Cert.FlatKIdeal.nD Cert.FlatKIdeal.τ).loc Cert.FlatKIdeal.main_arg1)
      ∧ r.2.mem ((c.tc : Thread Cert.FlatKIdeal.nD Cert.FlatKIdeal.τ).loc Cert.FlatKIdeal.main_arg2) = m ((c.tc : Thread Cert.FlatKIdeal.nD Cert.FlatKIdeal.τ).loc Cert.FlatKIdeal.main_arg2)
      ∧ r.2.mem ((c.tc : Thread Cert.FlatKIdeal.nD Cert.FlatKIdeal.τ).loc Cert.FlatKIdeal.main_arg3) = m ((c.tc : Thread Cert.FlatKIdeal.nD Cert.FlatKIdeal.τ).loc Cert.FlatKIdeal.main_arg3))
      ∧ r.2.sem = fun _ => 0)

def quiescent_FlatRIdeal [hFlatRIdeal : Cert.FlatRIdeal.Facts] : Prop :=
  ∀ (m : (ℓ : Loc Cert.FlatRIdeal.nD Cert.FlatRIdeal.τ Cert.FlatRIdeal.sig) → Buf (Elt Ideal) ℓ) (g : Dev Cert.FlatRIdeal.nD → PrngReg), Pre_FlatRIdeal m →
    θ_run (Cert.FlatRIdeal.defs (F := Ideal)) (onTc (τ := Cert.FlatRIdeal.τ) (Cert.FlatRIdeal.main (F := Ideal))) ⟨m, fun _ => 0, g⟩ (fun r => (∀ c : Dev Cert.FlatRIdeal.nD,
      r.2.mem ((c.tc : Thread Cert.FlatRIdeal.nD Cert.FlatRIdeal.τ).loc Cert.FlatRIdeal.main_arg0) = m ((c.tc : Thread Cert.FlatRIdeal.nD Cert.FlatRIdeal.τ).loc Cert.FlatRIdeal.main_arg0)
      ∧ r.2.mem ((c.tc : Thread Cert.FlatRIdeal.nD Cert.FlatRIdeal.τ).loc Cert.FlatRIdeal.main_arg1) = m ((c.tc : Thread Cert.FlatRIdeal.nD Cert.FlatRIdeal.τ).loc Cert.FlatRIdeal.main_arg1)
      ∧ r.2.mem ((c.tc : Thread Cert.FlatRIdeal.nD Cert.FlatRIdeal.τ).loc Cert.FlatRIdeal.main_arg2) = m ((c.tc : Thread Cert.FlatRIdeal.nD Cert.FlatRIdeal.τ).loc Cert.FlatRIdeal.main_arg2)
      ∧ r.2.mem ((c.tc : Thread Cert.FlatRIdeal.nD Cert.FlatRIdeal.τ).loc Cert.FlatRIdeal.main_arg3) = m ((c.tc : Thread Cert.FlatRIdeal.nD Cert.FlatRIdeal.τ).loc Cert.FlatRIdeal.main_arg3))
      ∧ r.2.sem = fun _ => 0)

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v0_0)) (v1 : (c : Dev Cert.LossKIdeal.nD) → Buf (Elt Ideal) ((c.tc : Thread Cert.LossKIdeal.nD Cert.LossKIdeal.τ).loc Cert.LossKIdeal.main_v0_1)) (v2 : (c : Dev Cert.LossKIdeal.nD) → Buf (Elt Ideal) ((c.tc : Thread Cert.LossKIdeal.nD Cert.LossKIdeal.τ).loc Cert.LossKIdeal.main_v0_2)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v0_0) = v0 c
          ∧ r.2.mem ((c.tc : Thread Cert.LossKIdeal.nD Cert.LossKIdeal.τ).loc Cert.LossKIdeal.main_v0_1) = v1 c
          ∧ r.2.mem ((c.tc : Thread Cert.LossKIdeal.nD Cert.LossKIdeal.τ).loc Cert.LossKIdeal.main_v0_2) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v49) = v0 c
          ∧ r.2.mem ((c.tc : Thread Cert.LossRIdeal.nD Cert.LossRIdeal.τ).loc Cert.LossRIdeal.main_v48) = v1 c
          ∧ r.2.mem ((c.tc : Thread Cert.LossRIdeal.nD Cert.LossRIdeal.τ).loc Cert.LossRIdeal.main_v32) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_MlaK_MlaKIdeal : Prop :=
  IdealRules.named_const.Statement Cert.MlaKIdeal.κ "log2e" .f32 0x3FB8AA3B#32 (((Real.log 2)⁻¹ : ℝ) : EReal)
  ∧ IdealRules.named_const.Statement Cert.MlaKIdeal.κ "ln2" .f32 0x3F317218#32 ((Real.log 2 : ℝ) : EReal)

def algebraic_MlaKIdeal_MlaRIdeal_pre_mla_finite [hMlaKIdeal : Cert.MlaKIdeal.Facts] [hMlaRIdeal : Cert.MlaRIdeal.Facts] [hPre_mla_finite : Cert.Pre_mla_finite.Facts] : Prop :=
  ∀ (m : (ℓ : Loc Cert.MlaKIdeal.nD Cert.MlaKIdeal.τ Cert.MlaKIdeal.sig) → Buf (Elt Ideal) ℓ) (g : Dev Cert.MlaKIdeal.nD → PrngReg)
    (m' : (ℓ : Loc Cert.MlaRIdeal.nD Cert.MlaRIdeal.τ Cert.MlaRIdeal.sig) → Buf (Elt Ideal) ℓ) (g' : Dev Cert.MlaRIdeal.nD → PrngReg), Pre_MlaKIdeal_mla_finite m →
    (∀ c : Dev Cert.MlaKIdeal.nD,
      m' ((c.tc : Thread Cert.MlaRIdeal.nD Cert.MlaRIdeal.τ).loc Cert.MlaRIdeal.main_arg0) = m ((c.tc : Thread Cert.MlaKIdeal.nD Cert.MlaKIdeal.τ).loc Cert.MlaKIdeal.main_arg0)
      ∧ m' ((c.tc : Thread Cert.MlaRIdeal.nD Cert.MlaRIdeal.τ).loc Cert.MlaRIdeal.main_arg1) = m ((c.tc : Thread Cert.MlaKIdeal.nD Cert.MlaKIdeal.τ).loc Cert.MlaKIdeal.main_arg1)
      ∧ m' ((c.tc : Thread Cert.MlaRIdeal.nD Cert.MlaRIdeal.τ).loc Cert.MlaRIdeal.main_arg2) = m ((c.tc : Thread Cert.MlaKIdeal.nD Cert.MlaKIdeal.τ).loc Cert.MlaKIdeal.main_arg2)
      ∧ m' ((c.tc : Thread Cert.MlaRIdeal.nD Cert.MlaRIdeal.τ).loc Cert.MlaRIdeal.main_arg3) = m ((c.tc : Thread Cert.MlaKIdeal.nD Cert.MlaKIdeal.τ).loc Cert.MlaKIdeal.main_arg3)
      ∧ m' ((c.tc : Thread Cert.MlaRIdeal.nD Cert.MlaRIdeal.τ).loc Cert.MlaRIdeal.main_arg4) = m ((c.tc : Thread Cert.MlaKIdeal.nD Cert.MlaKIdeal.τ).loc Cert.MlaKIdeal.main_arg4)
      ∧ m' ((c.tc : Thread Cert.MlaRIdeal.nD Cert.MlaRIdeal.τ).loc Cert.MlaRIdeal.main_arg5) = m ((c.tc : Thread Cert.MlaKIdeal.nD Cert.MlaKIdeal.τ).loc Cert.MlaKIdeal.main_arg5)) →
    ∃ (v0 : (c : Dev Cert.MlaKIdeal.nD) → Buf (Elt Ideal) ((c.tc : Thread Cert.MlaKIdeal.nD Cert.MlaKIdeal.τ).loc Cert.MlaKIdeal.main_v17)) (v1 : (c : Dev Cert.MlaKIdeal.nD) → Buf (Elt Ideal) ((c.tc : Thread Cert.MlaKIdeal.nD Cert.MlaKIdeal.τ).loc Cert.MlaKIdeal.main_v28)) (v2 : (c : Dev Cert.MlaKIdeal.nD) → Buf (Elt Ideal) ((c.tc : Thread Cert.MlaKIdeal.nD Cert.MlaKIdeal.τ).loc Cert.MlaKIdeal.main_v29)) (v3 : (c : Dev Cert.MlaKIdeal.nD) → Buf (Elt Ideal) ((c.tc : Thread Cert.MlaKIdeal.nD Cert.MlaKIdeal.τ).loc Cert.MlaKIdeal.main_v30)) (v4 : (c : Dev Cert.MlaKIdeal.nD) → Buf (Elt Ideal) ((c.tc : Thread Cert.MlaKIdeal.nD Cert.MlaKIdeal.τ).loc Cert.MlaKIdeal.main_v27)) (v5 : (c : Dev Cert.MlaKIdeal.nD) → Buf (Elt Ideal) ((c.tc : Thread Cert.MlaKIdeal.nD Cert.MlaKIdeal.τ).loc Cert.MlaKIdeal.main_v31)),
      θ_run (Cert.MlaKIdeal.defs (F := Ideal)) (onTc (τ := Cert.MlaKIdeal.τ) (Cert.MlaKIdeal.main (F := Ideal))) ⟨m, fun _ => 0, g⟩ (fun r => ∀ c : Dev Cert.MlaKIdeal.nD,
          r.2.mem ((c.tc : Thread Cert.MlaKIdeal.nD Cert.MlaKIdeal.τ).loc Cert.MlaKIdeal.main_v17) = v0 c
          ∧ r.2.mem ((c.tc : Thread Cert.MlaKIdeal.nD Cert.MlaKIdeal.τ).loc Cert.MlaKIdeal.main_v28) = v1 c
          ∧ r.2.mem ((c.tc : Thread Cert.MlaKIdeal.nD Cert.MlaKIdeal.τ).loc Cert.MlaKIdeal.main_v29) = v2 c
          ∧ r.2.mem ((c.tc : Thread Cert.MlaKIdeal.nD Cert.MlaKIdeal.τ).loc Cert.MlaKIdeal.main_v30) = v3 c
          ∧ r.2.mem ((c.tc : Thread Cert.MlaKIdeal.nD Cert.MlaKIdeal.τ).loc Cert.MlaKIdeal.main_v27) = v4 c
          ∧ r.2.mem ((c.tc : Thread Cert.MlaKIdeal.nD Cert.MlaKIdeal.τ).loc Cert.MlaKIdeal.main_v31) = v5 c
          ∧ r.2.mem ((c.tc : Thread Cert.MlaKIdeal.nD Cert.MlaKIdeal.τ).loc Cert.MlaKIdeal.main_arg0) = m ((c.tc : Thread Cert.MlaKIdeal.nD Cert.MlaKIdeal.τ).loc Cert.MlaKIdeal.main_arg0)
          ∧ r.2.mem ((c.tc : Thread Cert.MlaKIdeal.nD Cert.MlaKIdeal.τ).loc Cert.MlaKIdeal.main_arg1) = m ((c.tc : Thread Cert.MlaKIdeal.nD Cert.MlaKIdeal.τ).loc Cert.MlaKIdeal.main_arg1)
          ∧ r.2.mem ((c.tc : Thread Cert.MlaKIdeal.nD Cert.MlaKIdeal.τ).loc Cert.MlaKIdeal.main_arg2) = m ((c.tc : Thread Cert.MlaKIdeal.nD Cert.MlaKIdeal.τ).loc Cert.MlaKIdeal.main_arg2)
          ∧ r.2.mem ((c.tc : Thread Cert.MlaKIdeal.nD Cert.MlaKIdeal.τ).loc Cert.MlaKIdeal.main_arg3) = m ((c.tc : Thread Cert.MlaKIdeal.nD Cert.MlaKIdeal.τ).loc Cert.MlaKIdeal.main_arg3)
          ∧ r.2.mem ((c.tc : Thread Cert.MlaKIdeal.nD Cert.MlaKIdeal.τ).loc Cert.MlaKIdeal.main_arg4) = m ((c.tc : Thread Cert.MlaKIdeal.nD Cert.MlaKIdeal.τ).loc Cert.MlaKIdeal.main_arg4)
          ∧ r.2.mem ((c.tc : Thread Cert.MlaKIdeal.nD Cert.MlaKIdeal.τ).loc Cert.MlaKIdeal.main_arg5) = m ((c.tc : Thread Cert.MlaKIdeal.nD Cert.MlaKIdeal.τ).loc Cert.MlaKIdeal.main_arg5))
      ∧ θ_run (Cert.MlaRIdeal.defs (F := Ideal)) (onTc (τ := Cert.MlaRIdeal.τ) (Cert.MlaRIdeal.main (F := Ideal))) ⟨m', fun _ => 0, g'⟩ (fun r => ∀ c : Dev Cert.MlaRIdeal.nD,
          r.2.mem ((c.tc : Thread Cert.MlaRIdeal.nD Cert.MlaRIdeal.τ).loc Cert.MlaRIdeal.main_v67) = v0 c
          ∧ r.2.mem ((c.tc : Thread Cert.MlaRIdeal.nD Cert.MlaRIdeal.τ).loc Cert.MlaRIdeal.main_v66) = v1 c
          ∧ r.2.mem ((c.tc : Thread Cert.MlaRIdeal.nD Cert.MlaRIdeal.τ).loc Cert.MlaRIdeal.main_v61) = v2 c
          ∧ r.2.mem ((c.tc : Thread Cert.MlaRIdeal.nD Cert.MlaRIdeal.τ).loc Cert.MlaRIdeal.main_v64) = v3 c
          ∧ r.2.mem ((c.tc : Thread Cert.MlaRIdeal.nD Cert.MlaRIdeal.τ).loc Cert.MlaRIdeal.main_v62) = v4 c
          ∧ r.2.mem ((c.tc : Thread Cert.MlaRIdeal.nD Cert.MlaRIdeal.τ).loc Cert.MlaRIdeal.main_v68) = v5 c
          ∧ r.2.mem ((c.tc : Thread Cert.MlaRIdeal.nD Cert.MlaRIdeal.τ).loc Cert.MlaRIdeal.main_arg0) = m' ((c.tc : Thread Cert.MlaRIdeal.nD Cert.MlaRIdeal.τ).loc Cert.MlaRIdeal.main_arg0)
          ∧ r.2.mem ((c.tc : Thread Cert.MlaRIdeal.nD Cert.MlaRIdeal.τ).loc Cert.MlaRIdeal.main_arg1) = m' ((c.tc : Thread Cert.MlaRIdeal.nD Cert.MlaRIdeal.τ).loc Cert.MlaRIdeal.main_arg1)
          ∧ r.2.mem ((c.tc : Thread Cert.MlaRIdeal.nD Cert.MlaRIdeal.τ).loc Cert.MlaRIdeal.main_arg2) = m' ((c.tc : Thread Cert.MlaRIdeal.nD Cert.MlaRIdeal.τ).loc Cert.MlaRIdeal.main_arg2)
          ∧ r.2.mem ((c.tc : Thread Cert.MlaRIdeal.nD Cert.MlaRIdeal.τ).loc Cert.MlaRIdeal.main_arg3) = m' ((c.tc : Thread Cert.MlaRIdeal.nD Cert.MlaRIdeal.τ).loc Cert.MlaRIdeal.main_arg3)
          ∧ r.2.mem ((c.tc : Thread Cert.MlaRIdeal.nD Cert.MlaRIdeal.τ).loc Cert.MlaRIdeal.main_arg4) = m' ((c.tc : Thread Cert.MlaRIdeal.nD Cert.MlaRIdeal.τ).loc Cert.MlaRIdeal.main_arg4)
          ∧ r.2.mem ((c.tc : Thread Cert.MlaRIdeal.nD Cert.MlaRIdeal.τ).loc Cert.MlaRIdeal.main_arg5) = m' ((c.tc : Thread Cert.MlaRIdeal.nD Cert.MlaRIdeal.τ).loc Cert.MlaRIdeal.main_arg5))

def preserves_NormK_NormKIdeal : Prop :=
  True

def algebraic_NormKIdeal_NormRIdeal_pre_norm_finite [hNormKIdeal : Cert.NormKIdeal.Facts] [hNormRIdeal : Cert.NormRIdeal.Facts] [hPre_norm_finite : Cert.Pre_norm_finite.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal_norm_finite m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)
      ∧ m' ((c.tc : Thread Cert.NormRIdeal.nD Cert.NormRIdeal.τ).loc Cert.NormRIdeal.main_arg3) = m ((c.tc : Thread Cert.NormKIdeal.nD Cert.NormKIdeal.τ).loc Cert.NormKIdeal.main_arg3)) →
    ∃ (v0 : (c : Dev Cert.NormKIdeal.nD) → Buf (Elt Ideal) ((c.tc : Thread Cert.NormKIdeal.nD Cert.NormKIdeal.τ).loc Cert.NormKIdeal.main_v8_0)) (v1 : (c : Dev Cert.NormKIdeal.nD) → Buf (Elt Ideal) ((c.tc : Thread Cert.NormKIdeal.nD Cert.NormKIdeal.τ).loc Cert.NormKIdeal.main_v8_1)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v8_0) = v0 c
          ∧ r.2.mem ((c.tc : Thread Cert.NormKIdeal.nD Cert.NormKIdeal.τ).loc Cert.NormKIdeal.main_v8_1) = v1 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
          ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v34) = v0 c
          ∧ r.2.mem ((c.tc : Thread Cert.NormRIdeal.nD Cert.NormRIdeal.τ).loc Cert.NormRIdeal.main_v17) = v1 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m' ((c.tc : Thread Cert.NormRIdeal.nD Cert.NormRIdeal.τ).loc Cert.NormRIdeal.main_arg3))

def preserves_QnormK_QnormKIdeal : Prop :=
  True

def algebraic_QnormKIdeal_QnormRIdeal_pre_qnorm_finite [hQnormKIdeal : Cert.QnormKIdeal.Facts] [hQnormRIdeal : Cert.QnormRIdeal.Facts] [hPre_qnorm_finite : Cert.Pre_qnorm_finite.Facts] : Prop :=
  ∀ (m : (ℓ : Loc Cert.QnormKIdeal.nD Cert.QnormKIdeal.τ Cert.QnormKIdeal.sig) → Buf (Elt Ideal) ℓ) (g : Dev Cert.QnormKIdeal.nD → PrngReg)
    (m' : (ℓ : Loc Cert.QnormRIdeal.nD Cert.QnormRIdeal.τ Cert.QnormRIdeal.sig) → Buf (Elt Ideal) ℓ) (g' : Dev Cert.QnormRIdeal.nD → PrngReg), Pre_QnormKIdeal_qnorm_finite m →
    (∀ c : Dev Cert.QnormKIdeal.nD,
      m' ((c.tc : Thread Cert.QnormRIdeal.nD Cert.QnormRIdeal.τ).loc Cert.QnormRIdeal.main_arg0) = m ((c.tc : Thread Cert.QnormKIdeal.nD Cert.QnormKIdeal.τ).loc Cert.QnormKIdeal.main_arg0)
      ∧ m' ((c.tc : Thread Cert.QnormRIdeal.nD Cert.QnormRIdeal.τ).loc Cert.QnormRIdeal.main_arg1) = m ((c.tc : Thread Cert.QnormKIdeal.nD Cert.QnormKIdeal.τ).loc Cert.QnormKIdeal.main_arg1)
      ∧ m' ((c.tc : Thread Cert.QnormRIdeal.nD Cert.QnormRIdeal.τ).loc Cert.QnormRIdeal.main_arg2) = m ((c.tc : Thread Cert.QnormKIdeal.nD Cert.QnormKIdeal.τ).loc Cert.QnormKIdeal.main_arg2)) →
    ∃ (v0 : (c : Dev Cert.QnormKIdeal.nD) → Buf (Elt Ideal) ((c.tc : Thread Cert.QnormKIdeal.nD Cert.QnormKIdeal.τ).loc Cert.QnormKIdeal.main_v8_0)) (v1 : (c : Dev Cert.QnormKIdeal.nD) → Buf (Elt Ideal) ((c.tc : Thread Cert.QnormKIdeal.nD Cert.QnormKIdeal.τ).loc Cert.QnormKIdeal.main_v8_1)),
      θ_run (Cert.QnormKIdeal.defs (F := Ideal)) (onTc (τ := Cert.QnormKIdeal.τ) (Cert.QnormKIdeal.main (F := Ideal))) ⟨m, fun _ => 0, g⟩ (fun r => ∀ c : Dev Cert.QnormKIdeal.nD,
          r.2.mem ((c.tc : Thread Cert.QnormKIdeal.nD Cert.QnormKIdeal.τ).loc Cert.QnormKIdeal.main_v8_0) = v0 c
          ∧ r.2.mem ((c.tc : Thread Cert.QnormKIdeal.nD Cert.QnormKIdeal.τ).loc Cert.QnormKIdeal.main_v8_1) = v1 c
          ∧ r.2.mem ((c.tc : Thread Cert.QnormKIdeal.nD Cert.QnormKIdeal.τ).loc Cert.QnormKIdeal.main_arg0) = m ((c.tc : Thread Cert.QnormKIdeal.nD Cert.QnormKIdeal.τ).loc Cert.QnormKIdeal.main_arg0)
          ∧ r.2.mem ((c.tc : Thread Cert.QnormKIdeal.nD Cert.QnormKIdeal.τ).loc Cert.QnormKIdeal.main_arg1) = m ((c.tc : Thread Cert.QnormKIdeal.nD Cert.QnormKIdeal.τ).loc Cert.QnormKIdeal.main_arg1)
          ∧ r.2.mem ((c.tc : Thread Cert.QnormKIdeal.nD Cert.QnormKIdeal.τ).loc Cert.QnormKIdeal.main_arg2) = m ((c.tc : Thread Cert.QnormKIdeal.nD Cert.QnormKIdeal.τ).loc Cert.QnormKIdeal.main_arg2))
      ∧ θ_run (Cert.QnormRIdeal.defs (F := Ideal)) (onTc (τ := Cert.QnormRIdeal.τ) (Cert.QnormRIdeal.main (F := Ideal))) ⟨m', fun _ => 0, g'⟩ (fun r => ∀ c : Dev Cert.QnormRIdeal.nD,
          r.2.mem ((c.tc : Thread Cert.QnormRIdeal.nD Cert.QnormRIdeal.τ).loc Cert.QnormRIdeal.main_v33) = v0 c
          ∧ r.2.mem ((c.tc : Thread Cert.QnormRIdeal.nD Cert.QnormRIdeal.τ).loc Cert.QnormRIdeal.main_v17) = v1 c
          ∧ r.2.mem ((c.tc : Thread Cert.QnormRIdeal.nD Cert.QnormRIdeal.τ).loc Cert.QnormRIdeal.main_arg0) = m' ((c.tc : Thread Cert.QnormRIdeal.nD Cert.QnormRIdeal.τ).loc Cert.QnormRIdeal.main_arg0)
          ∧ r.2.mem ((c.tc : Thread Cert.QnormRIdeal.nD Cert.QnormRIdeal.τ).loc Cert.QnormRIdeal.main_arg1) = m' ((c.tc : Thread Cert.QnormRIdeal.nD Cert.QnormRIdeal.τ).loc Cert.QnormRIdeal.main_arg1)
          ∧ r.2.mem ((c.tc : Thread Cert.QnormRIdeal.nD Cert.QnormRIdeal.τ).loc Cert.QnormRIdeal.main_arg2) = m' ((c.tc : Thread Cert.QnormRIdeal.nD Cert.QnormRIdeal.τ).loc Cert.QnormRIdeal.main_arg2))

def preserves_MixK_MixKIdeal : Prop :=
  True

def algebraic_MixKIdeal_MixRIdeal [hMixKIdeal : Cert.MixKIdeal.Facts] [hMixRIdeal : Cert.MixRIdeal.Facts] : Prop :=
  ∀ (m : (ℓ : Loc Cert.MixKIdeal.nD Cert.MixKIdeal.τ Cert.MixKIdeal.sig) → Buf (Elt Ideal) ℓ) (g : Dev Cert.MixKIdeal.nD → PrngReg)
    (m' : (ℓ : Loc Cert.MixRIdeal.nD Cert.MixRIdeal.τ Cert.MixRIdeal.sig) → Buf (Elt Ideal) ℓ) (g' : Dev Cert.MixRIdeal.nD → PrngReg), Pre_MixKIdeal m →
    (∀ c : Dev Cert.MixKIdeal.nD,
      m' ((c.tc : Thread Cert.MixRIdeal.nD Cert.MixRIdeal.τ).loc Cert.MixRIdeal.main_arg0) = m ((c.tc : Thread Cert.MixKIdeal.nD Cert.MixKIdeal.τ).loc Cert.MixKIdeal.main_arg0)
      ∧ m' ((c.tc : Thread Cert.MixRIdeal.nD Cert.MixRIdeal.τ).loc Cert.MixRIdeal.main_arg1) = m ((c.tc : Thread Cert.MixKIdeal.nD Cert.MixKIdeal.τ).loc Cert.MixKIdeal.main_arg1)
      ∧ m' ((c.tc : Thread Cert.MixRIdeal.nD Cert.MixRIdeal.τ).loc Cert.MixRIdeal.main_arg2) = m ((c.tc : Thread Cert.MixKIdeal.nD Cert.MixKIdeal.τ).loc Cert.MixKIdeal.main_arg2)
      ∧ m' ((c.tc : Thread Cert.MixRIdeal.nD Cert.MixRIdeal.τ).loc Cert.MixRIdeal.main_arg3) = m ((c.tc : Thread Cert.MixKIdeal.nD Cert.MixKIdeal.τ).loc Cert.MixKIdeal.main_arg3)) →
    ∃ (v0 : (c : Dev Cert.MixKIdeal.nD) → Buf (Elt Ideal) ((c.tc : Thread Cert.MixKIdeal.nD Cert.MixKIdeal.τ).loc Cert.MixKIdeal.main_v0_0)) (v1 : (c : Dev Cert.MixKIdeal.nD) → Buf (Elt Ideal) ((c.tc : Thread Cert.MixKIdeal.nD Cert.MixKIdeal.τ).loc Cert.MixKIdeal.main_v0_1)) (v2 : (c : Dev Cert.MixKIdeal.nD) → Buf (Elt Ideal) ((c.tc : Thread Cert.MixKIdeal.nD Cert.MixKIdeal.τ).loc Cert.MixKIdeal.main_v0_2)),
      θ_run (Cert.MixKIdeal.defs (F := Ideal)) (onTc (τ := Cert.MixKIdeal.τ) (Cert.MixKIdeal.main (F := Ideal))) ⟨m, fun _ => 0, g⟩ (fun r => ∀ c : Dev Cert.MixKIdeal.nD,
          r.2.mem ((c.tc : Thread Cert.MixKIdeal.nD Cert.MixKIdeal.τ).loc Cert.MixKIdeal.main_v0_0) = v0 c
          ∧ r.2.mem ((c.tc : Thread Cert.MixKIdeal.nD Cert.MixKIdeal.τ).loc Cert.MixKIdeal.main_v0_1) = v1 c
          ∧ r.2.mem ((c.tc : Thread Cert.MixKIdeal.nD Cert.MixKIdeal.τ).loc Cert.MixKIdeal.main_v0_2) = v2 c
          ∧ r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
          ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
          ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
          ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3))
      ∧ θ_run (Cert.MixRIdeal.defs (F := Ideal)) (onTc (τ := Cert.MixRIdeal.τ) (Cert.MixRIdeal.main (F := Ideal))) ⟨m', fun _ => 0, g'⟩ (fun r => ∀ c : Dev Cert.MixRIdeal.nD,
          r.2.mem ((c.tc : Thread Cert.MixRIdeal.nD Cert.MixRIdeal.τ).loc Cert.MixRIdeal.main_v30) = v0 c
          ∧ r.2.mem ((c.tc : Thread Cert.MixRIdeal.nD Cert.MixRIdeal.τ).loc Cert.MixRIdeal.main_v26) = v1 c
          ∧ r.2.mem ((c.tc : Thread Cert.MixRIdeal.nD Cert.MixRIdeal.τ).loc Cert.MixRIdeal.main_v29) = v2 c
          ∧ r.2.mem ((c.tc : Thread Cert.MixRIdeal.nD Cert.MixRIdeal.τ).loc Cert.MixRIdeal.main_arg0) = m' ((c.tc : Thread Cert.MixRIdeal.nD Cert.MixRIdeal.τ).loc Cert.MixRIdeal.main_arg0)
          ∧ r.2.mem ((c.tc : Thread Cert.MixRIdeal.nD Cert.MixRIdeal.τ).loc Cert.MixRIdeal.main_arg1) = m' ((c.tc : Thread Cert.MixRIdeal.nD Cert.MixRIdeal.τ).loc Cert.MixRIdeal.main_arg1)
          ∧ r.2.mem ((c.tc : Thread Cert.MixRIdeal.nD Cert.MixRIdeal.τ).loc Cert.MixRIdeal.main_arg2) = m' ((c.tc : Thread Cert.MixRIdeal.nD Cert.MixRIdeal.τ).loc Cert.MixRIdeal.main_arg2)
          ∧ r.2.mem ((c.tc : Thread Cert.MixRIdeal.nD Cert.MixRIdeal.τ).loc Cert.MixRIdeal.main_arg3) = m' ((c.tc : Thread Cert.MixRIdeal.nD Cert.MixRIdeal.τ).loc Cert.MixRIdeal.main_arg3))

def preserves_FeedK_FeedKIdeal : Prop :=
  True

def algebraic_FeedKIdeal_FeedRIdeal [hFeedKIdeal : Cert.FeedKIdeal.Facts] [hFeedRIdeal : Cert.FeedRIdeal.Facts] : Prop :=
  ∀ (m : (ℓ : Loc Cert.FeedKIdeal.nD Cert.FeedKIdeal.τ Cert.FeedKIdeal.sig) → Buf (Elt Ideal) ℓ) (g : Dev Cert.FeedKIdeal.nD → PrngReg)
    (m' : (ℓ : Loc Cert.FeedRIdeal.nD Cert.FeedRIdeal.τ Cert.FeedRIdeal.sig) → Buf (Elt Ideal) ℓ) (g' : Dev Cert.FeedRIdeal.nD → PrngReg), Pre_FeedKIdeal m →
    (∀ c : Dev Cert.FeedKIdeal.nD,
      m' ((c.tc : Thread Cert.FeedRIdeal.nD Cert.FeedRIdeal.τ).loc Cert.FeedRIdeal.main_arg0) = m ((c.tc : Thread Cert.FeedKIdeal.nD Cert.FeedKIdeal.τ).loc Cert.FeedKIdeal.main_arg0)
      ∧ m' ((c.tc : Thread Cert.FeedRIdeal.nD Cert.FeedRIdeal.τ).loc Cert.FeedRIdeal.main_arg1) = m ((c.tc : Thread Cert.FeedKIdeal.nD Cert.FeedKIdeal.τ).loc Cert.FeedKIdeal.main_arg1)
      ∧ m' ((c.tc : Thread Cert.FeedRIdeal.nD Cert.FeedRIdeal.τ).loc Cert.FeedRIdeal.main_arg2) = m ((c.tc : Thread Cert.FeedKIdeal.nD Cert.FeedKIdeal.τ).loc Cert.FeedKIdeal.main_arg2)
      ∧ m' ((c.tc : Thread Cert.FeedRIdeal.nD Cert.FeedRIdeal.τ).loc Cert.FeedRIdeal.main_arg3) = m ((c.tc : Thread Cert.FeedKIdeal.nD Cert.FeedKIdeal.τ).loc Cert.FeedKIdeal.main_arg3)) →
    ∃ (v0 : (c : Dev Cert.FeedKIdeal.nD) → Buf (Elt Ideal) ((c.tc : Thread Cert.FeedKIdeal.nD Cert.FeedKIdeal.τ).loc Cert.FeedKIdeal.main_v0)),
      θ_run (Cert.FeedKIdeal.defs (F := Ideal)) (onTc (τ := Cert.FeedKIdeal.τ) (Cert.FeedKIdeal.main (F := Ideal))) ⟨m, fun _ => 0, g⟩ (fun r => ∀ c : Dev Cert.FeedKIdeal.nD,
          r.2.mem ((c.tc : Thread Cert.FeedKIdeal.nD Cert.FeedKIdeal.τ).loc Cert.FeedKIdeal.main_v0) = v0 c
          ∧ r.2.mem ((c.tc : Thread Cert.FeedKIdeal.nD Cert.FeedKIdeal.τ).loc Cert.FeedKIdeal.main_arg0) = m ((c.tc : Thread Cert.FeedKIdeal.nD Cert.FeedKIdeal.τ).loc Cert.FeedKIdeal.main_arg0)
          ∧ r.2.mem ((c.tc : Thread Cert.FeedKIdeal.nD Cert.FeedKIdeal.τ).loc Cert.FeedKIdeal.main_arg1) = m ((c.tc : Thread Cert.FeedKIdeal.nD Cert.FeedKIdeal.τ).loc Cert.FeedKIdeal.main_arg1)
          ∧ r.2.mem ((c.tc : Thread Cert.FeedKIdeal.nD Cert.FeedKIdeal.τ).loc Cert.FeedKIdeal.main_arg2) = m ((c.tc : Thread Cert.FeedKIdeal.nD Cert.FeedKIdeal.τ).loc Cert.FeedKIdeal.main_arg2)
          ∧ r.2.mem ((c.tc : Thread Cert.FeedKIdeal.nD Cert.FeedKIdeal.τ).loc Cert.FeedKIdeal.main_arg3) = m ((c.tc : Thread Cert.FeedKIdeal.nD Cert.FeedKIdeal.τ).loc Cert.FeedKIdeal.main_arg3))
      ∧ θ_run (Cert.FeedRIdeal.defs (F := Ideal)) (onTc (τ := Cert.FeedRIdeal.τ) (Cert.FeedRIdeal.main (F := Ideal))) ⟨m', fun _ => 0, g'⟩ (fun r => ∀ c : Dev Cert.FeedRIdeal.nD,
          r.2.mem ((c.tc : Thread Cert.FeedRIdeal.nD Cert.FeedRIdeal.τ).loc Cert.FeedRIdeal.main_v6) = v0 c
          ∧ r.2.mem ((c.tc : Thread Cert.FeedRIdeal.nD Cert.FeedRIdeal.τ).loc Cert.FeedRIdeal.main_arg0) = m' ((c.tc : Thread Cert.FeedRIdeal.nD Cert.FeedRIdeal.τ).loc Cert.FeedRIdeal.main_arg0)
          ∧ r.2.mem ((c.tc : Thread Cert.FeedRIdeal.nD Cert.FeedRIdeal.τ).loc Cert.FeedRIdeal.main_arg1) = m' ((c.tc : Thread Cert.FeedRIdeal.nD Cert.FeedRIdeal.τ).loc Cert.FeedRIdeal.main_arg1)
          ∧ r.2.mem ((c.tc : Thread Cert.FeedRIdeal.nD Cert.FeedRIdeal.τ).loc Cert.FeedRIdeal.main_arg2) = m' ((c.tc : Thread Cert.FeedRIdeal.nD Cert.FeedRIdeal.τ).loc Cert.FeedRIdeal.main_arg2)
          ∧ r.2.mem ((c.tc : Thread Cert.FeedRIdeal.nD Cert.FeedRIdeal.τ).loc Cert.FeedRIdeal.main_arg3) = m' ((c.tc : Thread Cert.FeedRIdeal.nD Cert.FeedRIdeal.τ).loc Cert.FeedRIdeal.main_arg3))

def preserves_FnormK_FnormKIdeal : Prop :=
  True

def algebraic_FnormKIdeal_FnormRIdeal [hFnormKIdeal : Cert.FnormKIdeal.Facts] [hFnormRIdeal : Cert.FnormRIdeal.Facts] : Prop :=
  ∀ (m : (ℓ : Loc Cert.FnormKIdeal.nD Cert.FnormKIdeal.τ Cert.FnormKIdeal.sig) → Buf (Elt Ideal) ℓ) (g : Dev Cert.FnormKIdeal.nD → PrngReg)
    (m' : (ℓ : Loc Cert.FnormRIdeal.nD Cert.FnormRIdeal.τ Cert.FnormRIdeal.sig) → Buf (Elt Ideal) ℓ) (g' : Dev Cert.FnormRIdeal.nD → PrngReg), Pre_FnormKIdeal m →
    (∀ c : Dev Cert.FnormKIdeal.nD,
      m' ((c.tc : Thread Cert.FnormRIdeal.nD Cert.FnormRIdeal.τ).loc Cert.FnormRIdeal.main_arg0) = m ((c.tc : Thread Cert.FnormKIdeal.nD Cert.FnormKIdeal.τ).loc Cert.FnormKIdeal.main_arg0)
      ∧ m' ((c.tc : Thread Cert.FnormRIdeal.nD Cert.FnormRIdeal.τ).loc Cert.FnormRIdeal.main_arg1) = m ((c.tc : Thread Cert.FnormKIdeal.nD Cert.FnormKIdeal.τ).loc Cert.FnormKIdeal.main_arg1)) →
    ∃ (v0 : (c : Dev Cert.FnormKIdeal.nD) → Buf (Elt Ideal) ((c.tc : Thread Cert.FnormKIdeal.nD Cert.FnormKIdeal.τ).loc Cert.FnormKIdeal.main_v0_0)) (v1 : (c : Dev Cert.FnormKIdeal.nD) → Buf (Elt Ideal) ((c.tc : Thread Cert.FnormKIdeal.nD Cert.FnormKIdeal.τ).loc Cert.FnormKIdeal.main_v0_1)),
      θ_run (Cert.FnormKIdeal.defs (F := Ideal)) (onTc (τ := Cert.FnormKIdeal.τ) (Cert.FnormKIdeal.main (F := Ideal))) ⟨m, fun _ => 0, g⟩ (fun r => ∀ c : Dev Cert.FnormKIdeal.nD,
          r.2.mem ((c.tc : Thread Cert.FnormKIdeal.nD Cert.FnormKIdeal.τ).loc Cert.FnormKIdeal.main_v0_0) = v0 c
          ∧ r.2.mem ((c.tc : Thread Cert.FnormKIdeal.nD Cert.FnormKIdeal.τ).loc Cert.FnormKIdeal.main_v0_1) = v1 c
          ∧ r.2.mem ((c.tc : Thread Cert.FnormKIdeal.nD Cert.FnormKIdeal.τ).loc Cert.FnormKIdeal.main_arg0) = m ((c.tc : Thread Cert.FnormKIdeal.nD Cert.FnormKIdeal.τ).loc Cert.FnormKIdeal.main_arg0)
          ∧ r.2.mem ((c.tc : Thread Cert.FnormKIdeal.nD Cert.FnormKIdeal.τ).loc Cert.FnormKIdeal.main_arg1) = m ((c.tc : Thread Cert.FnormKIdeal.nD Cert.FnormKIdeal.τ).loc Cert.FnormKIdeal.main_arg1))
      ∧ θ_run (Cert.FnormRIdeal.defs (F := Ideal)) (onTc (τ := Cert.FnormRIdeal.τ) (Cert.FnormRIdeal.main (F := Ideal))) ⟨m', fun _ => 0, g'⟩ (fun r => ∀ c : Dev Cert.FnormRIdeal.nD,
          r.2.mem ((c.tc : Thread Cert.FnormRIdeal.nD Cert.FnormRIdeal.τ).loc Cert.FnormRIdeal.main_v11) = v0 c
          ∧ r.2.mem ((c.tc : Thread Cert.FnormRIdeal.nD Cert.FnormRIdeal.τ).loc Cert.FnormRIdeal.main_v7) = v1 c
          ∧ r.2.mem ((c.tc : Thread Cert.FnormRIdeal.nD Cert.FnormRIdeal.τ).loc Cert.FnormRIdeal.main_arg0) = m' ((c.tc : Thread Cert.FnormRIdeal.nD Cert.FnormRIdeal.τ).loc Cert.FnormRIdeal.main_arg0)
          ∧ r.2.mem ((c.tc : Thread Cert.FnormRIdeal.nD Cert.FnormRIdeal.τ).loc Cert.FnormRIdeal.main_arg1) = m' ((c.tc : Thread Cert.FnormRIdeal.nD Cert.FnormRIdeal.τ).loc Cert.FnormRIdeal.main_arg1))

def preserves_GeluK_GeluKIdeal : Prop :=
  IdealRules.named_const.Statement Cert.GeluKIdeal.κ "gelu_a" .f32 0x3D372713#32 ((8943 / 200000 : ℝ) : EReal)
  ∧ IdealRules.named_const.Statement Cert.GeluKIdeal.κ "gelu_3a" .f32 0x3E095D4F#32 ((26829 / 200000 : ℝ) : EReal)

def preserves_GeluR_GeluRIdeal : Prop :=
  IdealRules.named_const.Statement Cert.GeluRIdeal.κ "gelu_a" .f32 0x3D372713#32 ((8943 / 200000 : ℝ) : EReal)

def algebraic_GeluKIdeal_GeluRIdeal_pre_gelu_finite [hGeluKIdeal : Cert.GeluKIdeal.Facts] [hGeluRIdeal : Cert.GeluRIdeal.Facts] [hPre_gelu_finite : Cert.Pre_gelu_finite.Facts] : Prop :=
  ∀ (m : (ℓ : Loc Cert.GeluKIdeal.nD Cert.GeluKIdeal.τ Cert.GeluKIdeal.sig) → Buf (Elt Ideal) ℓ) (g : Dev Cert.GeluKIdeal.nD → PrngReg)
    (m' : (ℓ : Loc Cert.GeluRIdeal.nD Cert.GeluRIdeal.τ Cert.GeluRIdeal.sig) → Buf (Elt Ideal) ℓ) (g' : Dev Cert.GeluRIdeal.nD → PrngReg), Pre_GeluKIdeal_gelu_finite m →
    (∀ c : Dev Cert.GeluKIdeal.nD,
      m' ((c.tc : Thread Cert.GeluRIdeal.nD Cert.GeluRIdeal.τ).loc Cert.GeluRIdeal.main_arg0) = m ((c.tc : Thread Cert.GeluKIdeal.nD Cert.GeluKIdeal.τ).loc Cert.GeluKIdeal.main_arg0)
      ∧ m' ((c.tc : Thread Cert.GeluRIdeal.nD Cert.GeluRIdeal.τ).loc Cert.GeluRIdeal.main_arg1) = m ((c.tc : Thread Cert.GeluKIdeal.nD Cert.GeluKIdeal.τ).loc Cert.GeluKIdeal.main_arg1)
      ∧ m' ((c.tc : Thread Cert.GeluRIdeal.nD Cert.GeluRIdeal.τ).loc Cert.GeluRIdeal.main_arg2) = m ((c.tc : Thread Cert.GeluKIdeal.nD Cert.GeluKIdeal.τ).loc Cert.GeluKIdeal.main_arg2)
      ∧ m' ((c.tc : Thread Cert.GeluRIdeal.nD Cert.GeluRIdeal.τ).loc Cert.GeluRIdeal.main_arg3) = m ((c.tc : Thread Cert.GeluKIdeal.nD Cert.GeluKIdeal.τ).loc Cert.GeluKIdeal.main_arg3)
      ∧ m' ((c.tc : Thread Cert.GeluRIdeal.nD Cert.GeluRIdeal.τ).loc Cert.GeluRIdeal.main_arg4) = m ((c.tc : Thread Cert.GeluKIdeal.nD Cert.GeluKIdeal.τ).loc Cert.GeluKIdeal.main_arg4)) →
    ∃ (v0 : (c : Dev Cert.GeluKIdeal.nD) → Buf (Elt Ideal) ((c.tc : Thread Cert.GeluKIdeal.nD Cert.GeluKIdeal.τ).loc Cert.GeluKIdeal.main_v3_0)) (v1 : (c : Dev Cert.GeluKIdeal.nD) → Buf (Elt Ideal) ((c.tc : Thread Cert.GeluKIdeal.nD Cert.GeluKIdeal.τ).loc Cert.GeluKIdeal.main_v3_1)),
      θ_run (Cert.GeluKIdeal.defs (F := Ideal)) (onTc (τ := Cert.GeluKIdeal.τ) (Cert.GeluKIdeal.main (F := Ideal))) ⟨m, fun _ => 0, g⟩ (fun r => ∀ c : Dev Cert.GeluKIdeal.nD,
          r.2.mem ((c.tc : Thread Cert.GeluKIdeal.nD Cert.GeluKIdeal.τ).loc Cert.GeluKIdeal.main_v3_0) = v0 c
          ∧ r.2.mem ((c.tc : Thread Cert.GeluKIdeal.nD Cert.GeluKIdeal.τ).loc Cert.GeluKIdeal.main_v3_1) = v1 c
          ∧ r.2.mem ((c.tc : Thread Cert.GeluKIdeal.nD Cert.GeluKIdeal.τ).loc Cert.GeluKIdeal.main_arg0) = m ((c.tc : Thread Cert.GeluKIdeal.nD Cert.GeluKIdeal.τ).loc Cert.GeluKIdeal.main_arg0)
          ∧ r.2.mem ((c.tc : Thread Cert.GeluKIdeal.nD Cert.GeluKIdeal.τ).loc Cert.GeluKIdeal.main_arg1) = m ((c.tc : Thread Cert.GeluKIdeal.nD Cert.GeluKIdeal.τ).loc Cert.GeluKIdeal.main_arg1)
          ∧ r.2.mem ((c.tc : Thread Cert.GeluKIdeal.nD Cert.GeluKIdeal.τ).loc Cert.GeluKIdeal.main_arg2) = m ((c.tc : Thread Cert.GeluKIdeal.nD Cert.GeluKIdeal.τ).loc Cert.GeluKIdeal.main_arg2)
          ∧ r.2.mem ((c.tc : Thread Cert.GeluKIdeal.nD Cert.GeluKIdeal.τ).loc Cert.GeluKIdeal.main_arg3) = m ((c.tc : Thread Cert.GeluKIdeal.nD Cert.GeluKIdeal.τ).loc Cert.GeluKIdeal.main_arg3)
          ∧ r.2.mem ((c.tc : Thread Cert.GeluKIdeal.nD Cert.GeluKIdeal.τ).loc Cert.GeluKIdeal.main_arg4) = m ((c.tc : Thread Cert.GeluKIdeal.nD Cert.GeluKIdeal.τ).loc Cert.GeluKIdeal.main_arg4))
      ∧ θ_run (Cert.GeluRIdeal.defs (F := Ideal)) (onTc (τ := Cert.GeluRIdeal.τ) (Cert.GeluRIdeal.main (F := Ideal))) ⟨m', fun _ => 0, g'⟩ (fun r => ∀ c : Dev Cert.GeluRIdeal.nD,
          r.2.mem ((c.tc : Thread Cert.GeluRIdeal.nD Cert.GeluRIdeal.τ).loc Cert.GeluRIdeal.main_v0_0) = v0 c
          ∧ r.2.mem ((c.tc : Thread Cert.GeluRIdeal.nD Cert.GeluRIdeal.τ).loc Cert.GeluRIdeal.main_v0_1) = v1 c
          ∧ r.2.mem ((c.tc : Thread Cert.GeluRIdeal.nD Cert.GeluRIdeal.τ).loc Cert.GeluRIdeal.main_arg0) = m' ((c.tc : Thread Cert.GeluRIdeal.nD Cert.GeluRIdeal.τ).loc Cert.GeluRIdeal.main_arg0)
          ∧ r.2.mem ((c.tc : Thread Cert.GeluRIdeal.nD Cert.GeluRIdeal.τ).loc Cert.GeluRIdeal.main_arg1) = m' ((c.tc : Thread Cert.GeluRIdeal.nD Cert.GeluRIdeal.τ).loc Cert.GeluRIdeal.main_arg1)
          ∧ r.2.mem ((c.tc : Thread Cert.GeluRIdeal.nD Cert.GeluRIdeal.τ).loc Cert.GeluRIdeal.main_arg2) = m' ((c.tc : Thread Cert.GeluRIdeal.nD Cert.GeluRIdeal.τ).loc Cert.GeluRIdeal.main_arg2)
          ∧ r.2.mem ((c.tc : Thread Cert.GeluRIdeal.nD Cert.GeluRIdeal.τ).loc Cert.GeluRIdeal.main_arg3) = m' ((c.tc : Thread Cert.GeluRIdeal.nD Cert.GeluRIdeal.τ).loc Cert.GeluRIdeal.main_arg3)
          ∧ r.2.mem ((c.tc : Thread Cert.GeluRIdeal.nD Cert.GeluRIdeal.τ).loc Cert.GeluRIdeal.main_arg4) = m' ((c.tc : Thread Cert.GeluRIdeal.nD Cert.GeluRIdeal.τ).loc Cert.GeluRIdeal.main_arg4))

def preserves_RopeK_RopeKIdeal : Prop :=
  True

def algebraic_RopeKIdeal_RopeRIdeal [hRopeKIdeal : Cert.RopeKIdeal.Facts] [hRopeRIdeal : Cert.RopeRIdeal.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeRIdeal.nD Cert.RopeRIdeal.τ Cert.RopeRIdeal.sig) → Buf (Elt Ideal) ℓ) (g' : Dev Cert.RopeRIdeal.nD → PrngReg), Pre_RopeKIdeal m →
    (∀ c : Dev Cert.RopeKIdeal.nD,
      m' ((c.tc : Thread Cert.RopeRIdeal.nD Cert.RopeRIdeal.τ).loc Cert.RopeRIdeal.main_arg0) = m ((c.tc : Thread Cert.RopeKIdeal.nD Cert.RopeKIdeal.τ).loc Cert.RopeKIdeal.main_arg0)
      ∧ m' ((c.tc : Thread Cert.RopeRIdeal.nD Cert.RopeRIdeal.τ).loc Cert.RopeRIdeal.main_arg1) = m ((c.tc : Thread Cert.RopeKIdeal.nD Cert.RopeKIdeal.τ).loc Cert.RopeKIdeal.main_arg1)
      ∧ m' ((c.tc : Thread Cert.RopeRIdeal.nD Cert.RopeRIdeal.τ).loc Cert.RopeRIdeal.main_arg2) = m ((c.tc : Thread Cert.RopeKIdeal.nD Cert.RopeKIdeal.τ).loc Cert.RopeKIdeal.main_arg2)
      ∧ m' ((c.tc : Thread Cert.RopeRIdeal.nD Cert.RopeRIdeal.τ).loc Cert.RopeRIdeal.main_arg3) = m ((c.tc : Thread Cert.RopeKIdeal.nD Cert.RopeKIdeal.τ).loc Cert.RopeKIdeal.main_arg3)) →
    ∃ (v0 : (c : Dev Cert.RopeKIdeal.nD) → Buf (Elt Ideal) ((c.tc : Thread Cert.RopeKIdeal.nD Cert.RopeKIdeal.τ).loc Cert.RopeKIdeal.main_v20)) (v1 : (c : Dev Cert.RopeKIdeal.nD) → Buf (Elt Ideal) ((c.tc : Thread Cert.RopeKIdeal.nD Cert.RopeKIdeal.τ).loc Cert.RopeKIdeal.main_v23)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v20) = v0 c
          ∧ r.2.mem ((c.tc : Thread Cert.RopeKIdeal.nD Cert.RopeKIdeal.τ).loc Cert.RopeKIdeal.main_v23) = v1 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
          ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
          ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
          ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ θ_run (Cert.RopeRIdeal.defs (F := Ideal)) (onTc (τ := Cert.RopeRIdeal.τ) (Cert.RopeRIdeal.main (F := Ideal))) ⟨m', fun _ => 0, g'⟩ (fun r => ∀ c : Dev Cert.RopeRIdeal.nD,
          r.2.mem ((c.tc : Thread Cert.RopeRIdeal.nD Cert.RopeRIdeal.τ).loc Cert.RopeRIdeal.main_v53) = v0 c
          ∧ r.2.mem ((c.tc : Thread Cert.RopeRIdeal.nD Cert.RopeRIdeal.τ).loc Cert.RopeRIdeal.main_v37) = v1 c
          ∧ r.2.mem ((c.tc : Thread Cert.RopeRIdeal.nD Cert.RopeRIdeal.τ).loc Cert.RopeRIdeal.main_arg0) = m' ((c.tc : Thread Cert.RopeRIdeal.nD Cert.RopeRIdeal.τ).loc Cert.RopeRIdeal.main_arg0)
          ∧ r.2.mem ((c.tc : Thread Cert.RopeRIdeal.nD Cert.RopeRIdeal.τ).loc Cert.RopeRIdeal.main_arg1) = m' ((c.tc : Thread Cert.RopeRIdeal.nD Cert.RopeRIdeal.τ).loc Cert.RopeRIdeal.main_arg1)
          ∧ r.2.mem ((c.tc : Thread Cert.RopeRIdeal.nD Cert.RopeRIdeal.τ).loc Cert.RopeRIdeal.main_arg2) = m' ((c.tc : Thread Cert.RopeRIdeal.nD Cert.RopeRIdeal.τ).loc Cert.RopeRIdeal.main_arg2)
          ∧ r.2.mem ((c.tc : Thread Cert.RopeRIdeal.nD Cert.RopeRIdeal.τ).loc Cert.RopeRIdeal.main_arg3) = m' ((c.tc : Thread Cert.RopeRIdeal.nD Cert.RopeRIdeal.τ).loc Cert.RopeRIdeal.main_arg3))

def preserves_ConvK_ConvKIdeal : Prop :=
  True

def algebraic_ConvKIdeal_ConvRIdeal_pre_conv_finite [hConvKIdeal : Cert.ConvKIdeal.Facts] [hConvRIdeal : Cert.ConvRIdeal.Facts] [hPre_conv_finite : Cert.Pre_conv_finite.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal_conv_finite m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_1)) (v2 : (c : Dev Cert.ConvKIdeal.nD) → Buf (Elt Ideal) ((c.tc : Thread Cert.ConvKIdeal.nD Cert.ConvKIdeal.τ).loc Cert.ConvKIdeal.main_v0_2)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_1) = v1 c
          ∧ r.2.mem ((c.tc : Thread Cert.ConvKIdeal.nD Cert.ConvKIdeal.τ).loc Cert.ConvKIdeal.main_v0_2) = v2 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v66) = v0 c
          ∧ r.2.mem ((c.tc : Thread Cert.ConvRIdeal.nD Cert.ConvRIdeal.τ).loc Cert.ConvRIdeal.main_v62) = v1 c
          ∧ r.2.mem ((c.tc : Thread Cert.ConvRIdeal.nD Cert.ConvRIdeal.τ).loc Cert.ConvRIdeal.main_v37) = v2 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)) →
    ∃ (v0 : (c : Dev Cert.GateKIdeal.nD) → Buf (Elt Ideal) ((c.tc : Thread Cert.GateKIdeal.nD Cert.GateKIdeal.τ).loc Cert.GateKIdeal.main_v0)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v0) = v0 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v26) = v0 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2))

def preserves_YfwdK_YfwdKIdeal : Prop :=
  True

def algebraic_YfwdKIdeal_YfwdRIdeal [hYfwdKIdeal : Cert.YfwdKIdeal.Facts] [hYfwdRIdeal : Cert.YfwdRIdeal.Facts] : Prop :=
  ∀ (m : (ℓ : Loc Cert.YfwdKIdeal.nD Cert.YfwdKIdeal.τ Cert.YfwdKIdeal.sig) → Buf (Elt Ideal) ℓ) (g : Dev Cert.YfwdKIdeal.nD → PrngReg)
    (m' : (ℓ : Loc Cert.YfwdRIdeal.nD Cert.YfwdRIdeal.τ Cert.YfwdRIdeal.sig) → Buf (Elt Ideal) ℓ) (g' : Dev Cert.YfwdRIdeal.nD → PrngReg), Pre_YfwdKIdeal m →
    (∀ c : Dev Cert.YfwdKIdeal.nD,
      m' ((c.tc : Thread Cert.YfwdRIdeal.nD Cert.YfwdRIdeal.τ).loc Cert.YfwdRIdeal.main_arg0) = m ((c.tc : Thread Cert.YfwdKIdeal.nD Cert.YfwdKIdeal.τ).loc Cert.YfwdKIdeal.main_arg0)
      ∧ m' ((c.tc : Thread Cert.YfwdRIdeal.nD Cert.YfwdRIdeal.τ).loc Cert.YfwdRIdeal.main_arg1) = m ((c.tc : Thread Cert.YfwdKIdeal.nD Cert.YfwdKIdeal.τ).loc Cert.YfwdKIdeal.main_arg1)
      ∧ m' ((c.tc : Thread Cert.YfwdRIdeal.nD Cert.YfwdRIdeal.τ).loc Cert.YfwdRIdeal.main_arg2) = m ((c.tc : Thread Cert.YfwdKIdeal.nD Cert.YfwdKIdeal.τ).loc Cert.YfwdKIdeal.main_arg2)
      ∧ m' ((c.tc : Thread Cert.YfwdRIdeal.nD Cert.YfwdRIdeal.τ).loc Cert.YfwdRIdeal.main_arg3) = m ((c.tc : Thread Cert.YfwdKIdeal.nD Cert.YfwdKIdeal.τ).loc Cert.YfwdKIdeal.main_arg3)) →
    ∃ (v0 : (c : Dev Cert.YfwdKIdeal.nD) → Buf (Elt Ideal) ((c.tc : Thread Cert.YfwdKIdeal.nD Cert.YfwdKIdeal.τ).loc Cert.YfwdKIdeal.main_v0_0)) (v1 : (c : Dev Cert.YfwdKIdeal.nD) → Buf (Elt Ideal) ((c.tc : Thread Cert.YfwdKIdeal.nD Cert.YfwdKIdeal.τ).loc Cert.YfwdKIdeal.main_v0_1)),
      θ_run (Cert.YfwdKIdeal.defs (F := Ideal)) (onTc (τ := Cert.YfwdKIdeal.τ) (Cert.YfwdKIdeal.main (F := Ideal))) ⟨m, fun _ => 0, g⟩ (fun r => ∀ c : Dev Cert.YfwdKIdeal.nD,
          r.2.mem ((c.tc : Thread Cert.YfwdKIdeal.nD Cert.YfwdKIdeal.τ).loc Cert.YfwdKIdeal.main_v0_0) = v0 c
          ∧ r.2.mem ((c.tc : Thread Cert.YfwdKIdeal.nD Cert.YfwdKIdeal.τ).loc Cert.YfwdKIdeal.main_v0_1) = v1 c
          ∧ r.2.mem ((c.tc : Thread Cert.YfwdKIdeal.nD Cert.YfwdKIdeal.τ).loc Cert.YfwdKIdeal.main_arg0) = m ((c.tc : Thread Cert.YfwdKIdeal.nD Cert.YfwdKIdeal.τ).loc Cert.YfwdKIdeal.main_arg0)
          ∧ r.2.mem ((c.tc : Thread Cert.YfwdKIdeal.nD Cert.YfwdKIdeal.τ).loc Cert.YfwdKIdeal.main_arg1) = m ((c.tc : Thread Cert.YfwdKIdeal.nD Cert.YfwdKIdeal.τ).loc Cert.YfwdKIdeal.main_arg1)
          ∧ r.2.mem ((c.tc : Thread Cert.YfwdKIdeal.nD Cert.YfwdKIdeal.τ).loc Cert.YfwdKIdeal.main_arg2) = m ((c.tc : Thread Cert.YfwdKIdeal.nD Cert.YfwdKIdeal.τ).loc Cert.YfwdKIdeal.main_arg2)
          ∧ r.2.mem ((c.tc : Thread Cert.YfwdKIdeal.nD Cert.YfwdKIdeal.τ).loc Cert.YfwdKIdeal.main_arg3) = m ((c.tc : Thread Cert.YfwdKIdeal.nD Cert.YfwdKIdeal.τ).loc Cert.YfwdKIdeal.main_arg3))
      ∧ θ_run (Cert.YfwdRIdeal.defs (F := Ideal)) (onTc (τ := Cert.YfwdRIdeal.τ) (Cert.YfwdRIdeal.main (F := Ideal))) ⟨m', fun _ => 0, g'⟩ (fun r => ∀ c : Dev Cert.YfwdRIdeal.nD,
          r.2.mem ((c.tc : Thread Cert.YfwdRIdeal.nD Cert.YfwdRIdeal.τ).loc Cert.YfwdRIdeal.main_v3) = v0 c
          ∧ r.2.mem ((c.tc : Thread Cert.YfwdRIdeal.nD Cert.YfwdRIdeal.τ).loc Cert.YfwdRIdeal.main_v17) = v1 c
          ∧ r.2.mem ((c.tc : Thread Cert.YfwdRIdeal.nD Cert.YfwdRIdeal.τ).loc Cert.YfwdRIdeal.main_arg0) = m' ((c.tc : Thread Cert.YfwdRIdeal.nD Cert.YfwdRIdeal.τ).loc Cert.YfwdRIdeal.main_arg0)
          ∧ r.2.mem ((c.tc : Thread Cert.YfwdRIdeal.nD Cert.YfwdRIdeal.τ).loc Cert.YfwdRIdeal.main_arg1) = m' ((c.tc : Thread Cert.YfwdRIdeal.nD Cert.YfwdRIdeal.τ).loc Cert.YfwdRIdeal.main_arg1)
          ∧ r.2.mem ((c.tc : Thread Cert.YfwdRIdeal.nD Cert.YfwdRIdeal.τ).loc Cert.YfwdRIdeal.main_arg2) = m' ((c.tc : Thread Cert.YfwdRIdeal.nD Cert.YfwdRIdeal.τ).loc Cert.YfwdRIdeal.main_arg2)
          ∧ r.2.mem ((c.tc : Thread Cert.YfwdRIdeal.nD Cert.YfwdRIdeal.τ).loc Cert.YfwdRIdeal.main_arg3) = m' ((c.tc : Thread Cert.YfwdRIdeal.nD Cert.YfwdRIdeal.τ).loc Cert.YfwdRIdeal.main_arg3))

def preserves_GluK_GluKIdeal : Prop :=
  True

def algebraic_GluKIdeal_GluRIdeal [hGluKIdeal : Cert.GluKIdeal.Facts] [hGluRIdeal : Cert.GluRIdeal.Facts] : Prop :=
  ∀ (m : (ℓ : Loc Cert.GluKIdeal.nD Cert.GluKIdeal.τ Cert.GluKIdeal.sig) → Buf (Elt Ideal) ℓ) (g : Dev Cert.GluKIdeal.nD → PrngReg)
    (m' : (ℓ : Loc Cert.GluRIdeal.nD Cert.GluRIdeal.τ Cert.GluRIdeal.sig) → Buf (Elt Ideal) ℓ) (g' : Dev Cert.GluRIdeal.nD → PrngReg), Pre_GluKIdeal m →
    (∀ c : Dev Cert.GluKIdeal.nD,
      m' ((c.tc : Thread Cert.GluRIdeal.nD Cert.GluRIdeal.τ).loc Cert.GluRIdeal.main_arg0) = m ((c.tc : Thread Cert.GluKIdeal.nD Cert.GluKIdeal.τ).loc Cert.GluKIdeal.main_arg0)
      ∧ m' ((c.tc : Thread Cert.GluRIdeal.nD Cert.GluRIdeal.τ).loc Cert.GluRIdeal.main_arg1) = m ((c.tc : Thread Cert.GluKIdeal.nD Cert.GluKIdeal.τ).loc Cert.GluKIdeal.main_arg1)
      ∧ m' ((c.tc : Thread Cert.GluRIdeal.nD Cert.GluRIdeal.τ).loc Cert.GluRIdeal.main_arg2) = m ((c.tc : Thread Cert.GluKIdeal.nD Cert.GluKIdeal.τ).loc Cert.GluKIdeal.main_arg2)) →
    ∃ (v0 : (c : Dev Cert.GluKIdeal.nD) → Buf (Elt Ideal) ((c.tc : Thread Cert.GluKIdeal.nD Cert.GluKIdeal.τ).loc Cert.GluKIdeal.main_v0)),
      θ_run (Cert.GluKIdeal.defs (F := Ideal)) (onTc (τ := Cert.GluKIdeal.τ) (Cert.GluKIdeal.main (F := Ideal))) ⟨m, fun _ => 0, g⟩ (fun r => ∀ c : Dev Cert.GluKIdeal.nD,
          r.2.mem ((c.tc : Thread Cert.GluKIdeal.nD Cert.GluKIdeal.τ).loc Cert.GluKIdeal.main_v0) = v0 c
          ∧ r.2.mem ((c.tc : Thread Cert.GluKIdeal.nD Cert.GluKIdeal.τ).loc Cert.GluKIdeal.main_arg0) = m ((c.tc : Thread Cert.GluKIdeal.nD Cert.GluKIdeal.τ).loc Cert.GluKIdeal.main_arg0)
          ∧ r.2.mem ((c.tc : Thread Cert.GluKIdeal.nD Cert.GluKIdeal.τ).loc Cert.GluKIdeal.main_arg1) = m ((c.tc : Thread Cert.GluKIdeal.nD Cert.GluKIdeal.τ).loc Cert.GluKIdeal.main_arg1)
          ∧ r.2.mem ((c.tc : Thread Cert.GluKIdeal.nD Cert.GluKIdeal.τ).loc Cert.GluKIdeal.main_arg2) = m ((c.tc : Thread Cert.GluKIdeal.nD Cert.GluKIdeal.τ).loc Cert.GluKIdeal.main_arg2))
      ∧ θ_run (Cert.GluRIdeal.defs (F := Ideal)) (onTc (τ := Cert.GluRIdeal.τ) (Cert.GluRIdeal.main (F := Ideal))) ⟨m', fun _ => 0, g'⟩ (fun r => ∀ c : Dev Cert.GluRIdeal.nD,
          r.2.mem ((c.tc : Thread Cert.GluRIdeal.nD Cert.GluRIdeal.τ).loc Cert.GluRIdeal.main_v21) = v0 c
          ∧ r.2.mem ((c.tc : Thread Cert.GluRIdeal.nD Cert.GluRIdeal.τ).loc Cert.GluRIdeal.main_arg0) = m' ((c.tc : Thread Cert.GluRIdeal.nD Cert.GluRIdeal.τ).loc Cert.GluRIdeal.main_arg0)
          ∧ r.2.mem ((c.tc : Thread Cert.GluRIdeal.nD Cert.GluRIdeal.τ).loc Cert.GluRIdeal.main_arg1) = m' ((c.tc : Thread Cert.GluRIdeal.nD Cert.GluRIdeal.τ).loc Cert.GluRIdeal.main_arg1)
          ∧ r.2.mem ((c.tc : Thread Cert.GluRIdeal.nD Cert.GluRIdeal.τ).loc Cert.GluRIdeal.main_arg2) = m' ((c.tc : Thread Cert.GluRIdeal.nD Cert.GluRIdeal.τ).loc Cert.GluRIdeal.main_arg2))

def preserves_RotK_RotKIdeal : Prop :=
  True

def algebraic_RotKIdeal_RotRIdeal [hRotKIdeal : Cert.RotKIdeal.Facts] [hRotRIdeal : Cert.RotRIdeal.Facts] : Prop :=
  ∀ (m : (ℓ : Loc Cert.RotKIdeal.nD Cert.RotKIdeal.τ Cert.RotKIdeal.sig) → Buf (Elt Ideal) ℓ) (g : Dev Cert.RotKIdeal.nD → PrngReg)
    (m' : (ℓ : Loc Cert.RotRIdeal.nD Cert.RotRIdeal.τ Cert.RotRIdeal.sig) → Buf (Elt Ideal) ℓ) (g' : Dev Cert.RotRIdeal.nD → PrngReg), Pre_RotKIdeal m →
    (∀ c : Dev Cert.RotKIdeal.nD,
      m' ((c.tc : Thread Cert.RotRIdeal.nD Cert.RotRIdeal.τ).loc Cert.RotRIdeal.main_arg0) = m ((c.tc : Thread Cert.RotKIdeal.nD Cert.RotKIdeal.τ).loc Cert.RotKIdeal.main_arg0)
      ∧ m' ((c.tc : Thread Cert.RotRIdeal.nD Cert.RotRIdeal.τ).loc Cert.RotRIdeal.main_arg1) = m ((c.tc : Thread Cert.RotKIdeal.nD Cert.RotKIdeal.τ).loc Cert.RotKIdeal.main_arg1)
      ∧ m' ((c.tc : Thread Cert.RotRIdeal.nD Cert.RotRIdeal.τ).loc Cert.RotRIdeal.main_arg2) = m ((c.tc : Thread Cert.RotKIdeal.nD Cert.RotKIdeal.τ).loc Cert.RotKIdeal.main_arg2)
      ∧ m' ((c.tc : Thread Cert.RotRIdeal.nD Cert.RotRIdeal.τ).loc Cert.RotRIdeal.main_arg3) = m ((c.tc : Thread Cert.RotKIdeal.nD Cert.RotKIdeal.τ).loc Cert.RotKIdeal.main_arg3)) →
    ∃ (v0 : (c : Dev Cert.RotKIdeal.nD) → Buf (Elt Ideal) ((c.tc : Thread Cert.RotKIdeal.nD Cert.RotKIdeal.τ).loc Cert.RotKIdeal.main_v22)) (v1 : (c : Dev Cert.RotKIdeal.nD) → Buf (Elt Ideal) ((c.tc : Thread Cert.RotKIdeal.nD Cert.RotKIdeal.τ).loc Cert.RotKIdeal.main_v25)),
      θ_run (Cert.RotKIdeal.defs (F := Ideal)) (onTc (τ := Cert.RotKIdeal.τ) (Cert.RotKIdeal.main (F := Ideal))) ⟨m, fun _ => 0, g⟩ (fun r => ∀ c : Dev Cert.RotKIdeal.nD,
          r.2.mem ((c.tc : Thread Cert.RotKIdeal.nD Cert.RotKIdeal.τ).loc Cert.RotKIdeal.main_v22) = v0 c
          ∧ r.2.mem ((c.tc : Thread Cert.RotKIdeal.nD Cert.RotKIdeal.τ).loc Cert.RotKIdeal.main_v25) = v1 c
          ∧ r.2.mem ((c.tc : Thread Cert.RotKIdeal.nD Cert.RotKIdeal.τ).loc Cert.RotKIdeal.main_arg0) = m ((c.tc : Thread Cert.RotKIdeal.nD Cert.RotKIdeal.τ).loc Cert.RotKIdeal.main_arg0)
          ∧ r.2.mem ((c.tc : Thread Cert.RotKIdeal.nD Cert.RotKIdeal.τ).loc Cert.RotKIdeal.main_arg1) = m ((c.tc : Thread Cert.RotKIdeal.nD Cert.RotKIdeal.τ).loc Cert.RotKIdeal.main_arg1)
          ∧ r.2.mem ((c.tc : Thread Cert.RotKIdeal.nD Cert.RotKIdeal.τ).loc Cert.RotKIdeal.main_arg2) = m ((c.tc : Thread Cert.RotKIdeal.nD Cert.RotKIdeal.τ).loc Cert.RotKIdeal.main_arg2)
          ∧ r.2.mem ((c.tc : Thread Cert.RotKIdeal.nD Cert.RotKIdeal.τ).loc Cert.RotKIdeal.main_arg3) = m ((c.tc : Thread Cert.RotKIdeal.nD Cert.RotKIdeal.τ).loc Cert.RotKIdeal.main_arg3))
      ∧ θ_run (Cert.RotRIdeal.defs (F := Ideal)) (onTc (τ := Cert.RotRIdeal.τ) (Cert.RotRIdeal.main (F := Ideal))) ⟨m', fun _ => 0, g'⟩ (fun r => ∀ c : Dev Cert.RotRIdeal.nD,
          r.2.mem ((c.tc : Thread Cert.RotRIdeal.nD Cert.RotRIdeal.τ).loc Cert.RotRIdeal.main_v18) = v0 c
          ∧ r.2.mem ((c.tc : Thread Cert.RotRIdeal.nD Cert.RotRIdeal.τ).loc Cert.RotRIdeal.main_v28) = v1 c
          ∧ r.2.mem ((c.tc : Thread Cert.RotRIdeal.nD Cert.RotRIdeal.τ).loc Cert.RotRIdeal.main_arg0) = m' ((c.tc : Thread Cert.RotRIdeal.nD Cert.RotRIdeal.τ).loc Cert.RotRIdeal.main_arg0)
          ∧ r.2.mem ((c.tc : Thread Cert.RotRIdeal.nD Cert.RotRIdeal.τ).loc Cert.RotRIdeal.main_arg1) = m' ((c.tc : Thread Cert.RotRIdeal.nD Cert.RotRIdeal.τ).loc Cert.RotRIdeal.main_arg1)
          ∧ r.2.mem ((c.tc : Thread Cert.RotRIdeal.nD Cert.RotRIdeal.τ).loc Cert.RotRIdeal.main_arg2) = m' ((c.tc : Thread Cert.RotRIdeal.nD Cert.RotRIdeal.τ).loc Cert.RotRIdeal.main_arg2)
          ∧ r.2.mem ((c.tc : Thread Cert.RotRIdeal.nD Cert.RotRIdeal.τ).loc Cert.RotRIdeal.main_arg3) = m' ((c.tc : Thread Cert.RotRIdeal.nD Cert.RotRIdeal.τ).loc Cert.RotRIdeal.main_arg3))

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)) →
    ∃ (v0 : (c : Dev Cert.AdamKIdeal.nD) → Buf (Elt Ideal) ((c.tc : Thread Cert.AdamKIdeal.nD Cert.AdamKIdeal.τ).loc Cert.AdamKIdeal.main_v0_0)) (v1 : (c : Dev Cert.AdamKIdeal.nD) → Buf (Elt Ideal) ((c.tc : Thread Cert.AdamKIdeal.nD Cert.AdamKIdeal.τ).loc Cert.AdamKIdeal.main_v0_1)) (v2 : (c : Dev Cert.AdamKIdeal.nD) → Buf (Elt Ideal) ((c.tc : Thread Cert.AdamKIdeal.nD Cert.AdamKIdeal.τ).loc Cert.AdamKIdeal.main_v0_2)) (v3 : (c : Dev Cert.AdamKIdeal.nD) → Buf (Elt Ideal) ((c.tc : Thread Cert.AdamKIdeal.nD Cert.AdamKIdeal.τ).loc Cert.AdamKIdeal.main_v0_3)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v0_0) = v0 c
          ∧ r.2.mem ((c.tc : Thread Cert.AdamKIdeal.nD Cert.AdamKIdeal.τ).loc Cert.AdamKIdeal.main_v0_1) = v1 c
          ∧ r.2.mem ((c.tc : Thread Cert.AdamKIdeal.nD Cert.AdamKIdeal.τ).loc Cert.AdamKIdeal.main_v0_2) = v2 c
          ∧ r.2.mem ((c.tc : Thread Cert.AdamKIdeal.nD Cert.AdamKIdeal.τ).loc Cert.AdamKIdeal.main_v0_3) = v3 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v1) = v0 c
          ∧ r.2.mem ((c.tc : Thread Cert.AdamRIdeal.nD Cert.AdamRIdeal.τ).loc Cert.AdamRIdeal.main_v25) = v1 c
          ∧ r.2.mem ((c.tc : Thread Cert.AdamRIdeal.nD Cert.AdamRIdeal.τ).loc Cert.AdamRIdeal.main_v6) = v2 c
          ∧ r.2.mem ((c.tc : Thread Cert.AdamRIdeal.nD Cert.AdamRIdeal.τ).loc Cert.AdamRIdeal.main_v12) = v3 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)) →
    ∃ (v0 : (c : Dev Cert.UpKIdeal.nD) → Buf (Elt Ideal) ((c.tc : Thread Cert.UpKIdeal.nD Cert.UpKIdeal.τ).loc Cert.UpKIdeal.main_v1)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v1) = v0 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v4) = v0 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1))

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)) →
    ∃ (v0 : (c : Dev Cert.DownKIdeal.nD) → Buf (Elt Ideal) ((c.tc : Thread Cert.DownKIdeal.nD Cert.DownKIdeal.τ).loc Cert.DownKIdeal.main_v2)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v2) = v0 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v1) = v0 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2))

def preserves_TnK_TnKIdeal : Prop :=
  True

def algebraic_TnKIdeal_TnRIdeal [hTnKIdeal : Cert.TnKIdeal.Facts] [hTnRIdeal : Cert.TnRIdeal.Facts] : Prop :=
  ∀ (m : (ℓ : Loc Cert.TnKIdeal.nD Cert.TnKIdeal.τ Cert.TnKIdeal.sig) → Buf (Elt Ideal) ℓ) (g : Dev Cert.TnKIdeal.nD → PrngReg)
    (m' : (ℓ : Loc Cert.TnRIdeal.nD Cert.TnRIdeal.τ Cert.TnRIdeal.sig) → Buf (Elt Ideal) ℓ) (g' : Dev Cert.TnRIdeal.nD → PrngReg), Pre_TnKIdeal m →
    (∀ c : Dev Cert.TnKIdeal.nD,
      m' ((c.tc : Thread Cert.TnRIdeal.nD Cert.TnRIdeal.τ).loc Cert.TnRIdeal.main_arg0) = m ((c.tc : Thread Cert.TnKIdeal.nD Cert.TnKIdeal.τ).loc Cert.TnKIdeal.main_arg0)
      ∧ m' ((c.tc : Thread Cert.TnRIdeal.nD Cert.TnRIdeal.τ).loc Cert.TnRIdeal.main_arg1) = m ((c.tc : Thread Cert.TnKIdeal.nD Cert.TnKIdeal.τ).loc Cert.TnKIdeal.main_arg1)) →
    ∃ (v0 : (c : Dev Cert.TnKIdeal.nD) → Buf (Elt Ideal) ((c.tc : Thread Cert.TnKIdeal.nD Cert.TnKIdeal.τ).loc Cert.TnKIdeal.main_v0)),
      θ_run (Cert.TnKIdeal.defs (F := Ideal)) (onTc (τ := Cert.TnKIdeal.τ) (Cert.TnKIdeal.main (F := Ideal))) ⟨m, fun _ => 0, g⟩ (fun r => ∀ c : Dev Cert.TnKIdeal.nD,
          r.2.mem ((c.tc : Thread Cert.TnKIdeal.nD Cert.TnKIdeal.τ).loc Cert.TnKIdeal.main_v0) = v0 c
          ∧ r.2.mem ((c.tc : Thread Cert.TnKIdeal.nD Cert.TnKIdeal.τ).loc Cert.TnKIdeal.main_arg0) = m ((c.tc : Thread Cert.TnKIdeal.nD Cert.TnKIdeal.τ).loc Cert.TnKIdeal.main_arg0)
          ∧ r.2.mem ((c.tc : Thread Cert.TnKIdeal.nD Cert.TnKIdeal.τ).loc Cert.TnKIdeal.main_arg1) = m ((c.tc : Thread Cert.TnKIdeal.nD Cert.TnKIdeal.τ).loc Cert.TnKIdeal.main_arg1))
      ∧ θ_run (Cert.TnRIdeal.defs (F := Ideal)) (onTc (τ := Cert.TnRIdeal.τ) (Cert.TnRIdeal.main (F := Ideal))) ⟨m', fun _ => 0, g'⟩ (fun r => ∀ c : Dev Cert.TnRIdeal.nD,
          r.2.mem ((c.tc : Thread Cert.TnRIdeal.nD Cert.TnRIdeal.τ).loc Cert.TnRIdeal.main_v14) = v0 c
          ∧ r.2.mem ((c.tc : Thread Cert.TnRIdeal.nD Cert.TnRIdeal.τ).loc Cert.TnRIdeal.main_arg0) = m' ((c.tc : Thread Cert.TnRIdeal.nD Cert.TnRIdeal.τ).loc Cert.TnRIdeal.main_arg0)
          ∧ r.2.mem ((c.tc : Thread Cert.TnRIdeal.nD Cert.TnRIdeal.τ).loc Cert.TnRIdeal.main_arg1) = m' ((c.tc : Thread Cert.TnRIdeal.nD Cert.TnRIdeal.τ).loc Cert.TnRIdeal.main_arg1))

def preserves_NtK_NtKIdeal : Prop :=
  True

def algebraic_NtKIdeal_NtRIdeal [hNtKIdeal : Cert.NtKIdeal.Facts] [hNtRIdeal : Cert.NtRIdeal.Facts] : Prop :=
  ∀ (m : (ℓ : Loc Cert.NtKIdeal.nD Cert.NtKIdeal.τ Cert.NtKIdeal.sig) → Buf (Elt Ideal) ℓ) (g : Dev Cert.NtKIdeal.nD → PrngReg)
    (m' : (ℓ : Loc Cert.NtRIdeal.nD Cert.NtRIdeal.τ Cert.NtRIdeal.sig) → Buf (Elt Ideal) ℓ) (g' : Dev Cert.NtRIdeal.nD → PrngReg), Pre_NtKIdeal m →
    (∀ c : Dev Cert.NtKIdeal.nD,
      m' ((c.tc : Thread Cert.NtRIdeal.nD Cert.NtRIdeal.τ).loc Cert.NtRIdeal.main_arg0) = m ((c.tc : Thread Cert.NtKIdeal.nD Cert.NtKIdeal.τ).loc Cert.NtKIdeal.main_arg0)
      ∧ m' ((c.tc : Thread Cert.NtRIdeal.nD Cert.NtRIdeal.τ).loc Cert.NtRIdeal.main_arg1) = m ((c.tc : Thread Cert.NtKIdeal.nD Cert.NtKIdeal.τ).loc Cert.NtKIdeal.main_arg1)) →
    ∃ (v0 : (c : Dev Cert.NtKIdeal.nD) → Buf (Elt Ideal) ((c.tc : Thread Cert.NtKIdeal.nD Cert.NtKIdeal.τ).loc Cert.NtKIdeal.main_v1)),
      θ_run (Cert.NtKIdeal.defs (F := Ideal)) (onTc (τ := Cert.NtKIdeal.τ) (Cert.NtKIdeal.main (F := Ideal))) ⟨m, fun _ => 0, g⟩ (fun r => ∀ c : Dev Cert.NtKIdeal.nD,
          r.2.mem ((c.tc : Thread Cert.NtKIdeal.nD Cert.NtKIdeal.τ).loc Cert.NtKIdeal.main_v1) = v0 c
          ∧ r.2.mem ((c.tc : Thread Cert.NtKIdeal.nD Cert.NtKIdeal.τ).loc Cert.NtKIdeal.main_arg0) = m ((c.tc : Thread Cert.NtKIdeal.nD Cert.NtKIdeal.τ).loc Cert.NtKIdeal.main_arg0)
          ∧ r.2.mem ((c.tc : Thread Cert.NtKIdeal.nD Cert.NtKIdeal.τ).loc Cert.NtKIdeal.main_arg1) = m ((c.tc : Thread Cert.NtKIdeal.nD Cert.NtKIdeal.τ).loc Cert.NtKIdeal.main_arg1))
      ∧ θ_run (Cert.NtRIdeal.defs (F := Ideal)) (onTc (τ := Cert.NtRIdeal.τ) (Cert.NtRIdeal.main (F := Ideal))) ⟨m', fun _ => 0, g'⟩ (fun r => ∀ c : Dev Cert.NtRIdeal.nD,
          r.2.mem ((c.tc : Thread Cert.NtRIdeal.nD Cert.NtRIdeal.τ).loc Cert.NtRIdeal.main_v10) = v0 c
          ∧ r.2.mem ((c.tc : Thread Cert.NtRIdeal.nD Cert.NtRIdeal.τ).loc Cert.NtRIdeal.main_arg0) = m' ((c.tc : Thread Cert.NtRIdeal.nD Cert.NtRIdeal.τ).loc Cert.NtRIdeal.main_arg0)
          ∧ r.2.mem ((c.tc : Thread Cert.NtRIdeal.nD Cert.NtRIdeal.τ).loc Cert.NtRIdeal.main_arg1) = m' ((c.tc : Thread Cert.NtRIdeal.nD Cert.NtRIdeal.τ).loc Cert.NtRIdeal.main_arg1))

def preserves_SumK_SumKIdeal : Prop :=
  True

def algebraic_SumKIdeal_SumRIdeal [hSumKIdeal : Cert.SumKIdeal.Facts] [hSumRIdeal : Cert.SumRIdeal.Facts] : Prop :=
  ∀ (m : (ℓ : Loc Cert.SumKIdeal.nD Cert.SumKIdeal.τ Cert.SumKIdeal.sig) → Buf (Elt Ideal) ℓ) (g : Dev Cert.SumKIdeal.nD → PrngReg)
    (m' : (ℓ : Loc Cert.SumRIdeal.nD Cert.SumRIdeal.τ Cert.SumRIdeal.sig) → Buf (Elt Ideal) ℓ) (g' : Dev Cert.SumRIdeal.nD → PrngReg), Pre_SumKIdeal m →
    (∀ c : Dev Cert.SumKIdeal.nD,
      m' ((c.tc : Thread Cert.SumRIdeal.nD Cert.SumRIdeal.τ).loc Cert.SumRIdeal.main_arg0) = m ((c.tc : Thread Cert.SumKIdeal.nD Cert.SumKIdeal.τ).loc Cert.SumKIdeal.main_arg0)) →
    ∃ (v0 : (c : Dev Cert.SumKIdeal.nD) → Buf (Elt Ideal) ((c.tc : Thread Cert.SumKIdeal.nD Cert.SumKIdeal.τ).loc Cert.SumKIdeal.main_v0)),
      θ_run (Cert.SumKIdeal.defs (F := Ideal)) (onTc (τ := Cert.SumKIdeal.τ) (Cert.SumKIdeal.main (F := Ideal))) ⟨m, fun _ => 0, g⟩ (fun r => ∀ c : Dev Cert.SumKIdeal.nD,
          r.2.mem ((c.tc : Thread Cert.SumKIdeal.nD Cert.SumKIdeal.τ).loc Cert.SumKIdeal.main_v0) = v0 c
          ∧ r.2.mem ((c.tc : Thread Cert.SumKIdeal.nD Cert.SumKIdeal.τ).loc Cert.SumKIdeal.main_arg0) = m ((c.tc : Thread Cert.SumKIdeal.nD Cert.SumKIdeal.τ).loc Cert.SumKIdeal.main_arg0))
      ∧ θ_run (Cert.SumRIdeal.defs (F := Ideal)) (onTc (τ := Cert.SumRIdeal.τ) (Cert.SumRIdeal.main (F := Ideal))) ⟨m', fun _ => 0, g'⟩ (fun r => ∀ c : Dev Cert.SumRIdeal.nD,
          r.2.mem ((c.tc : Thread Cert.SumRIdeal.nD Cert.SumRIdeal.τ).loc Cert.SumRIdeal.main_v0) = v0 c
          ∧ r.2.mem ((c.tc : Thread Cert.SumRIdeal.nD Cert.SumRIdeal.τ).loc Cert.SumRIdeal.main_arg0) = m' ((c.tc : Thread Cert.SumRIdeal.nD Cert.SumRIdeal.τ).loc Cert.SumRIdeal.main_arg0))

def preserves_FlatK_FlatKIdeal : Prop :=
  True

def algebraic_FlatKIdeal_FlatRIdeal [hFlatKIdeal : Cert.FlatKIdeal.Facts] [hFlatRIdeal : Cert.FlatRIdeal.Facts] : Prop :=
  ∀ (m : (ℓ : Loc Cert.FlatKIdeal.nD Cert.FlatKIdeal.τ Cert.FlatKIdeal.sig) → Buf (Elt Ideal) ℓ) (g : Dev Cert.FlatKIdeal.nD → PrngReg)
    (m' : (ℓ : Loc Cert.FlatRIdeal.nD Cert.FlatRIdeal.τ Cert.FlatRIdeal.sig) → Buf (Elt Ideal) ℓ) (g' : Dev Cert.FlatRIdeal.nD → PrngReg), Pre_FlatKIdeal m →
    (∀ c : Dev Cert.FlatKIdeal.nD,
      m' ((c.tc : Thread Cert.FlatRIdeal.nD Cert.FlatRIdeal.τ).loc Cert.FlatRIdeal.main_arg0) = m ((c.tc : Thread Cert.FlatKIdeal.nD Cert.FlatKIdeal.τ).loc Cert.FlatKIdeal.main_arg0)
      ∧ m' ((c.tc : Thread Cert.FlatRIdeal.nD Cert.FlatRIdeal.τ).loc Cert.FlatRIdeal.main_arg1) = m ((c.tc : Thread Cert.FlatKIdeal.nD Cert.FlatKIdeal.τ).loc Cert.FlatKIdeal.main_arg1)
      ∧ m' ((c.tc : Thread Cert.FlatRIdeal.nD Cert.FlatRIdeal.τ).loc Cert.FlatRIdeal.main_arg2) = m ((c.tc : Thread Cert.FlatKIdeal.nD Cert.FlatKIdeal.τ).loc Cert.FlatKIdeal.main_arg2)
      ∧ m' ((c.tc : Thread Cert.FlatRIdeal.nD Cert.FlatRIdeal.τ).loc Cert.FlatRIdeal.main_arg3) = m ((c.tc : Thread Cert.FlatKIdeal.nD Cert.FlatKIdeal.τ).loc Cert.FlatKIdeal.main_arg3)) →
    ∃ (v0 : (c : Dev Cert.FlatKIdeal.nD) → Buf (Elt Ideal) ((c.tc : Thread Cert.FlatKIdeal.nD Cert.FlatKIdeal.τ).loc Cert.FlatKIdeal.main_v0_0)) (v1 : (c : Dev Cert.FlatKIdeal.nD) → Buf (Elt Ideal) ((c.tc : Thread Cert.FlatKIdeal.nD Cert.FlatKIdeal.τ).loc Cert.FlatKIdeal.main_v0_1)) (v2 : (c : Dev Cert.FlatKIdeal.nD) → Buf (Elt Ideal) ((c.tc : Thread Cert.FlatKIdeal.nD Cert.FlatKIdeal.τ).loc Cert.FlatKIdeal.main_v0_2)),
      θ_run (Cert.FlatKIdeal.defs (F := Ideal)) (onTc (τ := Cert.FlatKIdeal.τ) (Cert.FlatKIdeal.main (F := Ideal))) ⟨m, fun _ => 0, g⟩ (fun r => ∀ c : Dev Cert.FlatKIdeal.nD,
          r.2.mem ((c.tc : Thread Cert.FlatKIdeal.nD Cert.FlatKIdeal.τ).loc Cert.FlatKIdeal.main_v0_0) = v0 c
          ∧ r.2.mem ((c.tc : Thread Cert.FlatKIdeal.nD Cert.FlatKIdeal.τ).loc Cert.FlatKIdeal.main_v0_1) = v1 c
          ∧ r.2.mem ((c.tc : Thread Cert.FlatKIdeal.nD Cert.FlatKIdeal.τ).loc Cert.FlatKIdeal.main_v0_2) = v2 c
          ∧ r.2.mem ((c.tc : Thread Cert.FlatKIdeal.nD Cert.FlatKIdeal.τ).loc Cert.FlatKIdeal.main_arg0) = m ((c.tc : Thread Cert.FlatKIdeal.nD Cert.FlatKIdeal.τ).loc Cert.FlatKIdeal.main_arg0)
          ∧ r.2.mem ((c.tc : Thread Cert.FlatKIdeal.nD Cert.FlatKIdeal.τ).loc Cert.FlatKIdeal.main_arg1) = m ((c.tc : Thread Cert.FlatKIdeal.nD Cert.FlatKIdeal.τ).loc Cert.FlatKIdeal.main_arg1)
          ∧ r.2.mem ((c.tc : Thread Cert.FlatKIdeal.nD Cert.FlatKIdeal.τ).loc Cert.FlatKIdeal.main_arg2) = m ((c.tc : Thread Cert.FlatKIdeal.nD Cert.FlatKIdeal.τ).loc Cert.FlatKIdeal.main_arg2)
          ∧ r.2.mem ((c.tc : Thread Cert.FlatKIdeal.nD Cert.FlatKIdeal.τ).loc Cert.FlatKIdeal.main_arg3) = m ((c.tc : Thread Cert.FlatKIdeal.nD Cert.FlatKIdeal.τ).loc Cert.FlatKIdeal.main_arg3))
      ∧ θ_run (Cert.FlatRIdeal.defs (F := Ideal)) (onTc (τ := Cert.FlatRIdeal.τ) (Cert.FlatRIdeal.main (F := Ideal))) ⟨m', fun _ => 0, g'⟩ (fun r => ∀ c : Dev Cert.FlatRIdeal.nD,
          r.2.mem ((c.tc : Thread Cert.FlatRIdeal.nD Cert.FlatRIdeal.τ).loc Cert.FlatRIdeal.main_v23) = v0 c
          ∧ r.2.mem ((c.tc : Thread Cert.FlatRIdeal.nD Cert.FlatRIdeal.τ).loc Cert.FlatRIdeal.main_v4) = v1 c
          ∧ r.2.mem ((c.tc : Thread Cert.FlatRIdeal.nD Cert.FlatRIdeal.τ).loc Cert.FlatRIdeal.main_v10) = v2 c
          ∧ r.2.mem ((c.tc : Thread Cert.FlatRIdeal.nD Cert.FlatRIdeal.τ).loc Cert.FlatRIdeal.main_arg0) = m' ((c.tc : Thread Cert.FlatRIdeal.nD Cert.FlatRIdeal.τ).loc Cert.FlatRIdeal.main_arg0)
          ∧ r.2.mem ((c.tc : Thread Cert.FlatRIdeal.nD Cert.FlatRIdeal.τ).loc Cert.FlatRIdeal.main_arg1) = m' ((c.tc : Thread Cert.FlatRIdeal.nD Cert.FlatRIdeal.τ).loc Cert.FlatRIdeal.main_arg1)
          ∧ r.2.mem ((c.tc : Thread Cert.FlatRIdeal.nD Cert.FlatRIdeal.τ).loc Cert.FlatRIdeal.main_arg2) = m' ((c.tc : Thread Cert.FlatRIdeal.nD Cert.FlatRIdeal.τ).loc Cert.FlatRIdeal.main_arg2)
          ∧ r.2.mem ((c.tc : Thread Cert.FlatRIdeal.nD Cert.FlatRIdeal.τ).loc Cert.FlatRIdeal.main_arg3) = m' ((c.tc : Thread Cert.FlatRIdeal.nD Cert.FlatRIdeal.τ).loc Cert.FlatRIdeal.main_arg3))

def Claim : Prop :=
  ∃ (hLossK : Cert.LossK.Facts) (hLossKIdeal : Cert.LossKIdeal.Facts) (hLossRIdeal : Cert.LossRIdeal.Facts) (hMlaK : Cert.MlaK.Facts) (hMlaKIdeal : Cert.MlaKIdeal.Facts) (hMlaRIdeal : Cert.MlaRIdeal.Facts) (hNormK : Cert.NormK.Facts) (hNormKIdeal : Cert.NormKIdeal.Facts) (hNormRIdeal : Cert.NormRIdeal.Facts) (hQnormK : Cert.QnormK.Facts) (hQnormKIdeal : Cert.QnormKIdeal.Facts) (hQnormRIdeal : Cert.QnormRIdeal.Facts) (hMixK : Cert.MixK.Facts) (hMixKIdeal : Cert.MixKIdeal.Facts) (hMixRIdeal : Cert.MixRIdeal.Facts) (hFeedK : Cert.FeedK.Facts) (hFeedKIdeal : Cert.FeedKIdeal.Facts) (hFeedRIdeal : Cert.FeedRIdeal.Facts) (hFnormK : Cert.FnormK.Facts) (hFnormKIdeal : Cert.FnormKIdeal.Facts) (hFnormRIdeal : Cert.FnormRIdeal.Facts) (hGeluK : Cert.GeluK.Facts) (hGeluKIdeal : Cert.GeluKIdeal.Facts) (hGeluRIdeal : Cert.GeluRIdeal.Facts) (hGeluR : Cert.GeluR.Facts) (hRopeK : Cert.RopeK.Facts) (hRopeKIdeal : Cert.RopeKIdeal.Facts) (hRopeRIdeal : Cert.RopeRIdeal.Facts) (hConvK : Cert.ConvK.Facts) (hConvKIdeal : Cert.ConvKIdeal.Facts) (hConvRIdeal : Cert.ConvRIdeal.Facts) (hGateK : Cert.GateK.Facts) (hGateKIdeal : Cert.GateKIdeal.Facts) (hGateRIdeal : Cert.GateRIdeal.Facts) (hYfwdK : Cert.YfwdK.Facts) (hYfwdKIdeal : Cert.YfwdKIdeal.Facts) (hYfwdRIdeal : Cert.YfwdRIdeal.Facts) (hGluK : Cert.GluK.Facts) (hGluKIdeal : Cert.GluKIdeal.Facts) (hGluRIdeal : Cert.GluRIdeal.Facts) (hRotK : Cert.RotK.Facts) (hRotKIdeal : Cert.RotKIdeal.Facts) (hRotRIdeal : Cert.RotRIdeal.Facts) (hAdamK : Cert.AdamK.Facts) (hAdamKIdeal : Cert.AdamKIdeal.Facts) (hAdamRIdeal : Cert.AdamRIdeal.Facts) (hUpK : Cert.UpK.Facts) (hUpKIdeal : Cert.UpKIdeal.Facts) (hUpRIdeal : Cert.UpRIdeal.Facts) (hDownK : Cert.DownK.Facts) (hDownKIdeal : Cert.DownKIdeal.Facts) (hDownRIdeal : Cert.DownRIdeal.Facts) (hTnK : Cert.TnK.Facts) (hTnKIdeal : Cert.TnKIdeal.Facts) (hTnRIdeal : Cert.TnRIdeal.Facts) (hNtK : Cert.NtK.Facts) (hNtKIdeal : Cert.NtKIdeal.Facts) (hNtRIdeal : Cert.NtRIdeal.Facts) (hSumK : Cert.SumK.Facts) (hSumKIdeal : Cert.SumKIdeal.Facts) (hSumRIdeal : Cert.SumRIdeal.Facts) (hFlatK : Cert.FlatK.Facts) (hFlatKIdeal : Cert.FlatKIdeal.Facts) (hFlatRIdeal : Cert.FlatRIdeal.Facts) (hPre_loss_finite : Cert.Pre_loss_finite.Facts) (hPre_mla_finite : Cert.Pre_mla_finite.Facts) (hPre_norm_finite : Cert.Pre_norm_finite.Facts) (hPre_qnorm_finite : Cert.Pre_qnorm_finite.Facts) (hPre_gelu_finite : Cert.Pre_gelu_finite.Facts) (hPre_conv_finite : Cert.Pre_conv_finite.Facts),
    quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_MlaK (hMlaK := hMlaK)
    ∧ quiescent_MlaKIdeal (hMlaKIdeal := hMlaKIdeal)
    ∧ quiescent_MlaKIdeal_pre_mla_finite (hMlaKIdeal := hMlaKIdeal) (hPre_mla_finite := hPre_mla_finite)
    ∧ quiescent_MlaRIdeal (hMlaRIdeal := hMlaRIdeal)
    ∧ quiescent_MlaRIdeal_pre_mla_finite (hMlaRIdeal := hMlaRIdeal) (hPre_mla_finite := hPre_mla_finite)
    ∧ quiescent_NormK (hNormK := hNormK)
    ∧ quiescent_NormKIdeal (hNormKIdeal := hNormKIdeal)
    ∧ quiescent_NormKIdeal_pre_norm_finite (hNormKIdeal := hNormKIdeal) (hPre_norm_finite := hPre_norm_finite)
    ∧ quiescent_NormRIdeal (hNormRIdeal := hNormRIdeal)
    ∧ quiescent_NormRIdeal_pre_norm_finite (hNormRIdeal := hNormRIdeal) (hPre_norm_finite := hPre_norm_finite)
    ∧ quiescent_QnormK (hQnormK := hQnormK)
    ∧ quiescent_QnormKIdeal (hQnormKIdeal := hQnormKIdeal)
    ∧ quiescent_QnormKIdeal_pre_qnorm_finite (hQnormKIdeal := hQnormKIdeal) (hPre_qnorm_finite := hPre_qnorm_finite)
    ∧ quiescent_QnormRIdeal (hQnormRIdeal := hQnormRIdeal)
    ∧ quiescent_QnormRIdeal_pre_qnorm_finite (hQnormRIdeal := hQnormRIdeal) (hPre_qnorm_finite := hPre_qnorm_finite)
    ∧ quiescent_MixK (hMixK := hMixK)
    ∧ quiescent_MixKIdeal (hMixKIdeal := hMixKIdeal)
    ∧ quiescent_MixRIdeal (hMixRIdeal := hMixRIdeal)
    ∧ quiescent_FeedK (hFeedK := hFeedK)
    ∧ quiescent_FeedKIdeal (hFeedKIdeal := hFeedKIdeal)
    ∧ quiescent_FeedRIdeal (hFeedRIdeal := hFeedRIdeal)
    ∧ quiescent_FnormK (hFnormK := hFnormK)
    ∧ quiescent_FnormKIdeal (hFnormKIdeal := hFnormKIdeal)
    ∧ quiescent_FnormRIdeal (hFnormRIdeal := hFnormRIdeal)
    ∧ quiescent_GeluK (hGeluK := hGeluK)
    ∧ quiescent_GeluKIdeal (hGeluKIdeal := hGeluKIdeal)
    ∧ quiescent_GeluKIdeal_pre_gelu_finite (hGeluKIdeal := hGeluKIdeal) (hPre_gelu_finite := hPre_gelu_finite)
    ∧ quiescent_GeluRIdeal (hGeluRIdeal := hGeluRIdeal)
    ∧ quiescent_GeluRIdeal_pre_gelu_finite (hGeluRIdeal := hGeluRIdeal) (hPre_gelu_finite := hPre_gelu_finite)
    ∧ quiescent_GeluR (hGeluR := hGeluR)
    ∧ quiescent_RopeK (hRopeK := hRopeK)
    ∧ quiescent_RopeKIdeal (hRopeKIdeal := hRopeKIdeal)
    ∧ quiescent_RopeRIdeal (hRopeRIdeal := hRopeRIdeal)
    ∧ quiescent_ConvK (hConvK := hConvK)
    ∧ quiescent_ConvKIdeal (hConvKIdeal := hConvKIdeal)
    ∧ quiescent_ConvKIdeal_pre_conv_finite (hConvKIdeal := hConvKIdeal) (hPre_conv_finite := hPre_conv_finite)
    ∧ quiescent_ConvRIdeal (hConvRIdeal := hConvRIdeal)
    ∧ quiescent_ConvRIdeal_pre_conv_finite (hConvRIdeal := hConvRIdeal) (hPre_conv_finite := hPre_conv_finite)
    ∧ quiescent_GateK (hGateK := hGateK)
    ∧ quiescent_GateKIdeal (hGateKIdeal := hGateKIdeal)
    ∧ quiescent_GateRIdeal (hGateRIdeal := hGateRIdeal)
    ∧ quiescent_YfwdK (hYfwdK := hYfwdK)
    ∧ quiescent_YfwdKIdeal (hYfwdKIdeal := hYfwdKIdeal)
    ∧ quiescent_YfwdRIdeal (hYfwdRIdeal := hYfwdRIdeal)
    ∧ quiescent_GluK (hGluK := hGluK)
    ∧ quiescent_GluKIdeal (hGluKIdeal := hGluKIdeal)
    ∧ quiescent_GluRIdeal (hGluRIdeal := hGluRIdeal)
    ∧ quiescent_RotK (hRotK := hRotK)
    ∧ quiescent_RotKIdeal (hRotKIdeal := hRotKIdeal)
    ∧ quiescent_RotRIdeal (hRotRIdeal := hRotRIdeal)
    ∧ quiescent_AdamK (hAdamK := hAdamK)
    ∧ quiescent_AdamKIdeal (hAdamKIdeal := hAdamKIdeal)
    ∧ quiescent_AdamRIdeal (hAdamRIdeal := hAdamRIdeal)
    ∧ quiescent_UpK (hUpK := hUpK)
    ∧ quiescent_UpKIdeal (hUpKIdeal := hUpKIdeal)
    ∧ quiescent_UpRIdeal (hUpRIdeal := hUpRIdeal)
    ∧ quiescent_DownK (hDownK := hDownK)
    ∧ quiescent_DownKIdeal (hDownKIdeal := hDownKIdeal)
    ∧ quiescent_DownRIdeal (hDownRIdeal := hDownRIdeal)
    ∧ quiescent_TnK (hTnK := hTnK)
    ∧ quiescent_TnKIdeal (hTnKIdeal := hTnKIdeal)
    ∧ quiescent_TnRIdeal (hTnRIdeal := hTnRIdeal)
    ∧ quiescent_NtK (hNtK := hNtK)
    ∧ quiescent_NtKIdeal (hNtKIdeal := hNtKIdeal)
    ∧ quiescent_NtRIdeal (hNtRIdeal := hNtRIdeal)
    ∧ quiescent_SumK (hSumK := hSumK)
    ∧ quiescent_SumKIdeal (hSumKIdeal := hSumKIdeal)
    ∧ quiescent_SumRIdeal (hSumRIdeal := hSumRIdeal)
    ∧ quiescent_FlatK (hFlatK := hFlatK)
    ∧ quiescent_FlatKIdeal (hFlatKIdeal := hFlatKIdeal)
    ∧ quiescent_FlatRIdeal (hFlatRIdeal := hFlatRIdeal)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_MlaK_MlaKIdeal
    ∧ algebraic_MlaKIdeal_MlaRIdeal_pre_mla_finite (hMlaKIdeal := hMlaKIdeal) (hMlaRIdeal := hMlaRIdeal) (hPre_mla_finite := hPre_mla_finite)
    ∧ preserves_NormK_NormKIdeal
    ∧ algebraic_NormKIdeal_NormRIdeal_pre_norm_finite (hNormKIdeal := hNormKIdeal) (hNormRIdeal := hNormRIdeal) (hPre_norm_finite := hPre_norm_finite)
    ∧ preserves_QnormK_QnormKIdeal
    ∧ algebraic_QnormKIdeal_QnormRIdeal_pre_qnorm_finite (hQnormKIdeal := hQnormKIdeal) (hQnormRIdeal := hQnormRIdeal) (hPre_qnorm_finite := hPre_qnorm_finite)
    ∧ preserves_MixK_MixKIdeal
    ∧ algebraic_MixKIdeal_MixRIdeal (hMixKIdeal := hMixKIdeal) (hMixRIdeal := hMixRIdeal)
    ∧ preserves_FeedK_FeedKIdeal
    ∧ algebraic_FeedKIdeal_FeedRIdeal (hFeedKIdeal := hFeedKIdeal) (hFeedRIdeal := hFeedRIdeal)
    ∧ preserves_FnormK_FnormKIdeal
    ∧ algebraic_FnormKIdeal_FnormRIdeal (hFnormKIdeal := hFnormKIdeal) (hFnormRIdeal := hFnormRIdeal)
    ∧ preserves_GeluK_GeluKIdeal
    ∧ preserves_GeluR_GeluRIdeal
    ∧ algebraic_GeluKIdeal_GeluRIdeal_pre_gelu_finite (hGeluKIdeal := hGeluKIdeal) (hGeluRIdeal := hGeluRIdeal) (hPre_gelu_finite := hPre_gelu_finite)
    ∧ preserves_RopeK_RopeKIdeal
    ∧ algebraic_RopeKIdeal_RopeRIdeal (hRopeKIdeal := hRopeKIdeal) (hRopeRIdeal := hRopeRIdeal)
    ∧ preserves_ConvK_ConvKIdeal
    ∧ algebraic_ConvKIdeal_ConvRIdeal_pre_conv_finite (hConvKIdeal := hConvKIdeal) (hConvRIdeal := hConvRIdeal) (hPre_conv_finite := hPre_conv_finite)
    ∧ preserves_GateK_GateKIdeal
    ∧ algebraic_GateKIdeal_GateRIdeal (hGateKIdeal := hGateKIdeal) (hGateRIdeal := hGateRIdeal)
    ∧ preserves_YfwdK_YfwdKIdeal
    ∧ algebraic_YfwdKIdeal_YfwdRIdeal (hYfwdKIdeal := hYfwdKIdeal) (hYfwdRIdeal := hYfwdRIdeal)
    ∧ preserves_GluK_GluKIdeal
    ∧ algebraic_GluKIdeal_GluRIdeal (hGluKIdeal := hGluKIdeal) (hGluRIdeal := hGluRIdeal)
    ∧ preserves_RotK_RotKIdeal
    ∧ algebraic_RotKIdeal_RotRIdeal (hRotKIdeal := hRotKIdeal) (hRotRIdeal := hRotRIdeal)
    ∧ preserves_AdamK_AdamKIdeal
    ∧ algebraic_AdamKIdeal_AdamRIdeal (hAdamKIdeal := hAdamKIdeal) (hAdamRIdeal := hAdamRIdeal)
    ∧ preserves_UpK_UpKIdeal
    ∧ algebraic_UpKIdeal_UpRIdeal (hUpKIdeal := hUpKIdeal) (hUpRIdeal := hUpRIdeal)
    ∧ preserves_DownK_DownKIdeal
    ∧ algebraic_DownKIdeal_DownRIdeal (hDownKIdeal := hDownKIdeal) (hDownRIdeal := hDownRIdeal)
    ∧ preserves_TnK_TnKIdeal
    ∧ algebraic_TnKIdeal_TnRIdeal (hTnKIdeal := hTnKIdeal) (hTnRIdeal := hTnRIdeal)
    ∧ preserves_NtK_NtKIdeal
    ∧ algebraic_NtKIdeal_NtRIdeal (hNtKIdeal := hNtKIdeal) (hNtRIdeal := hNtRIdeal)
    ∧ preserves_SumK_SumKIdeal
    ∧ algebraic_SumKIdeal_SumRIdeal (hSumKIdeal := hSumKIdeal) (hSumRIdeal := hSumRIdeal)
    ∧ preserves_FlatK_FlatKIdeal
    ∧ algebraic_FlatKIdeal_FlatRIdeal (hFlatKIdeal := hFlatKIdeal) (hFlatRIdeal := hFlatRIdeal)
-- ==== Pre_conv_finite.lean ====
abbrev S2x8192x5632 : Shape := ⟨3, ![2, 8192, 5632]⟩
abbrev S2x3x5632 : Shape := ⟨3, ![2, 3, 5632]⟩
abbrev S2x1x5632 : Shape := ⟨3, ![2, 1, 5632]⟩
abbrev S8192x5632 : Shape := ⟨2, ![8192, 5632]⟩
abbrev S_ : Shape := ⟨0, ![]⟩

class Facts : Prop where
  bcast_S_S2x8192x5632 : S_.BroadcastsInDim S2x8192x5632 (![] : Fin 0 → Fin S2x8192x5632.rank)
  bcast_S_S2x3x5632 : S_.BroadcastsInDim S2x3x5632 (![] : Fin 0 → Fin S2x3x5632.rank)
  bcast_S_S2x1x5632 : S_.BroadcastsInDim S2x1x5632 (![] : Fin 0 → Fin S2x1x5632.rank)
  bcast_S_S8192x5632 : S_.BroadcastsInDim S8192x5632 (![] : Fin 0 → Fin S8192x5632.rank)

variable [Facts]

def fn {F : FTy → Type} [FloatOps F] (main_arg0 : FVec F S2x8192x5632 .f32) (main_arg1 : FVec F S2x3x5632 .f32) (main_arg2 : FVec F S2x1x5632 .f32) (main_arg3 : FVec F S8192x5632 .f32) : IVec S2x8192x5632 1 × IVec S2x3x5632 1 × IVec S2x1x5632 1 × IVec S8192x5632 1 :=
  let main_v0 : FVec F S2x8192x5632 .f32 := Host.absf main_arg0
  let main_cst : FVec F S_ .f32 := constant S_ .f32 0x7F800000#32
  let main_v1 : FVec F S2x8192x5632 .f32 := broadcastInDim S2x8192x5632 ![] bcast_S_S2x8192x5632 main_cst
  let main_v2 : IVec S2x8192x5632 1 := cmpf .olt main_v0 main_v1
  let main_v3 : FVec F S2x3x5632 .f32 := Host.absf main_arg1
  let main_cst_0 : FVec F S_ .f32 := constant S_ .f32 0x7F800000#32
  let main_v4 : FVec F S2x3x5632 .f32 := broadcastInDim S2x3x5632 ![] bcast_S_S2x3x5632 main_cst_0
  let main_v5 : IVec S2x3x5632 1 := cmpf .olt main_v3 main_v4
  let main_v6 : FVec F S2x1x5632 .f32 := Host.absf main_arg2
  let main_cst_1 : FVec F S_ .f32 := constant S_ .f32 0x7F800000#32
  let main_v7 : FVec F S2x1x5632 .f32 := broadcastInDim S2x1x5632 ![] bcast_S_S2x1x5632 main_cst_1
  let main_v8 : IVec S2x1x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  (main_v2, main_v5, main_v8, main_v11)
-- ==== Pre_gelu_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S1x2048 .f32) : IVec S8192x2048 1 × IVec S8192x2048 1 × IVec S8192x2048 1 × IVec S8192x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_loss_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S1x2048 .f32) (main_arg2 : FVec F S8192x2048 .f32) : IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_mla_finite.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bitsLt_bf16_f32 : FTy.bits .bf16 < FTy.bits .f32
  bcast_S_S8192x64 : S_.BroadcastsInDim S8192x64 (![] : Fin 0 → Fin S8192x64.rank)
  bcast_S_S8192x2048 : S_.BroadcastsInDim S8192x2048 (![] : Fin 0 → Fin S8192x2048.rank)

variable [Facts]

def fn_part1 {F : FTy → Type} [FloatOps F] (main_v2 : IVec S8192x16x128 1) (main_v5 : IVec S8192x16x64 1) (main_v9 : IVec S8192x16x128 1) (main_v13 : IVec S8192x64 1) (main_v17 : IVec S8192x16x128 1) (main_v18 : FVec F S8192x2048 .f32) : IVec S8192x16x128 1 × IVec S8192x16x64 1 × IVec S8192x16x128 1 × IVec S8192x64 1 × IVec S8192x16x128 1 × IVec S8192x2048 1 :=
  let main_v19 : FVec F S8192x2048 .f32 := Host.absf main_v18
  let main_cst_4 : FVec F S_ .f32 := constant S_ .f32 0x7F800000#32
  let main_v20 : FVec F S8192x2048 .f32 := broadcastInDim S8192x2048 ![] bcast_S_S8192x2048 main_cst_4
  let main_v21 : IVec S8192x2048 1 := cmpf .olt main_v19 main_v20
  (main_v2, main_v5, main_v9, main_v13, main_v17, main_v21)

def fn {F : FTy → Type} [FloatOps F] (main_arg0 : FVec F S8192x16x128 .f32) (main_arg1 : FVec F S8192x16x64 .f32) (main_arg2 : FVec F S8192x16x128 .bf16) (main_arg3 : FVec F S8192x64 .bf16) (main_arg4 : FVec F S8192x16x128 .bf16) (main_arg5 : FVec F S8192x2048 .bf16) : IVec S8192x16x128 1 × IVec S8192x16x64 1 × IVec S8192x16x128 1 × IVec S8192x64 1 × IVec S8192x16x128 1 × IVec S8192x2048 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := (extf .f32 · bitsLt_bf16_f32) main_arg2
  let main_v7 : FVec F S8192x16x128 .f32 := Host.absf main_v6
  let main_cst_1 : FVec F S_ .f32 := constant S_ .f32 0x7F800000#32
  let main_v8 : FVec F S8192x16x128 .f32 := broadcastInDim S8192x16x128 ![] bcast_S_S8192x16x128 main_cst_1
  let main_v9 : IVec S8192x16x128 1 := cmpf .olt main_v7 main_v8
  let main_v10 : FVec F S8192x64 .f32 := (extf .f32 · bitsLt_bf16_f32) main_arg3
  let main_v11 : FVec F S8192x64 .f32 := Host.absf main_v10
  let main_cst_2 : FVec F S_ .f32 := constant S_ .f32 0x7F800000#32
  let main_v12 : FVec F S8192x64 .f32 := broadcastInDim S8192x64 ![] bcast_S_S8192x64 main_cst_2
  let main_v13 : IVec S8192x64 1 := cmpf .olt main_v11 main_v12
  let main_v14 : FVec F S8192x16x128 .f32 := (extf .f32 · bitsLt_bf16_f32) main_arg4
  let main_v15 : FVec F S8192x16x128 .f32 := Host.absf main_v14
  let main_cst_3 : FVec F S_ .f32 := constant S_ .f32 0x7F800000#32
  let main_v16 : FVec F S8192x16x128 .f32 := broadcastInDim S8192x16x128 ![] bcast_S_S8192x16x128 main_cst_3
  let main_v17 : IVec S8192x16x128 1 := cmpf .olt main_v15 main_v16
  let main_v18 : FVec F S8192x2048 .f32 := (extf .f32 · bitsLt_bf16_f32) main_arg5
  fn_part1 (F := F) main_v2 main_v5 main_v9 main_v13 main_v17 main_v18
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S1x2048 .f32) (main_arg2 : FVec F S8192x2048 .f32) (main_arg3 : FVec F S8192x2048 .f32) : IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_qnorm_finite.lean ====
abbrev S8192x512 : Shape := ⟨2, ![8192, 512]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x512 .f32) (main_arg1 : FVec F S1x512 .f32) (main_arg2 : FVec F S8192x512 .f32) : IVec S8192x512 1 × IVec S1x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== LossK.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x128, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_17 : BitVec 32 := 0#32
  let v47 : BitVec 1 := Scalar.cmpi .ne v46 c0_i32_17
  v47

def k0_cond2 (i : grid0.Coords) : BitVec 1 :=
  let arg0 : BitVec 32 := BitVec.ofNat 32 (i 0).val
  let c0_i32_18 : BitVec 32 := 0#32
  let v48 : BitVec 1 := Scalar.cmpi .sgt arg0 c0_i32_18
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== MlaK.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S_ : Shape := ⟨0, ![]⟩
abbrev S8192x16x192 : Shape := ⟨3, ![8192, 16, 192]⟩
abbrev S16x8192x192 : Shape := ⟨3, ![16, 8192, 192]⟩
abbrev S8192x1x64 : Shape := ⟨3, ![8192, 1, 64]⟩
abbrev S16x8192x128 : Shape := ⟨3, ![16, 8192, 128]⟩
abbrev S16x8192x1 : Shape := ⟨3, ![16, 8192, 1]⟩
abbrev S1x1024x192 : Shape := ⟨3, ![1, 1024, 192]⟩
abbrev S1x8192x192 : Shape := ⟨3, ![1, 8192, 192]⟩
abbrev S1x8192x128 : Shape := ⟨3, ![1, 8192, 128]⟩
abbrev S1x1024x128 : Shape := ⟨3, ![1, 1024, 128]⟩
abbrev S1x1024x1 : Shape := ⟨3, ![1, 1024, 1]⟩
abbrev S1024x128 : Shape := ⟨2, ![1024, 128]⟩
abbrev S1024x192 : Shape := ⟨2, ![1024, 192]⟩
abbrev S1x512x192 : Shape := ⟨3, ![1, 512, 192]⟩
abbrev S512x192 : Shape := ⟨2, ![512, 192]⟩
abbrev S1024x512 : Shape := ⟨2, ![1024, 512]⟩
abbrev S1024 : Shape := ⟨1, ![1024]⟩
abbrev S1024x1 : Shape := ⟨2, ![1024, 1]⟩
abbrev S1x512x128 : Shape := ⟨3, ![1, 512, 128]⟩
abbrev S512x128 : Shape := ⟨2, ![512, 128]⟩
abbrev S16x1x8192 : Shape := ⟨3, ![16, 1, 8192]⟩
abbrev S1x1x8192 : Shape := ⟨3, ![1, 1, 8192]⟩
abbrev S8192x192 : Shape := ⟨2, ![8192, 192]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 44
  | .vmem => 39
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .bf16⟩
  | .hbm, ⟨3, _⟩ => ⟨S8192x64, .bf16⟩
  | .hbm, ⟨4, _⟩ => ⟨S8192x16x128, .bf16⟩
  | .hbm, ⟨5, _⟩ => ⟨S8192x2048, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x16x128, .f32⟩
  | .hbm, ⟨11, _⟩ => ⟨S8192x16x128, .f32⟩
  | .hbm, ⟨12, _⟩ => ⟨S8192x16x128, .bf16⟩
  | .hbm, ⟨13, _⟩ => ⟨S8192x16x64, .f32⟩
  | .hbm, ⟨14, _⟩ => ⟨S8192x16x64, .f32⟩
  | .hbm, ⟨15, _⟩ => ⟨S8192x16x64, .bf16⟩
  | .hbm, ⟨16, _⟩ => ⟨S8192x16x192, .bf16⟩
  | .hbm, ⟨17, _⟩ => ⟨S16x8192x192, .bf16⟩
  | .hbm, ⟨18, _⟩ => ⟨S8192x1x64, .bf16⟩
  | .hbm, ⟨19, _⟩ => ⟨S8192x16x64, .bf16⟩
  | .hbm, ⟨20, _⟩ => ⟨S8192x16x192, .bf16⟩
  | .hbm, ⟨21, _⟩ => ⟨S16x8192x192, .bf16⟩
  | .hbm, ⟨22, _⟩ => ⟨S16x8192x128, .bf16⟩
  | .hbm, ⟨23, _⟩ => ⟨S16x8192x128, .bf16⟩
  | .hbm, ⟨24, _⟩ => ⟨S16x8192x1, .f32⟩
  | .hbm, ⟨25, _⟩ => ⟨S8192x16x128, .bf16⟩
  | .hbm, ⟨26, _⟩ => ⟨S8192x2048, .bf16⟩
  | .hbm, ⟨27, _⟩ => ⟨S8192x16x128, .bf16⟩
  | .hbm, ⟨28, _⟩ => ⟨S16x8192x128, .bf16⟩
  | .hbm, ⟨29, _⟩ => ⟨S16x8192x1, .f32⟩
  | .hbm, ⟨30, _⟩ => ⟨S16x1x8192, .f32⟩
  | .hbm, ⟨31, _⟩ => ⟨S16x1x8192, .f32⟩
  | .hbm, ⟨32, _⟩ => ⟨S16x8192x192, .f32⟩
  | .hbm, ⟨33, _⟩ => ⟨S16x8192x192, .f32⟩
  | .hbm, ⟨34, _⟩ => ⟨S16x8192x128, .bf16⟩
  | .hbm, ⟨35, _⟩ => ⟨S8192x16x192, .f32⟩
  | .hbm, ⟨36, _⟩ => ⟨S8192x16x192, .f32⟩
  | .hbm, ⟨37, _⟩ => ⟨S8192x16x64, .f32⟩
  | .hbm, ⟨38, _⟩ => ⟨S_, .f32⟩
  | .hbm, ⟨39, _⟩ => ⟨S8192x64, .f32⟩
  | .hbm, ⟨40, _⟩ => ⟨S8192x16x128, .f32⟩
  | .hbm, ⟨41, _⟩ => ⟨S8192x16x64, .f32⟩
  | .hbm, ⟨42, _⟩ => ⟨S8192x16x128, .f32⟩
  | .hbm, ⟨43, _⟩ => ⟨S8192x16x128, .bf16⟩
  | .local _ .vmem, ⟨0, _⟩ => ⟨S1x1024x192, .bf16⟩
  | .local _ .vmem, ⟨1, _⟩ => ⟨S1x1024x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x1, .f32⟩
  | .local _ .vmem, ⟨18, _⟩ => ⟨S1x1024x1, .f32⟩
  | .local _ .vmem, ⟨19, _⟩ => ⟨S1x8192x192, .bf16⟩
  | .local _ .vmem, ⟨20, _⟩ => ⟨S1x8192x192, .bf16⟩
  | .local _ .vmem, ⟨21, _⟩ => ⟨S1x512x192, .bf16⟩
  | .local _ .vmem, ⟨22, _⟩ => ⟨S1x512x192, .bf16⟩
  | .local _ .vmem, ⟨23, _⟩ => ⟨S1x512x128, .bf16⟩
  | .local _ .vmem, ⟨24, _⟩ => ⟨S1x512x128, .bf16⟩
  | .local _ .vmem, ⟨25, _⟩ => ⟨S1x8192x128, .bf16⟩
  | .local _ .vmem, ⟨26, _⟩ => ⟨S1x8192x128, .bf16⟩
  | .local _ .vmem, ⟨27, _⟩ => ⟨S1x1x8192, .f32⟩
  | .local _ .vmem, ⟨28, _⟩ => ⟨S1x1x8192, .f32⟩
  | .local _ .vmem, ⟨29, _⟩ => ⟨S1x1x8192, .f32⟩
  | .local _ .vmem, ⟨30, _⟩ => ⟨S1x1x8192, .f32⟩
  | .local _ .vmem, ⟨31, _⟩ => ⟨S1x8192x192, .f32⟩
  | .local _ .vmem, ⟨32, _⟩ => ⟨S1x8192x192, .f32⟩
  | .local _ .vmem, ⟨33, _⟩ => ⟨S1x512x192, .f32⟩
  | .local _ .vmem, ⟨34, _⟩ => ⟨S1x512x192, .f32⟩
  | .local _ .vmem, ⟨35, _⟩ => ⟨S1x512x128, .bf16⟩
  | .local _ .vmem, ⟨36, _⟩ => ⟨S1x512x128, .bf16⟩
  | .local _ .vmem, ⟨37, _⟩ => ⟨S512x192, .f32⟩
  | .local _ .vmem, ⟨38, _⟩ => ⟨S512x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_scratch0 : Ref sig .tc := ⟨.vmem, 37, rfl⟩
abbrev cc2_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v29 : BitVec 32 := Scalar.muli arg10 c512_i32
  v29
def k0_off1 (k0_t1 : Fin k0_t1_loop.trips) : Fin 3 → Nat :=
  let c0_24 : Index := 0#32
  let c0_i32 : BitVec 32 := 0#32
  let c1_i32 : BitVec 32 := 1#32
  let arg10 : BitVec 32 := Scf.iv c0_i32 c1_i32 k0_t1
  let c512_i32 : BitVec 32 := 512#32
  let v29 : BitVec 32 := Scalar.muli arg10 c512_i32
  let v30 : BitVec 32 := v29
  let v33 : Index := Scalar.indexCast v30
  let c0_25 : Index := 0#32
  ![0, v33.toNat, 0]
def k0_off2 (k0_t1 : Fin k0_t1_loop.trips) : Fin 3 → Nat :=
  let c0_37 : Index := 0#32
  let c0_i32 : BitVec 32 := 0#32
  let c1_i32 : BitVec 32 := 1#32
  let arg10 : BitVec 32 := Scf.iv c0_i32 c1_i32 k0_t1
  let c512_i32 : BitVec 32 := 512#32
  let v29 : BitVec 32 := Scalar.muli arg10 c512_i32
  let v30 : BitVec 32 := v29
  let v59 : Index := Scalar.indexCast v30
  let c0_38 : Index := 0#32
  ![0, v59.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 16], ![false, false]⟩

@[reducible] def k2_t1_loop : Scf.Loop 32 :=
  let c0_i32_11 : BitVec 32 := 0#32
  let c8_i32 : BitVec 32 := 8#32
  let v15 : BitVec 32 := Scalar.addi c0_i32_11 c8_i32
  let c1_i32 : BitVec 32 := 1#32
  ⟨c0_i32_11, v15, c1_i32⟩
def k2_mult1 (k2_t1 : Fin k2_t1_loop.trips) : BitVec 32 :=
  let c0_i32_11 : BitVec 32 := 0#32
  let c1_i32 : BitVec 32 := 1#32
  let arg13 : BitVec 32 := Scf.iv c0_i32_11 c1_i32 k2_t1
  let c1024_i32 : BitVec 32 := 1024#32
  let v30 : BitVec 32 := Scalar.muli arg13 c1024_i32
  v30
def k2_off1 (k2_t1 : Fin k2_t1_loop.trips) : Fin 3 → Nat :=
  let c0_25 : Index := 0#32
  let c0_i32_11 : BitVec 32 := 0#32
  let c1_i32 : BitVec 32 := 1#32
  let arg13 : BitVec 32 := Scf.iv c0_i32_11 c1_i32 k2_t1
  let c1024_i32 : BitVec 32 := 1024#32
  let v30 : BitVec 32 := Scalar.muli arg13 c1024_i32
  let v31 : BitVec 32 := v30
  let v32 : Index := Scalar.indexCast v31
  let c0_26 : Index := 0#32
  ![0, v32.toNat, 0]
def k2_off2 (k2_t1 : Fin k2_t1_loop.trips) : Fin 3 → Nat :=
  let c0_27 : Index := 0#32
  let c0_i32_11 : BitVec 32 := 0#32
  let c1_i32 : BitVec 32 := 1#32
  let arg13 : BitVec 32 := Scf.iv c0_i32_11 c1_i32 k2_t1
  let c1024_i32 : BitVec 32 := 1024#32
  let v30 : BitVec 32 := Scalar.muli arg13 c1024_i32
  let v31 : BitVec 32 := v30
  let v35 : Index := Scalar.indexCast v31
  let c0_28 : Index := 0#32
  ![0, v35.toNat, 0]
def k2_off3 (k2_t1 : Fin k2_t1_loop.trips) : Fin 3 → Nat :=
  let c0_30 : Index := 0#32
  let c0_31 : Index := 0#32
  let c0_i32_11 : BitVec 32 := 0#32
  let c1_i32 : BitVec 32 := 1#32
  let arg13 : BitVec 32 := Scf.iv c0_i32_11 c1_i32 k2_t1
  let c1024_i32 : BitVec 32 := 1024#32
  let v30 : BitVec 32 := Scalar.muli arg13 c1024_i32
  let v31 : BitVec 32 := v30
  let v39 : Index := Scalar.indexCast v31
  ![0, 0, v39.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8192x192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x8192x192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x512x192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== MlaKIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== MlaRIdeal.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S16x8192x8192 : Shape := ⟨3, ![16, 8192, 8192]⟩
abbrev S8192x8192x16 : Shape := ⟨3, ![8192, 8192, 16]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S16x8192x128 : Shape := ⟨3, ![16, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .bf16⟩
  | .hbm, ⟨3, _⟩ => ⟨S8192x64, .bf16⟩
  | .hbm, ⟨4, _⟩ => ⟨S8192x16x128, .bf16⟩
  | .hbm, ⟨5, _⟩ => ⟨S8192x2048, .bf16⟩
  | .hbm, ⟨6, _⟩ => ⟨S8192x16x128, .f32⟩
  | .hbm, ⟨7, _⟩ => ⟨S8192x64, .f32⟩
  | .hbm, ⟨8, _⟩ => ⟨S8192x16x128, .f32⟩
  | .hbm, ⟨9, _⟩ => ⟨S16x8192x8192, .f32⟩
  | .hbm, ⟨10, _⟩ => ⟨S8192x8192x16, .f32⟩
  | .hbm, ⟨11, _⟩ => ⟨S16x8192x8192, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S_, .f32⟩
  | .hbm, ⟨17, _⟩ => ⟨S16x8192, .f32⟩
  | .hbm, ⟨18, _⟩ => ⟨S16x8192x1, .f32⟩
  | .hbm, ⟨19, _⟩ => ⟨S16x8192x8192, .f32⟩
  | .hbm, ⟨20, _⟩ => ⟨S16x8192x8192, .i1⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S_, .f32⟩
  | .hbm, ⟨25, _⟩ => ⟨S16x8192, .f32⟩
  | .hbm, ⟨26, _⟩ => ⟨S16x8192, .f32⟩
  | .hbm, ⟨27, _⟩ => ⟨S_, .f32⟩
  | .hbm, ⟨28, _⟩ => ⟨S16x8192, .f32⟩
  | .hbm, ⟨29, _⟩ => ⟨S16x8192, .i1⟩
  | .hbm, ⟨30, _⟩ => ⟨S_, .f32⟩
  | .hbm, ⟨31, _⟩ => ⟨S16x8192, .f32⟩
  | .hbm, ⟨32, _⟩ => ⟨S16x8192, .i1⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .f32⟩
  | .hbm, ⟨50, _⟩ => ⟨S16x8192x1, .f32⟩
  | .hbm, ⟨51, _⟩ => ⟨S_, .f32⟩
  | .hbm, ⟨52, _⟩ => ⟨S16x8192x1, .f32⟩
  | .hbm, ⟨53, _⟩ => ⟨S16x8192x1, .f32⟩
  | .hbm, ⟨54, _⟩ => ⟨S16x128x8192, .f32⟩
  | .hbm, ⟨55, _⟩ => ⟨S8192x16x128, .f32⟩
  | .hbm, ⟨56, _⟩ => ⟨S8192x2048, .f32⟩
  | .hbm, ⟨57, _⟩ => ⟨S8192x2048, .f32⟩
  | .hbm, ⟨58, _⟩ => ⟨S8192x16x128, .f32⟩
  | .hbm, ⟨59, _⟩ => ⟨S16x128x8192, .f32⟩
  | .hbm, ⟨60, _⟩ => ⟨S16x8192x8192, .f32⟩
  | .hbm, ⟨61, _⟩ => ⟨S16x128x8192, .f32⟩
  | .hbm, ⟨62, _⟩ => ⟨S8192x16x128, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S16x8192, .f32⟩
  | .hbm, ⟨68, _⟩ => ⟨S16x8192x1, .f32⟩
  | .hbm, ⟨69, _⟩ => ⟨S16x8192x1, .f32⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192x8192, .f32⟩
  | .hbm, ⟨79, _⟩ => ⟨S16x8192x8192, .f32⟩
  | .hbm, ⟨80, _⟩ => ⟨S8192x8192x16, .f32⟩
  | .hbm, ⟨81, _⟩ => ⟨S8192x16x64, .f32⟩
  | .hbm, ⟨82, _⟩ => ⟨S8192x64, .f32⟩
  | .hbm, ⟨83, _⟩ => ⟨S16x8192x128, .f32⟩
  | .hbm, ⟨84, _⟩ => ⟨S8192x16x128, .f32⟩
  | .hbm, ⟨85, _⟩ => ⟨S16x8192x128, .f32⟩
  | .hbm, ⟨86, _⟩ => ⟨S8192x16x128, .f32⟩
  | .hbm, ⟨87, _⟩ => ⟨S8192x2048, .bf16⟩
  | .hbm, ⟨88, _⟩ => ⟨S8192x16x128, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== NormK.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== QnormK.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512x512 : Shape := ⟨2, ![512, 512]⟩
abbrev S512x1 : Shape := ⟨2, ![512, 1]⟩
abbrev S512 : Shape := ⟨1, ![512]⟩

abbrev nBuf : Space → Nat
  | .hbm => 16
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_11 : BitVec 32 := 0#32
  let v25 : BitVec 1 := Scalar.cmpi .ne v24 c0_i32_11
  v25

def k0_cond2 (i : grid0.Coords) : BitVec 1 :=
  let arg0 : BitVec 32 := BitVec.ofNat 32 (i 0).val
  let c0_i32_12 : BitVec 32 := 0#32
  let v26 : BitVec 1 := Scalar.cmpi .sgt arg0 c0_i32_12
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== QnormRIdeal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== MixK.lean ====
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_16 : BitVec 32 := 0#32
  let v33 : BitVec 1 := Scalar.cmpi .ne v32 c0_i32_16
  v33

def k0_cond2 (i : grid0.Coords) : BitVec 1 :=
  let arg1 : BitVec 32 := BitVec.ofNat 32 (i 1).val
  let c0_i32_17 : BitVec 32 := 0#32
  let v34 : BitVec 1 := Scalar.cmpi .sgt arg1 c0_i32_17
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixRIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== FeedK.lean ====
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FeedRIdeal.lean ====
abbrev S8192x2048 : Shape := ⟨2, ![8192, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== FnormK.lean ====
abbrev S8192x2048 : Shape := ⟨2, ![8192, 2048]⟩
abbrev S1x2048 : Shape := ⟨2, ![1, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x1, .f32⟩
  | .local _ .vmem, ⟨6, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FnormRIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== GeluK.lean ====
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_18 : BitVec 32 := 0#32
  let v40 : BitVec 1 := Scalar.cmpi .ne v39 c0_i32_18
  v40

def k0_cond2 (i : grid0.Coords) : BitVec 1 :=
  let arg1 : BitVec 32 := BitVec.ofNat 32 (i 1).val
  let c0_i32_19 : BitVec 32 := 0#32
  let v41 : BitVec 1 := Scalar.cmpi .sgt arg1 c0_i32_19
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GeluKIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GeluRIdeal.lean ====
variable {F : FTy → Type} [FloatOps F] [Named F]
def κ : String → Option EReal := fun
  | "gelu_a" => some ((8943 / 200000 : ℝ) : EReal)
  | _ => none
-- ==== GeluR.lean ====
abbrev S8192x2048 : Shape := ⟨2, ![8192, 2048]⟩
abbrev S1x2048 : Shape := ⟨2, ![1, 2048]⟩
abbrev S2048 : Shape := ⟨1, ![2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S8192x2048, .f32⟩
  | .local _ .vmem, ⟨1, _⟩ => ⟨S8192x2048, .f32⟩
  | .local _ .vmem, ⟨2, _⟩ => ⟨S8192x2048, .f32⟩
  | .local _ .vmem, ⟨3, _⟩ => ⟨S8192x2048, .f32⟩
  | .local _ .vmem, ⟨4, _⟩ => ⟨S1x2048, .f32⟩
  | .local _ .vmem, ⟨5, _⟩ => ⟨S8192x2048, .f32⟩
  | .local _ .vmem, ⟨6, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RopeK.lean ====
abbrev S8192x16x64 : Shape := ⟨3, ![8192, 16, 64]⟩
abbrev S8192x64 : Shape := ⟨2, ![8192, 64]⟩
abbrev S8192x32 : Shape := ⟨2, ![8192, 32]⟩
abbrev S1x8192x1x32 : Shape := ⟨4, ![1, 8192, 1, 32]⟩
abbrev S1x8192x17x32 : Shape := ⟨4, ![1, 8192, 17, 32]⟩
abbrev S8192x544 : Shape := ⟨2, ![8192, 544]⟩
abbrev S8192x16x32 : Shape := ⟨3, ![8192, 16, 32]⟩
abbrev S8192x512 : Shape := ⟨2, ![8192, 512]⟩
abbrev S512x544 : Shape := ⟨2, ![512, 544]⟩

abbrev nBuf : Space → Nat
  | .hbm => 29
  | .vmem => 12
  | .smem => 0
  | _ => 0

abbrev bufTy : (tb : Table) → Fin (tcTables nBuf tb) → BufTy
  | .hbm, ⟨0, _⟩ => ⟨S8192x16x64, .f32⟩
  | .hbm, ⟨1, _⟩ => ⟨S8192x64, .f32⟩
  | .hbm, ⟨2, _⟩ => ⟨S8192x32, .f32⟩
  | .hbm, ⟨3, _⟩ => ⟨S8192x32, .f32⟩
  | .hbm, ⟨4, _⟩ => ⟨S1x8192x1x32, .f32⟩
  | .hbm, ⟨5, _⟩ => ⟨S1x8192x17x32, .f32⟩
  | .hbm, ⟨6, _⟩ => ⟨S8192x544, .f32⟩
  | .hbm, ⟨7, _⟩ => ⟨S1x8192x1x32, .f32⟩
  | .hbm, ⟨8, _⟩ => ⟨S1x8192x17x32, .f32⟩
  | .hbm, ⟨9, _⟩ => ⟨S8192x544, .f32⟩
  | .hbm, ⟨10, _⟩ => ⟨S8192x16x32, .f32⟩
  | .hbm, ⟨11, _⟩ => ⟨S8192x512, .f32⟩
  | .hbm, ⟨12, _⟩ => ⟨S8192x32, .f32⟩
  | .hbm, ⟨13, _⟩ => ⟨S8192x544, .f32⟩
  | .hbm, ⟨14, _⟩ => ⟨S8192x16x32, .f32⟩
  | .hbm, ⟨15, _⟩ => ⟨S8192x512, .f32⟩
  | .hbm, ⟨16, _⟩ => ⟨S8192x32, .f32⟩
  | .hbm, ⟨17, _⟩ => ⟨S8192x544, .f32⟩
  | .hbm, ⟨18, _⟩ => ⟨S8192x544, .f32⟩
  | .hbm, ⟨19, _⟩ => ⟨S8192x544, .f32⟩
  | .hbm, ⟨20, _⟩ => ⟨S8192x544, .f32⟩
  | .hbm, ⟨21, _⟩ => ⟨S8192x512, .f32⟩
  | .hbm, ⟨22, _⟩ => ⟨S8192x16x32, .f32⟩
  | .hbm, ⟨23, _⟩ => ⟨S8192x512, .f32⟩
  | .hbm, ⟨24, _⟩ => ⟨S8192x16x32, .f32⟩
  | .hbm, ⟨25, _⟩ => ⟨S8192x16x64, .f32⟩
  | .hbm, ⟨26, _⟩ => ⟨S8192x32, .f32⟩
  | .hbm, ⟨27, _⟩ => ⟨S8192x32, .f32⟩
  | .hbm, ⟨28, _⟩ => ⟨S8192x64, .f32⟩
  | .local _ .vmem, ⟨0, _⟩ => ⟨S512x544, .f32⟩
  | .local _ .vmem, ⟨1, _⟩ => ⟨S512x544, .f32⟩
  | .local _ .vmem, ⟨2, _⟩ => ⟨S512x544, .f32⟩
  | .local _ .vmem, ⟨3, _⟩ => ⟨S512x544, .f32⟩
  | .local _ .vmem, ⟨4, _⟩ => ⟨S512x544, .f32⟩
  | .local _ .vmem, ⟨5, _⟩ => ⟨S512x544, .f32⟩
  | .local _ .vmem, ⟨6, _⟩ => ⟨S512x544, .f32⟩
  | .local _ .vmem, ⟨7, _⟩ => ⟨S512x544, .f32⟩
  | .local _ .vmem, ⟨8, _⟩ => ⟨S512x544, .f32⟩
  | .local _ .vmem, ⟨9, _⟩ => ⟨S512x544, .f32⟩
  | .local _ .vmem, ⟨10, _⟩ => ⟨S512x544, .f32⟩
  | .local _ .vmem, ⟨11, _⟩ => ⟨S512x544, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRIdeal.lean ====
abbrev S8192x16x64 : Shape := ⟨3, ![8192, 16, 64]⟩
abbrev S8192x64 : Shape := ⟨2, ![8192, 64]⟩
abbrev S8192x32 : Shape := ⟨2, ![8192, 32]⟩
abbrev S_ : Shape := ⟨0, ![]⟩
abbrev S8192x1x32 : Shape := ⟨3, ![8192, 1, 32]⟩
abbrev S8192x16x32 : Shape := ⟨3, ![8192, 16, 32]⟩

abbrev nBuf : Space → Nat
  | .hbm => 64
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x64, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192x16x64, .f32⟩
  | .hbm, ⟨6, _⟩ => ⟨S_, .f32⟩
  | .hbm, ⟨7, _⟩ => ⟨S8192x64, .f32⟩
  | .hbm, ⟨8, _⟩ => ⟨S8192x1x32, .f32⟩
  | .hbm, ⟨9, _⟩ => ⟨S8192x1x32, .f32⟩
  | .hbm, ⟨10, _⟩ => ⟨S8192x16x32, .f32⟩
  | .hbm, ⟨11, _⟩ => ⟨S8192x16x32, .f32⟩
  | .hbm, ⟨12, _⟩ => ⟨S8192x16x32, .f32⟩
  | .hbm, ⟨13, _⟩ => ⟨S8192x16x32, .f32⟩
  | .hbm, ⟨14, _⟩ => ⟨S8192x16x32, .f32⟩
  | .hbm, ⟨15, _⟩ => ⟨S8192x16x32, .f32⟩
  | .hbm, ⟨16, _⟩ => ⟨S8192x16x32, .f32⟩
  | .hbm, ⟨17, _⟩ => ⟨S8192x16x32, .f32⟩
  | .hbm, ⟨18, _⟩ => ⟨S8192x16x32, .f32⟩
  | .hbm, ⟨19, _⟩ => ⟨S8192x16x32, .f32⟩
  | .hbm, ⟨20, _⟩ => ⟨S8192x16x32, .f32⟩
  | .hbm, ⟨21, _⟩ => ⟨S8192x16x32, .f32⟩
  | .hbm, ⟨22, _⟩ => ⟨S8192x16x64, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x64, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x64, .f32⟩
  | .hbm, ⟨43, _⟩ => ⟨S_, .f32⟩
  | .hbm, ⟨44, _⟩ => ⟨S8192x64, .f32⟩
  | .hbm, ⟨45, _⟩ => ⟨S8192x64, .f32⟩
  | .hbm, ⟨46, _⟩ => ⟨S8192x16x32, .f32⟩
  | .hbm, ⟨47, _⟩ => ⟨S8192x16x32, .f32⟩
  | .hbm, ⟨48, _⟩ => ⟨S8192x16x32, .f32⟩
  | .hbm, ⟨49, _⟩ => ⟨S8192x16x32, .f32⟩
  | .hbm, ⟨50, _⟩ => ⟨S8192x16x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S_, .f32⟩
  | .hbm, ⟨60, _⟩ => ⟨S8192x16x64, .f32⟩
  | .hbm, ⟨61, _⟩ => ⟨S_, .f32⟩
  | .hbm, ⟨62, _⟩ => ⟨S8192x16x64, .f32⟩
  | .hbm, ⟨63, _⟩ => ⟨S8192x16x64, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== ConvK.lean ====
abbrev S2x8192x5632 : Shape := ⟨3, ![2, 8192, 5632]⟩
abbrev S2x3x5632 : Shape := ⟨3, ![2, 3, 5632]⟩
abbrev S2x1x5632 : Shape := ⟨3, ![2, 1, 5632]⟩
abbrev S8192x5632 : Shape := ⟨2, ![8192, 5632]⟩
abbrev S2x512x512 : Shape := ⟨3, ![2, 512, 512]⟩
abbrev S2x8x512 : Shape := ⟨3, ![2, 8, 512]⟩
abbrev S512x512 : Shape := ⟨2, ![512, 512]⟩
abbrev S8x512 : Shape := ⟨2, ![8, 512]⟩
abbrev S2x3x512 : Shape := ⟨3, ![2, 3, 512]⟩
abbrev S2x1x512 : Shape := ⟨3, ![2, 1, 512]⟩
abbrev S1x8x512 : Shape := ⟨3, ![1, 8, 512]⟩
abbrev S1x512x512 : Shape := ⟨3, ![1, 512, 512]⟩
abbrev S528x512 : Shape := ⟨2, ![528, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 7
  | .vmem => 22
  | .smem => 0
  | _ => 0

abbrev bufTy : (tb : Table) → Fin (tcTables nBuf tb) → BufTy
  | .hbm, ⟨0, _⟩ => ⟨S2x8192x5632, .f32⟩
  | .hbm, ⟨1, _⟩ => ⟨S2x3x5632, .f32⟩
  | .hbm, ⟨2, _⟩ => ⟨S2x1x5632, .f32⟩
  | .hbm, ⟨3, _⟩ => ⟨S8192x5632, .f32⟩
  | .hbm, ⟨4, _⟩ => ⟨S2x8192x5632, .bf16⟩
  | .hbm, ⟨5, _⟩ => ⟨S2x3x5632, .f32⟩
  | .hbm, ⟨6, _⟩ => ⟨S2x1x5632, .f32⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2x3x512, .f32⟩
  | .local _ .vmem, ⟨13, _⟩ => ⟨S2x3x512, .f32⟩
  | .local _ .vmem, ⟨14, _⟩ => ⟨S2x1x512, .f32⟩
  | .local _ .vmem, ⟨15, _⟩ => ⟨S2x1x512, .f32⟩
  | .local _ .vmem, ⟨16, _⟩ => ⟨S2x512x512, .bf16⟩
  | .local _ .vmem, ⟨17, _⟩ => ⟨S2x512x512, .bf16⟩
  | .local _ .vmem, ⟨18, _⟩ => ⟨S2x3x512, .f32⟩
  | .local _ .vmem, ⟨19, _⟩ => ⟨S2x3x512, .f32⟩
  | .local _ .vmem, ⟨20, _⟩ => ⟨S2x1x512, .f32⟩
  | .local _ .vmem, ⟨21, _⟩ => ⟨S2x1x512, .f32⟩
  | _, _ => ⟨S2x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 16], ![false, false]⟩

def k0_cond1 (i : grid0.Coords) : BitVec 1 :=
  let arg1 : BitVec 32 := BitVec.ofNat 32 (i 1).val
  let c0_i32_64 : BitVec 32 := 0#32
  let v126 : BitVec 1 := Scalar.cmpi .eq arg1 c0_i32_64
  let v127 : BitVec 32 := Scalar.extui v126
  let c0_i32_65 : BitVec 32 := 0#32
  let v128 : BitVec 1 := Scalar.cmpi .ne v127 c0_i32_65
  v128

def k0_cond2 (i : grid0.Coords) : BitVec 1 :=
  let arg1 : BitVec 32 := BitVec.ofNat 32 (i 1).val
  let c0_i32_66 : BitVec 32 := 0#32
  let v129 : BitVec 1 := Scalar.cmpi .sgt arg1 c0_i32_66
  let v130 : BitVec 32 := Scalar.extui v129
  let c0_i32_67 : BitVec 32 := 0#32
  let v131 : BitVec 1 := Scalar.cmpi .ne v130 c0_i32_67
  v131

def k0_cond3 (i : grid0.Coords) : BitVec 1 :=
  let arg1 : BitVec 32 := BitVec.ofNat 32 (i 1).val
  let c0_i32_80 : BitVec 32 := 0#32
  let v167 : BitVec 1 := Scalar.cmpi .eq arg1 c0_i32_80
  let v168 : BitVec 32 := Scalar.extui v167
  let c0_i32_81 : BitVec 32 := 0#32
  let v169 : BitVec 1 := Scalar.cmpi .ne v168 c0_i32_81
  v169

def k0_cond4 (i : grid0.Coords) : BitVec 1 :=
  let arg1 : BitVec 32 := BitVec.ofNat 32 (i 1).val
  let c0_i32_82 : BitVec 32 := 0#32
  let v170 : BitVec 1 := Scalar.cmpi .sgt arg1 c0_i32_82
  let v171 : BitVec 32 := Scalar.extui v170
  let c0_i32_83 : BitVec 32 := 0#32
  let v172 : BitVec 1 := Scalar.cmpi .ne v171 c0_i32_83
  v172

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRIdeal.lean ====
abbrev S2x8192x5632 : Shape := ⟨3, ![2, 8192, 5632]⟩
abbrev S2x3x5632 : Shape := ⟨3, ![2, 3, 5632]⟩
abbrev S2x1x5632 : Shape := ⟨3, ![2, 1, 5632]⟩
abbrev S8192x5632 : Shape := ⟨2, ![8192, 5632]⟩
abbrev S_ : Shape := ⟨0, ![]⟩
abbrev S2x8194x5632 : Shape := ⟨3, ![2, 8194, 5632]⟩
abbrev S1x8192x5632 : Shape := ⟨3, ![1, 8192, 5632]⟩
abbrev S2x5632 : Shape := ⟨2, ![2, 5632]⟩

abbrev nBuf : Space → Nat
  | .hbm => 102
  | .vmem => 0
  | .smem => 0
  | _ => 0

abbrev bufTy : (tb : Table) → Fin (tcTables nBuf tb) → BufTy
  | .hbm, ⟨0, _⟩ => ⟨S2x8192x5632, .f32⟩
  | .hbm, ⟨1, _⟩ => ⟨S2x3x5632, .f32⟩
  | .hbm, ⟨2, _⟩ => ⟨S2x1x5632, .f32⟩
  | .hbm, ⟨3, _⟩ => ⟨S8192x5632, .f32⟩
  | .hbm, ⟨4, _⟩ => ⟨S_, .f32⟩
  | .hbm, ⟨5, _⟩ => ⟨S2x1x5632, .f32⟩
  | .hbm, ⟨6, _⟩ => ⟨S2x8194x5632, .f32⟩
  | .hbm, ⟨7, _⟩ => ⟨S_, .f32⟩
  | .hbm, ⟨8, _⟩ => ⟨S2x1x5632, .f32⟩
  | .hbm, ⟨9, _⟩ => ⟨S_, .f32⟩
  | .hbm, ⟨10, _⟩ => ⟨S2x1x5632, .f32⟩
  | .hbm, ⟨11, _⟩ => ⟨S2x1x5632, .f32⟩
  | .hbm, ⟨12, _⟩ => ⟨S2x8192x5632, .f32⟩
  | .hbm, ⟨13, _⟩ => ⟨S2x8192x5632, .f32⟩
  | .hbm, ⟨14, _⟩ => ⟨S2x8192x5632, .f32⟩
  | .hbm, ⟨15, _⟩ => ⟨S_, .f32⟩
  | .hbm, ⟨16, _⟩ => ⟨S2x8192x5632, .f32⟩
  | .hbm, ⟨17, _⟩ => ⟨S2x8192x5632, .f32⟩
  | .hbm, ⟨18, _⟩ => ⟨S2x1x5632, .f32⟩
  | .hbm, ⟨19, _⟩ => ⟨S2x8192x5632, .f32⟩
  | .hbm, ⟨20, _⟩ => ⟨S2x8192x5632, .f32⟩
  | .hbm, ⟨21, _⟩ => ⟨S2x8192x5632, .f32⟩
  | .hbm, ⟨22, _⟩ => ⟨S2x8192x5632, .f32⟩
  | .hbm, ⟨23, _⟩ => ⟨S2x1x5632, .f32⟩
  | .hbm, ⟨24, _⟩ => ⟨S2x8192x5632, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S1x8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S_, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S1x8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S1x8192x5632, .f32⟩
  | .hbm, ⟨51, _⟩ => ⟨S_, .f32⟩
  | .hbm, ⟨52, _⟩ => ⟨S2x8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S1x8192x5632, .f32⟩
  | .hbm, ⟨58, _⟩ => ⟨S_, .f32⟩
  | .hbm, ⟨59, _⟩ => ⟨S2x8192x5632, .f32⟩
  | .hbm, ⟨60, _⟩ => ⟨S2x8192x5632, .f32⟩
  | .hbm, ⟨61, _⟩ => ⟨S_, .f32⟩
  | .hbm, ⟨62, _⟩ => ⟨S2x5632, .f32⟩
  | .hbm, ⟨63, _⟩ => ⟨S2x1x5632, .f32⟩
  | .hbm, ⟨64, _⟩ => ⟨S2x8192x5632, .f32⟩
  | .hbm, ⟨65, _⟩ => ⟨S2x8192x5632, .f32⟩
  | .hbm, ⟨66, _⟩ => ⟨S2x8192x5632, .f32⟩
  | .hbm, ⟨67, _⟩ => ⟨S_, .f32⟩
  | .hbm, ⟨68, _⟩ => ⟨S2x5632, .f32⟩
  | .hbm, ⟨69, _⟩ => ⟨S2x1x5632, .f32⟩
  | .hbm, ⟨70, _⟩ => ⟨S_, .f32⟩
  | .hbm, ⟨71, _⟩ => ⟨S2x8194x5632, .f32⟩
  | .hbm, ⟨72, _⟩ => ⟨S_, .f32⟩
  | .hbm, ⟨73, _⟩ => ⟨S2x3x5632, .f32⟩
  | .hbm, ⟨74, _⟩ => ⟨S2x8192x5632, .f32⟩
  | .hbm, ⟨75, _⟩ => ⟨S2x8192x5632, .f32⟩
  | .hbm, ⟨76, _⟩ => ⟨S2x8192x5632, .f32⟩
  | .hbm, ⟨77, _⟩ => ⟨S_, .f32⟩
  | .hbm, ⟨78, _⟩ => ⟨S2x5632, .f32⟩
  | .hbm, ⟨79, _⟩ => ⟨S2x1x5632, .f32⟩
  | .hbm, ⟨80, _⟩ => ⟨S_, .f32⟩
  | .hbm, ⟨81, _⟩ => ⟨S2x8194x5632, .f32⟩
  | .hbm, ⟨82, _⟩ => ⟨S2x8194x5632, .f32⟩
  | .hbm, ⟨83, _⟩ => ⟨S_, .f32⟩
  | .hbm, ⟨84, _⟩ => ⟨S2x3x5632, .f32⟩
  | .hbm, ⟨85, _⟩ => ⟨S2x3x5632, .f32⟩
  | .hbm, ⟨86, _⟩ => ⟨S2x8192x5632, .f32⟩
  | .hbm, ⟨87, _⟩ => ⟨S2x8192x5632, .f32⟩
  | .hbm, ⟨88, _⟩ => ⟨S2x8192x5632, .f32⟩
  | .hbm, ⟨89, _⟩ => ⟨S_, .f32⟩
  | .hbm, ⟨90, _⟩ => ⟨S2x5632, .f32⟩
  | .hbm, ⟨91, _⟩ => ⟨S2x1x5632, .f32⟩
  | .hbm, ⟨92, _⟩ => ⟨S_, .f32⟩
  | .hbm, ⟨93, _⟩ => ⟨S2x8194x5632, .f32⟩
  | .hbm, ⟨94, _⟩ => ⟨S2x8194x5632, .f32⟩
  | .hbm, ⟨95, _⟩ => ⟨S_, .f32⟩
  | .hbm, ⟨96, _⟩ => ⟨S2x3x5632, .f32⟩
  | .hbm, ⟨97, _⟩ => ⟨S2x3x5632, .f32⟩
  | .hbm, ⟨98, _⟩ => ⟨S2x1x5632, .f32⟩
  | .hbm, ⟨99, _⟩ => ⟨S2x8192x5632, .f32⟩
  | .hbm, ⟨100, _⟩ => ⟨S2x1x5632, .f32⟩
  | .hbm, ⟨101, _⟩ => ⟨S2x8192x5632, .bf16⟩
  | _, _ => ⟨S2x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v24_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v24_1 : Ref sig .tc := ⟨.hbm, 43, rfl⟩
abbrev main_v24_0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== GateK.lean ====
abbrev S2x8192x5632 : Shape := ⟨3, ![2, 8192, 5632]⟩
abbrev S2x3x5632 : Shape := ⟨3, ![2, 3, 5632]⟩
abbrev S2x1x5632 : Shape := ⟨3, ![2, 1, 5632]⟩
abbrev S8192x5632 : Shape := ⟨2, ![8192, 5632]⟩
abbrev S2x512x512 : Shape := ⟨3, ![2, 512, 512]⟩
abbrev S2x8x512 : Shape := ⟨3, ![2, 8, 512]⟩
abbrev S2x3x512 : Shape := ⟨3, ![2, 3, 512]⟩
abbrev S2x1x512 : Shape := ⟨3, ![2, 1, 512]⟩
abbrev S512x512 : Shape := ⟨2, ![512, 512]⟩
abbrev S1x8x512 : Shape := ⟨3, ![1, 8, 512]⟩
abbrev S8x512 : Shape := ⟨2, ![8, 512]⟩
abbrev S1x512x512 : Shape := ⟨3, ![1, 512, 512]⟩
abbrev S528x512 : Shape := ⟨2, ![528, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S2x8192x5632, .f32⟩
  | .hbm, ⟨1, _⟩ => ⟨S2x3x5632, .f32⟩
  | .hbm, ⟨2, _⟩ => ⟨S2x1x5632, .f32⟩
  | .hbm, ⟨3, _⟩ => ⟨S8192x5632, .bf16⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S2x3x512, .f32⟩
  | .local _ .vmem, ⟨7, _⟩ => ⟨S2x3x512, .f32⟩
  | .local _ .vmem, ⟨8, _⟩ => ⟨S2x1x512, .f32⟩
  | .local _ .vmem, ⟨9, _⟩ => ⟨S2x1x512, .f32⟩
  | .local _ .vmem, ⟨10, _⟩ => ⟨S512x512, .bf16⟩
  | .local _ .vmem, ⟨11, _⟩ => ⟨S512x512, .bf16⟩
  | _, _ => ⟨S2x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRIdeal.lean ====
abbrev S2x8192x5632 : Shape := ⟨3, ![2, 8192, 5632]⟩
abbrev S2x3x5632 : Shape := ⟨3, ![2, 3, 5632]⟩
abbrev S2x1x5632 : Shape := ⟨3, ![2, 1, 5632]⟩
abbrev S_ : Shape := ⟨0, ![]⟩
abbrev S2x8194x5632 : Shape := ⟨3, ![2, 8194, 5632]⟩
abbrev S1x8192x5632 : Shape := ⟨3, ![1, 8192, 5632]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x5632, .f32⟩
  | .hbm, ⟨1, _⟩ => ⟨S2x3x5632, .f32⟩
  | .hbm, ⟨2, _⟩ => ⟨S2x1x5632, .f32⟩
  | .hbm, ⟨3, _⟩ => ⟨S_, .f32⟩
  | .hbm, ⟨4, _⟩ => ⟨S2x1x5632, .f32⟩
  | .hbm, ⟨5, _⟩ => ⟨S2x8194x5632, .f32⟩
  | .hbm, ⟨6, _⟩ => ⟨S2x1x5632, .f32⟩
  | .hbm, ⟨7, _⟩ => ⟨S2x8192x5632, .f32⟩
  | .hbm, ⟨8, _⟩ => ⟨S2x8192x5632, .f32⟩
  | .hbm, ⟨9, _⟩ => ⟨S2x8192x5632, .f32⟩
  | .hbm, ⟨10, _⟩ => ⟨S_, .f32⟩
  | .hbm, ⟨11, _⟩ => ⟨S2x8192x5632, .f32⟩
  | .hbm, ⟨12, _⟩ => ⟨S2x8192x5632, .f32⟩
  | .hbm, ⟨13, _⟩ => ⟨S2x1x5632, .f32⟩
  | .hbm, ⟨14, _⟩ => ⟨S2x8192x5632, .f32⟩
  | .hbm, ⟨15, _⟩ => ⟨S2x8192x5632, .f32⟩
  | .hbm, ⟨16, _⟩ => ⟨S2x8192x5632, .f32⟩
  | .hbm, ⟨17, _⟩ => ⟨S2x8192x5632, .f32⟩
  | .hbm, ⟨18, _⟩ => ⟨S2x1x5632, .f32⟩
  | .hbm, ⟨19, _⟩ => ⟨S2x8192x5632, .f32⟩
  | .hbm, ⟨20, _⟩ => ⟨S2x8192x5632, .f32⟩
  | .hbm, ⟨21, _⟩ => ⟨S2x8192x5632, .f32⟩
  | .hbm, ⟨22, _⟩ => ⟨S2x8192x5632, .f32⟩
  | .hbm, ⟨23, _⟩ => ⟨S2x8192x5632, .f32⟩
  | .hbm, ⟨24, _⟩ => ⟨S2x8192x5632, .f32⟩
  | .hbm, ⟨25, _⟩ => ⟨S1x8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x8192x5632, .f32⟩
  | .hbm, ⟨37, _⟩ => ⟨S8192x5632, .f32⟩
  | .hbm, ⟨38, _⟩ => ⟨S8192x5632, .f32⟩
  | .hbm, ⟨39, _⟩ => ⟨S8192x5632, .bf16⟩
  | _, _ => ⟨S2x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== YfwdK.lean ====
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== YfwdRIdeal.lean ====
abbrev S8192x2048 : Shape := ⟨2, ![8192, 2048]⟩
abbrev S1x2048 : Shape := ⟨2, ![1, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== GluK.lean ====
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRIdeal.lean ====
abbrev S8192x2048 : Shape := ⟨2, ![8192, 2048]⟩
abbrev S1x2048 : Shape := ⟨2, ![1, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== RotK.lean ====
abbrev S8192x16x192 : Shape := ⟨3, ![8192, 16, 192]⟩
abbrev S8192x64 : Shape := ⟨2, ![8192, 64]⟩
abbrev S8192x32 : Shape := ⟨2, ![8192, 32]⟩
abbrev S1x8192x1x32 : Shape := ⟨4, ![1, 8192, 1, 32]⟩
abbrev S1x8192x17x32 : Shape := ⟨4, ![1, 8192, 17, 32]⟩
abbrev S8192x544 : Shape := ⟨2, ![8192, 544]⟩
abbrev S8192x16x32 : Shape := ⟨3, ![8192, 16, 32]⟩
abbrev S8192x512 : Shape := ⟨2, ![8192, 512]⟩
abbrev S_ : Shape := ⟨0, ![]⟩
abbrev S1x512 : Shape := ⟨2, ![1, 512]⟩
abbrev S1x32 : Shape := ⟨2, ![1, 32]⟩
abbrev S1x544 : Shape := ⟨2, ![1, 544]⟩
abbrev S512x544 : Shape := ⟨2, ![512, 544]⟩
abbrev S8192x16x64 : Shape := ⟨3, ![8192, 16, 64]⟩

abbrev nBuf : Space → Nat
  | .hbm => 33
  | .vmem => 13
  | .smem => 0
  | _ => 0

abbrev bufTy : (tb : Table) → Fin (tcTables nBuf tb) → BufTy
  | .hbm, ⟨0, _⟩ => ⟨S8192x16x192, .f32⟩
  | .hbm, ⟨1, _⟩ => ⟨S8192x64, .f32⟩
  | .hbm, ⟨2, _⟩ => ⟨S8192x32, .f32⟩
  | .hbm, ⟨3, _⟩ => ⟨S8192x32, .f32⟩
  | .hbm, ⟨4, _⟩ => ⟨S1x8192x1x32, .f32⟩
  | .hbm, ⟨5, _⟩ => ⟨S1x8192x17x32, .f32⟩
  | .hbm, ⟨6, _⟩ => ⟨S8192x544, .f32⟩
  | .hbm, ⟨7, _⟩ => ⟨S1x8192x1x32, .f32⟩
  | .hbm, ⟨8, _⟩ => ⟨S1x8192x17x32, .f32⟩
  | .hbm, ⟨9, _⟩ => ⟨S8192x544, .f32⟩
  | .hbm, ⟨10, _⟩ => ⟨S8192x16x32, .f32⟩
  | .hbm, ⟨11, _⟩ => ⟨S8192x512, .f32⟩
  | .hbm, ⟨12, _⟩ => ⟨S8192x32, .f32⟩
  | .hbm, ⟨13, _⟩ => ⟨S8192x544, .f32⟩
  | .hbm, ⟨14, _⟩ => ⟨S8192x16x32, .f32⟩
  | .hbm, ⟨15, _⟩ => ⟨S8192x512, .f32⟩
  | .hbm, ⟨16, _⟩ => ⟨S8192x32, .f32⟩
  | .hbm, ⟨17, _⟩ => ⟨S8192x544, .f32⟩
  | .hbm, ⟨18, _⟩ => ⟨S_, .f32⟩
  | .hbm, ⟨19, _⟩ => ⟨S1x512, .f32⟩
  | .hbm, ⟨20, _⟩ => ⟨S_, .f32⟩
  | .hbm, ⟨21, _⟩ => ⟨S1x32, .f32⟩
  | .hbm, ⟨22, _⟩ => ⟨S1x544, .f32⟩
  | .hbm, ⟨23, _⟩ => ⟨S8192x544, .bf16⟩
  | .hbm, ⟨24, _⟩ => ⟨S8192x544, .bf16⟩
  | .hbm, ⟨25, _⟩ => ⟨S8192x512, .bf16⟩
  | .hbm, ⟨26, _⟩ => ⟨S8192x16x32, .bf16⟩
  | .hbm, ⟨27, _⟩ => ⟨S8192x512, .bf16⟩
  | .hbm, ⟨28, _⟩ => ⟨S8192x16x32, .bf16⟩
  | .hbm, ⟨29, _⟩ => ⟨S8192x16x64, .bf16⟩
  | .hbm, ⟨30, _⟩ => ⟨S8192x32, .bf16⟩
  | .hbm, ⟨31, _⟩ => ⟨S8192x32, .bf16⟩
  | .hbm, ⟨32, _⟩ => ⟨S8192x64, .bf16⟩
  | .local _ .vmem, ⟨0, _⟩ => ⟨S512x544, .f32⟩
  | .local _ .vmem, ⟨1, _⟩ => ⟨S512x544, .f32⟩
  | .local _ .vmem, ⟨2, _⟩ => ⟨S512x544, .f32⟩
  | .local _ .vmem, ⟨3, _⟩ => ⟨S512x544, .f32⟩
  | .local _ .vmem, ⟨4, _⟩ => ⟨S512x544, .f32⟩
  | .local _ .vmem, ⟨5, _⟩ => ⟨S512x544, .f32⟩
  | .local _ .vmem, ⟨6, _⟩ => ⟨S512x544, .f32⟩
  | .local _ .vmem, ⟨7, _⟩ => ⟨S512x544, .f32⟩
  | .local _ .vmem, ⟨8, _⟩ => ⟨S1x544, .f32⟩
  | .local _ .vmem, ⟨9, _⟩ => ⟨S512x544, .bf16⟩
  | .local _ .vmem, ⟨10, _⟩ => ⟨S512x544, .bf16⟩
  | .local _ .vmem, ⟨11, _⟩ => ⟨S512x544, .bf16⟩
  | .local _ .vmem, ⟨12, _⟩ => ⟨S512x544, .bf16⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x544 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x544 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x544 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RotRIdeal.lean ====
abbrev S8192x16x192 : Shape := ⟨3, ![8192, 16, 192]⟩
abbrev S8192x64 : Shape := ⟨2, ![8192, 64]⟩
abbrev S8192x32 : Shape := ⟨2, ![8192, 32]⟩
abbrev S8192x16x64 : Shape := ⟨3, ![8192, 16, 64]⟩
abbrev S8192x1x32 : Shape := ⟨3, ![8192, 1, 32]⟩
abbrev S8192x16x32 : Shape := ⟨3, ![8192, 16, 32]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x64, .f32⟩
  | .hbm, ⟨2, _⟩ => ⟨S8192x32, .f32⟩
  | .hbm, ⟨3, _⟩ => ⟨S8192x32, .f32⟩
  | .hbm, ⟨4, _⟩ => ⟨S8192x16x64, .f32⟩
  | .hbm, ⟨5, _⟩ => ⟨S8192x1x32, .f32⟩
  | .hbm, ⟨6, _⟩ => ⟨S8192x1x32, .f32⟩
  | .hbm, ⟨7, _⟩ => ⟨S8192x16x32, .f32⟩
  | .hbm, ⟨8, _⟩ => ⟨S8192x16x32, .f32⟩
  | .hbm, ⟨9, _⟩ => ⟨S8192x16x32, .f32⟩
  | .hbm, ⟨10, _⟩ => ⟨S8192x16x32, .f32⟩
  | .hbm, ⟨11, _⟩ => ⟨S8192x16x32, .f32⟩
  | .hbm, ⟨12, _⟩ => ⟨S8192x16x32, .f32⟩
  | .hbm, ⟨13, _⟩ => ⟨S8192x16x32, .f32⟩
  | .hbm, ⟨14, _⟩ => ⟨S8192x16x32, .f32⟩
  | .hbm, ⟨15, _⟩ => ⟨S8192x16x32, .f32⟩
  | .hbm, ⟨16, _⟩ => ⟨S8192x16x32, .f32⟩
  | .hbm, ⟨17, _⟩ => ⟨S8192x16x32, .f32⟩
  | .hbm, ⟨18, _⟩ => ⟨S8192x16x32, .f32⟩
  | .hbm, ⟨19, _⟩ => ⟨S8192x16x64, .f32⟩
  | .hbm, ⟨20, _⟩ => ⟨S_, .f32⟩
  | .hbm, ⟨21, _⟩ => ⟨S8192x16x64, .f32⟩
  | .hbm, ⟨22, _⟩ => ⟨S8192x16x64, .f32⟩
  | .hbm, ⟨23, _⟩ => ⟨S8192x16x64, .bf16⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x64, .f32⟩
  | .hbm, ⟨33, _⟩ => ⟨S8192x64, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== AdamK.lean ====
abbrev S8x8192x1408 : Shape := ⟨3, ![8, 8192, 1408]⟩
abbrev S8192x1408 : Shape := ⟨2, ![8192, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x1408, .bf16⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRIdeal.lean ====
abbrev S8x8192x1408 : Shape := ⟨3, ![8, 8192, 1408]⟩
abbrev S8192x1408 : Shape := ⟨2, ![8192, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1408, .bf16⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8x8192x1408, .f32⟩
  | .hbm, ⟨5, _⟩ => ⟨S_, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S_, .f32⟩
  | .hbm, ⟨11, _⟩ => ⟨S8192x1408, .f32⟩
  | .hbm, ⟨12, _⟩ => ⟨S8192x1408, .f32⟩
  | .hbm, ⟨13, _⟩ => ⟨S8192x1408, .f32⟩
  | .hbm, ⟨14, _⟩ => ⟨S_, .f32⟩
  | .hbm, ⟨15, _⟩ => ⟨S8192x1408, .f32⟩
  | .hbm, ⟨16, _⟩ => ⟨S8192x1408, .f32⟩
  | .hbm, ⟨17, _⟩ => ⟨S8192x1408, .f32⟩
  | .hbm, ⟨18, _⟩ => ⟨S_, .f32⟩
  | .hbm, ⟨19, _⟩ => ⟨S8192x1408, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S_, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S_, .f32⟩
  | .hbm, ⟨30, _⟩ => ⟨S8192x1408, .f32⟩
  | .hbm, ⟨31, _⟩ => ⟨S8192x1408, .f32⟩
  | .hbm, ⟨32, _⟩ => ⟨S8192x1408, .f32⟩
  | .hbm, ⟨33, _⟩ => ⟨S_, .f32⟩
  | .hbm, ⟨34, _⟩ => ⟨S8192x1408, .f32⟩
  | .hbm, ⟨35, _⟩ => ⟨S8192x1408, .f32⟩
  | .hbm, ⟨36, _⟩ => ⟨S8192x1408, .f32⟩
  | .hbm, ⟨37, _⟩ => ⟨S_, .f32⟩
  | .hbm, ⟨38, _⟩ => ⟨S8192x1408, .f32⟩
  | .hbm, ⟨39, _⟩ => ⟨S8192x1408, .f32⟩
  | _, _ => ⟨S8x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpK.lean ====
abbrev S8192x2048 : Shape := ⟨2, ![8192, 2048]⟩
abbrev S8x2048x1408 : Shape := ⟨3, ![8, 2048, 1408]⟩
abbrev S1x8x2048x1408 : Shape := ⟨4, ![1, 8, 2048, 1408]⟩
abbrev S2x8192x5632 : Shape := ⟨3, ![2, 8192, 5632]⟩
abbrev S1024x2048 : Shape := ⟨2, ![1024, 2048]⟩
abbrev S1x1x2048x1408 : Shape := ⟨4, ![1, 1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S1x8x2048x1408, .bf16⟩
  | .hbm, ⟨3, _⟩ => ⟨S2x8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRIdeal.lean ====
abbrev S8192x2048 : Shape := ⟨2, ![8192, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S8192x11264, .f32⟩
  | .hbm, ⟨5, _⟩ => ⟨S8192x2x5632, .f32⟩
  | .hbm, ⟨6, _⟩ => ⟨S2x8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownK.lean ====
abbrev S8192x5632 : Shape := ⟨2, ![8192, 5632]⟩
abbrev S5632x2048 : Shape := ⟨2, ![5632, 2048]⟩
abbrev S8192x2048 : Shape := ⟨2, ![8192, 2048]⟩
abbrev S1x5632x2048 : Shape := ⟨3, ![1, 5632, 2048]⟩
abbrev S1x1x5632x2048 : Shape := ⟨4, ![1, 1, 5632, 2048]⟩
abbrev S1024x5632 : Shape := ⟨2, ![1024, 5632]⟩
abbrev S1x1x5632x512 : Shape := ⟨4, ![1, 1, 5632, 512]⟩
abbrev S1024x512 : Shape := ⟨2, ![1024, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x5632x2048, .bf16⟩
  | .hbm, ⟨4, _⟩ => ⟨S1x1x5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1x5632x512, .bf16⟩
  | .local _ .vmem, ⟨3, _⟩ => ⟨S1x1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== TnK.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnRIdeal.lean ====
abbrev S8192x2048 : Shape := ⟨2, ![8192, 2048]⟩
abbrev S2x8192x5632 : Shape := ⟨3, ![2, 8192, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩
abbrev S8192x2x5632 : Shape := ⟨3, ![8192, 2, 5632]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S_, .f32⟩
  | .hbm, ⟨3, _⟩ => ⟨S8x2048x1408, .f32⟩
  | .hbm, ⟨4, _⟩ => ⟨S8192x2048, .f32⟩
  | .hbm, ⟨5, _⟩ => ⟨S2048x8x1408, .f32⟩
  | .hbm, ⟨6, _⟩ => ⟨S2048x11264, .f32⟩
  | .hbm, ⟨7, _⟩ => ⟨S8192x11264, .f32⟩
  | .hbm, ⟨8, _⟩ => ⟨S8192x2x5632, .f32⟩
  | .hbm, ⟨9, _⟩ => ⟨S2x8192x5632, .f32⟩
  | .hbm, ⟨10, _⟩ => ⟨S2x8192x5632, .f32⟩
  | .hbm, ⟨11, _⟩ => ⟨S8192x2x5632, .f32⟩
  | .hbm, ⟨12, _⟩ => ⟨S8192x11264, .f32⟩
  | .hbm, ⟨13, _⟩ => ⟨S11264x2048, .f32⟩
  | .hbm, ⟨14, _⟩ => ⟨S2048x11264, .f32⟩
  | .hbm, ⟨15, _⟩ => ⟨S2048x8x1408, .f32⟩
  | .hbm, ⟨16, _⟩ => ⟨S8x2048x1408, .f32⟩
  | .hbm, ⟨17, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== NtK.lean ====
abbrev S2x8192x5632 : Shape := ⟨3, ![2, 8192, 5632]⟩
abbrev S8x2048x1408 : Shape := ⟨3, ![8, 2048, 1408]⟩
abbrev S1x8x2048x1408 : Shape := ⟨4, ![1, 8, 2048, 1408]⟩
abbrev S8192x2048 : Shape := ⟨2, ![8192, 2048]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S1x8x2048x1408, .bf16⟩
  | .hbm, ⟨3, _⟩ => ⟨S8192x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtRIdeal.lean ====
abbrev S2x8192x5632 : Shape := ⟨3, ![2, 8192, 5632]⟩
abbrev S8x2048x1408 : Shape := ⟨3, ![8, 2048, 1408]⟩
abbrev S_ : Shape := ⟨0, ![]⟩
abbrev S8192x2048 : Shape := ⟨2, ![8192, 2048]⟩
abbrev S2048x8x1408 : Shape := ⟨3, ![2048, 8, 1408]⟩
abbrev S2048x11264 : Shape := ⟨2, ![2048, 11264]⟩
abbrev S8192x11264 : Shape := ⟨2, ![8192, 11264]⟩
abbrev S8192x2x5632 : Shape := ⟨3, ![8192, 2, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S_, .f32⟩
  | .hbm, ⟨3, _⟩ => ⟨S8192x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S8192x11264, .f32⟩
  | .hbm, ⟨8, _⟩ => ⟨S8192x2x5632, .f32⟩
  | .hbm, ⟨9, _⟩ => ⟨S2x8192x5632, .f32⟩
  | .hbm, ⟨10, _⟩ => ⟨S2x8192x5632, .f32⟩
  | .hbm, ⟨11, _⟩ => ⟨S8192x2x5632, .f32⟩
  | .hbm, ⟨12, _⟩ => ⟨S8192x11264, .f32⟩
  | .hbm, ⟨13, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SumK.lean ====
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x208x1024, .f32⟩
  | .hbm, ⟨1, _⟩ => ⟨S208x1024, .f32⟩
  | .local _ .vmem, ⟨0, _⟩ => ⟨S8x208x1024, .f32⟩
  | .local _ .vmem, ⟨1, _⟩ => ⟨S208x1024, .f32⟩
  | _, _ => ⟨S8x208x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x208x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S208x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRIdeal.lean ====
abbrev S8x208x1024 : Shape := ⟨3, ![8, 208, 1024]⟩
abbrev S_ : Shape := ⟨0, ![]⟩
abbrev S208x1024 : Shape := ⟨2, ![208, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x208x1024, .f32⟩
  | .hbm, ⟨1, _⟩ => ⟨S_, .f32⟩
  | .hbm, ⟨2, _⟩ => ⟨S208x1024, .f32⟩
  | _, _ => ⟨S8x208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FlatK.lean ====
abbrev S1152x1024 : Shape := ⟨2, ![1152, 1024]⟩
abbrev S384x1024 : Shape := ⟨2, ![384, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1152x1024, .f32⟩
  | .hbm, ⟨1, _⟩ => ⟨S1152x1024, .f32⟩
  | .hbm, ⟨2, _⟩ => ⟨S1152x1024, .f32⟩
  | .hbm, ⟨3, _⟩ => ⟨S1152x1024, .f32⟩
  | .hbm, ⟨4, _⟩ => ⟨S1152x1024, .f32⟩
  | .hbm, ⟨5, _⟩ => ⟨S1152x1024, .f32⟩
  | .hbm, ⟨6, _⟩ => ⟨S1152x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | _, _ => ⟨S1152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FlatRIdeal.lean ====
abbrev S1152x1024 : Shape := ⟨2, ![1152, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1152x1024, .f32⟩
  | .hbm, ⟨1, _⟩ => ⟨S1152x1024, .f32⟩
  | .hbm, ⟨2, _⟩ => ⟨S1152x1024, .f32⟩
  | .hbm, ⟨3, _⟩ => ⟨S1152x1024, .f32⟩
  | .hbm, ⟨4, _⟩ => ⟨S_, .f32⟩
  | .hbm, ⟨5, _⟩ => ⟨S1152x1024, .f32⟩
  | .hbm, ⟨6, _⟩ => ⟨S1152x1024, .f32⟩
  | .hbm, ⟨7, _⟩ => ⟨S_, .f32⟩
  | .hbm, ⟨8, _⟩ => ⟨S1152x1024, .f32⟩
  | .hbm, ⟨9, _⟩ => ⟨S1152x1024, .f32⟩
  | .hbm, ⟨10, _⟩ => ⟨S1152x1024, .f32⟩
  | .hbm, ⟨11, _⟩ => ⟨S_, .f32⟩
  | .hbm, ⟨12, _⟩ => ⟨S1152x1024, .f32⟩
  | .hbm, ⟨13, _⟩ => ⟨S1152x1024, .f32⟩
  | .hbm, ⟨14, _⟩ => ⟨S1152x1024, .f32⟩
  | .hbm, ⟨15, _⟩ => ⟨S_, .f32⟩
  | .hbm, ⟨16, _⟩ => ⟨S1152x1024, .f32⟩
  | .hbm, ⟨17, _⟩ => ⟨S1152x1024, .f32⟩
  | .hbm, ⟨18, _⟩ => ⟨S1152x1024, .f32⟩
  | .hbm, ⟨19, _⟩ => ⟨S_, .f32⟩
  | .hbm, ⟨20, _⟩ => ⟨S1152x1024, .f32⟩
  | .hbm, ⟨21, _⟩ => ⟨S1152x1024, .f32⟩
  | .hbm, ⟨22, _⟩ => ⟨S_, .f32⟩
  | .hbm, ⟨23, _⟩ => ⟨S1152x1024, .f32⟩
  | .hbm, ⟨24, _⟩ => ⟨S1152x1024, .f32⟩
  | .hbm, ⟨25, _⟩ => ⟨S1152x1024, .f32⟩
  | .hbm, ⟨26, _⟩ => ⟨S_, .f32⟩
  | .hbm, ⟨27, _⟩ => ⟨S1152x1024, .f32⟩
  | .hbm, ⟨28, _⟩ => ⟨S1152x1024, .f32⟩
  | .hbm, ⟨29, _⟩ => ⟨S1152x1024, .f32⟩
  | .hbm, ⟨30, _⟩ => ⟨S_, .f32⟩
  | .hbm, ⟨31, _⟩ => ⟨S1152x1024, .f32⟩
  | .hbm, ⟨32, _⟩ => ⟨S1152x1024, .f32⟩
  | .hbm, ⟨33, _⟩ => ⟨S1152x1024, .f32⟩
  | .hbm, ⟨34, _⟩ => ⟨S_, .f32⟩
  | .hbm, ⟨35, _⟩ => ⟨S1152x1024, .f32⟩
  | .hbm, ⟨36, _⟩ => ⟨S1152x1024, .f32⟩
  | _, _ => ⟨S1152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Finite.lean ====
/- Extended reals that are finite, and the arithmetic that keeps them so: the lemmas that carry a computation on finite
   entries over to the real numbers. -/
module

public import Idealize.ShloMosaic.Lib.Pointwise

@[expose] public section

noncomputable section

namespace Cert.Finite

open Idealize.ShloMosaic

/-- A finite sum of real numbers, read as an extended real. -/
theorem coe_sum {ι : Type*} (s : Finset ι) (f : ι → ℝ) :
    ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real whose absolute value is below `⊤` is a real number. -/
theorem exists_real {x : EReal} (h : max x (-x) < ⊤) : ∃ r : ℝ, x = r := by
  induction x using EReal.rec with
  | bot => simp at h
  | top => simp at h
  | coe r => exact ⟨r, rfl⟩

/-- The bits of `+∞` are `⊤`. -/
theorem ofBits_inf : Ideal.ofBits .f32 0x7F800000#32 = ⊤ := by
  simp [Ideal.ofBits, Ideal.ieee]

/-- The comparison "the absolute value is below `+∞`" answering true says that the entry is a real number. -/
theorem real_of_cmp {x : EReal} (h : Ideal.cmp .olt (max x (-x)) (Ideal.ofBits .f32 0x7F800000#32) = 1#1) :
    ∃ r : ℝ, x = r := by
  rw [ofBits_inf] at h
  by_cases hx : max x (-x) < ⊤
  · exact exists_real hx
  · simp [Ideal.cmp, hx] at h

/-- Division by a nonzero real number. -/
theorem div_real (x y : ℝ) (h : y ≠ 0) : Ideal.div (x : EReal) (y : EReal) = ((x / y : ℝ) : EReal) := by
  rw [Ideal.div_coe h, ← EReal.coe_mul]; congr 1; ring

/-- The reciprocal square root of a positive real number. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

theorem ofBits_2048 : Ideal.ofBits .f32 0x45000000#32 = ((2048 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The norm's epsilon, the single-precision number nearest to one millionth. -/
def eps : ℝ := 8796093 / 2 ^ 43

theorem eps_pos : 0 < eps := by unfold eps; positivity

theorem ofBits_eps : Ideal.ofBits .f32 0x358637BD#32 = (eps : EReal) := by
  unfold eps
  simp [Ideal.ofBits, Ideal.ieee, -EReal.coe_mul]; norm_num

/-- A sum over `b * n` consecutive numbers, cut into `n` blocks of `b`. -/
theorem sum_blocks {M : Type*} [AddCommMonoid M] (f : ℕ → M) (b n : ℕ) :
    ∑ p ∈ Finset.range n, ∑ r ∈ Finset.range b, f (b * p + r) = ∑ i ∈ Finset.range (b * n), f i := by
  induction n with
  | zero => simp
  | succ n ih => rw [Finset.sum_range_succ, ih, Nat.mul_succ, Finset.sum_range_add]

/-- The entries of a matrix that are all real numbers, as a function of a row number and a column. -/
theorem exists_rows {n k : ℕ} {x : Fin n → Fin k → EReal} (h : ∀ r c, ∃ y : ℝ, x r c = y) :
    ∃ X : ℕ → Fin k → ℝ, ∀ r c, x r c = (X r.val c : EReal) := by
  choose y hy using h
  exact ⟨fun r c => if hr : r < n then y ⟨r, hr⟩ c else 0, fun r c => by simp [hy]⟩

end Cert.Finite

end
-- ==== Proof.LossRow.lean ====
/- The loss and its gradient for one row of the residual stream, over the real numbers. A row `x` of `2048` entries is
   normalised, scaled by the gain `g` and compared with the target `t`. -/
module

public import proofs.«01_k».proof.Proof.Finite

@[expose] public section

noncomputable section

namespace Cert.LossRow

open Cert.Finite

/-- A row. -/
abbrev Row := Fin 2048 → ℝ

/-- The mean square plus epsilon. -/
def var (x : Row) : ℝ := (∑ k, x k * x k) / 2048 + eps

/-- Its reciprocal square root. -/
def rinv (x : Row) : ℝ := (Real.sqrt (var x))⁻¹

/-- The normalised row. -/
def xhat (x : Row) (c : Fin 2048) : ℝ := x c * rinv x

/-- How far the scaled row is from the target. -/
def err (x g t : Row) (c : Fin 2048) : ℝ := xhat x c * g c - t c

/-- The row's loss before the factor one half. -/
def sq (x g t : Row) : ℝ := (∑ k, err x g t k * err x g t k) / 2048

/-- The loss's derivative by the scaled row. -/
def dy (x g t : Row) (c : Fin 2048) : ℝ := err x g t c * (1 / 2048)

/-- The mean of the derivative by the normalised row times that row. -/
def corr (x g t : Row) : ℝ := (∑ k, dy x g t k * g k * xhat x k) / 2048

/-- The gradient by the row. -/
def dx (x g t : Row) (c : Fin 2048) : ℝ := rinv x * (dy x g t c * g c - xhat x c * corr x g t)

/-- The row's part of the gradient by the gain. -/
def dg (x g t : Row) (c : Fin 2048) : ℝ := dy x g t c * xhat x c

theorem var_pos (x : Row) : 0 < var x :=
  add_pos_of_nonneg_of_pos (div_nonneg (Finset.sum_nonneg fun k _ => mul_self_nonneg _) (by norm_num)) eps_pos

theorem rinv_sq (x : Row) : rinv x * rinv x = 1 / var x := by
  unfold rinv
  rw [← mul_inv, Real.mul_self_sqrt (var_pos x).le, one_div]

/-- The reverse rule of a reciprocal square root gives the same gradient as the centred formula. -/
theorem dx_of_vjp (x g t : Row) (c : Fin 2048) :
    dy x g t c * g c * rinv x + x c * ((∑ k, x k * (dy x g t k * g k)) * (-(1 / 2) * (rinv x / var x)) / 2048)
      + ((∑ k, x k * (dy x g t k * g k)) * (-(1 / 2) * (rinv x / var x)) / 2048) * x c = dx x g t c := by
  have hs : ∑ k, dy x g t k * g k * xhat x k = rinv x * ∑ k, x k * (dy x g t k * g k) := by
    rw [Finset.mul_sum]
    exact Finset.sum_congr rfl fun k _ => by unfold xhat; ring
  unfold dx corr
  rw [hs, div_eq_mul_one_div (rinv x) (var x), ← rinv_sq]
  unfold xhat
  ring

end Cert.LossRow

end
-- ==== Proof.LossPay.lean ====
/- What one grid point of the loss kernel computes from finite blocks: each stage of its body is the real stage. -/
module

public import proofs.«01_k».proof.Proof.LossRow
public import proofs.«01_k».proof.Proof.Gen.LossKIdeal.Skeleton

@[expose] public section

noncomputable section

namespace Cert.LossKIdeal.Pay

open Idealize.ShloMosaic Cert.LossKIdeal Cert.LossKIdeal.Gen Cert.Finite Cert.LossRow

variable (x : FVec Ideal S512x2048 .f32) (g : FVec Ideal S1x2048 .f32) (t : FVec Ideal S512x2048 .f32)
  (X T : Fin 512 → Row) (G : Row)
  (hx : ∀ r c, x (ix2 r c) = (X r c : EReal)) (hg : ∀ c, g (ix2 0 c) = (G c : EReal))
  (ht : ∀ r c, t (ix2 r c) = (T r c : EReal))
include hx

theorem pay4 (r : Fin 512) : k0_pay4 (F := Ideal) x (ix2 r 0) = (rinv (X r) : EReal) := by
  pointwise [k0_pay4]
  simp only [hx, ofBits_2048, ofBits_eps, ← EReal.coe_mul, ← coe_sum, div_real _ _ (by norm_num : (2048 : ℝ) ≠ 0), ← EReal.coe_add]
  exact rsqrt_real _ (var_pos _)

theorem pay5 (r : Fin 512) (c : Fin 2048) : k0_pay5 (F := Ideal) x (ix2 r c) = (xhat (X r) c : EReal) := by
  pointwise [k0_pay5]
  rw [pay4 x X hx, hx, ← EReal.coe_mul]; rfl

include hg ht

theorem pay6 (r : Fin 512) (c : Fin 2048) : k0_pay6 (F := Ideal) x g t (ix2 r c) = (err (X r) G (T r) c : EReal) := by
  pointwise [k0_pay6]
  rw [pay5 x X hx, hg, ht, ← EReal.coe_mul, ← EReal.coe_sub]; rfl

theorem pay8 (r : Fin 512) (c : Fin 2048) : k0_pay8 (F := Ideal) x g t (ix2 r c) = (dy (X r) G (T r) c : EReal) := by
  pointwise [k0_pay8]
  rw [pay6 x g t X T G hx hg ht, ofBits_inv2048, ← EReal.coe_mul]; rfl

theorem pay7 (l : Fin 128) : k0_pay7 (F := Ideal) x g t (ix2 0 l) = ((1 / 2 * ∑ r, sq (X r) G (T r) : ℝ) : EReal) := by
  pointwise [k0_pay7]
  simp only [pay6 x g t X T G hx hg ht, ofBits_2048, ofBits_half, ← EReal.coe_mul, ← coe_sum, div_real _ _ (by norm_num : (2048 : ℝ) ≠ 0)]
  rfl

theorem pay9 (r : Fin 512) (c : Fin 2048) : k0_pay9 (F := Ideal) x g t (ix2 r c) = (dx (X r) G (T r) c : EReal) := by
  pointwise [k0_pay9]
  simp only [pay8 x g t X T G hx hg ht, pay4 x X hx, pay5 x X hx, hg, ofBits_2048, ← EReal.coe_mul, ← coe_sum,
    div_real _ _ (by norm_num : (2048 : ℝ) ≠ 0), ← EReal.coe_sub]
  rfl

theorem pay1 (c : Fin 2048) : k0_pay1 (F := Ideal) (k0_pay5 x) (k0_pay8 x g t) (ix2 0 c)
    = ((∑ r, dg (X r) G (T r) c : ℝ) : EReal) := by
  pointwise [k0_pay1]
  simp only [pay8 x g t X T G hx hg ht, pay5 x X hx, ← EReal.coe_mul, ← coe_sum]
  rfl

end Cert.LossKIdeal.Pay

end
-- ==== Proof.LossOut.lean ====
/- What one grid point of the loss kernel leaves in its three outputs' buffers, as the stages of its body. -/
module

public import proofs.«01_k».proof.Proof.Gen.LossKIdeal.Value
public import Idealize.ShloMosaic.Lib.Pointwise

@[expose] public section

set_option maxRecDepth 16384

noncomputable section

namespace Cert.LossKIdeal.Out

open Idealize.ShloMosaic Idealize.ShloMosaic.TcCoe Cert.LossKIdeal Cert.LossKIdeal.Gen

variable {F : FTy → Type} [FloatOps F]
variable (m : (ℓ : Loc nD τ sig) → Buf (Elt F) ℓ)

theorem hz : (![0, 0] : Fin 2 → Nat) = fun _ => 0 := funext fun a => by fin_cases a <;> rfl

section
variable {c : Dev nD} {i : grid0.Coords}
  {a1 : Memref sig .tc .vmem S512x2048 .f32} {h1 : a1.IsWhole} {a2 : Memref sig .tc .vmem S1x2048 .f32} {h2 : a2.IsWhole}
  {a3 : Memref sig .tc .vmem S512x2048 .f32} {h3 : a3.IsWhole} {a4 : Memref sig .tc .vmem S1x128 .f32} {h4 : a4.IsWhole}
  {a5 : Memref sig .tc .vmem S512x2048 .f32} {h5 : a5.IsWhole} {a6 : Memref sig .tc .vmem S1x2048 .f32} {h6 : a6.IsWhole}
  {x : Vec F S512x2048 .f32} {g : Vec F S1x2048 .f32} {t : Vec F S512x2048 .f32} {l : Vec F S1x128 .f32} {d : Vec F S1x2048 .f32}

/-- The first point's loss row is that block's loss. -/
theorem first_loss {hc0 : cond0_0 i} {hc1 : ¬cond0_1 i} :
    out0_A_3 c i a1 h1 a2 h2 a3 h3 a4 h4 a5 h5 a6 h6 hc0 hc1 x g t = k0_pay7 x g t := by
  unfold out0_A_3
  rw [View.read_writes_eq_canon _ _ _ (cover0_A_3 c i a1 h1 a2 h2 a3 h3 a4 h4 a5 h5 a6 h6 hc0 hc1 x g t)]
  unfold kernelRun0_A
  dsimp only
  sl_unfold_words
  rw [View.canon_unit_zero hz]
  simp only [View.readAt_eq_ld, h1.read_unread, h2.read_unread, h3.read_unread, View.ld_unit_zero (S := S512x2048) hz,
    View.ld_unit_zero (S := S1x2048) hz]

/-- The first point's gradient block. -/
theorem first_dx {hc0 : cond0_0 i} {hc1 : ¬cond0_1 i} :
    out0_A_4 c i a1 h1 a2 h2 a3 h3 a4 h4 a5 h5 a6 h6 hc0 hc1 x g t = k0_pay9 x g t := by
  unfold out0_A_4
  rw [View.read_writes_eq_canon _ _ _ (cover0_A_4 c i a1 h1 a2 h2 a3 h3 a4 h4 a5 h5 a6 h6 hc0 hc1 x g t)]
  unfold kernelRun0_A
  dsimp only
  sl_unfold_words
  rw [View.canon_unit_zero hz]
  simp only [View.readAt_eq_ld, h1.read_unread, h2.read_unread, h3.read_unread, View.ld_unit_zero (S := S512x2048) hz,
    View.ld_unit_zero (S := S1x2048) hz]

/-- The first point's gain gradient is that block's. -/
theorem first_dg {hc0 : cond0_0 i} {hc1 : ¬cond0_1 i} :
    out0_A_5 c i a1 h1 a2 h2 a3 h3 a4 h4 a5 h5 a6 h6 hc0 hc1 x g t = k0_pay1 (k0_pay5 x) (k0_pay8 x g t) := by
  unfold out0_A_5
  rw [View.read_writes_eq_canon _ _ _ (cover0_A_5 c i a1 h1 a2 h2 a3 h3 a4 h4 a5 h5 a6 h6 hc0 hc1 x g t)]
  unfold kernelRun0_A
  dsimp only
  sl_unfold_words
  rw [View.canon_unit_zero hz]
  simp only [View.readAt_eq_ld, h1.read_unread, h2.read_unread, h3.read_unread, View.ld_unit_zero (S := S512x2048) hz,
    View.ld_unit_zero (S := S1x2048) hz]

/-- A later point adds its block's loss. -/
theorem next_loss {hc0 : ¬cond0_0 i} {hc1 : cond0_1 i} :
    out0_B_3 c i a1 h1 a2 h2 a3 h3 a4 h4 a5 h5 a6 h6 hc0 hc1 x g t l d = addf l (k0_pay7 x g t) := by
  unfold out0_B_3
  rw [View.read_writes_eq_canon _ _ _ (cover0_B_3 c i a1 h1 a2 h2 a3 h3 a4 h4 a5 h5 a6 h6 hc0 hc1 x g t l d)]
  unfold kernelRun0_B
  dsimp only
  sl_unfold_words
  rw [View.canon_unit_zero hz]
  unfold k0_pay2
  simp only [View.readAt_eq_ld, h1.read_unread, h2.read_unread, h3.read_unread, h4.read_unread,
    View.ld_unit_zero (S := S512x2048) hz, View.ld_unit_zero (S := S1x2048) hz, View.ld_unit_zero (S := S1x128) hz,
    shapeCast_self]

/-- A later point's gradient block. -/
theorem next_dx {hc0 : ¬cond0_0 i} {hc1 : cond0_1 i} :
    out0_B_4 c i a1 h1 a2 h2 a3 h3 a4 h4 a5 h5 a6 h6 hc0 hc1 x g t l d = k0_pay9 x g t := by
  unfold out0_B_4
  rw [View.read_writes_eq_canon _ _ _ (cover0_B_4 c i a1 h1 a2 h2 a3 h3 a4 h4 a5 h5 a6 h6 hc0 hc1 x g t l d)]
  unfold kernelRun0_B
  dsimp only
  sl_unfold_words
  rw [View.canon_unit_zero hz]
  simp only [View.readAt_eq_ld, h1.read_unread, h2.read_unread, h3.read_unread, View.ld_unit_zero (S := S512x2048) hz,
    View.ld_unit_zero (S := S1x2048) hz]

/-- A later point adds its block's gain gradient. -/
theorem next_dg {hc0 : ¬cond0_0 i} {hc1 : cond0_1 i} :
    out0_B_5 c i a1 h1 a2 h2 a3 h3 a4 h4 a5 h5 a6 h6 hc0 hc1 x g t l d
      = addf d (k0_pay1 (k0_pay5 x) (k0_pay8 x g t)) := by
  unfold out0_B_5
  rw [View.read_writes_eq_canon _ _ _ (cover0_B_5 c i a1 h1 a2 h2 a3 h3 a4 h4 a5 h5 a6 h6 hc0 hc1 x g t l d)]
  unfold kernelRun0_B
  dsimp only
  sl_unfold_words
  rw [View.canon_unit_zero hz]
  unfold k0_pay3
  simp only [View.readAt_eq_ld, h1.read_unread, h2.read_unread, h3.read_unread, h6.read_unread,
    View.ld_unit_zero (S := S512x2048) hz, View.ld_unit_zero (S := S1x2048) hz, shapeCast_self]

end

/-- The row blocks of the two large operands, and the gain's whole row. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_4.index t 0 = t.val ∧ win0_4.index t 1 = 0) :=
  (by decide +kernel : ∀ t : Fin grid0.N, _)

theorem lt_N (t : Fin cfg0.N) : t.val < 16 := t.isLt.trans_eq N_0

/-- Row `r` of block `t` is row `512 t + r` of the array. -/
abbrev row (t : Fin cfg0.N) (r : Fin 512) : Fin 8192 := ⟨512 * t.val + r.val, by have := lt_N t; omega⟩

theorem iblk_x (c : Dev nD) (t : Fin cfg0.N) (r : Fin 512) (k : Fin 2048) :
    (iblk m c 0 t : Vec F S512x2048 .f32) (ix2 r k) = m ((c : Thread nD τ).loc main_arg0) (ix2 (row t r) k) := by
  obtain ⟨hi, -, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 2048 + 1 * k.val = k.val; rw [hi.2]; omega

theorem iblk_t (c : Dev nD) (t : Fin cfg0.N) (r : Fin 512) (k : Fin 2048) :
    (iblk m c 2 t : Vec F S512x2048 .f32) (ix2 r k) = m ((c : Thread nD τ).loc main_arg2) (ix2 (row t r) k) := by
  obtain ⟨-, -, hi, -⟩ := idx_facts t
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [hi.1]; omega
  | ⟨1, _⟩ => show win0_2.index t 1 * 2048 + 1 * k.val = k.val; rw [hi.2]; omega

theorem iblk_g (c : Dev nD) (t : Fin cfg0.N) (k : Fin 2048) :
    (iblk m c 1 t : Vec F S1x2048 .f32) (ix2 0 k) = m ((c : Thread nD τ).loc main_arg1) (ix2 0 k) := by
  obtain ⟨-, hi, -, -⟩ := idx_facts t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

end Cert.LossKIdeal.Out

end
-- ==== Proof.LossKer.lean ====
/- The loss kernel's three results from finite arguments, over the real numbers: the fold of its sixteen grid points. -/
module

public import proofs.«01_k».proof.Proof.LossPay
public import proofs.«01_k».proof.Proof.LossOut

@[expose] public section

set_option maxRecDepth 16384

noncomputable section

namespace Cert.LossKIdeal.Ker

open Idealize.ShloMosaic Idealize.ShloMosaic.TcCoe Cert.LossKIdeal Cert.LossKIdeal.Gen Cert.LossKIdeal.Out Cert.LossKIdeal.Pay
  Cert.Finite Cert.LossRow
open Idealize.SL.Sem

variable (m : (ℓ : Loc nD τ sig) → Buf (Elt Ideal) ℓ) (ρ : Dev nD → PrngReg) (c : Dev nD)
  (X T : ℕ → Row) (G : Row)

/-- The three arguments of device `c` are the real arrays `X`, `G`, `T`. -/
structure Args : Prop where
  hx : ∀ (r : Fin 8192) (k : Fin 2048), m ((c : Thread nD τ).loc main_arg0) (ix2 r k) = (X r.val k : EReal)
  hg : ∀ k : Fin 2048, m ((c : Thread nD τ).loc main_arg1) (ix2 0 k) = (G k : EReal)
  ht : ∀ (r : Fin 8192) (k : Fin 2048), m ((c : Thread nD τ).loc main_arg2) (ix2 r k) = (T r.val k : EReal)

/-- The loss of block `p`. -/
def blockLoss (p : ℕ) : ℝ := 1 / 2 * ∑ r ∈ Finset.range 512, sq (X (512 * p + r)) G (T (512 * p + r))

/-- The gain gradient of block `p`. -/
def blockDg (k : Fin 2048) (p : ℕ) : ℝ := ∑ r ∈ Finset.range 512, dg (X (512 * p + r)) G (T (512 * p + r)) k

variable {m c X T G} (h : Args m c X T G)
include h

theorem pt_loss (t : Fin cfg0.N) (l : Fin 128) :
    k0_pay7 (F := Ideal) (iblk m c 0 t) (iblk m c 1 t) (iblk m c 2 t) (ix2 0 l) = (blockLoss X T G t.val : EReal) := by
  rw [pay7 _ _ _ (fun r => X (512 * t.val + r.val)) (fun r => T (512 * t.val + r.val)) G
    (fun r k => (iblk_x m c t r k).trans (h.hx _ k)) (fun k => (iblk_g m c t k).trans (h.hg k))
    (fun r k => (iblk_t m c t r k).trans (h.ht _ k))]
  unfold blockLoss
  rw [Finset.sum_range]

theorem pt_dx (t : Fin cfg0.N) (r : Fin 512) (k : Fin 2048) :
    k0_pay9 (F := Ideal) (iblk m c 0 t) (iblk m c 1 t) (iblk m c 2 t) (ix2 r k)
      = (dx (X (512 * t.val + r.val)) G (T (512 * t.val + r.val)) k : EReal) :=
  pay9 _ _ _ (fun r => X (512 * t.val + r.val)) (fun r => T (512 * t.val + r.val)) G
    (fun r k => (iblk_x m c t r k).trans (h.hx _ k)) (fun k => (iblk_g m c t k).trans (h.hg k))
    (fun r k => (iblk_t m c t r k).trans (h.ht _ k)) r k

theorem pt_dg (t : Fin cfg0.N) (k : Fin 2048) :
    k0_pay1 (F := Ideal) (k0_pay5 (iblk m c 0 t)) (k0_pay8 (iblk m c 0 t) (iblk m c 1 t) (iblk m c 2 t)) (ix2 0 k)
      = (blockDg X T G k t.val : EReal) := by
  rw [pay1 _ _ _ (fun r => X (512 * t.val + r.val)) (fun r => T (512 * t.val + r.val)) G
    (fun r k => (iblk_x m c t r k).trans (h.hx _ k)) (fun k => (iblk_g m c t k).trans (h.hg k))
    (fun r k => (iblk_t m c t r k).trans (h.ht _ k))]
  unfold blockDg
  rw [Finset.sum_range]

/-- After point `n` the two accumulators hold the sums of the blocks so far. -/
theorem acc : ∀ (n : ℕ) (hn : n < cfg0.N),
    (∀ l : Fin 128, (outsAt0 m c n hn).1 (ix2 0 l) = ((∑ p ∈ Finset.range (n + 1), blockLoss X T G p : ℝ) : EReal))
    ∧ ∀ k : Fin 2048, (outsAt0 m c n hn).2.2 (ix2 0 k) = ((∑ p ∈ Finset.range (n + 1), blockDg X T G k p : ℝ) : EReal)
  | 0, hn => by
    rw [outsAt0_A m c ⟨0, hn⟩ rfl (by simp)]
    refine ⟨fun l => ?_, fun k => ?_⟩
    · dsimp only
      rw [first_loss, pt_loss h ⟨0, hn⟩ l]; simp
    · dsimp only
      rw [first_dg, pt_dg h ⟨0, hn⟩ k]; simp
  | n + 1, hn => by
    have hN := lt_N ⟨n + 1, hn⟩
    have ih := acc n (Nat.lt_of_succ_lt hn)
    rw [outsAt0_B m c ⟨n + 1, hn⟩ (by dsimp only at hN ⊢; omega) (by simp)]
    refine ⟨fun l => ?_, fun k => ?_⟩
    · dsimp only
      rw [next_loss, Finset.sum_range_succ, EReal.coe_add]
      exact congrArg₂ _ (ih.1 l) (pt_loss h ⟨n + 1, hn⟩ l)
    · dsimp only
      rw [next_dg, Finset.sum_range_succ, EReal.coe_add]
      exact congrArg₂ _ (ih.2 k) (pt_dg h ⟨n + 1, hn⟩ k)

/-- The gradient block of every point. -/
theorem dx_block (t : Fin cfg0.N) (r : Fin 512) (k : Fin 2048) :
    (outsAt0 m c t.val t.isLt).2.1 (ix2 r k) = (dx (X (512 * t.val + r.val)) G (T (512 * t.val + r.val)) k : EReal) := by
  have hN := lt_N t
  by_cases h0 : t.val = 0
  · rw [outsAt0_A m c t (by omega) (by omega)]
    dsimp only
    rw [first_dx, pt_dx h t r k]
  · rw [outsAt0_B m c t (by omega) (by omega)]
    dsimp only
    rw [next_dx, pt_dx h t r k]

omit h in
/-- The block of the row number `r`. -/
theorem mem_blk4 (t : Fin cfg0.N) (i : S8192x2048.Idx) :
    i ∈ ((cfg0.win 4).blk t).view.set ↔ ∀ a : Fin 2, win0_4.index t a * S512x2048.size a ≤ i a ∧ (i a : ℕ) < win0_4.index t a * S512x2048.size a + S512x2048.size a := by
  show i ∈ ((View.whole main_v0_1).slice (win0_4.rect t)).set ↔ _
  rw [View.set_slice_whole, Rect.mem_set_unit]; exact Iff.rfl

/-- The gradient by the residual stream, as an array. -/
def dxArr (X T : ℕ → Row) (G : Row) : S8192x2048.Idx → EReal := fun i => (dx (X (i 0).val) G (T (i 0).val) (i 1) : EReal)

theorem final_dx : (Gen.dats m 0 c).arrAt 4 cfg0.N = dxArr X T G := by
  refine (Gen.dats m 0 c).arrAt_eq_of_cover 4 (dxArr X T G) (fun t _ => ?_) fun i => ?_
  · rw [Value.flushed4]
    funext j
    obtain ⟨-, -, -, hi⟩ := idx_facts t
    rw [View.read_apply]
    idx_vars j
    have e : ((cfg0.win 4).blk t).view.emb (ix2 j0 j1) = (ix2 (row t j0) j1 : S8192x2048.Idx) := by
      funext a
      apply Fin.ext
      match a with
      | ⟨0, _⟩ => show win0_4.index t 0 * 512 + 1 * j0.val = 512 * t.val + j0.val; rw [hi.1]; omega
      | ⟨1, _⟩ => show win0_4.index t 1 * 2048 + 1 * j1.val = j1.val; rw [hi.2]; omega
    exact (dx_block h t j0 j1).trans (congrArg (dxArr X T G) e).symm
  · have h0 : (i 0 : Nat) < 8192 := (i 0).isLt
    have h1 : (i 1 : Nat) < 2048 := (i 1).isLt
    have hN : cfg0.N = 16 := N_0
    refine ⟨⟨(i 0).val / 512, by omega⟩, flush0_4 _, ?_⟩
    obtain ⟨-, -, -, hi⟩ := idx_facts ⟨(i 0).val / 512, by omega⟩
    rw [mem_blk4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 2048 ≤ (i 1).val ∧ (i 1).val < win0_4.index _ 1 * 2048 + 2048
      rw [hi.2]; omega

/-- The loss row: every lane holds the whole loss. -/
def lossArr (X T : ℕ → Row) (G : Row) : S1x128.Idx → EReal :=
  fun _ => ((∑ p ∈ Finset.range 16, blockLoss X T G p : ℝ) : EReal)

/-- The gradient by the gain. -/
def dgArr (X T : ℕ → Row) (G : Row) : S1x2048.Idx → EReal :=
  fun i => ((∑ p ∈ Finset.range 16, blockDg X T G (i 1) p : ℝ) : EReal)

omit h in
theorem last (t : Fin cfg0.N) (ht : t.val % 16 = 15) : t = t0_15 := by
  have := lt_N t
  exact Fin.ext (show t.val = 15 by omega)

theorem final_loss : (Gen.dats m 0 c).arrAt 3 cfg0.N = lossArr X T G := by
  refine (Gen.dats m 0 c).arrAt_eq_of_cover 3 (lossArr X T G) (fun t hf => ?_) fun i => ⟨t0_15, (flush0_3 t0_15).mpr rfl, ?_⟩
  · obtain rfl := last t ((flush0_3 t).mp hf)
    rw [Value.flushed3]
    have hz' : (fun a => win0_3.index t0_15 a * main_v0_0.ty.shape.size a) = fun _ => 0 := funext fun a => by fin_cases a <;> decide
    refine Eq.trans ?_ (Memref.read_access_unit_zero (Elt Ideal) main_v0_0 hz' (fun a => by rw [congrFun hz' a]; simp) (lossArr X T G)).symm
    funext j
    idx_vars j
    obtain rfl : j0 = 0 := Subsingleton.elim _ _
    exact (acc h 15 _).1 j1
  · show i ∈ ((View.whole main_v0_0).slice (win0_3.rect t0_15)).set
    rw [View.set_slice_whole, Rect.mem_set_unit]
    intro a
    have h0 : (i 0 : Nat) < 1 := (i 0).isLt
    have h1 : (i 1 : Nat) < 128 := (i 1).isLt
    match a with
    | ⟨0, _⟩ => show win0_3.index t0_15 0 * win0_3.size 0 ≤ (i 0 : Nat) ∧ (i 0 : Nat) < win0_3.index t0_15 0 * win0_3.size 0 + win0_3.xsize (grid0.coords t0_15) 0
                rw [show win0_3.index t0_15 0 * win0_3.size 0 = 0 from by decide +kernel, show win0_3.xsize (grid0.coords t0_15) 0 = 1 from by decide +kernel]; omega
    | ⟨1, _⟩ => show win0_3.index t0_15 1 * win0_3.size 1 ≤ (i 1 : Nat) ∧ (i 1 : Nat) < win0_3.index t0_15 1 * win0_3.size 1 + win0_3.xsize (grid0.coords t0_15) 1
                rw [show win0_3.index t0_15 1 * win0_3.size 1 = 0 from by decide +kernel, show win0_3.xsize (grid0.coords t0_15) 1 = 128 from by decide +kernel]; omega

theorem final_dg : (Gen.dats m 0 c).arrAt 5 cfg0.N = dgArr X T G := by
  refine (Gen.dats m 0 c).arrAt_eq_of_cover 5 (dgArr X T G) (fun t hf => ?_) fun i => ⟨t0_15, (flush0_5 t0_15).mpr rfl, ?_⟩
  · obtain rfl := last t ((flush0_5 t).mp hf)
    rw [Value.flushed5]
    have hz' : (fun a => win0_5.index t0_15 a * main_v0_2.ty.shape.size a) = fun _ => 0 := funext fun a => by fin_cases a <;> decide
    refine Eq.trans ?_ (Memref.read_access_unit_zero (Elt Ideal) main_v0_2 hz' (fun a => by rw [congrFun hz' a]; simp) (dgArr X T G)).symm
    funext j
    idx_vars j
    obtain rfl : j0 = 0 := Subsingleton.elim _ _
    exact (acc h 15 _).2 j1
  · show i ∈ ((View.whole main_v0_2).slice (win0_5.rect t0_15)).set
    rw [View.set_slice_whole, Rect.mem_set_unit]
    intro a
    have h0 : (i 0 : Nat) < 1 := (i 0).isLt
    have h1 : (i 1 : Nat) < 2048 := (i 1).isLt
    match a with
    | ⟨0, _⟩ => show win0_5.index t0_15 0 * win0_5.size 0 ≤ (i 0 : Nat) ∧ (i 0 : Nat) < win0_5.index t0_15 0 * win0_5.size 0 + win0_5.xsize (grid0.coords t0_15) 0
                rw [show win0_5.index t0_15 0 * win0_5.size 0 = 0 from by decide +kernel, show win0_5.xsize (grid0.coords t0_15) 0 = 1 from by decide +kernel]; omega
    | ⟨1, _⟩ => show win0_5.index t0_15 1 * win0_5.size 1 ≤ (i 1 : Nat) ∧ (i 1 : Nat) < win0_5.index t0_15 1 * win0_5.size 1 + win0_5.xsize (grid0.coords t0_15) 1
                rw [show win0_5.index t0_15 1 * win0_5.size 1 = 0 from by decide +kernel, show win0_5.xsize (grid0.coords t0_15) 1 = 2048 from by decide +kernel]; omega

end Cert.LossKIdeal.Ker

end
-- ==== Proof.LossRef.lean ====
/- The reference's loss and gradients from finite arguments, over the real numbers. -/
module

public import proofs.«01_k».proof.Proof.LossRow
public import proofs.«01_k».proof.Proof.Gen.LossRIdeal.Read
public import Idealize.ShloMosaic.Lib.Pointwise

@[expose] public section

noncomputable section

namespace Cert.LossRIdeal.Ref

open Idealize.ShloMosaic Idealize.ShloMosaic.TcCoe Cert.LossRIdeal Cert.LossRIdeal.Gen Cert.LossRIdeal.Read Cert.Finite Cert.LossRow

variable (x0 : FVec Ideal S8192x2048 .f32) (x1 : FVec Ideal S1x2048 .f32) (x2 : FVec Ideal S8192x2048 .f32)
  (X T : ℕ → Row) (G : Row)
  (hx : ∀ (r : Fin 8192) (k : Fin 2048), x0 (ix2 r k) = (X r.val k : EReal))
  (hg : ∀ k : Fin 2048, x1 (ix2 0 k) = (G k : EReal))
  (ht : ∀ (r : Fin 8192) (k : Fin 2048), x2 (ix2 r k) = (T r.val k : EReal))
include hx

theorem v6 (r : Fin 8192) : val_main_v6 (F := Ideal) x0 (ix2 r 0) = (var (X r.val) : EReal) := by
  pointwise [val_main_v6, val_main_v5, val_main_v4, val_main_v3, val_main_v2, val_main_v1, val_main_v0, val_main_cst,
    val_main_cst_0, val_main_cst_1]
  simp only [hx, zero_add, ofBits_2048, ofBits_eps, ← EReal.coe_mul, ← coe_sum, div_real _ _ (by norm_num : (2048 : ℝ) ≠ 0), ← EReal.coe_add]
  rfl

theorem v7 (r : Fin 8192) : val_main_v7 (F := Ideal) x0 (ix2 r 0) = (rinv (X r.val) : EReal) := by
  pointwise [val_main_v7]
  rw [v6 x0 X hx]
  exact rsqrt_real _ (var_pos _)

theorem v10 (r : Fin 8192) : val_main_v10 (F := Ideal) x0 (ix2 r 0) = (-(1 / 2) * (rinv (X r.val) / var (X r.val)) : ℝ) := by
  pointwise [val_main_v10, val_main_v9, val_main_v8, val_main_cst_2]
  rw [v6 x0 X hx, v7 x0 X hx, ofBits_neg_half, div_real _ _ (var_pos _).ne', ← EReal.coe_mul]

theorem v12 (r : Fin 8192) (k : Fin 2048) : val_main_v12 (F := Ideal) x0 (ix2 r k) = (xhat (X r.val) k : EReal) := by
  pointwise [val_main_v12, val_main_v11]
  rw [v7 x0 X hx, hx, ← EReal.coe_mul]; rfl

include hg ht

theorem v15 (r : Fin 8192) (k : Fin 2048) : val_main_v15 (F := Ideal) x0 x1 x2 (ix2 r k) = (err (X r.val) G (T r.val) k : EReal) := by
  pointwise [val_main_v15, val_main_v14, val_main_v13]
  rw [v12 x0 X hx, hg, ht, ← EReal.coe_mul, ← EReal.coe_sub]; rfl

theorem v29 (r : Fin 8192) (k : Fin 2048) : val_main_v29 (F := Ideal) x0 x1 x2 (ix2 r k) = (dy (X r.val) G (T r.val) k : EReal) := by
  pointwise [val_main_v29, val_main_v28, val_main_v27, val_main_v26, val_main_v25, val_main_v24, val_main_v18, val_main_v17,
    val_main_cst_3, val_main_cst_8, val_main_cst_9, val_main_cst_10]
  rw [v15 x0 x1 x2 X T G hx hg ht]
  simp only [ofBits_half, ofBits_one, ofBits_two, ofBits_2048, ← EReal.coe_mul, div_real _ _ (by norm_num : (2048 : ℝ) ≠ 0)]
  unfold dy
  congr 1
  ring

theorem v34 (r : Fin 8192) (k : Fin 2048) : val_main_v34 (F := Ideal) x0 x1 x2 (ix2 r k) = (dy (X r.val) G (T r.val) k * G k : ℝ) := by
  pointwise [val_main_v34, val_main_v33]
  rw [v29 x0 x1 x2 X T G hx hg ht, hg, ← EReal.coe_mul]

theorem v37 (r : Fin 8192) : val_main_v37 (F := Ideal) x0 x1 x2 (ix2 r 0) = (∑ k, X r.val k * (dy (X r.val) G (T r.val) k * G k) : ℝ) := by
  pointwise [val_main_v37, val_main_v36, val_main_v35, val_main_cst_12]
  simp only [v34 x0 x1 x2 X T G hx hg ht, hx, zero_add, ← EReal.coe_mul, ← coe_sum]

theorem v44 (r : Fin 8192) (k : Fin 2048) : val_main_v44 (F := Ideal) x0 x1 x2 (ix2 r k) = ((∑ k, X r.val k * (dy (X r.val) G (T r.val) k * G k)) * (-(1 / 2) * (rinv (X r.val) / var (X r.val))) / 2048 : ℝ) := by
  pointwise [val_main_v44, val_main_v43, val_main_v42, val_main_v41, val_main_v40, val_main_cst_13, val_main_cst_14]
  simp only [Finset.univ_unique, Finset.sum_singleton, Fin.default_eq_zero, v37 x0 x1 x2 X T G hx hg ht, v10 x0 X hx, zero_add, ofBits_2048,
    ← EReal.coe_mul, div_real _ _ (by norm_num : (2048 : ℝ) ≠ 0)]

theorem v48 (r : Fin 8192) (k : Fin 2048) : val_main_v48 (F := Ideal) x0 x1 x2 (ix2 r k) = (dx (X r.val) G (T r.val) k : EReal) := by
  pointwise [val_main_v48, val_main_v47, val_main_v46, val_main_v45, val_main_v39, val_main_v38]
  simp only [v44 x0 x1 x2 X T G hx hg ht, v34 x0 x1 x2 X T G hx hg ht, v7 x0 X hx, hx, ← EReal.coe_mul, ← EReal.coe_add]
  congr 1
  exact dx_of_vjp _ _ _ _

theorem v32 (k : Fin 2048) : val_main_v32 (F := Ideal) x0 x1 x2 (ix2 0 k) = (∑ r : Fin 8192, dg (X r.val) G (T r.val) k : ℝ) := by
  pointwise [val_main_v32, val_main_v31, val_main_v30, val_main_cst_11]
  simp only [v29 x0 x1 x2 X T G hx hg ht, v12 x0 X hx, zero_add, ← EReal.coe_mul, ← coe_sum]
  simp only [dg, mul_comm]

theorem v49 (l : Fin 128) : val_main_v49 (F := Ideal) x0 x1 x2 (ix2 0 l) = (1 / 2 * ∑ r : Fin 8192, sq (X r.val) G (T r.val) : ℝ) := by
  pointwise [val_main_v49, val_main_v23, val_main_v22, val_main_v21, val_main_v20, val_main_v19, val_main_v16, val_main_cst_4,
    val_main_cst_5, val_main_cst_6, val_main_cst_7]
  simp only [v15 x0 x1 x2 X T G hx hg ht, zero_add, ofBits_half, ofBits_2048, ← EReal.coe_mul, ← coe_sum, div_real _ _ (by norm_num : (2048 : ℝ) ≠ 0)]
  rfl

end Cert.LossRIdeal.Ref

end
-- ==== Proof.PreFacts.lean ====
/- The shape facts of the preconditions. -/
module

public import proofs.«01_k».proof.Pre_loss_finite

@[expose] public section

noncomputable section

instance Cert.Pre_loss_finite.facts : Cert.Pre_loss_finite.Facts where
  bcast_S_S8192x2048 := by decide
  bcast_S_S1x2048 := by decide

end
-- ==== Proof.LossMain.lean ====
/- The claims about the loss kernel: its frames, and that its three results are the reference's. -/
module

public import proofs.«01_k».proof.Defs
public import proofs.«01_k».proof.Proof.LossKer
public import proofs.«01_k».proof.Proof.LossRef
public import proofs.«01_k».proof.Proof.Gen.LossK.Frame
public import proofs.«01_k».proof.Proof.PreFacts

@[expose] public section

set_option maxRecDepth 16384

noncomputable section

namespace Cert.Loss

open Idealize.ShloMosaic Idealize.ShloMosaic.TcCoe Idealize.SL.Sem Cert.Finite Cert.LossRow

theorem frame_k : Cert.quiescent_LossK := fun m ρ _ => Cert.LossK.Gen.frame m ρ
theorem frame_ki : Cert.quiescent_LossKIdeal := fun m ρ _ => Cert.LossKIdeal.Gen.frame m ρ
theorem frame_ki_pre : Cert.quiescent_LossKIdeal_pre_loss_finite := fun m ρ _ => Cert.LossKIdeal.Gen.frame m ρ

theorem frame_ri : Cert.quiescent_LossRIdeal := fun m ρ _ =>
  (θ_run Cert.LossRIdeal.defs _ _).mono (fun _ h => ⟨fun c => (h c).2.2.2, funext fun s => nomatch s⟩)
    (Cert.LossRIdeal.Value.run (F := Ideal) m ρ)
theorem frame_ri_pre : Cert.quiescent_LossRIdeal_pre_loss_finite := fun m ρ _ => frame_ri m ρ trivial

variable (m : (ℓ : Loc Cert.LossKIdeal.nD Cert.LossKIdeal.τ Cert.LossKIdeal.sig) → Buf (Elt Ideal) ℓ)

/-- Under the precondition the arguments are real arrays. -/
theorem real_args (h : Cert.Pre_LossKIdeal_loss_finite m) (c : Dev Cert.LossKIdeal.nD) :
    ∃ (X T : ℕ → Row) (G : Row), Cert.LossKIdeal.Ker.Args m c X T G := by
  obtain ⟨hx, hg, ht⟩ := h c
  obtain ⟨X, hX⟩ := exists_rows fun (r : Fin 8192) (k : Fin 2048) => real_of_cmp (congrFun hx (ix2 r k))
  obtain ⟨T, hT⟩ := exists_rows fun (r : Fin 8192) (k : Fin 2048) => real_of_cmp (congrFun ht (ix2 r k))
  choose G hG using fun k : Fin 2048 => real_of_cmp (congrFun hg (ix2 0 k))
  exact ⟨X, T, G, hX, hG, hT⟩

/-- The sum over sixteen blocks of 512 rows is the sum over all rows. -/
theorem blocks (f : ℕ → ℝ) : ∑ p ∈ Finset.range 16, ∑ r ∈ Finset.range 512, f (512 * p + r) = ∑ r : Fin 8192, f r.val := by
  rw [sum_blocks f 512 16, Finset.sum_range]

theorem value : Cert.algebraic_LossKIdeal_LossRIdeal_pre_loss_finite := by
  intro m ρ m' ρ' hp hm
  choose X T G h using real_args m hp
  refine ⟨fun c => Cert.LossKIdeal.Ker.lossArr (X c) (T c) (G c), fun c => Cert.LossKIdeal.Ker.dxArr (X c) (T c) (G c),
    fun c => Cert.LossKIdeal.Ker.dgArr (X c) (T c) (G c), ?_, ?_⟩
  · refine (θ_run Cert.LossKIdeal.defs _ _).mono (fun r hr c => ?_) (Cert.LossKIdeal.Value.run_blocks m ρ)
    obtain ⟨h0, h1, h2, h3⟩ := hr c
    exact ⟨h0.trans (Cert.LossKIdeal.Ker.final_loss (h c)), h1.trans (Cert.LossKIdeal.Ker.final_dx (h c)),
      h2.trans (Cert.LossKIdeal.Ker.final_dg (h c)), h3⟩
  · refine (θ_run Cert.LossRIdeal.defs _ _).mono (fun r hr c => ?_) (Cert.LossRIdeal.Value.run (F := Ideal) m' ρ')
    obtain ⟨h0, h1, h2, h3⟩ := hr c
    obtain ⟨e0, e1, e2⟩ := hm c
    have hx : ∀ (r : Fin 8192) (k : Fin 2048), m' ((c.tc : Thread Cert.LossRIdeal.nD Cert.LossRIdeal.τ).loc Cert.LossRIdeal.main_arg0) (ix2 r k) = (X c r.val k : EReal) :=
      fun r k => (congrFun e0 _).trans ((h c).hx r k)
    have hg : ∀ k : Fin 2048, m' ((c.tc : Thread Cert.LossRIdeal.nD Cert.LossRIdeal.τ).loc Cert.LossRIdeal.main_arg1) (ix2 0 k) = (G c k : EReal) :=
      fun k => (congrFun e1 _).trans ((h c).hg k)
    have ht : ∀ (r : Fin 8192) (k : Fin 2048), m' ((c.tc : Thread Cert.LossRIdeal.nD Cert.LossRIdeal.τ).loc Cert.LossRIdeal.main_arg2) (ix2 r k) = (T c r.val k : EReal) :=
      fun r k => (congrFun e2 _).trans ((h c).ht r k)
    refine ⟨h0.trans ((Cert.LossRIdeal.Read.val_main_v49_eq _ _ _).trans ?_), h1.trans ((Cert.LossRIdeal.Read.val_main_v48_eq _ _).trans ?_),
      h2.trans ((Cert.LossRIdeal.Read.val_main_v32_eq _ _ _).trans ?_), h3⟩
    · funext j
      idx_vars j
      obtain rfl : j0 = 0 := Subsingleton.elim _ _
      refine (Cert.LossRIdeal.Ref.v49 _ _ _ _ _ _ hx hg ht j1).trans (congrArg _ ?_)
      unfold Cert.LossKIdeal.Ker.blockLoss
      rw [← Finset.mul_sum, blocks (fun r => sq (X c r) (G c) (T c r))]
    · funext j
      idx_vars j
      exact Cert.LossRIdeal.Ref.v48 _ _ _ _ _ _ hx hg ht j0 j1
    · funext j
      idx_vars j
      obtain rfl : j0 = 0 := Subsingleton.elim _ _
      refine (Cert.LossRIdeal.Ref.v32 _ _ _ _ _ _ hx hg ht j1).trans (congrArg _ ?_)
      exact (blocks (fun r => dg (X c r) (G c) (T c r) j1)).symm

end Cert.Loss

end
-- ==== Proof.MlaRun.lean ====
/- The attention program from start to end: every buffer that outlives the run holds the last boundary's contents. -/
module

public import proofs.«01_k».proof.Proof.Gen.MlaKIdeal.Frame

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlaKIdeal Cert.MlaKIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends with the contents the fold through the program gives it. -/
theorem run : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.Mla

end
-- ==== Proof.MlaFwd.lean ====
module

public import proofs.«01_k».proof.Proof.Gen.MlaKIdeal.Frame
public import Idealize.ShloMosaic.Lib.Pipeline.Value
public import Idealize.ShloMosaic.Lib.VecWindow
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Mla
open Cert.MlaKIdeal Cert.MlaKIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum, row sum and weighted sum of one block of queries, one column of each per lane. -/
abbrev St := Vec Ideal S1024x128 .f32 × Vec Ideal S1024x128 .f32 × Vec Ideal S1024x128 .f32

/-- The keys of trip `k`. -/
def kt (x1 : Vec Ideal S1x8192x192 .bf16) (k : Fin k0_t1_loop.trips) : Vec Ideal S1x512x192 .bf16 :=
  View.ld x1 (Rect.unit (s := S1x8192x192) (k0_off1 k) S1x512x192.size (k0_off1_inb k))

/-- The values of trip `k`. -/
def vt (x2 : Vec Ideal S1x8192x128 .bf16) (k : Fin k0_t1_loop.trips) : Vec Ideal S1x512x128 .bf16 :=
  View.ld x2 (Rect.unit (s := S1x8192x128) (k0_off2 k) S1x512x128.size (k0_off2_inb k))

/-- One trip of the forward sweep over the keys. -/
def step (x0 : Vec Ideal S1x1024x192 .bf16) (x1 : Vec Ideal S1x8192x192 .bf16) (x2 : Vec Ideal S1x8192x128 .bf16)
    (k : Fin k0_t1_loop.trips) (s : St) : St :=
  (k0_pay12 (k0_pay3 x0 (kt x1 k) s.1), k0_pay6 x0 (kt x1 k) s.1 s.2.1,
    k0_pay11 (k0_pay7 x0 (kt x1 k) s.1 s.2.2 (vt x2 k)))

/-- The whole buffer as a rectangle. -/
abbrev full : Rect S1024x128 := Rect.unit ![0, 0] S1024x128.size inb_S1024x128_S1024x128_0_0

section
variable (c : Dev nD) (i : grid0.Coords)
    (arg2 : Memref sig .tc .vmem S1x1024x192 .bf16) (harg2 : arg2.IsWhole) (arg3 : Memref sig .tc .vmem S1x8192x192 .bf16) (harg3 : arg3.IsWhole) (arg4 : Memref sig .tc .vmem S1x8192x128 .bf16) (harg4 : arg4.IsWhole) (arg5 : Memref sig .tc .vmem S1x1024x128 .bf16) (harg5 : arg5.IsWhole) (arg6 : Memref sig .tc .vmem S1x1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec Ideal S1x1024x192 .bf16) (x1 : Vec Ideal S1x8192x192 .bf16) (x2 : Vec Ideal S1x8192x128 .bf16)

theorem trip_fwd_ld (k : Fin k0_t1_loop.trips) (X2 : BufTy.Contents (Elt Ideal) arg2.view.ty) (X3 : BufTy.Contents (Elt Ideal) arg3.view.ty) (X4 : BufTy.Contents (Elt Ideal) arg4.view.ty) (f7 : BufTy.Contents (Elt Ideal) arg7.view.ty)
    (f8 : BufTy.Contents (Elt Ideal) arg8.view.ty) (f9 : BufTy.Contents (Elt Ideal) arg9.view.ty) :
    tripL_k0_t1 (F := Ideal) Variants.none c none i arg2 harg2 arg3 harg3 arg4 harg4 arg5 harg5 arg6 harg6 arg7 harg7 arg8 harg8 arg9 harg9 X2 X3 X4 k f7 f8 f9 =
      ([⟨full, (step (View.ld (arg2.view.read _ X2) (Rect.unit (s := S1x1024x192) ![0, 0, 0] S1x1024x192.size inb_S1x1024x192_S1x1024x192_0_0_0)) (arg3.view.read _ X3) (arg4.view.read _ X4) k (View.ld (arg7.view.read _ f7) full, View.ld (arg8.view.read _ f8) full, View.ld (arg9.view.read _ f9) full)).1⟩],
       [⟨full, (step (View.ld (arg2.view.read _ X2) (Rect.unit (s := S1x1024x192) ![0, 0, 0] S1x1024x192.size inb_S1x1024x192_S1x1024x192_0_0_0)) (arg3.view.read _ X3) (arg4.view.read _ X4) k (View.ld (arg7.view.read _ f7) full, View.ld (arg8.view.read _ f8) full, View.ld (arg9.view.read _ f9) full)).2.1⟩],
       [⟨full, (step (View.ld (arg2.view.read _ X2) (Rect.unit (s := S1x1024x192) ![0, 0, 0] S1x1024x192.size inb_S1x1024x192_S1x1024x192_0_0_0)) (arg3.view.read _ X3) (arg4.view.read _ X4) k (View.ld (arg7.view.read _ f7) full, View.ld (arg8.view.read _ f8) full, View.ld (arg9.view.read _ f9) full)).2.2⟩]) := by
  unfold tripL_k0_t1 trip_k0_t1
  rfl

theorem trip_fwd (k : Fin k0_t1_loop.trips) (f7 : BufTy.Contents (Elt Ideal) arg7.view.ty)
    (f8 : BufTy.Contents (Elt Ideal) arg8.view.ty) (f9 : BufTy.Contents (Elt Ideal) arg9.view.ty) :
    tripL_k0_t1 (F := Ideal) Variants.none c none i arg2 harg2 arg3 harg3 arg4 harg4 arg5 harg5 arg6 harg6 arg7 harg7 arg8 harg8 arg9 harg9 (harg2.unread x0) (harg3.unread x1) (harg4.unread x2) k f7 f8 f9 =
      ([⟨full, (step x0 x1 x2 k (arg7.view.read _ f7, arg8.view.read _ f8, arg9.view.read _ f9)).1⟩],
       [⟨full, (step x0 x1 x2 k (arg7.view.read _ f7, arg8.view.read _ f8, arg9.view.read _ f9)).2.1⟩],
       [⟨full, (step x0 x1 x2 k (arg7.view.read _ f7, arg8.view.read _ f8, arg9.view.read _ f9)).2.2⟩]) := by
  rw [trip_fwd_ld, harg2.read_unread, harg3.read_unread, harg4.read_unread]
  simp only [View.ld_unit_zero (S := S1024x128) hz2, View.ld_unit_zero (S := S1x1024x192) hz3]

/-- The running values before trip `n`. -/
def st (x0 : Vec Ideal S1x1024x192 .bf16) (x1 : Vec Ideal S1x8192x192 .bf16) (x2 : Vec Ideal S1x8192x128 .bf16) : ℕ → St
  | 0 => (k0_pay8 (F := Ideal), k0_pay9 (F := Ideal), k0_pay10 (F := Ideal))
  | n + 1 => if h : n < k0_t1_loop.trips then step x0 x1 x2 ⟨n, h⟩ (st x0 x1 x2 n) else st x0 x1 x2 n

/-- The pieces the trips before `n` write, from the buffers as the initial fills leave them. -/
abbrev pbF (n : ℕ) : List (View.Piece (Elt Ideal) S1024x128 .f32) × List (View.Piece (Elt Ideal) S1024x128 .f32) × List (View.Piece (Elt Ideal) S1024x128 .f32) :=
  pb_k0_t1 (F := Ideal) Variants.none c none i arg2 harg2 arg3 harg3 arg4 harg4 arg5 harg5 arg6 harg6 arg7 harg7 arg8 harg8 arg9 harg9 (harg2.unread x0) (harg3.unread x1) (harg4.unread x2)
        (arg7.view.writes (Elt Ideal) arg7.view.junk [⟨full, k0_pay8 (F := Ideal)⟩]) (arg8.view.writes (Elt Ideal) arg8.view.junk [⟨full, k0_pay9 (F := Ideal)⟩])
        (arg9.view.writes (Elt Ideal) arg9.view.junk [⟨full, k0_pay10 (F := Ideal)⟩]) n

/-- With the initial fills behind them, on top of each list lies the running value. -/
theorem pieces_fwd (n : ℕ) (hn : n ≤ k0_t1_loop.trips) :
    ∃ L7 L8 L9,
      (pbF c i arg2 harg2 arg3 harg3 arg4 harg4 arg5 harg5 arg6 harg6 arg7 harg7 arg8 harg8 arg9 harg9 x0 x1 x2 n).1 ++ [⟨full, k0_pay8 (F := Ideal)⟩] = ⟨full, (st x0 x1 x2 n).1⟩ :: L7 ∧
      (pbF c i arg2 harg2 arg3 harg3 arg4 harg4 arg5 harg5 arg6 harg6 arg7 harg7 arg8 harg8 arg9 harg9 x0 x1 x2 n).2.1 ++ [⟨full, k0_pay9 (F := Ideal)⟩] = ⟨full, (st x0 x1 x2 n).2.1⟩ :: L8 ∧
      (pbF c i arg2 harg2 arg3 harg3 arg4 harg4 arg5 harg5 arg6 harg6 arg7 harg7 arg8 harg8 arg9 harg9 x0 x1 x2 n).2.2 ++ [⟨full, k0_pay10 (F := Ideal)⟩] = ⟨full, (st x0 x1 x2 n).2.2⟩ :: L9 := by
  induction n with
  | zero => exact ⟨[], [], [], rfl, rfl, rfl⟩
  | succ n ih =>
    obtain ⟨L7, L8, L9, h7, h8, h9⟩ := ih (by omega)
    have e := pb_k0_t1_succ (F := Ideal) Variants.none c none i arg2 harg2 arg3 harg3 arg4 harg4 arg5 harg5 arg6 harg6 arg7 harg7 arg8 harg8 arg9 harg9 (harg2.unread x0) (harg3.unread x1) (harg4.unread x2)
        (arg7.view.writes (Elt Ideal) arg7.view.junk [⟨full, k0_pay8 (F := Ideal)⟩]) (arg8.view.writes (Elt Ideal) arg8.view.junk [⟨full, k0_pay9 (F := Ideal)⟩])
        (arg9.view.writes (Elt Ideal) arg9.view.junk [⟨full, k0_pay10 (F := Ideal)⟩]) ⟨n, hn⟩
    rw [trip_fwd] at e
    dsimp only at e
    rw [← View.writes_append, ← View.writes_append, ← View.writes_append, h7, h8, h9, View.read_writes_full, View.read_writes_full, View.read_writes_full] at e
    have hs : st x0 x1 x2 (n + 1) = step x0 x1 x2 ⟨n, hn⟩ (st x0 x1 x2 n) := dif_pos hn
    rw [hs]
    exact ⟨_, _, _, (congrArg (fun q => q.1 ++ [(⟨full, k0_pay8 (F := Ideal)⟩ : View.Piece (Elt Ideal) S1024x128 .f32)]) e).trans (List.append_assoc _ _ _),
      (congrArg (fun q => q.2.1 ++ [(⟨full, k0_pay9 (F := Ideal)⟩ : View.Piece (Elt Ideal) S1024x128 .f32)]) e).trans (List.append_assoc _ _ _),
      (congrArg (fun q => q.2.2 ++ [(⟨full, k0_pay10 (F := Ideal)⟩ : View.Piece (Elt Ideal) S1024x128 .f32)]) e).trans (List.append_assoc _ _ _)⟩

theorem trips_fwd : Scf.trips k0_t1_loop.lb k0_t1_loop.ub k0_t1_loop.st = 16 := by decide +kernel

/-- What one block of queries leaves of the attention's output. -/
theorem out_o : out0_A_3 c i arg2 harg2 arg3 harg3 arg4 harg4 arg5 harg5 arg6 harg6 arg7 harg7 arg8 harg8 arg9 harg9 x0 x1 x2 =
    k0_pay13 (st x0 x1 x2 16).2.1 (st x0 x1 x2 16).2.2 := by
  unfold out0_A_3
  rw [View.read_writes_eq_canon _ _ _ (cover0_A_3 c i arg2 harg2 arg3 harg3 arg4 harg4 arg5 harg5 arg6 harg6 arg7 harg7 arg8 harg8 arg9 harg9 x0 x1 x2)]
  unfold kernelRun0_A
  dsimp only
  sl_unfold_words
  rw [View.canon_unit_zero hz3, trips_fwd]
  obtain ⟨L7, L8, L9, h7, h8, h9⟩ := pieces_fwd c i arg2 harg2 arg3 harg3 arg4 harg4 arg5 harg5 arg6 harg6 arg7 harg7 arg8 harg8 arg9 harg9 x0 x1 x2 16 (le_of_eq trips_fwd.symm)
  rw [h8, h9, View.readCov_full, View.readCov_full]

/-- What it leaves of the logarithm of the rows' sums. -/
theorem out_lse : out0_A_4 c i arg2 harg2 arg3 harg3 arg4 harg4 arg5 harg5 arg6 harg6 arg7 harg7 arg8 harg8 arg9 harg9 x0 x1 x2 =
    k0_pay1 (k0_pay14 (st x0 x1 x2 16).2.1 (st x0 x1 x2 16).1) := by
  unfold out0_A_4
  rw [View.read_writes_eq_canon _ _ _ (cover0_A_4 c i arg2 harg2 arg3 harg3 arg4 harg4 arg5 harg5 arg6 harg6 arg7 harg7 arg8 harg8 arg9 harg9 x0 x1 x2)]
  unfold kernelRun0_A
  dsimp only
  sl_unfold_words
  rw [View.canon_unit_zero hz3, trips_fwd]
  obtain ⟨L7, L8, L9, h7, h8, h9⟩ := pieces_fwd c i arg2 harg2 arg3 harg3 arg4 harg4 arg5 harg5 arg6 harg6 arg7 harg7 arg8 harg8 arg9 harg9 x0 x1 x2 16 (le_of_eq trips_fwd.symm)
  rw [h7, h8, View.readCov_full, View.readCov_full]
end

end Cert.Mla
-- ==== Proof.MlaBwd.lean ====
module

public import proofs.«01_k».proof.Proof.Gen.MlaKIdeal.Frame
public import proofs.«01_k».proof.Proof.MlaFwd
public import Idealize.ShloMosaic.Lib.Pipeline.Value
public import Idealize.ShloMosaic.Lib.VecWindow
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Mla
open Cert.MlaKIdeal Cert.MlaKIdeal.Gen

/-- The sum of a query block's gradient, and the two sums of one key block's gradients. -/
abbrev BSt := Vec Ideal S1x8192x192 .f32 × Vec Ideal S512x192 .f32 × Vec Ideal S512x128 .f32

theorem k2_off1_eq : ∀ k : Fin k2_t1_loop.trips, k2_off1 k = ![0, k.val * 1024, 0] := by decide +kernel
theorem k2_off2_eq : ∀ k : Fin k2_t1_loop.trips, k2_off2 k = ![0, k.val * 1024, 0] := by decide +kernel
theorem k2_off3_eq : ∀ k : Fin k2_t1_loop.trips, k2_off3 k = ![0, 0, k.val * 1024] := by decide +kernel
theorem k0_off1_eq : ∀ k : Fin k0_t1_loop.trips, k0_off1 k = ![0, k.val * 512, 0] := by decide +kernel
theorem k0_off2_eq : ∀ k : Fin k0_t1_loop.trips, k0_off2 k = ![0, k.val * 512, 0] := by decide +kernel

/-- The rectangle of the queries of trip `k`. -/
abbrev rq (k : Fin k2_t1_loop.trips) : Rect S1x8192x192 := Rect.unit (s := S1x8192x192) (k2_off1 k) S1x1024x192.size (k2_off1_inb k)

/-- The rectangle of their cotangents. -/
abbrev rd (k : Fin k2_t1_loop.trips) : Rect S1x8192x128 := Rect.unit (s := S1x8192x128) (k2_off2 k) S1x1024x128.size (k2_off2_inb k)

/-- The rectangle of their row values. -/
abbrev rl (k : Fin k2_t1_loop.trips) : Rect S1x1x8192 := Rect.unit (s := S1x1x8192) (k2_off3 k) S1x1x1024.size (k2_off3_inb k)

/-- The whole buffers as rectangles. -/
abbrev fullQ : Rect S1x8192x192 := Rect.unit ![0, 0, 0] S1x8192x192.size inb_S1x8192x192_S1x8192x192_0_0_0
abbrev fullK : Rect S512x192 := Rect.unit ![0, 0] S512x192.size inb_S512x192_S512x192_0_0
abbrev fullV : Rect S512x128 := Rect.unit ![0, 0] S512x128.size inb_S512x128_S512x128_0_0

section
variable (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32)

/-- What one trip adds to the queries' gradient. -/
def dqNew (k : Fin k2_t1_loop.trips) (s : Vec Ideal S1x8192x192 .f32) : Vec Ideal S1x1024x192 .f32 :=
  k2_pay14 x1 (k2_pay6 (k2_pay12 x1) (k2_pay13 x2) (View.ld x0 (rq k)) (View.ld x3 (rd k)) (View.ld x4 (rl k)) (View.ld x5 (rl k))) (View.ld s (rq k))

/-- One trip's sum for the keys' gradient. -/
def dkNew (k : Fin k2_t1_loop.trips) (s : Vec Ideal S512x192 .f32) : Vec Ideal S512x192 .f32 :=
  k2_pay8 (k2_pay12 x1) (k2_pay13 x2) (View.ld x0 (rq k)) (View.ld x3 (rd k)) (View.ld x4 (rl k)) (View.ld x5 (rl k)) s

/-- One trip's sum for the values' gradient. -/
def dvNew (k : Fin k2_t1_loop.trips) (s : Vec Ideal S512x128 .f32) : Vec Ideal S512x128 .f32 :=
  k2_pay7 (k2_pay12 x1) (View.ld x0 (rq k)) (View.ld x3 (rd k)) (View.ld x4 (rl k)) s

/-- One trip of the backward sweep over the queries. -/
def bstep (k : Fin k2_t1_loop.trips) (s : BSt) : BSt :=
  (VecWindow.put s.1 (k2_off1 k) S1x1024x192.size (dqNew x0 x1 x2 x3 x4 x5 k s.1), dkNew x0 x1 x2 x3 x4 x5 k s.2.1, dvNew x0 x1 x3 x4 k s.2.2)

/-- The sums before trip `n`. -/
def bst (p : Vec Ideal S1x8192x192 .f32) : ℕ → BSt
  | 0 => (p, k2_pay10 (F := Ideal), k2_pay11 (F := Ideal))
  | n + 1 => if h : n < k2_t1_loop.trips then bstep x0 x1 x2 x3 x4 x5 ⟨n, h⟩ (bst p n) else bst p n

end

section
variable (c : Dev nD) (i : grid2.Coords)
  (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole)
  (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32)

theorem trip_bwd_ld (k : Fin k2_t1_loop.trips) (X2 : BufTy.Contents (Elt Ideal) arg2.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f11 : BufTy.Contents (Elt Ideal) arg11.view.ty) (f12 : BufTy.Contents (Elt Ideal) arg12.view.ty) :
    tripL_k2_t1 (F := Ideal) Variants.none c none i arg2 harg2 arg3 harg3 arg4 harg4 arg5 harg5 arg6 harg6 arg7 harg7 arg8 harg8 arg9 harg9 arg10 harg10 arg11 harg11 arg12 harg12 x1 x2 X2 X5 X6 X7 k f8 f11 f12 =
      ([⟨rq k, dqNew (arg2.view.read _ X2) x1 x2 (arg5.view.read _ X5) (arg6.view.read _ X6) (arg7.view.read _ X7) k (arg8.view.read _ f8)⟩],
       [⟨fullK, dkNew (arg2.view.read _ X2) x1 x2 (arg5.view.read _ X5) (arg6.view.read _ X6) (arg7.view.read _ X7) k (View.ld (arg11.view.read _ f11) fullK)⟩],
       [⟨fullV, dvNew (arg2.view.read _ X2) x1 (arg5.view.read _ X5) (arg6.view.read _ X6) k (View.ld (arg12.view.read _ f12) fullV)⟩]) := by
  unfold tripL_k2_t1 trip_k2_t1
  rfl

theorem trip_bwd (k : Fin k2_t1_loop.trips) (f8 : BufTy.Contents (Elt Ideal) arg8.view.ty) (f11 : BufTy.Contents (Elt Ideal) arg11.view.ty) (f12 : BufTy.Contents (Elt Ideal) arg12.view.ty) :
    tripL_k2_t1 (F := Ideal) Variants.none c none i arg2 harg2 arg3 harg3 arg4 harg4 arg5 harg5 arg6 harg6 arg7 harg7 arg8 harg8 arg9 harg9 arg10 harg10 arg11 harg11 arg12 harg12 x1 x2 (harg2.unread x0) (harg5.unread x3) (harg6.unread x4) (harg7.unread x5) k f8 f11 f12 =
      ([⟨rq k, dqNew x0 x1 x2 x3 x4 x5 k (arg8.view.read _ f8)⟩],
       [⟨fullK, dkNew x0 x1 x2 x3 x4 x5 k (arg11.view.read _ f11)⟩],
       [⟨fullV, dvNew x0 x1 x3 x4 k (arg12.view.read _ f12)⟩]) := by
  rw [trip_bwd_ld, harg2.read_unread, harg5.read_unread, harg6.read_unread, harg7.read_unread, View.ld_unit_zero (S := S512x192) hz2, View.ld_unit_zero (S := S512x128) hz2]

/-- The pieces the trips before `n` write, the query gradient's buffer at first holding `f8` and the other two zeros. -/
abbrev pbB (f8 : BufTy.Contents (Elt Ideal) arg8.view.ty) (n : ℕ) : List (View.Piece (Elt Ideal) S1x8192x192 .f32) × List (View.Piece (Elt Ideal) S512x192 .f32) × List (View.Piece (Elt Ideal) S512x128 .f32) :=
  pb_k2_t1 (F := Ideal) Variants.none c none i arg2 harg2 arg3 harg3 arg4 harg4 arg5 harg5 arg6 harg6 arg7 harg7 arg8 harg8 arg9 harg9 arg10 harg10 arg11 harg11 arg12 harg12 x1 x2 (harg2.unread x0) (harg5.unread x3) (harg6.unread x4) (harg7.unread x5) f8
        (arg11.view.writes (Elt Ideal) arg11.view.junk [⟨fullK, k2_pay10 (F := Ideal)⟩]) (arg12.view.writes (Elt Ideal) arg12.view.junk [⟨fullV, k2_pay11 (F := Ideal)⟩]) n

/-- Reading the buffers back after those trips gives the sums. -/
theorem pieces_bwd (f8 : BufTy.Contents (Elt Ideal) arg8.view.ty) (n : ℕ) (hn : n ≤ k2_t1_loop.trips) :
    ∃ L11 L12,
      arg8.view.read _ (arg8.view.writes (Elt Ideal) f8 (pbB c i arg2 harg2 arg3 harg3 arg4 harg4 arg5 harg5 arg6 harg6 arg7 harg7 arg8 harg8 arg9 harg9 arg10 harg10 arg11 harg11 arg12 harg12 x0 x1 x2 x3 x4 x5 f8 n).1) = (bst x0 x1 x2 x3 x4 x5 (arg8.view.read _ f8) n).1 ∧
      (pbB c i arg2 harg2 arg3 harg3 arg4 harg4 arg5 harg5 arg6 harg6 arg7 harg7 arg8 harg8 arg9 harg9 arg10 harg10 arg11 harg11 arg12 harg12 x0 x1 x2 x3 x4 x5 f8 n).2.1 ++ [⟨fullK, k2_pay10 (F := Ideal)⟩] = ⟨fullK, (bst x0 x1 x2 x3 x4 x5 (arg8.view.read _ f8) n).2.1⟩ :: L11 ∧
      (pbB c i arg2 harg2 arg3 harg3 arg4 harg4 arg5 harg5 arg6 harg6 arg7 harg7 arg8 harg8 arg9 harg9 arg10 harg10 arg11 harg11 arg12 harg12 x0 x1 x2 x3 x4 x5 f8 n).2.2 ++ [⟨fullV, k2_pay11 (F := Ideal)⟩] = ⟨fullV, (bst x0 x1 x2 x3 x4 x5 (arg8.view.read _ f8) n).2.2⟩ :: L12 := by
  induction n with
  | zero => exact ⟨[], [], rfl, rfl, rfl⟩
  | succ n ih =>
    obtain ⟨L11, L12, h8, h11, h12⟩ := ih (by omega)
    have e := pb_k2_t1_succ (F := Ideal) Variants.none c none i arg2 harg2 arg3 harg3 arg4 harg4 arg5 harg5 arg6 harg6 arg7 harg7 arg8 harg8 arg9 harg9 arg10 harg10 arg11 harg11 arg12 harg12 x1 x2 (harg2.unread x0) (harg5.unread x3) (harg6.unread x4) (harg7.unread x5) f8
        (arg11.view.writes (Elt Ideal) arg11.view.junk [⟨fullK, k2_pay10 (F := Ideal)⟩]) (arg12.view.writes (Elt Ideal) arg12.view.junk [⟨fullV, k2_pay11 (F := Ideal)⟩]) ⟨n, hn⟩
    rw [trip_bwd] at e
    dsimp only at e
    rw [← View.writes_append, ← View.writes_append, h8, h11, h12, View.read_writes_full, View.read_writes_full] at e
    have hs : bst x0 x1 x2 x3 x4 x5 (arg8.view.read _ f8) (n + 1) = bstep x0 x1 x2 x3 x4 x5 ⟨n, hn⟩ (bst x0 x1 x2 x3 x4 x5 (arg8.view.read _ f8) n) := dif_pos hn
    rw [hs]
    refine ⟨_, _, ?_, (congrArg (fun q => q.2.1 ++ [(⟨fullK, k2_pay10 (F := Ideal)⟩ : View.Piece (Elt Ideal) S512x192 .f32)]) e).trans (List.append_assoc _ _ _),
      (congrArg (fun q => q.2.2 ++ [(⟨fullV, k2_pay11 (F := Ideal)⟩ : View.Piece (Elt Ideal) S512x128 .f32)]) e).trans (List.append_assoc _ _ _)⟩
    rw [congrArg (fun q => q.1) e]
    exact (View.read_writes_cons_put arg8.view f8 _ _ _ rfl).trans (congrArg (fun z => VecWindow.put z _ _ _) h8)

theorem trips_bwd : Scf.trips k2_t1_loop.lb k2_t1_loop.ub k2_t1_loop.st = 8 := by decide +kernel

/-- Row `y` is among the queries of trip `k` when it lies in its 1024 rows. -/
theorem mem_rq (k : Fin k2_t1_loop.trips) (y : S1x8192x192.Idx) (h : k.val * 1024 ≤ (y 1).val ∧ (y 1).val < k.val * 1024 + 1024) : y ∈ (rq k).set := by
  refine Rect.mem_set_unit.mpr fun a => ?_
  rw [k2_off1_eq]
  match a with
  | 0 => exact ⟨Nat.zero_le _, by have := (y 0).isLt; exact this⟩
  | 1 => exact h
  | 2 => exact ⟨Nat.zero_le _, by have := (y 2).isLt; exact (Nat.zero_add 192).symm ▸ this⟩

/-- All eight trips together write every row of the query gradient. -/
theorem cover_bwd (f8 : BufTy.Contents (Elt Ideal) arg8.view.ty) (y : S1x8192x192.Idx) :
    ∃ q ∈ (pbB c i arg2 harg2 arg3 harg3 arg4 harg4 arg5 harg5 arg6 harg6 arg7 harg7 arg8 harg8 arg9 harg9 arg10 harg10 arg11 harg11 arg12 harg12 x0 x1 x2 x3 x4 x5 f8 8).1, y ∈ q.1.set := by
  have h : ∀ n, n ≤ k2_t1_loop.trips → (y 1).val < n * 1024 → ∃ q ∈ (pbB c i arg2 harg2 arg3 harg3 arg4 harg4 arg5 harg5 arg6 harg6 arg7 harg7 arg8 harg8 arg9 harg9 arg10 harg10 arg11 harg11 arg12 harg12 x0 x1 x2 x3 x4 x5 f8 n).1, y ∈ q.1.set := by
    intro n
    induction n with
    | zero => intro _ h; omega
    | succ n ih =>
      intro hn hy
      have e := pb_k2_t1_succ (F := Ideal) Variants.none c none i arg2 harg2 arg3 harg3 arg4 harg4 arg5 harg5 arg6 harg6 arg7 harg7 arg8 harg8 arg9 harg9 arg10 harg10 arg11 harg11 arg12 harg12 x1 x2 (harg2.unread x0) (harg5.unread x3) (harg6.unread x4) (harg7.unread x5) f8
        (arg11.view.writes (Elt Ideal) arg11.view.junk [⟨fullK, k2_pay10 (F := Ideal)⟩]) (arg12.view.writes (Elt Ideal) arg12.view.junk [⟨fullV, k2_pay11 (F := Ideal)⟩]) ⟨n, hn⟩
      rw [trip_bwd] at e
      rw [congrArg (fun q => q.1) e]
      by_cases hl : (y 1).val < n * 1024
      · obtain ⟨q, hq, hm⟩ := ih (by omega) hl
        exact ⟨q, List.mem_append_right _ hq, hm⟩
      · exact ⟨_, List.mem_append_left _ (List.mem_singleton_self _), mem_rq ⟨n, hn⟩ y ⟨Nat.le_of_not_lt hl, by show (y 1).val < n * 1024 + 1024; omega⟩⟩
  exact h 8 (le_of_eq trips_bwd.symm) (by have := (y 1).isLt; exact this)

theorem out_dk_A (hc0 : cond2_0 i) (hc1 : ¬cond2_1 i) : out2_A_7 c i arg2 harg2 arg3 harg3 arg4 harg4 arg5 harg5 arg6 harg6 arg7 harg7 arg8 harg8 arg9 harg9 arg10 harg10 arg11 harg11 arg12 harg12 hc0 hc1 x0 x1 x2 x3 x4 x5 =
    k2_pay15 (bst x0 x1 x2 x3 x4 x5 (k2_pay9 (F := Ideal)) 8).2.1 := by
  unfold out2_A_7
  rw [View.read_writes_eq_canon _ _ _ (cover2_A_7 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (arg8.view.writes (Elt Ideal) arg8.view.junk [⟨fullQ, k2_pay9 (F := Ideal)⟩]) 8 (le_of_eq trips_bwd.symm)
  rw [View.read_writes_full] at h11
  rw [View.canon_unit_zero hz3, trips_bwd, View.readAt_eq_ld, View.readAt_eq_ld, harg3.read_unread, harg4.read_unread, View.ld_unit_zero (S := S1x512x192) hz3, View.ld_unit_zero (S := S1x512x128) hz3, h11, View.readCov_full]

theorem out_dv_A (hc0 : cond2_0 i) (hc1 : ¬cond2_1 i) : out2_A_8 c i arg2 harg2 arg3 harg3 arg4 harg4 arg5 harg5 arg6 harg6 arg7 harg7 arg8 harg8 arg9 harg9 arg10 harg10 arg11 harg11 arg12 harg12 hc0 hc1 x0 x1 x2 x3 x4 x5 =
    k2_pay1 (k2_pay16 (bst x0 x1 x2 x3 x4 x5 (k2_pay9 (F := Ideal)) 8).2.2) := by
  unfold out2_A_8
  rw [View.read_writes_eq_canon _ _ _ (cover2_A_8 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (arg8.view.writes (Elt Ideal) arg8.view.junk [⟨fullQ, k2_pay9 (F := Ideal)⟩]) 8 (le_of_eq trips_bwd.symm)
  rw [View.read_writes_full] at h12
  rw [View.canon_unit_zero hz3, trips_bwd, View.readAt_eq_ld, View.readAt_eq_ld, harg3.read_unread, harg4.read_unread, View.ld_unit_zero (S := S1x512x192) hz3, View.ld_unit_zero (S := S1x512x128) hz3, h12, View.readCov_full]

theorem out_dq_A (hc0 : cond2_0 i) (hc1 : ¬cond2_1 i) : out2_A_6 c i arg2 harg2 arg3 harg3 arg4 harg4 arg5 harg5 arg6 harg6 arg7 harg7 arg8 harg8 arg9 harg9 arg10 harg10 arg11 harg11 arg12 harg12 hc0 hc1 x0 x1 x2 x3 x4 x5 =
    (bst x0 x1 x2 x3 x4 x5 (k2_pay9 (F := Ideal)) 8).1 := by
  unfold out2_A_6
  rw [View.read_writes_eq_canon _ _ _ (cover2_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (arg8.view.writes (Elt Ideal) arg8.view.junk [⟨fullQ, k2_pay9 (F := Ideal)⟩]) 8 (le_of_eq trips_bwd.symm)
  rw [View.read_writes_full] at h8
  rw [trips_bwd]
  simp only [View.readAt_eq_ld, harg3.read_unread, harg4.read_unread, View.ld_unit_zero (S := S1x512x192) hz3, View.ld_unit_zero (S := S1x512x128) hz3]
  have cov := cover_bwd c i arg2 harg2 arg3 harg3 arg4 harg4 arg5 harg5 arg6 harg6 arg7 harg7 arg8 harg8 arg9 harg9 arg10 harg10 arg11 harg11 arg12 harg12 x0 x1 x2 x3 x4 x5 (arg8.view.writes (Elt Ideal) arg8.view.junk [⟨fullQ, k2_pay9 (F := Ideal)⟩])
  exact (View.read_writes_eq_canon arg8.view arg8.view.junk _ (fun y => (cov y).imp fun q hq => ⟨List.mem_append_left _ hq.1, hq.2⟩)).symm.trans
    ((congrArg (arg8.view.read (Elt Ideal)) (View.writes_append ..)).trans h8)

theorem out_dk_B (hc0 : ¬cond2_0 i) (hc1 : ¬cond2_1 i) (p6 : Vec Ideal S1x8192x192 .f32) : out2_B_7 c i arg2 harg2 arg3 harg3 arg4 harg4 arg5 harg5 arg6 harg6 arg7 harg7 arg8 harg8 arg9 harg9 arg10 harg10 arg11 harg11 arg12 harg12 hc0 hc1 x0 x1 x2 x3 x4 x5 p6 =
    k2_pay15 (bst x0 x1 x2 x3 x4 x5 p6 8).2.1 := by
  unfold out2_B_7
  rw [View.read_writes_eq_canon _ _ _ (cover2_B_7 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_B
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h11
  rw [View.canon_unit_zero hz3, trips_bwd, View.readAt_eq_ld, View.readAt_eq_ld, harg3.read_unread, harg4.read_unread, View.ld_unit_zero (S := S1x512x192) hz3, View.ld_unit_zero (S := S1x512x128) hz3, h11, View.readCov_full]

theorem out_dv_B (hc0 : ¬cond2_0 i) (hc1 : ¬cond2_1 i) (p6 : Vec Ideal S1x8192x192 .f32) : out2_B_8 c i arg2 harg2 arg3 harg3 arg4 harg4 arg5 harg5 arg6 harg6 arg7 harg7 arg8 harg8 arg9 harg9 arg10 harg10 arg11 harg11 arg12 harg12 hc0 hc1 x0 x1 x2 x3 x4 x5 p6 =
    k2_pay1 (k2_pay16 (bst x0 x1 x2 x3 x4 x5 p6 8).2.2) := by
  unfold out2_B_8
  rw [View.read_writes_eq_canon _ _ _ (cover2_B_8 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_B
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h12
  rw [View.canon_unit_zero hz3, trips_bwd, View.readAt_eq_ld, View.readAt_eq_ld, harg3.read_unread, harg4.read_unread, View.ld_unit_zero (S := S1x512x192) hz3, View.ld_unit_zero (S := S1x512x128) hz3, h12, View.readCov_full]

theorem out_dq_B (hc0 : ¬cond2_0 i) (hc1 : ¬cond2_1 i) (p6 : Vec Ideal S1x8192x192 .f32) : out2_B_6 c i arg2 harg2 arg3 harg3 arg4 harg4 arg5 harg5 arg6 harg6 arg7 harg7 arg8 harg8 arg9 harg9 arg10 harg10 arg11 harg11 arg12 harg12 hc0 hc1 x0 x1 x2 x3 x4 x5 p6 =
    (bst x0 x1 x2 x3 x4 x5 p6 8).1 := by
  unfold out2_B_6
  rw [View.read_writes_eq_canon _ _ _ (cover2_B_6 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_B
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h8
  rw [trips_bwd]
  simp only [View.readAt_eq_ld, harg3.read_unread, harg4.read_unread, View.ld_unit_zero (S := S1x512x192) hz3, View.ld_unit_zero (S := S1x512x128) hz3]
  have cov := cover_bwd c i arg2 harg2 arg3 harg3 arg4 harg4 arg5 harg5 arg6 harg6 arg7 harg7 arg8 harg8 arg9 harg9 arg10 harg10 arg11 harg11 arg12 harg12 x0 x1 x2 x3 x4 x5 (harg8.unread p6)
  exact (View.read_writes_eq_canon arg8.view (harg8.unread p6) _ cov).symm.trans h8

theorem out_dk_C (hc0 : ¬cond2_0 i) (hc1 : cond2_1 i) (p6 : Vec Ideal S1x8192x192 .f32) : out2_C_7 c i arg2 harg2 arg3 harg3 arg4 harg4 arg5 harg5 arg6 harg6 arg7 harg7 arg8 harg8 arg9 harg9 arg10 harg10 arg11 harg11 arg12 harg12 hc0 hc1 x0 x1 x2 x3 x4 x5 p6 =
    k2_pay15 (bst x0 x1 x2 x3 x4 x5 p6 8).2.1 := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_C
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h11
  rw [View.canon_unit_zero hz3, trips_bwd, View.readAt_eq_ld, View.readAt_eq_ld, harg3.read_unread, harg4.read_unread, View.ld_unit_zero (S := S1x512x192) hz3, View.ld_unit_zero (S := S1x512x128) hz3, h11, View.readCov_full]

theorem out_dv_C (hc0 : ¬cond2_0 i) (hc1 : cond2_1 i) (p6 : Vec Ideal S1x8192x192 .f32) : out2_C_8 c i arg2 harg2 arg3 harg3 arg4 harg4 arg5 harg5 arg6 harg6 arg7 harg7 arg8 harg8 arg9 harg9 arg10 harg10 arg11 harg11 arg12 harg12 hc0 hc1 x0 x1 x2 x3 x4 x5 p6 =
    k2_pay1 (k2_pay16 (bst x0 x1 x2 x3 x4 x5 p6 8).2.2) := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_C
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h12
  rw [View.canon_unit_zero hz3, trips_bwd, View.readAt_eq_ld, View.readAt_eq_ld, harg3.read_unread, harg4.read_unread, View.ld_unit_zero (S := S1x512x192) hz3, View.ld_unit_zero (S := S1x512x128) hz3, h12, View.readCov_full]

theorem out_dq_C (hc0 : ¬cond2_0 i) (hc1 : cond2_1 i) (p6 : Vec Ideal S1x8192x192 .f32) : out2_C_6 c i arg2 harg2 arg3 harg3 arg4 harg4 arg5 harg5 arg6 harg6 arg7 harg7 arg8 harg8 arg9 harg9 arg10 harg10 arg11 harg11 arg12 harg12 hc0 hc1 x0 x1 x2 x3 x4 x5 p6 =
    k2_pay2 (bst x0 x1 x2 x3 x4 x5 p6 8).1 := by
  unfold out2_C_6
  rw [View.read_writes_eq_canon _ _ _ (cover2_C_6 c i arg2 harg2 arg3 harg3 arg4 harg4 arg5 harg5 arg6 harg6 arg7 harg7 arg8 harg8 arg9 harg9 arg10 harg10 arg11 harg11 arg12 harg12 hc0 hc1 x0 x1 x2 x3 x4 x5 p6)]
  unfold kernelRun2_C
  dsimp only
  sl_unfold_words
  obtain ⟨L11, L12, h8, h11, h12⟩ := pieces_bwd c i arg2 harg2 arg3 harg3 arg4 harg4 arg5 harg5 arg6 harg6 arg7 harg7 arg8 harg8 arg9 harg9 arg10 harg10 arg11 harg11 arg12 harg12 x0 x1 x2 x3 x4 x5 (harg8.unread p6) 8 (le_of_eq trips_bwd.symm)
  rw [harg8.read_unread] at h8
  rw [trips_bwd]
  simp only [View.readAt_eq_ld, harg3.read_unread, harg4.read_unread, View.ld_unit_zero (S := S1x512x192) hz3, View.ld_unit_zero (S := S1x512x128) hz3]
  rw [View.canon_cons_unit_zero (S := S1x8192x192) hz3, View.ld_unit_zero (S := S1x8192x192) hz3]
  exact congrArg k2_pay2 h8

end
end Cert.Mla
-- ==== Proof.MlaRow.lean ====
/- One row of softmax attention in real numbers, with base-two exponentials: the online sums of the forward sweep, the
   saved row logarithm, and the gradient of the scores. -/
module

public import proofs.«01_k».proof.Proof.Finite

@[expose] public section

noncomputable section

namespace Cert.MlaRow

open Idealize.ShloMosaic

/-- Two to a real power. -/
def e2 (x : ℝ) : ℝ := Real.rpow 2 x

theorem e2_pos (x : ℝ) : 0 < e2 x := Real.rpow_pos_of_pos (by norm_num) x

theorem e2_add (x y : ℝ) : e2 (x + y) = e2 x * e2 y := Real.rpow_add (by norm_num) x y

theorem e2_exp (x : ℝ) : e2 x = Real.exp (Real.log 2 * x) := Real.rpow_def_of_pos (by norm_num) x

theorem log2_pos : 0 < Real.log 2 := Real.log_pos (by norm_num)

theorem e2_log (x : ℝ) (h : 0 < x) : e2 (Real.log x * (Real.log 2)⁻¹) = x := by
  rw [e2_exp, mul_comm, mul_assoc, inv_mul_cancel₀ log2_pos.ne', mul_one, Real.exp_log h]

theorem e2_div (x : ℝ) : e2 (x / Real.log 2) = Real.exp x := by
  rw [e2_exp, mul_div_cancel₀ _ log2_pos.ne']

theorem exp2_real (x : ℝ) : Ideal.exp2 (x : EReal) = (e2 x : EReal) := Ideal.exp2_coe x

/-- The sum of the first `n` blocks of `b` entries. -/
def psum (b : ℕ) {N : ℕ} (f : Fin N → ℝ) (n : ℕ) : ℝ :=
  ∑ j ∈ Finset.range (n * b), if h : j < N then f ⟨j, h⟩ else 0

theorem psum_zero (b : ℕ) {N : ℕ} (f : Fin N → ℝ) : psum b f 0 = 0 := by simp [psum]

theorem psum_succ (b : ℕ) {N : ℕ} (f : Fin N → ℝ) (n : ℕ) (h : (n + 1) * b ≤ N) :
    psum b f (n + 1) = psum b f n + ∑ k : Fin b, f ⟨n * b + k.val, by have := k.isLt; rw [Nat.succ_mul] at h; omega⟩ := by
  unfold psum
  rw [Nat.succ_mul, Finset.sum_range_add, Finset.sum_range (n := b)]
  refine congrArg _ (Finset.sum_congr rfl fun k _ => ?_)
  rw [dif_pos]

theorem psum_all (b : ℕ) {N : ℕ} (f : Fin N → ℝ) (n : ℕ) (h : n * b = N) : psum b f n = ∑ j, f j := by
  unfold psum
  subst h
  rw [Finset.sum_range]
  exact Finset.sum_congr rfl fun k _ => dif_pos k.isLt

theorem mul_psum (b : ℕ) {N : ℕ} (a : ℝ) (f g : Fin N → ℝ) (n : ℕ) (h : ∀ j, a * f j = g j) :
    a * psum b f n = psum b g n := by
  unfold psum
  rw [Finset.mul_sum]
  refine Finset.sum_congr rfl fun j _ => ?_
  split <;> simp [h]

variable {N : ℕ}

/-- The row's normaliser. -/
def Z (s : Fin N → ℝ) : ℝ := ∑ j, e2 (s j)

/-- The row's weights. -/
def P (s : Fin N → ℝ) (j : Fin N) : ℝ := e2 (s j) / Z s

/-- The row's base-two log-sum. -/
def lse (s : Fin N → ℝ) : ℝ := Real.log (Z s) * (Real.log 2)⁻¹

theorem Z_pos (s : Fin N → ℝ) (j : Fin N) : 0 < Z s :=
  Finset.sum_pos (fun _ _ => e2_pos _) ⟨j, Finset.mem_univ j⟩

theorem e2_neg (x : ℝ) : e2 (-x) = (e2 x)⁻¹ := Real.rpow_neg (by norm_num) x

theorem P_eq (s : Fin N → ℝ) (j : Fin N) : e2 (s j - lse s) = P s j := by
  rw [sub_eq_add_neg, e2_add, e2_neg, lse, e2_log _ (Z_pos s j)]; rfl

/-- Shifting every score by `m` divides the normaliser by two to the `m`. -/
theorem Z_shift (s : Fin N → ℝ) (m : ℝ) : ∑ j, e2 (s j - m) = Z s * (e2 m)⁻¹ := by
  unfold Z
  rw [Finset.sum_mul]
  exact Finset.sum_congr rfl fun j _ => by rw [sub_eq_add_neg, e2_add, e2_neg]

theorem lse_shift (s : Fin N → ℝ) (m : ℝ) (j : Fin N) :
    m + Real.log (∑ j, e2 (s j - m)) * (Real.log 2)⁻¹ = lse s := by
  have hm : Real.log (e2 m) = m * Real.log 2 := by rw [e2_exp, Real.log_exp, mul_comm]
  rw [Z_shift, Real.log_mul (Z_pos s j).ne' (inv_ne_zero (e2_pos m).ne'), Real.log_inv, hm, lse]
  field_simp [log2_pos.ne']
  ring

theorem out_shift (s v : Fin N → ℝ) (m : ℝ) (j : Fin N) :
    (∑ j, e2 (s j - m) * v j) / (∑ j, e2 (s j - m)) = ∑ j, P s j * v j := by
  have hz := (Z_pos s j).ne'
  have hm := (e2_pos m).ne'
  rw [Z_shift, div_eq_iff (mul_ne_zero hz (inv_ne_zero hm)), Finset.sum_mul]
  refine Finset.sum_congr rfl fun j _ => ?_
  rw [sub_eq_add_neg, e2_add, e2_neg, P]
  field_simp

/-- The gradient of one score over the row, from the gradient `p` of the row's weights. -/
def ds (s p : Fin N → ℝ) (j : Fin N) : ℝ := P s j * (p j - ∑ j, P s j * p j)

/-- The weights from natural exponentials of natural scores, shifted by any `M`. -/
theorem P_of_exp (s t : Fin N → ℝ) (M : ℝ) (h : ∀ j, s j = t j / Real.log 2) (j : Fin N) :
    Real.exp (t j - M) / (∑ j, Real.exp (t j - M)) = P s j := by
  have e : ∀ j, Real.exp (t j - M) = e2 (s j - M / Real.log 2) := fun j => by
    rw [h, ← sub_div, e2_div]
  simp only [e]
  rw [Z_shift, P, sub_eq_add_neg, e2_add, e2_neg]
  have hm := (e2_pos (M / Real.log 2)).ne'
  have hz := (Z_pos s j).ne'
  field_simp

/-- The gradient of a score as the quotient rule writes it. -/
theorem ds_of_vjp (s t p : Fin N → ℝ) (M : ℝ) (h : ∀ j, s j = t j / Real.log 2) (j : Fin N) :
    (p j / (∑ j, Real.exp (t j - M))
      + -(∑ k, p k * (1 / ((∑ j, Real.exp (t j - M)) * ∑ j, Real.exp (t j - M))) * Real.exp (t k - M)))
      * Real.exp (t j - M) = ds s p j := by
  have hL : 0 < ∑ j, Real.exp (t j - M) := Finset.sum_pos (fun _ _ => Real.exp_pos _) ⟨j, Finset.mem_univ j⟩
  unfold ds
  simp only [← P_of_exp s t M h]
  generalize (∑ j, Real.exp (t j - M)) = L at hL
  have e : ∑ k, p k * (1 / (L * L)) * Real.exp (t k - M) = (∑ k, Real.exp (t k - M) / L * p k) / L := by
    rw [Finset.sum_div]
    exact Finset.sum_congr rfl fun k _ => by field_simp
  rw [e]
  field_simp
  ring

/-- The row sum of `do · o` is the row's mean of the weights' gradients. -/
theorem delta_eq {C : ℕ} (s : Fin N → ℝ) (v : Fin N → Fin C → ℝ) (d : Fin C → ℝ) :
    ∑ c, (∑ j, P s j * v j c) * d c = ∑ j, P s j * ∑ c, v j c * d c := by
  simp only [Finset.sum_mul, Finset.mul_sum]
  rw [Finset.sum_comm]
  exact Finset.sum_congr rfl fun j _ => Finset.sum_congr rfl fun c _ => by ring

/-- The greatest of finitely many reals, started from anything but `⊤`, is a real once there is one. -/
theorem fold_max_real {n : ℕ} (init : EReal) (hi : init ≠ ⊤) (f : Fin (n + 1) → EReal) (hf : ∀ k, ∃ r : ℝ, f k = r) :
    ∃ m : ℝ, Finset.univ.fold max init f = m := by
  have h1 : ⊥ < Finset.univ.fold max init f := by
    rw [Finset.lt_fold_max]
    obtain ⟨r, hr⟩ := hf 0
    exact Or.inr ⟨0, Finset.mem_univ _, by rw [hr]; exact EReal.bot_lt_coe r⟩
  have h2 : Finset.univ.fold max init f < ⊤ := by
    rw [Finset.fold_max_lt]
    refine ⟨lt_top_iff_ne_top.mpr hi, fun k _ => ?_⟩
    obtain ⟨r, hr⟩ := hf k
    rw [hr]; exact EReal.coe_lt_top r
  exact ⟨_, (EReal.coe_toReal h2.ne h1.ne').symm⟩

end Cert.MlaRow

end
-- ==== Proof.MlaPayF.lean ====
/- What the forward attention kernel computes from finite blocks: each stage of a trip is the real stage, and the running
   values are the online sums over the keys read so far. -/
module

public import proofs.«01_k».proof.Proof.MlaRow
public import proofs.«01_k».proof.Proof.Gen.MlaKIdeal.Skeleton

@[expose] public section

set_option maxRecDepth 16384

noncomputable section

namespace Cert.Mla.PayF

open Idealize.ShloMosaic Cert.MlaKIdeal Cert.MlaKIdeal.Gen Cert.Finite Cert.MlaRow

/-- The product of a query row with a key row. -/
abbrev dot (q k : Fin 192 → ℝ) : ℝ := ∑ c, q c * k c

section
variable (x0 : Vec Ideal S1x1024x192 .bf16) (xk : Vec Ideal S1x512x192 .bf16) (xv : Vec Ideal S1x512x128 .bf16)
  (m l a : Vec Ideal S1024x128 .f32)
  (Q : Fin 1024 → Fin 192 → ℝ) (K : Fin 512 → Fin 192 → ℝ) (V : Fin 512 → Fin 128 → ℝ)
  (hq : ∀ r c, x0 (ix3 0 r c) = (Q r c : EReal)) (hk : ∀ j c, xk (ix3 0 j c) = (K j c : EReal))
include hq hk

theorem pay2 (r : Fin 1024) (j : Fin 512) : k0_pay2 (F := Ideal) x0 xk (ix2 r j) = (dot (Q r) (K j) : EReal) := by
  pointwise [k0_pay2]
  simp only [hq, hk, ← EReal.coe_mul, ← coe_sum]

omit hq hk in
theorem rowMax (v : FVec Ideal S1024x512 .f32) (h : S1024x512.Reduces [1] S1024) (hφ : FKind.Formats .f32)
    (hacc : 0xFF800000#32 = FKind.maximumf.neutral .f32 hφ) (r : Fin 1024) :
    multiReduction .maximumf [1] S1024 v 0xFF800000#32 h hφ hacc (ix1 r)
      = Finset.univ.fold max (Ideal.ofBits .f32 0xFF800000#32) fun k : Fin 512 => v (ix2 r k) := by
  rw [Ideal.multiReduction_maximumf_single]
  refine congrArg (fun f => Finset.univ.fold max (Ideal.ofBits .f32 0xFF800000#32) f) ?_
  funext k
  refine congrArg v ?_
  funext a
  match a with
  | ⟨0, _⟩ => rfl
  | ⟨1, _⟩ => rfl

omit hq hk in
theorem pay3_apply (r : Fin 1024) (x : Fin 128) : k0_pay3 (F := Ideal) x0 xk m (ix2 r x)
    = max (m (ix2 r x)) (Finset.univ.fold max (Ideal.ofBits .f32 0xFF800000#32) fun k : Fin 512 => k0_pay2 (F := Ideal) x0 xk (ix2 r k)) := by
  rw [← rowMax (k0_pay2 (F := Ideal) x0 xk) reduces_S1024x512_S1024 (.inl rfl) rfl r]
  unfold k0_pay3
  dsimp only
  generalize multiReduction .maximumf [1] S1024 (k0_pay2 (F := Ideal) x0 xk) 0xFF800000#32 reduces_S1024x512_S1024 (.inl rfl) rfl = v
  pointwise []

theorem pay3 (r : Fin 1024) (M : ℝ) (hm : ∀ x, m (ix2 r x) = (M : EReal)) :
    ∃ M' : ℝ, ∀ x, k0_pay3 (F := Ideal) x0 xk m (ix2 r x) = (M' : EReal) := by
  obtain ⟨b, hb⟩ := fold_max_real (Ideal.ofBits .f32 0xFF800000#32) (by simp [Ideal.ofBits, Ideal.ieee])
    (fun k : Fin 512 => k0_pay2 (F := Ideal) x0 xk (ix2 r k)) fun k => ⟨_, pay2 x0 xk Q K hq hk r k⟩
  exact ⟨max M b, fun x => by rw [pay3_apply, hb, hm]; exact (EReal.coe_strictMono.monotone.map_max).symm⟩

variable (r : Fin 1024) (M M' L : ℝ) (A : Fin 128 → ℝ) (hm : ∀ x, m (ix2 r x) = (M : EReal))
  (hm' : ∀ x, k0_pay3 (F := Ideal) x0 xk m (ix2 r x) = (M' : EReal))
include hm hm'

omit hq hk in
theorem pay4 (x : Fin 128) : k0_pay4 (F := Ideal) x0 xk m (ix2 r x) = (e2 (M - M') : EReal) := by
  pointwise [k0_pay4]
  rw [hm, hm', ← EReal.coe_sub]
  exact exp2_real _

omit hm in
theorem pay5 (j : Fin 512) : k0_pay5 (F := Ideal) x0 xk m (ix2 r j) = (e2 (dot (Q r) (K j) - M') : EReal) := by
  pointwise [k0_pay5]
  rw [pay2 x0 xk Q K hq hk]
  split_ifs <;> (rw [hm', ← EReal.coe_sub]; exact exp2_real _)

theorem pay6 (hl : ∀ x, l (ix2 r x) = (L : EReal)) (x : Fin 128) : k0_pay6 (F := Ideal) x0 xk m l (ix2 r x)
    = ((e2 (M - M') * L + ∑ j, e2 (dot (Q r) (K j) - M') : ℝ) : EReal) := by
  pointwise [k0_pay6]
  simp only [pay4 x0 xk m r M M' hm hm', pay5 x0 xk m Q K hq hk r M' hm', hl, ← EReal.coe_mul, ← EReal.coe_add, ← coe_sum]

theorem pay7 (hv : ∀ j c, xv (ix3 0 j c) = (V j c : EReal)) (ha : ∀ x, a (ix2 r x) = (A x : EReal)) (x : Fin 128) :
    k0_pay7 (F := Ideal) x0 xk m a xv (ix2 r x)
    = ((e2 (M - M') * A x + ∑ j, e2 (dot (Q r) (K j) - M') * V j x : ℝ) : EReal) := by
  pointwise [k0_pay7]
  simp only [pay4 x0 xk m r M M' hm hm', pay5 x0 xk m Q K hq hk r M' hm', hv, ha, ← EReal.coe_mul, ← EReal.coe_add, ← coe_sum]

end

theorem ofBits_mask : Ideal.ofBits .f32 0xF149F2CA#32 = ((-(13234890 * 2 ^ 76) : ℝ) : EReal) := by
  have e : Ideal.ofBits .f32 0xF149F2CA#32 = -(((13234890 : ℝ) : EReal) * ((2 ^ 76 : ℝ) : EReal)) := by
    simp [Ideal.ofBits, Ideal.ieee]
  rw [e, ← EReal.coe_mul, ← EReal.coe_neg]

theorem log2e_eq : (Named.named (F := Ideal) κ "log2e" 0x3FB8AA3B#32 : Ideal .f32) = (((Real.log 2)⁻¹ : ℝ) : EReal) := by
  rfl

theorem pay8 : ∃ M : ℝ, ∀ r x, k0_pay8 (F := Ideal) (ix2 r x) = (M : EReal) := by
  refine ⟨-(13234890 * 2 ^ 76), fun r x => ?_⟩
  pointwise [k0_pay8]
  exact ofBits_mask

theorem pay9 (r : Fin 1024) (x : Fin 128) : k0_pay9 (F := Ideal) (ix2 r x) = ((0 : ℝ) : EReal) := by
  pointwise [k0_pay9]
  exact EReal.coe_zero.symm

theorem pay10 (r : Fin 1024) (x : Fin 128) : k0_pay10 (F := Ideal) (ix2 r x) = ((0 : ℝ) : EReal) := by
  pointwise [k0_pay10]
  exact EReal.coe_zero.symm

theorem pay11 (v : FVec Ideal S1024x128 .f32) : k0_pay11 (F := Ideal) v = v := by
  funext i
  pointwise [k0_pay11]

theorem pay12 (v : FVec Ideal S1024x128 .f32) : k0_pay12 (F := Ideal) v = v := by
  funext i
  pointwise [k0_pay12]

section
variable (l a m : Vec Ideal S1024x128 .f32) (r : Fin 1024) (L M : ℝ) (A : Fin 128 → ℝ)
  (hl : ∀ x, l (ix2 r x) = (L : EReal)) (hL : 0 < L)
include hl hL

theorem pay13 (ha : ∀ x, a (ix2 r x) = (A x : EReal)) (x : Fin 128) :
    k0_pay13 (F := Ideal) l a (ix3 0 r x) = ((A x / L : ℝ) : EReal) := by
  pointwise [k0_pay13]
  rw [hl, ha]
  exact div_real _ _ hL.ne'

theorem pay14 (hm : ∀ x, m (ix2 r x) = (M : EReal)) :
    k0_pay1 (F := Ideal) (k0_pay14 l m) (ix3 0 r 0) = ((M + Real.log L * (Real.log 2)⁻¹ : ℝ) : EReal) := by
  pointwise [k0_pay1, k0_pay14]
  rw [hm, hl, log2e_eq, Ideal.log_coe, if_neg (not_le.mpr hL), ← EReal.coe_mul, ← EReal.coe_add]
end
end Cert.Mla.PayF

end
-- ==== Proof.MlaInvF.lean ====
/- The running values of the forward sweep are the online sums over the keys read so far, and its two results the row's
   weighted mean and log-sum. -/
module

public import proofs.«01_k».proof.Proof.MlaBwd
public import proofs.«01_k».proof.Proof.MlaPayF

@[expose] public section

set_option maxRecDepth 16384

noncomputable section

namespace Cert.Mla

open Idealize.ShloMosaic Idealize.ShloMosaic.TcCoe Cert.MlaKIdeal Cert.MlaKIdeal.Gen Cert.Finite Cert.MlaRow Cert.Mla.PayF

variable (x0 : Vec Ideal S1x1024x192 .bf16) (x1 : Vec Ideal S1x8192x192 .bf16) (x2 : Vec Ideal S1x8192x128 .bf16)
  (Q : Fin 1024 → Fin 192 → ℝ) (K : Fin 8192 → Fin 192 → ℝ) (V : Fin 8192 → Fin 128 → ℝ)
  (hq : ∀ r c, x0 (ix3 0 r c) = (Q r c : EReal)) (hk : ∀ j c, x1 (ix3 0 j c) = (K j c : EReal))
  (hv : ∀ j c, x2 (ix3 0 j c) = (V j c : EReal))

/-- A block of `b` rows of a plane, read at a row and a column. -/
theorem ld_row {N C b : ℕ} {e : EltTy} (x : (⟨3, ![1, N, C]⟩ : Shape).Idx → Elt Ideal e) (off : Fin 3 → ℕ)
    (inb : ∀ a, off a + (![1, b, C] : Fin 3 → ℕ) a ≤ (⟨3, ![1, N, C]⟩ : Shape).size a) (o : ℕ) (ho : off = ![0, o, 0])
    (j : Fin b) (c : Fin C) (h : o + j.val < N) :
    View.ld x (Rect.unit (s := ⟨3, ![1, N, C]⟩) off ![1, b, C] inb) (ix3 0 j c) = x (ix3 0 ⟨o + j.val, h⟩ c) := by
  subst ho
  refine congrArg x ?_
  funext a
  apply Fin.ext
  match a with
  | ⟨0, _⟩ => rfl
  | ⟨1, _⟩ => exact congrArg (o + ·) (one_mul j.val)
  | ⟨2, _⟩ => exact (zero_add _).trans (one_mul _)

theorem lt_fwd (k : Fin k0_t1_loop.trips) (j : Fin 512) : k.val * 512 + j.val < 8192 := by
  have h : k.val < 16 := lt_of_lt_of_eq k.isLt trips_fwd
  have := j.isLt
  omega

include hk in
theorem kt_real (k : Fin k0_t1_loop.trips) (j : Fin 512) (c : Fin 192) :
    kt x1 k (ix3 0 j c) = (K ⟨k.val * 512 + j.val, lt_fwd k j⟩ c : EReal) := by
  rw [← hk]
  exact ld_row x1 _ _ _ (k0_off1_eq k) j c (lt_fwd k j)

include hv in
theorem vt_real (k : Fin k0_t1_loop.trips) (j : Fin 512) (c : Fin 128) :
    vt x2 k (ix3 0 j c) = (V ⟨k.val * 512 + j.val, lt_fwd k j⟩ c : EReal) := by
  rw [← hv]
  exact ld_row x2 _ _ _ (k0_off2_eq k) j c (lt_fwd k j)

include hq hk hv

/-- Before trip `n` a row's running maximum is some real number, and its two sums are taken relative to it. -/
theorem inv_fwd (r : Fin 1024) (n : ℕ) (hn : n ≤ 16) : ∃ M : ℝ, (∀ x, (st x0 x1 x2 n).1 (ix2 r x) = (M : EReal)) ∧
    (∀ x, (st x0 x1 x2 n).2.1 (ix2 r x) = (psum 512 (fun j => e2 (dot (Q r) (K j) - M)) n : EReal)) ∧
    ∀ x, (st x0 x1 x2 n).2.2 (ix2 r x) = (psum 512 (fun j => e2 (dot (Q r) (K j) - M) * V j x) n : EReal) := by
  induction n with
  | zero =>
    obtain ⟨M, hM⟩ := pay8
    exact ⟨M, hM r, fun x => by rw [psum_zero]; exact pay9 r x, fun x => by rw [psum_zero]; exact pay10 r x⟩
  | succ n ih =>
    obtain ⟨M, h1, h2, h3⟩ := ih (by omega)
    have ht : n < k0_t1_loop.trips := lt_of_lt_of_eq (by omega) trips_fwd.symm
    obtain ⟨M', hM'⟩ := pay3 x0 (kt x1 ⟨n, ht⟩) (st x0 x1 x2 n).1 Q _ hq (kt_real x1 K hk ⟨n, ht⟩) r M h1
    have hs : ∀ j : Fin 8192, e2 (M - M') * e2 (dot (Q r) (K j) - M) = e2 (dot (Q r) (K j) - M') := fun j => by
      rw [← e2_add]; congr 1; ring
    refine ⟨M', fun x => ?_, fun x => ?_, fun x => ?_⟩
    all_goals
      rw [show st x0 x1 x2 (n + 1) = step x0 x1 x2 ⟨n, ht⟩ (st x0 x1 x2 n) from dif_pos ht]
      unfold step
      dsimp only
    · rw [pay12]; exact hM' x
    · rw [pay6 x0 _ _ _ Q _ hq (kt_real x1 K hk ⟨n, ht⟩) r M M' _ h1 hM' h2, psum_succ _ _ _ (by omega),
        mul_psum _ _ _ _ _ hs]
    · rw [pay11, pay7 x0 _ _ _ _ Q _ _ hq (kt_real x1 K hk ⟨n, ht⟩) r M M' _ h1 hM' (vt_real x2 V hv ⟨n, ht⟩) h3,
        psum_succ _ _ _ (by omega), mul_psum _ _ _ _ _ (fun j => by rw [← mul_assoc, hs])]

/-- The sweep's first result: the weighted mean of the values. -/
theorem fwd_o (r : Fin 1024) (x : Fin 128) :
    k0_pay13 (F := Ideal) (st x0 x1 x2 16).2.1 (st x0 x1 x2 16).2.2 (ix3 0 r x)
      = ((∑ j, P (fun j => dot (Q r) (K j)) j * V j x : ℝ) : EReal) := by
  obtain ⟨M, _, h2, h3⟩ := inv_fwd x0 x1 x2 Q K V hq hk hv r 16 le_rfl
  simp only [psum_all 512 _ 16 rfl] at h2 h3
  rw [pay13 _ _ r _ _ h2 (Finset.sum_pos (fun _ _ => e2_pos _) ⟨0, Finset.mem_univ _⟩) h3,
    out_shift (fun j => dot (Q r) (K j)) (fun j => V j x) M 0]

/-- The sweep's second result: the row's base-two log-sum. -/
theorem fwd_lse (r : Fin 1024) :
    k0_pay1 (F := Ideal) (k0_pay14 (st x0 x1 x2 16).2.1 (st x0 x1 x2 16).1) (ix3 0 r 0)
      = (lse (fun j => dot (Q r) (K j)) : EReal) := by
  obtain ⟨M, h1, h2, _⟩ := inv_fwd x0 x1 x2 Q K V hq hk hv r 16 le_rfl
  simp only [psum_all 512 _ 16 rfl] at h2
  rw [pay14 _ _ r _ M h2 (Finset.sum_pos (fun _ _ => e2_pos _) ⟨0, Finset.mem_univ _⟩) h1,
    lse_shift (fun j => dot (Q r) (K j)) M 0]

end Cert.Mla

end
-- ==== Proof.MlaPayB.lean ====
/- What the row-sum kernel and the backward attention kernel compute from finite blocks: each stage of a trip is the real
   stage. -/
module

public import proofs.«01_k».proof.Proof.MlaPayF

@[expose] public section

set_option maxRecDepth 16384

noncomputable section

namespace Cert.Mla.PayB

open Idealize.ShloMosaic Cert.MlaKIdeal Cert.MlaKIdeal.Gen Cert.Finite Cert.MlaRow Cert.Mla.PayF

theorem delta (x0 x1 : Vec Ideal S1x1024x128 .bf16) (O D : Fin 128 → ℝ) (r : Fin 1024)
    (h0 : ∀ c, x0 (ix3 0 r c) = (O c : EReal)) (h1 : ∀ c, x1 (ix3 0 r c) = (D c : EReal)) :
    k1_pay1 (F := Ideal) x0 x1 (ix3 0 r 0) = ((∑ c, O c * D c : ℝ) : EReal) := by
  pointwise [k1_pay1]
  simp only [h0, h1, ← EReal.coe_mul, ← coe_sum]

/-- The gradient of one score: `w` its weight, `dp` the gradient of its weight, `δ` its row's sum. -/
abbrev dst (s l dp δ : ℝ) : ℝ := e2 (s - l) * (dp - δ)

section
variable (xk : Vec Ideal S1x512x192 .bf16) (xv : Vec Ideal S1x512x128 .bf16)
  (xq : Vec Ideal S1x1024x192 .bf16) (xd : Vec Ideal S1x1024x128 .bf16) (xl xe : Vec Ideal S1x1x1024 .f32)
  (K : Fin 512 → Fin 192 → ℝ) (V : Fin 512 → Fin 128 → ℝ) (Q : Fin 1024 → Fin 192 → ℝ) (D : Fin 1024 → Fin 128 → ℝ)
  (L E : Fin 1024 → ℝ)
  (hk : ∀ j c, xk (ix3 0 j c) = (K j c : EReal)) (hq : ∀ r c, xq (ix3 0 r c) = (Q r c : EReal))
  (hl : ∀ r, xl (ix3 0 0 r) = (L r : EReal))
  (hv : ∀ j c, xv (ix3 0 j c) = (V j c : EReal)) (hd : ∀ r c, xd (ix3 0 r c) = (D r c : EReal))
  (he : ∀ r, xe (ix3 0 0 r) = (E r : EReal))

section
include hk hq hl

theorem pay5 (j : Fin 512) (r : Fin 1024) :
    k2_pay5 (F := Ideal) (k2_pay12 xk) xq xl (ix2 j r) = (e2 (dot (Q r) (K j) - L r) : EReal) := by
  pointwise [k2_pay5, k2_pay12, k2_pay3]
  simp only [hk, hq, hl, ← EReal.coe_mul, ← coe_sum, ← EReal.coe_sub]
  rw [show ∑ c, K j c * Q r c = dot (Q r) (K j) from Finset.sum_congr rfl fun c _ => mul_comm _ _]
  exact exp2_real _

include hd

theorem pay7 (xa : Vec Ideal S512x128 .f32) (A : Fin 512 → Fin 128 → ℝ) (ha : ∀ j c, xa (ix2 j c) = (A j c : EReal))
    (j : Fin 512) (c : Fin 128) : k2_pay7 (F := Ideal) (k2_pay12 xk) xq xd xl xa (ix2 j c)
      = ((A j c + ∑ r, e2 (dot (Q r) (K j) - L r) * D r c : ℝ) : EReal) := by
  pointwise [k2_pay7, k2_pay4]
  simp only [pay5 xk xq xl K Q L hk hq hl, hd, ha, ← EReal.coe_mul, ← coe_sum, ← EReal.coe_add]

include hv he

theorem pay6 (j : Fin 512) (r : Fin 1024) :
    k2_pay6 (F := Ideal) (k2_pay12 xk) (k2_pay13 xv) xq xd xl xe (ix2 j r)
      = (dst (dot (Q r) (K j)) (L r) (∑ c, V j c * D r c) (E r) : EReal) := by
  pointwise [k2_pay6, k2_pay13, k2_pay4]
  simp only [pay5 xk xq xl K Q L hk hq hl, hd, hv, he, ← EReal.coe_mul, ← coe_sum, ← EReal.coe_sub]

theorem pay8 (xa : Vec Ideal S512x192 .f32) (A : Fin 512 → Fin 192 → ℝ) (ha : ∀ j c, xa (ix2 j c) = (A j c : EReal))
    (j : Fin 512) (c : Fin 192) : k2_pay8 (F := Ideal) (k2_pay12 xk) (k2_pay13 xv) xq xd xl xe xa (ix2 j c)
      = ((A j c + ∑ r, dst (dot (Q r) (K j)) (L r) (∑ c, V j c * D r c) (E r) * Q r c : ℝ) : EReal) := by
  pointwise [k2_pay8, k2_pay3]
  simp only [pay6 xk xv xq xd xl xe K V Q D L E hk hq hl hv hd he, hq, ha, ← EReal.coe_mul, ← coe_sum, ← EReal.coe_add]

theorem pay14 (xa : Vec Ideal S1x1024x192 .f32) (r : Fin 1024) (c : Fin 192) (a : ℝ) (ha : xa (ix3 0 r c) = (a : EReal)) :
    k2_pay14 (F := Ideal) xk (k2_pay6 (k2_pay12 xk) (k2_pay13 xv) xq xd xl xe) xa (ix3 0 r c)
      = ((a + ∑ j, dst (dot (Q r) (K j)) (L r) (∑ c, V j c * D r c) (E r) * K j c : ℝ) : EReal) := by
  pointwise [k2_pay14]
  simp only [pay6 xk xv xq xd xl xe K V Q D L E hk hq hl hv hd he, ha]
  pointwise [k2_pay12]
  simp only [hk, ← EReal.coe_mul, ← coe_sum, ← EReal.coe_add]

end
end

theorem pay9 (i : Fin 8192) (c : Fin 192) : k2_pay9 (F := Ideal) (ix3 0 i c) = ((0 : ℝ) : EReal) := by
  pointwise [k2_pay9]
  exact EReal.coe_zero.symm

theorem pay10 (j : Fin 512) (c : Fin 192) : k2_pay10 (F := Ideal) (ix2 j c) = ((0 : ℝ) : EReal) := by
  pointwise [k2_pay10]
  exact EReal.coe_zero.symm

theorem pay11 (j : Fin 512) (c : Fin 128) : k2_pay11 (F := Ideal) (ix2 j c) = ((0 : ℝ) : EReal) := by
  pointwise [k2_pay11]
  exact EReal.coe_zero.symm

theorem ln2_eq : (Named.named (F := Ideal) κ "ln2" 0x3F317218#32 : Ideal .f32) = ((Real.log 2 : ℝ) : EReal) := by
  rfl

theorem pay15 (x : Vec Ideal S512x192 .f32) (j : Fin 512) (c : Fin 192) (a : ℝ) (h : x (ix2 j c) = (a : EReal)) :
    k2_pay15 (F := Ideal) x (ix3 0 j c) = ((a * Real.log 2 : ℝ) : EReal) := by
  pointwise [k2_pay15]
  rw [h, ln2_eq, ← EReal.coe_mul]

theorem pay16 (x : Vec Ideal S512x128 .f32) (j : Fin 512) (c : Fin 128) (a : ℝ) (h : x (ix2 j c) = (a : EReal)) :
    k2_pay1 (F := Ideal) (k2_pay16 x) (ix3 0 j c) = (a : EReal) := by
  pointwise [k2_pay1, k2_pay16]
  exact h

/-- The softmax scale, as the real number its word stands for. -/
def σ : ℝ := 9686330 / 2 ^ 27

theorem ofBits_σ : Ideal.ofBits .f32 0x3D93CD3A#32 = (σ : EReal) := by
  unfold σ
  simp [Ideal.ofBits, Ideal.ieee, -EReal.coe_mul]; norm_num

theorem pay2 (x : Vec Ideal S1x8192x192 .f32) (i : Fin 8192) (c : Fin 192) (a : ℝ) (h : x (ix3 0 i c) = (a : EReal)) :
    k2_pay2 (F := Ideal) x (ix3 0 i c) = ((a * σ : ℝ) : EReal) := by
  pointwise [k2_pay2]
  rw [h, ofBits_σ, ← EReal.coe_mul]

end Cert.Mla.PayB

end
-- ==== Proof.MlaArrF.lean ====
/- The forward attention kernel and the row-sum kernel as maps of whole arrays. -/
module

public import proofs.«01_k».proof.Proof.MlaInvF
public import proofs.«01_k».proof.Proof.MlaPayB

@[expose] public section

set_option maxRecDepth 16384

noncomputable section

namespace Cert.Mla

open Idealize.ShloMosaic Idealize.ShloMosaic.TcCoe Cert.MlaKIdeal Cert.MlaKIdeal.Gen Cert.Finite Cert.MlaRow Cert.Mla.PayF
open Idealize.ShloMosaic.Pipeline (Dat)

variable (V : (c : Dev nD) → (b : Ref sig .tc) → Buf (Elt Ideal) ((c : Thread nD τ).loc b)) (c : Dev nD)

/-! ## The forward kernel -/

/-- Grid point `t` works on head `t / 8` and the block `t % 8` of its queries. -/
theorem idx0 : ∀ t : Fin cfg0.N, (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0) :=
  (by decide +kernel : ∀ t : Fin grid0.N, _)

theorem lt0 (t : Fin cfg0.N) : t.val < 128 := t.isLt.trans_eq (by decide +kernel)

abbrev hd0 (t : Fin cfg0.N) : Fin 16 := ⟨t.val / 8, by have := lt0 t; omega⟩
abbrev row0 (t : Fin cfg0.N) (r : Fin 1024) : Fin 8192 := ⟨t.val % 8 * 1024 + r.val, by omega⟩

theorem iblk0_q (t : Fin cfg0.N) (r : Fin 1024) (k : Fin 192) :
    (iblk0 V c 0 t : Vec Ideal S1x1024x192 .bf16) (ix3 0 r k) = V c main_v9 (ix3 (hd0 t) (row0 t r) k) := by
  obtain ⟨hi, -, -, -, -⟩ := idx0 t
  unfold iblk0
  rw [View.read_apply]
  show V c main_v9 _ = V c main_v9 _
  congr 1
  funext a
  apply Fin.ext
  match a with
  | ⟨0, _⟩ => show win0_0.index t 0 * 1 + 1 * 0 = t.val / 8; rw [hi.1]; omega
  | ⟨1, _⟩ => show win0_0.index t 1 * 1024 + 1 * r.val = t.val % 8 * 1024 + r.val; rw [hi.2.1]; omega
  | ⟨2, _⟩ => show win0_0.index t 2 * 192 + 1 * k.val = k.val; rw [hi.2.2]; omega

theorem iblk0_k (t : Fin cfg0.N) (j : Fin 8192) (k : Fin 192) :
    (iblk0 V c 1 t : Vec Ideal S1x8192x192 .bf16) (ix3 0 j k) = V c main_v13 (ix3 (hd0 t) j k) := by
  obtain ⟨-, hi, -, -, -⟩ := idx0 t
  unfold iblk0
  rw [View.read_apply]
  show V c main_v13 _ = V c main_v13 _
  congr 1
  funext a
  apply Fin.ext
  match a with
  | ⟨0, _⟩ => show win0_1.index t 0 * 1 + 1 * 0 = t.val / 8; rw [hi.1]; omega
  | ⟨1, _⟩ => show win0_1.index t 1 * 8192 + 1 * j.val = j.val; rw [hi.2.1]; omega
  | ⟨2, _⟩ => show win0_1.index t 2 * 192 + 1 * k.val = k.val; rw [hi.2.2]; omega

theorem iblk0_v (t : Fin cfg0.N) (j : Fin 8192) (k : Fin 128) :
    (iblk0 V c 2 t : Vec Ideal S1x8192x128 .bf16) (ix3 0 j k) = V c main_v14 (ix3 (hd0 t) j k) := by
  obtain ⟨-, -, hi, -, -⟩ := idx0 t
  unfold iblk0
  rw [View.read_apply]
  show V c main_v14 _ = V c main_v14 _
  congr 1
  funext a
  apply Fin.ext
  match a with
  | ⟨0, _⟩ => show win0_2.index t 0 * 1 + 1 * 0 = t.val / 8; rw [hi.1]; omega
  | ⟨1, _⟩ => show win0_2.index t 1 * 8192 + 1 * j.val = j.val; rw [hi.2.1]; omega
  | ⟨2, _⟩ => show win0_2.index t 2 * 128 + 1 * k.val = k.val; rw [hi.2.2]; omega

section
variable (Q K : Fin 16 → Fin 8192 → Fin 192 → ℝ) (W : Fin 16 → Fin 8192 → Fin 128 → ℝ)
  (hq : ∀ h i k, V c main_v9 (ix3 h i k) = (Q h i k : EReal)) (hk : ∀ h i k, V c main_v13 (ix3 h i k) = (K h i k : EReal))
  (hv : ∀ h i k, V c main_v14 (ix3 h i k) = (W h i k : EReal))

/-- The base-two scores of a query against every key of its head. -/
abbrev sc (h : Fin 16) (i : Fin 8192) : Fin 8192 → ℝ := fun j => dot (Q h i) (K h j)

/-- The attention's output. -/
def oR (h : Fin 16) (i : Fin 8192) (x : Fin 128) : ℝ := ∑ j, P (sc Q K h i) j * W h j x

/-- The output as an array. -/
def oArr : S16x8192x128.Idx → EReal := fun i => (oR Q K W (i 0) (i 1) (i 2) : EReal)

/-- The rows' log-sums as an array. -/
def lArr : S16x8192x1.Idx → EReal := fun i => (lse (sc Q K (i 0) (i 1)) : EReal)

theorem mem0_3 (t : Fin cfg0.N) (i : S16x8192x128.Idx) :
    i ∈ ((cfg0.win 3).blk t).view.set ↔ ∀ a : Fin 3, win0_3.index t a * S1x1024x128.size a ≤ i a ∧ (i a : ℕ) < win0_3.index t a * S1x1024x128.size a + S1x1024x128.size a := by
  show i ∈ ((View.whole main_v15_0).slice (win0_3.rect t)).set ↔ _
  rw [View.set_slice_whole, Rect.mem_set_unit]; exact Iff.rfl

theorem mem0_4 (t : Fin cfg0.N) (i : S16x8192x1.Idx) :
    i ∈ ((cfg0.win 4).blk t).view.set ↔ ∀ a : Fin 3, win0_4.index t a * S1x1024x1.size a ≤ i a ∧ (i a : ℕ) < win0_4.index t a * S1x1024x1.size a + S1x1024x1.size a := by
  show i ∈ ((View.whole main_v15_1).slice (win0_4.rect t)).set ↔ _
  rw [View.set_slice_whole, Rect.mem_set_unit]; exact Iff.rfl

include hq hk hv

theorem final_o : (dat0 V c).arrAt 3 cfg0.N = oArr Q K W := by
  refine (dat0 V c).arrAt_eq_of_cover 3 (oArr Q K W) (fun t _ => ?_) fun i => ?_
  · show (cfg0.win 3).cut (grid0.coords t) ((dat0 V c).after 3 t) = _
    rw [after0_3]
    unfold outsAt0
    rw [out_o]
    funext j
    obtain ⟨-, -, -, hi, -⟩ := idx0 t
    rw [View.read_apply]
    idx_vars j
    have e : ((cfg0.win 3).blk t).view.emb (ix3 j0 j1 j2) = (ix3 (hd0 t) (row0 t j1) j2 : S16x8192x128.Idx) := by
      funext a
      apply Fin.ext
      match a with
      | ⟨0, _⟩ => show win0_3.index t 0 * 1 + 1 * j0.val = t.val / 8; rw [hi.1]; have := j0.isLt; omega
      | ⟨1, _⟩ => show win0_3.index t 1 * 1024 + 1 * j1.val = t.val % 8 * 1024 + j1.val; rw [hi.2.1]; omega
      | ⟨2, _⟩ => show win0_3.index t 2 * 128 + 1 * j2.val = j2.val; rw [hi.2.2]; omega
    obtain rfl : j0 = 0 := Fin.ext (by have := j0.isLt; omega)
    exact (fwd_o _ _ _ (fun r => Q (hd0 t) (row0 t r)) (K (hd0 t)) (W (hd0 t)) (fun r k => (iblk0_q V c t r k).trans (hq _ _ _))
      (fun r k => (iblk0_k V c t r k).trans (hk _ _ _)) (fun r k => (iblk0_v V c t r k).trans (hv _ _ _)) j1 j2).trans
      (congrArg (oArr Q K W) e).symm
  · have h0 : (i 0 : Nat) < 16 := (i 0).isLt
    have h1 : (i 1 : Nat) < 8192 := (i 1).isLt
    have h2 : (i 2 : Nat) < 128 := (i 2).isLt
    have hN : cfg0.N = 128 := by decide +kernel
    refine ⟨⟨(i 0).val * 8 + (i 1).val / 1024, by omega⟩, flush0_3 _, ?_⟩
    obtain ⟨-, -, -, hi, -⟩ := idx0 ⟨(i 0).val * 8 + (i 1).val / 1024, by omega⟩
    rw [mem0_3]
    intro a
    match a with
    | ⟨0, _⟩ =>
      show win0_3.index _ 0 * 1 ≤ (i 0).val ∧ (i 0).val < win0_3.index _ 0 * 1 + 1
      rw [hi.1]; dsimp only; omega
    | ⟨1, _⟩ =>
      show win0_3.index _ 1 * 1024 ≤ (i 1).val ∧ (i 1).val < win0_3.index _ 1 * 1024 + 1024
      rw [hi.2.1]; dsimp only; omega
    | ⟨2, _⟩ =>
      show win0_3.index _ 2 * 128 ≤ (i 2).val ∧ (i 2).val < win0_3.index _ 2 * 128 + 128
      rw [hi.2.2]; omega

theorem final_lse : (dat0 V c).arrAt 4 cfg0.N = lArr Q K := by
  refine (dat0 V c).arrAt_eq_of_cover 4 (lArr Q K) (fun t _ => ?_) fun i => ?_
  · show (cfg0.win 4).cut (grid0.coords t) ((dat0 V c).after 4 t) = _
    rw [after0_4]
    unfold outsAt0
    rw [out_lse]
    funext j
    obtain ⟨-, -, -, -, hi⟩ := idx0 t
    rw [View.read_apply]
    idx_vars j
    have e : ((cfg0.win 4).blk t).view.emb (ix3 j0 j1 j2) = (ix3 (hd0 t) (row0 t j1) 0 : S16x8192x1.Idx) := by
      funext a
      apply Fin.ext
      match a with
      | ⟨0, _⟩ => show win0_4.index t 0 * 1 + 1 * j0.val = t.val / 8; rw [hi.1]; have := j0.isLt; omega
      | ⟨1, _⟩ => show win0_4.index t 1 * 1024 + 1 * j1.val = t.val % 8 * 1024 + j1.val; rw [hi.2.1]; omega
      | ⟨2, _⟩ => show win0_4.index t 2 * 1 + 1 * j2.val = 0; rw [hi.2.2]; have := j2.isLt; omega
    obtain rfl : j0 = 0 := Fin.ext (by have := j0.isLt; omega)
    obtain rfl : j2 = 0 := Fin.ext (by have := j2.isLt; omega)
    exact (fwd_lse _ _ _ (fun r => Q (hd0 t) (row0 t r)) (K (hd0 t)) (W (hd0 t)) (fun r k => (iblk0_q V c t r k).trans (hq _ _ _))
      (fun r k => (iblk0_k V c t r k).trans (hk _ _ _)) (fun r k => (iblk0_v V c t r k).trans (hv _ _ _)) j1).trans
      (congrArg (lArr Q K) e).symm
  · have h0 : (i 0 : Nat) < 16 := (i 0).isLt
    have h1 : (i 1 : Nat) < 8192 := (i 1).isLt
    have h2 : (i 2 : Nat) < 1 := (i 2).isLt
    have hN : cfg0.N = 128 := by decide +kernel
    refine ⟨⟨(i 0).val * 8 + (i 1).val / 1024, by omega⟩, flush0_4 _, ?_⟩
    obtain ⟨-, -, -, -, hi⟩ := idx0 ⟨(i 0).val * 8 + (i 1).val / 1024, by omega⟩
    rw [mem0_4]
    intro a
    match a with
    | ⟨0, _⟩ =>
      show win0_4.index _ 0 * 1 ≤ (i 0).val ∧ (i 0).val < win0_4.index _ 0 * 1 + 1
      rw [hi.1]; dsimp only; omega
    | ⟨1, _⟩ =>
      show win0_4.index _ 1 * 1024 ≤ (i 1).val ∧ (i 1).val < win0_4.index _ 1 * 1024 + 1024
      rw [hi.2.1]; dsimp only; omega
    | ⟨2, _⟩ =>
      show win0_4.index _ 2 * 1 ≤ (i 2).val ∧ (i 2).val < win0_4.index _ 2 * 1 + 1
      rw [hi.2.2]; omega

end

/-! ## The row-sum kernel -/

theorem idx1 : ∀ t : Fin cfg1.N, (win1_0.index t 0 = t.val / 8 ∧ win1_0.index t 1 = t.val % 8 ∧ win1_0.index t 2 = 0)
    ∧ (win1_1.index t 0 = t.val / 8 ∧ win1_1.index t 1 = t.val % 8 ∧ win1_1.index t 2 = 0)
    ∧ (win1_2.index t 0 = t.val / 8 ∧ win1_2.index t 1 = t.val % 8 ∧ win1_2.index t 2 = 0) :=
  (by decide +kernel : ∀ t : Fin grid1.N, _)

theorem lt1 (t : Fin cfg1.N) : t.val < 128 := t.isLt.trans_eq (by decide +kernel)

abbrev hd1 (t : Fin cfg1.N) : Fin 16 := ⟨t.val / 8, by have := lt1 t; omega⟩
abbrev row1 (t : Fin cfg1.N) (r : Fin 1024) : Fin 8192 := ⟨t.val % 8 * 1024 + r.val, by omega⟩

theorem iblk1_o (t : Fin cfg1.N) (r : Fin 1024) (k : Fin 128) :
    (iblk1 V c 0 t : Vec Ideal S1x1024x128 .bf16) (ix3 0 r k) = V c main_v15_0 (ix3 (hd1 t) (row1 t r) k) := by
  obtain ⟨hi, -, -⟩ := idx1 t
  unfold iblk1
  rw [View.read_apply]
  show V c main_v15_0 _ = V c main_v15_0 _
  congr 1
  funext a
  apply Fin.ext
  match a with
  | ⟨0, _⟩ => show win1_0.index t 0 * 1 + 1 * 0 = t.val / 8; rw [hi.1]; omega
  | ⟨1, _⟩ => show win1_0.index t 1 * 1024 + 1 * r.val = t.val % 8 * 1024 + r.val; rw [hi.2.1]; omega
  | ⟨2, _⟩ => show win1_0.index t 2 * 128 + 1 * k.val = k.val; rw [hi.2.2]; omega

theorem iblk1_d (t : Fin cfg1.N) (r : Fin 1024) (k : Fin 128) :
    (iblk1 V c 1 t : Vec Ideal S1x1024x128 .bf16) (ix3 0 r k) = V c main_v19 (ix3 (hd1 t) (row1 t r) k) := by
  obtain ⟨-, hi, -⟩ := idx1 t
  unfold iblk1
  rw [View.read_apply]
  show V c main_v19 _ = V c main_v19 _
  congr 1
  funext a
  apply Fin.ext
  match a with
  | ⟨0, _⟩ => show win1_1.index t 0 * 1 + 1 * 0 = t.val / 8; rw [hi.1]; omega
  | ⟨1, _⟩ => show win1_1.index t 1 * 1024 + 1 * r.val = t.val % 8 * 1024 + r.val; rw [hi.2.1]; omega
  | ⟨2, _⟩ => show win1_1.index t 2 * 128 + 1 * k.val = k.val; rw [hi.2.2]; omega

section
variable (O D : Fin 16 → Fin 8192 → Fin 128 → ℝ)
  (ho : ∀ h i k, V c main_v15_0 (ix3 h i k) = (O h i k : EReal)) (hd : ∀ h i k, V c main_v19 (ix3 h i k) = (D h i k : EReal))

/-- The rows' sums of `do · o` as an array. -/
def eArr : S16x8192x1.Idx → EReal := fun i => ((∑ k, O (i 0) (i 1) k * D (i 0) (i 1) k : ℝ) : EReal)

theorem mem1_2 (t : Fin cfg1.N) (i : S16x8192x1.Idx) :
    i ∈ ((cfg1.win 2).blk t).view.set ↔ ∀ a : Fin 3, win1_2.index t a * S1x1024x1.size a ≤ i a ∧ (i a : ℕ) < win1_2.index t a * S1x1024x1.size a + S1x1024x1.size a := by
  show i ∈ ((View.whole main_v20).slice (win1_2.rect t)).set ↔ _
  rw [View.set_slice_whole, Rect.mem_set_unit]; exact Iff.rfl

include ho hd

theorem final_delta : (dat1 V c).arrAt 2 cfg1.N = eArr O D := by
  refine (dat1 V c).arrAt_eq_of_cover 2 (eArr O D) (fun t _ => ?_) fun i => ?_
  · show (cfg1.win 2).cut (grid1.coords t) ((dat1 V c).after 2 t) = _
    rw [after1_2]
    unfold out1_2
    rw [View.canon_unit_zero hz3]
    funext j
    obtain ⟨-, -, hi⟩ := idx1 t
    rw [View.read_apply]
    idx_vars j
    have e : ((cfg1.win 2).blk t).view.emb (ix3 j0 j1 j2) = (ix3 (hd1 t) (row1 t j1) 0 : S16x8192x1.Idx) := by
      funext a
      apply Fin.ext
      match a with
      | ⟨0, _⟩ => show win1_2.index t 0 * 1 + 1 * j0.val = t.val / 8; rw [hi.1]; have := j0.isLt; omega
      | ⟨1, _⟩ => show win1_2.index t 1 * 1024 + 1 * j1.val = t.val % 8 * 1024 + j1.val; rw [hi.2.1]; omega
      | ⟨2, _⟩ => show win1_2.index t 2 * 1 + 1 * j2.val = 0; rw [hi.2.2]; have := j2.isLt; omega
    obtain rfl : j0 = 0 := Fin.ext (by have := j0.isLt; omega)
    obtain rfl : j2 = 0 := Fin.ext (by have := j2.isLt; omega)
    exact (PayB.delta _ _ (O (hd1 t) (row1 t j1)) (D (hd1 t) (row1 t j1)) j1
      (fun k => ((congrFun (View.ld_unit_zero (S := S1x1024x128) hz3 _ _) _).trans (iblk1_o V c t j1 k)).trans (ho _ _ _))
      (fun k => ((congrFun (View.ld_unit_zero (S := S1x1024x128) hz3 _ _) _).trans (iblk1_d V c t j1 k)).trans (hd _ _ _))).trans
      (congrArg (eArr O D) e).symm
  · have h0 : (i 0 : Nat) < 16 := (i 0).isLt
    have h1 : (i 1 : Nat) < 8192 := (i 1).isLt
    have h2 : (i 2 : Nat) < 1 := (i 2).isLt
    have hN : cfg1.N = 128 := by decide +kernel
    refine ⟨⟨(i 0).val * 8 + (i 1).val / 1024, by omega⟩, flush1_2 _, ?_⟩
    obtain ⟨-, -, hi⟩ := idx1 ⟨(i 0).val * 8 + (i 1).val / 1024, by omega⟩
    rw [mem1_2]
    intro a
    match a with
    | ⟨0, _⟩ =>
      show win1_2.index _ 0 * 1 ≤ (i 0).val ∧ (i 0).val < win1_2.index _ 0 * 1 + 1
      rw [hi.1]; dsimp only; omega
    | ⟨1, _⟩ =>
      show win1_2.index _ 1 * 1024 ≤ (i 1).val ∧ (i 1).val < win1_2.index _ 1 * 1024 + 1024
      rw [hi.2.1]; dsimp only; omega
    | ⟨2, _⟩ =>
      show win1_2.index _ 2 * 1 ≤ (i 2).val ∧ (i 2).val < win1_2.index _ 2 * 1 + 1
      rw [hi.2.2]; omega

end

end Cert.Mla

end
-- ==== Proof.MlaInvB.lean ====
/- The running sums of the backward sweep over the queries, for one block of keys. -/
module

public import proofs.«01_k».proof.Proof.MlaInvF
public import proofs.«01_k».proof.Proof.MlaPayB

@[expose] public section

set_option maxRecDepth 16384

noncomputable section

namespace Cert.Mla

open Idealize.ShloMosaic Idealize.ShloMosaic.TcCoe Cert.MlaKIdeal Cert.MlaKIdeal.Gen Cert.Finite Cert.MlaRow Cert.Mla.PayF
open Cert.Mla.PayB (dst)

theorem lt_bwd (k : Fin k2_t1_loop.trips) (r : Fin 1024) : k.val * 1024 + r.val < 8192 := by
  have h : k.val < 8 := lt_of_lt_of_eq k.isLt trips_bwd
  have := r.isLt
  omega

/-- A block of `b` lanes of a row, read at a lane. -/
theorem ld_lane {N b : ℕ} {e : EltTy} (x : (⟨3, ![1, 1, N]⟩ : Shape).Idx → Elt Ideal e) (off : Fin 3 → ℕ)
    (inb : ∀ a, off a + (![1, 1, b] : Fin 3 → ℕ) a ≤ (⟨3, ![1, 1, N]⟩ : Shape).size a) (o : ℕ) (ho : off = ![0, 0, o])
    (j : Fin b) (h : o + j.val < N) :
    View.ld x (Rect.unit (s := ⟨3, ![1, 1, N]⟩) off ![1, 1, b] inb) (ix3 0 0 j) = x (ix3 0 0 ⟨o + j.val, h⟩) := by
  subst ho
  refine congrArg x ?_
  funext a
  apply Fin.ext
  match a with
  | ⟨0, _⟩ => rfl
  | ⟨1, _⟩ => rfl
  | ⟨2, _⟩ => exact congrArg (o + ·) (one_mul j.val)

/-- A block of `b` rows put into a plane, read at a row and a column. -/
theorem put_row {N C b : ℕ} {α : Type} (x : (⟨3, ![1, N, C]⟩ : Shape).Idx → α) (off : Fin 3 → ℕ) (o : ℕ)
    (ho : off = ![0, o, 0]) (w : (⟨3, ![1, b, C]⟩ : Shape).Idx → α) (i : Fin N) (c : Fin C) :
    VecWindow.put (s := ⟨3, ![1, N, C]⟩) x off ![1, b, C] w (ix3 0 i c)
      = if h : o ≤ i.val ∧ i.val - o < b then w (ix3 0 ⟨i.val - o, h.2⟩ c) else x (ix3 0 i c) := by
  subst ho
  unfold VecWindow.put
  by_cases h : o ≤ i.val ∧ i.val - o < b
  · rw [dif_pos h, dif_pos]
    · refine congrArg w ?_
      funext a
      apply Fin.ext
      match a with
      | ⟨0, _⟩ => rfl
      | ⟨1, _⟩ => rfl
      | ⟨2, _⟩ => rfl
    · intro a
      match a with
      | ⟨0, _⟩ => exact ⟨le_rfl, Nat.one_pos⟩
      | ⟨1, _⟩ => exact ⟨h.1, by have := h.2; show i.val < o + b; omega⟩
      | ⟨2, _⟩ => exact ⟨Nat.zero_le _, by show c.val < 0 + C; have := c.isLt; omega⟩
  · rw [dif_neg h, dif_neg]
    intro hh
    have h1 : o ≤ i.val ∧ i.val < o + b := hh 1
    exact h ⟨h1.1, by omega⟩

variable (x0 : Vec Ideal S1x8192x192 .bf16) (x1 : Vec Ideal S1x512x192 .bf16) (x2 : Vec Ideal S1x512x128 .bf16)
  (x3 : Vec Ideal S1x8192x128 .bf16) (x4 x5 : Vec Ideal S1x1x8192 .f32)
  (Q : Fin 8192 → Fin 192 → ℝ) (K : Fin 512 → Fin 192 → ℝ) (V : Fin 512 → Fin 128 → ℝ) (D : Fin 8192 → Fin 128 → ℝ)
  (L E : Fin 8192 → ℝ)
  (hq : ∀ r c, x0 (ix3 0 r c) = (Q r c : EReal)) (hk : ∀ j c, x1 (ix3 0 j c) = (K j c : EReal))
  (hv : ∀ j c, x2 (ix3 0 j c) = (V j c : EReal)) (hd : ∀ r c, x3 (ix3 0 r c) = (D r c : EReal))
  (hl : ∀ r, x4 (ix3 0 0 r) = (L r : EReal)) (he : ∀ r, x5 (ix3 0 0 r) = (E r : EReal))
  (p : Vec Ideal S1x8192x192 .f32) (A : Fin 8192 → Fin 192 → ℝ) (hp : ∀ i c, p (ix3 0 i c) = (A i c : EReal))

/-- The gradient of the score of query `i` and the block's key `j`. -/
abbrev g (i : Fin 8192) (j : Fin 512) : ℝ := dst (dot (Q i) (K j)) (L i) (∑ c, V j c * D i c) (E i)

/-- The queries of trip `k`, read in their tile. -/
abbrev row (k : Fin k2_t1_loop.trips) (r : Fin 1024) : Fin 8192 := ⟨k.val * 1024 + r.val, lt_bwd k r⟩

include hq hk hv hd hl he

theorem bst_dk (n : ℕ) (hn : n ≤ 8) (j : Fin 512) (c : Fin 192) :
    (bst x0 x1 x2 x3 x4 x5 p n).2.1 (ix2 j c) = (psum 1024 (fun i => g Q K V D L E i j * Q i c) n : EReal) := by
  induction n generalizing j c with
  | zero => rw [psum_zero]; exact PayB.pay10 j c
  | succ n ih =>
    have ht : n < k2_t1_loop.trips := lt_of_lt_of_eq (by omega) trips_bwd.symm
    rw [show bst x0 x1 x2 x3 x4 x5 p (n + 1) = bstep x0 x1 x2 x3 x4 x5 ⟨n, ht⟩ (bst x0 x1 x2 x3 x4 x5 p n) from dif_pos ht]
    unfold bstep dkNew
    dsimp only
    rw [PayB.pay8 x1 x2 _ _ _ _ K V (fun r => Q (row ⟨n, ht⟩ r)) (fun r => D (row ⟨n, ht⟩ r)) (fun r => L (row ⟨n, ht⟩ r))
      (fun r => E (row ⟨n, ht⟩ r)) hk
      (fun r c => (ld_row x0 _ _ _ (k2_off1_eq ⟨n, ht⟩) r c (lt_bwd ⟨n, ht⟩ r)).trans (hq _ _))
      (fun r => (ld_lane x4 _ _ _ (k2_off3_eq ⟨n, ht⟩) r (lt_bwd ⟨n, ht⟩ r)).trans (hl _)) hv
      (fun r c => (ld_row x3 _ _ _ (k2_off2_eq ⟨n, ht⟩) r c (lt_bwd ⟨n, ht⟩ r)).trans (hd _ _))
      (fun r => (ld_lane x5 _ _ _ (k2_off3_eq ⟨n, ht⟩) r (lt_bwd ⟨n, ht⟩ r)).trans (he _)) _ _
      (fun j c => ih (by omega) j c) j c, psum_succ _ _ _ (by omega)]

omit hv he in
theorem bst_dv (n : ℕ) (hn : n ≤ 8) (j : Fin 512) (c : Fin 128) :
    (bst x0 x1 x2 x3 x4 x5 p n).2.2 (ix2 j c) = (psum 1024 (fun i => e2 (dot (Q i) (K j) - L i) * D i c) n : EReal) := by
  induction n generalizing j c with
  | zero => rw [psum_zero]; exact PayB.pay11 j c
  | succ n ih =>
    have ht : n < k2_t1_loop.trips := lt_of_lt_of_eq (by omega) trips_bwd.symm
    rw [show bst x0 x1 x2 x3 x4 x5 p (n + 1) = bstep x0 x1 x2 x3 x4 x5 ⟨n, ht⟩ (bst x0 x1 x2 x3 x4 x5 p n) from dif_pos ht]
    unfold bstep dvNew
    dsimp only
    rw [PayB.pay7 x1 _ _ _ K (fun r => Q (row ⟨n, ht⟩ r)) (fun r => D (row ⟨n, ht⟩ r)) (fun r => L (row ⟨n, ht⟩ r)) hk
      (fun r c => (ld_row x0 _ _ _ (k2_off1_eq ⟨n, ht⟩) r c (lt_bwd ⟨n, ht⟩ r)).trans (hq _ _))
      (fun r => (ld_lane x4 _ _ _ (k2_off3_eq ⟨n, ht⟩) r (lt_bwd ⟨n, ht⟩ r)).trans (hl _))
      (fun r c => (ld_row x3 _ _ _ (k2_off2_eq ⟨n, ht⟩) r c (lt_bwd ⟨n, ht⟩ r)).trans (hd _ _)) _ _
      (fun j c => ih (by omega) j c) j c, psum_succ _ _ _ (by omega)]

include hp

/-- Rows already swept have the block's sum added, the others hold what they held. -/
theorem bst_dq (n : ℕ) (hn : n ≤ 8) (i : Fin 8192) (c : Fin 192) :
    (bst x0 x1 x2 x3 x4 x5 p n).1 (ix3 0 i c)
      = ((if i.val < n * 1024 then A i c + ∑ j, g Q K V D L E i j * K j c else A i c : ℝ) : EReal) := by
  induction n with
  | zero => rw [if_neg (by omega)]; exact hp i c
  | succ n ih =>
    have ht : n < k2_t1_loop.trips := lt_of_lt_of_eq (by omega) trips_bwd.symm
    rw [show bst x0 x1 x2 x3 x4 x5 p (n + 1) = bstep x0 x1 x2 x3 x4 x5 ⟨n, ht⟩ (bst x0 x1 x2 x3 x4 x5 p n) from dif_pos ht]
    unfold bstep
    dsimp only
    refine (put_row _ _ _ (k2_off1_eq ⟨n, ht⟩) _ i c).trans ?_
    by_cases h : n * 1024 ≤ i.val ∧ i.val - n * 1024 < 1024
    · rw [dif_pos h, if_pos (by omega)]
      unfold dqNew
      have hi : row ⟨n, ht⟩ ⟨i.val - n * 1024, h.2⟩ = i := Fin.ext (by show n * 1024 + (i.val - n * 1024) = _; omega)
      rw [PayB.pay14 x1 x2 _ _ _ _ K V (fun r => Q (row ⟨n, ht⟩ r)) (fun r => D (row ⟨n, ht⟩ r)) (fun r => L (row ⟨n, ht⟩ r))
        (fun r => E (row ⟨n, ht⟩ r)) hk
        (fun r c => (ld_row x0 _ _ _ (k2_off1_eq ⟨n, ht⟩) r c (lt_bwd ⟨n, ht⟩ r)).trans (hq _ _))
        (fun r => (ld_lane x4 _ _ _ (k2_off3_eq ⟨n, ht⟩) r (lt_bwd ⟨n, ht⟩ r)).trans (hl _)) hv
        (fun r c => (ld_row x3 _ _ _ (k2_off2_eq ⟨n, ht⟩) r c (lt_bwd ⟨n, ht⟩ r)).trans (hd _ _))
        (fun r => (ld_lane x5 _ _ _ (k2_off3_eq ⟨n, ht⟩) r (lt_bwd ⟨n, ht⟩ r)).trans (he _)) _ _ c (A i c)]
      · dsimp only
        rw [hi]
      · refine (ld_row _ _ _ _ (k2_off1_eq ⟨n, ht⟩) _ c (lt_bwd ⟨n, ht⟩ _)).trans ?_
        refine (congrArg (fun z => (bst x0 x1 x2 x3 x4 x5 p n).1 (ix3 0 z c)) hi).trans ?_
        rw [ih (by omega), if_neg (by omega)]
    · rw [dif_neg h, ih (by omega)]
      congr 1
      by_cases h2 : i.val < n * 1024
      · rw [if_pos h2, if_pos (by omega)]
      · rw [if_neg h2, if_neg (by omega)]

end Cert.Mla

end
-- ==== Proof.MlaArrB.lean ====
/- The backward attention kernel as a map of whole arrays. -/
module

public import proofs.«01_k».proof.Proof.MlaInvB

@[expose] public section

set_option maxRecDepth 16384

noncomputable section

namespace Cert.Mla

open Idealize.ShloMosaic Idealize.ShloMosaic.TcCoe Cert.MlaKIdeal Cert.MlaKIdeal.Gen Cert.Finite Cert.MlaRow Cert.Mla.PayF
open Idealize.ShloMosaic.Pipeline (Dat)
open Cert.Mla.PayB (dst σ)

variable (V : (c : Dev nD) → (b : Ref sig .tc) → Buf (Elt Ideal) ((c : Thread nD τ).loc b)) (c : Dev nD)

/-- Grid point `t` works on head `t / 16` and the block `t % 16` of its keys. -/
theorem idx2 : ∀ t : Fin cfg2.N, (win2_0.index t 0 = t.val / 16 ∧ win2_0.index t 1 = 0 ∧ win2_0.index t 2 = 0)
    ∧ (win2_1.index t 0 = t.val / 16 ∧ win2_1.index t 1 = t.val % 16 ∧ win2_1.index t 2 = 0)
    ∧ (win2_2.index t 0 = t.val / 16 ∧ win2_2.index t 1 = t.val % 16 ∧ win2_2.index t 2 = 0)
    ∧ (win2_3.index t 0 = t.val / 16 ∧ win2_3.index t 1 = 0 ∧ win2_3.index t 2 = 0)
    ∧ (win2_4.index t 0 = t.val / 16 ∧ win2_4.index t 1 = 0 ∧ win2_4.index t 2 = 0)
    ∧ (win2_5.index t 0 = t.val / 16 ∧ win2_5.index t 1 = 0 ∧ win2_5.index t 2 = 0)
    ∧ (win2_6.index t 0 = t.val / 16 ∧ win2_6.index t 1 = 0 ∧ win2_6.index t 2 = 0)
    ∧ (win2_7.index t 0 = t.val / 16 ∧ win2_7.index t 1 = t.val % 16 ∧ win2_7.index t 2 = 0)
    ∧ (win2_8.index t 0 = t.val / 16 ∧ win2_8.index t 1 = t.val % 16 ∧ win2_8.index t 2 = 0) :=
  (by decide +kernel : ∀ t : Fin grid2.N, _)

theorem lt2 (t : Fin cfg2.N) : t.val < 256 := t.isLt.trans_eq N_2

abbrev hd2 (t : Fin cfg2.N) : Fin 16 := ⟨t.val / 16, by have := lt2 t; omega⟩
abbrev row2 (t : Fin cfg2.N) (r : Fin 512) : Fin 8192 := ⟨t.val % 16 * 512 + r.val, by omega⟩

theorem iblk2_q (t : Fin cfg2.N) (r : Fin 8192) (k : Fin 192) :
    (iblk2 V c 0 t : Vec Ideal S1x8192x192 .bf16) (ix3 0 r k) = V c main_v9 (ix3 (hd2 t) (r) k) := by
  obtain ⟨hi, -, -, -, -, -, -, -, -⟩ := idx2 t
  unfold iblk2
  rw [View.read_apply]
  show V c main_v9 _ = V c main_v9 _
  congr 1
  funext a
  apply Fin.ext
  match a with
  | ⟨0, _⟩ => show win2_0.index t 0 * 1 + 1 * 0 = t.val / 16; rw [hi.1]; omega
  | ⟨1, _⟩ => show win2_0.index t 1 * 8192 + 1 * r.val = r.val; rw [hi.2.1]; omega
  | ⟨2, _⟩ => show win2_0.index t 2 * 192 + 1 * k.val = k.val; rw [hi.2.2]; omega

theorem iblk2_k (t : Fin cfg2.N) (r : Fin 512) (k : Fin 192) :
    (iblk2 V c 1 t : Vec Ideal S1x512x192 .bf16) (ix3 0 r k) = V c main_v13 (ix3 (hd2 t) (row2 t r) k) := by
  obtain ⟨-, hi, -, -, -, -, -, -, -⟩ := idx2 t
  unfold iblk2
  rw [View.read_apply]
  show V c main_v13 _ = V c main_v13 _
  congr 1
  funext a
  apply Fin.ext
  match a with
  | ⟨0, _⟩ => show win2_1.index t 0 * 1 + 1 * 0 = t.val / 16; rw [hi.1]; omega
  | ⟨1, _⟩ => show win2_1.index t 1 * 512 + 1 * r.val = t.val % 16 * 512 + r.val; rw [hi.2.1]; omega
  | ⟨2, _⟩ => show win2_1.index t 2 * 192 + 1 * k.val = k.val; rw [hi.2.2]; omega

theorem iblk2_v (t : Fin cfg2.N) (r : Fin 512) (k : Fin 128) :
    (iblk2 V c 2 t : Vec Ideal S1x512x128 .bf16) (ix3 0 r k) = V c main_v14 (ix3 (hd2 t) (row2 t r) k) := by
  obtain ⟨-, -, hi, -, -, -, -, -, -⟩ := idx2 t
  unfold iblk2
  rw [View.read_apply]
  show V c main_v14 _ = V c main_v14 _
  congr 1
  funext a
  apply Fin.ext
  match a with
  | ⟨0, _⟩ => show win2_2.index t 0 * 1 + 1 * 0 = t.val / 16; rw [hi.1]; omega
  | ⟨1, _⟩ => show win2_2.index t 1 * 512 + 1 * r.val = t.val % 16 * 512 + r.val; rw [hi.2.1]; omega
  | ⟨2, _⟩ => show win2_2.index t 2 * 128 + 1 * k.val = k.val; rw [hi.2.2]; omega

theorem iblk2_d (t : Fin cfg2.N) (r : Fin 8192) (k : Fin 128) :
    (iblk2 V c 3 t : Vec Ideal S1x8192x128 .bf16) (ix3 0 r k) = V c main_v19 (ix3 (hd2 t) (r) k) := by
  obtain ⟨-, -, -, hi, -, -, -, -, -⟩ := idx2 t
  unfold iblk2
  rw [View.read_apply]
  show V c main_v19 _ = V c main_v19 _
  congr 1
  funext a
  apply Fin.ext
  match a with
  | ⟨0, _⟩ => show win2_3.index t 0 * 1 + 1 * 0 = t.val / 16; rw [hi.1]; omega
  | ⟨1, _⟩ => show win2_3.index t 1 * 8192 + 1 * r.val = r.val; rw [hi.2.1]; omega
  | ⟨2, _⟩ => show win2_3.index t 2 * 128 + 1 * k.val = k.val; rw [hi.2.2]; omega

theorem iblk2_l (t : Fin cfg2.N) (r : Fin 8192) :
    (iblk2 V c 4 t : Vec Ideal S1x1x8192 .f32) (ix3 0 0 r) = V c main_v21 (ix3 (hd2 t) 0 r) := by
  obtain ⟨-, -, -, -, hi, -, -, -, -⟩ := idx2 t
  unfold iblk2
  rw [View.read_apply]
  show V c main_v21 _ = V c main_v21 _
  congr 1
  funext a
  apply Fin.ext
  match a with
  | ⟨0, _⟩ => show win2_4.index t 0 * 1 + 1 * 0 = t.val / 16; rw [hi.1]; omega
  | ⟨1, _⟩ => show win2_4.index t 1 * 1 + 1 * 0 = 0; rw [hi.2.1]
  | ⟨2, _⟩ => show win2_4.index t 2 * 8192 + 1 * r.val = r.val; rw [hi.2.2]; omega

theorem iblk2_e (t : Fin cfg2.N) (r : Fin 8192) :
    (iblk2 V c 5 t : Vec Ideal S1x1x8192 .f32) (ix3 0 0 r) = V c main_v22 (ix3 (hd2 t) 0 r) := by
  obtain ⟨-, -, -, -, -, hi, -, -, -⟩ := idx2 t
  unfold iblk2
  rw [View.read_apply]
  show V c main_v22 _ = V c main_v22 _
  congr 1
  funext a
  apply Fin.ext
  match a with
  | ⟨0, _⟩ => show win2_5.index t 0 * 1 + 1 * 0 = t.val / 16; rw [hi.1]; omega
  | ⟨1, _⟩ => show win2_5.index t 1 * 1 + 1 * 0 = 0; rw [hi.2.1]
  | ⟨2, _⟩ => show win2_5.index t 2 * 8192 + 1 * r.val = r.val; rw [hi.2.2]; omega

variable (Q K : Fin 16 → Fin 8192 → Fin 192 → ℝ) (W D : Fin 16 → Fin 8192 → Fin 128 → ℝ) (L E : Fin 16 → Fin 8192 → ℝ)

/-- The arrays the kernel reads are these real arrays. -/
structure In2 : Prop where
  hq : ∀ h i k, V c main_v9 (ix3 h i k) = (Q h i k : EReal)
  hk : ∀ h i k, V c main_v13 (ix3 h i k) = (K h i k : EReal)
  hv : ∀ h i k, V c main_v14 (ix3 h i k) = (W h i k : EReal)
  hd : ∀ h i k, V c main_v19 (ix3 h i k) = (D h i k : EReal)
  hl : ∀ h i, V c main_v21 (ix3 h 0 i) = (L h i : EReal)
  he : ∀ h i, V c main_v22 (ix3 h 0 i) = (E h i : EReal)

/-- The gradient of the score of query `i` and key `j` of head `h`. -/
def G (h : Fin 16) (i j : Fin 8192) : ℝ := dst (dot (Q h i) (K h j)) (L h i) (∑ c, W h j c * D h i c) (E h i)

def dqR (h : Fin 16) (i : Fin 8192) (k : Fin 192) : ℝ := (∑ j, G Q K W D L E h i j * K h j k) * σ
def dkR (h : Fin 16) (j : Fin 8192) (k : Fin 192) : ℝ := (∑ i, G Q K W D L E h i j * Q h i k) * Real.log 2
def dvR (h : Fin 16) (j : Fin 8192) (k : Fin 128) : ℝ := ∑ i, e2 (dot (Q h i) (K h j) - L h i) * D h i k

def dqArr : S16x8192x192.Idx → EReal := fun i => (dqR Q K W D L E (i 0) (i 1) (i 2) : EReal)
def dkArr : S16x8192x192.Idx → EReal := fun i => (dkR Q K W D L E (i 0) (i 1) (i 2) : EReal)
def dvArr : S16x8192x128.Idx → EReal := fun i => (dvR Q K D L (i 0) (i 1) (i 2) : EReal)

/-- The sums of the point `t` from the query gradient `p`. -/
abbrev bstAt (t : Fin cfg2.N) (p : Vec Ideal S1x8192x192 .f32) : BSt :=
  bst (iblk2 V c 0 t) (iblk2 V c 1 t) (iblk2 V c 2 t) (iblk2 V c 3 t) (iblk2 V c 4 t) (iblk2 V c 5 t) p 8

section
variable {V c Q K W D L E} (H : In2 V c Q K W D L E)
include H

theorem at_dk (t : Fin cfg2.N) (p : Vec Ideal S1x8192x192 .f32) (j : Fin 512) (k : Fin 192) :
    k2_pay15 (F := Ideal) (bstAt V c t p).2.1 (ix3 0 j k) = (dkR Q K W D L E (hd2 t) (row2 t j) k : EReal) := by
  refine PayB.pay15 _ j k _ ?_
  refine (bst_dk _ _ _ _ _ _ (Q (hd2 t)) (fun j => K (hd2 t) (row2 t j)) (fun j => W (hd2 t) (row2 t j)) (D (hd2 t)) (L (hd2 t)) (E (hd2 t))
    (fun r k => (iblk2_q V c t r k).trans (H.hq _ _ _)) (fun r k => (iblk2_k V c t r k).trans (H.hk _ _ _))
    (fun r k => (iblk2_v V c t r k).trans (H.hv _ _ _)) (fun r k => (iblk2_d V c t r k).trans (H.hd _ _ _))
    (fun r => (iblk2_l V c t r).trans (H.hl _ _)) (fun r => (iblk2_e V c t r).trans (H.he _ _)) p 8 le_rfl j k).trans ?_
  rw [psum_all 1024 _ 8 rfl]
  rfl

theorem at_dv (t : Fin cfg2.N) (p : Vec Ideal S1x8192x192 .f32) (j : Fin 512) (k : Fin 128) :
    k2_pay1 (F := Ideal) (k2_pay16 (bstAt V c t p).2.2) (ix3 0 j k) = (dvR Q K D L (hd2 t) (row2 t j) k : EReal) := by
  refine PayB.pay16 _ j k _ ?_
  refine (bst_dv _ _ _ _ _ _ (Q (hd2 t)) (fun j => K (hd2 t) (row2 t j)) (D (hd2 t)) (L (hd2 t))
    (fun r k => (iblk2_q V c t r k).trans (H.hq _ _ _)) (fun r k => (iblk2_k V c t r k).trans (H.hk _ _ _))
    (fun r k => (iblk2_d V c t r k).trans (H.hd _ _ _))
    (fun r => (iblk2_l V c t r).trans (H.hl _ _)) p 8 le_rfl j k).trans ?_
  rw [psum_all 1024 _ 8 rfl]
  rfl

/-- The query gradient of the first `n` blocks of keys. -/
abbrev dqSum (Q K : Fin 16 → Fin 8192 → Fin 192 → ℝ) (W D : Fin 16 → Fin 8192 → Fin 128 → ℝ) (L E : Fin 16 → Fin 8192 → ℝ)
    (h : Fin 16) (n : ℕ) (i : Fin 8192) (k : Fin 192) : ℝ := psum 512 (fun j => G Q K W D L E h i j * K h j k) n

theorem at_dq (t : Fin cfg2.N) (p : Vec Ideal S1x8192x192 .f32)
    (hp : ∀ i k, p (ix3 0 i k) = (dqSum Q K W D L E (hd2 t) (t.val % 16) i k : EReal)) (i : Fin 8192) (k : Fin 192) :
    (bstAt V c t p).1 (ix3 0 i k) = (dqSum Q K W D L E (hd2 t) (t.val % 16 + 1) i k : EReal) := by
  refine (bst_dq _ _ _ _ _ _ (Q (hd2 t)) (fun j => K (hd2 t) (row2 t j)) (fun j => W (hd2 t) (row2 t j)) (D (hd2 t)) (L (hd2 t)) (E (hd2 t))
    (fun r k => (iblk2_q V c t r k).trans (H.hq _ _ _)) (fun r k => (iblk2_k V c t r k).trans (H.hk _ _ _))
    (fun r k => (iblk2_v V c t r k).trans (H.hv _ _ _)) (fun r k => (iblk2_d V c t r k).trans (H.hd _ _ _))
    (fun r => (iblk2_l V c t r).trans (H.hl _ _)) (fun r => (iblk2_e V c t r).trans (H.he _ _)) p _ hp 8 le_rfl i k).trans ?_
  rw [if_pos i.isLt]
  exact congrArg (fun x : ℝ => (x : EReal))
    (psum_succ 512 (fun j => G Q K W D L E (hd2 t) i j * K (hd2 t) j k) (t.val % 16) (by omega)).symm

/-- Until its last block of keys a head's buffer holds the sum of the blocks so far. -/
theorem acc_dq : ∀ (n : ℕ) (hn : n < cfg2.N), ¬n % 16 = 15 → ∀ (i : Fin 8192) (k : Fin 192),
    (outsAt2 V c n hn).1 (ix3 0 i k) = (dqSum Q K W D L E (hd2 ⟨n, hn⟩) (n % 16 + 1) i k : EReal)
  | 0, hn, h, i, k => by
    rw [outsAt2_A V c ⟨0, hn⟩ rfl h]
    dsimp only
    rw [out_dq_A]
    exact at_dq H ⟨0, hn⟩ _ (fun i k => (PayB.pay9 i k).trans (congrArg (fun x : ℝ => (x : EReal)) (psum_zero 512 _).symm)) i k
  | n + 1, hn, h, i, k => by
    by_cases h0 : (n + 1) % 16 = 0
    · rw [outsAt2_A V c ⟨n + 1, hn⟩ h0 h]
      dsimp only
      rw [out_dq_A]
      exact at_dq H ⟨n + 1, hn⟩ _ (fun i k => by dsimp only; rw [h0, dqSum, psum_zero]; exact PayB.pay9 i k) i k
    · rw [outsAt2_B V c ⟨n + 1, hn⟩ h0 h]
      dsimp only
      rw [out_dq_B]
      refine at_dq H ⟨n + 1, hn⟩ _ (fun i k => ?_) i k
      have e1 : hd2 ⟨n, Nat.lt_of_succ_lt hn⟩ = hd2 ⟨n + 1, hn⟩ := Fin.ext (by show n / 16 = (n + 1) / 16; omega)
      have e2 : n % 16 + 1 = (n + 1) % 16 := by omega
      exact (acc_dq n (Nat.lt_of_succ_lt hn) (by omega) i k).trans (by rw [e1, e2])

theorem flush_dq (t : Fin cfg2.N) (h1 : t.val % 16 = 15) (i : Fin 8192) (k : Fin 192) :
    (outsAt2 V c t.val t.isLt).1 (ix3 0 i k) = (dqR Q K W D L E (hd2 t) i k : EReal) := by
  rw [outsAt2_C V c t (by omega) h1]
  dsimp only
  rw [out_dq_C]
  refine PayB.pay2 _ i k _ ?_
  refine (at_dq H t _ (fun i k => ?_) i k).trans ?_
  · have hn : t.val - 1 < cfg2.N := Nat.lt_of_le_of_lt (Nat.sub_le _ _) t.isLt
    have e1 : hd2 ⟨t.val - 1, hn⟩ = hd2 t := Fin.ext (by show (t.val - 1) / 16 = t.val / 16; omega)
    have e2 : (t.val - 1) % 16 + 1 = t.val % 16 := by omega
    exact (acc_dq H (t.val - 1) hn (by omega) i k).trans (by rw [e1, e2])
  · rw [h1, dqSum, psum_all 512 _ 16 rfl]

theorem block_dk (t : Fin cfg2.N) (j : Fin 512) (k : Fin 192) :
    (outsAt2 V c t.val t.isLt).2.1 (ix3 0 j k) = (dkR Q K W D L E (hd2 t) (row2 t j) k : EReal) := by
  by_cases h0 : t.val % 16 = 0
  · rw [outsAt2_A V c t h0 (by omega)]
    dsimp only
    rw [out_dk_A]
    exact at_dk H t _ j k
  · by_cases h1 : t.val % 16 = 15
    · rw [outsAt2_C V c t h0 h1]
      dsimp only
      rw [out_dk_C]
      exact at_dk H t _ j k
    · rw [outsAt2_B V c t h0 h1]
      dsimp only
      rw [out_dk_B]
      exact at_dk H t _ j k

theorem block_dv (t : Fin cfg2.N) (j : Fin 512) (k : Fin 128) :
    (outsAt2 V c t.val t.isLt).2.2 (ix3 0 j k) = (dvR Q K D L (hd2 t) (row2 t j) k : EReal) := by
  by_cases h0 : t.val % 16 = 0
  · rw [outsAt2_A V c t h0 (by omega)]
    dsimp only
    rw [out_dv_A]
    exact at_dv H t _ j k
  · by_cases h1 : t.val % 16 = 15
    · rw [outsAt2_C V c t h0 h1]
      dsimp only
      rw [out_dv_C]
      exact at_dv H t _ j k
    · rw [outsAt2_B V c t h0 h1]
      dsimp only
      rw [out_dv_B]
      exact at_dv H t _ j k

end

theorem mem2_6 (t : Fin cfg2.N) (i : S16x8192x192.Idx) :
    i ∈ ((cfg2.win 6).blk t).view.set ↔ ∀ a : Fin 3, win2_6.index t a * S1x8192x192.size a ≤ i a ∧ (i a : ℕ) < win2_6.index t a * S1x8192x192.size a + S1x8192x192.size a := by
  show i ∈ ((View.whole main_v23_0).slice (win2_6.rect t)).set ↔ _
  rw [View.set_slice_whole, Rect.mem_set_unit]; exact Iff.rfl

theorem mem2_7 (t : Fin cfg2.N) (i : S16x8192x192.Idx) :
    i ∈ ((cfg2.win 7).blk t).view.set ↔ ∀ a : Fin 3, win2_7.index t a * S1x512x192.size a ≤ i a ∧ (i a : ℕ) < win2_7.index t a * S1x512x192.size a + S1x512x192.size a := by
  show i ∈ ((View.whole main_v23_1).slice (win2_7.rect t)).set ↔ _
  rw [View.set_slice_whole, Rect.mem_set_unit]; exact Iff.rfl

theorem mem2_8 (t : Fin cfg2.N) (i : S16x8192x128.Idx) :
    i ∈ ((cfg2.win 8).blk t).view.set ↔ ∀ a : Fin 3, win2_8.index t a * S1x512x128.size a ≤ i a ∧ (i a : ℕ) < win2_8.index t a * S1x512x128.size a + S1x512x128.size a := by
  show i ∈ ((View.whole main_v23_2).slice (win2_8.rect t)).set ↔ _
  rw [View.set_slice_whole, Rect.mem_set_unit]; exact Iff.rfl

section
variable {V c Q K W D L E} (H : In2 V c Q K W D L E)
include H

theorem final_dq : (dat2 V c).arrAt 6 cfg2.N = dqArr Q K W D L E := by
  refine (dat2 V c).arrAt_eq_of_cover 6 (dqArr Q K W D L E) (fun t ht' => ?_) fun i => ?_
  · show (cfg2.win 6).cut (grid2.coords t) ((dat2 V c).after 6 t) = _
    have ht : t.val % 16 = 15 := (flush2_6 t).mp ht'
    rw [after2_6]
    funext j
    obtain ⟨-, -, -, -, -, -, hi, -, -⟩ := idx2 t
    rw [View.read_apply]
    idx_vars j
    have e : ((cfg2.win 6).blk t).view.emb (ix3 j0 j1 j2) = (ix3 (hd2 t) (j1) j2 : S16x8192x192.Idx) := by
      funext a
      apply Fin.ext
      match a with
      | ⟨0, _⟩ => show win2_6.index t 0 * 1 + 1 * j0.val = t.val / 16; rw [hi.1]; have := j0.isLt; omega
      | ⟨1, _⟩ => show win2_6.index t 1 * 8192 + 1 * j1.val = j1.val; rw [hi.2.1]; omega
      | ⟨2, _⟩ => show win2_6.index t 2 * 192 + 1 * j2.val = j2.val; rw [hi.2.2]; omega
    obtain rfl : j0 = 0 := Fin.ext (by have := j0.isLt; omega)
    exact (flush_dq H t ht j1 j2).trans (congrArg (dqArr Q K W D L E) e).symm
  · have h0 : (i 0 : Nat) < 16 := (i 0).isLt
    have h1 : (i 1 : Nat) < 8192 := (i 1).isLt
    have h2 : (i 2 : Nat) < 192 := (i 2).isLt
    have hN : cfg2.N = 256 := N_2
    refine ⟨⟨(i 0).val * 16 + 15, by omega⟩, (flush2_6 _).mpr (by dsimp only; omega), ?_⟩
    obtain ⟨-, -, -, -, -, -, hi, -, -⟩ := idx2 ⟨(i 0).val * 16 + 15, by omega⟩
    rw [mem2_6]
    intro a
    match a with
    | ⟨0, _⟩ =>
      show win2_6.index _ 0 * 1 ≤ (i 0).val ∧ (i 0).val < win2_6.index _ 0 * 1 + 1
      rw [hi.1]; dsimp only; omega
    | ⟨1, _⟩ =>
      show win2_6.index _ 1 * 8192 ≤ (i 1).val ∧ (i 1).val < win2_6.index _ 1 * 8192 + 8192
      rw [hi.2.1]; omega
    | ⟨2, _⟩ =>
      show win2_6.index _ 2 * 192 ≤ (i 2).val ∧ (i 2).val < win2_6.index _ 2 * 192 + 192
      rw [hi.2.2]; omega

theorem final_dk : (dat2 V c).arrAt 7 cfg2.N = dkArr Q K W D L E := by
  refine (dat2 V c).arrAt_eq_of_cover 7 (dkArr Q K W D L E) (fun t _ => ?_) fun i => ?_
  · show (cfg2.win 7).cut (grid2.coords t) ((dat2 V c).after 7 t) = _
    rw [after2_7]
    funext j
    obtain ⟨-, -, -, -, -, -, -, hi, -⟩ := idx2 t
    rw [View.read_apply]
    idx_vars j
    have e : ((cfg2.win 7).blk t).view.emb (ix3 j0 j1 j2) = (ix3 (hd2 t) (row2 t j1) j2 : S16x8192x192.Idx) := by
      funext a
      apply Fin.ext
      match a with
      | ⟨0, _⟩ => show win2_7.index t 0 * 1 + 1 * j0.val = t.val / 16; rw [hi.1]; have := j0.isLt; omega
      | ⟨1, _⟩ => show win2_7.index t 1 * 512 + 1 * j1.val = t.val % 16 * 512 + j1.val; rw [hi.2.1]; omega
      | ⟨2, _⟩ => show win2_7.index t 2 * 192 + 1 * j2.val = j2.val; rw [hi.2.2]; omega
    obtain rfl : j0 = 0 := Fin.ext (by have := j0.isLt; omega)
    exact (block_dk H t j1 j2).trans (congrArg (dkArr Q K W D L E) e).symm
  · have h0 : (i 0 : Nat) < 16 := (i 0).isLt
    have h1 : (i 1 : Nat) < 8192 := (i 1).isLt
    have h2 : (i 2 : Nat) < 192 := (i 2).isLt
    have hN : cfg2.N = 256 := N_2
    refine ⟨⟨(i 0).val * 16 + (i 1).val / 512, by omega⟩, flush2_7 _, ?_⟩
    obtain ⟨-, -, -, -, -, -, -, hi, -⟩ := idx2 ⟨(i 0).val * 16 + (i 1).val / 512, by omega⟩
    rw [mem2_7]
    intro a
    match a with
    | ⟨0, _⟩ =>
      show win2_7.index _ 0 * 1 ≤ (i 0).val ∧ (i 0).val < win2_7.index _ 0 * 1 + 1
      rw [hi.1]; dsimp only; omega
    | ⟨1, _⟩ =>
      show win2_7.index _ 1 * 512 ≤ (i 1).val ∧ (i 1).val < win2_7.index _ 1 * 512 + 512
      rw [hi.2.1]; dsimp only; omega
    | ⟨2, _⟩ =>
      show win2_7.index _ 2 * 192 ≤ (i 2).val ∧ (i 2).val < win2_7.index _ 2 * 192 + 192
      rw [hi.2.2]; omega

theorem final_dv : (dat2 V c).arrAt 8 cfg2.N = dvArr Q K D L := by
  refine (dat2 V c).arrAt_eq_of_cover 8 (dvArr Q K D L) (fun t _ => ?_) fun i => ?_
  · show (cfg2.win 8).cut (grid2.coords t) ((dat2 V c).after 8 t) = _
    rw [after2_8]
    funext j
    obtain ⟨-, -, -, -, -, -, -, -, hi⟩ := idx2 t
    rw [View.read_apply]
    idx_vars j
    have e : ((cfg2.win 8).blk t).view.emb (ix3 j0 j1 j2) = (ix3 (hd2 t) (row2 t j1) j2 : S16x8192x128.Idx) := by
      funext a
      apply Fin.ext
      match a with
      | ⟨0, _⟩ => show win2_8.index t 0 * 1 + 1 * j0.val = t.val / 16; rw [hi.1]; have := j0.isLt; omega
      | ⟨1, _⟩ => show win2_8.index t 1 * 512 + 1 * j1.val = t.val % 16 * 512 + j1.val; rw [hi.2.1]; omega
      | ⟨2, _⟩ => show win2_8.index t 2 * 128 + 1 * j2.val = j2.val; rw [hi.2.2]; omega
    obtain rfl : j0 = 0 := Fin.ext (by have := j0.isLt; omega)
    exact (block_dv H t j1 j2).trans (congrArg (dvArr Q K D L) e).symm
  · have h0 : (i 0 : Nat) < 16 := (i 0).isLt
    have h1 : (i 1 : Nat) < 8192 := (i 1).isLt
    have h2 : (i 2 : Nat) < 128 := (i 2).isLt
    have hN : cfg2.N = 256 := N_2
    refine ⟨⟨(i 0).val * 16 + (i 1).val / 512, by omega⟩, flush2_8 _, ?_⟩
    obtain ⟨-, -, -, -, -, -, -, -, hi⟩ := idx2 ⟨(i 0).val * 16 + (i 1).val / 512, by omega⟩
    rw [mem2_8]
    intro a
    match a with
    | ⟨0, _⟩ =>
      show win2_8.index _ 0 * 1 ≤ (i 0).val ∧ (i 0).val < win2_8.index _ 0 * 1 + 1
      rw [hi.1]; dsimp only; omega
    | ⟨1, _⟩ =>
      show win2_8.index _ 1 * 512 ≤ (i 1).val ∧ (i 1).val < win2_8.index _ 1 * 512 + 512
      rw [hi.2.1]; dsimp only; omega
    | ⟨2, _⟩ =>
      show win2_8.index _ 2 * 128 ≤ (i 2).val ∧ (i 2).val < win2_8.index _ 2 * 128 + 128
      rw [hi.2.2]; omega

end

end Cert.Mla

end
-- ==== Proof.MlaSpec.lean ====
/- Attention over all keys and its gradients as real functions of the arguments, and the kernels' own quantities — scores in
   base-two exponents, a saved log-sum, a saved row sum of output times cotangent — written in them. -/
module

public import proofs.«01_k».proof.Proof.MlaArrF
public import proofs.«01_k».proof.Proof.MlaArrB

@[expose] public section

set_option maxRecDepth 16384

noncomputable section

namespace Cert.Mla

open Cert.MlaRow Cert.Mla.PayF
open Cert.Mla.PayB (dst σ)

/-- The arguments as real numbers: the two parts of the queries, the keys of each head, the part of the keys all heads share,
    the values, and the cotangent of the output. -/
structure Args where
  qn : Fin 8192 → Fin 16 → Fin 128 → ℝ
  qr : Fin 8192 → Fin 16 → Fin 64 → ℝ
  kn : Fin 8192 → Fin 16 → Fin 128 → ℝ
  kr : Fin 8192 → Fin 64 → ℝ
  v : Fin 8192 → Fin 16 → Fin 128 → ℝ
  d : Fin 8192 → Fin 2048 → ℝ

variable (a : Args)

/-- The column of the output that holds entry `x` of head `h`. -/
abbrev col (h : Fin 16) (x : Fin 128) : Fin 2048 := ⟨h.val * 128 + x.val, by omega⟩

/-- The scaled score of query `i` and key `j`. -/
def score (h : Fin 16) (i j : Fin 8192) : ℝ := (∑ c, a.qn i h c * a.kn j h c + ∑ c, a.qr i h c * a.kr j c) * σ
/-- The score as an exponent of two. -/
abbrev bits (h : Fin 16) (i : Fin 8192) : Fin 8192 → ℝ := fun j => score a h i j / Real.log 2
/-- The weight of key `j` in row `i`. -/
abbrev wt (h : Fin 16) (i j : Fin 8192) : ℝ := P (bits a h i) j
/-- The gradient by that weight. -/
abbrev dwt (h : Fin 16) (i j : Fin 8192) : ℝ := ∑ c, a.v j h c * a.d i (col h c)
/-- The gradient by the scaled score. -/
abbrev dsc (h : Fin 16) (i j : Fin 8192) : ℝ := ds (bits a h i) (dwt a h i) j

/-- The attention's output. -/
def out (i : Fin 8192) (x : Fin 2048) : ℝ := ∑ j, wt a ⟨x.val / 128, by omega⟩ i j * a.v j ⟨x.val / 128, by omega⟩ ⟨x.val % 128, by omega⟩
/-- The gradient by the first part of the queries. -/
def dqn (i : Fin 8192) (h : Fin 16) (k : Fin 128) : ℝ := (∑ j, dsc a h i j * a.kn j h k) * σ
/-- The gradient by the second part of the queries. -/
def dqr (i : Fin 8192) (h : Fin 16) (k : Fin 64) : ℝ := (∑ j, dsc a h i j * a.kr j k) * σ
/-- The gradient by the keys of each head. -/
def dkn (j : Fin 8192) (h : Fin 16) (k : Fin 128) : ℝ := (∑ i, dsc a h i j * a.qn i h k) * σ
/-- The gradient by the shared part of the keys: the sum over the heads. -/
def dkr (j : Fin 8192) (k : Fin 64) : ℝ := ∑ h, (∑ i, dsc a h i j * a.qr i h k) * σ
/-- The gradient by the values. -/
def dv (j : Fin 8192) (h : Fin 16) (x : Fin 128) : ℝ := ∑ i, wt a h i j * a.d i (col h x)

/-- The factor the kernel puts on the queries. -/
def γ : ℝ := σ / Real.log 2

/-- The kernel's queries, one head after the other. -/
def Qk (h : Fin 16) (i : Fin 8192) (k : Fin 192) : ℝ :=
  if hk : k.val < 128 then a.qn i h ⟨k.val, hk⟩ * γ else a.qr i h ⟨k.val - 128, by omega⟩ * γ
/-- The kernel's keys. -/
def Kk (h : Fin 16) (j : Fin 8192) (k : Fin 192) : ℝ :=
  if hk : k.val < 128 then a.kn j h ⟨k.val, hk⟩ else a.kr j ⟨k.val - 128, by omega⟩
/-- The kernel's values. -/
def Wk (h : Fin 16) (j : Fin 8192) (x : Fin 128) : ℝ := a.v j h x
/-- The kernel's cotangent. -/
def Dk (h : Fin 16) (i : Fin 8192) (x : Fin 128) : ℝ := a.d i (col h x)
/-- The saved log-sum of a row, to the base two. -/
def Lk (h : Fin 16) (i : Fin 8192) : ℝ := lse (sc (Qk a) (Kk a) h i)
/-- The saved sum of output times cotangent. -/
def Ek (h : Fin 16) (i : Fin 8192) : ℝ := ∑ k, oR (Qk a) (Kk a) (Wk a) h i k * Dk a h i k

/-- A sum over the joined columns is the sum over the first part and the sum over the second. -/
theorem sum_join (f : Fin 192 → ℝ) : ∑ k, f k = ∑ k : Fin 128, f ⟨k.val, by omega⟩ + ∑ k : Fin 64, f ⟨128 + k.val, by omega⟩ :=
  Fin.sum_univ_add (a := 128) (b := 64) f

theorem Qk_lo (h : Fin 16) (i : Fin 8192) (k : Fin 128) : Qk a h i ⟨k.val, by omega⟩ = a.qn i h k * γ := by
  unfold Qk; rw [dif_pos k.isLt]
theorem Qk_hi (h : Fin 16) (i : Fin 8192) (k : Fin 64) : Qk a h i ⟨128 + k.val, by omega⟩ = a.qr i h k * γ := by
  unfold Qk; rw [dif_neg (by dsimp only; omega)]; congr 3; exact Nat.add_sub_cancel_left ..
theorem Kk_lo (h : Fin 16) (i : Fin 8192) (k : Fin 128) : Kk a h i ⟨k.val, by omega⟩ = a.kn i h k := by
  unfold Kk; rw [dif_pos k.isLt]
theorem Kk_hi (h : Fin 16) (i : Fin 8192) (k : Fin 64) : Kk a h i ⟨128 + k.val, by omega⟩ = a.kr i k := by
  unfold Kk; rw [dif_neg (by dsimp only; omega)]; congr 2; exact Nat.add_sub_cancel_left ..

/-- The kernel's score is the scaled score as an exponent of two. -/
theorem dot_eq (h : Fin 16) (i j : Fin 8192) : dot (Qk a h i) (Kk a h j) = bits a h i j := by
  unfold dot
  rw [sum_join]
  simp only [Qk_lo, Qk_hi, Kk_lo, Kk_hi, bits, score, γ, add_mul, add_div, Finset.sum_mul, Finset.sum_div]
  exact congrArg₂ (· + ·) (Finset.sum_congr rfl fun k _ => by ring) (Finset.sum_congr rfl fun k _ => by ring)

theorem sc_eq (h : Fin 16) (i : Fin 8192) : sc (Qk a) (Kk a) h i = bits a h i := funext fun j => dot_eq a h i j

theorem Lk_eq (h : Fin 16) (i : Fin 8192) : Lk a h i = lse (bits a h i) := by unfold Lk; rw [sc_eq]

theorem Ek_eq (h : Fin 16) (i : Fin 8192) : Ek a h i = ∑ j, wt a h i j * dwt a h i j := by
  unfold Ek oR
  rw [sc_eq]
  exact delta_eq (bits a h i) (fun j k => Wk a h j k) (Dk a h i)

theorem G_eq (h : Fin 16) (i j : Fin 8192) : G (Qk a) (Kk a) (Wk a) (Dk a) (Lk a) (Ek a) h i j = dsc a h i j := by
  unfold G dst
  rw [dot_eq, Lk_eq, P_eq, Ek_eq]
  rfl

/-- The output row by row is the kernel's. -/
theorem out_k (i : Fin 8192) (x : Fin 2048) :
    oR (Qk a) (Kk a) (Wk a) ⟨x.val / 128, by omega⟩ i ⟨x.val % 128, by omega⟩ = out a i x := by
  unfold oR; rw [sc_eq]; rfl

theorem dqn_k (i : Fin 8192) (h : Fin 16) (k : Fin 128) :
    dqR (Qk a) (Kk a) (Wk a) (Dk a) (Lk a) (Ek a) h i ⟨k.val, by omega⟩ = dqn a i h k := by
  simp only [dqR, G_eq, Kk_lo, dqn]

theorem dqr_k (i : Fin 8192) (h : Fin 16) (k : Fin 64) :
    dqR (Qk a) (Kk a) (Wk a) (Dk a) (Lk a) (Ek a) h i ⟨128 + k.val, by omega⟩ = dqr a i h k := by
  simp only [dqR, G_eq, Kk_hi, dqr]

/-- The factor on the queries and the kernel's last factor make the scale. -/
theorem γ_log (s : Fin 8192 → ℝ) (q : Fin 8192 → ℝ) : (∑ i, s i * (q i * γ)) * Real.log 2 = (∑ i, s i * q i) * σ := by
  rw [Finset.sum_mul, Finset.sum_mul]
  refine Finset.sum_congr rfl fun i _ => ?_
  have : γ * Real.log 2 = σ := div_mul_cancel₀ _ log2_pos.ne'
  rw [← this]; ring

theorem dkn_k (j : Fin 8192) (h : Fin 16) (k : Fin 128) :
    dkR (Qk a) (Kk a) (Wk a) (Dk a) (Lk a) (Ek a) h j ⟨k.val, by omega⟩ = dkn a j h k := by
  simp only [dkR, G_eq, Qk_lo, dkn]
  exact γ_log _ _

theorem dkr_k (j : Fin 8192) (h : Fin 16) (k : Fin 64) :
    dkR (Qk a) (Kk a) (Wk a) (Dk a) (Lk a) (Ek a) h j ⟨128 + k.val, by omega⟩ = (∑ i, dsc a h i j * a.qr i h k) * σ := by
  simp only [dkR, G_eq, Qk_hi]
  exact γ_log _ _

theorem dv_k (j : Fin 8192) (h : Fin 16) (x : Fin 128) : dvR (Qk a) (Kk a) (Dk a) (Lk a) h j x = dv a j h x := by
  simp only [dvR, dot_eq, Lk_eq, P_eq, dv, Dk]

end Cert.Mla

end
-- ==== Proof.MlaHost.lean ====
/- The attention program's results, read through the host lines around its three kernels. -/
module

public import proofs.«01_k».proof.Proof.MlaRun
public import proofs.«01_k».proof.Proof.MlaSpec
public import Idealize.ShloMosaic.Lib.StableHlo.ReadAt

@[expose] public section

set_option maxRecDepth 16384

noncomputable section

namespace Cert.Mla

open Idealize.ShloMosaic Idealize.ShloMosaic.TcCoe Idealize.ShloMosaic.Tactic
open Cert.MlaKIdeal Cert.MlaKIdeal.Gen Cert.Finite Cert.MlaRow
open Cert.Mla.PayB (σ ofBits_σ)

variable (m : (ℓ : Loc nD τ sig) → Buf (Elt Ideal) ℓ) (ρ : Dev nD → PrngReg) (c : Dev nD) (a : Args)

/-- The launch memory's arguments are the real arrays `a`. -/
structure Holds : Prop where
  qn : ∀ i h k, m ((c : Thread nD τ).loc main_arg0) (ix3 i h k) = (a.qn i h k : EReal)
  qr : ∀ i h k, m ((c : Thread nD τ).loc main_arg1) (ix3 i h k) = (a.qr i h k : EReal)
  kn : ∀ i h k, m ((c : Thread nD τ).loc main_arg2) (ix3 i h k) = (a.kn i h k : EReal)
  kr : ∀ i k, m ((c : Thread nD τ).loc main_arg3) (ix2 i k) = (a.kr i k : EReal)
  v : ∀ i h k, m ((c : Thread nD τ).loc main_arg4) (ix3 i h k) = (a.v i h k : EReal)
  d : ∀ i k, m ((c : Thread nD τ).loc main_arg5) (ix2 i k) = (a.d i k : EReal)

/-- The host's factor on the queries. -/
theorem gain_eq : Ideal.div (Ideal.ofBits FTy.f32 1033096506#32) (Ideal.log (Ideal.ofBits FTy.f32 1073741824#32)) = (γ : EReal) := by
  have h2 : Ideal.ofBits FTy.f32 1073741824#32 = ((2 : ℝ) : EReal) := by
    simp [Ideal.ofBits, Ideal.ieee, -EReal.coe_mul]; norm_num
  rw [h2, show Ideal.ofBits FTy.f32 1033096506#32 = (σ : EReal) from ofBits_σ, Ideal.log_coe, if_neg (by norm_num), div_real _ _ log2_pos.ne']
  rfl

variable {m c a} (H : Holds m c a)
include H

/-- The queries the first kernel reads. -/
theorem v1_q (h : Fin 16) (i : Fin 8192) (k : Fin 192) : V1 m ρ c main_v9 (ix3 h i k) = (Qk a h i k : EReal) := by
  dsimp only [V1, W1, hostOps0]
  unfold Qk
  after_reads_at
  split
  · after_reads_at
    rw [gain_eq, EReal.coe_mul]; exact congrArg (· * _) (H.qn ..)
  · after_reads_at
    rw [gain_eq, EReal.coe_mul]; exact congrArg (· * _) (H.qr ..)

/-- The keys the first kernel reads. -/
theorem v1_k (h : Fin 16) (i : Fin 8192) (k : Fin 192) : V1 m ρ c main_v13 (ix3 h i k) = (Kk a h i k : EReal) := by
  dsimp only [V1, W1, hostOps0]
  unfold Kk
  after_reads_at
  split
  · after_reads_at
    exact H.kn ..
  · after_reads_at
    exact H.kr ..

/-- The values the first kernel reads. -/
theorem v1_v (h : Fin 16) (i : Fin 8192) (k : Fin 128) : V1 m ρ c main_v14 (ix3 h i k) = (Wk a h i k : EReal) := by
  dsimp only [V1, W1, hostOps0]
  after_reads_at
  exact H.v ..

theorem w2_o : W2 m ρ c (Proc.devRef .tc main_v15_0) = oArr (Qk a) (Kk a) (Wk a) :=
  (W2_arr m ρ c 3).trans (final_o _ c _ _ _ (v1_q ρ H) (v1_k ρ H) (v1_v ρ H))

theorem w2_l : W2 m ρ c (Proc.devRef .tc main_v15_1) = lArr (Qk a) (Kk a) :=
  (W2_arr m ρ c 4).trans (final_lse _ c _ _ _ (v1_q ρ H) (v1_k ρ H) (v1_v ρ H))

/-- The cotangent the second kernel reads. -/
theorem v3_d (h : Fin 16) (i : Fin 8192) (k : Fin 128) : V3 m ρ c main_v19 (ix3 h i k) = (Dk a h i k : EReal) := by
  dsimp only [V3, W3, hostOps1]
  after_reads_at
  rw [W2_args m ρ c main_arg5 (by decide)]
  exact H.d ..

theorem v3_o (h : Fin 16) (i : Fin 8192) (k : Fin 128) : V3 m ρ c main_v15_0 (ix3 h i k) = (oR (Qk a) (Kk a) (Wk a) h i k : EReal) := by
  show W3 m ρ c (Proc.devRef .tc main_v15_0) (ix3 h i k) = _
  rw [W3_of m ρ c main_v15_0 (by decide), w2_o ρ H]; rfl

theorem w4_e : W4 m ρ c (Proc.devRef .tc main_v20) = eArr (oR (Qk a) (Kk a) (Wk a)) (Dk a) :=
  (W4_arr m ρ c 2).trans (final_delta _ c _ _ (v3_o ρ H) (v3_d ρ H))

/-- A buffer neither the first two host stretches' successors nor the first two kernels write is read as before. -/
theorem in2 : In2 (V5 m ρ) c (Qk a) (Kk a) (Wk a) (Dk a) (Lk a) (Ek a) where
  hq h i k := by
    show W5 m ρ c (Proc.devRef .tc main_v9) (ix3 h i k) = _
    rw [W5_of m ρ c main_v9 (by decide), W4_of m ρ c main_v9 (by decide), W3_of m ρ c main_v9 (by decide), W2_of m ρ c main_v9 (by decide)]
    exact v1_q ρ H h i k
  hk h i k := by
    show W5 m ρ c (Proc.devRef .tc main_v13) (ix3 h i k) = _
    rw [W5_of m ρ c main_v13 (by decide), W4_of m ρ c main_v13 (by decide), W3_of m ρ c main_v13 (by decide), W2_of m ρ c main_v13 (by decide)]
    exact v1_k ρ H h i k
  hv h i k := by
    show W5 m ρ c (Proc.devRef .tc main_v14) (ix3 h i k) = _
    rw [W5_of m ρ c main_v14 (by decide), W4_of m ρ c main_v14 (by decide), W3_of m ρ c main_v14 (by decide), W2_of m ρ c main_v14 (by decide)]
    exact v1_v ρ H h i k
  hd h i k := by
    show W5 m ρ c (Proc.devRef .tc main_v19) (ix3 h i k) = _
    rw [W5_of m ρ c main_v19 (by decide), W4_of m ρ c main_v19 (by decide)]
    exact v3_d ρ H h i k
  hl h i := by
    dsimp only [V5, W5, hostOps2]
    after_reads_at
    rw [W4_of m ρ c main_v15_1 (by decide), W3_of m ρ c main_v15_1 (by decide), w2_l ρ H]; rfl
  he h i := by
    dsimp only [V5, W5, hostOps2]
    after_reads_at
    rw [w4_e ρ H]; rfl

theorem w6_dq : W6 m ρ c (Proc.devRef .tc main_v23_0) = dqArr (Qk a) (Kk a) (Wk a) (Dk a) (Lk a) (Ek a) :=
  (W6_arr m ρ c 6).trans (final_dq (in2 ρ H))
theorem w6_dk : W6 m ρ c (Proc.devRef .tc main_v23_1) = dkArr (Qk a) (Kk a) (Wk a) (Dk a) (Lk a) (Ek a) :=
  (W6_arr m ρ c 7).trans (final_dk (in2 ρ H))
theorem w6_dv : W6 m ρ c (Proc.devRef .tc main_v23_2) = dvArr (Qk a) (Kk a) (Dk a) (Lk a) :=
  (W6_arr m ρ c 8).trans (final_dv (in2 ρ H))

/-- The output. -/
theorem k_out (i : Fin 8192) (x : Fin 2048) : W7 m ρ c (Proc.devRef .tc main_v17) (ix2 i x) = (out a i x : EReal) := by
  rw [W7_of m ρ c main_v17 (by decide), W6_of m ρ c main_v17 (by decide), W5_of m ρ c main_v17 (by decide), W4_of m ρ c main_v17 (by decide)]
  dsimp only [W3, hostOps1]
  after_reads_at
  rw [w2_o ρ H, ← out_k]; rfl

theorem k_dqn (i : Fin 8192) (h : Fin 16) (k : Fin 128) : W7 m ρ c (Proc.devRef .tc main_v28) (ix3 i h k) = (dqn a i h k : EReal) := by
  dsimp only [W7, hostOps3]
  after_reads_at
  rw [w6_dq ρ H, ← dqn_k]; rfl

theorem k_dqr (i : Fin 8192) (h : Fin 16) (k : Fin 64) : W7 m ρ c (Proc.devRef .tc main_v29) (ix3 i h k) = (dqr a i h k : EReal) := by
  dsimp only [W7, hostOps3]
  after_reads_at
  rw [w6_dq ρ H, ← dqr_k]; rfl

theorem k_dkn (i : Fin 8192) (h : Fin 16) (k : Fin 128) : W7 m ρ c (Proc.devRef .tc main_v30) (ix3 i h k) = (dkn a i h k : EReal) := by
  dsimp only [W7, hostOps3]
  after_reads_at
  rw [w6_dk ρ H, ← dkn_k]; rfl

theorem k_dkr (i : Fin 8192) (k : Fin 64) : W7 m ρ c (Proc.devRef .tc main_v27) (ix2 i k) = (dkr a i k : EReal) := by
  dsimp only [W7, hostOps3]
  after_reads_at
  rw [w6_dk ρ H, dkr, coe_sum]
  exact Finset.sum_congr rfl fun h _ => congrArg (fun r : ℝ => (r : EReal)) (dkr_k a i h k)

theorem k_dv (i : Fin 8192) (h : Fin 16) (k : Fin 128) : W7 m ρ c (Proc.devRef .tc main_v31) (ix3 i h k) = (dv a i h k : EReal) := by
  dsimp only [W7, hostOps3]
  after_reads_at
  rw [w6_dv ρ H, ← dv_k]; rfl

end Cert.Mla

end
-- ==== Proof.MlaRef.lean ====
/- The reference's attention and its gradients from finite arguments, over the real numbers. -/
module

public import proofs.«01_k».proof.Proof.MlaSpec
public import proofs.«01_k».proof.Proof.Gen.MlaRIdeal.Read
public import Idealize.ShloMosaic.Lib.Pointwise

@[expose] public section

set_option maxRecDepth 16384

noncomputable section

namespace Cert.Mla.Ref

open Idealize.ShloMosaic Idealize.ShloMosaic.TcCoe Cert.MlaRIdeal Cert.MlaRIdeal.Gen Cert.MlaRIdeal.Read Cert.Finite Cert.MlaRow
open Cert.Mla
open Cert.Mla.PayB (σ ofBits_σ)

variable (x0 : FVec Ideal S8192x16x128 .f32) (x1 : FVec Ideal S8192x16x64 .f32) (x2 : FVec Ideal S8192x16x128 .bf16)
  (x3 : FVec Ideal S8192x64 .bf16) (x4 : FVec Ideal S8192x16x128 .bf16) (x5 : FVec Ideal S8192x2048 .bf16) (a : Args)

/-- The reference's arguments are the real arrays `a`. -/
structure Holds : Prop where
  qn : ∀ i h k, x0 (ix3 i h k) = (a.qn i h k : EReal)
  qr : ∀ i h k, x1 (ix3 i h k) = (a.qr i h k : EReal)
  kn : ∀ i h k, x2 (ix3 i h k) = (a.kn i h k : EReal)
  kr : ∀ i k, x3 (ix2 i k) = (a.kr i k : EReal)
  v : ∀ i h k, x4 (ix3 i h k) = (a.v i h k : EReal)
  d : ∀ i k, x5 (ix2 i k) = (a.d i k : EReal)

variable {x0 x1 x2 x3 x4 x5 a} (H : Holds x0 x1 x2 x3 x4 x5 a)
include H

theorem v8 (h : Fin 16) (i j : Fin 8192) : val_main_v8 (F := Ideal) x0 x1 x2 x3 (ix3 h i j) = (score a h i j : EReal) := by
  pointwise [val_main_v8, val_main_v7, val_main_v6, val_main_v5, val_main_v4, val_main_v3, val_main_v1, val_main_v0, val_main_cst]
  simp only [H.qn, H.qr, H.kn, H.kr, ofBits_σ, ← EReal.coe_mul, ← coe_sum, ← EReal.coe_add, zero_add]
  unfold score
  simp only [mul_comm]

omit H in
theorem red : S16x8192x8192.Reduces [2] S16x8192 := by decide

omit H in
theorem lift_eq (h : Fin 16) (i k : Fin 8192) : red.lift (ix2 h i) k = ix3 h i k := by
  funext b
  match b with
  | ⟨0, _⟩ => rfl
  | ⟨1, _⟩ => rfl
  | ⟨2, _⟩ => rfl

omit H in
theorem max_eq : (FloatOps.maximumf : Ideal .f32 → Ideal .f32 → Ideal .f32) = (max : EReal → EReal → EReal) := rfl

omit H in
/-- The maximum of a row, as a fold over the row. -/
theorem rowMax (v : FVec Ideal S16x8192x8192 .f32) (z : FVec Ideal S_ .f32) (j : S16x8192.Idx) :
    Host.reduce (FloatOps.maximumf : Ideal .f32 → Ideal .f32 → Ideal .f32) v z reducesTo_S16x8192x8192_S16x8192_d2 h_S_ j
      = Finset.univ.fold (max : EReal → EReal → EReal) (z (Shape.Idx.first h_S_)) (v ∘ red.lift j) := by
  rw [max_eq]
  exact Host.reduce_eq_fold_single (α := EReal) max v z _ red h_S_ _

theorem v9 (h : Fin 16) (i : Fin 8192) : ∃ M : ℝ, val_main_v9 (F := Ideal) x0 x1 x2 x3 (ix2 h i) = (M : EReal) := by
  unfold val_main_v9
  rw [rowMax]
  refine fold_max_real _ (by simp [val_main_cst_0, constant, Ideal.ofBits, Ideal.ieee]) _ fun k => ⟨score a h i k, ?_⟩
  exact (congrArg _ (lift_eq h i k)).trans (v8 H h i k)

theorem v27 (h : Fin 16) (i : Fin 8192) : ∃ M : ℝ, ∀ j, val_main_v27 (F := Ideal) x0 x1 x2 x3 (ix3 h i j) = (M : EReal) := by
  obtain ⟨M, hM⟩ := v9 H h i
  refine ⟨M, fun j => ?_⟩
  have e : idx_main_v26 (idx_main_v27 (ix3 h i j)) = ix2 h i := by
    funext b
    match b with
    | ⟨0, _⟩ => rfl
    | ⟨1, _⟩ => rfl
  rw [val_main_v27_apply, val_main_v26_apply, e, val_main_v16_apply, hM, val_main_v15_apply, val_main_cst_2_apply, max_eq]
  simp [Ideal.ofBits, Ideal.ieee]

/-- The row's maximum. -/
def top (h : Fin 16) (i : Fin 8192) : ℝ := (v27 H h i).choose
theorem top_eq (h : Fin 16) (i j : Fin 8192) : val_main_v27 (F := Ideal) x0 x1 x2 x3 (ix3 h i j) = (top H h i : EReal) :=
  (v27 H h i).choose_spec j

/-- The row's exponentials. -/
abbrev ex (h : Fin 16) (i j : Fin 8192) : ℝ := Real.exp (score a h i j - top H h i)

theorem v29 (h : Fin 16) (i j : Fin 8192) : val_main_v29 (F := Ideal) x0 x1 x2 x3 (ix3 h i j) = (ex H h i j : EReal) := by
  pointwise [val_main_v29, val_main_v28]
  rw [v8 H, top_eq H, ← EReal.coe_sub]
  rfl

/-- Their sum. -/
abbrev exs (h : Fin 16) (i : Fin 8192) : ℝ := ∑ j, ex H h i j

theorem exs_pos (h : Fin 16) (i : Fin 8192) : exs H h i ≠ 0 :=
  (Finset.sum_pos (fun _ _ => Real.exp_pos _) ⟨0, Finset.mem_univ _⟩).ne'

theorem v31 (h : Fin 16) (i : Fin 8192) : val_main_v31 (F := Ideal) x0 x1 x2 x3 (ix3 h i 0) = (exs H h i : EReal) := by
  pointwise [val_main_v31, val_main_v30, val_main_cst_8]
  simp only [v29 H, ← coe_sum, zero_add]

theorem v33 (h : Fin 16) (i j : Fin 8192) : val_main_v33 (F := Ideal) x0 x1 x2 x3 (ix3 h i j) = (wt a h i j : EReal) := by
  pointwise [val_main_v33, val_main_v32]
  rw [v31 H, v29 H, div_real _ _ (exs_pos H h i)]
  exact congrArg (fun r : ℝ => (r : EReal)) (P_of_exp _ (score a h i) (top H h i) (fun _ => rfl) j)

theorem v42 (h : Fin 16) (x : Fin 128) (i : Fin 8192) : val_main_v42 (F := Ideal) x5 (ix3 h x i) = (a.d i (col h x) : EReal) := by
  pointwise [val_main_v42, val_main_v41, val_main_v40]
  exact H.d ..

theorem v43 (h : Fin 16) (i j : Fin 8192) : val_main_v43 (F := Ideal) x4 x5 (ix3 h i j) = (dwt a h i j : EReal) := by
  pointwise [val_main_v43, val_main_v2]
  simp only [v42 H, H.v, ← EReal.coe_mul, ← coe_sum, zero_add, mul_comm]

theorem v49 (h : Fin 16) (i : Fin 8192) : val_main_v49 (F := Ideal) x0 x1 x2 x3 x4 x5 (ix2 h i)
    = ((∑ j, dwt a h i j * (1 / (exs H h i * exs H h i)) * ex H h i j : ℝ) : EReal) := by
  pointwise [val_main_v49, val_main_v48, val_main_v47, val_main_v46, val_main_v36, val_main_v35, val_main_v34, val_main_cst_9, val_main_cst_10]
  simp only [v31 H, v29 H, v43 H, ← EReal.coe_one, ← EReal.coe_mul, div_real _ _ (mul_ne_zero (exs_pos H h i) (exs_pos H h i)), ← coe_sum, zero_add]

theorem v59 (h : Fin 16) (i j : Fin 8192) : val_main_v59 (F := Ideal) x0 x1 x2 x3 x4 x5 (ix3 h i j) = ((dsc a h i j * σ : ℝ) : EReal) := by
  pointwise [val_main_v59, val_main_v58, val_main_v57, val_main_v56, val_main_v55, val_main_v54, val_main_v53, val_main_v52, val_main_v51,
    val_main_v50, val_main_cst_11, val_main_cst_12]
  simp only [Finset.univ_unique, Finset.sum_singleton, v49 H, v31 H, v29 H, v43 H, ofBits_σ, div_real _ _ (exs_pos H h i), ← EReal.coe_neg, ← EReal.coe_add, ← EReal.coe_mul, zero_add]
  exact congrArg (fun r : ℝ => ((r * σ : ℝ) : EReal)) (ds_of_vjp _ (score a h i) (dwt a h i) (top H h i) (fun _ => rfl) j)

omit H in
/-- A sum of gradients of scaled scores, with the scale outside. -/
theorem scaled {N : ℕ} (f g : Fin N → ℝ) : ∑ j, f j * σ * g j = (∑ j, f j * g j) * σ := by
  rw [Finset.sum_mul]; exact Finset.sum_congr rfl fun j _ => by ring

theorem r_out (i : Fin 8192) (x : Fin 2048) : val_main_v67 (F := Ideal) x0 x1 x2 x3 x4 (ix2 i x) = (out a i x : EReal) := by
  pointwise [val_main_v67, val_main_v39, val_main_v38, val_main_v37, val_main_v2]
  simp only [v33 H, H.v, ← EReal.coe_mul, ← coe_sum, zero_add]
  exact congrArg (fun r : ℝ => (r : EReal)) (Finset.sum_congr rfl fun j _ => mul_comm _ _)

theorem r_dqn (i : Fin 8192) (h : Fin 16) (k : Fin 128) : val_main_v66 (F := Ideal) x0 x1 x2 x3 x4 x5 (ix3 i h k) = (dqn a i h k : EReal) := by
  pointwise [val_main_v66, val_main_v65, val_main_v0]
  simp only [v59 H, H.kn, ← EReal.coe_mul, ← coe_sum, zero_add]
  exact congrArg (fun r : ℝ => (r : EReal)) (scaled _ _)

theorem r_dqr (i : Fin 8192) (h : Fin 16) (k : Fin 64) : val_main_v61 (F := Ideal) x0 x1 x2 x3 x4 x5 (ix3 i h k) = (dqr a i h k : EReal) := by
  pointwise [val_main_v61, val_main_v60, val_main_v1]
  simp only [v59 H, H.kr, ← EReal.coe_mul, ← coe_sum, zero_add]
  exact congrArg (fun r : ℝ => (r : EReal)) (scaled _ _)

theorem r_dkn (i : Fin 8192) (h : Fin 16) (k : Fin 128) : val_main_v64 (F := Ideal) x0 x1 x2 x3 x4 x5 (ix3 i h k) = (dkn a i h k : EReal) := by
  pointwise [val_main_v64, val_main_v63]
  simp only [v59 H, H.qn, ← EReal.coe_mul, ← coe_sum, zero_add]
  exact congrArg (fun r : ℝ => (r : EReal)) (scaled _ _)

theorem r_dkr (i : Fin 8192) (k : Fin 64) : val_main_v62 (F := Ideal) x0 x1 x2 x3 x4 x5 (ix2 i k) = (dkr a i k : EReal) := by
  pointwise [val_main_v62, val_main_v60]
  simp only [v59 H, H.qr, ← EReal.coe_mul, ← coe_sum, zero_add]
  unfold dkr
  rw [Finset.sum_comm]
  exact congrArg (fun r : ℝ => (r : EReal)) (Finset.sum_congr rfl fun h _ => scaled _ _)

theorem r_dv (i : Fin 8192) (h : Fin 16) (k : Fin 128) : val_main_v68 (F := Ideal) x0 x1 x2 x3 x5 (ix3 i h k) = (dv a i h k : EReal) := by
  pointwise [val_main_v68, val_main_v45, val_main_v44]
  simp only [v42 H, v33 H, ← EReal.coe_mul, ← coe_sum, zero_add]
  exact congrArg (fun r : ℝ => (r : EReal)) (Finset.sum_congr rfl fun j _ => mul_comm _ _)

end Cert.Mla.Ref

end
-- ==== Proof.MlaMain.lean ====
/- The claims about the attention kernels: their frames, what the named constants stand for, and that the six results are the
   reference's. -/
module

public import proofs.«01_k».proof.Defs
public import proofs.«01_k».proof.Proof.MlaHost
public import proofs.«01_k».proof.Proof.MlaRef
public import proofs.«01_k».proof.Proof.Gen.MlaK.Frame
public import proofs.«01_k».proof.Proof.Gen.Pre_mla_finite

@[expose] public section

set_option maxRecDepth 16384

noncomputable section

namespace Cert.Mla

open Idealize.ShloMosaic Idealize.ShloMosaic.TcCoe Idealize.SL.Sem Cert.Finite

theorem frame_k : Cert.quiescent_MlaK := fun m ρ _ => Cert.MlaK.Gen.frame m ρ
theorem frame_ki : Cert.quiescent_MlaKIdeal := fun m ρ _ => Cert.MlaKIdeal.Gen.frame m ρ
theorem frame_ki_pre : Cert.quiescent_MlaKIdeal_pre_mla_finite := fun m ρ _ => Cert.MlaKIdeal.Gen.frame m ρ

theorem frame_ri : Cert.quiescent_MlaRIdeal := fun m ρ _ =>
  (θ_run Cert.MlaRIdeal.defs _ _).mono (fun _ h => ⟨fun c => (h c).2.2.2.2.2.2, funext fun s => nomatch s⟩)
    (Cert.MlaRIdeal.Value.run (F := Ideal) m ρ)
theorem frame_ri_pre : Cert.quiescent_MlaRIdeal_pre_mla_finite := fun m ρ _ => frame_ri m ρ trivial

theorem named : Cert.preserves_MlaK_MlaKIdeal := ⟨IdealRules.named_const.statement _ _ _ _ _ rfl, IdealRules.named_const.statement _ _ _ _ _ rfl⟩

/-- Under the precondition the arguments are real arrays. -/
theorem real_args (m : (ℓ : Loc Cert.MlaKIdeal.nD Cert.MlaKIdeal.τ Cert.MlaKIdeal.sig) → Buf (Elt Ideal) ℓ)
    (hp : Cert.Pre_MlaKIdeal_mla_finite m) (c : Dev Cert.MlaKIdeal.nD) : ∃ a : Args, Holds m c a := by
  obtain ⟨h0, h1, h2, h3, h4, h5⟩ := hp c
  choose qn h0 using fun (i : Fin 8192) (h : Fin 16) (k : Fin 128) => real_of_cmp (congrFun h0 (ix3 i h k))
  choose qr h1 using fun (i : Fin 8192) (h : Fin 16) (k : Fin 64) => real_of_cmp (congrFun h1 (ix3 i h k))
  choose kn h2 using fun (i : Fin 8192) (h : Fin 16) (k : Fin 128) => real_of_cmp (congrFun h2 (ix3 i h k))
  choose kr h3 using fun (i : Fin 8192) (k : Fin 64) => real_of_cmp (congrFun h3 (ix2 i k))
  choose v h4 using fun (i : Fin 8192) (h : Fin 16) (k : Fin 128) => real_of_cmp (congrFun h4 (ix3 i h k))
  choose d h5 using fun (i : Fin 8192) (k : Fin 2048) => real_of_cmp (congrFun h5 (ix2 i k))
  exact ⟨⟨qn, qr, kn, kr, v, d⟩, h0, h1, h2, h3, h4, h5⟩

/-- The six results, as arrays. -/
abbrev outArr (a : Args) : Cert.MlaKIdeal.S8192x2048.Idx → EReal := fun i => (out a (i 0) (i 1) : EReal)
abbrev dqnArr (a : Args) : Cert.MlaKIdeal.S8192x16x128.Idx → EReal := fun i => (dqn a (i 0) (i 1) (i 2) : EReal)
abbrev dqrArr (a : Args) : Cert.MlaKIdeal.S8192x16x64.Idx → EReal := fun i => (dqr a (i 0) (i 1) (i 2) : EReal)
abbrev dknArr (a : Args) : Cert.MlaKIdeal.S8192x16x128.Idx → EReal := fun i => (dkn a (i 0) (i 1) (i 2) : EReal)
abbrev dkrArr (a : Args) : Cert.MlaKIdeal.S8192x64.Idx → EReal := fun i => (dkr a (i 0) (i 1) : EReal)
abbrev dvArr' (a : Args) : Cert.MlaKIdeal.S8192x16x128.Idx → EReal := fun i => (dv a (i 0) (i 1) (i 2) : EReal)

theorem value : Cert.algebraic_MlaKIdeal_MlaRIdeal_pre_mla_finite := by
  intro m ρ m' ρ' hp hm
  choose a h using real_args m hp
  refine ⟨fun c => outArr (a c), fun c => dqnArr (a c), fun c => dqrArr (a c), fun c => dknArr (a c), fun c => dkrArr (a c),
    fun c => dvArr' (a c), ?_, ?_⟩
  · refine (θ_run Cert.MlaKIdeal.defs _ _).mono (fun r hr c => ?_) (run (F := Ideal) m ρ)
    have hr := hr c
    refine ⟨(hr Cert.MlaKIdeal.main_v17 (by decide)).trans ?_, (hr Cert.MlaKIdeal.main_v28 (by decide)).trans ?_,
      (hr Cert.MlaKIdeal.main_v29 (by decide)).trans ?_, (hr Cert.MlaKIdeal.main_v30 (by decide)).trans ?_,
      (hr Cert.MlaKIdeal.main_v27 (by decide)).trans ?_, (hr Cert.MlaKIdeal.main_v31 (by decide)).trans ?_,
      (hr Cert.MlaKIdeal.main_arg0 (by decide)).trans (Cert.MlaKIdeal.Gen.W7_main_arg0 m ρ c),
      (hr Cert.MlaKIdeal.main_arg1 (by decide)).trans (Cert.MlaKIdeal.Gen.W7_main_arg1 m ρ c),
      (hr Cert.MlaKIdeal.main_arg2 (by decide)).trans (Cert.MlaKIdeal.Gen.W7_main_arg2 m ρ c),
      (hr Cert.MlaKIdeal.main_arg3 (by decide)).trans (Cert.MlaKIdeal.Gen.W7_main_arg3 m ρ c),
      (hr Cert.MlaKIdeal.main_arg4 (by decide)).trans (Cert.MlaKIdeal.Gen.W7_main_arg4 m ρ c),
      (hr Cert.MlaKIdeal.main_arg5 (by decide)).trans (Cert.MlaKIdeal.Gen.W7_main_arg5 m ρ c)⟩
    · funext j; idx_vars j; exact k_out ρ (h c) j0 j1
    · funext j; idx_vars j; exact k_dqn ρ (h c) j0 j1 j2
    · funext j; idx_vars j; exact k_dqr ρ (h c) j0 j1 j2
    · funext j; idx_vars j; exact k_dkn ρ (h c) j0 j1 j2
    · funext j; idx_vars j; exact k_dkr ρ (h c) j0 j1
    · funext j; idx_vars j; exact k_dv ρ (h c) j0 j1 j2
  · refine (θ_run Cert.MlaRIdeal.defs _ _).mono (fun r hr c => ?_) (Cert.MlaRIdeal.Value.run (F := Ideal) m' ρ')
    obtain ⟨h0, h1, h2, h3, h4, h5, hargs⟩ := hr c
    obtain ⟨e0, e1, e2, e3, e4, e5⟩ := hm c
    have H : Ref.Holds _ _ _ _ _ _ (a c) := ⟨fun i k l => (congrFun e0 _).trans ((h c).qn i k l),
      fun i k l => (congrFun e1 _).trans ((h c).qr i k l), fun i k l => (congrFun e2 _).trans ((h c).kn i k l),
      fun i k => (congrFun e3 _).trans ((h c).kr i k), fun i k l => (congrFun e4 _).trans ((h c).v i k l),
      fun i k => (congrFun e5 _).trans ((h c).d i k)⟩
    refine ⟨h0.trans ((Cert.MlaRIdeal.Read.val_main_v67_eq _ _ _ _ _).trans ?_), h1.trans ((Cert.MlaRIdeal.Read.val_main_v66_eq _ _).trans ?_),
      h2.trans ((Cert.MlaRIdeal.Read.val_main_v61_eq _ _).trans ?_), h3.trans ((Cert.MlaRIdeal.Read.val_main_v64_eq _ _).trans ?_),
      h4.trans ((Cert.MlaRIdeal.Read.val_main_v62_eq _ _).trans ?_), h5.trans ((Cert.MlaRIdeal.Read.val_main_v68_eq _ _ _ _ _).trans ?_), hargs⟩
    · funext j; idx_vars j; exact Ref.r_out H j0 j1
    · funext j; idx_vars j; exact Ref.r_dqn H j0 j1 j2
    · funext j; idx_vars j; exact Ref.r_dqr H j0 j1 j2
    · funext j; idx_vars j; exact Ref.r_dkn H j0 j1 j2
    · funext j; idx_vars j; exact Ref.r_dkr H j0 j1
    · funext j; idx_vars j; exact Ref.r_dv H j0 j1 j2

end Cert.Mla

end
-- ==== Proof.NormRow.lean ====
/- The gradient of the norm of one row, over the real numbers, at any width. A row `x` is divided by its root mean square and
   scaled by the gain `g`; `d` is the cotangent of the scaled row. -/
module

public import proofs.«01_k».proof.Proof.Finite

@[expose] public section

noncomputable section

namespace Cert.NormRow

open Cert.Finite

variable {n : ℕ} (N : ℝ) (x g d : Fin n → ℝ)

/-- The mean square plus epsilon; `N` is the width as a real number. -/
def var : ℝ := (∑ k, x k * x k) / N + eps

/-- Its reciprocal square root. -/
def rinv : ℝ := (Real.sqrt (var N x))⁻¹

/-- The normalised row. -/
def xhat (c : Fin n) : ℝ := x c * rinv N x

/-- The gradient by the row. -/
def dx (c : Fin n) : ℝ := rinv N x * (d c * g c - xhat N x c * ((∑ k, d k * g k * xhat N x k) / N))

/-- The row's part of the gradient by the gain. -/
def dg (c : Fin n) : ℝ := d c * xhat N x c

variable {N}

theorem var_pos (hN : 0 < N) : 0 < var N x :=
  add_pos_of_nonneg_of_pos (div_nonneg (Finset.sum_nonneg fun _ _ => mul_self_nonneg _) hN.le) eps_pos

theorem rinv_sq (hN : 0 < N) : rinv N x * rinv N x = 1 / var N x := by
  unfold rinv
  rw [← mul_inv, Real.mul_self_sqrt (var_pos x hN).le, one_div]

/-- The reverse rule of the mean square's reciprocal root, as it is written by `jax.vjp`, gives the centred formula. -/
theorem dx_of_vjp (hN : 0 < N) (c : Fin n) :
    d c * g c * rinv N x + x c * ((∑ k, x k * (d k * g k)) * (-(1 / 2) * (rinv N x / var N x)) / N)
      + ((∑ k, x k * (d k * g k)) * (-(1 / 2) * (rinv N x / var N x)) / N) * x c = dx N x g d c := by
  have hs : ∑ k, d k * g k * xhat N x k = rinv N x * ∑ k, x k * (d k * g k) := by
    rw [Finset.mul_sum]
    exact Finset.sum_congr rfl fun k _ => by unfold xhat; ring
  unfold dx
  rw [hs, div_eq_mul_one_div (rinv N x) (var N x), ← rinv_sq x hN]
  unfold xhat
  ring

end Cert.NormRow

end
-- ==== Proof.NormKer.lean ====
/- The norm's backward kernel from finite arguments, over the real numbers: one grid point's two results, and the whole arrays
   after the sixteen points. The cotangent that is added to the stream's gradient stays any array. -/
module

public import proofs.«01_k».proof.Proof.NormRow
public import proofs.«01_k».proof.Proof.Gen.NormKIdeal.Value
public import Idealize.ShloMosaic.Lib.Pointwise
public import Idealize.ShloMosaic.Lib.StableHlo.ReadAt

@[expose] public section

set_option maxRecDepth 16384

noncomputable section

namespace Cert.NormKIdeal.Ker

open Idealize.ShloMosaic Idealize.ShloMosaic.TcCoe Idealize.ShloMosaic.Tactic Cert.NormKIdeal Cert.NormKIdeal.Gen
  Cert.Finite Cert.NormRow
open Idealize.SL.Sem

/-! ## One grid point -/

section
variable (d : FVec Ideal S512x2048 .f32) (s : FVec Ideal S512x1 .f32) (x : FVec Ideal S512x2048 .f32) (g : FVec Ideal S1x2048 .f32)
  (e : FVec Ideal S512x2048 .f32) (X D : Fin 512 → Fin 2048 → ℝ) (G : Fin 2048 → ℝ)
  (hd : ∀ r c, d (ix2 r c) = (D r c : EReal)) (hs : ∀ r, s (ix2 r 0) = (rinv 2048 (X r) : EReal))
  (hx : ∀ r c, x (ix2 r c) = (X r c : EReal)) (hg : ∀ c, g (ix2 0 c) = (G c : EReal))
include hs hx

theorem pay_xhat (r : Fin 512) (c : Fin 2048) : k0_pay2 (F := Ideal) s x (ix2 r c) = (xhat 2048 (X r) c : EReal) := by
  pointwise [k0_pay2, k0_pay1]
  rw [hs, hx, ← EReal.coe_mul]; rfl

include hd

theorem pay_dg (c : Fin 2048) : k0_pay4 (F := Ideal) d s x (ix2 0 c) = ((∑ r, dg 2048 (X r) (D r) c : ℝ) : EReal) := by
  pointwise [k0_pay4]
  simp only [pay_xhat s x X hs hx, hd, ← EReal.coe_mul, ← coe_sum]
  rfl

include hg

theorem pay_dx (r : Fin 512) (c : Fin 2048) :
    k0_pay3 (F := Ideal) d s x g e (ix2 r c) = (dx 2048 (X r) G (D r) c : EReal) + e (ix2 r c) := by
  pointwise [k0_pay3, k0_pay1]
  simp only [pay_xhat s x X hs hx, hd, hs, hg, ofBits_2048, ← EReal.coe_mul, ← coe_sum,
    div_real _ _ (by norm_num : (2048 : ℝ) ≠ 0), ← EReal.coe_sub]
  rfl

end

/-! ## What a point leaves in its two outputs' buffers -/

theorem hz : (![0, 0] : Fin 2 → Nat) = fun _ => 0 := funext fun a => by fin_cases a <;> rfl

section
variable {c : Dev nD} {i : grid0.Coords}
  {a1 : Memref sig .tc .vmem S512x2048 .f32} {h1 : a1.IsWhole} {a2 : Memref sig .tc .vmem S512x2048 .f32} {h2 : a2.IsWhole}
  {a3 : Memref sig .tc .vmem S512x1 .f32} {h3 : a3.IsWhole} {a4 : Memref sig .tc .vmem S1x2048 .f32} {h4 : a4.IsWhole}
  {a5 : Memref sig .tc .vmem S512x2048 .f32} {h5 : a5.IsWhole} {a6 : Memref sig .tc .vmem S512x2048 .f32} {h6 : a6.IsWhole}
  {a7 : Memref sig .tc .vmem S1x2048 .f32} {h7 : a7.IsWhole}
  {d x : Vec Ideal S512x2048 .f32} {s : Vec Ideal S512x1 .f32} {g : Vec Ideal S1x2048 .f32} {e : Vec Ideal S512x2048 .f32}
  {o : Vec Ideal S1x2048 .f32}

theorem first_dx {hc0 : cond0_0 i} {hc1 : ¬cond0_1 i} :
    out0_A_5 c i a1 h1 a2 h2 a3 h3 a4 h4 a5 h5 a6 h6 a7 h7 hc0 hc1 d x s g e = k0_pay3 d s x g e := by
  unfold out0_A_5
  rw [View.read_writes_eq_canon _ _ _ (cover0_A_5 c i a1 h1 a2 h2 a3 h3 a4 h4 a5 h5 a6 h6 a7 h7 hc0 hc1 d x s g e)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x2048) hz, View.ld_unit_zero (S := S1x2048) hz, View.ld_unit_zero (S := S512x1) hz]

theorem first_dg {hc0 : cond0_0 i} {hc1 : ¬cond0_1 i} :
    out0_A_6 c i a1 h1 a2 h2 a3 h3 a4 h4 a5 h5 a6 h6 a7 h7 hc0 hc1 d x s g e = k0_pay4 d s x := by
  unfold out0_A_6
  rw [View.read_writes_eq_canon _ _ _ (cover0_A_6 c i a1 h1 a2 h2 a3 h3 a4 h4 a5 h5 a6 h6 a7 h7 hc0 hc1 d x s g e)]
  unfold kernelRun0_A
  dsimp only
  sl_unfold_words
  rw [View.canon_unit_zero hz]
  simp only [View.readAt_eq_ld, h1.read_unread, h2.read_unread, h3.read_unread,
    View.ld_unit_zero (S := S512x2048) hz, View.ld_unit_zero (S := S512x1) hz]

theorem next_dx {hc0 : ¬cond0_0 i} {hc1 : cond0_1 i} :
    out0_B_5 c i a1 h1 a2 h2 a3 h3 a4 h4 a5 h5 a6 h6 a7 h7 hc0 hc1 d x s g e o = k0_pay3 d s x g e := by
  unfold out0_B_5
  rw [View.read_writes_eq_canon _ _ _ (cover0_B_5 c i a1 h1 a2 h2 a3 h3 a4 h4 a5 h5 a6 h6 a7 h7 hc0 hc1 d x s g e o)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x2048) hz, View.ld_unit_zero (S := S1x2048) hz, View.ld_unit_zero (S := S512x1) hz]

theorem next_dg {hc0 : ¬cond0_0 i} {hc1 : cond0_1 i} :
    out0_B_6 c i a1 h1 a2 h2 a3 h3 a4 h4 a5 h5 a6 h6 a7 h7 hc0 hc1 d x s g e o = addf o (k0_pay4 d s x) := by
  unfold out0_B_6
  rw [View.read_writes_eq_canon _ _ _ (cover0_B_6 c i a1 h1 a2 h2 a3 h3 a4 h4 a5 h5 a6 h6 a7 h7 hc0 hc1 d x s g e o)]
  unfold kernelRun0_B
  dsimp only
  sl_unfold_words
  rw [View.canon_unit_zero hz]
  unfold k0_pay5
  simp only [View.readAt_eq_ld, h1.read_unread, h2.read_unread, h3.read_unread, h7.read_unread,
    View.ld_unit_zero (S := S512x2048) hz, View.ld_unit_zero (S := S1x2048) hz, View.ld_unit_zero (S := S512x1) hz, shapeCast_self]

end

/-! ## The blocks a point reads -/

variable (m : (ℓ : Loc nD τ sig) → Buf (Elt Ideal) ℓ) (ρ : Dev nD → PrngReg) (c : Dev nD)
  (X D : ℕ → Fin 2048 → ℝ) (G : Fin 2048 → ℝ)

/-- The three finite arguments of device `c` are the real arrays `X`, `G`, `D`. -/
structure Args : Prop where
  hx : ∀ (r : Fin 8192) (k : Fin 2048), m ((c : Thread nD τ).loc main_arg0) (ix2 r k) = (X r.val k : EReal)
  hg : ∀ k : Fin 2048, m ((c : Thread nD τ).loc main_arg1) (ix2 0 k) = (G k : EReal)
  hd : ∀ (r : Fin 8192) (k : Fin 2048), m ((c : Thread nD τ).loc main_arg2) (ix2 r k) = (D r.val k : EReal)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem lt_N (t : Fin cfg0.N) : t.val < 16 := t.isLt.trans_eq N_0

/-- Row `r` of block `t` is row `512 t + r` of the array. -/
abbrev row (t : Fin cfg0.N) (r : Fin 512) : Fin 8192 := ⟨512 * t.val + r.val, by have := lt_N t; omega⟩

theorem iblk_d (t : Fin cfg0.N) (r : Fin 512) (k : Fin 2048) :
    (iblk m c 0 t : Vec Ideal S512x2048 .f32) (ix2 r k) = m ((c : Thread nD τ).loc main_arg2) (ix2 (row t r) k) := by
  obtain ⟨hi, -⟩ := idx_facts t
  rw [← V_main_arg2 m c]
  unfold iblk
  rw [View.read_apply]
  show V m c main_arg2 _ = V m c main_arg2 _
  congr 1
  funext a
  apply Fin.ext
  match a with
  | ⟨0, _⟩ => show win0_0.index t 0 * 512 + 1 * r.val = 512 * t.val + r.val; rw [hi.1]; omega
  | ⟨1, _⟩ => show win0_0.index t 1 * 2048 + 1 * k.val = k.val; rw [hi.2]; omega

theorem iblk_x (t : Fin cfg0.N) (r : Fin 512) (k : Fin 2048) :
    (iblk m c 1 t : Vec Ideal S512x2048 .f32) (ix2 r k) = m ((c : Thread nD τ).loc main_arg0) (ix2 (row t r) k) := by
  obtain ⟨-, hi, -⟩ := idx_facts t
  rw [← V_main_arg0 m c]
  unfold iblk
  rw [View.read_apply]
  show V m c main_arg0 _ = V m c main_arg0 _
  congr 1
  funext a
  apply Fin.ext
  match a with
  | ⟨0, _⟩ => show win0_1.index t 0 * 512 + 1 * r.val = 512 * t.val + r.val; rw [hi.1]; omega
  | ⟨1, _⟩ => show win0_1.index t 1 * 2048 + 1 * k.val = k.val; rw [hi.2]; omega

theorem iblk_s (t : Fin cfg0.N) (r : Fin 512) :
    (iblk m c 2 t : Vec Ideal S512x1 .f32) (ix2 r 0) = V m c main_v7 (ix2 (row t r) 0) := by
  obtain ⟨-, -, hi, -⟩ := idx_facts t
  unfold iblk
  rw [View.read_apply]
  show V m c main_v7 _ = V m c main_v7 _
  congr 1
  funext a
  apply Fin.ext
  match a with
  | ⟨0, _⟩ => show win0_2.index t 0 * 512 + 1 * r.val = 512 * t.val + r.val; rw [hi.1]; omega
  | ⟨1, _⟩ => show win0_2.index t 1 * 1 + 1 * 0 = 0; rw [hi.2]

theorem iblk_g (t : Fin cfg0.N) (k : Fin 2048) :
    (iblk m c 3 t : Vec Ideal S1x2048 .f32) (ix2 0 k) = m ((c : Thread nD τ).loc main_arg1) (ix2 0 k) := by
  obtain ⟨-, -, -, hi, -⟩ := idx_facts t
  rw [← V_main_arg1 m c]
  unfold iblk
  rw [View.read_apply]
  show V m c main_arg1 _ = V m c main_arg1 _
  congr 1
  funext a
  apply Fin.ext
  match a with
  | ⟨0, _⟩ => show win0_3.index t 0 * 1 + 1 * 0 = 0; rw [hi.1]
  | ⟨1, _⟩ => show win0_3.index t 1 * 2048 + 1 * k.val = k.val; rw [hi.2]; omega

theorem iblk_e (t : Fin cfg0.N) (r : Fin 512) (k : Fin 2048) :
    (iblk m c 4 t : Vec Ideal S512x2048 .f32) (ix2 r k) = m ((c : Thread nD τ).loc main_arg3) (ix2 (row t r) k) := by
  obtain ⟨-, -, -, -, hi, -⟩ := idx_facts t
  rw [← V_main_arg3 m c]
  unfold iblk
  rw [View.read_apply]
  show V m c main_arg3 _ = V m c main_arg3 _
  congr 1
  funext a
  apply Fin.ext
  match a with
  | ⟨0, _⟩ => show win0_4.index t 0 * 512 + 1 * r.val = 512 * t.val + r.val; rw [hi.1]; omega
  | ⟨1, _⟩ => show win0_4.index t 1 * 2048 + 1 * k.val = k.val; rw [hi.2]; omega

/-! ## The whole arrays -/

/-- The gain gradient of block `p`. -/
def blockDg (k : Fin 2048) (p : ℕ) : ℝ := ∑ r ∈ Finset.range 512, dg 2048 (X (512 * p + r)) (D (512 * p + r)) k

/-- The gradient by the stream, as an array. -/
def dxArr (X D : ℕ → Fin 2048 → ℝ) (G : Fin 2048 → ℝ) (e : S8192x2048.Idx → EReal) : S8192x2048.Idx → EReal :=
  fun i => (dx 2048 (X (i 0).val) G (D (i 0).val) (i 1) : EReal) + e i

/-- The gradient by the gain. -/
def dgArr (X D : ℕ → Fin 2048 → ℝ) : S1x2048.Idx → EReal :=
  fun i => ((∑ p ∈ Finset.range 16, blockDg X D (i 1) p : ℝ) : EReal)

variable {m c X D G} (h : Args m c X D G)
include h

/-- The host's reciprocal root of each row. -/
theorem v_s (r : Fin 8192) : V m c main_v7 (ix2 r 0) = (rinv 2048 (X r.val) : EReal) := by
  dsimp only [V, hostOps0]
  after_reads_at
  simp only [h.hx, zero_add, ofBits_2048, ofBits_eps, ← EReal.coe_mul, ← coe_sum, div_real _ _ (by norm_num : (2048 : ℝ) ≠ 0), ← EReal.coe_add]
  exact rsqrt_real _ (var_pos _ (by norm_num))

theorem pt_dx (t : Fin cfg0.N) (r : Fin 512) (k : Fin 2048) :
    k0_pay3 (F := Ideal) (iblk m c 0 t) (iblk m c 2 t) (iblk m c 1 t) (iblk m c 3 t) (iblk m c 4 t) (ix2 r k)
      = dxArr X D G (m ((c : Thread nD τ).loc main_arg3)) (ix2 (row t r) k) :=
  (pay_dx _ _ _ _ _ (fun r => X (512 * t.val + r.val)) (fun r => D (512 * t.val + r.val)) G
    (fun r k => (iblk_d m c t r k).trans (h.hd _ k)) (fun r => (iblk_s m c t r).trans (v_s h _))
    (fun r k => (iblk_x m c t r k).trans (h.hx _ k)) (fun k => (iblk_g m c t k).trans (h.hg k)) r k).trans
    (congrArg _ (iblk_e m c t r k))

theorem pt_dg (t : Fin cfg0.N) (k : Fin 2048) :
    k0_pay4 (F := Ideal) (iblk m c 0 t) (iblk m c 2 t) (iblk m c 1 t) (ix2 0 k) = (blockDg X D k t.val : EReal) := by
  rw [pay_dg _ _ _ (fun r => X (512 * t.val + r.val)) (fun r => D (512 * t.val + r.val))
    (fun r k => (iblk_d m c t r k).trans (h.hd _ k)) (fun r => (iblk_s m c t r).trans (v_s h _))
    (fun r k => (iblk_x m c t r k).trans (h.hx _ k))]
  unfold blockDg
  rw [Finset.sum_range]

/-- After point `n` the gain gradient holds the sum of the blocks so far. -/
theorem acc : ∀ (n : ℕ) (hn : n < cfg0.N) (k : Fin 2048),
    (outsAt0 m c n hn).2 (ix2 0 k) = ((∑ p ∈ Finset.range (n + 1), blockDg X D k p : ℝ) : EReal)
  | 0, hn, k => by
    rw [outsAt0_A m c ⟨0, hn⟩ rfl (by simp)]
    dsimp only
    rw [first_dg, pt_dg h ⟨0, hn⟩ k]; simp
  | n + 1, hn, k => by
    have hN := lt_N ⟨n + 1, hn⟩
    rw [outsAt0_B m c ⟨n + 1, hn⟩ (by dsimp only at hN ⊢; omega) (by simp)]
    dsimp only
    rw [next_dg, Finset.sum_range_succ, EReal.coe_add]
    exact congrArg₂ _ (acc n (Nat.lt_of_succ_lt hn) k) (pt_dg h ⟨n + 1, hn⟩ k)

/-- The stream's gradient block of every point. -/
theorem dx_block (t : Fin cfg0.N) (r : Fin 512) (k : Fin 2048) :
    (outsAt0 m c t.val t.isLt).1 (ix2 r k) = dxArr X D G (m ((c : Thread nD τ).loc main_arg3)) (ix2 (row t r) k) := by
  have hN := lt_N t
  by_cases h0 : t.val = 0
  · rw [outsAt0_A m c t (by omega) (by omega)]
    dsimp only
    rw [first_dx, pt_dx h t r k]
  · rw [outsAt0_B m c t (by omega) (by omega)]
    dsimp only
    rw [next_dx, pt_dx h t r k]

omit h in
theorem mem_blk (t : Fin cfg0.N) (i : S8192x2048.Idx) :
    i ∈ ((cfg0.win 5).blk t).view.set ↔ ∀ a : Fin 2, win0_5.index t a * S512x2048.size a ≤ i a ∧ (i a : ℕ) < win0_5.index t a * S512x2048.size a + S512x2048.size a := by
  show i ∈ ((View.whole main_v8_0).slice (win0_5.rect t)).set ↔ _
  rw [View.set_slice_whole, Rect.mem_set_unit]; exact Iff.rfl

theorem final_dx : (Gen.dats m 0 c).arrAt 5 cfg0.N = dxArr X D G (m ((c : Thread nD τ).loc main_arg3)) := by
  refine (Gen.dats m 0 c).arrAt_eq_of_cover 5 (dxArr X D G (m ((c : Thread nD τ).loc main_arg3))) (fun t _ => ?_) fun i => ?_
  · rw [Value.flushed5]
    funext j
    obtain ⟨-, -, -, -, -, hi⟩ := idx_facts t
    rw [View.read_apply]
    idx_vars j
    have e : ((cfg0.win 5).blk t).view.emb (ix2 j0 j1) = (ix2 (row t j0) j1 : S8192x2048.Idx) := by
      funext a
      apply Fin.ext
      match a with
      | ⟨0, _⟩ => show win0_5.index t 0 * 512 + 1 * j0.val = 512 * t.val + j0.val; rw [hi.1]; omega
      | ⟨1, _⟩ => show win0_5.index t 1 * 2048 + 1 * j1.val = j1.val; rw [hi.2]; omega
    exact (dx_block h t j0 j1).trans (congrArg (dxArr X D G _) e).symm
  · have h0 : (i 0 : Nat) < 8192 := (i 0).isLt
    have h1 : (i 1 : Nat) < 2048 := (i 1).isLt
    have hN : cfg0.N = 16 := N_0
    refine ⟨⟨(i 0).val / 512, by omega⟩, flush0_5 _, ?_⟩
    obtain ⟨-, -, -, -, -, hi⟩ := idx_facts ⟨(i 0).val / 512, by omega⟩
    rw [mem_blk]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 2048 ≤ (i 1).val ∧ (i 1).val < win0_5.index _ 1 * 2048 + 2048
      rw [hi.2]; omega

omit h in
theorem last (t : Fin cfg0.N) (ht : t.val % 16 = 15) : t = t0_15 := by
  have := lt_N t
  exact Fin.ext (show t.val = 15 by omega)

theorem final_dg : (Gen.dats m 0 c).arrAt 6 cfg0.N = dgArr X D := by
  refine (Gen.dats m 0 c).arrAt_eq_of_cover 6 (dgArr X D) (fun t hf => ?_) fun i => ⟨t0_15, (flush0_6 t0_15).mpr rfl, ?_⟩
  · obtain rfl := last t ((flush0_6 t).mp hf)
    rw [Value.flushed6]
    have hz' : (fun a => win0_6.index t0_15 a * main_v8_1.ty.shape.size a) = fun _ => 0 := funext fun a => by fin_cases a <;> decide
    refine Eq.trans ?_ (Memref.read_access_unit_zero (Elt Ideal) main_v8_1 hz' (fun a => by rw [congrFun hz' a]; simp) (dgArr X D)).symm
    funext j
    idx_vars j
    obtain rfl : j0 = 0 := Subsingleton.elim _ _
    exact acc h 15 _ j1
  · show i ∈ ((View.whole main_v8_1).slice (win0_6.rect t0_15)).set
    rw [View.set_slice_whole, Rect.mem_set_unit]
    intro a
    have h0 : (i 0 : Nat) < 1 := (i 0).isLt
    have h1 : (i 1 : Nat) < 2048 := (i 1).isLt
    match a with
    | ⟨0, _⟩ => show win0_6.index t0_15 0 * win0_6.size 0 ≤ (i 0 : Nat) ∧ (i 0 : Nat) < win0_6.index t0_15 0 * win0_6.size 0 + win0_6.xsize (grid0.coords t0_15) 0
                rw [show win0_6.index t0_15 0 * win0_6.size 0 = 0 from by decide +kernel, show win0_6.xsize (grid0.coords t0_15) 0 = 1 from by decide +kernel]; omega
    | ⟨1, _⟩ => show win0_6.index t0_15 1 * win0_6.size 1 ≤ (i 1 : Nat) ∧ (i 1 : Nat) < win0_6.index t0_15 1 * win0_6.size 1 + win0_6.xsize (grid0.coords t0_15) 1
                rw [show win0_6.index t0_15 1 * win0_6.size 1 = 0 from by decide +kernel, show win0_6.xsize (grid0.coords t0_15) 1 = 2048 from by decide +kernel]; omega

end Cert.NormKIdeal.Ker

end
-- ==== Proof.NormRef.lean ====
/- The reference's gradients of the norm from finite arguments, over the real numbers; the cotangent of the stream itself
   stays any array. -/
module

public import proofs.«01_k».proof.Proof.NormRow
public import proofs.«01_k».proof.Proof.Gen.NormRIdeal.Read
public import Idealize.ShloMosaic.Lib.Pointwise

@[expose] public section

noncomputable section

namespace Cert.NormRIdeal.Ref

open Idealize.ShloMosaic Idealize.ShloMosaic.TcCoe Cert.NormRIdeal Cert.NormRIdeal.Gen Cert.NormRIdeal.Read Cert.Finite Cert.NormRow

variable (x0 : FVec Ideal S8192x2048 .f32) (x1 : FVec Ideal S1x2048 .f32) (x2 x3 : FVec Ideal S8192x2048 .f32)
  (X D : ℕ → Fin 2048 → ℝ) (G : Fin 2048 → ℝ)
  (hx : ∀ (r : Fin 8192) (k : Fin 2048), x0 (ix2 r k) = (X r.val k : EReal))
  (hg : ∀ k : Fin 2048, x1 (ix2 0 k) = (G k : EReal))
  (hd : ∀ (r : Fin 8192) (k : Fin 2048), x2 (ix2 r k) = (D r.val k : EReal))
include hx

theorem v6 (r : Fin 8192) : val_main_v6 (F := Ideal) x0 (ix2 r 0) = (var 2048 (X r.val) : EReal) := by
  pointwise [val_main_v6, val_main_v5, val_main_v4, val_main_v3, val_main_v2, val_main_v1, val_main_v0, val_main_cst,
    val_main_cst_0, val_main_cst_1]
  simp only [hx, zero_add, ofBits_2048, ofBits_eps, ← EReal.coe_mul, ← coe_sum, div_real _ _ (by norm_num : (2048 : ℝ) ≠ 0), ← EReal.coe_add]
  rfl

theorem v7 (r : Fin 8192) : val_main_v7 (F := Ideal) x0 (ix2 r 0) = (rinv 2048 (X r.val) : EReal) := by
  pointwise [val_main_v7]
  rw [v6 x0 X hx]
  exact rsqrt_real _ (var_pos _ (by norm_num))

theorem v10 (r : Fin 8192) : val_main_v10 (F := Ideal) x0 (ix2 r 0) = (-(1 / 2) * (rinv 2048 (X r.val) / var 2048 (X r.val)) : ℝ) := by
  pointwise [val_main_v10, val_main_v9, val_main_v8, val_main_cst_2]
  rw [v6 x0 X hx, v7 x0 X hx, ofBits_neg_half, div_real _ _ (var_pos _ (by norm_num)).ne', ← EReal.coe_mul]

theorem v12 (r : Fin 8192) (k : Fin 2048) : val_main_v12 (F := Ideal) x0 (ix2 r k) = (xhat 2048 (X r.val) k : EReal) := by
  pointwise [val_main_v12, val_main_v11]
  rw [v7 x0 X hx, hx, ← EReal.coe_mul]; rfl

include hd

theorem v17 (k : Fin 2048) : val_main_v17 (F := Ideal) x0 x2 (ix2 0 k) = (∑ r : Fin 8192, dg 2048 (X r.val) (D r.val) k : ℝ) := by
  pointwise [val_main_v17, val_main_v16, val_main_v15, val_main_cst_3]
  simp only [v12 x0 X hx, hd, zero_add, ← EReal.coe_mul, ← coe_sum]
  simp only [dg, mul_comm]

include hg

omit hx in
theorem v19 (r : Fin 8192) (k : Fin 2048) : val_main_v19 (F := Ideal) x1 x2 (ix2 r k) = (D r.val k * G k : ℝ) := by
  pointwise [val_main_v19, val_main_v18]
  rw [hd, hg, ← EReal.coe_mul]

theorem v22 (r : Fin 8192) : val_main_v22 (F := Ideal) x0 x1 x2 (ix2 r 0) = (∑ k, X r.val k * (D r.val k * G k) : ℝ) := by
  pointwise [val_main_v22, val_main_v21, val_main_v20, val_main_cst_4]
  simp only [v19 x1 x2 D G hg hd, hx, zero_add, ← EReal.coe_mul, ← coe_sum]

theorem v30 (r : Fin 8192) (k : Fin 2048) : val_main_v30 (F := Ideal) x0 x1 x2 (ix2 r k)
    = ((∑ k, X r.val k * (D r.val k * G k)) * (-(1 / 2) * (rinv 2048 (X r.val) / var 2048 (X r.val))) / 2048 : ℝ) := by
  pointwise [val_main_v30, val_main_v29, val_main_v28, val_main_v27, val_main_v26, val_main_cst_5, val_main_cst_6]
  simp only [Finset.univ_unique, Finset.sum_singleton, Fin.default_eq_zero, v22 x0 x1 x2 X D G hx hg hd, v10 x0 X hx, zero_add, ofBits_2048,
    ← EReal.coe_mul, div_real _ _ (by norm_num : (2048 : ℝ) ≠ 0)]

theorem v34 (r : Fin 8192) (k : Fin 2048) :
    val_main_v34 (F := Ideal) x0 x1 x2 x3 (ix2 r k) = (dx 2048 (X r.val) G (D r.val) k : EReal) + x3 (ix2 r k) := by
  pointwise [val_main_v34, val_main_v33, val_main_v32, val_main_v31, val_main_v25, val_main_v24, val_main_v23]
  simp only [v30 x0 x1 x2 X D G hx hg hd, v19 x1 x2 D G hg hd, v7 x0 X hx, hx, ← EReal.coe_mul, add_assoc, ← EReal.coe_add]
  rw [add_comm, ← add_assoc, dx_of_vjp _ _ _ (by norm_num : (0 : ℝ) < 2048)]

end Cert.NormRIdeal.Ref

end
-- ==== Proof.NormMain.lean ====
/- The claims about the norm's backward kernel: its frames, and that its two results are the reference's. -/
module

public import proofs.«01_k».proof.Defs
public import proofs.«01_k».proof.Proof.NormKer
public import proofs.«01_k».proof.Proof.NormRef
public import proofs.«01_k».proof.Proof.Gen.NormRIdeal.Run
public import proofs.«01_k».proof.Proof.Gen.NormK.Frame
public import proofs.«01_k».proof.Proof.Gen.Pre_norm_finite

@[expose] public section

set_option maxRecDepth 16384

noncomputable section

namespace Cert.Norm

open Idealize.ShloMosaic Idealize.ShloMosaic.TcCoe Idealize.SL.Sem Cert.Finite Cert.NormRow

theorem frame_k : Cert.quiescent_NormK := fun m ρ _ => Cert.NormK.Gen.frame m ρ
theorem frame_ki : Cert.quiescent_NormKIdeal := fun m ρ _ => Cert.NormKIdeal.Gen.frame m ρ
theorem frame_ki_pre : Cert.quiescent_NormKIdeal_pre_norm_finite := fun m ρ _ => Cert.NormKIdeal.Gen.frame m ρ

theorem frame_ri : Cert.quiescent_NormRIdeal := fun m ρ _ =>
  (θ_run Cert.NormRIdeal.defs _ _).mono (fun _ h => ⟨fun c => (h c).2.2, funext fun s => nomatch s⟩)
    (Cert.NormRIdeal.Value.run (F := Ideal) m ρ)
theorem frame_ri_pre : Cert.quiescent_NormRIdeal_pre_norm_finite := fun m ρ _ => frame_ri m ρ trivial

variable (m : (ℓ : Loc Cert.NormKIdeal.nD Cert.NormKIdeal.τ Cert.NormKIdeal.sig) → Buf (Elt Ideal) ℓ)

/-- Under the precondition three of the arguments are real arrays. -/
theorem real_args (h : Cert.Pre_NormKIdeal_norm_finite m) (c : Dev Cert.NormKIdeal.nD) :
    ∃ (X D : ℕ → Fin 2048 → ℝ) (G : Fin 2048 → ℝ), Cert.NormKIdeal.Ker.Args m c X D G := by
  obtain ⟨hx, hg, hd⟩ := h c
  obtain ⟨X, hX⟩ := exists_rows fun (r : Fin 8192) (k : Fin 2048) => real_of_cmp (congrFun hx (ix2 r k))
  obtain ⟨D, hD⟩ := exists_rows fun (r : Fin 8192) (k : Fin 2048) => real_of_cmp (congrFun hd (ix2 r k))
  choose G hG using fun k : Fin 2048 => real_of_cmp (congrFun hg (ix2 0 k))
  exact ⟨X, D, G, hX, hG, hD⟩

theorem value : Cert.algebraic_NormKIdeal_NormRIdeal_pre_norm_finite := by
  intro m ρ m' ρ' hp hm
  choose X D G h using real_args m hp
  refine ⟨fun c => Cert.NormKIdeal.Ker.dxArr (X c) (D c) (G c) (m ((c.tc : Thread Cert.NormKIdeal.nD Cert.NormKIdeal.τ).loc Cert.NormKIdeal.main_arg3)),
    fun c => Cert.NormKIdeal.Ker.dgArr (X c) (D c), ?_, ?_⟩
  · refine (θ_run Cert.NormKIdeal.defs _ _).mono (fun r hr c => ?_) (Cert.NormKIdeal.Value.run_blocks m ρ)
    obtain ⟨h0, h1, h2⟩ := hr c
    exact ⟨h0.trans (Cert.NormKIdeal.Ker.final_dx (h c)), h1.trans (Cert.NormKIdeal.Ker.final_dg (h c)), h2⟩
  · refine (θ_run Cert.NormRIdeal.defs _ _).mono (fun r hr c => ?_) (Cert.NormRIdeal.Value.run (F := Ideal) m' ρ')
    obtain ⟨h0, h1, h2⟩ := hr c
    obtain ⟨e0, e1, e2, e3⟩ := hm c
    have hx : ∀ (r : Fin 8192) (k : Fin 2048), m' ((c.tc : Thread Cert.NormRIdeal.nD Cert.NormRIdeal.τ).loc Cert.NormRIdeal.main_arg0) (ix2 r k) = (X c r.val k : EReal) :=
      fun r k => (congrFun e0 _).trans ((h c).hx r k)
    have hg : ∀ k : Fin 2048, m' ((c.tc : Thread Cert.NormRIdeal.nD Cert.NormRIdeal.τ).loc Cert.NormRIdeal.main_arg1) (ix2 0 k) = (G c k : EReal) :=
      fun k => (congrFun e1 _).trans ((h c).hg k)
    have hd : ∀ (r : Fin 8192) (k : Fin 2048), m' ((c.tc : Thread Cert.NormRIdeal.nD Cert.NormRIdeal.τ).loc Cert.NormRIdeal.main_arg2) (ix2 r k) = (D c r.val k : EReal) :=
      fun r k => (congrFun e2 _).trans ((h c).hd r k)
    refine ⟨h0.trans ((Cert.NormRIdeal.Read.val_main_v34_eq _ _ _ _).trans ?_), h1.trans ((Cert.NormRIdeal.Read.val_main_v17_eq _ _).trans ?_), h2⟩
    · funext j
      idx_vars j
      exact (Cert.NormRIdeal.Ref.v34 _ _ _ _ _ _ _ hx hg hd j0 j1).trans (congrArg _ (congrFun e3 _))
    · funext j
      idx_vars j
      obtain rfl : j0 = 0 := Subsingleton.elim _ _
      refine (Cert.NormRIdeal.Ref.v17 _ _ _ _ hx hd j1).trans (congrArg _ ?_)
      show _ = ∑ p ∈ Finset.range 16, Cert.NormKIdeal.Ker.blockDg (X c) (D c) j1 p
      unfold Cert.NormKIdeal.Ker.blockDg
      rw [sum_blocks (fun r => dg 2048 (X c r) (D c r) j1) 512 16, Finset.sum_range]

end Cert.Norm

end
-- ==== Proof.QnormKer.lean ====
/- The norm's backward kernel from finite arguments, over the real numbers: one grid point's two results, and the whole arrays
   after the sixteen points. The compressed row has no gradient of its own to be added to. -/
module

public import proofs.«01_k».proof.Proof.NormRow
public import proofs.«01_k».proof.Proof.Gen.QnormKIdeal.Value
public import Idealize.ShloMosaic.Lib.Pointwise
public import Idealize.ShloMosaic.Lib.StableHlo.ReadAt

@[expose] public section

set_option maxRecDepth 16384

noncomputable section

namespace Cert.QnormKIdeal.Ker

open Idealize.ShloMosaic Idealize.ShloMosaic.TcCoe Idealize.ShloMosaic.Tactic Cert.QnormKIdeal Cert.QnormKIdeal.Gen
  Cert.Finite Cert.NormRow
open Idealize.SL.Sem

/-! ## One grid point -/

section
variable (d : FVec Ideal S512x512 .f32) (s : FVec Ideal S512x1 .f32) (x : FVec Ideal S512x512 .f32) (g : FVec Ideal S1x512 .f32)
  (X D : Fin 512 → Fin 512 → ℝ) (G : Fin 512 → ℝ)
  (hd : ∀ r c, d (ix2 r c) = (D r c : EReal)) (hs : ∀ r, s (ix2 r 0) = (rinv 512 (X r) : EReal))
  (hx : ∀ r c, x (ix2 r c) = (X r c : EReal)) (hg : ∀ c, g (ix2 0 c) = (G c : EReal))
include hs hx

theorem pay_xhat (r : Fin 512) (c : Fin 512) : k0_pay2 (F := Ideal) s x (ix2 r c) = (xhat 512 (X r) c : EReal) := by
  pointwise [k0_pay2, k0_pay1]
  rw [hs, hx, ← EReal.coe_mul]; rfl

include hd

theorem pay_dg (c : Fin 512) : k0_pay4 (F := Ideal) d s x (ix2 0 c) = ((∑ r, dg 512 (X r) (D r) c : ℝ) : EReal) := by
  pointwise [k0_pay4]
  simp only [pay_xhat s x X hs hx, hd, ← EReal.coe_mul, ← coe_sum]
  rfl

include hg

theorem pay_dx (r : Fin 512) (c : Fin 512) :
    k0_pay3 (F := Ideal) d s x g (ix2 r c) = (dx 512 (X r) G (D r) c : EReal) := by
  pointwise [k0_pay3, k0_pay1]
  simp only [pay_xhat s x X hs hx, hd, hs, hg, ofBits_512, ← EReal.coe_mul, ← coe_sum,
    div_real _ _ (by norm_num : (512 : ℝ) ≠ 0), ← EReal.coe_sub]
  rfl

end

/-! ## What a point leaves in its two outputs' buffers -/

theorem hz : (![0, 0] : Fin 2 → Nat) = fun _ => 0 := funext fun a => by fin_cases a <;> rfl

section
variable {c : Dev nD} {i : grid0.Coords}
  {a1 : Memref sig .tc .vmem S512x512 .f32} {h1 : a1.IsWhole} {a2 : Memref sig .tc .vmem S512x512 .f32} {h2 : a2.IsWhole}
  {a3 : Memref sig .tc .vmem S512x1 .f32} {h3 : a3.IsWhole} {a4 : Memref sig .tc .vmem S1x512 .f32} {h4 : a4.IsWhole}
  {a5 : Memref sig .tc .vmem S512x512 .f32} {h5 : a5.IsWhole} {a6 : Memref sig .tc .vmem S1x512 .f32} {h6 : a6.IsWhole}
  {d x : Vec Ideal S512x512 .f32} {s : Vec Ideal S512x1 .f32} {g : Vec Ideal S1x512 .f32}
  {o : Vec Ideal S1x512 .f32}

theorem first_dx {hc0 : cond0_0 i} {hc1 : ¬cond0_1 i} :
    out0_A_4 c i a1 h1 a2 h2 a3 h3 a4 h4 a5 h5 a6 h6 hc0 hc1 d x s g = k0_pay3 d s x g := by
  unfold out0_A_4
  rw [View.read_writes_eq_canon _ _ _ (cover0_A_4 c i a1 h1 a2 h2 a3 h3 a4 h4 a5 h5 a6 h6 hc0 hc1 d x s g)]
  unfold kernelRun0_A
  dsimp only
  sl_unfold_words
  rw [View.canon_unit_zero hz]
  simp only [View.readAt_eq_ld, h1.read_unread, h2.read_unread, h3.read_unread, h4.read_unread,
    View.ld_unit_zero (S := S512x512) hz, View.ld_unit_zero (S := S1x512) hz, View.ld_unit_zero (S := S512x1) hz]

theorem first_dg {hc0 : cond0_0 i} {hc1 : ¬cond0_1 i} :
    out0_A_5 c i a1 h1 a2 h2 a3 h3 a4 h4 a5 h5 a6 h6 hc0 hc1 d x s g = k0_pay4 d s x := by
  unfold out0_A_5
  rw [View.read_writes_eq_canon _ _ _ (cover0_A_5 c i a1 h1 a2 h2 a3 h3 a4 h4 a5 h5 a6 h6 hc0 hc1 d x s g)]
  unfold kernelRun0_A
  dsimp only
  sl_unfold_words
  rw [View.canon_unit_zero hz]
  simp only [View.readAt_eq_ld, h1.read_unread, h2.read_unread, h3.read_unread,
    View.ld_unit_zero (S := S512x512) hz, View.ld_unit_zero (S := S512x1) hz]

theorem next_dx {hc0 : ¬cond0_0 i} {hc1 : cond0_1 i} :
    out0_B_4 c i a1 h1 a2 h2 a3 h3 a4 h4 a5 h5 a6 h6 hc0 hc1 d x s g o = k0_pay3 d s x g := by
  unfold out0_B_4
  rw [View.read_writes_eq_canon _ _ _ (cover0_B_4 c i a1 h1 a2 h2 a3 h3 a4 h4 a5 h5 a6 h6 hc0 hc1 d x s g o)]
  unfold kernelRun0_B
  dsimp only
  sl_unfold_words
  rw [View.canon_unit_zero hz]
  simp only [View.readAt_eq_ld, h1.read_unread, h2.read_unread, h3.read_unread, h4.read_unread,
    View.ld_unit_zero (S := S512x512) hz, View.ld_unit_zero (S := S1x512) hz, View.ld_unit_zero (S := S512x1) hz]

theorem next_dg {hc0 : ¬cond0_0 i} {hc1 : cond0_1 i} :
    out0_B_5 c i a1 h1 a2 h2 a3 h3 a4 h4 a5 h5 a6 h6 hc0 hc1 d x s g o = addf o (k0_pay4 d s x) := by
  unfold out0_B_5
  rw [View.read_writes_eq_canon _ _ _ (cover0_B_5 c i a1 h1 a2 h2 a3 h3 a4 h4 a5 h5 a6 h6 hc0 hc1 d x s g o)]
  unfold kernelRun0_B
  dsimp only
  sl_unfold_words
  rw [View.canon_unit_zero hz]
  unfold k0_pay5
  simp only [View.readAt_eq_ld, h1.read_unread, h2.read_unread, h3.read_unread, h6.read_unread,
    View.ld_unit_zero (S := S512x512) hz, View.ld_unit_zero (S := S1x512) hz, View.ld_unit_zero (S := S512x1) hz, shapeCast_self]

end

/-! ## The blocks a point reads -/

variable (m : (ℓ : Loc nD τ sig) → Buf (Elt Ideal) ℓ) (ρ : Dev nD → PrngReg) (c : Dev nD)
  (X D : ℕ → Fin 512 → ℝ) (G : Fin 512 → ℝ)

/-- The three finite arguments of device `c` are the real arrays `X`, `G`, `D`. -/
structure Args : Prop where
  hx : ∀ (r : Fin 8192) (k : Fin 512), m ((c : Thread nD τ).loc main_arg0) (ix2 r k) = (X r.val k : EReal)
  hg : ∀ k : Fin 512, m ((c : Thread nD τ).loc main_arg1) (ix2 0 k) = (G k : EReal)
  hd : ∀ (r : Fin 8192) (k : Fin 512), m ((c : Thread nD τ).loc main_arg2) (ix2 r k) = (D r.val k : EReal)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0) :=
  (by decide +kernel : ∀ t : Fin grid0.N, _)

theorem lt_N (t : Fin cfg0.N) : t.val < 16 := t.isLt.trans_eq N_0

/-- Row `r` of block `t` is row `512 t + r` of the array. -/
abbrev row (t : Fin cfg0.N) (r : Fin 512) : Fin 8192 := ⟨512 * t.val + r.val, by have := lt_N t; omega⟩

theorem iblk_d (t : Fin cfg0.N) (r : Fin 512) (k : Fin 512) :
    (iblk m c 0 t : Vec Ideal S512x512 .f32) (ix2 r k) = m ((c : Thread nD τ).loc main_arg2) (ix2 (row t r) k) := by
  obtain ⟨hi, -⟩ := idx_facts t
  rw [← V_main_arg2 m c]
  unfold iblk
  rw [View.read_apply]
  show V m c main_arg2 _ = V m c main_arg2 _
  congr 1
  funext a
  apply Fin.ext
  match a with
  | ⟨0, _⟩ => show win0_0.index t 0 * 512 + 1 * r.val = 512 * t.val + r.val; rw [hi.1]; omega
  | ⟨1, _⟩ => show win0_0.index t 1 * 512 + 1 * k.val = k.val; rw [hi.2]; omega

theorem iblk_x (t : Fin cfg0.N) (r : Fin 512) (k : Fin 512) :
    (iblk m c 1 t : Vec Ideal S512x512 .f32) (ix2 r k) = m ((c : Thread nD τ).loc main_arg0) (ix2 (row t r) k) := by
  obtain ⟨-, hi, -⟩ := idx_facts t
  rw [← V_main_arg0 m c]
  unfold iblk
  rw [View.read_apply]
  show V m c main_arg0 _ = V m c main_arg0 _
  congr 1
  funext a
  apply Fin.ext
  match a with
  | ⟨0, _⟩ => show win0_1.index t 0 * 512 + 1 * r.val = 512 * t.val + r.val; rw [hi.1]; omega
  | ⟨1, _⟩ => show win0_1.index t 1 * 512 + 1 * k.val = k.val; rw [hi.2]; omega

theorem iblk_s (t : Fin cfg0.N) (r : Fin 512) :
    (iblk m c 2 t : Vec Ideal S512x1 .f32) (ix2 r 0) = V m c main_v7 (ix2 (row t r) 0) := by
  obtain ⟨-, -, hi, -⟩ := idx_facts t
  unfold iblk
  rw [View.read_apply]
  show V m c main_v7 _ = V m c main_v7 _
  congr 1
  funext a
  apply Fin.ext
  match a with
  | ⟨0, _⟩ => show win0_2.index t 0 * 512 + 1 * r.val = 512 * t.val + r.val; rw [hi.1]; omega
  | ⟨1, _⟩ => show win0_2.index t 1 * 1 + 1 * 0 = 0; rw [hi.2]

theorem iblk_g (t : Fin cfg0.N) (k : Fin 512) :
    (iblk m c 3 t : Vec Ideal S1x512 .f32) (ix2 0 k) = m ((c : Thread nD τ).loc main_arg1) (ix2 0 k) := by
  obtain ⟨-, -, -, hi, -⟩ := idx_facts t
  rw [← V_main_arg1 m c]
  unfold iblk
  rw [View.read_apply]
  show V m c main_arg1 _ = V m c main_arg1 _
  congr 1
  funext a
  apply Fin.ext
  match a with
  | ⟨0, _⟩ => show win0_3.index t 0 * 1 + 1 * 0 = 0; rw [hi.1]
  | ⟨1, _⟩ => show win0_3.index t 1 * 512 + 1 * k.val = k.val; rw [hi.2]; omega

/-! ## The whole arrays -/

/-- The gain gradient of block `p`. -/
def blockDg (k : Fin 512) (p : ℕ) : ℝ := ∑ r ∈ Finset.range 512, dg 512 (X (512 * p + r)) (D (512 * p + r)) k

/-- The gradient by the stream, as an array. -/
def dxArr (X D : ℕ → Fin 512 → ℝ) (G : Fin 512 → ℝ) : S8192x512.Idx → EReal :=
  fun i => (dx 512 (X (i 0).val) G (D (i 0).val) (i 1) : EReal)

/-- The gradient by the gain. -/
def dgArr (X D : ℕ → Fin 512 → ℝ) : S1x512.Idx → EReal :=
  fun i => ((∑ p ∈ Finset.range 16, blockDg X D (i 1) p : ℝ) : EReal)

variable {m c X D G} (h : Args m c X D G)
include h

/-- The host's reciprocal root of each row. -/
theorem v_s (r : Fin 8192) : V m c main_v7 (ix2 r 0) = (rinv 512 (X r.val) : EReal) := by
  dsimp only [V, hostOps0]
  after_reads_at
  simp only [h.hx, zero_add, ofBits_512, ofBits_eps, ← EReal.coe_mul, ← coe_sum, div_real _ _ (by norm_num : (512 : ℝ) ≠ 0), ← EReal.coe_add]
  exact rsqrt_real _ (var_pos _ (by norm_num))

theorem pt_dx (t : Fin cfg0.N) (r : Fin 512) (k : Fin 512) :
    k0_pay3 (F := Ideal) (iblk m c 0 t) (iblk m c 2 t) (iblk m c 1 t) (iblk m c 3 t) (ix2 r k)
      = dxArr X D G (ix2 (row t r) k) :=
  pay_dx _ _ _ _ (fun r => X (512 * t.val + r.val)) (fun r => D (512 * t.val + r.val)) G
    (fun r k => (iblk_d m c t r k).trans (h.hd _ k)) (fun r => (iblk_s m c t r).trans (v_s h _))
    (fun r k => (iblk_x m c t r k).trans (h.hx _ k)) (fun k => (iblk_g m c t k).trans (h.hg k)) r k

theorem pt_dg (t : Fin cfg0.N) (k : Fin 512) :
    k0_pay4 (F := Ideal) (iblk m c 0 t) (iblk m c 2 t) (iblk m c 1 t) (ix2 0 k) = (blockDg X D k t.val : EReal) := by
  rw [pay_dg _ _ _ (fun r => X (512 * t.val + r.val)) (fun r => D (512 * t.val + r.val))
    (fun r k => (iblk_d m c t r k).trans (h.hd _ k)) (fun r => (iblk_s m c t r).trans (v_s h _))
    (fun r k => (iblk_x m c t r k).trans (h.hx _ k))]
  unfold blockDg
  rw [Finset.sum_range]

/-- After point `n` the gain gradient holds the sum of the blocks so far. -/
theorem acc : ∀ (n : ℕ) (hn : n < cfg0.N) (k : Fin 512),
    (outsAt0 m c n hn).2 (ix2 0 k) = ((∑ p ∈ Finset.range (n + 1), blockDg X D k p : ℝ) : EReal)
  | 0, hn, k => by
    rw [outsAt0_A m c ⟨0, hn⟩ rfl (by simp)]
    dsimp only
    rw [first_dg, pt_dg h ⟨0, hn⟩ k]; simp
  | n + 1, hn, k => by
    have hN := lt_N ⟨n + 1, hn⟩
    rw [outsAt0_B m c ⟨n + 1, hn⟩ (by dsimp only at hN ⊢; omega) (by simp)]
    dsimp only
    rw [next_dg, Finset.sum_range_succ, EReal.coe_add]
    exact congrArg₂ _ (acc n (Nat.lt_of_succ_lt hn) k) (pt_dg h ⟨n + 1, hn⟩ k)

/-- The stream's gradient block of every point. -/
theorem dx_block (t : Fin cfg0.N) (r : Fin 512) (k : Fin 512) :
    (outsAt0 m c t.val t.isLt).1 (ix2 r k) = dxArr X D G (ix2 (row t r) k) := by
  have hN := lt_N t
  by_cases h0 : t.val = 0
  · rw [outsAt0_A m c t (by omega) (by omega)]
    dsimp only
    rw [first_dx, pt_dx h t r k]
  · rw [outsAt0_B m c t (by omega) (by omega)]
    dsimp only
    rw [next_dx, pt_dx h t r k]

omit h in
theorem mem_blk (t : Fin cfg0.N) (i : S8192x512.Idx) :
    i ∈ ((cfg0.win 4).blk t).view.set ↔ ∀ a : Fin 2, win0_4.index t a * S512x512.size a ≤ i a ∧ (i a : ℕ) < win0_4.index t a * S512x512.size a + S512x512.size a := by
  show i ∈ ((View.whole main_v8_0).slice (win0_4.rect t)).set ↔ _
  rw [View.set_slice_whole, Rect.mem_set_unit]; exact Iff.rfl

theorem final_dx : (Gen.dats m 0 c).arrAt 4 cfg0.N = dxArr X D G := by
  refine (Gen.dats m 0 c).arrAt_eq_of_cover 4 (dxArr X D G) (fun t _ => ?_) fun i => ?_
  · rw [Value.flushed4]
    funext j
    obtain ⟨-, -, -, -, hi⟩ := idx_facts t
    rw [View.read_apply]
    idx_vars j
    have e : ((cfg0.win 4).blk t).view.emb (ix2 j0 j1) = (ix2 (row t j0) j1 : S8192x512.Idx) := by
      funext a
      apply Fin.ext
      match a with
      | ⟨0, _⟩ => show win0_4.index t 0 * 512 + 1 * j0.val = 512 * t.val + j0.val; rw [hi.1]; omega
      | ⟨1, _⟩ => show win0_4.index t 1 * 512 + 1 * j1.val = j1.val; rw [hi.2]; omega
    exact (dx_block h t j0 j1).trans (congrArg (dxArr X D G) e).symm
  · have h0 : (i 0 : Nat) < 8192 := (i 0).isLt
    have h1 : (i 1 : Nat) < 512 := (i 1).isLt
    have hN : cfg0.N = 16 := N_0
    refine ⟨⟨(i 0).val / 512, by omega⟩, flush0_4 _, ?_⟩
    obtain ⟨-, -, -, -, hi⟩ := idx_facts ⟨(i 0).val / 512, by omega⟩
    rw [mem_blk]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 512 ≤ (i 1).val ∧ (i 1).val < win0_4.index _ 1 * 512 + 512
      rw [hi.2]; omega

omit h in
theorem last (t : Fin cfg0.N) (ht : t.val % 16 = 15) : t = t0_15 := by
  have := lt_N t
  exact Fin.ext (show t.val = 15 by omega)

theorem final_dg : (Gen.dats m 0 c).arrAt 5 cfg0.N = dgArr X D := by
  refine (Gen.dats m 0 c).arrAt_eq_of_cover 5 (dgArr X D) (fun t hf => ?_) fun i => ⟨t0_15, (flush0_5 t0_15).mpr rfl, ?_⟩
  · obtain rfl := last t ((flush0_5 t).mp hf)
    rw [Value.flushed5]
    have hz' : (fun a => win0_5.index t0_15 a * main_v8_1.ty.shape.size a) = fun _ => 0 := funext fun a => by fin_cases a <;> decide
    refine Eq.trans ?_ (Memref.read_access_unit_zero (Elt Ideal) main_v8_1 hz' (fun a => by rw [congrFun hz' a]; simp) (dgArr X D)).symm
    funext j
    idx_vars j
    obtain rfl : j0 = 0 := Subsingleton.elim _ _
    exact acc h 15 _ j1
  · show i ∈ ((View.whole main_v8_1).slice (win0_5.rect t0_15)).set
    rw [View.set_slice_whole, Rect.mem_set_unit]
    intro a
    have h0 : (i 0 : Nat) < 1 := (i 0).isLt
    have h1 : (i 1 : Nat) < 512 := (i 1).isLt
    match a with
    | ⟨0, _⟩ => show win0_5.index t0_15 0 * win0_5.size 0 ≤ (i 0 : Nat) ∧ (i 0 : Nat) < win0_5.index t0_15 0 * win0_5.size 0 + win0_5.xsize (grid0.coords t0_15) 0
                rw [show win0_5.index t0_15 0 * win0_5.size 0 = 0 from by decide +kernel, show win0_5.xsize (grid0.coords t0_15) 0 = 1 from by decide +kernel]; omega
    | ⟨1, _⟩ => show win0_5.index t0_15 1 * win0_5.size 1 ≤ (i 1 : Nat) ∧ (i 1 : Nat) < win0_5.index t0_15 1 * win0_5.size 1 + win0_5.xsize (grid0.coords t0_15) 1
                rw [show win0_5.index t0_15 1 * win0_5.size 1 = 0 from by decide +kernel, show win0_5.xsize (grid0.coords t0_15) 1 = 512 from by decide +kernel]; omega

end Cert.QnormKIdeal.Ker

end
-- ==== Proof.QnormRef.lean ====
/- The reference's gradients of the norm from finite arguments, over the real numbers. -/
module

public import proofs.«01_k».proof.Proof.NormRow
public import proofs.«01_k».proof.Proof.Gen.QnormRIdeal.Read
public import Idealize.ShloMosaic.Lib.Pointwise

@[expose] public section

noncomputable section

namespace Cert.QnormRIdeal.Ref

open Idealize.ShloMosaic Idealize.ShloMosaic.TcCoe Cert.QnormRIdeal Cert.QnormRIdeal.Gen Cert.QnormRIdeal.Read Cert.Finite Cert.NormRow

variable (x0 : FVec Ideal S8192x512 .f32) (x1 : FVec Ideal S1x512 .f32) (x2 : FVec Ideal S8192x512 .f32)
  (X D : ℕ → Fin 512 → ℝ) (G : Fin 512 → ℝ)
  (hx : ∀ (r : Fin 8192) (k : Fin 512), x0 (ix2 r k) = (X r.val k : EReal))
  (hg : ∀ k : Fin 512, x1 (ix2 0 k) = (G k : EReal))
  (hd : ∀ (r : Fin 8192) (k : Fin 512), x2 (ix2 r k) = (D r.val k : EReal))
include hx

theorem v6 (r : Fin 8192) : val_main_v6 (F := Ideal) x0 (ix2 r 0) = (var 512 (X r.val) : EReal) := by
  pointwise [val_main_v6, val_main_v5, val_main_v4, val_main_v3, val_main_v2, val_main_v1, val_main_v0, val_main_cst,
    val_main_cst_0, val_main_cst_1]
  simp only [hx, zero_add, ofBits_512, ofBits_eps, ← EReal.coe_mul, ← coe_sum, div_real _ _ (by norm_num : (512 : ℝ) ≠ 0), ← EReal.coe_add]
  rfl

theorem v7 (r : Fin 8192) : val_main_v7 (F := Ideal) x0 (ix2 r 0) = (rinv 512 (X r.val) : EReal) := by
  pointwise [val_main_v7]
  rw [v6 x0 X hx]
  exact rsqrt_real _ (var_pos _ (by norm_num))

theorem v10 (r : Fin 8192) : val_main_v10 (F := Ideal) x0 (ix2 r 0) = (-(1 / 2) * (rinv 512 (X r.val) / var 512 (X r.val)) : ℝ) := by
  pointwise [val_main_v10, val_main_v9, val_main_v8, val_main_cst_2]
  rw [v6 x0 X hx, v7 x0 X hx, ofBits_neg_half, div_real _ _ (var_pos _ (by norm_num)).ne', ← EReal.coe_mul]

theorem v12 (r : Fin 8192) (k : Fin 512) : val_main_v12 (F := Ideal) x0 (ix2 r k) = (xhat 512 (X r.val) k : EReal) := by
  pointwise [val_main_v12, val_main_v11]
  rw [v7 x0 X hx, hx, ← EReal.coe_mul]; rfl

include hd

theorem v17 (k : Fin 512) : val_main_v17 (F := Ideal) x0 x2 (ix2 0 k) = (∑ r : Fin 8192, dg 512 (X r.val) (D r.val) k : ℝ) := by
  pointwise [val_main_v17, val_main_v16, val_main_v15, val_main_cst_3]
  simp only [v12 x0 X hx, hd, zero_add, ← EReal.coe_mul, ← coe_sum]
  simp only [dg, mul_comm]

include hg

omit hx in
theorem v19 (r : Fin 8192) (k : Fin 512) : val_main_v19 (F := Ideal) x1 x2 (ix2 r k) = (D r.val k * G k : ℝ) := by
  pointwise [val_main_v19, val_main_v18]
  rw [hd, hg, ← EReal.coe_mul]

theorem v22 (r : Fin 8192) : val_main_v22 (F := Ideal) x0 x1 x2 (ix2 r 0) = (∑ k, X r.val k * (D r.val k * G k) : ℝ) := by
  pointwise [val_main_v22, val_main_v21, val_main_v20, val_main_cst_4]
  simp only [v19 x1 x2 D G hg hd, hx, zero_add, ← EReal.coe_mul, ← coe_sum]

theorem v29 (r : Fin 8192) (k : Fin 512) : val_main_v29 (F := Ideal) x0 x1 x2 (ix2 r k)
    = ((∑ k, X r.val k * (D r.val k * G k)) * (-(1 / 2) * (rinv 512 (X r.val) / var 512 (X r.val))) / 512 : ℝ) := by
  pointwise [val_main_v29, val_main_v28, val_main_v27, val_main_v26, val_main_v25, val_main_cst_5, val_main_cst_6]
  simp only [Finset.univ_unique, Finset.sum_singleton, Fin.default_eq_zero, v22 x0 x1 x2 X D G hx hg hd, v10 x0 X hx, zero_add, ofBits_512,
    ← EReal.coe_mul, div_real _ _ (by norm_num : (512 : ℝ) ≠ 0)]

theorem v33 (r : Fin 8192) (k : Fin 512) :
    val_main_v33 (F := Ideal) x0 x1 x2 (ix2 r k) = (dx 512 (X r.val) G (D r.val) k : EReal) := by
  pointwise [val_main_v33, val_main_v32, val_main_v31, val_main_v30, val_main_v24, val_main_v23]
  simp only [v29 x0 x1 x2 X D G hx hg hd, v19 x1 x2 D G hg hd, v7 x0 X hx, hx, ← EReal.coe_mul, ← EReal.coe_add]
  rw [dx_of_vjp _ _ _ (by norm_num : (0 : ℝ) < 512)]

end Cert.QnormRIdeal.Ref

end
-- ==== Proof.QnormMain.lean ====
/- The claims about the compressed row's norm's backward kernel: its frames, and that its two results are the reference's. -/
module

public import proofs.«01_k».proof.Defs
public import proofs.«01_k».proof.Proof.QnormKer
public import proofs.«01_k».proof.Proof.QnormRef
public import proofs.«01_k».proof.Proof.Gen.QnormRIdeal.Run
public import proofs.«01_k».proof.Proof.Gen.QnormK.Frame
public import proofs.«01_k».proof.Proof.Gen.Pre_qnorm_finite

@[expose] public section

set_option maxRecDepth 16384

noncomputable section

namespace Cert.Qnorm

open Idealize.ShloMosaic Idealize.ShloMosaic.TcCoe Idealize.SL.Sem Cert.Finite Cert.NormRow

theorem frame_k : Cert.quiescent_QnormK := fun m ρ _ => Cert.QnormK.Gen.frame m ρ
theorem frame_ki : Cert.quiescent_QnormKIdeal := fun m ρ _ => Cert.QnormKIdeal.Gen.frame m ρ
theorem frame_ki_pre : Cert.quiescent_QnormKIdeal_pre_qnorm_finite := fun m ρ _ => Cert.QnormKIdeal.Gen.frame m ρ

theorem frame_ri : Cert.quiescent_QnormRIdeal := fun m ρ _ =>
  (θ_run Cert.QnormRIdeal.defs _ _).mono (fun _ h => ⟨fun c => (h c).2.2, funext fun s => nomatch s⟩)
    (Cert.QnormRIdeal.Value.run (F := Ideal) m ρ)
theorem frame_ri_pre : Cert.quiescent_QnormRIdeal_pre_qnorm_finite := fun m ρ _ => frame_ri m ρ trivial

variable (m : (ℓ : Loc Cert.QnormKIdeal.nD Cert.QnormKIdeal.τ Cert.QnormKIdeal.sig) → Buf (Elt Ideal) ℓ)

/-- Under the precondition the arguments are real arrays. -/
theorem real_args (h : Cert.Pre_QnormKIdeal_qnorm_finite m) (c : Dev Cert.QnormKIdeal.nD) :
    ∃ (X D : ℕ → Fin 512 → ℝ) (G : Fin 512 → ℝ), Cert.QnormKIdeal.Ker.Args m c X D G := by
  obtain ⟨hx, hg, hd⟩ := h c
  obtain ⟨X, hX⟩ := exists_rows fun (r : Fin 8192) (k : Fin 512) => real_of_cmp (congrFun hx (ix2 r k))
  obtain ⟨D, hD⟩ := exists_rows fun (r : Fin 8192) (k : Fin 512) => real_of_cmp (congrFun hd (ix2 r k))
  choose G hG using fun k : Fin 512 => real_of_cmp (congrFun hg (ix2 0 k))
  exact ⟨X, D, G, hX, hG, hD⟩

theorem value : Cert.algebraic_QnormKIdeal_QnormRIdeal_pre_qnorm_finite := by
  intro m ρ m' ρ' hp hm
  choose X D G h using real_args m hp
  refine ⟨fun c => Cert.QnormKIdeal.Ker.dxArr (X c) (D c) (G c),
    fun c => Cert.QnormKIdeal.Ker.dgArr (X c) (D c), ?_, ?_⟩
  · refine (θ_run Cert.QnormKIdeal.defs _ _).mono (fun r hr c => ?_) (Cert.QnormKIdeal.Value.run_blocks m ρ)
    obtain ⟨h0, h1, h2⟩ := hr c
    exact ⟨h0.trans (Cert.QnormKIdeal.Ker.final_dx (h c)), h1.trans (Cert.QnormKIdeal.Ker.final_dg (h c)), h2⟩
  · refine (θ_run Cert.QnormRIdeal.defs _ _).mono (fun r hr c => ?_) (Cert.QnormRIdeal.Value.run (F := Ideal) m' ρ')
    obtain ⟨h0, h1, h2⟩ := hr c
    obtain ⟨e0, e1, e2⟩ := hm c
    have hx : ∀ (r : Fin 8192) (k : Fin 512), m' ((c.tc : Thread Cert.QnormRIdeal.nD Cert.QnormRIdeal.τ).loc Cert.QnormRIdeal.main_arg0) (ix2 r k) = (X c r.val k : EReal) :=
      fun r k => (congrFun e0 _).trans ((h c).hx r k)
    have hg : ∀ k : Fin 512, m' ((c.tc : Thread Cert.QnormRIdeal.nD Cert.QnormRIdeal.τ).loc Cert.QnormRIdeal.main_arg1) (ix2 0 k) = (G c k : EReal) :=
      fun k => (congrFun e1 _).trans ((h c).hg k)
    have hd : ∀ (r : Fin 8192) (k : Fin 512), m' ((c.tc : Thread Cert.QnormRIdeal.nD Cert.QnormRIdeal.τ).loc Cert.QnormRIdeal.main_arg2) (ix2 r k) = (D c r.val k : EReal) :=
      fun r k => (congrFun e2 _).trans ((h c).hd r k)
    refine ⟨h0.trans ((Cert.QnormRIdeal.Read.val_main_v33_eq _ _ _).trans ?_), h1.trans ((Cert.QnormRIdeal.Read.val_main_v17_eq _ _).trans ?_), h2⟩
    · funext j
      idx_vars j
      exact Cert.QnormRIdeal.Ref.v33 _ _ _ _ _ _ hx hg hd j0 j1
    · funext j
      idx_vars j
      obtain rfl : j0 = 0 := Subsingleton.elim _ _
      refine (Cert.QnormRIdeal.Ref.v17 _ _ _ _ hx hd j1).trans (congrArg _ ?_)
      show _ = ∑ p ∈ Finset.range 16, Cert.QnormKIdeal.Ker.blockDg (X c) (D c) j1 p
      unfold Cert.QnormKIdeal.Ker.blockDg
      rw [sum_blocks (fun r => dg 512 (X c r) (D c r) j1) 512 16, Finset.sum_range]

end Cert.Qnorm

end
-- ==== Proof.MixKer.lean ====
/- The gate's backward kernel on any arguments, infinite ones too: one grid point's three results, and the whole arrays after
   the two times sixteen points. -/
module

public import proofs.«01_k».proof.Proof.Finite
public import proofs.«01_k».proof.Proof.Gen.MixKIdeal.Value
public import Idealize.ShloMosaic.Lib.Pointwise

@[expose] public section

set_option maxRecDepth 16384

noncomputable section

namespace Cert.MixKIdeal.Ker

open Idealize.ShloMosaic Idealize.ShloMosaic.TcCoe Idealize.ShloMosaic.Tactic Cert.MixKIdeal Cert.MixKIdeal.Gen
open Idealize.SL.Sem

/-! ## One entry -/

/-- The gated value, `gelu` of the recurrence's output. -/
def act (y : EReal) : EReal :=
  y * (Ideal.ofBits .f32 0x3F000000#32 * (1
    + Ideal.tanh (Ideal.ofBits .f32 0x3F4C422A#32 * (y + Ideal.ofBits .f32 0x3D372713#32 * (y * (y * y))))))

/-- The gate. -/
def gate (l b : EReal) : EReal := Ideal.logistic (l + b)

/-- The gradient by the gate's argument. -/
def dlin (d y l b : EReal) : EReal := d * act y * (gate l b * (1 - gate l b))

section
variable (d y l : FVec Ideal S512x1024 .f32) (b : FVec Ideal S1x1024 .f32)

theorem pay_gate (r : Fin 512) (k : Fin 1024) : k0_pay2 (F := Ideal) l b (ix2 r k) = gate (l (ix2 r k)) (b (ix2 0 k)) := by
  pointwise [k0_pay2]
  rfl

theorem pay_lin (r : Fin 512) (k : Fin 1024) :
    k0_pay3 (F := Ideal) d y l b (ix2 r k) = dlin (d (ix2 r k)) (y (ix2 r k)) (l (ix2 r k)) (b (ix2 0 k)) := by
  pointwise [k0_pay3]
  rw [pay_gate]
  rfl

theorem pay_lin16 (r : Fin 512) (k : Fin 1024) :
    k0_pay5 (F := Ideal) d y l b (ix2 r k) = dlin (d (ix2 r k)) (y (ix2 r k)) (l (ix2 r k)) (b (ix2 0 k)) := by
  pointwise [k0_pay5]
  exact pay_lin d y l b r k

theorem pay_z (r : Fin 512) (k : Fin 1024) :
    k0_pay4 (F := Ideal) d l b (ix2 r k) = d (ix2 r k) * gate (l (ix2 r k)) (b (ix2 0 k)) := by
  pointwise [k0_pay4]
  rw [pay_gate]

theorem pay_sum (k : Fin 1024) :
    k0_pay6 (F := Ideal) d y l b (ix2 0 k) = ∑ r : Fin 512, dlin (d (ix2 r k)) (y (ix2 r k)) (l (ix2 r k)) (b (ix2 0 k)) := by
  pointwise [k0_pay6]
  simp only [pay_lin]

end

/-! ## What a point leaves in its three outputs' buffers -/

theorem hz : (![0, 0] : Fin 2 → Nat) = fun _ => 0 := funext fun a => by fin_cases a <;> rfl

section
variable {c : Dev nD} {i : grid0.Coords}
  {a2 : Memref sig .tc .vmem S512x1024 .f32} {h2 : a2.IsWhole} {a3 : Memref sig .tc .vmem S512x1024 .f32} {h3 : a3.IsWhole}
  {a4 : Memref sig .tc .vmem S512x1024 .f32} {h4 : a4.IsWhole} {a5 : Memref sig .tc .vmem S1x1024 .f32} {h5 : a5.IsWhole}
  {a6 : Memref sig .tc .vmem S512x1024 .bf16} {h6 : a6.IsWhole} {a7 : Memref sig .tc .vmem S512x1024 .f32} {h7 : a7.IsWhole}
  {a8 : Memref sig .tc .vmem S1x1024 .f32} {h8 : a8.IsWhole}
  {d y l : Vec Ideal S512x1024 .f32} {b : Vec Ideal S1x1024 .f32} {o : Vec Ideal S1x1024 .f32}

theorem first {hc0 : cond0_0 i} {hc1 : ¬cond0_1 i} :
    out0_A_4 c i a2 h2 a3 h3 a4 h4 a5 h5 a6 h6 a7 h7 a8 h8 hc0 hc1 d y l b = k0_pay5 d y l b
    ∧ out0_A_5 c i a2 h2 a3 h3 a4 h4 a5 h5 a6 h6 a7 h7 a8 h8 hc0 hc1 d y l b = k0_pay4 d l b
    ∧ out0_A_6 c i a2 h2 a3 h3 a4 h4 a5 h5 a6 h6 a7 h7 a8 h8 hc0 hc1 d y l b = k0_pay6 d y l b := by
  unfold out0_A_4 out0_A_5 out0_A_6
  rw [View.read_writes_eq_canon _ _ _ (cover0_A_4 c i a2 h2 a3 h3 a4 h4 a5 h5 a6 h6 a7 h7 a8 h8 hc0 hc1 d y l b),
    View.read_writes_eq_canon _ _ _ (cover0_A_5 c i a2 h2 a3 h3 a4 h4 a5 h5 a6 h6 a7 h7 a8 h8 hc0 hc1 d y l b),
    View.read_writes_eq_canon _ _ _ (cover0_A_6 c i a2 h2 a3 h3 a4 h4 a5 h5 a6 h6 a7 h7 a8 h8 hc0 hc1 d y l b)]
  unfold kernelRun0_A
  dsimp only
  sl_unfold_words
  simp only [View.readAt_eq_ld, h2.read_unread, h3.read_unread, h4.read_unread, h5.read_unread,
    View.ld_unit_zero (S := S512x1024) hz, View.ld_unit_zero (S := S1x1024) hz]
  refine ⟨?_, ?_, ?_⟩ <;> rw [View.canon_unit_zero hz]

theorem next {hc0 : ¬cond0_0 i} {hc1 : cond0_1 i} :
    out0_B_4 c i a2 h2 a3 h3 a4 h4 a5 h5 a6 h6 a7 h7 a8 h8 hc0 hc1 d y l b o = k0_pay5 d y l b
    ∧ out0_B_5 c i a2 h2 a3 h3 a4 h4 a5 h5 a6 h6 a7 h7 a8 h8 hc0 hc1 d y l b o = k0_pay4 d l b
    ∧ out0_B_6 c i a2 h2 a3 h3 a4 h4 a5 h5 a6 h6 a7 h7 a8 h8 hc0 hc1 d y l b o = addf o (k0_pay6 d y l b) := by
  unfold out0_B_4 out0_B_5 out0_B_6
  rw [View.read_writes_eq_canon _ _ _ (cover0_B_4 c i a2 h2 a3 h3 a4 h4 a5 h5 a6 h6 a7 h7 a8 h8 hc0 hc1 d y l b o),
    View.read_writes_eq_canon _ _ _ (cover0_B_5 c i a2 h2 a3 h3 a4 h4 a5 h5 a6 h6 a7 h7 a8 h8 hc0 hc1 d y l b o),
    View.read_writes_eq_canon _ _ _ (cover0_B_6 c i a2 h2 a3 h3 a4 h4 a5 h5 a6 h6 a7 h7 a8 h8 hc0 hc1 d y l b o)]
  unfold kernelRun0_B
  dsimp only
  sl_unfold_words
  unfold k0_pay1
  simp only [View.readAt_eq_ld, h2.read_unread, h3.read_unread, h4.read_unread, h5.read_unread, h8.read_unread,
    View.ld_unit_zero (S := S512x1024) hz, View.ld_unit_zero (S := S1x1024) hz, shapeCast_self]
  refine ⟨?_, ?_, ?_⟩ <;> rw [View.canon_unit_zero hz]

end

/-! ## The blocks a point reads -/

variable (m : (ℓ : Loc nD τ sig) → Buf (Elt Ideal) ℓ) (c : Dev nD)

theorem idx_facts : ∀ t : Fin cfg0.N, (win0_0.index t 0 = t.val % 16 ∧ win0_0.index t 1 = t.val / 16)
    ∧ (win0_1.index t 0 = t.val % 16 ∧ win0_1.index t 1 = t.val / 16) ∧ (win0_2.index t 0 = t.val % 16 ∧ win0_2.index t 1 = t.val / 16)
    ∧ (win0_3.index t 0 = 0 ∧ win0_3.index t 1 = t.val / 16) ∧ (win0_4.index t 0 = t.val % 16 ∧ win0_4.index t 1 = t.val / 16)
    ∧ (win0_5.index t 0 = t.val % 16 ∧ win0_5.index t 1 = t.val / 16) ∧ (win0_6.index t 0 = 0 ∧ win0_6.index t 1 = t.val / 16) :=
  (by decide +kernel : ∀ t : Fin grid0.N, _)

theorem lt_N (t : Fin cfg0.N) : t.val < 32 := t.isLt.trans_eq N_0

/-- Row `r` of point `t`'s block. -/
abbrev row (t : Fin cfg0.N) (r : Fin 512) : Fin 8192 := ⟨512 * (t.val % 16) + r.val, by omega⟩
/-- Column `k` of point `t`'s block. -/
abbrev col (t : Fin cfg0.N) (k : Fin 1024) : Fin 2048 := ⟨1024 * (t.val / 16) + k.val, by have := lt_N t; omega⟩

theorem iblk_d (t : Fin cfg0.N) (r : Fin 512) (k : Fin 1024) :
    (iblk m c 0 t : Vec Ideal S512x1024 .f32) (ix2 r k) = m ((c : Thread nD τ).loc main_arg0) (ix2 (row t r) (col t k)) := by
  obtain ⟨hi, -⟩ := idx_facts t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * (t.val % 16) + r.val; rw [hi.1]; omega
  | ⟨1, _⟩ => show win0_0.index t 1 * 1024 + 1 * k.val = 1024 * (t.val / 16) + k.val; rw [hi.2]; omega

theorem iblk_y (t : Fin cfg0.N) (r : Fin 512) (k : Fin 1024) :
    (iblk m c 1 t : Vec Ideal S512x1024 .f32) (ix2 r k) = m ((c : Thread nD τ).loc main_arg1) (ix2 (row t r) (col t k)) := by
  obtain ⟨-, hi, -⟩ := idx_facts t
  rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * (t.val % 16) + r.val; rw [hi.1]; omega
  | ⟨1, _⟩ => show win0_1.index t 1 * 1024 + 1 * k.val = 1024 * (t.val / 16) + k.val; rw [hi.2]; omega

theorem iblk_l (t : Fin cfg0.N) (r : Fin 512) (k : Fin 1024) :
    (iblk m c 2 t : Vec Ideal S512x1024 .f32) (ix2 r k) = m ((c : Thread nD τ).loc main_arg2) (ix2 (row t r) (col t k)) := by
  obtain ⟨-, -, hi, -⟩ := idx_facts t
  rw [← V_main_arg2 m c]
  unfold iblk
  rw [View.read_apply]
  show V m c main_arg2 _ = V m c main_arg2 _
  congr 1
  funext a
  apply Fin.ext
  match a with
  | ⟨0, _⟩ => show win0_2.index t 0 * 512 + 1 * r.val = 512 * (t.val % 16) + r.val; rw [hi.1]; omega
  | ⟨1, _⟩ => show win0_2.index t 1 * 1024 + 1 * k.val = 1024 * (t.val / 16) + k.val; rw [hi.2]; omega

theorem iblk_b (t : Fin cfg0.N) (k : Fin 1024) :
    (iblk m c 3 t : Vec Ideal S1x1024 .f32) (ix2 0 k) = m ((c : Thread nD τ).loc main_arg3) (ix2 0 (col t k)) := by
  obtain ⟨-, -, -, hi, -⟩ := idx_facts t
  rw [← V_main_arg3 m c]
  unfold iblk
  rw [View.read_apply]
  show V m c main_arg3 _ = V m c main_arg3 _
  congr 1
  funext a
  apply Fin.ext
  match a with
  | ⟨0, _⟩ => show win0_3.index t 0 * 1 + 1 * 0 = 0; rw [hi.1]
  | ⟨1, _⟩ => show win0_3.index t 1 * 1024 + 1 * k.val = 1024 * (t.val / 16) + k.val; rw [hi.2]; omega

/-! ## The whole arrays -/

section
variable (d y l : S8192x2048.Idx → EReal) (b : S1x2048.Idx → EReal)

/-- The gradient by the gate's argument. -/
def linArr : S8192x2048.Idx → EReal := fun i => dlin (d i) (y i) (l i) (b (ix2 0 (i 1)))
/-- The gradient by the gated value. -/
def zArr : S8192x2048.Idx → EReal := fun i => d i * gate (l i) (b (ix2 0 (i 1)))
/-- One entry of `linArr` by its numbers, zero past the last row. -/
def linAt (k : Fin 2048) (r : ℕ) : EReal := if h : r < 8192 then linArr d y l b (ix2 ⟨r, h⟩ k) else 0
/-- The bias gradient of row block `p`. -/
def blockB (k : Fin 2048) (p : ℕ) : EReal := ∑ r ∈ Finset.range 512, linAt d y l b k (512 * p + r)
/-- The gradient by the bias. -/
def bArr : S1x2048.Idx → EReal := fun i => ∑ p ∈ Finset.range 16, blockB d y l b (i 1) p

end

/-- The four arrays of device `c`. -/
abbrev lin (m : (ℓ : Loc nD τ sig) → Buf (Elt Ideal) ℓ) (c : Dev nD) : S8192x2048.Idx → EReal :=
  linArr (m ((c : Thread nD τ).loc main_arg0)) (m ((c : Thread nD τ).loc main_arg1)) (m ((c : Thread nD τ).loc main_arg2)) (m ((c : Thread nD τ).loc main_arg3))
abbrev dz (m : (ℓ : Loc nD τ sig) → Buf (Elt Ideal) ℓ) (c : Dev nD) : S8192x2048.Idx → EReal :=
  zArr (m ((c : Thread nD τ).loc main_arg0)) (m ((c : Thread nD τ).loc main_arg2)) (m ((c : Thread nD τ).loc main_arg3))
abbrev blk (m : (ℓ : Loc nD τ sig) → Buf (Elt Ideal) ℓ) (c : Dev nD) : Fin 2048 → ℕ → EReal :=
  blockB (m ((c : Thread nD τ).loc main_arg0)) (m ((c : Thread nD τ).loc main_arg1)) (m ((c : Thread nD τ).loc main_arg2)) (m ((c : Thread nD τ).loc main_arg3))
abbrev db (m : (ℓ : Loc nD τ sig) → Buf (Elt Ideal) ℓ) (c : Dev nD) : S1x2048.Idx → EReal :=
  bArr (m ((c : Thread nD τ).loc main_arg0)) (m ((c : Thread nD τ).loc main_arg1)) (m ((c : Thread nD τ).loc main_arg2)) (m ((c : Thread nD τ).loc main_arg3))

theorem pt_lin (t : Fin cfg0.N) (r : Fin 512) (k : Fin 1024) :
    k0_pay5 (F := Ideal) (iblk m c 0 t) (iblk m c 1 t) (iblk m c 2 t) (iblk m c 3 t) (ix2 r k) = lin m c (ix2 (row t r) (col t k)) := by
  rw [pay_lin16, iblk_d, iblk_y, iblk_l, iblk_b]
  rfl

theorem pt_z (t : Fin cfg0.N) (r : Fin 512) (k : Fin 1024) :
    k0_pay4 (F := Ideal) (iblk m c 0 t) (iblk m c 2 t) (iblk m c 3 t) (ix2 r k) = dz m c (ix2 (row t r) (col t k)) := by
  rw [pay_z, iblk_d, iblk_l, iblk_b]
  rfl

theorem pt_b (t : Fin cfg0.N) (k : Fin 1024) :
    k0_pay6 (F := Ideal) (iblk m c 0 t) (iblk m c 1 t) (iblk m c 2 t) (iblk m c 3 t) (ix2 0 k) = blk m c (col t k) (t.val % 16) := by
  rw [pay_sum]
  show _ = ∑ r ∈ Finset.range 512, _
  rw [Finset.sum_range]
  refine Finset.sum_congr rfl fun r _ => ?_
  rw [iblk_d, iblk_y, iblk_l, iblk_b]
  unfold linAt
  rw [dif_pos (row t r).isLt]
  rfl

theorem lin_block (t : Fin cfg0.N) (r : Fin 512) (k : Fin 1024) :
    (outsAt0 m c t.val t.isLt).1 (ix2 r k) = lin m c (ix2 (row t r) (col t k)) := by
  by_cases h0 : t.val % 16 = 0
  · rw [outsAt0_A m c t h0 (by omega)]
    dsimp only
    rw [first.1, pt_lin]
  · rw [outsAt0_B m c t h0 (by omega)]
    dsimp only
    rw [next.1, pt_lin]

theorem z_block (t : Fin cfg0.N) (r : Fin 512) (k : Fin 1024) :
    (outsAt0 m c t.val t.isLt).2.1 (ix2 r k) = dz m c (ix2 (row t r) (col t k)) := by
  by_cases h0 : t.val % 16 = 0
  · rw [outsAt0_A m c t h0 (by omega)]
    dsimp only
    rw [first.2.1, pt_z]
  · rw [outsAt0_B m c t h0 (by omega)]
    dsimp only
    rw [next.2.1, pt_z]

/-- After a point the bias gradient holds the sum of its column's blocks so far. -/
theorem acc : ∀ (n : ℕ) (hn : n < cfg0.N) (k : Fin 1024),
    (outsAt0 m c n hn).2.2 (ix2 0 k) = ∑ p ∈ Finset.range (n % 16 + 1), blk m c (col ⟨n, hn⟩ k) p
  | n, hn, k => by
    by_cases h0 : n % 16 = 0
    · rw [outsAt0_A m c ⟨n, hn⟩ h0 (by dsimp only; omega)]
      dsimp only
      rw [first.2.2, pt_b]
      dsimp only
      rw [h0, Finset.sum_range_one]
    · rw [outsAt0_B m c ⟨n, hn⟩ h0 (by dsimp only; omega)]
      dsimp only
      rw [next.2.2, Finset.sum_range_succ]
      refine congrArg₂ _ ((acc (n - 1) (by omega) k).trans ?_) (pt_b m c ⟨n, hn⟩ k)
      rw [show (n - 1) % 16 + 1 = n % 16 by omega]
      refine Finset.sum_congr rfl fun p _ => congrArg (fun q => blk m c q p) (Fin.ext ?_)
      show 1024 * ((n - 1) / 16) + k.val = 1024 * (n / 16) + k.val
      rw [show (n - 1) / 16 = n / 16 by omega]
termination_by n => n
decreasing_by omega

theorem mem4 (t : Fin cfg0.N) (i : S8192x2048.Idx) :
    i ∈ ((cfg0.win 4).blk t).view.set ↔ ∀ a : Fin 2, win0_4.index t a * S512x1024.size a ≤ i a ∧ (i a : ℕ) < win0_4.index t a * S512x1024.size a + S512x1024.size a := by
  show i ∈ ((View.whole main_v0_0).slice (win0_4.rect t)).set ↔ _
  rw [View.set_slice_whole, Rect.mem_set_unit]; exact Iff.rfl

theorem mem5 (t : Fin cfg0.N) (i : S8192x2048.Idx) :
    i ∈ ((cfg0.win 5).blk t).view.set ↔ ∀ a : Fin 2, win0_5.index t a * S512x1024.size a ≤ i a ∧ (i a : ℕ) < win0_5.index t a * S512x1024.size a + S512x1024.size a := by
  show i ∈ ((View.whole main_v0_1).slice (win0_5.rect t)).set ↔ _
  rw [View.set_slice_whole, Rect.mem_set_unit]; exact Iff.rfl

theorem mem6 (t : Fin cfg0.N) (i : S1x2048.Idx) :
    i ∈ ((cfg0.win 6).blk t).view.set ↔ ∀ a : Fin 2, win0_6.index t a * S1x1024.size a ≤ i a ∧ (i a : ℕ) < win0_6.index t a * S1x1024.size a + S1x1024.size a := by
  show i ∈ ((View.whole main_v0_2).slice (win0_6.rect t)).set ↔ _
  rw [View.set_slice_whole, Rect.mem_set_unit]; exact Iff.rfl

/-- The point whose block holds an entry. -/
abbrev point (i : S8192x2048.Idx) : Fin cfg0.N :=
  ⟨(i 0).val / 512 + 16 * ((i 1).val / 1024), by
    have h0 : (i 0 : Nat) < 8192 := (i 0).isLt
    have h1 : (i 1 : Nat) < 2048 := (i 1).isLt
    have hN : cfg0.N = 32 := N_0
    omega⟩

theorem final_lin : (Gen.dats m 0 c).arrAt 4 cfg0.N = lin m c := by
  refine (Gen.dats m 0 c).arrAt_eq_of_cover 4 (lin m c) (fun t _ => ?_) fun i => ⟨point i, flush0_4 _, ?_⟩
  · rw [Value.flushed4]
    funext j
    obtain ⟨-, -, -, -, hi, -⟩ := idx_facts t
    rw [View.read_apply]
    idx_vars j
    have e : ((cfg0.win 4).blk t).view.emb (ix2 j0 j1) = (ix2 (row t j0) (col t j1) : S8192x2048.Idx) := by
      funext a
      apply Fin.ext
      match a with
      | ⟨0, _⟩ => show win0_4.index t 0 * 512 + 1 * j0.val = 512 * (t.val % 16) + j0.val; rw [hi.1]; omega
      | ⟨1, _⟩ => show win0_4.index t 1 * 1024 + 1 * j1.val = 1024 * (t.val / 16) + j1.val; rw [hi.2]; omega
    exact (lin_block m c t j0 j1).trans (congrArg (lin m c) e).symm
  · have h0 : (i 0 : Nat) < 8192 := (i 0).isLt
    obtain ⟨-, -, -, -, hi, -⟩ := idx_facts (point i)
    rw [mem4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 1024 ≤ (i 1).val ∧ (i 1).val < win0_4.index _ 1 * 1024 + 1024
      rw [hi.2]; dsimp only; omega

theorem final_z : (Gen.dats m 0 c).arrAt 5 cfg0.N = dz m c := by
  refine (Gen.dats m 0 c).arrAt_eq_of_cover 5 (dz m c) (fun t _ => ?_) fun i => ⟨point i, flush0_5 _, ?_⟩
  · rw [Value.flushed5]
    funext j
    obtain ⟨-, -, -, -, -, hi, -⟩ := idx_facts t
    rw [View.read_apply]
    idx_vars j
    have e : ((cfg0.win 5).blk t).view.emb (ix2 j0 j1) = (ix2 (row t j0) (col t j1) : S8192x2048.Idx) := by
      funext a
      apply Fin.ext
      match a with
      | ⟨0, _⟩ => show win0_5.index t 0 * 512 + 1 * j0.val = 512 * (t.val % 16) + j0.val; rw [hi.1]; omega
      | ⟨1, _⟩ => show win0_5.index t 1 * 1024 + 1 * j1.val = 1024 * (t.val / 16) + j1.val; rw [hi.2]; omega
    exact (z_block m c t j0 j1).trans (congrArg (dz m c) e).symm
  · have h0 : (i 0 : Nat) < 8192 := (i 0).isLt
    obtain ⟨-, -, -, -, -, hi, -⟩ := idx_facts (point i)
    rw [mem5]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 1024 ≤ (i 1).val ∧ (i 1).val < win0_5.index _ 1 * 1024 + 1024
      rw [hi.2]; dsimp only; omega

theorem final_b : (Gen.dats m 0 c).arrAt 6 cfg0.N = db m c := by
  refine (Gen.dats m 0 c).arrAt_eq_of_cover 6 (db m c) (fun t hf => ?_) fun i => ?_
  · have h15 : t.val % 16 = 15 := (flush0_6 t).mp hf
    rw [Value.flushed6]
    funext j
    obtain ⟨-, -, -, -, -, -, hi⟩ := idx_facts t
    rw [View.read_apply]
    idx_vars j
    obtain rfl : j0 = 0 := Subsingleton.elim _ _
    have e : ((cfg0.win 6).blk t).view.emb (ix2 0 j1) = (ix2 0 (col t j1) : S1x2048.Idx) := by
      funext a
      apply Fin.ext
      match a with
      | ⟨0, _⟩ => show win0_6.index t 0 * 1 + 1 * 0 = 0; rw [hi.1]
      | ⟨1, _⟩ => show win0_6.index t 1 * 1024 + 1 * j1.val = 1024 * (t.val / 16) + j1.val; rw [hi.2]; omega
    refine ((acc m c t.val t.isLt j1).trans ?_).trans (congrArg (db m c) e).symm
    rw [h15]
    rfl
  · have h1 : (i 1 : Nat) < 2048 := (i 1).isLt
    have h0 : (i 0 : Nat) < 1 := (i 0).isLt
    have hN : cfg0.N = 32 := N_0
    refine ⟨⟨15 + 16 * ((i 1).val / 1024), by omega⟩, (flush0_6 _).mpr (by dsimp only; omega), ?_⟩
    obtain ⟨-, -, -, -, -, -, hi⟩ := idx_facts ⟨15 + 16 * ((i 1).val / 1024), by omega⟩
    rw [mem6]
    intro a
    match a with
    | ⟨0, _⟩ =>
      show win0_6.index _ 0 * 1 ≤ (i 0).val ∧ (i 0).val < win0_6.index _ 0 * 1 + 1
      rw [hi.1]; omega
    | ⟨1, _⟩ =>
      show win0_6.index _ 1 * 1024 ≤ (i 1).val ∧ (i 1).val < win0_6.index _ 1 * 1024 + 1024
      rw [hi.2]; dsimp only; omega

end Cert.MixKIdeal.Ker

end
-- ==== Proof.MixMain.lean ====
/- The claims about the gate's backward kernel: its frames, and that its three results are the reference's on any arguments. -/
module

public import proofs.«01_k».proof.Defs
public import proofs.«01_k».proof.Proof.MixKer
public import proofs.«01_k».proof.Proof.Gen.MixRIdeal.Read
public import proofs.«01_k».proof.Proof.Gen.MixRIdeal.Run
public import proofs.«01_k».proof.Proof.Gen.MixK.Frame

@[expose] public section

set_option maxRecDepth 16384

noncomputable section

namespace Cert.Mix

open Idealize.ShloMosaic Idealize.ShloMosaic.TcCoe Idealize.SL.Sem Cert.Finite Cert.MixKIdeal.Ker Cert.MixRIdeal Cert.MixRIdeal.Read

section
variable (d y l : FVec Ideal S8192x2048 .f32) (b : FVec Ideal S1x2048 .f32)

/-- The reference's gate. -/
theorem ref_gate (r : Fin 8192) (k : Fin 2048) :
    val_main_v20 (F := Ideal) l b (ix2 r k) = gate (l (ix2 r k)) (b (ix2 0 k)) := by
  pointwise [val_main_v20, val_main_v19, val_main_v18, val_main_v17, val_main_v16, val_main_v15, val_main_v14, val_main_v13,
    val_main_cst_3, val_main_cst_4]
  rfl

theorem ref_act (r : Fin 8192) (k : Fin 2048) : val_main_v12 (F := Ideal) y (ix2 r k) = act (y (ix2 r k)) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rw [mul_comm (y _ * y _) (y _)]
  rfl

theorem ref_lin (r : Fin 8192) (k : Fin 2048) :
    val_main_v27 (F := Ideal) d y l b (ix2 r k) = linArr d y l b (ix2 r k) := by
  pointwise [val_main_v27, val_main_v25, val_main_v23, val_main_v22, val_main_v21, val_main_cst_5]
  rw [ref_gate, ref_act, mul_comm (act _)]
  rfl

theorem ref_lin16 : val_main_v30 (F := Ideal) d y l b = linArr d y l b := by
  funext j
  idx_vars j
  pointwise [val_main_v30]
  exact ref_lin d y l b j0 j1

theorem ref_z : val_main_v26 (F := Ideal) d l b = zArr d l b := by
  funext j
  idx_vars j
  pointwise [val_main_v26]
  rw [ref_gate]
  rfl

theorem ref_b : val_main_v29 (F := Ideal) d y l b = bArr d y l b := by
  funext j
  idx_vars j
  obtain rfl : j0 = 0 := Subsingleton.elim _ _
  pointwise [val_main_v29, val_main_v28, val_main_cst_6]
  show _ = ∑ p ∈ Finset.range 16, blockB d y l b j1 p
  unfold blockB
  rw [sum_blocks (linAt d y l b j1) 512 16, Finset.sum_range]
  refine Finset.sum_congr rfl fun r _ => (ref_lin d y l b r j1).trans ?_
  unfold linAt
  rw [dif_pos r.isLt]

end

theorem frame_k : Cert.quiescent_MixK := fun m ρ _ => Cert.MixK.Gen.frame m ρ
theorem frame_ki : Cert.quiescent_MixKIdeal := fun m ρ _ => Cert.MixKIdeal.Gen.frame m ρ

theorem frame_ri : Cert.quiescent_MixRIdeal := fun m ρ _ =>
  (θ_run Cert.MixRIdeal.defs _ _).mono (fun _ h => ⟨fun c => (h c).2.2.2, funext fun s => nomatch s⟩)
    (Cert.MixRIdeal.Value.run (F := Ideal) m ρ)

theorem value : Cert.algebraic_MixKIdeal_MixRIdeal := by
  intro m ρ m' ρ' _ hm
  refine ⟨fun c => lin m c, fun c => dz m c, fun c => db m c, ?_, ?_⟩
  · refine (θ_run Cert.MixKIdeal.defs _ _).mono (fun r hr c => ?_) (Cert.MixKIdeal.Value.run_blocks m ρ)
    obtain ⟨h0, h1, h2, h3⟩ := hr c
    exact ⟨h0.trans (final_lin m c), h1.trans (final_z m c), h2.trans (final_b m c), h3⟩
  · refine (θ_run Cert.MixRIdeal.defs _ _).mono (fun r hr c => ?_) (Cert.MixRIdeal.Value.run (F := Ideal) m' ρ')
    obtain ⟨h0, h1, h2, h3⟩ := hr c
    obtain ⟨e0, e1, e2, e3⟩ := hm c
    refine ⟨h0.trans ((val_main_v30_eq _ _ _ _).trans ((ref_lin16 _ _ _ _).trans ?_)), h1.trans ((val_main_v26_eq _ _ _).trans ((ref_z _ _ _).trans ?_)),
      h2.trans ((val_main_v29_eq _ _ _ _).trans ((ref_b _ _ _ _).trans ?_)), h3⟩
    · rw [e0, e1, e2, e3]
    · rw [e0, e2, e3]
    · rw [e0, e1, e2, e3]

end Cert.Mix

end
-- ==== Proof.FeedMain.lean ====
/- The claims about the feed-through's gradient: its frames, and that its result is the reference's on any arguments. -/
module

public import proofs.«01_k».proof.Defs
public import proofs.«01_k».proof.Proof.Gen.FeedKIdeal.Value
public import proofs.«01_k».proof.Proof.Gen.FeedRIdeal.Read
public import proofs.«01_k».proof.Proof.Gen.FeedRIdeal.Run
public import proofs.«01_k».proof.Proof.Gen.FeedK.Frame
public import Idealize.ShloMosaic.Lib.Pointwise

@[expose] public section

set_option maxRecDepth 16384

noncomputable section

namespace Cert.FeedKIdeal.Ker

open Idealize.ShloMosaic Idealize.ShloMosaic.TcCoe Idealize.ShloMosaic.Tactic Cert.FeedKIdeal Cert.FeedKIdeal.Gen
open Idealize.SL.Sem

theorem hz : (![0, 0] : Fin 2 → Nat) = fun _ => 0 := funext fun a => by fin_cases a <;> rfl

variable (m : (ℓ : Loc nD τ sig) → Buf (Elt Ideal) ℓ) (c : Dev nD)

theorem idx_facts : ∀ t : Fin cfg0.N, (win0_0.index t 0 = t.val % 16 ∧ win0_0.index t 1 = t.val / 16)
    ∧ (win0_1.index t 0 = t.val % 16 ∧ win0_1.index t 1 = t.val / 16) ∧ (win0_2.index t 0 = t.val % 16 ∧ win0_2.index t 1 = t.val / 16)
    ∧ (win0_3.index t 0 = 0 ∧ win0_3.index t 1 = t.val / 16) ∧ (win0_4.index t 0 = t.val % 16 ∧ win0_4.index t 1 = t.val / 16) :=
  (by decide +kernel : ∀ t : Fin grid0.N, _)

/-- The gradient: the scaled cotangent and the two directions' cotangents. -/
def duArr (g a b : S8192x2048.Idx → EReal) (d : S1x2048.Idx → EReal) : S8192x2048.Idx → EReal :=
  fun i => d (ix2 0 (i 1)) * g i + a i + b i

abbrev du (m : (ℓ : Loc nD τ sig) → Buf (Elt Ideal) ℓ) (c : Dev nD) : S8192x2048.Idx → EReal :=
  duArr (m ((c : Thread nD τ).loc main_arg0)) (m ((c : Thread nD τ).loc main_arg1)) (m ((c : Thread nD τ).loc main_arg2)) (m ((c : Thread nD τ).loc main_arg3))

theorem pay (g a b : FVec Ideal S512x1024 .f32) (d : FVec Ideal S1x1024 .f32) (r : Fin 512) (k : Fin 1024) :
    out0_4 (F := Ideal) g a b d (ix2 r k) = d (ix2 0 k) * g (ix2 r k) + a (ix2 r k) + b (ix2 r k) := by
  unfold out0_4
  rw [View.canon_unit_zero hz]
  simp only [View.ld_unit_zero (S := S512x1024) hz, View.ld_unit_zero (S := S1x1024) hz]
  pointwise [k0_pay1]

/-- A point's block of the result. -/
theorem block (t : Fin cfg0.N) (r : Fin 512) (k : Fin 1024) :
    out0_4 (F := Ideal) (iblk m c 0 t) (iblk m c 1 t) (iblk m c 2 t) (iblk m c 3 t) (ix2 r k) = du m c (((cfg0.win 4).blk t).view.emb (ix2 r k)) := by
  obtain ⟨-, -, -, h3, h4⟩ := idx_facts t
  rw [pay]
  unfold iblk
  simp only [View.read_apply]
  refine congrArg₂ _ (congrArg₂ _ (congrArg₂ _ ?_ ?_) ?_) ?_
  · show m ((c : Thread nD τ).loc main_arg3) _ = m ((c : Thread nD τ).loc main_arg3) _
    congr 1
    funext a
    apply Fin.ext
    match a with
    | ⟨0, _⟩ => show win0_3.index t 0 * 1 + 1 * 0 = 0; rw [h3.1]
    | ⟨1, _⟩ => show win0_3.index t 1 * 1024 + 1 * k.val = win0_4.index t 1 * 1024 + 1 * k.val; rw [h3.2, h4.2]
  · rfl
  · rfl
  · rfl

theorem mem4 (t : Fin cfg0.N) (i : S8192x2048.Idx) :
    i ∈ ((cfg0.win 4).blk t).view.set ↔ ∀ a : Fin 2, win0_4.index t a * S512x1024.size a ≤ i a ∧ (i a : ℕ) < win0_4.index t a * S512x1024.size a + S512x1024.size a := by
  show i ∈ ((View.whole main_v0).slice (win0_4.rect t)).set ↔ _
  rw [View.set_slice_whole, Rect.mem_set_unit]; exact Iff.rfl

theorem final : (Gen.dats m 0 c).arrAt 4 cfg0.N = du m c := by
  refine (Gen.dats m 0 c).arrAt_eq_of_cover 4 (du m c) (fun t _ => ?_) fun (i : S8192x2048.Idx) => ?_
  · rw [Value.flushed4]
    funext j
    rw [View.read_apply]
    idx_vars j
    exact block m c t j0 j1
  · have h0 : (i 0 : Nat) < 8192 := (i 0).isLt
    have h1 : (i 1 : Nat) < 2048 := (i 1).isLt
    have hN : cfg0.N = 32 := N_0
    refine ⟨⟨(i 0).val / 512 + 16 * ((i 1).val / 1024), by omega⟩, flush0_4 _, ?_⟩
    obtain ⟨-, -, -, -, hi⟩ := idx_facts ⟨(i 0).val / 512 + 16 * ((i 1).val / 1024), by omega⟩
    rw [mem4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 1024 ≤ (i 1).val ∧ (i 1).val < win0_4.index _ 1 * 1024 + 1024
      rw [hi.2]; dsimp only; omega

end Cert.FeedKIdeal.Ker

namespace Cert.Feed

open Idealize.ShloMosaic Idealize.ShloMosaic.TcCoe Idealize.SL.Sem Cert.FeedKIdeal.Ker Cert.FeedRIdeal Cert.FeedRIdeal.Read

theorem ref_du (g a b : FVec Ideal S8192x2048 .f32) (d : FVec Ideal S1x2048 .f32) :
    val_main_v6 (F := Ideal) g a b d = duArr g a b d := by
  funext j
  idx_vars j
  pointwise [val_main_v6, val_main_v5, val_main_v4, val_main_v3]
  rw [add_comm, ← add_assoc]
  rfl

theorem frame_k : Cert.quiescent_FeedK := fun m ρ _ => Cert.FeedK.Gen.frame m ρ
theorem frame_ki : Cert.quiescent_FeedKIdeal := fun m ρ _ => Cert.FeedKIdeal.Gen.frame m ρ

theorem frame_ri : Cert.quiescent_FeedRIdeal := fun m ρ _ =>
  (θ_run Cert.FeedRIdeal.defs _ _).mono (fun _ h => ⟨fun c => (h c).2, funext fun s => nomatch s⟩)
    (Cert.FeedRIdeal.Value.run (F := Ideal) m ρ)

theorem value : Cert.algebraic_FeedKIdeal_FeedRIdeal := by
  intro m ρ m' ρ' _ hm
  refine ⟨fun c => du m c, ?_, ?_⟩
  · refine (θ_run Cert.FeedKIdeal.defs _ _).mono (fun r hr c => ?_) (Cert.FeedKIdeal.Value.run_blocks m ρ)
    exact ⟨(hr c).1.trans (final m c), (hr c).2⟩
  · refine (θ_run Cert.FeedRIdeal.defs _ _).mono (fun r hr c => ?_) (Cert.FeedRIdeal.Value.run (F := Ideal) m' ρ')
    obtain ⟨e0, e1, e2, e3⟩ := hm c
    refine ⟨(hr c).1.trans ((val_main_v6_eq _ _ _ _).trans ((ref_du _ _ _ _).trans ?_)), (hr c).2⟩
    rw [e0, e1, e2, e3]

end Cert.Feed

end
-- ==== Proof.FnormMain.lean ====
/- The claims about the norm's forward kernel: its frames, and that its two results are the reference's on any arguments. -/
module

public import proofs.«01_k».proof.Defs
public import proofs.«01_k».proof.Proof.Gen.FnormKIdeal.Value
public import proofs.«01_k».proof.Proof.Gen.FnormRIdeal.Read
public import proofs.«01_k».proof.Proof.Gen.FnormRIdeal.Run
public import proofs.«01_k».proof.Proof.Gen.FnormK.Frame
public import Idealize.ShloMosaic.Lib.Pointwise

@[expose] public section

set_option maxRecDepth 16384

noncomputable section

namespace Cert.FnormKIdeal.Ker

open Idealize.ShloMosaic Idealize.ShloMosaic.TcCoe Idealize.ShloMosaic.Tactic Cert.FnormKIdeal Cert.FnormKIdeal.Gen
open Idealize.SL.Sem

theorem hz : (![0, 0] : Fin 2 → Nat) = fun _ => 0 := funext fun a => by fin_cases a <;> rfl

/-- The reciprocal root mean square of a row. -/
def root (x : Fin 2048 → EReal) : EReal :=
  Ideal.rsqrt (Ideal.div (∑ k, x k * x k) (Ideal.ofBits .f32 0x45000000#32) + Ideal.ofBits .f32 0x358637BD#32)

/-- The two results. -/
def rootArr (x : S8192x2048.Idx → EReal) : S8192x1.Idx → EReal := fun i => root fun k => x (ix2 (i 0) k)
def normArr (x : S8192x2048.Idx → EReal) (g : S1x2048.Idx → EReal) : S8192x2048.Idx → EReal :=
  fun i => x i * root (fun k => x (ix2 (i 0) k)) * g (ix2 0 (i 1))

theorem pay_root (x : FVec Ideal S512x2048 .f32) (g : FVec Ideal S1x2048 .f32) (r : Fin 512) :
    out0_3 (F := Ideal) x g (ix2 r 0) = root fun k => x (ix2 r k) := by
  unfold out0_3
  rw [View.canon_unit_zero hz]
  simp only [View.ld_unit_zero (S := S512x2048) hz]
  pointwise [k0_pay1]
  rfl

theorem pay_norm (x : FVec Ideal S512x2048 .f32) (g : FVec Ideal S1x2048 .f32) (r : Fin 512) (k : Fin 2048) :
    out0_2 (F := Ideal) x g (ix2 r k) = x (ix2 r k) * root (fun k => x (ix2 r k)) * g (ix2 0 k) := by
  unfold out0_2
  rw [View.canon_unit_zero hz]
  simp only [View.ld_unit_zero (S := S512x2048) hz, View.ld_unit_zero (S := S1x2048) hz]
  pointwise [k0_pay2, k0_pay1]
  rfl

variable (m : (ℓ : Loc nD τ sig) → Buf (Elt Ideal) ℓ) (c : Dev nD)

theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- Row `r` of block `t`. -/
abbrev row (t : Fin cfg0.N) (r : Fin 512) : Fin 8192 :=
  ⟨512 * t.val + r.val, by have : t.val < 16 := t.isLt.trans_eq N_0; omega⟩

theorem iblk_x (t : Fin cfg0.N) (r : Fin 512) (k : Fin 2048) :
    (iblk m c 0 t : Vec Ideal S512x2048 .f32) (ix2 r k) = m ((c : Thread nD τ).loc main_arg0) (ix2 (row t r) k) := by
  obtain ⟨hi, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = 512 * t.val + r.val; rw [hi.1]; omega
  | ⟨1, _⟩ => show win0_0.index t 1 * 2048 + 1 * k.val = k.val; rw [hi.2]; omega

theorem iblk_g (t : Fin cfg0.N) (k : Fin 2048) :
    (iblk m c 1 t : Vec Ideal S1x2048 .f32) (ix2 0 k) = m ((c : Thread nD τ).loc main_arg1) (ix2 0 k) := by
  obtain ⟨-, hi, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem mem2 (t : Fin cfg0.N) (i : S8192x2048.Idx) :
    i ∈ ((cfg0.win 2).blk t).view.set ↔ ∀ a : Fin 2, win0_2.index t a * S512x2048.size a ≤ i a ∧ (i a : ℕ) < win0_2.index t a * S512x2048.size a + S512x2048.size a := by
  show i ∈ ((View.whole main_v0_0).slice (win0_2.rect t)).set ↔ _
  rw [View.set_slice_whole, Rect.mem_set_unit]; exact Iff.rfl

theorem mem3 (t : Fin cfg0.N) (i : S8192x1.Idx) :
    i ∈ ((cfg0.win 3).blk t).view.set ↔ ∀ a : Fin 2, win0_3.index t a * S512x1.size a ≤ i a ∧ (i a : ℕ) < win0_3.index t a * S512x1.size a + S512x1.size a := by
  show i ∈ ((View.whole main_v0_1).slice (win0_3.rect t)).set ↔ _
  rw [View.set_slice_whole, Rect.mem_set_unit]; exact Iff.rfl

theorem final_norm : (Gen.dats m 0 c).arrAt 2 cfg0.N = normArr (m ((c : Thread nD τ).loc main_arg0)) (m ((c : Thread nD τ).loc main_arg1)) := by
  refine (Gen.dats m 0 c).arrAt_eq_of_cover 2 (normArr (m ((c : Thread nD τ).loc main_arg0)) (m ((c : Thread nD τ).loc main_arg1))) (fun t _ => ?_) fun (i : S8192x2048.Idx) => ?_
  · rw [Value.flushed2]
    funext j
    obtain ⟨-, -, hi, -⟩ := idx_facts t
    rw [View.read_apply]
    idx_vars j
    have e : ((cfg0.win 2).blk t).view.emb (ix2 j0 j1) = (ix2 (row t j0) j1 : S8192x2048.Idx) := by
      funext a
      apply Fin.ext
      match a with
      | ⟨0, _⟩ => show win0_2.index t 0 * 512 + 1 * j0.val = 512 * t.val + j0.val; rw [hi.1]; omega
      | ⟨1, _⟩ => show win0_2.index t 1 * 2048 + 1 * j1.val = j1.val; rw [hi.2]; omega
    refine Eq.trans ((pay_norm (iblk m c 0 t) (iblk m c 1 t) j0 j1).trans ?_) (congrArg (normArr _ _) e).symm
    simp only [iblk_x, iblk_g]
    rfl
  · have h0 : (i 0 : Nat) < 8192 := (i 0).isLt
    have h1 : (i 1 : Nat) < 2048 := (i 1).isLt
    have hN : cfg0.N = 16 := N_0
    refine ⟨⟨(i 0).val / 512, by omega⟩, flush0_2 _, ?_⟩
    obtain ⟨-, -, hi, -⟩ := idx_facts ⟨(i 0).val / 512, by omega⟩
    rw [mem2]
    intro a
    match a with
    | ⟨0, _⟩ =>
      show win0_2.index _ 0 * 512 ≤ (i 0).val ∧ (i 0).val < win0_2.index _ 0 * 512 + 512
      rw [hi.1]; dsimp only; omega
    | ⟨1, _⟩ =>
      show win0_2.index _ 1 * 2048 ≤ (i 1).val ∧ (i 1).val < win0_2.index _ 1 * 2048 + 2048
      rw [hi.2]; omega

theorem final_root : (Gen.dats m 0 c).arrAt 3 cfg0.N = rootArr (m ((c : Thread nD τ).loc main_arg0)) := by
  refine (Gen.dats m 0 c).arrAt_eq_of_cover 3 (rootArr (m ((c : Thread nD τ).loc main_arg0))) (fun t _ => ?_) fun (i : S8192x1.Idx) => ?_
  · rw [Value.flushed3]
    funext j
    obtain ⟨-, -, -, hi⟩ := idx_facts t
    rw [View.read_apply]
    idx_vars j
    obtain rfl : j1 = 0 := Subsingleton.elim _ _
    have e : ((cfg0.win 3).blk t).view.emb (ix2 j0 0) = (ix2 (row t j0) 0 : S8192x1.Idx) := by
      funext a
      apply Fin.ext
      match a with
      | ⟨0, _⟩ => show win0_3.index t 0 * 512 + 1 * j0.val = 512 * t.val + j0.val; rw [hi.1]; omega
      | ⟨1, _⟩ => show win0_3.index t 1 * 1 + 1 * 0 = 0; rw [hi.2]
    refine Eq.trans ((pay_root (iblk m c 0 t) (iblk m c 1 t) j0).trans ?_) (congrArg (rootArr _) e).symm
    simp only [iblk_x]
    rfl
  · have h0 : (i 0 : Nat) < 8192 := (i 0).isLt
    have h1 : (i 1 : Nat) < 1 := (i 1).isLt
    have hN : cfg0.N = 16 := N_0
    refine ⟨⟨(i 0).val / 512, by omega⟩, flush0_3 _, ?_⟩
    obtain ⟨-, -, -, hi⟩ := idx_facts ⟨(i 0).val / 512, by omega⟩
    rw [mem3]
    intro a
    match a with
    | ⟨0, _⟩ =>
      show win0_3.index _ 0 * 512 ≤ (i 0).val ∧ (i 0).val < win0_3.index _ 0 * 512 + 512
      rw [hi.1]; dsimp only; omega
    | ⟨1, _⟩ =>
      show win0_3.index _ 1 * 1 ≤ (i 1).val ∧ (i 1).val < win0_3.index _ 1 * 1 + 1
      rw [hi.2]; omega

end Cert.FnormKIdeal.Ker

namespace Cert.Fnorm

open Idealize.ShloMosaic Idealize.ShloMosaic.TcCoe Idealize.SL.Sem Cert.FnormKIdeal.Ker Cert.FnormRIdeal Cert.FnormRIdeal.Read

theorem ref_root (x : FVec Ideal S8192x2048 .f32) : val_main_v7 (F := Ideal) x = rootArr x := by
  funext j
  idx_vars j
  obtain rfl : j1 = 0 := Subsingleton.elim _ _
  pointwise [val_main_v7, val_main_v6, val_main_v5, val_main_v4, val_main_v3, val_main_v2, val_main_v1, val_main_v0, val_main_cst,
    val_main_cst_0, val_main_cst_1]
  rfl

theorem ref_norm (x : FVec Ideal S8192x2048 .f32) (g : FVec Ideal S1x2048 .f32) : val_main_v11 (F := Ideal) x g = normArr x g := by
  funext j
  idx_vars j
  pointwise [val_main_v11, val_main_v10, val_main_v9, val_main_v8]
  rw [ref_root]
  rfl

theorem frame_k : Cert.quiescent_FnormK := fun m ρ _ => Cert.FnormK.Gen.frame m ρ
theorem frame_ki : Cert.quiescent_FnormKIdeal := fun m ρ _ => Cert.FnormKIdeal.Gen.frame m ρ

theorem frame_ri : Cert.quiescent_FnormRIdeal := fun m ρ _ =>
  (θ_run Cert.FnormRIdeal.defs _ _).mono (fun _ h => ⟨fun c => (h c).2.2, funext fun s => nomatch s⟩)
    (Cert.FnormRIdeal.Value.run (F := Ideal) m ρ)

theorem value : Cert.algebraic_FnormKIdeal_FnormRIdeal := by
  intro m ρ m' ρ' _ hm
  refine ⟨fun c => normArr (m ((c.tc : Thread Cert.FnormKIdeal.nD Cert.FnormKIdeal.τ).loc Cert.FnormKIdeal.main_arg0)) (m ((c.tc : Thread Cert.FnormKIdeal.nD Cert.FnormKIdeal.τ).loc Cert.FnormKIdeal.main_arg1)),
    fun c => rootArr (m ((c.tc : Thread Cert.FnormKIdeal.nD Cert.FnormKIdeal.τ).loc Cert.FnormKIdeal.main_arg0)), ?_, ?_⟩
  · refine (θ_run Cert.FnormKIdeal.defs _ _).mono (fun r hr c => ?_) (Cert.FnormKIdeal.Value.run_blocks m ρ)
    exact ⟨(hr c).1.trans (final_norm m c), (hr c).2.1.trans (final_root m c), (hr c).2.2⟩
  · refine (θ_run Cert.FnormRIdeal.defs _ _).mono (fun r hr c => ?_) (Cert.FnormRIdeal.Value.run (F := Ideal) m' ρ')
    obtain ⟨e0, e1⟩ := hm c
    refine ⟨(hr c).1.trans ((val_main_v11_eq _ _).trans ((ref_norm _ _).trans ?_)), (hr c).2.1.trans ((val_main_v7_eq _).trans ((ref_root _).trans ?_)), (hr c).2.2⟩
    · rw [e0, e1]
    · rw [e0]

end Cert.Fnorm

end
-- ==== Proof.GeluSpec.lean ====
/- The gradient of the activation with the hyperbolic tangent, over the real numbers, and the arrays both programs end with. -/
module

public import proofs.«01_k».proof.Proof.Finite
public import Idealize.ShloMosaic.Lib.Pointwise

@[expose] public section

set_option maxRecDepth 16384

noncomputable section

namespace Cert.GeluSpec

open Idealize.ShloMosaic Cert.Finite

/-- The single-precision square root of two over pi. -/
def c0 : ℝ := 13386282 / 16777216

theorem ofBits_c0 : Ideal.ofBits .f32 0x3F4C422A#32 = (c0 : EReal) := by
  unfold c0
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- The tangent inside the activation. -/
def tan (y : ℝ) : ℝ := Real.tanh (c0 * (y + 8943 / 200000 * y * y * y))

/-- The activation's derivative. -/
def slope (y : ℝ) : ℝ :=
  1 / 2 * (1 + tan y) + 1 / 2 * y * (1 - tan y * tan y) * (c0 * (1 + 26829 / 200000 * y * y))

/-- One entry of the gradient by the activation's argument `d u + w`, from the two cotangents. -/
def entry (a b u w d : EReal) : EReal :=
  (((a.toReal + b.toReal) * slope (d.toReal * u.toReal + w.toReal) : ℝ) : EReal)

/-- A number is finite. -/
abbrev Fin' (x : EReal) : Prop := x = (x.toReal : EReal)

theorem fin_of_cmp {x : EReal} (h : Ideal.cmp .olt (max x (-x)) (Ideal.ofBits .f32 0x7F800000#32) = 1#1) : Fin' x := by
  obtain ⟨r, rfl⟩ := real_of_cmp h
  rw [Fin', EReal.toReal_coe]

/-- The five arguments and their finiteness. -/
structure Args where
  (a b u w : (⟨2, ![8192, 2048]⟩ : Shape).Idx → EReal)
  d : (⟨2, ![1, 2048]⟩ : Shape).Idx → EReal
  fa : ∀ i, Fin' (a i)
  fb : ∀ i, Fin' (b i)
  fu : ∀ i, Fin' (u i)
  fw : ∀ i, Fin' (w i)
  fd : ∀ i, Fin' (d i)

variable (A : Args)

/-- The gradient by `w`. -/
def dw (r : Fin 8192) (k : Fin 2048) : EReal :=
  entry (A.a (ix2 r k)) (A.b (ix2 r k)) (A.u (ix2 r k)) (A.w (ix2 r k)) (A.d (ix2 0 k))
/-- One term of the gradient by `d`, by its row's number. -/
def ddAt (k : Fin 2048) (r : ℕ) : EReal := if h : r < 8192 then dw A ⟨r, h⟩ k * A.u (ix2 ⟨r, h⟩ k) else 0
/-- The terms of row block `p`. -/
def ddBlock (k : Fin 2048) (p : ℕ) : EReal := ∑ r ∈ Finset.range 512, ddAt A k (512 * p + r)
/-- The gradient by `d`. -/
def dd (k : Fin 2048) : EReal := ∑ p ∈ Finset.range 16, ddBlock A k p

theorem dd_rows (k : Fin 2048) : dd A k = ∑ r : Fin 8192, dw A r k * A.u (ix2 r k) := by
  unfold dd ddBlock
  rw [sum_blocks (ddAt A k) 512 16, Finset.sum_range]
  refine Finset.sum_congr rfl fun r _ => ?_
  unfold ddAt
  rw [dif_pos r.isLt]

end Cert.GeluSpec

end
-- ==== Proof.GeluKer.lean ====
/- The activation's backward kernel on finite arguments: one grid point's two results, and the whole arrays after the two times
   sixteen points. -/
module

public import proofs.«01_k».proof.Proof.GeluSpec
public import proofs.«01_k».proof.Proof.Gen.GeluKIdeal.Value
public import Idealize.ShloMosaic.Lib.StableHlo.ReadAt

@[expose] public section

set_option maxRecDepth 16384

noncomputable section

namespace Cert.GeluKIdeal.Ker

open Idealize.ShloMosaic Idealize.ShloMosaic.TcCoe Idealize.ShloMosaic.Tactic Cert.GeluKIdeal Cert.GeluKIdeal.Gen
open Idealize.SL.Sem Cert.Finite Cert.GeluSpec

/-! ## One entry -/

theorem a_eq : (Named.named (F := Ideal) κ "gelu_a" 0x3D372713#32 : Ideal .f32) = ((8943 / 200000 : ℝ) : EReal) := rfl
theorem a3_eq : (Named.named (F := Ideal) κ "gelu_3a" 0x3E095D4F#32 : Ideal .f32) = ((26829 / 200000 : ℝ) : EReal) := rfl

section
variable (a b y u : FVec Ideal S512x1024 .f32)

theorem pay_dw (r : Fin 512) (k : Fin 1024) (A B Y : ℝ) (hA : a (ix2 r k) = (A : EReal)) (hB : b (ix2 r k) = (B : EReal))
    (hY : y (ix2 r k) = (Y : EReal)) : k0_pay3 (F := Ideal) a b y (ix2 r k) = (((A + B) * slope Y : ℝ) : EReal) := by
  pointwise [k0_pay3, shapeCast_self]
  simp only [hA, hB, hY, a_eq, a3_eq, ofBits_half, ofBits_c0, ← EReal.coe_one, ← EReal.coe_mul, ← EReal.coe_add, ← EReal.coe_sub,
    Ideal.tanh_coe]
  rfl

theorem pay_dd (k : Fin 1024) :
    k0_pay1 (k0_pay4 (F := Ideal) a b y u) (ix2 0 k) = ∑ r : Fin 512, k0_pay3 (F := Ideal) a b y (ix2 r k) * u (ix2 r k) := by
  pointwise [k0_pay1, k0_pay4]

end

/-! ## What a point leaves in its two outputs' buffers -/

theorem hz : (![0, 0] : Fin 2 → Nat) = fun _ => 0 := funext fun a => by fin_cases a <;> rfl

section
variable {c : Dev nD} {i : grid0.Coords}
  {a2 : Memref sig .tc .vmem S512x1024 .f32} {h2 : a2.IsWhole} {a3 : Memref sig .tc .vmem S512x1024 .f32} {h3 : a3.IsWhole}
  {a4 : Memref sig .tc .vmem S512x1024 .f32} {h4 : a4.IsWhole} {a5 : Memref sig .tc .vmem S512x1024 .f32} {h5 : a5.IsWhole}
  {a6 : Memref sig .tc .vmem S512x1024 .f32} {h6 : a6.IsWhole} {a7 : Memref sig .tc .vmem S1x1024 .f32} {h7 : a7.IsWhole}
  {a b y u : Vec Ideal S512x1024 .f32} {o : Vec Ideal S1x1024 .f32}

theorem first {hc0 : cond0_0 i} {hc1 : ¬cond0_1 i} :
    out0_A_4 c i a2 h2 a3 h3 a4 h4 a5 h5 a6 h6 a7 h7 hc0 hc1 a b y u = k0_pay3 a b y
    ∧ out0_A_5 c i a2 h2 a3 h3 a4 h4 a5 h5 a6 h6 a7 h7 hc0 hc1 a b y u = k0_pay1 (k0_pay4 a b y u) := by
  unfold out0_A_4 out0_A_5
  rw [View.read_writes_eq_canon _ _ _ (cover0_A_4 c i a2 h2 a3 h3 a4 h4 a5 h5 a6 h6 a7 h7 hc0 hc1 a b y u),
    View.read_writes_eq_canon _ _ _ (cover0_A_5 c i a2 h2 a3 h3 a4 h4 a5 h5 a6 h6 a7 h7 hc0 hc1 a b y u)]
  unfold kernelRun0_A
  dsimp only
  sl_unfold_words
  simp only [View.readAt_eq_ld, h2.read_unread, h3.read_unread, h4.read_unread, h5.read_unread,
    View.ld_unit_zero (S := S512x1024) hz, View.ld_unit_zero (S := S1x1024) hz]
  refine ⟨?_, ?_⟩ <;> rw [View.canon_unit_zero hz]

theorem next {hc0 : ¬cond0_0 i} {hc1 : cond0_1 i} :
    out0_B_4 c i a2 h2 a3 h3 a4 h4 a5 h5 a6 h6 a7 h7 hc0 hc1 a b y u o = k0_pay3 a b y
    ∧ out0_B_5 c i a2 h2 a3 h3 a4 h4 a5 h5 a6 h6 a7 h7 hc0 hc1 a b y u o = addf o (k0_pay1 (k0_pay4 a b y u)) := by
  unfold out0_B_4 out0_B_5
  rw [View.read_writes_eq_canon _ _ _ (cover0_B_4 c i a2 h2 a3 h3 a4 h4 a5 h5 a6 h6 a7 h7 hc0 hc1 a b y u o),
    View.read_writes_eq_canon _ _ _ (cover0_B_5 c i a2 h2 a3 h3 a4 h4 a5 h5 a6 h6 a7 h7 hc0 hc1 a b y u o)]
  unfold kernelRun0_B
  dsimp only
  sl_unfold_words
  unfold k0_pay2
  simp only [View.readAt_eq_ld, h2.read_unread, h3.read_unread, h4.read_unread, h5.read_unread, h7.read_unread,
    View.ld_unit_zero (S := S512x1024) hz, View.ld_unit_zero (S := S1x1024) hz, shapeCast_self]
  refine ⟨?_, ?_⟩ <;> rw [View.canon_unit_zero hz]

end

/-! ## The blocks a point reads -/

variable (m : (ℓ : Loc nD τ sig) → Buf (Elt Ideal) ℓ) (c : Dev nD)

theorem idx_facts : ∀ t : Fin cfg0.N, (win0_0.index t 0 = t.val % 16 ∧ win0_0.index t 1 = t.val / 16)
    ∧ (win0_1.index t 0 = t.val % 16 ∧ win0_1.index t 1 = t.val / 16) ∧ (win0_2.index t 0 = t.val % 16 ∧ win0_2.index t 1 = t.val / 16)
    ∧ (win0_3.index t 0 = t.val % 16 ∧ win0_3.index t 1 = t.val / 16) ∧ (win0_4.index t 0 = t.val % 16 ∧ win0_4.index t 1 = t.val / 16)
    ∧ (win0_5.index t 0 = 0 ∧ win0_5.index t 1 = t.val / 16) :=
  (by decide +kernel : ∀ t : Fin grid0.N, _)

theorem lt_N (t : Fin cfg0.N) : t.val < 32 := t.isLt.trans_eq N_0

/-- Row `r` of point `t`'s block. -/
abbrev row (t : Fin cfg0.N) (r : Fin 512) : Fin 8192 := ⟨512 * (t.val % 16) + r.val, by omega⟩
/-- Column `k` of point `t`'s block. -/
abbrev col (t : Fin cfg0.N) (k : Fin 1024) : Fin 2048 := ⟨1024 * (t.val / 16) + k.val, by have := lt_N t; omega⟩

theorem iblk_a (t : Fin cfg0.N) (r : Fin 512) (k : Fin 1024) :
    (iblk m c 0 t : Vec Ideal S512x1024 .f32) (ix2 r k) = m ((c : Thread nD τ).loc main_arg0) (ix2 (row t r) (col t k)) := by
  obtain ⟨hi, -⟩ := idx_facts t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * (t.val % 16) + r.val; rw [hi.1]; omega
  | ⟨1, _⟩ => show win0_0.index t 1 * 1024 + 1 * k.val = 1024 * (t.val / 16) + k.val; rw [hi.2]; omega

theorem iblk_b (t : Fin cfg0.N) (r : Fin 512) (k : Fin 1024) :
    (iblk m c 1 t : Vec Ideal S512x1024 .f32) (ix2 r k) = m ((c : Thread nD τ).loc main_arg1) (ix2 (row t r) (col t k)) := by
  obtain ⟨-, hi, -⟩ := idx_facts t
  rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * (t.val % 16) + r.val; rw [hi.1]; omega
  | ⟨1, _⟩ => show win0_1.index t 1 * 1024 + 1 * k.val = 1024 * (t.val / 16) + k.val; rw [hi.2]; omega

theorem iblk_y (t : Fin cfg0.N) (r : Fin 512) (k : Fin 1024) :
    (iblk m c 2 t : Vec Ideal S512x1024 .f32) (ix2 r k) = V m c main_v2 (ix2 (row t r) (col t k)) := by
  obtain ⟨-, -, hi, -⟩ := idx_facts t
  unfold iblk
  rw [View.read_apply]
  show V m c main_v2 _ = V m c main_v2 _
  congr 1
  funext a
  apply Fin.ext
  match a with
  | ⟨0, _⟩ => show win0_2.index t 0 * 512 + 1 * r.val = 512 * (t.val % 16) + r.val; rw [hi.1]; omega
  | ⟨1, _⟩ => show win0_2.index t 1 * 1024 + 1 * k.val = 1024 * (t.val / 16) + k.val; rw [hi.2]; omega

theorem iblk_u (t : Fin cfg0.N) (r : Fin 512) (k : Fin 1024) :
    (iblk m c 3 t : Vec Ideal S512x1024 .f32) (ix2 r k) = m ((c : Thread nD τ).loc main_arg2) (ix2 (row t r) (col t k)) := by
  obtain ⟨-, -, -, hi, -⟩ := idx_facts t
  rw [← V_main_arg2 m c]
  unfold iblk
  rw [View.read_apply]
  show V m c main_arg2 _ = V m c main_arg2 _
  congr 1
  funext a
  apply Fin.ext
  match a with
  | ⟨0, _⟩ => show win0_3.index t 0 * 512 + 1 * r.val = 512 * (t.val % 16) + r.val; rw [hi.1]; omega
  | ⟨1, _⟩ => show win0_3.index t 1 * 1024 + 1 * k.val = 1024 * (t.val / 16) + k.val; rw [hi.2]; omega

/-- The arguments in memory are `A`. -/
structure Has (A : Args) : Prop where
  ha : m ((c : Thread nD τ).loc main_arg0) = A.a
  hb : m ((c : Thread nD τ).loc main_arg1) = A.b
  hu : m ((c : Thread nD τ).loc main_arg2) = A.u
  hw : m ((c : Thread nD τ).loc main_arg3) = A.w
  hd : m ((c : Thread nD τ).loc main_arg4) = A.d

/-! ## The whole arrays -/

/-- The gradients of device `c`. -/
abbrev dwArr (A : Args) : S8192x2048.Idx → EReal := fun i => dw A (i 0) (i 1)
abbrev ddArr (A : Args) : S1x2048.Idx → EReal := fun i => dd A (i 1)

variable {m c} {A : Args} (h : Has m c A)
include h

/-- The host's activation argument. -/
theorem host_y (r : Fin 8192) (k : Fin 2048) :
    V m c main_v2 (ix2 r k) = A.d (ix2 0 k) * A.u (ix2 r k) + A.w (ix2 r k) := by
  dsimp only [V, hostOps0]
  after_reads_at
  rw [h.hd, h.hu, h.hw]

theorem pt_dw (t : Fin cfg0.N) (r : Fin 512) (k : Fin 1024) :
    k0_pay3 (F := Ideal) (iblk m c 0 t) (iblk m c 1 t) (iblk m c 2 t) (ix2 r k) = dw A (row t r) (col t k) := by
  refine pay_dw _ _ _ r k _ _ _ ?_ ?_ ?_
  · rw [iblk_a, h.ha]; exact A.fa _
  · rw [iblk_b, h.hb]; exact A.fb _
  · rw [iblk_y, host_y h, EReal.coe_add, EReal.coe_mul]
    exact congrArg₂ _ (congrArg₂ _ (A.fd _) (A.fu _)) (A.fw _)

theorem pt_dd (t : Fin cfg0.N) (k : Fin 1024) :
    k0_pay1 (k0_pay4 (F := Ideal) (iblk m c 0 t) (iblk m c 1 t) (iblk m c 2 t) (iblk m c 3 t)) (ix2 0 k)
      = ddBlock A (col t k) (t.val % 16) := by
  rw [pay_dd]
  unfold ddBlock
  rw [Finset.sum_range]
  refine Finset.sum_congr rfl fun r _ => ?_
  rw [pt_dw h, iblk_u, h.hu]
  unfold ddAt
  rw [dif_pos (row t r).isLt]

theorem dw_block (t : Fin cfg0.N) (r : Fin 512) (k : Fin 1024) :
    (outsAt0 m c t.val t.isLt).1 (ix2 r k) = dw A (row t r) (col t k) := by
  by_cases h0 : t.val % 16 = 0
  · rw [outsAt0_A m c t h0 (by omega)]
    dsimp only
    rw [first.1, pt_dw h]
  · rw [outsAt0_B m c t h0 (by omega)]
    dsimp only
    rw [next.1, pt_dw h]

/-- After a point the gradient by `d` holds the sum of its column's blocks so far. -/
theorem acc : ∀ (n : ℕ) (hn : n < cfg0.N) (k : Fin 1024),
    (outsAt0 m c n hn).2 (ix2 0 k) = ∑ p ∈ Finset.range (n % 16 + 1), ddBlock A (col ⟨n, hn⟩ k) p
  | n, hn, k => by
    by_cases h0 : n % 16 = 0
    · rw [outsAt0_A m c ⟨n, hn⟩ h0 (by dsimp only; omega)]
      dsimp only
      rw [first.2, pt_dd h]
      dsimp only
      rw [h0, Finset.sum_range_one]
    · rw [outsAt0_B m c ⟨n, hn⟩ h0 (by dsimp only; omega)]
      dsimp only
      rw [next.2, Finset.sum_range_succ]
      refine congrArg₂ _ ((acc (n - 1) (by omega) k).trans ?_) (pt_dd h ⟨n, hn⟩ k)
      rw [show (n - 1) % 16 + 1 = n % 16 by omega]
      refine Finset.sum_congr rfl fun p _ => congrArg (fun q => ddBlock A q p) (Fin.ext ?_)
      show 1024 * ((n - 1) / 16) + k.val = 1024 * (n / 16) + k.val
      rw [show (n - 1) / 16 = n / 16 by omega]
termination_by n => n
decreasing_by omega

omit h in
theorem mem4 (t : Fin cfg0.N) (i : S8192x2048.Idx) :
    i ∈ ((cfg0.win 4).blk t).view.set ↔ ∀ a : Fin 2, win0_4.index t a * S512x1024.size a ≤ i a ∧ (i a : ℕ) < win0_4.index t a * S512x1024.size a + S512x1024.size a := by
  show i ∈ ((View.whole main_v3_0).slice (win0_4.rect t)).set ↔ _
  rw [View.set_slice_whole, Rect.mem_set_unit]; exact Iff.rfl

omit h in
theorem mem5 (t : Fin cfg0.N) (i : S1x2048.Idx) :
    i ∈ ((cfg0.win 5).blk t).view.set ↔ ∀ a : Fin 2, win0_5.index t a * S1x1024.size a ≤ i a ∧ (i a : ℕ) < win0_5.index t a * S1x1024.size a + S1x1024.size a := by
  show i ∈ ((View.whole main_v3_1).slice (win0_5.rect t)).set ↔ _
  rw [View.set_slice_whole, Rect.mem_set_unit]; exact Iff.rfl

/-- The point whose block holds an entry. -/
abbrev point (i : S8192x2048.Idx) : Fin cfg0.N :=
  ⟨(i 0).val / 512 + 16 * ((i 1).val / 1024), by
    have h0 : (i 0 : Nat) < 8192 := (i 0).isLt
    have h1 : (i 1 : Nat) < 2048 := (i 1).isLt
    have hN : cfg0.N = 32 := N_0
    omega⟩

theorem final_dw : (Gen.dats m 0 c).arrAt 4 cfg0.N = dwArr A := by
  refine (Gen.dats m 0 c).arrAt_eq_of_cover 4 (dwArr A) (fun t _ => ?_) fun i => ⟨point i, flush0_4 _, ?_⟩
  · rw [Value.flushed4]
    funext j
    obtain ⟨-, -, -, -, hi, -⟩ := idx_facts t
    rw [View.read_apply]
    idx_vars j
    have e : ((cfg0.win 4).blk t).view.emb (ix2 j0 j1) = (ix2 (row t j0) (col t j1) : S8192x2048.Idx) := by
      funext a
      apply Fin.ext
      match a with
      | ⟨0, _⟩ => show win0_4.index t 0 * 512 + 1 * j0.val = 512 * (t.val % 16) + j0.val; rw [hi.1]; omega
      | ⟨1, _⟩ => show win0_4.index t 1 * 1024 + 1 * j1.val = 1024 * (t.val / 16) + j1.val; rw [hi.2]; omega
    exact (dw_block h t j0 j1).trans (congrArg (dwArr A) e).symm
  · have h0 : (i 0 : Nat) < 8192 := (i 0).isLt
    obtain ⟨-, -, -, -, hi, -⟩ := idx_facts (point i)
    rw [mem4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 1024 ≤ (i 1).val ∧ (i 1).val < win0_4.index _ 1 * 1024 + 1024
      rw [hi.2]; dsimp only; omega

theorem final_dd : (Gen.dats m 0 c).arrAt 5 cfg0.N = ddArr A := by
  refine (Gen.dats m 0 c).arrAt_eq_of_cover 5 (ddArr A) (fun t hf => ?_) fun i => ?_
  · have h15 : t.val % 16 = 15 := (flush0_5 t).mp hf
    rw [Value.flushed5]
    funext j
    obtain ⟨-, -, -, -, -, hi⟩ := idx_facts t
    rw [View.read_apply]
    idx_vars j
    obtain rfl : j0 = 0 := Subsingleton.elim _ _
    have e : ((cfg0.win 5).blk t).view.emb (ix2 0 j1) = (ix2 0 (col t j1) : S1x2048.Idx) := by
      funext a
      apply Fin.ext
      match a with
      | ⟨0, _⟩ => show win0_5.index t 0 * 1 + 1 * 0 = 0; rw [hi.1]
      | ⟨1, _⟩ => show win0_5.index t 1 * 1024 + 1 * j1.val = 1024 * (t.val / 16) + j1.val; rw [hi.2]; omega
    refine ((acc h t.val t.isLt j1).trans ?_).trans (congrArg (ddArr A) e).symm
    rw [h15]
    rfl
  · have h1 : (i 1 : Nat) < 2048 := (i 1).isLt
    have h0 : (i 0 : Nat) < 1 := (i 0).isLt
    have hN : cfg0.N = 32 := N_0
    refine ⟨⟨15 + 16 * ((i 1).val / 1024), by omega⟩, (flush0_5 _).mpr (by dsimp only; omega), ?_⟩
    obtain ⟨-, -, -, -, -, hi⟩ := idx_facts ⟨15 + 16 * ((i 1).val / 1024), by omega⟩
    rw [mem5]
    intro a
    match a with
    | ⟨0, _⟩ =>
      show win0_5.index _ 0 * 1 ≤ (i 0).val ∧ (i 0).val < win0_5.index _ 0 * 1 + 1
      rw [hi.1]; omega
    | ⟨1, _⟩ =>
      show win0_5.index _ 1 * 1024 ≤ (i 1).val ∧ (i 1).val < win0_5.index _ 1 * 1024 + 1024
      rw [hi.2]; dsimp only; omega

end Cert.GeluKIdeal.Ker

end
-- ==== Proof.GeluMain.lean ====
/- The claims about the activation's backward kernel: its frames, what the named constants stand for, and that its two results are
   the reference's. -/
module

public import proofs.«01_k».proof.Defs
public import proofs.«01_k».proof.Proof.GeluKer
public import proofs.«01_k».proof.Proof.Gen.GeluRIdeal.Value
public import proofs.«01_k».proof.Proof.Gen.GeluK.Frame
public import proofs.«01_k».proof.Proof.Gen.GeluR.Frame
public import proofs.«01_k».proof.Proof.Gen.Pre_gelu_finite

@[expose] public section

set_option maxRecDepth 16384

noncomputable section

namespace Cert.Gelu

open Idealize.ShloMosaic Idealize.ShloMosaic.TcCoe Idealize.SL.Sem Cert.Finite Cert.GeluSpec

section
open Cert.GeluRIdeal Cert.GeluRIdeal.Gen

theorem a_eq : (Named.named (F := Ideal) κ "gelu_a" 0x3D372713#32 : Ideal .f32) = ((8943 / 200000 : ℝ) : EReal) := rfl

theorem hz : (![0, 0] : Fin 2 → Nat) = fun _ => 0 := funext fun a => by fin_cases a <;> rfl

variable (A : Args)

theorem ref_y (r : Fin 8192) (k : Fin 2048) :
    k0_pay3 (F := Ideal) A.u A.w A.d (ix2 r k)
      = (((A.d (ix2 0 k)).toReal * (A.u (ix2 r k)).toReal + (A.w (ix2 r k)).toReal : ℝ) : EReal) := by
  pointwise [k0_pay3]
  rw [EReal.coe_add, EReal.coe_mul]
  exact congrArg₂ _ (congrArg₂ _ (A.fd _) (A.fu _)) (A.fw _)

theorem ref_t (r : Fin 8192) (k : Fin 2048) (Y : ℝ) (hY : k0_pay3 (F := Ideal) A.u A.w A.d (ix2 r k) = (Y : EReal)) :
    k0_pay4 (F := Ideal) A.u A.w A.d (ix2 r k) = (GeluSpec.tan Y : EReal) := by
  pointwise [k0_pay4]
  simp only [hY, a_eq, ofBits_c0, ← EReal.coe_mul, ← EReal.coe_add, Ideal.tanh_coe]
  unfold GeluSpec.tan
  congr 3
  ring

theorem ref_s (r : Fin 8192) (k : Fin 2048) :
    k0_pay5 (F := Ideal) A.a A.b (ix2 r k) = (((A.a (ix2 r k)).toReal + (A.b (ix2 r k)).toReal : ℝ) : EReal) := by
  pointwise [k0_pay5]
  rw [EReal.coe_add]
  exact congrArg₂ _ (A.fa _) (A.fb _)

theorem ref_dw (r : Fin 8192) (k : Fin 2048) : Value.G5 (F := Ideal) A.a A.b A.u A.w A.d (ix2 r k) = dw A r k := by
  show _ = (((_ + _) * slope _ : ℝ) : EReal)
  have hs := ref_s A r k
  have hy := ref_y A r k
  have ht := ref_t A r k _ hy
  generalize (A.d (ix2 0 k)).toReal * (A.u (ix2 r k)).toReal + (A.w (ix2 r k)).toReal = Y at hy ht ⊢
  generalize (A.a (ix2 r k)).toReal + (A.b (ix2 r k)).toReal = S at hs ⊢
  show k0_pay1 _ _ _ = _
  unfold k0_pay9 k0_pay10
  simp only [View.ld_unit_zero (S := S8192x2048) hz, View.ld_unit_zero (S := S1x2048) hz]
  pointwise [k0_pay1, k0_pay7, k0_pay8, k0_pay6]
  simp only [hs, hy, ht, a_eq, ofBits_half, ofBits_three, ofBits_c0, ← EReal.coe_one, ← EReal.coe_mul, ← EReal.coe_add, ← EReal.coe_sub]
  unfold GeluSpec.slope
  congr 1
  ring

theorem ref_dd (k : Fin 2048) : Value.G6 (F := Ideal) A.a A.b A.u A.w A.d (ix2 0 k) = dd A k := by
  rw [dd_rows]
  show k0_pay2 _ _ _ _ = _
  pointwise [k0_pay2]
  refine Finset.sum_congr rfl fun r _ => congrArg (· * _) (ref_dw A r k)

end

theorem frame_k : Cert.quiescent_GeluK := fun m ρ _ => Cert.GeluK.Gen.frame m ρ
theorem frame_ki : Cert.quiescent_GeluKIdeal := fun m ρ _ => Cert.GeluKIdeal.Gen.frame m ρ
theorem frame_ki_pre : Cert.quiescent_GeluKIdeal_pre_gelu_finite := fun m ρ _ => Cert.GeluKIdeal.Gen.frame m ρ
theorem frame_ri : Cert.quiescent_GeluRIdeal := fun m ρ _ => Cert.GeluRIdeal.Gen.frame m ρ
theorem frame_ri_pre : Cert.quiescent_GeluRIdeal_pre_gelu_finite := fun m ρ _ => Cert.GeluRIdeal.Gen.frame m ρ
theorem frame_r : Cert.quiescent_GeluR := fun m ρ _ => Cert.GeluR.Gen.frame m ρ

theorem named_k : Cert.preserves_GeluK_GeluKIdeal :=
  ⟨IdealRules.named_const.statement _ _ _ _ _ rfl, IdealRules.named_const.statement _ _ _ _ _ rfl⟩
theorem named_r : Cert.preserves_GeluR_GeluRIdeal := IdealRules.named_const.statement _ _ _ _ _ rfl

/-- The arguments of device `c`, finite under the precondition. -/
def args (m : (ℓ : Loc Cert.GeluKIdeal.nD Cert.GeluKIdeal.τ Cert.GeluKIdeal.sig) → Buf (Elt Ideal) ℓ)
    (h : Cert.Pre_GeluKIdeal_gelu_finite m) (c : Dev Cert.GeluKIdeal.nD) : Args where
  a := m ((c.tc : Thread Cert.GeluKIdeal.nD Cert.GeluKIdeal.τ).loc Cert.GeluKIdeal.main_arg0)
  b := m ((c.tc : Thread Cert.GeluKIdeal.nD Cert.GeluKIdeal.τ).loc Cert.GeluKIdeal.main_arg1)
  u := m ((c.tc : Thread Cert.GeluKIdeal.nD Cert.GeluKIdeal.τ).loc Cert.GeluKIdeal.main_arg2)
  w := m ((c.tc : Thread Cert.GeluKIdeal.nD Cert.GeluKIdeal.τ).loc Cert.GeluKIdeal.main_arg3)
  d := m ((c.tc : Thread Cert.GeluKIdeal.nD Cert.GeluKIdeal.τ).loc Cert.GeluKIdeal.main_arg4)
  fa i := fin_of_cmp (congrFun (h c).1 i)
  fb i := fin_of_cmp (congrFun (h c).2.1 i)
  fu i := fin_of_cmp (congrFun (h c).2.2.1 i)
  fw i := fin_of_cmp (congrFun (h c).2.2.2.1 i)
  fd i := fin_of_cmp (congrFun (h c).2.2.2.2 i)

theorem value : Cert.algebraic_GeluKIdeal_GeluRIdeal_pre_gelu_finite := by
  intro m ρ m' ρ' hp hm
  refine ⟨fun c => Cert.GeluKIdeal.Ker.dwArr (args m hp c), fun c => Cert.GeluKIdeal.Ker.ddArr (args m hp c), ?_, ?_⟩
  · refine (θ_run Cert.GeluKIdeal.defs _ _).mono (fun r hr c => ?_) (Cert.GeluKIdeal.Value.run_blocks m ρ)
    obtain ⟨h0, h1, h2⟩ := hr c
    have h : Cert.GeluKIdeal.Ker.Has m c (args m hp c) := ⟨rfl, rfl, rfl, rfl, rfl⟩
    exact ⟨h0.trans (Cert.GeluKIdeal.Ker.final_dw h), h1.trans (Cert.GeluKIdeal.Ker.final_dd h), h2⟩
  · refine (θ_run Cert.GeluRIdeal.defs _ _).mono (fun r hr c => ?_) (Cert.GeluRIdeal.Value.run (F := Ideal) m' ρ')
    obtain ⟨h0, h1, h2⟩ := hr c
    obtain ⟨e0, e1, e2, e3, e4⟩ := hm c
    refine ⟨h0.trans ?_, h1.trans ?_, h2⟩
    · rw [e0, e1, e2, e3, e4]
      funext j
      idx_vars j
      exact ref_dw (args m hp c) j0 j1
    · rw [e0, e1, e2, e3, e4]
      funext j
      idx_vars j
      obtain rfl : j0 = 0 := Subsingleton.elim _ _
      exact ref_dd (args m hp c) j1

end Cert.Gelu

end
-- ==== Proof.RopeKer.lean ====
/- The rotary embedding's backward kernel on any arguments: what the host prepares, one grid point's two results, and the two
   whole arrays after the sixteen points. -/
module

public import proofs.«01_k».proof.Proof.Gen.RopeKIdeal.Frame
public import Idealize.ShloMosaic.Lib.StableHlo.ReadAt
public import Idealize.ShloMosaic.Lib.Pointwise

@[expose] public section

set_option maxRecDepth 16384

noncomputable section

namespace Cert.RopeKIdeal.Ker

open Idealize.ShloMosaic Idealize.ShloMosaic.TcCoe Idealize.ShloMosaic.Tactic Cert.RopeKIdeal Cert.RopeKIdeal.Gen
open Idealize.SL.Sem

theorem hz : (![0, 0] : Fin 2 → Nat) = fun _ => 0 := funext fun a => by fin_cases a <;> rfl

/-! ## One point -/

section
variable (a b cs sn : FVec Ideal S512x544 .f32)

theorem pay_first (r : Fin 512) (k : Fin 544) :
    out0_4 (F := Ideal) a b cs sn (ix2 r k) = a (ix2 r k) * cs (ix2 r k) - b (ix2 r k) * sn (ix2 r k) := by
  unfold out0_4
  rw [View.canon_unit_zero hz]
  simp only [View.ld_unit_zero (S := S512x544) hz]
  pointwise [k0_pay4, k0_pay1, k0_pay2, k0_pay3]

theorem pay_second (r : Fin 512) (k : Fin 544) :
    out0_5 (F := Ideal) a b cs sn (ix2 r k) = b (ix2 r k) * cs (ix2 r k) + a (ix2 r k) * sn (ix2 r k) := by
  unfold out0_5
  rw [View.canon_unit_zero hz]
  simp only [View.ld_unit_zero (S := S512x544) hz]
  pointwise [k0_pay5, k0_pay1, k0_pay2, k0_pay3]

end

/-! ## The blocks a point reads -/

variable (m : (ℓ : Loc nD τ sig) → Buf (Elt Ideal) ℓ) (c : Dev nD)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

/-- Row `r` of block `t`. -/
abbrev row (t : Fin cfg0.N) (r : Fin 512) : Fin 8192 :=
  ⟨512 * t.val + r.val, by have : t.val < 16 := t.isLt.trans_eq N_0; omega⟩

/-- The four prepared arrays. -/
abbrev lo : S8192x544.Idx → EReal := V m c main_v9
abbrev hi : S8192x544.Idx → EReal := V m c main_v13
abbrev cs : S8192x544.Idx → EReal := V m c main_v2
abbrev sn : S8192x544.Idx → EReal := V m c main_v14

theorem iblk_lo (t : Fin cfg0.N) (r : Fin 512) (k : Fin 544) : (iblk m c 0 t : Vec Ideal S512x544 .f32) (ix2 r k) = lo m c (ix2 (row t r) k) := by
  obtain ⟨hi, -⟩ := idx_facts t
  unfold iblk
  rw [View.read_apply]
  show V m c main_v9 _ = V m c main_v9 _
  congr 1
  funext a
  apply Fin.ext
  match a with
  | ⟨0, _⟩ => show win0_0.index t 0 * 512 + 1 * r.val = 512 * t.val + r.val; rw [hi.1]; omega
  | ⟨1, _⟩ => show win0_0.index t 1 * 544 + 1 * k.val = k.val; rw [hi.2]; omega

theorem iblk_hi (t : Fin cfg0.N) (r : Fin 512) (k : Fin 544) : (iblk m c 1 t : Vec Ideal S512x544 .f32) (ix2 r k) = hi m c (ix2 (row t r) k) := by
  obtain ⟨-, hi, -⟩ := idx_facts t
  unfold iblk
  rw [View.read_apply]
  show V m c main_v13 _ = V m c main_v13 _
  congr 1
  funext a
  apply Fin.ext
  match a with
  | ⟨0, _⟩ => show win0_1.index t 0 * 512 + 1 * r.val = 512 * t.val + r.val; rw [hi.1]; omega
  | ⟨1, _⟩ => show win0_1.index t 1 * 544 + 1 * k.val = k.val; rw [hi.2]; omega

theorem iblk_cs (t : Fin cfg0.N) (r : Fin 512) (k : Fin 544) : (iblk m c 2 t : Vec Ideal S512x544 .f32) (ix2 r k) = cs m c (ix2 (row t r) k) := by
  obtain ⟨-, -, hi, -⟩ := idx_facts t
  unfold iblk
  rw [View.read_apply]
  show V m c main_v2 _ = V m c main_v2 _
  congr 1
  funext a
  apply Fin.ext
  match a with
  | ⟨0, _⟩ => show win0_2.index t 0 * 512 + 1 * r.val = 512 * t.val + r.val; rw [hi.1]; omega
  | ⟨1, _⟩ => show win0_2.index t 1 * 544 + 1 * k.val = k.val; rw [hi.2]; omega

theorem iblk_sn (t : Fin cfg0.N) (r : Fin 512) (k : Fin 544) : (iblk m c 3 t : Vec Ideal S512x544 .f32) (ix2 r k) = sn m c (ix2 (row t r) k) := by
  obtain ⟨-, -, -, hi, -⟩ := idx_facts t
  unfold iblk
  rw [View.read_apply]
  show V m c main_v14 _ = V m c main_v14 _
  congr 1
  funext a
  apply Fin.ext
  match a with
  | ⟨0, _⟩ => show win0_3.index t 0 * 512 + 1 * r.val = 512 * t.val + r.val; rw [hi.1]; omega
  | ⟨1, _⟩ => show win0_3.index t 1 * 544 + 1 * k.val = k.val; rw [hi.2]; omega

/-! ## The two arrays the kernel writes -/

/-- The first halves' gradient. -/
def first : S8192x544.Idx → EReal := fun i => lo m c i * cs m c i - hi m c i * sn m c i
/-- The second halves'. -/
def second : S8192x544.Idx → EReal := fun i => hi m c i * cs m c i + lo m c i * sn m c i

theorem mem4 (t : Fin cfg0.N) (i : S8192x544.Idx) :
    i ∈ ((cfg0.win 4).blk t).view.set ↔ ∀ a : Fin 2, win0_4.index t a * S512x544.size a ≤ i a ∧ (i a : ℕ) < win0_4.index t a * S512x544.size a + S512x544.size a := by
  show i ∈ ((View.whole main_v15_0).slice (win0_4.rect t)).set ↔ _
  rw [View.set_slice_whole, Rect.mem_set_unit]; exact Iff.rfl

theorem mem5 (t : Fin cfg0.N) (i : S8192x544.Idx) :
    i ∈ ((cfg0.win 5).blk t).view.set ↔ ∀ a : Fin 2, win0_5.index t a * S512x544.size a ≤ i a ∧ (i a : ℕ) < win0_5.index t a * S512x544.size a + S512x544.size a := by
  show i ∈ ((View.whole main_v15_1).slice (win0_5.rect t)).set ↔ _
  rw [View.set_slice_whole, Rect.mem_set_unit]; exact Iff.rfl

theorem final_first : (Gen.dats m 0 c).arrAt 4 cfg0.N = first m c := by
  refine (Gen.dats m 0 c).arrAt_eq_of_cover 4 (first m c) (fun t _ => ?_) fun (i : S8192x544.Idx) => ?_
  · show (cfg0.win 4).cut (cfg0.grid.coords t) ((dats m 0 c).after 4 t) = _
    rw [after0_4]
    funext j
    obtain ⟨-, -, -, -, hi, -⟩ := idx_facts t
    rw [View.read_apply]
    idx_vars j
    have e : ((cfg0.win 4).blk t).view.emb (ix2 j0 j1) = (ix2 (row t j0) j1 : S8192x544.Idx) := by
      funext a
      apply Fin.ext
      match a with
      | ⟨0, _⟩ => show win0_4.index t 0 * 512 + 1 * j0.val = 512 * t.val + j0.val; rw [hi.1]; omega
      | ⟨1, _⟩ => show win0_4.index t 1 * 544 + 1 * j1.val = j1.val; rw [hi.2]; omega
    refine Eq.trans ((pay_first (iblk m c 0 t) (iblk m c 1 t) (iblk m c 2 t) (iblk m c 3 t) j0 j1).trans ?_) (congrArg (first m c) e).symm
    rw [iblk_lo, iblk_hi, iblk_cs, iblk_sn]
    rfl
  · have h0 : (i 0 : Nat) < 8192 := (i 0).isLt
    have h1 : (i 1 : Nat) < 544 := (i 1).isLt
    have hN : cfg0.N = 16 := N_0
    refine ⟨⟨(i 0).val / 512, by omega⟩, flush0_4 _, ?_⟩
    obtain ⟨-, -, -, -, hi, -⟩ := idx_facts ⟨(i 0).val / 512, by omega⟩
    rw [mem4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 544 ≤ (i 1).val ∧ (i 1).val < win0_4.index _ 1 * 544 + 544
      rw [hi.2]; omega

theorem final_second : (Gen.dats m 0 c).arrAt 5 cfg0.N = second m c := by
  refine (Gen.dats m 0 c).arrAt_eq_of_cover 5 (second m c) (fun t _ => ?_) fun (i : S8192x544.Idx) => ?_
  · show (cfg0.win 5).cut (cfg0.grid.coords t) ((dats m 0 c).after 5 t) = _
    rw [after0_5]
    funext j
    obtain ⟨-, -, -, -, -, hi⟩ := idx_facts t
    rw [View.read_apply]
    idx_vars j
    have e : ((cfg0.win 5).blk t).view.emb (ix2 j0 j1) = (ix2 (row t j0) j1 : S8192x544.Idx) := by
      funext a
      apply Fin.ext
      match a with
      | ⟨0, _⟩ => show win0_5.index t 0 * 512 + 1 * j0.val = 512 * t.val + j0.val; rw [hi.1]; omega
      | ⟨1, _⟩ => show win0_5.index t 1 * 544 + 1 * j1.val = j1.val; rw [hi.2]; omega
    refine Eq.trans ((pay_second (iblk m c 0 t) (iblk m c 1 t) (iblk m c 2 t) (iblk m c 3 t) j0 j1).trans ?_) (congrArg (second m c) e).symm
    rw [iblk_lo, iblk_hi, iblk_cs, iblk_sn]
    rfl
  · have h0 : (i 0 : Nat) < 8192 := (i 0).isLt
    have h1 : (i 1 : Nat) < 544 := (i 1).isLt
    have hN : cfg0.N = 16 := N_0
    refine ⟨⟨(i 0).val / 512, by omega⟩, flush0_5 _, ?_⟩
    obtain ⟨-, -, -, -, -, hi⟩ := idx_facts ⟨(i 0).val / 512, by omega⟩
    rw [mem5]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 544 ≤ (i 1).val ∧ (i 1).val < win0_5.index _ 1 * 544 + 544
      rw [hi.2]; omega

/-! ## What the host prepared -/

/-- Head `h`'s column `k`. -/
abbrev at32 (h : Fin 17) (k : Fin 32) : Fin 544 := ⟨32 * h.val + k.val, by omega⟩

/-- The arguments: the rotated queries' and keys' cotangents, the cosines and the sines. -/
abbrev dq : S8192x16x64.Idx → EReal := m ((c : Thread nD τ).loc main_arg0)
abbrev dk : S8192x64.Idx → EReal := m ((c : Thread nD τ).loc main_arg1)
abbrev cos : S8192x32.Idx → EReal := m ((c : Thread nD τ).loc main_arg2)
abbrev sin : S8192x32.Idx → EReal := m ((c : Thread nD τ).loc main_arg3)

theorem cs_at (r : Fin 8192) (h : Fin 17) (k : Fin 32) : cs m c (ix2 r (at32 h k)) = cos m c (ix2 r k) := by
  dsimp only [cs, V, V0, hostOps0]
  after_reads_at
  exact congrArg (fun q => cos m c (ix2 r q)) (Fin.ext (by show (32 * h.val + k.val) % 32 = k.val; omega))

theorem sn_at (r : Fin 8192) (h : Fin 17) (k : Fin 32) : sn m c (ix2 r (at32 h k)) = -sin m c (ix2 r k) := by
  dsimp only [sn, V, V0, hostOps0]
  after_reads_at
  exact congrArg (fun q => -sin m c (ix2 r q)) (Fin.ext (by show (32 * h.val + k.val) % 32 = k.val; omega))

theorem lo_q (r : Fin 8192) (h : Fin 16) (k : Fin 32) :
    lo m c (ix2 r (at32 ⟨h.val, by omega⟩ k)) = dq m c (ix3 r h ⟨k.val, by omega⟩) := by
  dsimp only [lo, V, V0, hostOps0]
  after_reads_at
  rw [dif_pos (by omega)]
  exact congrArg₂ (fun p q => dq m c (ix3 r p q)) (Fin.ext (by show (32 * h.val + k.val) / 32 = h.val; omega))
    (Fin.ext (by show (32 * h.val + k.val) % 32 = k.val; omega))

theorem lo_k (r : Fin 8192) (k : Fin 32) : lo m c (ix2 r (at32 16 k)) = dk m c (ix2 r ⟨k.val, by omega⟩) := by
  dsimp only [lo, V, V0, hostOps0]
  after_reads_at

theorem hi_q (r : Fin 8192) (h : Fin 16) (k : Fin 32) :
    hi m c (ix2 r (at32 ⟨h.val, by omega⟩ k)) = dq m c (ix3 r h ⟨32 + k.val, by omega⟩) := by
  dsimp only [hi, V, V0, hostOps0]
  after_reads_at
  rw [dif_pos (by omega)]
  exact congrArg₂ (fun p q => dq m c (ix3 r p q)) (Fin.ext (by show (32 * h.val + k.val) / 32 = h.val; omega))
    (Fin.ext (by show 32 + (32 * h.val + k.val) % 32 = 32 + k.val; omega))

theorem hi_k (r : Fin 8192) (k : Fin 32) : hi m c (ix2 r (at32 16 k)) = dk m c (ix2 r ⟨32 + k.val, by omega⟩) := by
  dsimp only [hi, V, V0, hostOps0]
  after_reads_at

/-! ## The results -/

/-- The two halves of a rotated pair's gradient. -/
def fst (a b x y : EReal) : EReal := b * y + a * x
def snd (a b x y : EReal) : EReal := b * x + -a * y

theorem fst_eq (a b x y : EReal) : a * x - b * -y = fst a b x y := by
  rw [mul_neg, sub_eq_add_neg, neg_neg, add_comm]
  rfl

theorem snd_eq (a b x y : EReal) : b * x + a * -y = snd a b x y := by
  rw [mul_neg, ← neg_mul]
  rfl

theorem first_q (r : Fin 8192) (h : Fin 16) (k : Fin 32) : first m c (ix2 r (at32 ⟨h.val, by omega⟩ k))
    = fst (dq m c (ix3 r h ⟨k.val, by omega⟩)) (dq m c (ix3 r h ⟨32 + k.val, by omega⟩)) (cos m c (ix2 r k)) (sin m c (ix2 r k)) := by
  unfold first
  rw [lo_q, hi_q, cs_at, sn_at, fst_eq]

theorem second_q (r : Fin 8192) (h : Fin 16) (k : Fin 32) : second m c (ix2 r (at32 ⟨h.val, by omega⟩ k))
    = snd (dq m c (ix3 r h ⟨k.val, by omega⟩)) (dq m c (ix3 r h ⟨32 + k.val, by omega⟩)) (cos m c (ix2 r k)) (sin m c (ix2 r k)) := by
  unfold second
  rw [lo_q, hi_q, cs_at, sn_at, snd_eq]

theorem first_k (r : Fin 8192) (k : Fin 32) : first m c (ix2 r (at32 16 k))
    = fst (dk m c (ix2 r ⟨k.val, by omega⟩)) (dk m c (ix2 r ⟨32 + k.val, by omega⟩)) (cos m c (ix2 r k)) (sin m c (ix2 r k)) := by
  unfold first
  rw [lo_k, hi_k, cs_at, sn_at, fst_eq]

theorem second_k (r : Fin 8192) (k : Fin 32) : second m c (ix2 r (at32 16 k))
    = snd (dk m c (ix2 r ⟨k.val, by omega⟩)) (dk m c (ix2 r ⟨32 + k.val, by omega⟩)) (cos m c (ix2 r k)) (sin m c (ix2 r k)) := by
  unfold second
  rw [lo_k, hi_k, cs_at, sn_at, snd_eq]

/-! ## After the host's last lines -/

/-- What the region leaves. -/
abbrev W (m : (ℓ : Loc nD τ sig) → Buf (Elt Ideal) ℓ) (c : Dev nD) : Valuation τ sig (Elt Ideal) :=
  Pipeline.withArrays spec0 c (V0 m c) fun w => (dats m 0 c).arrAt w cfg0.N

theorem w_first : W m c (Proc.devRef .tc main_v15_0) = first m c :=
  (Pipeline.withArrays_arr spec0 launch0.win.arr_inj c _ _ 4).trans (final_first m c)
theorem w_second : W m c (Proc.devRef .tc main_v15_1) = second m c :=
  (Pipeline.withArrays_arr spec0 launch0.win.arr_inj c _ _ 5).trans (final_second m c)

/-- The queries' gradient and the keys'. -/
abbrev outQ : S8192x16x64.Idx → EReal := Pipeline.afterTail₀ cfgs (dats m) 0 (V0 m) [hostOps1] c main_v20
abbrev outK : S8192x64.Idx → EReal := Pipeline.afterTail₀ cfgs (dats m) 0 (V0 m) [hostOps1] c main_v23

/-- The host's last lines, from whatever the region left. -/
theorem lines_q (X : Valuation τ sig (Elt Ideal)) (r : Fin 8192) (h : Fin 16) (k : Fin 32) :
    StableHlo.after hostOps1 X (Proc.devRef .tc main_v20) (ix3 r h ⟨k.val, by omega⟩) = X (Proc.devRef .tc main_v15_0) (ix2 r (at32 ⟨h.val, by omega⟩ k))
    ∧ StableHlo.after hostOps1 X (Proc.devRef .tc main_v20) (ix3 r h ⟨32 + k.val, by omega⟩) = X (Proc.devRef .tc main_v15_1) (ix2 r (at32 ⟨h.val, by omega⟩ k)) := by
  constructor
  · dsimp only [hostOps1]
    after_reads_at
    exact congrArg (fun q => X (Proc.devRef .tc main_v15_0) (ix2 r q)) (Fin.ext (by show h.val * 32 + k.val = 32 * h.val + k.val; omega))
  · dsimp only [hostOps1]
    after_reads_at
    exact congrArg (fun q => X (Proc.devRef .tc main_v15_1) (ix2 r q)) (Fin.ext (by show h.val * 32 + k.val = 32 * h.val + k.val; omega))

theorem lines_k (X : Valuation τ sig (Elt Ideal)) (r : Fin 8192) (k : Fin 32) :
    StableHlo.after hostOps1 X (Proc.devRef .tc main_v23) (ix2 r ⟨k.val, by omega⟩) = X (Proc.devRef .tc main_v15_0) (ix2 r (at32 16 k))
    ∧ StableHlo.after hostOps1 X (Proc.devRef .tc main_v23) (ix2 r ⟨32 + k.val, by omega⟩) = X (Proc.devRef .tc main_v15_1) (ix2 r (at32 16 k)) := by
  constructor
  · dsimp only [hostOps1]
    after_reads_at
    rfl
  · dsimp only [hostOps1]
    after_reads_at
    rfl

theorem outQ_lo (r : Fin 8192) (h : Fin 16) (k : Fin 32) : outQ m c (ix3 r h ⟨k.val, by omega⟩)
    = fst (dq m c (ix3 r h ⟨k.val, by omega⟩)) (dq m c (ix3 r h ⟨32 + k.val, by omega⟩)) (cos m c (ix2 r k)) (sin m c (ix2 r k)) :=
  (lines_q (W m c) r h k).1.trans ((congrFun (w_first m c) _).trans (first_q m c r h k))

theorem outQ_hi (r : Fin 8192) (h : Fin 16) (k : Fin 32) : outQ m c (ix3 r h ⟨32 + k.val, by omega⟩)
    = snd (dq m c (ix3 r h ⟨k.val, by omega⟩)) (dq m c (ix3 r h ⟨32 + k.val, by omega⟩)) (cos m c (ix2 r k)) (sin m c (ix2 r k)) :=
  (lines_q (W m c) r h k).2.trans ((congrFun (w_second m c) _).trans (second_q m c r h k))

theorem outK_lo (r : Fin 8192) (k : Fin 32) : outK m c (ix2 r ⟨k.val, by omega⟩)
    = fst (dk m c (ix2 r ⟨k.val, by omega⟩)) (dk m c (ix2 r ⟨32 + k.val, by omega⟩)) (cos m c (ix2 r k)) (sin m c (ix2 r k)) :=
  (lines_k (W m c) r k).1.trans ((congrFun (w_first m c) _).trans (first_k m c r k))

theorem outK_hi (r : Fin 8192) (k : Fin 32) : outK m c (ix2 r ⟨32 + k.val, by omega⟩)
    = snd (dk m c (ix2 r ⟨k.val, by omega⟩)) (dk m c (ix2 r ⟨32 + k.val, by omega⟩)) (cos m c (ix2 r k)) (sin m c (ix2 r k)) :=
  (lines_k (W m c) r k).2.trans ((congrFun (w_second m c) _).trans (second_k m c r k))

end Cert.RopeKIdeal.Ker

end
-- ==== Proof.RopeMain.lean ====
/- The claims about the rotary embedding's backward kernel: its frames, and that its two results are the reference's on any
   arguments. -/
module

public import proofs.«01_k».proof.Defs
public import proofs.«01_k».proof.Proof.RopeKer
public import proofs.«01_k».proof.Proof.Gen.RopeRIdeal.Read
public import proofs.«01_k».proof.Proof.Gen.RopeRIdeal.Run
public import proofs.«01_k».proof.Proof.Gen.RopeK.Frame

@[expose] public section

set_option maxRecDepth 16384

noncomputable section

namespace Cert.Rope

open Idealize.ShloMosaic Idealize.ShloMosaic.TcCoe Idealize.SL.Sem Cert.RopeKIdeal.Ker

section
open Cert.RopeRIdeal Cert.RopeRIdeal.Read

variable (q : FVec Ideal S8192x16x64 .f32) (d : FVec Ideal S8192x64 .f32) (x y : FVec Ideal S8192x32 .f32)

/-- The gradient of the first halves and of the second, before the two are put side by side. -/
theorem q_lo (r : Fin 8192) (h : Fin 16) (k : Fin 32) : val_main_v50 (F := Ideal) q x y (ix3 r h k)
    = fst (q (ix3 r h ⟨k.val, by omega⟩)) (q (ix3 r h ⟨32 + k.val, by omega⟩)) (x (ix2 r k)) (y (ix2 r k)) := by
  pointwise [val_main_v50, val_main_v49, val_main_v48, val_main_v41, val_main_v40, val_main_v39, val_main_v38, val_main_v3, val_main_v2]
  rfl

theorem q_hi (r : Fin 8192) (h : Fin 16) (k : Fin 32) : val_main_v47 (F := Ideal) q x y (ix3 r h k)
    = snd (q (ix3 r h ⟨k.val, by omega⟩)) (q (ix3 r h ⟨32 + k.val, by omega⟩)) (x (ix2 r k)) (y (ix2 r k)) := by
  pointwise [val_main_v47, val_main_v46, val_main_v45, val_main_v44, val_main_v43, val_main_v42, val_main_v39, val_main_v38, val_main_v3, val_main_v2]
  rfl

theorem k_lo (r : Fin 8192) (k : Fin 32) : val_main_v34 (F := Ideal) d x y (ix2 r k)
    = fst (d (ix2 r ⟨k.val, by omega⟩)) (d (ix2 r ⟨32 + k.val, by omega⟩)) (x (ix2 r k)) (y (ix2 r k)) := by
  pointwise [val_main_v34, val_main_v33, val_main_v28, val_main_v27, val_main_v26]
  rfl

theorem k_hi (r : Fin 8192) (k : Fin 32) : val_main_v32 (F := Ideal) d x y (ix2 r k)
    = snd (d (ix2 r ⟨k.val, by omega⟩)) (d (ix2 r ⟨32 + k.val, by omega⟩)) (x (ix2 r k)) (y (ix2 r k)) := by
  pointwise [val_main_v32, val_main_v31, val_main_v30, val_main_v29, val_main_v27, val_main_v26]
  rfl

theorem ref_q (r : Fin 8192) (h : Fin 16) (k : Fin 32) :
    val_main_v53 (F := Ideal) q x y (ix3 r h ⟨k.val, by omega⟩) = val_main_v50 (F := Ideal) q x y (ix3 r h k)
    ∧ val_main_v53 (F := Ideal) q x y (ix3 r h ⟨32 + k.val, by omega⟩) = val_main_v47 (F := Ideal) q x y (ix3 r h k) := by
  constructor
  · pointwise [val_main_v53, val_main_v52, val_main_v51, val_main_cst_3, val_main_cst_4]
    rw [dif_neg fun e => e.1, zero_add]
  · pointwise [val_main_v53, val_main_v52, val_main_v51, val_main_cst_3, val_main_cst_4]

theorem ref_k (r : Fin 8192) (k : Fin 32) :
    val_main_v37 (F := Ideal) d x y (ix2 r ⟨k.val, by omega⟩) = val_main_v34 (F := Ideal) d x y (ix2 r k)
    ∧ val_main_v37 (F := Ideal) d x y (ix2 r ⟨32 + k.val, by omega⟩) = val_main_v32 (F := Ideal) d x y (ix2 r k) := by
  constructor
  · pointwise [val_main_v37, val_main_v36, val_main_v35, val_main_cst_1, val_main_cst_2]
    rw [dif_neg fun e => e.1, zero_add]
  · pointwise [val_main_v37, val_main_v36, val_main_v35, val_main_cst_1, val_main_cst_2]

/-- An index below 64 is in the first half or in the second. -/
theorem half (j : Fin 64) : (∃ k : Fin 32, j = ⟨k.val, by omega⟩) ∨ ∃ k : Fin 32, j = ⟨32 + k.val, by omega⟩ := by
  by_cases h : j.val < 32
  · exact .inl ⟨⟨j.val, h⟩, rfl⟩
  · exact .inr ⟨⟨j.val - 32, by omega⟩, Fin.ext (by dsimp only; omega)⟩

end

section
open Cert.RopeKIdeal

variable (m : (ℓ : Loc nD τ sig) → Buf (Elt Ideal) ℓ) (c : Dev nD)

theorem eq_q : Cert.RopeRIdeal.Read.val_main_v53 (F := Ideal) (dq m c) (cos m c) (sin m c) = outQ m c := by
  funext j
  idx_vars j
  obtain ⟨k, rfl⟩ | ⟨k, rfl⟩ := half j2
  · exact (ref_q _ _ _ j0 j1 k).1.trans ((q_lo _ _ _ j0 j1 k).trans (outQ_lo m c j0 j1 k).symm)
  · exact (ref_q _ _ _ j0 j1 k).2.trans ((q_hi _ _ _ j0 j1 k).trans (outQ_hi m c j0 j1 k).symm)

theorem eq_k : Cert.RopeRIdeal.Read.val_main_v37 (F := Ideal) (dk m c) (cos m c) (sin m c) = outK m c := by
  funext j
  idx_vars j
  obtain ⟨k, rfl⟩ | ⟨k, rfl⟩ := half j1
  · exact (ref_k _ _ _ j0 k).1.trans ((k_lo _ _ _ j0 k).trans (outK_lo m c j0 k).symm)
  · exact (ref_k _ _ _ j0 k).2.trans ((k_hi _ _ _ j0 k).trans (outK_hi m c j0 k).symm)

end

theorem frame_k : Cert.quiescent_RopeK := fun m ρ _ => Cert.RopeK.Gen.frame m ρ
theorem frame_ki : Cert.quiescent_RopeKIdeal := fun m ρ _ => Cert.RopeKIdeal.Gen.frame m ρ

theorem frame_ri : Cert.quiescent_RopeRIdeal := fun m ρ _ =>
  (θ_run Cert.RopeRIdeal.defs _ _).mono (fun _ h => ⟨fun c => (h c).2.2, funext fun s => nomatch s⟩)
    (Cert.RopeRIdeal.Value.run (F := Ideal) m ρ)

theorem value : Cert.algebraic_RopeKIdeal_RopeRIdeal := by
  intro m ρ m' ρ' _ hm
  refine ⟨fun c => outQ m c, fun c => outK m c, ?_, ?_⟩
  · refine (θ_run Cert.RopeKIdeal.defs _ _).mono (fun r h c => ?_) (Cert.RopeKIdeal.Gen.run_main m ρ)
    exact ⟨(h c).2 Cert.RopeKIdeal.main_v20 (Pipeline.mem_restRefs_of Cert.RopeKIdeal.main_v20 (by decide) (by decide)),
      (h c).2 Cert.RopeKIdeal.main_v23 (Pipeline.mem_restRefs_of Cert.RopeKIdeal.main_v23 (by decide) (by decide)),
      ((h c).2 Cert.RopeKIdeal.main_arg0 (Pipeline.mem_restRefs_of Cert.RopeKIdeal.main_arg0 (by decide) (by decide))).trans (Cert.RopeKIdeal.Gen.W_main_arg0 m _ c),
      ((h c).2 Cert.RopeKIdeal.main_arg1 (Pipeline.mem_restRefs_of Cert.RopeKIdeal.main_arg1 (by decide) (by decide))).trans (Cert.RopeKIdeal.Gen.W_main_arg1 m _ c),
      ((h c).2 Cert.RopeKIdeal.main_arg2 (Pipeline.mem_restRefs_of Cert.RopeKIdeal.main_arg2 (by decide) (by decide))).trans (Cert.RopeKIdeal.Gen.W_main_arg2 m _ c),
      ((h c).2 Cert.RopeKIdeal.main_arg3 (Pipeline.mem_restRefs_of Cert.RopeKIdeal.main_arg3 (by decide) (by decide))).trans (Cert.RopeKIdeal.Gen.W_main_arg3 m _ c)⟩
  · refine (θ_run Cert.RopeRIdeal.defs _ _).mono (fun r hr c => ?_) (Cert.RopeRIdeal.Value.run (F := Ideal) m' ρ')
    obtain ⟨e0, e1, e2, e3⟩ := hm c
    refine ⟨(hr c).1.trans ((Cert.RopeRIdeal.Read.val_main_v53_eq _ _ _).trans (Eq.trans ?_ (eq_q m c))),
      (hr c).2.1.trans ((Cert.RopeRIdeal.Read.val_main_v37_eq _ _ _).trans (Eq.trans ?_ (eq_k m c))), (hr c).2.2⟩
    · rw [e0, e2, e3]
    · rw [e1, e2, e3]

end Cert.Rope

end
-- ==== Proof.ConvSpec.lean ====
/- The gradient of the gated convolution, on arrays: what both programs compute. Row numbers count from one here, so that the
   rows before the first and after the last are zero. -/
module

public import proofs.«01_k».proof.Proof.Finite
public import proofs.«01_k».proof.Proof.Gen.ConvKIdeal.Skeleton
public import Idealize.ShloMosaic.Lib.Pointwise

@[expose] public section

set_option maxRecDepth 16384

noncomputable section

namespace Cert.ConvKIdeal.Ker

open Idealize.ShloMosaic Idealize.ShloMosaic.TcCoe Cert.ConvKIdeal

/-- The derivative of `x * logistic x`. -/
def dsilu (x : EReal) : EReal := Ideal.logistic x * (1 + x * (1 - Ideal.logistic x))

section
variable (u : S2x8192x5632.Idx → EReal) (w : S2x3x5632.Idx → EReal) (b : S2x1x5632.Idx → EReal) (a : S8192x5632.Idx → EReal)

/-- Row `n` of the input, counted from one, with zero rows around. -/
def uAt (h : Fin 2) (k : Fin 5632) (n : ℕ) : EReal := if p : 1 ≤ n ∧ n ≤ 8192 then u (ix3 h ⟨n - 1, by omega⟩ k) else 0
/-- Row `n` of the cotangent, counted from one, with zero rows around. -/
def aAt (k : Fin 5632) (n : ℕ) : EReal := if p : 1 ≤ n ∧ n ≤ 8192 then a (ix2 ⟨n - 1, by omega⟩ k) else 0
/-- The convolution of three rows. -/
def conv (h : Fin 2) (k : Fin 5632) (n : ℕ) : EReal :=
  b (ix3 h 0 k) + (w (ix3 h 0 k) * uAt u h k (n - 1) + w (ix3 h 1 k) * uAt u h k n + w (ix3 h 2 k) * uAt u h k (n + 1))
/-- The gradient by the convolution: half 0 is the gate, half 1 the value. -/
def dc (h : Fin 2) (k : Fin 5632) (n : ℕ) : EReal :=
  if h = 0 then aAt a k n * conv u w b 1 k n * dsilu (conv u w b 0 k n)
  else aAt a k n * (conv u w b 0 k n * Ideal.logistic (conv u w b 0 k n))
/-- The gradient by the input, at row `s` counted from zero. -/
def duAt (h : Fin 2) (k : Fin 5632) (s : ℕ) : EReal :=
  w (ix3 h 0 k) * dc u w b a h k (s + 2) + w (ix3 h 1 k) * dc u w b a h k (s + 1) + w (ix3 h 2 k) * dc u w b a h k s
/-- The gradient by the input. -/
def duArr : S2x8192x5632.Idx → EReal := fun i => duAt u w b a (i 0) (i 2) (i 1).val
/-- Row `s`'s part of the gradient by tap `t`. -/
def dwAt (h : Fin 2) (k : Fin 5632) (t s : ℕ) : EReal := dc u w b a h k (s + 1) * uAt u h k (s + t)
/-- Row block `p`'s part. -/
def dwBlk (h : Fin 2) (k : Fin 5632) (t p : ℕ) : EReal := ∑ r ∈ Finset.range 512, dwAt u w b a h k t (512 * p + r)
/-- The gradient by the taps. -/
def dwArr : S2x3x5632.Idx → EReal := fun i => ∑ p ∈ Finset.range 16, dwBlk u w b a (i 0) (i 2) (i 1).val p
/-- Row block `p`'s part of the gradient by the bias. -/
def dbBlk (h : Fin 2) (k : Fin 5632) (p : ℕ) : EReal := ∑ r ∈ Finset.range 512, dc u w b a h k (512 * p + r + 1)
/-- The gradient by the bias. -/
def dbArr : S2x1x5632.Idx → EReal := fun i => ∑ p ∈ Finset.range 16, dbBlk u w b a (i 0) (i 2) p

end

end Cert.ConvKIdeal.Ker

end
-- ==== Proof.ConvPay.lean ====
/- One grid point of the convolution's backward kernel, on the rows it works on: a block of 512 rows with eight more before
   and after it. Row `ρ` of such a block is row `512 * p + ρ - 7` of the array, counted from one. -/
module

public import proofs.«01_k».proof.Proof.ConvSpec

@[expose] public section

set_option maxRecDepth 16384

noncomputable section

namespace Cert.ConvKIdeal.Ker

open Idealize.ShloMosaic Idealize.ShloMosaic.TcCoe Idealize.ShloMosaic.Tactic Cert.ConvKIdeal Cert.ConvKIdeal.Gen

theorem select_first : ∀ (p : Fin 16) (x y : EReal),
    Scalar.select (α := EReal) (Scalar.cmpi .sgt (BitVec.ofNat 32 p.val) 0#32) x y = if 0 < p.val then x else y := by
  intro p x y
  fin_cases p <;> rfl

theorem select_last : ∀ (p : Fin 16) (x y : EReal),
    Scalar.select (α := EReal) (Scalar.cmpi .slt (Scalar.muli (Scalar.addi (BitVec.ofNat 32 p.val) 1#32) 512#32) 8192#32) x y
      = if p.val < 15 then x else y := by
  intro p x y
  fin_cases p <;> rfl

/-- The eight rows before, the block, and the eight rows after, of one column. -/
theorem ext_eq (p : Fin 16) (P N : Fin 8 → EReal) (M : Fin 512 → EReal) (U : ℕ → EReal)
    (hP : 0 < p.val → ∀ r, P r = U (512 * p.val + r.val - 7)) (hM : ∀ r, M r = U (512 * p.val + r.val + 1))
    (hN : p.val < 15 → ∀ r, N r = U (512 * p.val + 513 + r.val)) (h0 : U 0 = 0) (h1 : ∀ n, 8192 < n → U n = 0) (ρ : Fin 528) :
    (if h : ρ.val < 8 then Scalar.select (α := EReal) (Scalar.cmpi .sgt (BitVec.ofNat 32 p.val) 0#32) (P ⟨ρ.val, h⟩) 0
      else if h' : ρ.val - 8 < 512 then M ⟨ρ.val - 8, h'⟩
      else Scalar.select (α := EReal) (Scalar.cmpi .slt (Scalar.muli (Scalar.addi (BitVec.ofNat 32 p.val) 1#32) 512#32) 8192#32)
        (N ⟨ρ.val - 8 - 512, by omega⟩) 0) = U (512 * p.val + ρ.val - 7) := by
  split_ifs with a b
  · rw [select_first]
    split_ifs with c
    · exact hP c _
    · rw [show 512 * p.val + ρ.val - 7 = 0 by omega, h0]
  · rw [hM]
    exact congrArg U (by dsimp only; omega)
  · rw [select_last]
    split_ifs with c
    · rw [hN c]
      exact congrArg U (by dsimp only; omega)
    · rw [h1 _ (by omega)]

/-! ## Rolls and the convolution -/

section
variable (e : FVec Ideal S528x512 .f32) (w : FVec Ideal S1x3x512 .f32) (b : FVec Ideal S1x1x512 .f32)

theorem roll_up (ρ : Fin 528) (k : Fin 512) (h : 1 ≤ ρ.val) : k0_pay21 (F := Ideal) e (ix2 ρ k) = e (ix2 ⟨ρ.val - 1, by omega⟩ k) := by
  pointwise [k0_pay21]
  exact congrArg (fun q => e (ix2 q k)) (Fin.ext (by show (ρ.val + 528 - 1) % 528 = ρ.val - 1; omega))

theorem roll_down (ρ : Fin 528) (k : Fin 512) (h : ρ.val < 527) : k0_pay22 (F := Ideal) e (ix2 ρ k) = e (ix2 ⟨ρ.val + 1, by omega⟩ k) := by
  pointwise [k0_pay22]
  exact congrArg (fun q => e (ix2 q k)) (Fin.ext (by show (ρ.val + 528 - 527) % 528 = ρ.val + 1; omega))

theorem pay_conv (p : ℕ) (U : Fin 512 → ℕ → EReal) (he : ∀ ρ k, e (ix2 ρ k) = U k (512 * p + ρ.val - 7))
    (ρ : Fin 528) (k : Fin 512) (h7 : 7 ≤ ρ.val) (h5 : ρ.val ≤ 520) (n : ℕ) (hn : n = 512 * p + ρ.val - 7) :
    k0_pay25 (F := Ideal) e w b (ix2 ρ k)
      = b (ix3 0 0 k) + (w (ix3 0 0 k) * U k (n - 1) + w (ix3 0 1 k) * U k n + w (ix3 0 2 k) * U k (n + 1)) := by
  pointwise [k0_pay25]
  rw [roll_up e ρ k (by omega), roll_down e ρ k (by omega), he, he, he]
  subst hn
  rw [show 512 * p + (ρ.val - 1) - 7 = 512 * p + ρ.val - 7 - 1 by omega, show 512 * p + (ρ.val + 1) - 7 = 512 * p + ρ.val - 7 + 1 by omega]

/-- The gradient by the input from the gradient by the convolution. -/
theorem pay_du (p : ℕ) (D : Fin 512 → ℕ → EReal)
    (he : ∀ ρ k, 7 ≤ ρ.val → ρ.val ≤ 520 → e (ix2 ρ k) = D k (512 * p + ρ.val - 7)) (r k : Fin 512) :
    k0_pay46 (F := Ideal) e w (ix2 r k)
      = w (ix3 0 0 k) * D k (512 * p + r.val + 2) + w (ix3 0 1 k) * D k (512 * p + r.val + 1) + w (ix3 0 2 k) * D k (512 * p + r.val) := by
  pointwise [k0_pay46]
  rw [he, he, he]
  · refine congrArg₂ _ (congrArg₂ _ (congrArg (fun q => w (ix3 0 0 k) * D k q) ?_) (congrArg (fun q => w (ix3 0 1 k) * D k q) ?_))
      (congrArg (fun q => w (ix3 0 2 k) * D k q) ?_)
    · show 512 * p + (8 + r.val + 528 - 527) % 528 - 7 = _; omega
    · show 512 * p + (8 + r.val) - 7 = _; omega
    · show 512 * p + (8 + r.val + 528 - 1) % 528 - 7 = _; omega
  all_goals dsimp only; omega

/-- A row of the gradient by the taps. -/
theorem pay_dw (d : FVec Ideal S528x512 .f32) (k : Fin 512) :
    k0_pay38 (F := Ideal) e d (ix3 0 0 k) = ∑ x : Fin 512, d (ix2 ⟨8 + x.val, by omega⟩ k) * e (ix2 ⟨8 + x.val, by omega⟩ k) := by
  pointwise [k0_pay38, k0_pay34, k0_pay33]

theorem pay_dw' (d : FVec Ideal S528x512 .f32) (o : FVec Ideal S1x1x512 .f32) (k : Fin 512) :
    k0_pay42 (F := Ideal) e d o (ix3 0 0 k) = o (ix3 0 0 k) + k0_pay38 (F := Ideal) e d (ix3 0 0 k) := by
  pointwise [k0_pay42, k0_pay38]

theorem pay_db (k : Fin 512) :
    k0_pay41 (F := Ideal) e (ix3 0 0 k) = ∑ x : Fin 512, e (ix2 ⟨8 + x.val, by omega⟩ k) := by
  pointwise [k0_pay41, k0_pay37, k0_pay33]

theorem pay_db' (o : FVec Ideal S1x1x512 .f32) (k : Fin 512) :
    k0_pay45 (F := Ideal) e o (ix3 0 0 k) = o (ix3 0 0 k) + k0_pay41 (F := Ideal) e (ix3 0 0 k) := by
  pointwise [k0_pay45, k0_pay41]

end

section
variable (q : BitVec 32) (g v : FVec Ideal S528x512 .f32) (P N : FVec Ideal S8x512 .f32) (M : FVec Ideal S512x512 .f32)

theorem pay_d0 (ρ : Fin 528) (k : Fin 512) :
    k0_pay29 (F := Ideal) q g v P M N (ix2 ρ k) = k0_pay27 (F := Ideal) q P M N (ix2 ρ k) * v (ix2 ρ k) * dsilu (g (ix2 ρ k)) := by
  pointwise [k0_pay29, k0_pay28]
  rfl

theorem pay_d1 (ρ : Fin 528) (k : Fin 512) :
    k0_pay30 (F := Ideal) q g P M N (ix2 ρ k)
      = k0_pay27 (F := Ideal) q P M N (ix2 ρ k) * (g (ix2 ρ k) * Ideal.logistic (g (ix2 ρ k))) := by
  pointwise [k0_pay30, k0_pay28]

end

/-! ## The same operations on the other half -/

theorem pay_same_conv (A : FVec Ideal S512x512 .f32) (B C : FVec Ideal S8x512 .f32) (x : BitVec 1) (Z : FVec Ideal S8x512 .f32)
    (w : FVec Ideal S1x3x512 .f32) (b : FVec Ideal S1x1x512 .f32) :
    k0_pay26 (F := Ideal) A B C x Z w b = k0_pay25 (k0_pay20 A B C x Z) w b := rfl
theorem pay_same_du (q : BitVec 32) (g v : FVec Ideal S528x512 .f32) (P N : FVec Ideal S8x512 .f32) (M : FVec Ideal S512x512 .f32)
    (w : FVec Ideal S1x3x512 .f32) : k0_pay31 (F := Ideal) q g v P M N w = k0_pay46 (k0_pay29 q g v P M N) w := rfl
theorem pay_same_roll (A : FVec Ideal S512x512 .f32) (B C : FVec Ideal S8x512 .f32) (x : BitVec 1) (Z : FVec Ideal S8x512 .f32) :
    k0_pay23 (F := Ideal) A B C x Z = k0_pay21 (k0_pay20 A B C x Z) ∧ k0_pay24 (F := Ideal) A B C x Z = k0_pay22 (k0_pay20 A B C x Z) :=
  ⟨rfl, rfl⟩

section
variable (e d : FVec Ideal S528x512 .f32) (o : FVec Ideal S1x1x512 .f32)
theorem pay_same_dw : k0_pay7 (F := Ideal) e d = k0_pay38 e d ∧ k0_pay8 (F := Ideal) e d = k0_pay38 e d
    ∧ k0_pay9 (F := Ideal) e d = k0_pay38 e d ∧ k0_pay39 (F := Ideal) e d = k0_pay38 e d ∧ k0_pay40 (F := Ideal) e d = k0_pay38 e d
    ∧ k0_pay10 (F := Ideal) d = k0_pay41 d :=
  ⟨rfl, rfl, rfl, rfl, rfl, rfl⟩
theorem pay_same_dw' : k0_pay11 (F := Ideal) e d o = k0_pay42 e d o ∧ k0_pay12 (F := Ideal) e d o = k0_pay42 e d o
    ∧ k0_pay13 (F := Ideal) e d o = k0_pay42 e d o ∧ k0_pay43 (F := Ideal) e d o = k0_pay42 e d o ∧ k0_pay44 (F := Ideal) e d o = k0_pay42 e d o
    ∧ k0_pay14 (F := Ideal) d o = k0_pay45 d o :=
  ⟨rfl, rfl, rfl, rfl, rfl, rfl⟩
end

/-! ## The three extended blocks -/

section
variable (i : grid0.Coords) (U : Fin 512 → ℕ → EReal) (h0 : ∀ k, U k 0 = 0) (h1 : ∀ k n, 8192 < n → U k n = 0)

include h0 h1

theorem ext_gate (v0 v4 : FVec Ideal S1x8x512 .f32) (v2 : FVec Ideal S1x512x512 .f32)
    (hP : 0 < (i 1).val → ∀ r k, v0 (ix3 0 r k) = U k (512 * (i 1).val + r.val - 7)) (hM : ∀ r k, v2 (ix3 0 r k) = U k (512 * (i 1).val + r.val + 1))
    (hN : (i 1).val < 15 → ∀ r k, v4 (ix3 0 r k) = U k (512 * (i 1).val + 513 + r.val)) (ρ : Fin 528) (k : Fin 512) :
    k0_pay15 (F := Ideal) i v0 v2 v4 (ix2 ρ k) = U k (512 * (i 1).val + ρ.val - 7) := by
  pointwise [k0_pay15]
  exact ext_eq (i 1) (fun r => v0 (ix3 0 r k)) (fun r => v4 (ix3 0 r k)) (fun r => v2 (ix3 0 r k)) (U k) (fun h r => hP h r k)
    (fun r => hM r k) (fun h r => hN h r k) (h0 k) (h1 k) ρ

theorem ext_value (v0 v4 : FVec Ideal S1x8x512 .f32) (v2 : FVec Ideal S1x512x512 .f32)
    (hP : 0 < (i 1).val → ∀ r k, v0 (ix3 0 r k) = U k (512 * (i 1).val + r.val - 7)) (hM : ∀ r k, v2 (ix3 0 r k) = U k (512 * (i 1).val + r.val + 1))
    (hN : (i 1).val < 15 → ∀ r k, v4 (ix3 0 r k) = U k (512 * (i 1).val + 513 + r.val)) (ρ : Fin 528) (k : Fin 512) :
    k0_pay20 (F := Ideal) (k0_pay16 v2) (k0_pay17 v4) (k0_pay18 i v0)
      (Scalar.cmpi .slt (Scalar.muli (Scalar.addi (BitVec.ofNat 32 (i 1).val) 1#32) 512#32) 8192#32) (k0_pay19 (F := Ideal)) (ix2 ρ k)
      = U k (512 * (i 1).val + ρ.val - 7) := by
  pointwise [k0_pay20, k0_pay16, k0_pay17, k0_pay18, k0_pay19]
  exact ext_eq (i 1) (fun r => v0 (ix3 0 r k)) (fun r => v4 (ix3 0 r k)) (fun r => v2 (ix3 0 r k)) (U k) (fun h r => hP h r k)
    (fun r => hM r k) (fun h r => hN h r k) (h0 k) (h1 k) ρ

theorem ext_da (v0 v4 : FVec Ideal S8x512 .f32) (v2 : FVec Ideal S512x512 .f32)
    (hP : 0 < (i 1).val → ∀ r k, v0 (ix2 r k) = U k (512 * (i 1).val + r.val - 7)) (hM : ∀ r k, v2 (ix2 r k) = U k (512 * (i 1).val + r.val + 1))
    (hN : (i 1).val < 15 → ∀ r k, v4 (ix2 r k) = U k (512 * (i 1).val + 513 + r.val)) (ρ : Fin 528) (k : Fin 512) :
    k0_pay27 (F := Ideal) (BitVec.ofNat 32 (i 1).val) v0 v2 v4 (ix2 ρ k) = U k (512 * (i 1).val + ρ.val - 7) := by
  pointwise [k0_pay27]
  exact ext_eq (i 1) (fun r => v0 (ix2 r k)) (fun r => v4 (ix2 r k)) (fun r => v2 (ix2 r k)) (U k) (fun h r => hP h r k)
    (fun r => hM r k) (fun h r => hN h r k) (h0 k) (h1 k) ρ

end

end Cert.ConvKIdeal.Ker

end
-- ==== Proof.ConvPt.lean ====
/- One grid point of the convolution's backward kernel: what it leaves in the three outputs' buffers. -/
module

public import proofs.«01_k».proof.Proof.ConvPay
public import proofs.«01_k».proof.Proof.Gen.ConvKIdeal.Value

@[expose] public section

set_option maxRecDepth 16384

noncomputable section

namespace Cert.ConvKIdeal.Ker

open Idealize.ShloMosaic Idealize.ShloMosaic.TcCoe Idealize.ShloMosaic.Tactic Cert.ConvKIdeal Cert.ConvKIdeal.Gen
open Idealize.SL.Sem
theorem hz : (![0, 0] : Fin 2 → Nat) = fun _ => 0 := funext fun a => by fin_cases a <;> rfl

/-! ## What a point computes -/

section
variable (i : grid0.Coords) (x0 : Vec Ideal S2x512x512 .f32) (x1 x2 : Vec Ideal S2x8x512 .f32) (x3 : Vec Ideal S512x512 .f32)
  (x4 x5 : Vec Ideal S8x512 .f32) (x6 : Vec Ideal S2x3x512 .f32) (x7 : Vec Ideal S2x1x512 .f32)

/-- The gate's rows with eight more before and after. -/
def E0 : FVec Ideal S528x512 .f32 :=
  k0_pay15 i (View.ld x1 (Rect.unit ![0, 0, 0] S1x8x512.size inb_S2x8x512_S1x8x512_0_0_0))
    (View.ld x0 (Rect.unit ![0, 0, 0] S1x512x512.size inb_S2x512x512_S1x512x512_0_0_0))
    (View.ld x2 (Rect.unit ![0, 0, 0] S1x8x512.size inb_S2x8x512_S1x8x512_0_0_0))
/-- The value's rows with eight more before and after. -/
def E1 : FVec Ideal S528x512 .f32 :=
  k0_pay20 (k0_pay16 (View.ld x0 (Rect.unit ![1, 0, 0] S1x512x512.size inb_S2x512x512_S1x512x512_1_0_0)))
    (k0_pay17 (View.ld x2 (Rect.unit ![1, 0, 0] S1x8x512.size inb_S2x8x512_S1x8x512_1_0_0)))
    (k0_pay18 i (View.ld x1 (Rect.unit ![1, 0, 0] S1x8x512.size inb_S2x8x512_S1x8x512_1_0_0)))
    (Scalar.cmpi .slt (Scalar.muli (Scalar.addi (BitVec.ofNat 32 (i 1).val) 1#32) 512#32) 8192#32) (k0_pay19 (F := Ideal))
/-- A half's taps. -/
def W0 : FVec Ideal S1x3x512 .f32 := View.ld x6 (Rect.unit ![0, 0, 0] S1x3x512.size inb_S2x3x512_S1x3x512_0_0_0)
def W1 : FVec Ideal S1x3x512 .f32 := View.ld x6 (Rect.unit ![1, 0, 0] S1x3x512.size inb_S2x3x512_S1x3x512_1_0_0)
/-- The gate after the convolution. -/
def C0 : FVec Ideal S528x512 .f32 :=
  k0_pay25 (E0 i x0 x1 x2) (W0 x6) (View.ld x7 (Rect.unit ![0, 0, 0] S1x1x512.size inb_S2x1x512_S1x1x512_0_0_0))
/-- The value after the convolution. -/
def C1 : FVec Ideal S528x512 .f32 :=
  k0_pay25 (E1 i x0 x1 x2) (W1 x6) (View.ld x7 (Rect.unit ![1, 0, 0] S1x1x512.size inb_S2x1x512_S1x1x512_1_0_0))
/-- The gradient by the gate. -/
def G0 : FVec Ideal S528x512 .f32 := k0_pay29 (BitVec.ofNat 32 (i 1).val) (C0 i x0 x1 x2 x6 x7) (C1 i x0 x1 x2 x6 x7) x4 x3 x5
/-- The gradient by the value. -/
def G1 : FVec Ideal S528x512 .f32 := k0_pay30 (BitVec.ofNat 32 (i 1).val) (C0 i x0 x1 x2 x6 x7) x4 x3 x5

end

section
variable {c : Dev nD} {i : grid0.Coords}
  {a2 : Memref sig .tc .vmem S2x512x512 .f32} {h2 : a2.IsWhole} {a3 : Memref sig .tc .vmem S2x8x512 .f32} {h3 : a3.IsWhole}
  {a4 : Memref sig .tc .vmem S2x8x512 .f32} {h4 : a4.IsWhole} {a5 : Memref sig .tc .vmem S512x512 .f32} {h5 : a5.IsWhole}
  {a6 : Memref sig .tc .vmem S8x512 .f32} {h6 : a6.IsWhole} {a7 : Memref sig .tc .vmem S8x512 .f32} {h7 : a7.IsWhole}
  {a8 : Memref sig .tc .vmem S2x3x512 .f32} {h8 : a8.IsWhole} {a9 : Memref sig .tc .vmem S2x1x512 .f32} {h9 : a9.IsWhole}
  {a10 : Memref sig .tc .vmem S2x512x512 .bf16} {h10 : a10.IsWhole} {a11 : Memref sig .tc .vmem S2x3x512 .f32} {h11 : a11.IsWhole}
  {a12 : Memref sig .tc .vmem S2x1x512 .f32} {h12 : a12.IsWhole}
  {x0 : Vec Ideal S2x512x512 .f32} {x1 x2 : Vec Ideal S2x8x512 .f32} {x3 : Vec Ideal S512x512 .f32} {x4 x5 : Vec Ideal S8x512 .f32}
  {x6 : Vec Ideal S2x3x512 .f32} {x7 : Vec Ideal S2x1x512 .f32} {o9 : Vec Ideal S2x3x512 .f32} {o10 : Vec Ideal S2x1x512 .f32}

theorem first_8 {hc0 : cond0_0 i} {hc1 : ¬cond0_1 i} {hc2 : cond0_2 i} {hc3 : ¬cond0_3 i} :
    out0_A_8 c i a2 h2 a3 h3 a4 h4 a5 h5 a6 h6 a7 h7 a8 h8 a9 h9 a10 h10 a11 h11 a12 h12 hc0 hc1 hc2 hc3 x0 x1 x2 x3 x4 x5 x6 x7
    = View.canon ([⟨Rect.unit ![1, 0, 0] S1x512x512.size inb_S2x512x512_S1x512x512_1_0_0, k0_pay32 (k0_pay46 (G1 i x0 x1 x2 x3 x4 x5 x6 x7) (W1 x6))⟩,
      ⟨Rect.unit ![0, 0, 0] S1x512x512.size inb_S2x512x512_S1x512x512_0_0_0, k0_pay32 (k0_pay46 (G0 i x0 x1 x2 x3 x4 x5 x6 x7) (W0 x6))⟩] : List (View.Piece (Elt Ideal) S2x512x512 .bf16)) := by
  unfold out0_A_8
  rw [View.read_writes_junk_eq_canon]
  unfold kernelRun0_A
  dsimp only
  sl_unfold_words
  simp only [View.readAt_eq_ld, h2.read_unread, h3.read_unread, h4.read_unread, h5.read_unread, h6.read_unread, h7.read_unread,
    h8.read_unread, h9.read_unread,
    View.ld_unit_zero (S := S512x512) hz, View.ld_unit_zero (S := S8x512) hz]
  rfl

theorem first_9 {hc0 : cond0_0 i} {hc1 : ¬cond0_1 i} {hc2 : cond0_2 i} {hc3 : ¬cond0_3 i} :
    out0_A_9 c i a2 h2 a3 h3 a4 h4 a5 h5 a6 h6 a7 h7 a8 h8 a9 h9 a10 h10 a11 h11 a12 h12 hc0 hc1 hc2 hc3 x0 x1 x2 x3 x4 x5 x6 x7
    = View.canon ([⟨Rect.unit ![1, 2, 0] S1x1x512.size inb_S2x3x512_S1x1x512_1_2_0, k0_pay38 (k0_pay22 (E1 i x0 x1 x2)) (G1 i x0 x1 x2 x3 x4 x5 x6 x7)⟩,
      ⟨Rect.unit ![1, 1, 0] S1x1x512.size inb_S2x3x512_S1x1x512_1_1_0, k0_pay38 (E1 i x0 x1 x2) (G1 i x0 x1 x2 x3 x4 x5 x6 x7)⟩,
      ⟨Rect.unit ![1, 0, 0] S1x1x512.size inb_S2x3x512_S1x1x512_1_0_0, k0_pay38 (k0_pay21 (E1 i x0 x1 x2)) (G1 i x0 x1 x2 x3 x4 x5 x6 x7)⟩,
      ⟨Rect.unit ![0, 2, 0] S1x1x512.size inb_S2x3x512_S1x1x512_0_2_0, k0_pay38 (k0_pay22 (E0 i x0 x1 x2)) (G0 i x0 x1 x2 x3 x4 x5 x6 x7)⟩,
      ⟨Rect.unit ![0, 1, 0] S1x1x512.size inb_S2x3x512_S1x1x512_0_1_0, k0_pay38 (E0 i x0 x1 x2) (G0 i x0 x1 x2 x3 x4 x5 x6 x7)⟩,
      ⟨Rect.unit ![0, 0, 0] S1x1x512.size inb_S2x3x512_S1x1x512_0_0_0, k0_pay38 (k0_pay21 (E0 i x0 x1 x2)) (G0 i x0 x1 x2 x3 x4 x5 x6 x7)⟩] : List (View.Piece (Elt Ideal) S2x3x512 .f32)) := by
  unfold out0_A_9
  rw [View.read_writes_junk_eq_canon]
  unfold kernelRun0_A
  dsimp only
  sl_unfold_words
  simp only [View.readAt_eq_ld, h2.read_unread, h3.read_unread, h4.read_unread, h5.read_unread, h6.read_unread, h7.read_unread,
    h8.read_unread, h9.read_unread,
    View.ld_unit_zero (S := S512x512) hz, View.ld_unit_zero (S := S8x512) hz]
  rfl

theorem first_10 {hc0 : cond0_0 i} {hc1 : ¬cond0_1 i} {hc2 : cond0_2 i} {hc3 : ¬cond0_3 i} :
    out0_A_10 c i a2 h2 a3 h3 a4 h4 a5 h5 a6 h6 a7 h7 a8 h8 a9 h9 a10 h10 a11 h11 a12 h12 hc0 hc1 hc2 hc3 x0 x1 x2 x3 x4 x5 x6 x7
    = View.canon ([⟨Rect.unit ![1, 0, 0] S1x1x512.size inb_S2x1x512_S1x1x512_1_0_0, k0_pay41 (G1 i x0 x1 x2 x3 x4 x5 x6 x7)⟩,
      ⟨Rect.unit ![0, 0, 0] S1x1x512.size inb_S2x1x512_S1x1x512_0_0_0, k0_pay41 (G0 i x0 x1 x2 x3 x4 x5 x6 x7)⟩] : List (View.Piece (Elt Ideal) S2x1x512 .f32)) := by
  unfold out0_A_10
  rw [View.read_writes_junk_eq_canon]
  unfold kernelRun0_A
  dsimp only
  sl_unfold_words
  simp only [View.readAt_eq_ld, h2.read_unread, h3.read_unread, h4.read_unread, h5.read_unread, h6.read_unread, h7.read_unread,
    h8.read_unread, h9.read_unread,
    View.ld_unit_zero (S := S512x512) hz, View.ld_unit_zero (S := S8x512) hz]
  rfl

theorem next_8 {hc0 : ¬cond0_0 i} {hc1 : cond0_1 i} {hc2 : ¬cond0_2 i} {hc3 : cond0_3 i} :
    out0_B_8 c i a2 h2 a3 h3 a4 h4 a5 h5 a6 h6 a7 h7 a8 h8 a9 h9 a10 h10 a11 h11 a12 h12 hc0 hc1 hc2 hc3 x0 x1 x2 x3 x4 x5 x6 x7 o9 o10
    = View.canon ([⟨Rect.unit ![1, 0, 0] S1x512x512.size inb_S2x512x512_S1x512x512_1_0_0, k0_pay32 (k0_pay46 (G1 i x0 x1 x2 x3 x4 x5 x6 x7) (W1 x6))⟩,
      ⟨Rect.unit ![0, 0, 0] S1x512x512.size inb_S2x512x512_S1x512x512_0_0_0, k0_pay32 (k0_pay46 (G0 i x0 x1 x2 x3 x4 x5 x6 x7) (W0 x6))⟩] : List (View.Piece (Elt Ideal) S2x512x512 .bf16)) := by
  unfold out0_B_8
  rw [View.read_writes_junk_eq_canon]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread,
    View.ld_unit_zero (S := S512x512) hz, View.ld_unit_zero (S := S8x512) hz]
  rfl

theorem next_9 {hc0 : ¬cond0_0 i} {hc1 : cond0_1 i} {hc2 : ¬cond0_2 i} {hc3 : cond0_3 i} :
    out0_B_9 c i a2 h2 a3 h3 a4 h4 a5 h5 a6 h6 a7 h7 a8 h8 a9 h9 a10 h10 a11 h11 a12 h12 hc0 hc1 hc2 hc3 x0 x1 x2 x3 x4 x5 x6 x7 o9 o10
    = View.canon ([⟨Rect.unit ![1, 2, 0] S1x1x512.size inb_S2x3x512_S1x1x512_1_2_0, k0_pay42 (k0_pay22 (E1 i x0 x1 x2)) (G1 i x0 x1 x2 x3 x4 x5 x6 x7) (View.ld o9 (Rect.unit ![1, 2, 0] S1x1x512.size inb_S2x3x512_S1x1x512_1_2_0))⟩,
      ⟨Rect.unit ![1, 1, 0] S1x1x512.size inb_S2x3x512_S1x1x512_1_1_0, k0_pay42 (E1 i x0 x1 x2) (G1 i x0 x1 x2 x3 x4 x5 x6 x7) (View.ld o9 (Rect.unit ![1, 1, 0] S1x1x512.size inb_S2x3x512_S1x1x512_1_1_0))⟩,
      ⟨Rect.unit ![1, 0, 0] S1x1x512.size inb_S2x3x512_S1x1x512_1_0_0, k0_pay42 (k0_pay21 (E1 i x0 x1 x2)) (G1 i x0 x1 x2 x3 x4 x5 x6 x7) (View.ld o9 (Rect.unit ![1, 0, 0] S1x1x512.size inb_S2x3x512_S1x1x512_1_0_0))⟩,
      ⟨Rect.unit ![0, 2, 0] S1x1x512.size inb_S2x3x512_S1x1x512_0_2_0, k0_pay42 (k0_pay22 (E0 i x0 x1 x2)) (G0 i x0 x1 x2 x3 x4 x5 x6 x7) (View.ld o9 (Rect.unit ![0, 2, 0] S1x1x512.size inb_S2x3x512_S1x1x512_0_2_0))⟩,
      ⟨Rect.unit ![0, 1, 0] S1x1x512.size inb_S2x3x512_S1x1x512_0_1_0, k0_pay42 (E0 i x0 x1 x2) (G0 i x0 x1 x2 x3 x4 x5 x6 x7) (View.ld o9 (Rect.unit ![0, 1, 0] S1x1x512.size inb_S2x3x512_S1x1x512_0_1_0))⟩,
      ⟨Rect.unit ![0, 0, 0] S1x1x512.size inb_S2x3x512_S1x1x512_0_0_0, k0_pay42 (k0_pay21 (E0 i x0 x1 x2)) (G0 i x0 x1 x2 x3 x4 x5 x6 x7) (View.ld o9 (Rect.unit ![0, 0, 0] S1x1x512.size inb_S2x3x512_S1x1x512_0_0_0))⟩] : List (View.Piece (Elt Ideal) S2x3x512 .f32)) := by
  unfold out0_B_9
  rw [View.read_writes_junk_eq_canon]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread,
    View.ld_unit_zero (S := S512x512) hz, View.ld_unit_zero (S := S8x512) hz]
  rfl

theorem next_10 {hc0 : ¬cond0_0 i} {hc1 : cond0_1 i} {hc2 : ¬cond0_2 i} {hc3 : cond0_3 i} :
    out0_B_10 c i a2 h2 a3 h3 a4 h4 a5 h5 a6 h6 a7 h7 a8 h8 a9 h9 a10 h10 a11 h11 a12 h12 hc0 hc1 hc2 hc3 x0 x1 x2 x3 x4 x5 x6 x7 o9 o10
    = View.canon ([⟨Rect.unit ![1, 0, 0] S1x1x512.size inb_S2x1x512_S1x1x512_1_0_0, k0_pay45 (G1 i x0 x1 x2 x3 x4 x5 x6 x7) (View.ld o10 (Rect.unit ![1, 0, 0] S1x1x512.size inb_S2x1x512_S1x1x512_1_0_0))⟩,
      ⟨Rect.unit ![0, 0, 0] S1x1x512.size inb_S2x1x512_S1x1x512_0_0_0, k0_pay45 (G0 i x0 x1 x2 x3 x4 x5 x6 x7) (View.ld o10 (Rect.unit ![0, 0, 0] S1x1x512.size inb_S2x1x512_S1x1x512_0_0_0))⟩] : List (View.Piece (Elt Ideal) S2x1x512 .f32)) := by
  unfold out0_B_10
  rw [View.read_writes_junk_eq_canon]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread,
    View.ld_unit_zero (S := S512x512) hz, View.ld_unit_zero (S := S8x512) hz]
  rfl

end

end Cert.ConvKIdeal.Ker

end
-- ==== Proof.ConvKer.lean ====
/- The convolution's backward kernel: the blocks a grid point reads, and what it computes of them. -/
module

public import proofs.«01_k».proof.Proof.ConvPt

@[expose] public section

set_option maxRecDepth 16384

noncomputable section

namespace Cert.ConvKIdeal.Ker

open Idealize.ShloMosaic Idealize.ShloMosaic.TcCoe Idealize.ShloMosaic.Tactic Cert.ConvKIdeal Cert.ConvKIdeal.Gen
open Idealize.SL.Sem

/-! ## Pieces that fill a buffer -/

theorem canon8 (G : S2x512x512.Idx → EReal) (p0 p1 : S1x512x512.Idx → EReal) (e0 : ∀ r k, p0 (ix3 0 r k) = G (ix3 0 r k))
    (e1 : ∀ r k, p1 (ix3 0 r k) = G (ix3 1 r k)) :
    View.canon ([⟨Rect.unit ![1, 0, 0] S1x512x512.size inb_S2x512x512_S1x512x512_1_0_0, p1⟩,
      ⟨Rect.unit ![0, 0, 0] S1x512x512.size inb_S2x512x512_S1x512x512_0_0_0, p0⟩] : List (View.Piece (Elt Ideal) S2x512x512 .bf16)) = G := by
  funext y
  refine View.canon_apply_of_pieces (Val := Elt Ideal) (e := .bf16) G _ ?_ y (View.cover_of_tiledL (s := S2x512x512) _ S1x512x512.size (by sl_kernel_rfl) y)
  simp only [List.forall_mem_cons, List.not_mem_nil, false_imp_iff, implies_true, and_true]
  refine ⟨fun (x : S1x512x512.Idx) => ?_, fun (x : S1x512x512.Idx) => ?_⟩
  all_goals
    idx_vars x
    obtain rfl : x0 = 0 := Subsingleton.elim _ _
  · refine (e1 x1 x2).trans (congrArg G (funext fun a => Fin.ext ?_))
    match a with
    | ⟨0, _⟩ => rfl
    | ⟨1, _⟩ => show x1.val = 0 + 1 * x1.val; omega
    | ⟨2, _⟩ => show x2.val = 0 + 1 * x2.val; omega
  · refine (e0 x1 x2).trans (congrArg G (funext fun a => Fin.ext ?_))
    match a with
    | ⟨0, _⟩ => rfl
    | ⟨1, _⟩ => show x1.val = 0 + 1 * x1.val; omega
    | ⟨2, _⟩ => show x2.val = 0 + 1 * x2.val; omega

theorem piece9 (G : S2x3x512.Idx → EReal) (h : Fin 2) (t : Fin 3) (inb : ∀ a, ![h.val, t.val, 0] a + S1x1x512.size a ≤ S2x3x512.size a)
    (p : S1x1x512.Idx → EReal) (e : ∀ k, p (ix3 0 0 k) = G (ix3 h t k)) (x : S1x1x512.Idx) :
    p x = G ((Rect.unit (s := S2x3x512) ![h.val, t.val, 0] S1x1x512.size inb).emb x) := by
  idx_vars x
  obtain rfl : x0 = 0 := Subsingleton.elim _ _
  obtain rfl : x1 = 0 := Subsingleton.elim _ _
  refine (e x2).trans (congrArg G (funext fun a => Fin.ext ?_))
  match a with
  | ⟨0, _⟩ => show h.val = h.val + 1 * 0; omega
  | ⟨1, _⟩ => show t.val = t.val + 1 * 0; omega
  | ⟨2, _⟩ => show x2.val = 0 + 1 * x2.val; omega

theorem canon9 (G : S2x3x512.Idx → EReal) (p00 p01 p02 p10 p11 p12 : S1x1x512.Idx → EReal) (e00 : ∀ k, p00 (ix3 0 0 k) = G (ix3 0 0 k))
    (e01 : ∀ k, p01 (ix3 0 0 k) = G (ix3 0 1 k)) (e02 : ∀ k, p02 (ix3 0 0 k) = G (ix3 0 2 k)) (e10 : ∀ k, p10 (ix3 0 0 k) = G (ix3 1 0 k))
    (e11 : ∀ k, p11 (ix3 0 0 k) = G (ix3 1 1 k)) (e12 : ∀ k, p12 (ix3 0 0 k) = G (ix3 1 2 k)) :
    View.canon ([⟨Rect.unit ![1, 2, 0] S1x1x512.size inb_S2x3x512_S1x1x512_1_2_0, p12⟩,
      ⟨Rect.unit ![1, 1, 0] S1x1x512.size inb_S2x3x512_S1x1x512_1_1_0, p11⟩,
      ⟨Rect.unit ![1, 0, 0] S1x1x512.size inb_S2x3x512_S1x1x512_1_0_0, p10⟩,
      ⟨Rect.unit ![0, 2, 0] S1x1x512.size inb_S2x3x512_S1x1x512_0_2_0, p02⟩,
      ⟨Rect.unit ![0, 1, 0] S1x1x512.size inb_S2x3x512_S1x1x512_0_1_0, p01⟩,
      ⟨Rect.unit ![0, 0, 0] S1x1x512.size inb_S2x3x512_S1x1x512_0_0_0, p00⟩] : List (View.Piece (Elt Ideal) S2x3x512 .f32)) = G := by
  funext y
  refine View.canon_apply_of_pieces (Val := Elt Ideal) (e := .f32) G _ ?_ y (View.cover_of_tiledL (s := S2x3x512) _ S1x1x512.size (by sl_kernel_rfl) y)
  simp only [List.forall_mem_cons, List.not_mem_nil, false_imp_iff, implies_true, and_true]
  exact ⟨piece9 G 1 2 _ p12 e12, piece9 G 1 1 _ p11 e11, piece9 G 1 0 _ p10 e10, piece9 G 0 2 _ p02 e02, piece9 G 0 1 _ p01 e01,
    piece9 G 0 0 _ p00 e00⟩

theorem canon10 (G : S2x1x512.Idx → EReal) (p0 p1 : S1x1x512.Idx → EReal) (e0 : ∀ k, p0 (ix3 0 0 k) = G (ix3 0 0 k))
    (e1 : ∀ k, p1 (ix3 0 0 k) = G (ix3 1 0 k)) :
    View.canon ([⟨Rect.unit ![1, 0, 0] S1x1x512.size inb_S2x1x512_S1x1x512_1_0_0, p1⟩,
      ⟨Rect.unit ![0, 0, 0] S1x1x512.size inb_S2x1x512_S1x1x512_0_0_0, p0⟩] : List (View.Piece (Elt Ideal) S2x1x512 .f32)) = G := by
  funext y
  refine View.canon_apply_of_pieces (Val := Elt Ideal) (e := .f32) G _ ?_ y (View.cover_of_tiledL (s := S2x1x512) _ S1x1x512.size (by sl_kernel_rfl) y)
  simp only [List.forall_mem_cons, List.not_mem_nil, false_imp_iff, implies_true, and_true]
  refine ⟨fun (x : S1x1x512.Idx) => ?_, fun (x : S1x1x512.Idx) => ?_⟩
  all_goals
    idx_vars x
    obtain rfl : x0 = 0 := Subsingleton.elim _ _
    obtain rfl : x1 = 0 := Subsingleton.elim _ _
  · refine (e1 x2).trans (congrArg G (funext fun a => Fin.ext ?_))
    match a with
    | ⟨0, _⟩ => rfl
    | ⟨1, _⟩ => rfl
    | ⟨2, _⟩ => show x2.val = 0 + 1 * x2.val; omega
  · refine (e0 x2).trans (congrArg G (funext fun a => Fin.ext ?_))
    match a with
    | ⟨0, _⟩ => rfl
    | ⟨1, _⟩ => rfl
    | ⟨2, _⟩ => show x2.val = 0 + 1 * x2.val; omega

/-! ## One half of a buffer -/

theorem ld_half {n : ℕ} (h : Fin 2) (X : (⟨3, ![2, n, 512]⟩ : Shape).Idx → EReal)
    (inb : ∀ a, ![h.val, 0, 0] a + ![1, n, 512] a ≤ (⟨3, ![2, n, 512]⟩ : Shape).size a) (r : Fin n) (k : Fin 512) :
    View.ld (Val := Elt Ideal) (e' := .f32) X (Rect.unit (s := ⟨3, ![2, n, 512]⟩) ![h.val, 0, 0] ![1, n, 512] inb) (ix3 0 r k) = X (ix3 h r k) := by
  refine congrArg X (funext fun a => Fin.ext ?_)
  match a with
  | ⟨0, _⟩ => show h.val + 1 * 0 = h.val; omega
  | ⟨1, _⟩ => show 0 + 1 * r.val = r.val; omega
  | ⟨2, _⟩ => show 0 + 1 * k.val = k.val; omega

theorem ld_row (h : Fin 2) (t : Fin 3) (X : S2x3x512.Idx → EReal)
    (inb : ∀ a, ![h.val, t.val, 0] a + S1x1x512.size a ≤ S2x3x512.size a) (k : Fin 512) :
    View.ld (Val := Elt Ideal) (e' := .f32) X (Rect.unit (s := S2x3x512) ![h.val, t.val, 0] S1x1x512.size inb) (ix3 0 0 k) = X (ix3 h t k) := by
  refine congrArg X (funext fun a => Fin.ext ?_)
  match a with
  | ⟨0, _⟩ => show h.val + 1 * 0 = h.val; omega
  | ⟨1, _⟩ => show t.val + 1 * 0 = t.val; omega
  | ⟨2, _⟩ => show 0 + 1 * k.val = k.val; omega

/-! ## The blocks a point reads -/

variable (m : (ℓ : Loc nD τ sig) → Buf (Elt Ideal) ℓ) (c : Dev nD)

theorem idx_facts : ∀ t : Fin cfg0.N, ((win0_0.index t 0 = 0 ∧ win0_0.index t 1 = t.val % 16 ∧ win0_0.index t 2 = t.val / 16)
    ∧ (win0_1.index t 0 = 0 ∧ win0_1.index t 1 = 64 * (t.val % 16) - 1 ∧ win0_1.index t 2 = t.val / 16)
    ∧ (win0_2.index t 0 = 0 ∧ win0_2.index t 1 = min (64 * (t.val % 16) + 64) 1023 ∧ win0_2.index t 2 = t.val / 16)
    ∧ (win0_3.index t 0 = t.val % 16 ∧ win0_3.index t 1 = t.val / 16)
    ∧ (win0_4.index t 0 = 64 * (t.val % 16) - 1 ∧ win0_4.index t 1 = t.val / 16)
    ∧ (win0_5.index t 0 = min (64 * (t.val % 16) + 64) 1023 ∧ win0_5.index t 1 = t.val / 16)
    ∧ (win0_6.index t 0 = 0 ∧ win0_6.index t 1 = 0 ∧ win0_6.index t 2 = t.val / 16)
    ∧ (win0_7.index t 0 = 0 ∧ win0_7.index t 1 = 0 ∧ win0_7.index t 2 = t.val / 16)) :=
  (by decide +kernel : ∀ t : Fin grid0.N, _)

theorem out_facts : ∀ t : Fin cfg0.N, (win0_8.index t 0 = 0 ∧ win0_8.index t 1 = t.val % 16 ∧ win0_8.index t 2 = t.val / 16)
    ∧ (win0_9.index t 0 = 0 ∧ win0_9.index t 1 = 0 ∧ win0_9.index t 2 = t.val / 16)
    ∧ (win0_10.index t 0 = 0 ∧ win0_10.index t 1 = 0 ∧ win0_10.index t 2 = t.val / 16) :=
  (by decide +kernel : ∀ t : Fin grid0.N, _)

theorem row_fact : ∀ t : Fin cfg0.N, (grid0.coords t 1).val = t.val % 16 := (by decide +kernel : ∀ t : Fin grid0.N, _)

theorem lt_N (t : Fin cfg0.N) : t.val < 176 := t.isLt.trans_eq N_0

/-- Column `k` of point `t`'s block. -/
abbrev col (t : Fin cfg0.N) (k : Fin 512) : Fin 5632 := ⟨512 * (t.val / 16) + k.val, by have := lt_N t; omega⟩
/-- The four arrays of device `c`. -/
abbrev au (m : (ℓ : Loc nD τ sig) → Buf (Elt Ideal) ℓ) (c : Dev nD) : S2x8192x5632.Idx → EReal := m ((c : Thread nD τ).loc main_arg0)
abbrev aw (m : (ℓ : Loc nD τ sig) → Buf (Elt Ideal) ℓ) (c : Dev nD) : S2x3x5632.Idx → EReal := m ((c : Thread nD τ).loc main_arg1)
abbrev ab (m : (ℓ : Loc nD τ sig) → Buf (Elt Ideal) ℓ) (c : Dev nD) : S2x1x5632.Idx → EReal := m ((c : Thread nD τ).loc main_arg2)
abbrev aa (m : (ℓ : Loc nD τ sig) → Buf (Elt Ideal) ℓ) (c : Dev nD) : S8192x5632.Idx → EReal := m ((c : Thread nD τ).loc main_arg3)

theorem uAt_of (u : S2x8192x5632.Idx → EReal) (h : Fin 2) (k : Fin 5632) (n : ℕ) (r : Fin 8192) (e : n = r.val + 1) :
    u (ix3 h r k) = uAt u h k n := by
  subst e
  unfold uAt
  rw [dif_pos (by omega)]
  rfl

theorem aAt_of (a : S8192x5632.Idx → EReal) (k : Fin 5632) (n : ℕ) (r : Fin 8192) (e : n = r.val + 1) : a (ix2 r k) = aAt a k n := by
  subst e
  unfold aAt
  rw [dif_pos (by omega)]
  rfl

theorem blk_u (t : Fin cfg0.N) (h : Fin 2) (r k : Fin 512) :
    (iblk m c 0 t : Vec Ideal S2x512x512 .f32) (ix3 h r k) = uAt (au m c) h (col t k) (512 * (t.val % 16) + r.val + 1) := by
  obtain ⟨hi, -⟩ := idx_facts t
  rw [← uAt_of _ h (col t k) _ ⟨512 * (t.val % 16) + r.val, by omega⟩ rfl]
  unfold iblk
  rw [View.read_apply]
  show V m c main_arg0 _ = V m c main_arg0 _
  congr 1
  funext a
  apply Fin.ext
  match a with
  | ⟨0, _⟩ => show win0_0.index t 0 * 2 + 1 * h.val = h.val; rw [hi.1]; omega
  | ⟨1, _⟩ => show win0_0.index t 1 * 512 + 1 * r.val = 512 * (t.val % 16) + r.val; rw [hi.2.1]; omega
  | ⟨2, _⟩ => show win0_0.index t 2 * 512 + 1 * k.val = 512 * (t.val / 16) + k.val; rw [hi.2.2]; omega

theorem blk_prev (t : Fin cfg0.N) (hp : 0 < t.val % 16) (h : Fin 2) (r : Fin 8) (k : Fin 512) :
    (iblk m c 1 t : Vec Ideal S2x8x512 .f32) (ix3 h r k) = uAt (au m c) h (col t k) (512 * (t.val % 16) + r.val - 7) := by
  obtain ⟨-, hi, -⟩ := idx_facts t
  rw [← uAt_of _ h (col t k) _ ⟨512 * (t.val % 16) + r.val - 8, by omega⟩ (by dsimp only; omega)]
  unfold iblk
  rw [View.read_apply]
  show V m c main_arg0 _ = V m c main_arg0 _
  congr 1
  funext a
  apply Fin.ext
  match a with
  | ⟨0, _⟩ => show win0_1.index t 0 * 2 + 1 * h.val = h.val; rw [hi.1]; omega
  | ⟨1, _⟩ => show win0_1.index t 1 * 8 + 1 * r.val = 512 * (t.val % 16) + r.val - 8; rw [hi.2.1]; omega
  | ⟨2, _⟩ => show win0_1.index t 2 * 512 + 1 * k.val = 512 * (t.val / 16) + k.val; rw [hi.2.2]; omega

theorem blk_next (t : Fin cfg0.N) (hp : t.val % 16 < 15) (h : Fin 2) (r : Fin 8) (k : Fin 512) :
    (iblk m c 2 t : Vec Ideal S2x8x512 .f32) (ix3 h r k) = uAt (au m c) h (col t k) (512 * (t.val % 16) + 513 + r.val) := by
  obtain ⟨-, -, hi, -⟩ := idx_facts t
  rw [← uAt_of _ h (col t k) _ ⟨512 * (t.val % 16) + 512 + r.val, by omega⟩ (by dsimp only; omega)]
  unfold iblk
  rw [View.read_apply]
  show V m c main_arg0 _ = V m c main_arg0 _
  congr 1
  funext a
  apply Fin.ext
  match a with
  | ⟨0, _⟩ => show win0_2.index t 0 * 2 + 1 * h.val = h.val; rw [hi.1]; omega
  | ⟨1, _⟩ => show win0_2.index t 1 * 8 + 1 * r.val = 512 * (t.val % 16) + 512 + r.val; rw [hi.2.1]; omega
  | ⟨2, _⟩ => show win0_2.index t 2 * 512 + 1 * k.val = 512 * (t.val / 16) + k.val; rw [hi.2.2]; omega

theorem blk_a (t : Fin cfg0.N) (r k : Fin 512) :
    (iblk m c 3 t : Vec Ideal S512x512 .f32) (ix2 r k) = aAt (aa m c) (col t k) (512 * (t.val % 16) + r.val + 1) := by
  obtain ⟨-, -, -, hi, -⟩ := idx_facts t
  rw [← aAt_of _ (col t k) _ ⟨512 * (t.val % 16) + r.val, by omega⟩ rfl]
  unfold iblk
  rw [View.read_apply]
  show V m c main_arg3 _ = V m c main_arg3 _
  congr 1
  funext a
  apply Fin.ext
  match a with
  | ⟨0, _⟩ => show win0_3.index t 0 * 512 + 1 * r.val = 512 * (t.val % 16) + r.val; rw [hi.1]; omega
  | ⟨1, _⟩ => show win0_3.index t 1 * 512 + 1 * k.val = 512 * (t.val / 16) + k.val; rw [hi.2]; omega

theorem blk_aprev (t : Fin cfg0.N) (hp : 0 < t.val % 16) (r : Fin 8) (k : Fin 512) :
    (iblk m c 4 t : Vec Ideal S8x512 .f32) (ix2 r k) = aAt (aa m c) (col t k) (512 * (t.val % 16) + r.val - 7) := by
  obtain ⟨-, -, -, -, hi, -⟩ := idx_facts t
  rw [← aAt_of _ (col t k) _ ⟨512 * (t.val % 16) + r.val - 8, by omega⟩ (by dsimp only; omega)]
  unfold iblk
  rw [View.read_apply]
  show V m c main_arg3 _ = V m c main_arg3 _
  congr 1
  funext a
  apply Fin.ext
  match a with
  | ⟨0, _⟩ => show win0_4.index t 0 * 8 + 1 * r.val = 512 * (t.val % 16) + r.val - 8; rw [hi.1]; omega
  | ⟨1, _⟩ => show win0_4.index t 1 * 512 + 1 * k.val = 512 * (t.val / 16) + k.val; rw [hi.2]; omega

theorem blk_anext (t : Fin cfg0.N) (hp : t.val % 16 < 15) (r : Fin 8) (k : Fin 512) :
    (iblk m c 5 t : Vec Ideal S8x512 .f32) (ix2 r k) = aAt (aa m c) (col t k) (512 * (t.val % 16) + 513 + r.val) := by
  obtain ⟨-, -, -, -, -, hi, -⟩ := idx_facts t
  rw [← aAt_of _ (col t k) _ ⟨512 * (t.val % 16) + 512 + r.val, by omega⟩ (by dsimp only; omega)]
  unfold iblk
  rw [View.read_apply]
  show V m c main_arg3 _ = V m c main_arg3 _
  congr 1
  funext a
  apply Fin.ext
  match a with
  | ⟨0, _⟩ => show win0_5.index t 0 * 8 + 1 * r.val = 512 * (t.val % 16) + 512 + r.val; rw [hi.1]; omega
  | ⟨1, _⟩ => show win0_5.index t 1 * 512 + 1 * k.val = 512 * (t.val / 16) + k.val; rw [hi.2]; omega

theorem blk_w (t : Fin cfg0.N) (h : Fin 2) (r : Fin 3) (k : Fin 512) :
    (iblk m c 6 t : Vec Ideal S2x3x512 .f32) (ix3 h r k) = aw m c (ix3 h r (col t k)) := by
  obtain ⟨-, -, -, -, -, -, hi, -⟩ := idx_facts t
  unfold iblk
  rw [View.read_apply]
  show V m c main_arg1 _ = V m c main_arg1 _
  congr 1
  funext a
  apply Fin.ext
  match a with
  | ⟨0, _⟩ => show win0_6.index t 0 * 2 + 1 * h.val = h.val; rw [hi.1]; omega
  | ⟨1, _⟩ => show win0_6.index t 1 * 3 + 1 * r.val = r.val; rw [hi.2.1]; omega
  | ⟨2, _⟩ => show win0_6.index t 2 * 512 + 1 * k.val = 512 * (t.val / 16) + k.val; rw [hi.2.2]; omega

theorem blk_b (t : Fin cfg0.N) (h : Fin 2) (k : Fin 512) :
    (iblk m c 7 t : Vec Ideal S2x1x512 .f32) (ix3 h 0 k) = ab m c (ix3 h 0 (col t k)) := by
  obtain ⟨-, -, -, -, -, -, -, hi⟩ := idx_facts t
  unfold iblk
  rw [View.read_apply]
  show V m c main_arg2 _ = V m c main_arg2 _
  congr 1
  funext a
  apply Fin.ext
  match a with
  | ⟨0, _⟩ => show win0_7.index t 0 * 2 + 1 * h.val = h.val; rw [hi.1]; omega
  | ⟨1, _⟩ => show win0_7.index t 1 * 1 + 1 * 0 = 0; rw [hi.2.1]
  | ⟨2, _⟩ => show win0_7.index t 2 * 512 + 1 * k.val = 512 * (t.val / 16) + k.val; rw [hi.2.2]; omega

theorem uAt_zero (u : S2x8192x5632.Idx → EReal) (h : Fin 2) (k : Fin 5632) : uAt u h k 0 = 0 := dif_neg (by omega)
theorem uAt_past (u : S2x8192x5632.Idx → EReal) (h : Fin 2) (k : Fin 5632) (n : ℕ) (hn : 8192 < n) : uAt u h k n = 0 := dif_neg (by omega)
theorem aAt_zero (a : S8192x5632.Idx → EReal) (k : Fin 5632) : aAt a k 0 = 0 := dif_neg (by omega)
theorem aAt_past (a : S8192x5632.Idx → EReal) (k : Fin 5632) (n : ℕ) (hn : 8192 < n) : aAt a k n = 0 := dif_neg (by omega)

/-! ## What the point computes of them -/

section
variable (t : Fin cfg0.N)

abbrev pE0 := E0 (grid0.coords t) (iblk m c 0 t) (iblk m c 1 t) (iblk m c 2 t)
abbrev pE1 := E1 (grid0.coords t) (iblk m c 0 t) (iblk m c 1 t) (iblk m c 2 t)
abbrev pC0 := C0 (grid0.coords t) (iblk m c 0 t) (iblk m c 1 t) (iblk m c 2 t) (iblk m c 6 t) (iblk m c 7 t)
abbrev pC1 := C1 (grid0.coords t) (iblk m c 0 t) (iblk m c 1 t) (iblk m c 2 t) (iblk m c 6 t) (iblk m c 7 t)
abbrev pG0 := G0 (grid0.coords t) (iblk m c 0 t) (iblk m c 1 t) (iblk m c 2 t) (iblk m c 3 t) (iblk m c 4 t) (iblk m c 5 t) (iblk m c 6 t) (iblk m c 7 t)
abbrev pG1 := G1 (grid0.coords t) (iblk m c 0 t) (iblk m c 1 t) (iblk m c 2 t) (iblk m c 3 t) (iblk m c 4 t) (iblk m c 5 t) (iblk m c 6 t) (iblk m c 7 t)

theorem pt_E0 (ρ : Fin 528) (k : Fin 512) : pE0 m c t (ix2 ρ k) = uAt (au m c) 0 (col t k) (512 * (t.val % 16) + ρ.val - 7) := by
  have e := row_fact t
  refine (ext_gate (grid0.coords t) (fun k n => uAt (au m c) 0 (col t k) n) (fun k => uAt_zero _ 0 _) (fun k n hn => uAt_past _ 0 _ n hn)
    _ _ _ (fun hp r k => ?_) (fun r k => ?_) (fun hp r k => ?_) ρ k).trans (by rw [e])
  · rw [e] at hp ⊢
    exact (ld_half 0 _ _ r k).trans (blk_prev m c t hp 0 r k)
  · rw [e]
    exact (ld_half 0 _ _ r k).trans (blk_u m c t 0 r k)
  · rw [e] at hp ⊢
    exact (ld_half 0 _ _ r k).trans (blk_next m c t hp 0 r k)

theorem pt_E1 (ρ : Fin 528) (k : Fin 512) : pE1 m c t (ix2 ρ k) = uAt (au m c) 1 (col t k) (512 * (t.val % 16) + ρ.val - 7) := by
  have e := row_fact t
  refine (ext_value (grid0.coords t) (fun k n => uAt (au m c) 1 (col t k) n) (fun k => uAt_zero _ 1 _) (fun k n hn => uAt_past _ 1 _ n hn)
    _ _ _ (fun hp r k => ?_) (fun r k => ?_) (fun hp r k => ?_) ρ k).trans (by rw [e])
  · rw [e] at hp ⊢
    exact (ld_half 1 _ _ r k).trans (blk_prev m c t hp 1 r k)
  · rw [e]
    exact (ld_half 1 _ _ r k).trans (blk_u m c t 1 r k)
  · rw [e] at hp ⊢
    exact (ld_half 1 _ _ r k).trans (blk_next m c t hp 1 r k)

theorem pt_a (ρ : Fin 528) (k : Fin 512) :
    k0_pay27 (F := Ideal) (BitVec.ofNat 32 (grid0.coords t 1).val) (iblk m c 4 t) (iblk m c 3 t) (iblk m c 5 t) (ix2 ρ k)
      = aAt (aa m c) (col t k) (512 * (t.val % 16) + ρ.val - 7) := by
  have e := row_fact t
  refine (ext_da (grid0.coords t) (fun k n => aAt (aa m c) (col t k) n) (fun k => aAt_zero _ _) (fun k n hn => aAt_past _ _ n hn)
    _ _ _ (fun hp r k => ?_) (fun r k => ?_) (fun hp r k => ?_) ρ k).trans (by rw [e])
  · rw [e] at hp ⊢
    exact blk_aprev m c t hp r k
  · rw [e]
    exact blk_a m c t r k
  · rw [e] at hp ⊢
    exact blk_anext m c t hp r k

theorem pt_C0 (ρ : Fin 528) (k : Fin 512) (h7 : 7 ≤ ρ.val) (h5 : ρ.val ≤ 520) :
    pC0 m c t (ix2 ρ k) = conv (au m c) (aw m c) (ab m c) 0 (col t k) (512 * (t.val % 16) + ρ.val - 7) := by
  refine (pay_conv _ _ _ (t.val % 16) (fun k n => uAt (au m c) 0 (col t k) n) (fun ρ k => pt_E0 m c t ρ k) ρ k h7 h5 _ rfl).trans ?_
  have hw : ∀ r : Fin 3, W0 (iblk m c 6 t) (ix3 0 r k) = aw m c (ix3 0 r (col t k)) :=
    fun r => (ld_half 0 _ _ r k).trans (blk_w m c t 0 r k)
  rw [hw, hw, hw]
  exact congrArg (· + _) ((ld_half 0 _ _ 0 k).trans (blk_b m c t 0 k))

theorem pt_C1 (ρ : Fin 528) (k : Fin 512) (h7 : 7 ≤ ρ.val) (h5 : ρ.val ≤ 520) :
    pC1 m c t (ix2 ρ k) = conv (au m c) (aw m c) (ab m c) 1 (col t k) (512 * (t.val % 16) + ρ.val - 7) := by
  refine (pay_conv _ _ _ (t.val % 16) (fun k n => uAt (au m c) 1 (col t k) n) (fun ρ k => pt_E1 m c t ρ k) ρ k h7 h5 _ rfl).trans ?_
  have hw : ∀ r : Fin 3, W1 (iblk m c 6 t) (ix3 0 r k) = aw m c (ix3 1 r (col t k)) :=
    fun r => (ld_half 1 _ _ r k).trans (blk_w m c t 1 r k)
  rw [hw, hw, hw]
  exact congrArg (· + _) ((ld_half 1 _ _ 0 k).trans (blk_b m c t 1 k))

end

end Cert.ConvKIdeal.Ker

end
-- ==== Proof.ConvFin.lean ====
/- The convolution's backward kernel: its three result arrays. -/
module

public import proofs.«01_k».proof.Proof.ConvKer

@[expose] public section

set_option maxRecDepth 16384

noncomputable section

namespace Cert.ConvKIdeal.Ker

open Idealize.ShloMosaic Idealize.ShloMosaic.TcCoe Idealize.ShloMosaic.Tactic Cert.ConvKIdeal Cert.ConvKIdeal.Gen
open Idealize.SL.Sem

variable (m : (ℓ : Loc nD τ sig) → Buf (Elt Ideal) ℓ) (c : Dev nD)

/-- The kernel's gradient by the convolution, and its results, on device `c`. -/
abbrev kdc := dc (au m c) (aw m c) (ab m c) (aa m c)
abbrev kdu := duArr (au m c) (aw m c) (ab m c) (aa m c)
abbrev kdw := dwArr (au m c) (aw m c) (ab m c) (aa m c)
abbrev kdb := dbArr (au m c) (aw m c) (ab m c) (aa m c)
abbrev kdwBlk := dwBlk (au m c) (aw m c) (ab m c) (aa m c)
abbrev kdbBlk := dbBlk (au m c) (aw m c) (ab m c) (aa m c)

section
variable (t : Fin cfg0.N)

theorem pt_G0 (ρ : Fin 528) (k : Fin 512) (h7 : 7 ≤ ρ.val) (h5 : ρ.val ≤ 520) :
    pG0 m c t (ix2 ρ k) = kdc m c 0 (col t k) (512 * (t.val % 16) + ρ.val - 7) := by
  refine (pay_d0 _ (pC0 m c t) (pC1 m c t) _ _ _ ρ k).trans ?_
  rw [pt_a m c t ρ k, pt_C0 m c t ρ k h7 h5, pt_C1 m c t ρ k h7 h5]
  exact (if_pos rfl).symm

theorem pt_G1 (ρ : Fin 528) (k : Fin 512) (h7 : 7 ≤ ρ.val) (h5 : ρ.val ≤ 520) :
    pG1 m c t (ix2 ρ k) = kdc m c 1 (col t k) (512 * (t.val % 16) + ρ.val - 7) := by
  refine (pay_d1 _ (pC0 m c t) _ _ _ ρ k).trans ?_
  rw [pt_a m c t ρ k, pt_C0 m c t ρ k h7 h5]
  exact (if_neg (by decide)).symm

theorem pt_du0 (r k : Fin 512) :
    k0_pay32 (k0_pay46 (pG0 m c t) (W0 (iblk m c 6 t))) (ix3 0 r k)
      = duAt (au m c) (aw m c) (ab m c) (aa m c) 0 (col t k) (512 * (t.val % 16) + r.val) := by
  have hw : ∀ q : Fin 3, W0 (iblk m c 6 t) (ix3 0 q k) = aw m c (ix3 0 q (col t k)) :=
    fun q => (ld_half 0 _ _ q k).trans (blk_w m c t 0 q k)
  have e : k0_pay32 (k0_pay46 (pG0 m c t) (W0 (iblk m c 6 t))) (ix3 0 r k) = k0_pay46 (pG0 m c t) (W0 (iblk m c 6 t)) (ix2 r k) := by
    pointwise [k0_pay32]
  rw [e, pay_du _ _ (t.val % 16) (fun k n => kdc m c 0 (col t k) n) (fun ρ k h7 h5 => pt_G0 m c t ρ k h7 h5) r k, hw, hw, hw]
  rfl

theorem pt_du1 (r k : Fin 512) :
    k0_pay32 (k0_pay46 (pG1 m c t) (W1 (iblk m c 6 t))) (ix3 0 r k)
      = duAt (au m c) (aw m c) (ab m c) (aa m c) 1 (col t k) (512 * (t.val % 16) + r.val) := by
  have hw : ∀ q : Fin 3, W1 (iblk m c 6 t) (ix3 0 q k) = aw m c (ix3 1 q (col t k)) :=
    fun q => (ld_half 1 _ _ q k).trans (blk_w m c t 1 q k)
  have e : k0_pay32 (k0_pay46 (pG1 m c t) (W1 (iblk m c 6 t))) (ix3 0 r k) = k0_pay46 (pG1 m c t) (W1 (iblk m c 6 t)) (ix2 r k) := by
    pointwise [k0_pay32]
  rw [e, pay_du _ _ (t.val % 16) (fun k n => kdc m c 1 (col t k) n) (fun ρ k h7 h5 => pt_G1 m c t ρ k h7 h5) r k, hw, hw, hw]
  rfl

/-- A tap's part of the gradient over the point's rows. -/
theorem pt_dw (h : Fin 2) (o : Fin 3) (e d : FVec Ideal S528x512 .f32) (k : Fin 512)
    (hd : ∀ (ρ : Fin 528), 7 ≤ ρ.val → ρ.val ≤ 520 → d (ix2 ρ k) = kdc m c h (col t k) (512 * (t.val % 16) + ρ.val - 7))
    (he : ∀ (ρ : Fin 528), 8 ≤ ρ.val → ρ.val < 520 → e (ix2 ρ k) = uAt (au m c) h (col t k) (512 * (t.val % 16) + ρ.val + o.val - 8)) :
    k0_pay38 (F := Ideal) e d (ix3 0 0 k) = kdwBlk m c h (col t k) o.val (t.val % 16) := by
  rw [pay_dw]
  unfold kdwBlk dwBlk
  rw [Finset.sum_range]
  refine Finset.sum_congr rfl fun x _ => ?_
  rw [hd _ (by show 7 ≤ 8 + x.val; omega) (by show 8 + x.val ≤ 520; omega), he _ (by show 8 ≤ 8 + x.val; omega) (by show 8 + x.val < 520; omega)]
  unfold dwAt
  refine congrArg₂ (fun p q => kdc m c h (col t k) p * uAt (au m c) h (col t k) q) ?_ ?_
  · dsimp only; omega
  · dsimp only; omega

theorem pt_db (h : Fin 2) (d : FVec Ideal S528x512 .f32) (k : Fin 512)
    (hd : ∀ (ρ : Fin 528), 7 ≤ ρ.val → ρ.val ≤ 520 → d (ix2 ρ k) = kdc m c h (col t k) (512 * (t.val % 16) + ρ.val - 7)) :
    k0_pay41 (F := Ideal) d (ix3 0 0 k) = kdbBlk m c h (col t k) (t.val % 16) := by
  rw [pay_db]
  unfold kdbBlk dbBlk
  rw [Finset.sum_range]
  refine Finset.sum_congr rfl fun x _ => ?_
  rw [hd _ (by show 7 ≤ 8 + x.val; omega) (by show 8 + x.val ≤ 520; omega)]
  refine congrArg (fun p => kdc m c h (col t k) p) ?_
  dsimp only; omega

theorem pt_up (e : FVec Ideal S528x512 .f32) (h : Fin 2) (k : Fin 512)
    (he : ∀ (ρ : Fin 528), e (ix2 ρ k) = uAt (au m c) h (col t k) (512 * (t.val % 16) + ρ.val - 7)) (ρ : Fin 528) (h8 : 8 ≤ ρ.val) :
    k0_pay21 (F := Ideal) e (ix2 ρ k) = uAt (au m c) h (col t k) (512 * (t.val % 16) + ρ.val + 0 - 8) := by
  rw [roll_up e ρ k (by omega), he]
  refine congrArg (fun p => uAt (au m c) h (col t k) p) ?_
  dsimp only; omega

theorem pt_mid (e : FVec Ideal S528x512 .f32) (h : Fin 2) (k : Fin 512)
    (he : ∀ (ρ : Fin 528), e (ix2 ρ k) = uAt (au m c) h (col t k) (512 * (t.val % 16) + ρ.val - 7)) (ρ : Fin 528) :
    e (ix2 ρ k) = uAt (au m c) h (col t k) (512 * (t.val % 16) + ρ.val + 1 - 8) := by
  rw [he]
  refine congrArg (fun p => uAt (au m c) h (col t k) p) ?_
  omega

theorem pt_down (e : FVec Ideal S528x512 .f32) (h : Fin 2) (k : Fin 512)
    (he : ∀ (ρ : Fin 528), e (ix2 ρ k) = uAt (au m c) h (col t k) (512 * (t.val % 16) + ρ.val - 7)) (ρ : Fin 528) (h8 : 8 ≤ ρ.val) (h5 : ρ.val < 520) :
    k0_pay22 (F := Ideal) e (ix2 ρ k) = uAt (au m c) h (col t k) (512 * (t.val % 16) + ρ.val + 2 - 8) := by
  rw [roll_down e ρ k (by omega), he]
  refine congrArg (fun p => uAt (au m c) h (col t k) p) ?_
  dsimp only; omega

theorem pt_w00 (k : Fin 512) : k0_pay38 (k0_pay21 (pE0 m c t)) (pG0 m c t) (ix3 0 0 k) = kdwBlk m c 0 (col t k) 0 (t.val % 16) :=
  pt_dw m c t 0 0 _ _ k (fun ρ h7 h5 => pt_G0 m c t ρ k h7 h5) fun ρ h8 _ => pt_up m c t _ 0 k (fun ρ => pt_E0 m c t ρ k) ρ h8
theorem pt_w01 (k : Fin 512) : k0_pay38 (pE0 m c t) (pG0 m c t) (ix3 0 0 k) = kdwBlk m c 0 (col t k) 1 (t.val % 16) :=
  pt_dw m c t 0 1 _ _ k (fun ρ h7 h5 => pt_G0 m c t ρ k h7 h5) fun ρ _ _ => pt_mid m c t _ 0 k (fun ρ => pt_E0 m c t ρ k) ρ
theorem pt_w02 (k : Fin 512) : k0_pay38 (k0_pay22 (pE0 m c t)) (pG0 m c t) (ix3 0 0 k) = kdwBlk m c 0 (col t k) 2 (t.val % 16) :=
  pt_dw m c t 0 2 _ _ k (fun ρ h7 h5 => pt_G0 m c t ρ k h7 h5) fun ρ h8 h5 => pt_down m c t _ 0 k (fun ρ => pt_E0 m c t ρ k) ρ h8 h5
theorem pt_w10 (k : Fin 512) : k0_pay38 (k0_pay21 (pE1 m c t)) (pG1 m c t) (ix3 0 0 k) = kdwBlk m c 1 (col t k) 0 (t.val % 16) :=
  pt_dw m c t 1 0 _ _ k (fun ρ h7 h5 => pt_G1 m c t ρ k h7 h5) fun ρ h8 _ => pt_up m c t _ 1 k (fun ρ => pt_E1 m c t ρ k) ρ h8
theorem pt_w11 (k : Fin 512) : k0_pay38 (pE1 m c t) (pG1 m c t) (ix3 0 0 k) = kdwBlk m c 1 (col t k) 1 (t.val % 16) :=
  pt_dw m c t 1 1 _ _ k (fun ρ h7 h5 => pt_G1 m c t ρ k h7 h5) fun ρ _ _ => pt_mid m c t _ 1 k (fun ρ => pt_E1 m c t ρ k) ρ
theorem pt_w12 (k : Fin 512) : k0_pay38 (k0_pay22 (pE1 m c t)) (pG1 m c t) (ix3 0 0 k) = kdwBlk m c 1 (col t k) 2 (t.val % 16) :=
  pt_dw m c t 1 2 _ _ k (fun ρ h7 h5 => pt_G1 m c t ρ k h7 h5) fun ρ h8 h5 => pt_down m c t _ 1 k (fun ρ => pt_E1 m c t ρ k) ρ h8 h5
theorem pt_b0 (k : Fin 512) : k0_pay41 (pG0 m c t) (ix3 0 0 k) = kdbBlk m c 0 (col t k) (t.val % 16) :=
  pt_db m c t 0 _ k fun ρ h7 h5 => pt_G0 m c t ρ k h7 h5
theorem pt_b1 (k : Fin 512) : k0_pay41 (pG1 m c t) (ix3 0 0 k) = kdbBlk m c 1 (col t k) (t.val % 16) :=
  pt_db m c t 1 _ k fun ρ h7 h5 => pt_G1 m c t ρ k h7 h5

/-! ## What a point leaves in its blocks -/

/-- The block of the input's gradient. -/
theorem du_block : (outsAt0 m c t.val t.isLt).1
    = fun i => duAt (au m c) (aw m c) (ab m c) (aa m c) (i 0) (col t (i 2)) (512 * (t.val % 16) + (i 1).val) := by
  by_cases h0 : t.val % 16 = 0
  · rw [outsAt0_A m c t h0 (by omega) h0 (by omega)]
    dsimp only
    rw [first_8]
    exact canon8 _ _ _ (fun r k => pt_du0 m c t r k) (fun r k => pt_du1 m c t r k)
  · rw [outsAt0_B m c t h0 (by omega) h0 (by omega)]
    dsimp only
    rw [next_8]
    exact canon8 _ _ _ (fun r k => pt_du0 m c t r k) (fun r k => pt_du1 m c t r k)

end

section
variable (t : Fin cfg0.N)

theorem step_w (h : Fin 2) (o : Fin 3) (X : S2x3x512.Idx → EReal)
    (hX : X = fun i => ∑ p ∈ Finset.range (t.val % 16), kdwBlk m c (i 0) (col t (i 2)) (i 1).val p)
    (inb : ∀ a, ![h.val, o.val, 0] a + S1x1x512.size a ≤ S2x3x512.size a) (e d : FVec Ideal S528x512 .f32) (k : Fin 512)
    (hp : k0_pay38 (F := Ideal) e d (ix3 0 0 k) = kdwBlk m c h (col t k) o.val (t.val % 16)) :
    k0_pay42 (F := Ideal) e d (View.ld (Val := Elt Ideal) (e' := .f32) X (Rect.unit (s := S2x3x512) ![h.val, o.val, 0] S1x1x512.size inb)) (ix3 0 0 k)
      = ∑ p ∈ Finset.range (t.val % 16 + 1), kdwBlk m c h (col t k) o.val p := by
  rw [pay_dw', hp, ld_row h o X inb k, hX, Finset.sum_range_succ]
  rfl

theorem step_b (h : Fin 2) (X : S2x1x512.Idx → EReal)
    (hX : X = fun i => ∑ p ∈ Finset.range (t.val % 16), kdbBlk m c (i 0) (col t (i 2)) p)
    (inb : ∀ a, ![h.val, 0, 0] a + S1x1x512.size a ≤ S2x1x512.size a) (d : FVec Ideal S528x512 .f32) (k : Fin 512)
    (hp : k0_pay41 (F := Ideal) d (ix3 0 0 k) = kdbBlk m c h (col t k) (t.val % 16)) :
    k0_pay45 (F := Ideal) d (View.ld (Val := Elt Ideal) (e' := .f32) X (Rect.unit (s := S2x1x512) ![h.val, 0, 0] S1x1x512.size inb)) (ix3 0 0 k)
      = ∑ p ∈ Finset.range (t.val % 16 + 1), kdbBlk m c h (col t k) p := by
  have e : View.ld (Val := Elt Ideal) (e' := .f32) X (Rect.unit (s := S2x1x512) ![h.val, 0, 0] S1x1x512.size inb) (ix3 0 0 k) = X (ix3 h 0 k) :=
    ld_half h X inb 0 k
  rw [pay_db', hp, e, hX, Finset.sum_range_succ]
  rfl

theorem start_w (h0 : t.val % 16 = 0) : (outsAt0 m c t.val t.isLt).2.1
    = fun i => ∑ p ∈ Finset.range (t.val % 16 + 1), kdwBlk m c (i 0) (col t (i 2)) (i 1).val p := by
  have z : ∀ f : ℕ → EReal, f (t.val % 16) = ∑ p ∈ Finset.range (t.val % 16 + 1), f p := fun f => by rw [h0, Finset.sum_range_one]
  rw [outsAt0_A m c t h0 (by omega) h0 (by omega)]
  dsimp only
  rw [first_9]
  exact canon9 (fun i => ∑ p ∈ Finset.range (t.val % 16 + 1), kdwBlk m c (i 0) (col t (i 2)) (i 1).val p) _ _ _ _ _ _
    (fun k => (pt_w00 m c t k).trans (z (kdwBlk m c 0 (col t k) 0))) (fun k => (pt_w01 m c t k).trans (z (kdwBlk m c 0 (col t k) 1)))
    (fun k => (pt_w02 m c t k).trans (z (kdwBlk m c 0 (col t k) 2))) (fun k => (pt_w10 m c t k).trans (z (kdwBlk m c 1 (col t k) 0)))
    (fun k => (pt_w11 m c t k).trans (z (kdwBlk m c 1 (col t k) 1))) (fun k => (pt_w12 m c t k).trans (z (kdwBlk m c 1 (col t k) 2)))

theorem start_b (h0 : t.val % 16 = 0) : (outsAt0 m c t.val t.isLt).2.2
    = fun i => ∑ p ∈ Finset.range (t.val % 16 + 1), kdbBlk m c (i 0) (col t (i 2)) p := by
  have z : ∀ f : ℕ → EReal, f (t.val % 16) = ∑ p ∈ Finset.range (t.val % 16 + 1), f p := fun f => by rw [h0, Finset.sum_range_one]
  rw [outsAt0_A m c t h0 (by omega) h0 (by omega)]
  dsimp only
  rw [first_10]
  exact canon10 (fun i => ∑ p ∈ Finset.range (t.val % 16 + 1), kdbBlk m c (i 0) (col t (i 2)) p) _ _
    (fun k => (pt_b0 m c t k).trans (z (kdbBlk m c 0 (col t k)))) (fun k => (pt_b1 m c t k).trans (z (kdbBlk m c 1 (col t k))))

theorem keep_w (h0 : ¬t.val % 16 = 0) (hX : (outsAt0 m c (t.val - 1) (Nat.lt_of_le_of_lt (Nat.sub_le _ _) t.isLt)).2.1
      = fun i => ∑ p ∈ Finset.range (t.val % 16), kdwBlk m c (i 0) (col t (i 2)) (i 1).val p) :
    (outsAt0 m c t.val t.isLt).2.1
      = fun i => ∑ p ∈ Finset.range (t.val % 16 + 1), kdwBlk m c (i 0) (col t (i 2)) (i 1).val p := by
  rw [outsAt0_B m c t h0 (by omega) h0 (by omega)]
  dsimp only
  rw [next_9]
  exact canon9 (fun i => ∑ p ∈ Finset.range (t.val % 16 + 1), kdwBlk m c (i 0) (col t (i 2)) (i 1).val p) _ _ _ _ _ _
    (fun k => step_w m c t 0 0 _ hX _ _ _ k (pt_w00 m c t k)) (fun k => step_w m c t 0 1 _ hX _ _ _ k (pt_w01 m c t k))
    (fun k => step_w m c t 0 2 _ hX _ _ _ k (pt_w02 m c t k)) (fun k => step_w m c t 1 0 _ hX _ _ _ k (pt_w10 m c t k))
    (fun k => step_w m c t 1 1 _ hX _ _ _ k (pt_w11 m c t k)) (fun k => step_w m c t 1 2 _ hX _ _ _ k (pt_w12 m c t k))

theorem keep_b (h0 : ¬t.val % 16 = 0) (hX : (outsAt0 m c (t.val - 1) (Nat.lt_of_le_of_lt (Nat.sub_le _ _) t.isLt)).2.2
      = fun i => ∑ p ∈ Finset.range (t.val % 16), kdbBlk m c (i 0) (col t (i 2)) p) :
    (outsAt0 m c t.val t.isLt).2.2
      = fun i => ∑ p ∈ Finset.range (t.val % 16 + 1), kdbBlk m c (i 0) (col t (i 2)) p := by
  rw [outsAt0_B m c t h0 (by omega) h0 (by omega)]
  dsimp only
  rw [next_10]
  exact canon10 (fun i => ∑ p ∈ Finset.range (t.val % 16 + 1), kdbBlk m c (i 0) (col t (i 2)) p) _ _
    (fun k => step_b m c t 0 _ hX _ _ k (pt_b0 m c t k)) (fun k => step_b m c t 1 _ hX _ _ k (pt_b1 m c t k))

end

/-- Points of one column block share their columns. -/
theorem col_pred (n : ℕ) (hn : n < cfg0.N) (h0 : ¬n % 16 = 0) (k : Fin 512) : col ⟨n - 1, by omega⟩ k = col ⟨n, hn⟩ k := Fin.ext (by
  show 512 * ((n - 1) / 16) + k.val = 512 * (n / 16) + k.val
  rw [show (n - 1) / 16 = n / 16 by omega])

/-- After a point the gradient by the taps holds the sum of its column's blocks so far. -/
theorem acc_w : ∀ (n : ℕ) (hn : n < cfg0.N), (outsAt0 m c n hn).2.1
    = fun i => ∑ p ∈ Finset.range (n % 16 + 1), kdwBlk m c (i 0) (col ⟨n, hn⟩ (i 2)) (i 1).val p
  | n, hn => by
    by_cases h0 : n % 16 = 0
    · exact start_w m c ⟨n, hn⟩ h0
    · refine keep_w m c ⟨n, hn⟩ h0 ((acc_w (n - 1) (by omega)).trans (funext fun i => ?_))
      rw [show (n - 1) % 16 + 1 = n % 16 by omega]
      exact Finset.sum_congr rfl fun p _ => congrArg (fun q => kdwBlk m c (i 0) q (i 1).val p) (col_pred n hn h0 (i 2))
termination_by n => n
decreasing_by omega

/-- After a point the gradient by the bias holds the sum of its column's blocks so far. -/
theorem acc_b : ∀ (n : ℕ) (hn : n < cfg0.N), (outsAt0 m c n hn).2.2
    = fun i => ∑ p ∈ Finset.range (n % 16 + 1), kdbBlk m c (i 0) (col ⟨n, hn⟩ (i 2)) p
  | n, hn => by
    by_cases h0 : n % 16 = 0
    · exact start_b m c ⟨n, hn⟩ h0
    · refine keep_b m c ⟨n, hn⟩ h0 ((acc_b (n - 1) (by omega)).trans (funext fun i => ?_))
      rw [show (n - 1) % 16 + 1 = n % 16 by omega]
      exact Finset.sum_congr rfl fun p _ => congrArg (fun q => kdbBlk m c (i 0) q p) (col_pred n hn h0 (i 2))
termination_by n => n
decreasing_by omega

/-! ## The arrays the kernel leaves -/

theorem mem8 (t : Fin cfg0.N) (i : S2x8192x5632.Idx) :
    i ∈ ((cfg0.win 8).blk t).view.set ↔ ∀ a : Fin 3, win0_8.index t a * S2x512x512.size a ≤ i a ∧ (i a : ℕ) < win0_8.index t a * S2x512x512.size a + S2x512x512.size a := by
  show i ∈ ((View.whole main_v0_0).slice (win0_8.rect t)).set ↔ _
  rw [View.set_slice_whole, Rect.mem_set_unit]; exact Iff.rfl

theorem mem9 (t : Fin cfg0.N) (i : S2x3x5632.Idx) :
    i ∈ ((cfg0.win 9).blk t).view.set ↔ ∀ a : Fin 3, win0_9.index t a * S2x3x512.size a ≤ i a ∧ (i a : ℕ) < win0_9.index t a * S2x3x512.size a + S2x3x512.size a := by
  show i ∈ ((View.whole main_v0_1).slice (win0_9.rect t)).set ↔ _
  rw [View.set_slice_whole, Rect.mem_set_unit]; exact Iff.rfl

theorem mem10 (t : Fin cfg0.N) (i : S2x1x5632.Idx) :
    i ∈ ((cfg0.win 10).blk t).view.set ↔ ∀ a : Fin 3, win0_10.index t a * S2x1x512.size a ≤ i a ∧ (i a : ℕ) < win0_10.index t a * S2x1x512.size a + S2x1x512.size a := by
  show i ∈ ((View.whole main_v0_2).slice (win0_10.rect t)).set ↔ _
  rw [View.set_slice_whole, Rect.mem_set_unit]; exact Iff.rfl

/-- The point whose block holds an entry. -/
abbrev point (i : S2x8192x5632.Idx) : Fin cfg0.N :=
  ⟨(i 1).val / 512 + 16 * ((i 2).val / 512), by
    have h0 : (i 1 : Nat) < 8192 := (i 1).isLt
    have h1 : (i 2 : Nat) < 5632 := (i 2).isLt
    have hN : cfg0.N = 176 := N_0
    omega⟩

/-- The last point of a column. -/
abbrev last (k : Fin 5632) : Fin cfg0.N := ⟨15 + 16 * (k.val / 512), by have hN : cfg0.N = 176 := N_0; omega⟩

theorem final_du : (Gen.dats m 0 c).arrAt 8 cfg0.N = kdu m c := by
  refine (Gen.dats m 0 c).arrAt_eq_of_cover 8 (kdu m c) (fun t _ => ?_) fun i => ⟨point i, flush0_8 _, ?_⟩
  · rw [Value.flushed8]
    funext j
    obtain ⟨hi, -⟩ := out_facts t
    rw [View.read_apply]
    idx_vars j
    have ht := lt_N t
    have e : ((cfg0.win 8).blk t).view.emb (ix3 j0 j1 j2) = (ix3 j0 ⟨512 * (t.val % 16) + j1.val, by omega⟩ (col t j2) : S2x8192x5632.Idx) := by
      funext a
      apply Fin.ext
      match a with
      | ⟨0, _⟩ => show win0_8.index t 0 * 2 + 1 * j0.val = j0.val; rw [hi.1]; omega
      | ⟨1, _⟩ => show win0_8.index t 1 * 512 + 1 * j1.val = 512 * (t.val % 16) + j1.val; rw [hi.2.1]; omega
      | ⟨2, _⟩ => show win0_8.index t 2 * 512 + 1 * j2.val = 512 * (t.val / 16) + j2.val; rw [hi.2.2]; omega
    exact (congrFun (du_block m c t) (ix3 j0 j1 j2)).trans (congrArg (kdu m c) e).symm
  · have h0 : (i 0 : Nat) < 2 := (i 0).isLt
    have h1 : (i 1 : Nat) < 8192 := (i 1).isLt
    have h2 : (i 2 : Nat) < 5632 := (i 2).isLt
    obtain ⟨hi, -⟩ := out_facts (point i)
    rw [mem8]
    intro a
    match a with
    | ⟨0, _⟩ =>
      show win0_8.index _ 0 * 2 ≤ (i 0).val ∧ (i 0).val < win0_8.index _ 0 * 2 + 2
      rw [hi.1]; omega
    | ⟨1, _⟩ =>
      show win0_8.index _ 1 * 512 ≤ (i 1).val ∧ (i 1).val < win0_8.index _ 1 * 512 + 512
      rw [hi.2.1]; dsimp only; omega
    | ⟨2, _⟩ =>
      show win0_8.index _ 2 * 512 ≤ (i 2).val ∧ (i 2).val < win0_8.index _ 2 * 512 + 512
      rw [hi.2.2]; dsimp only; omega

theorem final_dw : (Gen.dats m 0 c).arrAt 9 cfg0.N = kdw m c := by
  refine (Gen.dats m 0 c).arrAt_eq_of_cover 9 (kdw m c) (fun t hf => ?_) fun i => ⟨last (i 2), (flush0_9 _).mpr (by dsimp only; omega), ?_⟩
  · have h15 : t.val % 16 = 15 := (flush0_9 t).mp hf
    rw [Value.flushed9]
    funext j
    obtain ⟨-, hi, -⟩ := out_facts t
    rw [View.read_apply]
    idx_vars j
    have e : ((cfg0.win 9).blk t).view.emb (ix3 j0 j1 j2) = (ix3 j0 j1 (col t j2) : S2x3x5632.Idx) := by
      funext a
      apply Fin.ext
      match a with
      | ⟨0, _⟩ => show win0_9.index t 0 * 2 + 1 * j0.val = j0.val; rw [hi.1]; omega
      | ⟨1, _⟩ => show win0_9.index t 1 * 3 + 1 * j1.val = j1.val; rw [hi.2.1]; omega
      | ⟨2, _⟩ => show win0_9.index t 2 * 512 + 1 * j2.val = 512 * (t.val / 16) + j2.val; rw [hi.2.2]; omega
    refine ((congrFun (acc_w m c t.val t.isLt) (ix3 j0 j1 j2)).trans ?_).trans (congrArg (kdw m c) e).symm
    rw [h15]
    rfl
  · have h0 : (i 0 : Nat) < 2 := (i 0).isLt
    have h1 : (i 1 : Nat) < 3 := (i 1).isLt
    have h2 : (i 2 : Nat) < 5632 := (i 2).isLt
    obtain ⟨-, hi, -⟩ := out_facts (last (i 2))
    rw [mem9]
    intro a
    match a with
    | ⟨0, _⟩ =>
      show win0_9.index _ 0 * 2 ≤ (i 0).val ∧ (i 0).val < win0_9.index _ 0 * 2 + 2
      rw [hi.1]; omega
    | ⟨1, _⟩ =>
      show win0_9.index _ 1 * 3 ≤ (i 1).val ∧ (i 1).val < win0_9.index _ 1 * 3 + 3
      rw [hi.2.1]; omega
    | ⟨2, _⟩ =>
      show win0_9.index _ 2 * 512 ≤ (i 2).val ∧ (i 2).val < win0_9.index _ 2 * 512 + 512
      rw [hi.2.2]; dsimp only; omega

theorem final_db : (Gen.dats m 0 c).arrAt 10 cfg0.N = kdb m c := by
  refine (Gen.dats m 0 c).arrAt_eq_of_cover 10 (kdb m c) (fun t hf => ?_) fun i => ⟨last (i 2), (flush0_10 _).mpr (by dsimp only; omega), ?_⟩
  · have h15 : t.val % 16 = 15 := (flush0_10 t).mp hf
    rw [Value.flushed10]
    funext j
    obtain ⟨-, -, hi⟩ := out_facts t
    rw [View.read_apply]
    idx_vars j
    have e : ((cfg0.win 10).blk t).view.emb (ix3 j0 j1 j2) = (ix3 j0 j1 (col t j2) : S2x1x5632.Idx) := by
      funext a
      apply Fin.ext
      match a with
      | ⟨0, _⟩ => show win0_10.index t 0 * 2 + 1 * j0.val = j0.val; rw [hi.1]; omega
      | ⟨1, _⟩ => show win0_10.index t 1 * 1 + 1 * j1.val = j1.val; rw [hi.2.1]; omega
      | ⟨2, _⟩ => show win0_10.index t 2 * 512 + 1 * j2.val = 512 * (t.val / 16) + j2.val; rw [hi.2.2]; omega
    refine ((congrFun (acc_b m c t.val t.isLt) (ix3 j0 j1 j2)).trans ?_).trans (congrArg (kdb m c) e).symm
    rw [h15]
    rfl
  · have h0 : (i 0 : Nat) < 2 := (i 0).isLt
    have h1 : (i 1 : Nat) < 1 := (i 1).isLt
    have h2 : (i 2 : Nat) < 5632 := (i 2).isLt
    obtain ⟨-, -, hi⟩ := out_facts (last (i 2))
    rw [mem10]
    intro a
    match a with
    | ⟨0, _⟩ =>
      show win0_10.index _ 0 * 2 ≤ (i 0).val ∧ (i 0).val < win0_10.index _ 0 * 2 + 2
      rw [hi.1]; omega
    | ⟨1, _⟩ =>
      show win0_10.index _ 1 * 1 ≤ (i 1).val ∧ (i 1).val < win0_10.index _ 1 * 1 + 1
      rw [hi.2.1]; omega
    | ⟨2, _⟩ =>
      show win0_10.index _ 2 * 512 ≤ (i 2).val ∧ (i 2).val < win0_10.index _ 2 * 512 + 512
      rw [hi.2.2]; dsimp only; omega

end Cert.ConvKIdeal.Ker

end
-- ==== Proof.ConvRef.lean ====
/- The reference of the convolution's backward kernel: its three results are the arrays of `ConvSpec`. -/
module

public import proofs.«01_k».proof.Proof.ConvSpec
public import proofs.«01_k».proof.Proof.Gen.ConvRIdeal.Read

@[expose] public section

set_option maxRecDepth 16384

noncomputable section

namespace Cert.Conv

open Idealize.ShloMosaic Idealize.ShloMosaic.TcCoe Idealize.SL.Sem Cert.Finite Cert.ConvKIdeal.Ker Cert.ConvRIdeal Cert.ConvRIdeal.Read

section
variable (u : FVec Ideal S2x8192x5632 .f32) (w : FVec Ideal S2x3x5632 .f32) (b : FVec Ideal S2x1x5632 .f32) (a : FVec Ideal S8192x5632 .f32)

/-- The rows with a zero row before and after. -/
theorem ref_up (h : Fin 2) (n : Fin 8194) (k : Fin 5632) : val_main_v1 (F := Ideal) u (ix3 h n k) = uAt u h k n.val := by
  pointwise [val_main_v1, val_main_v0, val_main_cst]
  unfold uAt
  by_cases h0 : n.val < 1
  · rw [dif_pos h0, dif_neg (by omega)]
  · rw [dif_neg h0]
    by_cases h1 : n.val - 1 < 8192
    · rw [dif_pos h1, dif_pos (by omega)]
    · rw [dif_neg h1, dif_neg (by omega)]

theorem ref_conv (h : Fin 2) (r : Fin 8192) (k : Fin 5632) :
    val_main_v21 (F := Ideal) u w b (ix3 h r k) = conv u w b h k (r.val + 1) := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_cst_2]
  rw [ref_up, ref_up, ref_up]
  unfold conv
  refine congrArg (_ + ·) (congrArg₂ _ (congrArg₂ _ (congrArg (fun n => _ * uAt u h k n) ?_) (congrArg (fun n => _ * uAt u h k n) ?_))
    (congrArg (fun n => _ * uAt u h k n) ?_))
  · show r.val = r.val + 1 - 1; omega
  · show 1 + r.val = r.val + 1; omega
  · show 2 + r.val = r.val + 1 + 1; omega

theorem ref_gate (r : Fin 8192) (k : Fin 5632) : val_main_v23 (F := Ideal) u w b (ix2 r k) = conv u w b 0 k (r.val + 1) := by
  pointwise [val_main_v23, val_main_v22]
  exact ref_conv u w b 0 r k

theorem ref_val (r : Fin 8192) (k : Fin 5632) : val_main_v26 (F := Ideal) u w b (ix2 r k) = conv u w b 1 k (r.val + 1) := by
  pointwise [val_main_v26, val_main_v25]
  exact ref_conv u w b 1 r k

theorem ref_sigma (r : Fin 8192) (k : Fin 5632) :
    val_main_v24_2 (F := Ideal) u w b (ix2 r k) = Ideal.logistic (conv u w b 0 k (r.val + 1)) := by
  pointwise [val_main_v24_2, val_main_call0_v4, val_main_call0_cst_0, val_main_call0_v3, val_main_call0_v2, val_main_call0_cst,
    val_main_call0_v1, val_main_call0_v0]
  rw [ref_gate]
  rfl

theorem ref_dgate (r : Fin 8192) (k : Fin 5632) : val_main_v32 (F := Ideal) u w b a (ix2 r k) =
    a (ix2 r k) * conv u w b 1 k (r.val + 1) * Ideal.logistic (conv u w b 0 k (r.val + 1))
    + conv u w b 0 k (r.val + 1) * (a (ix2 r k) * conv u w b 1 k (r.val + 1))
      * (Ideal.logistic (conv u w b 0 k (r.val + 1)) * (1 - Ideal.logistic (conv u w b 0 k (r.val + 1)))) := by
  pointwise [val_main_v32, val_main_call1_v1, val_main_call1_v2, val_main_call1_v0, val_main_v29, val_main_v24_1, val_main_call0_v7,
    val_main_call0_v6, val_main_call0_cst_1]
  rw [ref_gate, ref_val, ref_sigma]

theorem ref_dval (r : Fin 8192) (k : Fin 5632) : val_main_v28 (F := Ideal) u w b a (ix2 r k) =
    conv u w b 0 k (r.val + 1) * Ideal.logistic (conv u w b 0 k (r.val + 1)) * a (ix2 r k) := by
  pointwise [val_main_v28, val_main_v24_0]
  rw [ref_gate, ref_sigma]

theorem aAt_in (r : Fin 8192) (k : Fin 5632) : aAt a k (r.val + 1) = a (ix2 r k) := by
  unfold aAt
  rw [dif_pos (by omega)]
  rfl

theorem ref_dc0 (r : Fin 8192) (k : Fin 5632) : val_main_v35 (F := Ideal) u w b a (ix3 0 r k) = val_main_v32 (F := Ideal) u w b a (ix2 r k) := by
  pointwise [val_main_v35, val_main_v34, val_main_v33, val_main_v31, val_main_v30, val_main_cst_3, val_main_cst_4]

theorem ref_dc1 (r : Fin 8192) (k : Fin 5632) : val_main_v35 (F := Ideal) u w b a (ix3 1 r k) = val_main_v28 (F := Ideal) u w b a (ix2 r k) := by
  pointwise [val_main_v35, val_main_v34, val_main_v33, val_main_v31, val_main_v30, val_main_cst_3, val_main_cst_4]

theorem ref_db (h : Fin 2) (k : Fin 5632) : val_main_v37 (F := Ideal) u w b a (ix3 h 0 k) = ∑ r : Fin 8192, val_main_v35 (F := Ideal) u w b a (ix3 h r k) := by
  pointwise [val_main_v37, val_main_v36, val_main_cst_5]

theorem ref_dw (h : Fin 2) (t : Fin 3) (k : Fin 5632) : val_main_v62 (F := Ideal) u w b a (ix3 h t k)
    = ∑ r : Fin 8192, val_main_v35 (F := Ideal) u w b a (ix3 h r k) * uAt u h k (r.val + t.val) := by
  pointwise [val_main_v62, val_main_v61, val_main_v58, val_main_v57, val_main_v56, val_main_v53, val_main_v52, val_main_v49, val_main_v48, val_main_v47,
    val_main_v44, val_main_v42, val_main_v41, val_main_v40, val_main_v16, val_main_v11, val_main_v5, val_main_cst_6, val_main_cst_8,
    val_main_cst_9, val_main_cst_11, val_main_cst_12, val_main_cst_14]
  obtain ⟨t, ht⟩ := t
  dsimp only
  obtain rfl | rfl | rfl : t = 0 ∨ t = 1 ∨ t = 2 := by omega
  · rw [dif_neg (by omega), dif_neg (by omega), dif_pos (by omega), zero_add, zero_add]
    refine Finset.sum_congr rfl fun x _ => congrArg (_ * ·) ((ref_up u h _ k).trans (congrArg (uAt u h k) ?_))
    dsimp only
    omega
  · rw [dif_neg (by omega), dif_pos (by omega), dif_neg (by omega), zero_add, add_zero]
    refine Finset.sum_congr rfl fun x _ => congrArg (_ * ·) ((ref_up u h _ k).trans (congrArg (uAt u h k) ?_))
    dsimp only
    omega
  · rw [dif_pos (by omega), dif_neg (by omega), dif_neg (by omega), add_zero, add_zero]
    refine Finset.sum_congr rfl fun x _ => congrArg (_ * ·) ((ref_up u h _ k).trans (congrArg (uAt u h k) ?_))
    dsimp only
    omega

/-! ## The gradient by the convolution, on finite arrays -/

section
variable (fu : ∀ i, ∃ r : ℝ, u i = r) (fw : ∀ i, ∃ r : ℝ, w i = r) (fb : ∀ i, ∃ r : ℝ, b i = r) (fa : ∀ i, ∃ r : ℝ, a i = r)
include fu

theorem uAt_real (h : Fin 2) (k : Fin 5632) (n : ℕ) : ∃ r : ℝ, uAt u h k n = r := by
  unfold uAt
  split
  · exact fu _
  · exact ⟨0, rfl⟩

include fw fb

theorem conv_real (h : Fin 2) (k : Fin 5632) (n : ℕ) : ∃ r : ℝ, conv u w b h k n = r := by
  unfold conv
  obtain ⟨p, hp⟩ := fb (ix3 h 0 k)
  obtain ⟨w0, h0⟩ := fw (ix3 h 0 k)
  obtain ⟨w1, h1⟩ := fw (ix3 h 1 k)
  obtain ⟨w2, h2⟩ := fw (ix3 h 2 k)
  obtain ⟨u0, e0⟩ := uAt_real u fu h k (n - 1)
  obtain ⟨u1, e1⟩ := uAt_real u fu h k n
  obtain ⟨u2, e2⟩ := uAt_real u fu h k (n + 1)
  rw [hp, h0, h1, h2, e0, e1, e2]
  exact ⟨p + (w0 * u0 + w1 * u1 + w2 * u2), by simp only [EReal.coe_add, EReal.coe_mul]⟩

include fa

theorem ref_dc (h : Fin 2) (r : Fin 8192) (k : Fin 5632) : val_main_v35 (F := Ideal) u w b a (ix3 h r k) = dc u w b a h k (r.val + 1) := by
  unfold dc
  rw [aAt_in]
  obtain rfl | rfl : h = 0 ∨ h = 1 := by omega
  · rw [if_pos rfl, ref_dc0, ref_dgate]
    obtain ⟨g, hg⟩ := conv_real u w b fu fw fb 0 k (r.val + 1)
    obtain ⟨v, hv⟩ := conv_real u w b fu fw fb 1 k (r.val + 1)
    obtain ⟨x, hx⟩ := fa (ix2 r k)
    rw [hg, hv, hx]
    obtain ⟨l, hl⟩ : ∃ l : ℝ, Ideal.logistic (g : EReal) = l := ⟨_, Ideal.logistic_coe g⟩
    unfold dsilu
    rw [hl]
    show ((x : EReal) * v * l + g * (x * v) * (l * (1 - l)) : EReal) = x * v * (l * (1 + g * (1 - l)))
    simp only [← EReal.coe_one, ← EReal.coe_mul, ← EReal.coe_add, ← EReal.coe_sub]
    congr 1
    ring
  · rw [if_neg (by decide), ref_dc1, ref_dval, mul_comm]

end

theorem dc_zero (h : Fin 2) (k : Fin 5632) (n : ℕ) (hn : ¬(1 ≤ n ∧ n ≤ 8192)) : dc u w b a h k n = 0 := by
  have e : aAt a k n = 0 := dif_neg hn
  unfold dc
  rw [e, zero_mul, zero_mul, zero_mul, ite_self]

theorem three {x y z x' y' z' : EReal} (hx : x = x') (hy : y = y') (hz : z = z') : z + y + x = x' + y' + z' := by
  subst hx hy hz
  rw [add_comm (z + y), add_comm z, ← add_assoc]

section
variable (D : Fin 2 → Fin 5632 → ℕ → EReal) (hD : ∀ h r k, val_main_v35 (F := Ideal) u w b a (ix3 h r k) = D h k (r.val + 1))
  (hz : ∀ h k n, ¬(1 ≤ n ∧ n ≤ 8192) → D h k n = 0)
include hD hz

theorem ref_du (h : Fin 2) (s : Fin 8192) (k : Fin 5632) : val_main_v66 (F := Ideal) u w b a (ix3 h s k)
    = w (ix3 h 0 k) * D h k (s.val + 2) + w (ix3 h 1 k) * D h k (s.val + 1) + w (ix3 h 2 k) * D h k s.val := by
  pointwise [val_main_v66, val_main_v64, val_main_v60, val_main_v59, val_main_v55, val_main_v54, val_main_v51, val_main_v50, val_main_v46, val_main_v45,
    val_main_v43, val_main_v39, val_main_v38, val_main_v15, val_main_v10, val_main_v4, val_main_cst_7, val_main_cst_10, val_main_cst_13]
  refine three ?_ (congrArg (_ * ·) (hD h s k)) ?_
  · by_cases hs : 1 + s.val < 8192
    · rw [dif_pos hs, hD]
      exact congrArg (fun n => _ * D h k n) (by dsimp only; omega)
    · rw [dif_neg hs, hz h k _ (by omega), mul_zero]
  · by_cases hs : 1 ≤ s.val
    · rw [dif_pos (by omega), hD]
      exact congrArg (fun n => _ * D h k n) (by dsimp only; omega)
    · rw [dif_neg (by omega), hz h k _ (by omega), mul_zero]

end

section
variable (fu : ∀ i, ∃ r : ℝ, u i = r) (fw : ∀ i, ∃ r : ℝ, w i = r) (fb : ∀ i, ∃ r : ℝ, b i = r) (fa : ∀ i, ∃ r : ℝ, a i = r)
include fu fw fb fa

theorem du_eq : val_main_v66 (F := Ideal) u w b a = duArr u w b a := by
  funext j
  idx_vars j
  exact ref_du u w b a (dc u w b a) (ref_dc u w b a fu fw fb fa) (dc_zero u w b a) j0 j1 j2

theorem dw_eq : val_main_v62 (F := Ideal) u w b a = dwArr u w b a := by
  funext j
  idx_vars j
  rw [ref_dw]
  show _ = ∑ p ∈ Finset.range 16, dwBlk u w b a j0 j2 j1.val p
  unfold dwBlk
  rw [sum_blocks (dwAt u w b a j0 j2 j1.val) 512 16, Finset.sum_range]
  exact Finset.sum_congr rfl fun r _ => congrArg (· * _) (ref_dc u w b a fu fw fb fa j0 r j2)

theorem db_eq : val_main_v37 (F := Ideal) u w b a = dbArr u w b a := by
  funext j
  idx_vars j
  obtain rfl : j1 = 0 := Subsingleton.elim _ _
  rw [ref_db]
  show _ = ∑ p ∈ Finset.range 16, dbBlk u w b a j0 j2 p
  unfold dbBlk
  rw [sum_blocks (fun s => dc u w b a j0 j2 (s + 1)) 512 16, Finset.sum_range]
  exact Finset.sum_congr rfl fun r _ => ref_dc u w b a fu fw fb fa j0 r j2

end

end

end Cert.Conv

end
-- ==== Proof.ConvMain.lean ====
/- The claims about the convolution's backward kernel: its frames, and that its three results are the reference's on finite arrays. -/
module

public import proofs.«01_k».proof.Defs
public import proofs.«01_k».proof.Proof.ConvFin
public import proofs.«01_k».proof.Proof.ConvRef
public import proofs.«01_k».proof.Proof.Gen.ConvRIdeal.Run
public import proofs.«01_k».proof.Proof.Gen.ConvK.Frame
public import proofs.«01_k».proof.Proof.Gen.Pre_conv_finite

@[expose] public section

set_option maxRecDepth 16384

noncomputable section

namespace Cert.Conv

open Idealize.ShloMosaic Idealize.ShloMosaic.TcCoe Idealize.SL.Sem Cert.Finite Cert.ConvKIdeal.Ker Cert.ConvRIdeal Cert.ConvRIdeal.Read

theorem frame_k : Cert.quiescent_ConvK := fun m ρ _ => Cert.ConvK.Gen.frame m ρ
theorem frame_ki : Cert.quiescent_ConvKIdeal := fun m ρ _ => Cert.ConvKIdeal.Gen.frame m ρ
theorem frame_ki_pre : Cert.quiescent_ConvKIdeal_pre_conv_finite := fun m ρ _ => Cert.ConvKIdeal.Gen.frame m ρ

theorem frame_ri : Cert.quiescent_ConvRIdeal := fun m ρ _ =>
  (θ_run Cert.ConvRIdeal.defs _ _).mono (fun _ h => ⟨fun c => (h c).2.2.2, funext fun s => nomatch s⟩)
    (Cert.ConvRIdeal.Value.run (F := Ideal) m ρ)
theorem frame_ri_pre : Cert.quiescent_ConvRIdeal_pre_conv_finite := fun m ρ _ => frame_ri m ρ trivial

theorem value : Cert.algebraic_ConvKIdeal_ConvRIdeal_pre_conv_finite := by
  intro m ρ m' ρ' hp hm
  refine ⟨fun c => kdu m c, fun c => kdw m c, fun c => kdb m c, ?_, ?_⟩
  · refine (θ_run Cert.ConvKIdeal.defs _ _).mono (fun r hr c => ?_) (Cert.ConvKIdeal.Value.run_blocks m ρ)
    obtain ⟨h0, h1, h2, h3⟩ := hr c
    exact ⟨h0.trans (final_du m c), h1.trans (final_dw m c), h2.trans (final_db m c), h3⟩
  · refine (θ_run Cert.ConvRIdeal.defs _ _).mono (fun r hr c => ?_) (Cert.ConvRIdeal.Value.run (F := Ideal) m' ρ')
    obtain ⟨h0, h1, h2, h3⟩ := hr c
    obtain ⟨e0, e1, e2, e3⟩ := hm c
    have fu : ∀ i, ∃ r : ℝ, au m c i = r := fun i => real_of_cmp (congrFun (hp c).1 i)
    have fw : ∀ i, ∃ r : ℝ, aw m c i = r := fun i => real_of_cmp (congrFun (hp c).2.1 i)
    have fb : ∀ i, ∃ r : ℝ, ab m c i = r := fun i => real_of_cmp (congrFun (hp c).2.2.1 i)
    have fa : ∀ i, ∃ r : ℝ, aa m c i = r := fun i => real_of_cmp (congrFun (hp c).2.2.2 i)
    refine ⟨h0.trans ((val_main_v66_eq _ _).trans ?_), h1.trans ((val_main_v62_eq _ _).trans ?_), h2.trans ((val_main_v37_eq _ _).trans ?_), h3⟩
    · rw [e0, e1, e2, e3]
      exact du_eq _ _ _ _ fu fw fb fa
    · rw [e0, e1, e2, e3]
      exact dw_eq _ _ _ _ fu fw fb fa
    · rw [e0, e1, e2, e3]
      exact db_eq _ _ _ _ fu fw fb fa

end Cert.Conv

end
-- ==== Proof.GatePay.lean ====
/- The gate's forward kernel: what one grid point computes of the rows it reads. -/
module

public import proofs.«01_k».proof.Proof.ConvPay
public import proofs.«01_k».proof.Proof.Gen.GateKIdeal.Value
public import proofs.«01_k».proof.Proof.Gen.GateRIdeal.Read
public import proofs.«01_k».proof.Proof.Gen.GateRIdeal.Run

@[expose] public section

set_option maxRecDepth 16384

noncomputable section

namespace Cert.GateKIdeal.Ker

open Idealize.ShloMosaic Idealize.ShloMosaic.TcCoe Idealize.ShloMosaic.Tactic Cert.GateKIdeal Cert.GateKIdeal.Gen
open Cert.ConvKIdeal.Ker (ext_eq uAt conv)

section
variable (q : BitVec 32) (v0 v4 : FVec Ideal S1x8x512 .f32) (v2 : FVec Ideal S1x512x512 .f32)

/-- The eight rows before the block, or zero rows at the first block. -/
def before : FVec Ideal S8x512 .f32 :=
  Scalar.select (Scalar.cmpi .sgt q 0#32) (shapeCast S8x512 v0 shapeCasts_S1x8x512_S8x512) (broadcast S8x512 (Scalar.ofBits .f32 0x00000000#32))
/-- The eight rows after the block, or zero rows at the last block. -/
def after : FVec Ideal S8x512 .f32 :=
  Scalar.select (Scalar.cmpi .slt (Scalar.muli (Scalar.addi q 1#32) 512#32) 8192#32) (shapeCast S8x512 v4 shapeCasts_S1x8x512_S8x512)
    (broadcast S8x512 (Scalar.ofBits .f32 0x00000000#32))
/-- The block with eight rows on both sides. -/
def ext : FVec Ideal S528x512 .f32 :=
  concatenate S528x512 0 [⟨S8x512, before q v0⟩, ⟨S512x512, shapeCast S512x512 v2 shapeCasts_S1x512x512_S512x512⟩, ⟨S8x512, after q v4⟩]
    concatenates_S8x512_S512x512_S8x512_S528x512_d0

end

section
variable (e : FVec Ideal S528x512 .f32) (w : FVec Ideal S1x3x512 .f32) (b : FVec Ideal S1x1x512 .f32)

/-- Each row's predecessor and successor, around the end. -/
def up : FVec Ideal S528x512 .f32 := dynamicRotate 0 1#32 none e rotates_S528x512_d0
def down : FVec Ideal S528x512 .f32 := dynamicRotate 0 527#32 none e rotates_S528x512_d0

/-- A tap of the convolution, for every row. -/
def tap0 : FVec Ideal S528x512 .f32 :=
  broadcastTo S528x512 (extractStridedSlice S1x512 ![0, 0] (shapeCast S3x512 w shapeCasts_S1x3x512_S3x512) slices_S3x512_o0_0_S1x512) broadcasts_S1x512_S528x512
def tap1 : FVec Ideal S528x512 .f32 :=
  broadcastTo S528x512 (extractStridedSlice S1x512 ![1, 0] (shapeCast S3x512 w shapeCasts_S1x3x512_S3x512) slices_S3x512_o1_0_S1x512) broadcasts_S1x512_S528x512
def tap2 : FVec Ideal S528x512 .f32 :=
  broadcastTo S528x512 (extractStridedSlice S1x512 ![2, 0] (shapeCast S3x512 w shapeCasts_S1x3x512_S3x512) slices_S3x512_o2_0_S1x512) broadcasts_S1x512_S528x512

/-- The convolution of the block's rows. -/
def rows : FVec Ideal S512x512 .f32 :=
  extractStridedSlice S512x512 ![8, 0]
    (addf (broadcastTo S528x512 (shapeCast S1x512 b shapeCasts_S1x1x512_S1x512) broadcasts_S1x512_S528x512)
      (addf (addf (mulf (tap0 w) (up e)) (mulf (tap1 w) e)) (mulf (tap2 w) (down e)))) slices_S528x512_o8_0_S512x512

theorem up_at (ρ : Fin 528) (k : Fin 512) (h : 1 ≤ ρ.val) : up e (ix2 ρ k) = e (ix2 ⟨ρ.val - 1, by omega⟩ k) := by
  pointwise [up]
  exact congrArg (fun q => e (ix2 q k)) (Fin.ext (by show (ρ.val + 528 - 1) % 528 = ρ.val - 1; omega))

theorem down_at (ρ : Fin 528) (k : Fin 512) (h : ρ.val < 527) : down e (ix2 ρ k) = e (ix2 ⟨ρ.val + 1, by omega⟩ k) := by
  pointwise [down]
  exact congrArg (fun q => e (ix2 q k)) (Fin.ext (by show (ρ.val + 528 - 527) % 528 = ρ.val + 1; omega))

theorem rows_at (p : ℕ) (U : Fin 512 → ℕ → EReal) (he : ∀ ρ k, e (ix2 ρ k) = U k (512 * p + ρ.val - 7)) (r k : Fin 512) (n : ℕ)
    (hn : n = 512 * p + r.val + 1) :
    rows e w b (ix2 r k) = b (ix3 0 0 k) + (w (ix3 0 0 k) * U k (n - 1) + w (ix3 0 1 k) * U k n + w (ix3 0 2 k) * U k (n + 1)) := by
  pointwise [rows, tap0, tap1, tap2]
  rw [up_at e _ k (by dsimp only; omega), down_at e _ k (by dsimp only; omega), he, he, he]
  subst hn
  dsimp only
  rw [show 512 * p + (8 + r.val - 1) - 7 = 512 * p + r.val + 1 - 1 by omega, show 512 * p + (8 + r.val) - 7 = 512 * p + r.val + 1 by omega,
    show 512 * p + (8 + r.val + 1) - 7 = 512 * p + r.val + 1 + 1 by omega]

end

theorem pay_gate (i : grid0.Coords) (v0 v4 : FVec Ideal S1x8x512 .f32) (v2 : FVec Ideal S1x512x512 .f32) (w : FVec Ideal S1x3x512 .f32)
    (b : FVec Ideal S1x1x512 .f32) : k0_pay2 (F := Ideal) i v0 v2 v4 w b = rows (ext (BitVec.ofNat 32 (i 1).val) v0 v4 v2) w b := rfl

theorem pay_value (q : BitVec 32) (v0 v4 : FVec Ideal S1x8x512 .f32) (v2 : FVec Ideal S1x512x512 .f32) (w : FVec Ideal S1x3x512 .f32)
    (b : FVec Ideal S1x1x512 .f32) : k0_pay3 (F := Ideal) q v0 v2 v4 w b = rows (ext q v0 v4 v2) w b := rfl

theorem pay_out (g v : FVec Ideal S512x512 .f32) (r k : Fin 512) :
    k0_pay1 (F := Ideal) v (k0_pay4 g) (ix2 r k) = g (ix2 r k) * Ideal.logistic (g (ix2 r k)) * v (ix2 r k) := by
  pointwise [k0_pay1, k0_pay4]
  done

section
variable (p : Fin 16) (U : Fin 512 → ℕ → EReal) (h0 : ∀ k, U k 0 = 0) (h1 : ∀ k n, 8192 < n → U k n = 0)
include h0 h1

theorem ext_at (v0 v4 : FVec Ideal S1x8x512 .f32) (v2 : FVec Ideal S1x512x512 .f32)
    (hP : 0 < p.val → ∀ r k, v0 (ix3 0 r k) = U k (512 * p.val + r.val - 7)) (hM : ∀ r k, v2 (ix3 0 r k) = U k (512 * p.val + r.val + 1))
    (hN : p.val < 15 → ∀ r k, v4 (ix3 0 r k) = U k (512 * p.val + 513 + r.val)) (ρ : Fin 528) (k : Fin 512) :
    ext (BitVec.ofNat 32 p.val) v0 v4 v2 (ix2 ρ k) = U k (512 * p.val + ρ.val - 7) := by
  pointwise [ext, before, after]
  exact ext_eq p (fun r => v0 (ix3 0 r k)) (fun r => v4 (ix3 0 r k)) (fun r => v2 (ix3 0 r k)) (U k) (fun h r => hP h r k)
    (fun r => hM r k) (fun h r => hN h r k) (h0 k) (h1 k) ρ

end

end Cert.GateKIdeal.Ker

end
-- ==== Proof.GateKer.lean ====
/- The gate's forward kernel: the blocks a grid point reads, and the whole array it leaves. -/
module

public import proofs.«01_k».proof.Proof.GatePay

@[expose] public section

set_option maxRecDepth 16384

noncomputable section

namespace Cert.GateKIdeal.Ker

open Idealize.ShloMosaic Idealize.ShloMosaic.TcCoe Idealize.ShloMosaic.Tactic Cert.GateKIdeal Cert.GateKIdeal.Gen
open Idealize.SL.Sem
open Cert.ConvKIdeal.Ker (uAt conv)

theorem hz : (![0, 0] : Fin 2 → Nat) = fun _ => 0 := funext fun a => by fin_cases a <;> rfl

theorem ld_half {n : ℕ} (h : Fin 2) (X : (⟨3, ![2, n, 512]⟩ : Shape).Idx → EReal)
    (inb : ∀ a, ![h.val, 0, 0] a + ![1, n, 512] a ≤ (⟨3, ![2, n, 512]⟩ : Shape).size a) (r : Fin n) (k : Fin 512) :
    View.ld (Val := Elt Ideal) (e' := .f32) X (Rect.unit (s := ⟨3, ![2, n, 512]⟩) ![h.val, 0, 0] ![1, n, 512] inb) (ix3 0 r k) = X (ix3 h r k) := by
  refine congrArg X (funext fun a => Fin.ext ?_)
  match a with
  | ⟨0, _⟩ => show h.val + 1 * 0 = h.val; omega
  | ⟨1, _⟩ => show 0 + 1 * r.val = r.val; omega
  | ⟨2, _⟩ => show 0 + 1 * k.val = k.val; omega

variable (m : (ℓ : Loc nD τ sig) → Buf (Elt Ideal) ℓ) (c : Dev nD)

theorem idx_facts : ∀ t : Fin cfg0.N, (win0_0.index t 0 = 0 ∧ win0_0.index t 1 = t.val % 16 ∧ win0_0.index t 2 = t.val / 16)
    ∧ (win0_1.index t 0 = 0 ∧ win0_1.index t 1 = 64 * (t.val % 16) - 1 ∧ win0_1.index t 2 = t.val / 16)
    ∧ (win0_2.index t 0 = 0 ∧ win0_2.index t 1 = min (64 * (t.val % 16) + 64) 1023 ∧ win0_2.index t 2 = t.val / 16)
    ∧ (win0_3.index t 0 = 0 ∧ win0_3.index t 1 = 0 ∧ win0_3.index t 2 = t.val / 16)
    ∧ (win0_4.index t 0 = 0 ∧ win0_4.index t 1 = 0 ∧ win0_4.index t 2 = t.val / 16)
    ∧ (win0_5.index t 0 = t.val % 16 ∧ win0_5.index t 1 = t.val / 16) :=
  (by decide +kernel : ∀ t : Fin grid0.N, _)

theorem row_fact : ∀ t : Fin cfg0.N, (grid0.coords t 1).val = t.val % 16 := (by decide +kernel : ∀ t : Fin grid0.N, _)

theorem lt_N (t : Fin cfg0.N) : t.val < 176 := t.isLt.trans_eq N_0

/-- Row `r` of point `t`'s block. -/
abbrev row (t : Fin cfg0.N) (r : Fin 512) : Fin 8192 := ⟨512 * (t.val % 16) + r.val, by omega⟩
/-- Column `k` of point `t`'s block. -/
abbrev col (t : Fin cfg0.N) (k : Fin 512) : Fin 5632 := ⟨512 * (t.val / 16) + k.val, by have := lt_N t; omega⟩
/-- The three arrays of device `c`. -/
abbrev au (m : (ℓ : Loc nD τ sig) → Buf (Elt Ideal) ℓ) (c : Dev nD) : S2x8192x5632.Idx → EReal := m ((c : Thread nD τ).loc main_arg0)
abbrev aw (m : (ℓ : Loc nD τ sig) → Buf (Elt Ideal) ℓ) (c : Dev nD) : S2x3x5632.Idx → EReal := m ((c : Thread nD τ).loc main_arg1)
abbrev ab (m : (ℓ : Loc nD τ sig) → Buf (Elt Ideal) ℓ) (c : Dev nD) : S2x1x5632.Idx → EReal := m ((c : Thread nD τ).loc main_arg2)

theorem uAt_of (u : S2x8192x5632.Idx → EReal) (h : Fin 2) (k : Fin 5632) (n : ℕ) (r : Fin 8192) (e : n = r.val + 1) :
    u (ix3 h r k) = uAt u h k n := by
  subst e
  unfold uAt
  rw [dif_pos (by omega)]
  rfl

theorem blk_u (t : Fin cfg0.N) (h : Fin 2) (r k : Fin 512) :
    (iblk m c 0 t : Vec Ideal S2x512x512 .f32) (ix3 h r k) = uAt (au m c) h (col t k) (512 * (t.val % 16) + r.val + 1) := by
  obtain ⟨hi, -⟩ := idx_facts t
  rw [← uAt_of _ h (col t k) _ ⟨512 * (t.val % 16) + r.val, by omega⟩ rfl]
  unfold iblk
  rw [View.read_apply]
  show V m c main_arg0 _ = V m c main_arg0 _
  congr 1
  funext a
  apply Fin.ext
  match a with
  | ⟨0, _⟩ => show win0_0.index t 0 * 2 + 1 * h.val = h.val; rw [hi.1]; omega
  | ⟨1, _⟩ => show win0_0.index t 1 * 512 + 1 * r.val = 512 * (t.val % 16) + r.val; rw [hi.2.1]; omega
  | ⟨2, _⟩ => show win0_0.index t 2 * 512 + 1 * k.val = 512 * (t.val / 16) + k.val; rw [hi.2.2]; omega

theorem blk_prev (t : Fin cfg0.N) (hp : 0 < t.val % 16) (h : Fin 2) (r : Fin 8) (k : Fin 512) :
    (iblk m c 1 t : Vec Ideal S2x8x512 .f32) (ix3 h r k) = uAt (au m c) h (col t k) (512 * (t.val % 16) + r.val - 7) := by
  obtain ⟨-, hi, -⟩ := idx_facts t
  rw [← uAt_of _ h (col t k) _ ⟨512 * (t.val % 16) + r.val - 8, by omega⟩ (by dsimp only; omega)]
  unfold iblk
  rw [View.read_apply]
  show V m c main_arg0 _ = V m c main_arg0 _
  congr 1
  funext a
  apply Fin.ext
  match a with
  | ⟨0, _⟩ => show win0_1.index t 0 * 2 + 1 * h.val = h.val; rw [hi.1]; omega
  | ⟨1, _⟩ => show win0_1.index t 1 * 8 + 1 * r.val = 512 * (t.val % 16) + r.val - 8; rw [hi.2.1]; omega
  | ⟨2, _⟩ => show win0_1.index t 2 * 512 + 1 * k.val = 512 * (t.val / 16) + k.val; rw [hi.2.2]; omega

theorem blk_next (t : Fin cfg0.N) (hp : t.val % 16 < 15) (h : Fin 2) (r : Fin 8) (k : Fin 512) :
    (iblk m c 2 t : Vec Ideal S2x8x512 .f32) (ix3 h r k) = uAt (au m c) h (col t k) (512 * (t.val % 16) + 513 + r.val) := by
  obtain ⟨-, -, hi, -⟩ := idx_facts t
  rw [← uAt_of _ h (col t k) _ ⟨512 * (t.val % 16) + 512 + r.val, by omega⟩ (by dsimp only; omega)]
  unfold iblk
  rw [View.read_apply]
  show V m c main_arg0 _ = V m c main_arg0 _
  congr 1
  funext a
  apply Fin.ext
  match a with
  | ⟨0, _⟩ => show win0_2.index t 0 * 2 + 1 * h.val = h.val; rw [hi.1]; omega
  | ⟨1, _⟩ => show win0_2.index t 1 * 8 + 1 * r.val = 512 * (t.val % 16) + 512 + r.val; rw [hi.2.1]; omega
  | ⟨2, _⟩ => show win0_2.index t 2 * 512 + 1 * k.val = 512 * (t.val / 16) + k.val; rw [hi.2.2]; omega

theorem blk_w (t : Fin cfg0.N) (h : Fin 2) (r : Fin 3) (k : Fin 512) :
    (iblk m c 3 t : Vec Ideal S2x3x512 .f32) (ix3 h r k) = aw m c (ix3 h r (col t k)) := by
  obtain ⟨-, -, -, hi, -⟩ := idx_facts t
  unfold iblk
  rw [View.read_apply]
  show V m c main_arg1 _ = V m c main_arg1 _
  congr 1
  funext a
  apply Fin.ext
  match a with
  | ⟨0, _⟩ => show win0_3.index t 0 * 2 + 1 * h.val = h.val; rw [hi.1]; omega
  | ⟨1, _⟩ => show win0_3.index t 1 * 3 + 1 * r.val = r.val; rw [hi.2.1]; omega
  | ⟨2, _⟩ => show win0_3.index t 2 * 512 + 1 * k.val = 512 * (t.val / 16) + k.val; rw [hi.2.2]; omega

theorem blk_b (t : Fin cfg0.N) (h : Fin 2) (k : Fin 512) :
    (iblk m c 4 t : Vec Ideal S2x1x512 .f32) (ix3 h 0 k) = ab m c (ix3 h 0 (col t k)) := by
  obtain ⟨-, -, -, -, hi, -⟩ := idx_facts t
  unfold iblk
  rw [View.read_apply]
  show V m c main_arg2 _ = V m c main_arg2 _
  congr 1
  funext a
  apply Fin.ext
  match a with
  | ⟨0, _⟩ => show win0_4.index t 0 * 2 + 1 * h.val = h.val; rw [hi.1]; omega
  | ⟨1, _⟩ => show win0_4.index t 1 * 1 + 1 * 0 = 0; rw [hi.2.1]
  | ⟨2, _⟩ => show win0_4.index t 2 * 512 + 1 * k.val = 512 * (t.val / 16) + k.val; rw [hi.2.2]; omega

theorem uAt_zero (u : S2x8192x5632.Idx → EReal) (h : Fin 2) (k : Fin 5632) : uAt u h k 0 = 0 := dif_neg (by omega)
theorem uAt_past (u : S2x8192x5632.Idx → EReal) (h : Fin 2) (k : Fin 5632) (n : ℕ) (hn : 8192 < n) : uAt u h k n = 0 := dif_neg (by omega)
/-! ## What the point computes of them -/

theorem pt_rows (t : Fin cfg0.N) (h : Fin 2) (v0 v4 : FVec Ideal S1x8x512 .f32) (v2 : FVec Ideal S1x512x512 .f32) (w : FVec Ideal S1x3x512 .f32)
    (b : FVec Ideal S1x1x512 .f32)
    (e0 : ∀ r k, v0 (ix3 0 r k) = (iblk m c 1 t : Vec Ideal S2x8x512 .f32) (ix3 h r k))
    (e2 : ∀ r k, v2 (ix3 0 r k) = (iblk m c 0 t : Vec Ideal S2x512x512 .f32) (ix3 h r k))
    (e4 : ∀ r k, v4 (ix3 0 r k) = (iblk m c 2 t : Vec Ideal S2x8x512 .f32) (ix3 h r k))
    (ew : ∀ r k, w (ix3 0 r k) = (iblk m c 3 t : Vec Ideal S2x3x512 .f32) (ix3 h r k))
    (eb : ∀ k, b (ix3 0 0 k) = (iblk m c 4 t : Vec Ideal S2x1x512 .f32) (ix3 h 0 k)) (r k : Fin 512) :
    rows (ext (BitVec.ofNat 32 (grid0.coords t 1).val) v0 v4 v2) w b (ix2 r k)
      = conv (au m c) (aw m c) (ab m c) h (col t k) (512 * (t.val % 16) + r.val + 1) := by
  have e := row_fact t
  refine (rows_at _ w b (t.val % 16) (fun k n => uAt (au m c) h (col t k) n) (fun ρ k => ?_) r k _ rfl).trans ?_
  · refine (ext_at (grid0.coords t 1) (fun k n => uAt (au m c) h (col t k) n) (fun k => uAt_zero _ h _) (fun k n hn => uAt_past _ h _ n hn)
      v0 v4 v2 (fun hp r k => ?_) (fun r k => ?_) (fun hp r k => ?_) ρ k).trans (by rw [e])
    · rw [e] at hp ⊢
      exact (e0 r k).trans (blk_prev m c t hp h r k)
    · rw [e]
      exact (e2 r k).trans (blk_u m c t h r k)
    · rw [e] at hp ⊢
      exact (e4 r k).trans (blk_next m c t hp h r k)
  · rw [eb, ew, ew, ew, blk_b, blk_w, blk_w, blk_w]
    rfl

/-- The gated values: `silu` of the first half's convolution times the second half's. -/
def gateArr (u : S2x8192x5632.Idx → EReal) (w : S2x3x5632.Idx → EReal) (b : S2x1x5632.Idx → EReal) : S8192x5632.Idx → EReal :=
  fun i => conv u w b 0 (i 1) ((i 0).val + 1) * Ideal.logistic (conv u w b 0 (i 1) ((i 0).val + 1)) * conv u w b 1 (i 1) ((i 0).val + 1)

/-- The kernel's result on device `c`. -/
abbrev out (m : (ℓ : Loc nD τ sig) → Buf (Elt Ideal) ℓ) (c : Dev nD) : S8192x5632.Idx → EReal := gateArr (au m c) (aw m c) (ab m c)

theorem block (t : Fin cfg0.N) (r k : Fin 512) :
    out0_5 (F := Ideal) (grid0.coords t) (iblk m c 0 t) (iblk m c 1 t) (iblk m c 2 t) (iblk m c 3 t) (iblk m c 4 t) (ix2 r k)
      = out m c (ix2 (row t r) (col t k)) := by
  unfold out0_5
  rw [View.canon_unit_zero hz, pay_out, pay_gate, pay_value]
  exact congrArg₂ (fun x y : EReal => x * Ideal.logistic x * y)
    (pt_rows m c t 0 (View.ld (iblk m c 1 t) r0_0) (View.ld (iblk m c 2 t) r0_0) (View.ld (iblk m c 0 t) r0_1) (View.ld (iblk m c 3 t) r0_2)
      (View.ld (iblk m c 4 t) r0_3) (fun r k => ld_half 0 _ _ r k) (fun r k => ld_half 0 _ _ r k) (fun r k => ld_half 0 _ _ r k)
      (fun r k => ld_half 0 _ _ r k) (fun k => ld_half 0 _ _ 0 k) r k)
    (pt_rows m c t 1 (View.ld (iblk m c 1 t) r0_4) (View.ld (iblk m c 2 t) r0_4) (View.ld (iblk m c 0 t) r0_5) (View.ld (iblk m c 3 t) r0_6)
      (View.ld (iblk m c 4 t) r0_7) (fun r k => ld_half 1 _ _ r k) (fun r k => ld_half 1 _ _ r k) (fun r k => ld_half 1 _ _ r k)
      (fun r k => ld_half 1 _ _ r k) (fun k => ld_half 1 _ _ 0 k) r k)

theorem mem5 (t : Fin cfg0.N) (i : S8192x5632.Idx) :
    i ∈ ((cfg0.win 5).blk t).view.set ↔ ∀ a : Fin 2, win0_5.index t a * S512x512.size a ≤ i a ∧ (i a : ℕ) < win0_5.index t a * S512x512.size a + S512x512.size a := by
  show i ∈ ((View.whole main_v0).slice (win0_5.rect t)).set ↔ _
  rw [View.set_slice_whole, Rect.mem_set_unit]; exact Iff.rfl

theorem final : (Gen.dats m 0 c).arrAt 5 cfg0.N = out m c := by
  refine (Gen.dats m 0 c).arrAt_eq_of_cover 5 (out m c) (fun t _ => ?_) fun (i : S8192x5632.Idx) => ?_
  · rw [Value.flushed5]
    funext j
    obtain ⟨-, -, -, -, -, hi⟩ := idx_facts t
    rw [View.read_apply]
    idx_vars j
    have e : ((cfg0.win 5).blk t).view.emb (ix2 j0 j1) = (ix2 (row t j0) (col t j1) : S8192x5632.Idx) := by
      funext a
      apply Fin.ext
      match a with
      | ⟨0, _⟩ => show win0_5.index t 0 * 512 + 1 * j0.val = 512 * (t.val % 16) + j0.val; rw [hi.1]; omega
      | ⟨1, _⟩ => show win0_5.index t 1 * 512 + 1 * j1.val = 512 * (t.val / 16) + j1.val; rw [hi.2]; omega
    exact (block m c t j0 j1).trans (congrArg (out m c) e).symm
  · have h0 : (i 0 : Nat) < 8192 := (i 0).isLt
    have h1 : (i 1 : Nat) < 5632 := (i 1).isLt
    have hN : cfg0.N = 176 := N_0
    refine ⟨⟨(i 0).val / 512 + 16 * ((i 1).val / 512), by omega⟩, flush0_5 _, ?_⟩
    obtain ⟨-, -, -, -, -, hi⟩ := idx_facts ⟨(i 0).val / 512 + 16 * ((i 1).val / 512), by omega⟩
    rw [mem5]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 512 ≤ (i 1).val ∧ (i 1).val < win0_5.index _ 1 * 512 + 512
      rw [hi.2]; dsimp only; omega

end Cert.GateKIdeal.Ker

end
-- ==== Proof.GateMain.lean ====
/- The claims about the feed-forward gate's forward kernel: its frames, and that its result is the reference's on any arguments. -/
module

public import proofs.«01_k».proof.Defs
public import proofs.«01_k».proof.Proof.GateKer
public import proofs.«01_k».proof.Proof.Gen.GateK.Frame

@[expose] public section

set_option maxRecDepth 16384

noncomputable section

namespace Cert.Gate

open Idealize.ShloMosaic Idealize.ShloMosaic.TcCoe Idealize.SL.Sem Cert.GateKIdeal.Ker Cert.GateRIdeal Cert.GateRIdeal.Read
open Cert.ConvKIdeal.Ker (uAt conv)

section
variable (u : FVec Ideal S2x8192x5632 .f32) (w : FVec Ideal S2x3x5632 .f32) (b : FVec Ideal S2x1x5632 .f32)

/-- The rows with a zero row before and after. -/
theorem ref_up (h : Fin 2) (n : Fin 8194) (k : Fin 5632) : val_main_v1 (F := Ideal) u (ix3 h n k) = uAt u h k n.val := by
  pointwise [val_main_v1, val_main_v0, val_main_cst]
  unfold uAt
  by_cases h0 : n.val < 1
  · rw [dif_pos h0, dif_neg (by omega)]
  · rw [dif_neg h0]
    by_cases h1 : n.val - 1 < 8192
    · rw [dif_pos h1, dif_pos (by omega)]
    · rw [dif_neg h1, dif_neg (by omega)]

theorem ref_conv (h : Fin 2) (r : Fin 8192) (k : Fin 5632) :
    val_main_v19 (F := Ideal) u w b (ix3 h r k) = conv u w b h k (r.val + 1) := by
  pointwise [val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_cst_0]
  rw [ref_up, ref_up, ref_up]
  unfold conv
  refine congrArg (_ + ·) (congrArg₂ _ (congrArg₂ _ (congrArg (fun n => _ * uAt u h k n) ?_) (congrArg (fun n => _ * uAt u h k n) ?_))
    (congrArg (fun n => _ * uAt u h k n) ?_))
  · show r.val = r.val + 1 - 1; omega
  · show 1 + r.val = r.val + 1; omega
  · show 2 + r.val = r.val + 1 + 1; omega

theorem ref_gate (r : Fin 8192) (k : Fin 5632) : val_main_v21 (F := Ideal) u w b (ix2 r k) = conv u w b 0 k (r.val + 1) := by
  pointwise [val_main_v21, val_main_v20]
  exact ref_conv u w b 0 r k

theorem ref_val (r : Fin 8192) (k : Fin 5632) : val_main_v24 (F := Ideal) u w b (ix2 r k) = conv u w b 1 k (r.val + 1) := by
  pointwise [val_main_v24, val_main_v23]
  exact ref_conv u w b 1 r k

theorem ref_sigma (r : Fin 8192) (k : Fin 5632) :
    val_main_call0_v5 (F := Ideal) u w b (ix2 r k) = Ideal.logistic (conv u w b 0 k (r.val + 1)) := by
  pointwise [val_main_call0_v5, val_main_call0_v4, val_main_call0_cst_0, val_main_call0_v3, val_main_call0_v2, val_main_call0_cst,
    val_main_call0_v1, val_main_call0_v0]
  rw [ref_gate]
  rfl

theorem ref_out : val_main_v26 (F := Ideal) u w b = gateArr u w b := by
  funext j
  idx_vars j
  pointwise [val_main_v26, val_main_v25, val_main_v22]
  rw [ref_gate, ref_sigma, ref_val]
  rfl

end

theorem frame_k : Cert.quiescent_GateK := fun m ρ _ => Cert.GateK.Gen.frame m ρ
theorem frame_ki : Cert.quiescent_GateKIdeal := fun m ρ _ => Cert.GateKIdeal.Gen.frame m ρ

theorem frame_ri : Cert.quiescent_GateRIdeal := fun m ρ _ =>
  (θ_run Cert.GateRIdeal.defs _ _).mono (fun _ h => ⟨fun c => (h c).2, funext fun s => nomatch s⟩)
    (Cert.GateRIdeal.Value.run (F := Ideal) m ρ)

theorem value : Cert.algebraic_GateKIdeal_GateRIdeal := by
  intro m ρ m' ρ' _ hm
  refine ⟨fun c => out m c, ?_, ?_⟩
  · refine (θ_run Cert.GateKIdeal.defs _ _).mono (fun r hr c => ?_) (Cert.GateKIdeal.Value.run_blocks m ρ)
    exact ⟨(hr c).1.trans (final m c), (hr c).2⟩
  · refine (θ_run Cert.GateRIdeal.defs _ _).mono (fun r hr c => ?_) (Cert.GateRIdeal.Value.run (F := Ideal) m' ρ')
    obtain ⟨e0, e1, e2⟩ := hm c
    refine ⟨(hr c).1.trans ((val_main_v26_eq _ _).trans ((ref_out _ _ _).trans ?_)), (hr c).2⟩
    rw [e0, e1, e2]

end Cert.Gate

end
-- ==== Proof.YfwdMain.lean ====
/- The claims about the state-space output's forward kernel: its frames, and that its two results are the reference's on any arguments. -/
module

public import proofs.«01_k».proof.Defs
public import proofs.«01_k».proof.Proof.Gen.YfwdKIdeal.Value
public import proofs.«01_k».proof.Proof.Gen.YfwdRIdeal.Read
public import proofs.«01_k».proof.Proof.Gen.YfwdRIdeal.Run
public import proofs.«01_k».proof.Proof.Gen.YfwdK.Frame
public import Idealize.ShloMosaic.Lib.Pointwise

@[expose] public section

set_option maxRecDepth 16384

noncomputable section

namespace Cert.YfwdKIdeal.Ker

open Idealize.ShloMosaic Idealize.ShloMosaic.TcCoe Idealize.ShloMosaic.Tactic Cert.YfwdKIdeal Cert.YfwdKIdeal.Gen
open Idealize.SL.Sem

theorem hz : (![0, 0] : Fin 2 → Nat) = fun _ => 0 := funext fun a => by fin_cases a <;> rfl

variable (m : (ℓ : Loc nD τ sig) → Buf (Elt Ideal) ℓ) (c : Dev nD)

theorem idx_facts : ∀ t : Fin cfg0.N, (win0_0.index t 0 = t.val % 16 ∧ win0_0.index t 1 = t.val / 16)
    ∧ (win0_1.index t 0 = t.val % 16 ∧ win0_1.index t 1 = t.val / 16) ∧ (win0_2.index t 0 = t.val % 16 ∧ win0_2.index t 1 = t.val / 16)
    ∧ (win0_3.index t 0 = 0 ∧ win0_3.index t 1 = t.val / 16) ∧ (win0_4.index t 0 = t.val % 16 ∧ win0_4.index t 1 = t.val / 16)
    ∧ (win0_5.index t 0 = t.val % 16 ∧ win0_5.index t 1 = t.val / 16) :=
  (by decide +kernel : ∀ t : Fin grid0.N, _)

/-- The output: the scaled input and the two directions' outputs. -/
def yArr (g a b : S8192x2048.Idx → EReal) (d : S1x2048.Idx → EReal) : S8192x2048.Idx → EReal :=
  fun i => d (ix2 0 (i 1)) * g i + a i + b i

abbrev yOut (m : (ℓ : Loc nD τ sig) → Buf (Elt Ideal) ℓ) (c : Dev nD) : S8192x2048.Idx → EReal :=
  yArr (m ((c : Thread nD τ).loc main_arg0)) (m ((c : Thread nD τ).loc main_arg1)) (m ((c : Thread nD τ).loc main_arg2)) (m ((c : Thread nD τ).loc main_arg3))

/-- The activation. -/
def act (y : EReal) : EReal :=
  y * (Ideal.ofBits .f32 0x3F000000#32 * (1
    + Ideal.tanh (Ideal.ofBits .f32 0x3F4C422A#32 * (y + Ideal.ofBits .f32 0x3D372713#32 * (y * (y * y))))))

/-- The activated output. -/
def zArr (g a b : S8192x2048.Idx → EReal) (d : S1x2048.Idx → EReal) : S8192x2048.Idx → EReal := fun i => act (yArr g a b d i)

abbrev zOut (m : (ℓ : Loc nD τ sig) → Buf (Elt Ideal) ℓ) (c : Dev nD) : S8192x2048.Idx → EReal :=
  zArr (m ((c : Thread nD τ).loc main_arg0)) (m ((c : Thread nD τ).loc main_arg1)) (m ((c : Thread nD τ).loc main_arg2)) (m ((c : Thread nD τ).loc main_arg3))

theorem pay (g a b : FVec Ideal S512x1024 .f32) (d : FVec Ideal S1x1024 .f32) (r : Fin 512) (k : Fin 1024) :
    out0_4 (F := Ideal) g a b d (ix2 r k) = d (ix2 0 k) * g (ix2 r k) + a (ix2 r k) + b (ix2 r k) := by
  unfold out0_4
  rw [View.canon_unit_zero hz]
  simp only [View.ld_unit_zero (S := S512x1024) hz, View.ld_unit_zero (S := S1x1024) hz]
  pointwise [k0_pay1]

theorem pay_act (g a b : FVec Ideal S512x1024 .f32) (d : FVec Ideal S1x1024 .f32) (r : Fin 512) (k : Fin 1024) :
    out0_5 (F := Ideal) g a b d (ix2 r k) = act (out0_4 (F := Ideal) g a b d (ix2 r k)) := by
  rw [pay]
  unfold out0_5
  rw [View.canon_unit_zero hz]
  simp only [View.ld_unit_zero (S := S512x1024) hz, View.ld_unit_zero (S := S1x1024) hz]
  pointwise [k0_pay2]
  rfl

/-- A point's block of the result. -/
theorem block (t : Fin cfg0.N) (r : Fin 512) (k : Fin 1024) :
    out0_4 (F := Ideal) (iblk m c 0 t) (iblk m c 1 t) (iblk m c 2 t) (iblk m c 3 t) (ix2 r k) = yOut m c (((cfg0.win 4).blk t).view.emb (ix2 r k)) := by
  obtain ⟨-, -, -, h3, h4, -⟩ := idx_facts t
  rw [pay]
  unfold iblk
  simp only [View.read_apply]
  refine congrArg₂ _ (congrArg₂ _ (congrArg₂ _ ?_ ?_) ?_) ?_
  · show m ((c : Thread nD τ).loc main_arg3) _ = m ((c : Thread nD τ).loc main_arg3) _
    congr 1
    funext a
    apply Fin.ext
    match a with
    | ⟨0, _⟩ => show win0_3.index t 0 * 1 + 1 * 0 = 0; rw [h3.1]
    | ⟨1, _⟩ => show win0_3.index t 1 * 1024 + 1 * k.val = win0_4.index t 1 * 1024 + 1 * k.val; rw [h3.2, h4.2]
  · rfl
  · rfl
  · rfl

theorem mem4 (t : Fin cfg0.N) (i : S8192x2048.Idx) :
    i ∈ ((cfg0.win 4).blk t).view.set ↔ ∀ a : Fin 2, win0_4.index t a * S512x1024.size a ≤ i a ∧ (i a : ℕ) < win0_4.index t a * S512x1024.size a + S512x1024.size a := by
  show i ∈ ((View.whole main_v0_0).slice (win0_4.rect t)).set ↔ _
  rw [View.set_slice_whole, Rect.mem_set_unit]; exact Iff.rfl

theorem final : (Gen.dats m 0 c).arrAt 4 cfg0.N = yOut m c := by
  refine (Gen.dats m 0 c).arrAt_eq_of_cover 4 (yOut m c) (fun t _ => ?_) fun (i : S8192x2048.Idx) => ?_
  · rw [Value.flushed4]
    funext j
    rw [View.read_apply]
    idx_vars j
    exact block m c t j0 j1
  · have h0 : (i 0 : Nat) < 8192 := (i 0).isLt
    have h1 : (i 1 : Nat) < 2048 := (i 1).isLt
    have hN : cfg0.N = 32 := N_0
    refine ⟨⟨(i 0).val / 512 + 16 * ((i 1).val / 1024), by omega⟩, flush0_4 _, ?_⟩
    obtain ⟨-, -, -, -, hi, -⟩ := idx_facts ⟨(i 0).val / 512 + 16 * ((i 1).val / 1024), by omega⟩
    rw [mem4]
    intro a
    match a with
    | ⟨0, _⟩ =>
      show win0_4.index _ 0 * 512 ≤ (i 0).val ∧ (i 0).val < win0_4.index _ 0 * 512 + 512
      rw [hi.1]; dsimp only; omega
    | ⟨1, _⟩ =>
      show win0_4.index _ 1 * 1024 ≤ (i 1).val ∧ (i 1).val < win0_4.index _ 1 * 1024 + 1024
      rw [hi.2]; dsimp only; omega

theorem mem5 (t : Fin cfg0.N) (i : S8192x2048.Idx) :
    i ∈ ((cfg0.win 5).blk t).view.set ↔ ∀ a : Fin 2, win0_5.index t a * S512x1024.size a ≤ i a ∧ (i a : ℕ) < win0_5.index t a * S512x1024.size a + S512x1024.size a := by
  show i ∈ ((View.whole main_v0_1).slice (win0_5.rect t)).set ↔ _
  rw [View.set_slice_whole, Rect.mem_set_unit]; exact Iff.rfl

theorem final_z : (Gen.dats m 0 c).arrAt 5 cfg0.N = zOut m c := by
  refine (Gen.dats m 0 c).arrAt_eq_of_cover 5 (zOut m c) (fun t _ => ?_) fun (i : S8192x2048.Idx) => ?_
  · rw [Value.flushed5]
    funext j
    rw [View.read_apply]
    idx_vars j
    exact (pay_act _ _ _ _ j0 j1).trans (congrArg act (block m c t j0 j1))
  · have h0 : (i 0 : Nat) < 8192 := (i 0).isLt
    have h1 : (i 1 : Nat) < 2048 := (i 1).isLt
    have hN : cfg0.N = 32 := N_0
    refine ⟨⟨(i 0).val / 512 + 16 * ((i 1).val / 1024), by omega⟩, flush0_5 _, ?_⟩
    obtain ⟨-, -, -, -, -, hi⟩ := idx_facts ⟨(i 0).val / 512 + 16 * ((i 1).val / 1024), by omega⟩
    rw [mem5]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 1024 ≤ (i 1).val ∧ (i 1).val < win0_5.index _ 1 * 1024 + 1024
      rw [hi.2]; dsimp only; omega

end Cert.YfwdKIdeal.Ker

namespace Cert.Yfwd

open Idealize.ShloMosaic Idealize.ShloMosaic.TcCoe Idealize.SL.Sem Cert.YfwdKIdeal.Ker Cert.YfwdRIdeal Cert.YfwdRIdeal.Read

section
variable (u a b : FVec Ideal S8192x2048 .f32) (d : FVec Ideal S1x2048 .f32)

theorem ref_y : val_main_v3 (F := Ideal) u a b d = yArr u a b d := by
  funext j
  idx_vars j
  pointwise [val_main_v3, val_main_v2, val_main_v1, val_main_v0]
  rw [add_comm, ← add_assoc]
  rfl

theorem ref_z : val_main_v17 (F := Ideal) u a b d = zArr u a b d := by
  funext j
  idx_vars j
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1, val_main_cst_2]
  rw [ref_y, mul_comm (yArr u a b d _ * yArr u a b d _) (yArr u a b d _)]
  rfl

end

theorem frame_k : Cert.quiescent_YfwdK := fun m ρ _ => Cert.YfwdK.Gen.frame m ρ
theorem frame_ki : Cert.quiescent_YfwdKIdeal := fun m ρ _ => Cert.YfwdKIdeal.Gen.frame m ρ

theorem frame_ri : Cert.quiescent_YfwdRIdeal := fun m ρ _ =>
  (θ_run Cert.YfwdRIdeal.defs _ _).mono (fun _ h => ⟨fun c => (h c).2.2, funext fun s => nomatch s⟩)
    (Cert.YfwdRIdeal.Value.run (F := Ideal) m ρ)

theorem value : Cert.algebraic_YfwdKIdeal_YfwdRIdeal := by
  intro m ρ m' ρ' _ hm
  refine ⟨fun c => yOut m c, fun c => zOut m c, ?_, ?_⟩
  · refine (θ_run Cert.YfwdKIdeal.defs _ _).mono (fun r hr c => ?_) (Cert.YfwdKIdeal.Value.run_blocks m ρ)
    exact ⟨(hr c).1.trans (final m c), (hr c).2.1.trans (final_z m c), (hr c).2.2⟩
  · refine (θ_run Cert.YfwdRIdeal.defs _ _).mono (fun r hr c => ?_) (Cert.YfwdRIdeal.Value.run (F := Ideal) m' ρ')
    obtain ⟨e0, e1, e2, e3⟩ := hm c
    refine ⟨(hr c).1.trans ((val_main_v3_eq _ _ _ _).trans ((ref_y _ _ _ _).trans ?_)),
      (hr c).2.1.trans ((val_main_v17_eq _ _ _ _).trans ((ref_z _ _ _ _).trans ?_)), (hr c).2.2⟩ <;> rw [e0, e1, e2, e3]

end Cert.Yfwd

end
-- ==== Proof.GluMain.lean ====
/- The claims about the gate's forward kernel: its frames, and that its result is the reference's on any arguments. -/
module

public import proofs.«01_k».proof.Defs
public import proofs.«01_k».proof.Proof.Gen.GluKIdeal.Value
public import proofs.«01_k».proof.Proof.Gen.GluRIdeal.Read
public import proofs.«01_k».proof.Proof.Gen.GluRIdeal.Run
public import proofs.«01_k».proof.Proof.Gen.GluK.Frame
public import Idealize.ShloMosaic.Lib.Pointwise

@[expose] public section

set_option maxRecDepth 16384

noncomputable section

namespace Cert.GluKIdeal.Ker

open Idealize.ShloMosaic Idealize.ShloMosaic.TcCoe Idealize.ShloMosaic.Tactic Cert.GluKIdeal Cert.GluKIdeal.Gen
open Idealize.SL.Sem

theorem hz : (![0, 0] : Fin 2 → Nat) = fun _ => 0 := funext fun a => by fin_cases a <;> rfl

variable (m : (ℓ : Loc nD τ sig) → Buf (Elt Ideal) ℓ) (c : Dev nD)

theorem idx_facts : ∀ t : Fin cfg0.N, (win0_0.index t 0 = t.val % 16 ∧ win0_0.index t 1 = t.val / 16)
    ∧ (win0_1.index t 0 = t.val % 16 ∧ win0_1.index t 1 = t.val / 16)
    ∧ (win0_2.index t 0 = 0 ∧ win0_2.index t 1 = t.val / 16) ∧ (win0_3.index t 0 = t.val % 16 ∧ win0_3.index t 1 = t.val / 16) :=
  (by decide +kernel : ∀ t : Fin grid0.N, _)

/-- The activation. -/
def act (y : EReal) : EReal :=
  y * (Ideal.ofBits .f32 0x3F000000#32 * (1
    + Ideal.tanh (Ideal.ofBits .f32 0x3F4C422A#32 * (y + Ideal.ofBits .f32 0x3D372713#32 * (y * (y * y))))))

/-- The activation times the gate. -/
def outArr (y l : S8192x2048.Idx → EReal) (b : S1x2048.Idx → EReal) : S8192x2048.Idx → EReal :=
  fun i => act (y i) * Ideal.logistic (l i + b (ix2 0 (i 1)))

abbrev du (m : (ℓ : Loc nD τ sig) → Buf (Elt Ideal) ℓ) (c : Dev nD) : S8192x2048.Idx → EReal :=
  outArr (m ((c : Thread nD τ).loc main_arg0)) (m ((c : Thread nD τ).loc main_arg1)) (m ((c : Thread nD τ).loc main_arg2))

theorem pay (y l : FVec Ideal S512x1024 .f32) (b : FVec Ideal S1x1024 .f32) (r : Fin 512) (k : Fin 1024) :
    out0_3 (F := Ideal) y l b (ix2 r k) = act (y (ix2 r k)) * Ideal.logistic (l (ix2 r k) + b (ix2 0 k)) := by
  unfold out0_3
  rw [View.canon_unit_zero hz]
  simp only [View.ld_unit_zero (S := S512x1024) hz, View.ld_unit_zero (S := S1x1024) hz]
  pointwise [k0_pay1]
  rfl

/-- A point's block of the result. -/
theorem block (t : Fin cfg0.N) (r : Fin 512) (k : Fin 1024) :
    out0_3 (F := Ideal) (iblk m c 0 t) (iblk m c 1 t) (iblk m c 2 t) (ix2 r k) = du m c (((cfg0.win 3).blk t).view.emb (ix2 r k)) := by
  obtain ⟨-, -, h2, h3⟩ := idx_facts t
  rw [pay]
  unfold iblk
  simp only [View.read_apply]
  refine congrArg₂ _ (congrArg act ?_) (congrArg Ideal.logistic (congrArg₂ _ ?_ ?_))
  · rfl
  · rfl
  · show m ((c : Thread nD τ).loc main_arg2) _ = m ((c : Thread nD τ).loc main_arg2) _
    congr 1
    funext a
    apply Fin.ext
    match a with
    | ⟨0, _⟩ => show win0_2.index t 0 * 1 + 1 * 0 = 0; rw [h2.1]
    | ⟨1, _⟩ => show win0_2.index t 1 * 1024 + 1 * k.val = win0_3.index t 1 * 1024 + 1 * k.val; rw [h2.2, h3.2]

theorem mem3 (t : Fin cfg0.N) (i : S8192x2048.Idx) :
    i ∈ ((cfg0.win 3).blk t).view.set ↔ ∀ a : Fin 2, win0_3.index t a * S512x1024.size a ≤ i a ∧ (i a : ℕ) < win0_3.index t a * S512x1024.size a + S512x1024.size a := by
  show i ∈ ((View.whole main_v0).slice (win0_3.rect t)).set ↔ _
  rw [View.set_slice_whole, Rect.mem_set_unit]; exact Iff.rfl

theorem final : (Gen.dats m 0 c).arrAt 3 cfg0.N = du m c := by
  refine (Gen.dats m 0 c).arrAt_eq_of_cover 3 (du m c) (fun t _ => ?_) fun (i : S8192x2048.Idx) => ?_
  · rw [Value.flushed3]
    funext j
    rw [View.read_apply]
    idx_vars j
    exact block m c t j0 j1
  · have h0 : (i 0 : Nat) < 8192 := (i 0).isLt
    have h1 : (i 1 : Nat) < 2048 := (i 1).isLt
    have hN : cfg0.N = 32 := N_0
    refine ⟨⟨(i 0).val / 512 + 16 * ((i 1).val / 1024), by omega⟩, flush0_3 _, ?_⟩
    obtain ⟨-, -, -, hi⟩ := idx_facts ⟨(i 0).val / 512 + 16 * ((i 1).val / 1024), by omega⟩
    rw [mem3]
    intro a
    match a with
    | ⟨0, _⟩ =>
      show win0_3.index _ 0 * 512 ≤ (i 0).val ∧ (i 0).val < win0_3.index _ 0 * 512 + 512
      rw [hi.1]; dsimp only; omega
    | ⟨1, _⟩ =>
      show win0_3.index _ 1 * 1024 ≤ (i 1).val ∧ (i 1).val < win0_3.index _ 1 * 1024 + 1024
      rw [hi.2]; dsimp only; omega

end Cert.GluKIdeal.Ker

namespace Cert.Glu

open Idealize.ShloMosaic Idealize.ShloMosaic.TcCoe Idealize.SL.Sem Cert.GluKIdeal.Ker Cert.GluRIdeal Cert.GluRIdeal.Read

section
variable (y l : FVec Ideal S8192x2048 .f32) (b : FVec Ideal S1x2048 .f32)

theorem ref_gate (r : Fin 8192) (k : Fin 2048) :
    val_main_v7 (F := Ideal) l b (ix2 r k) = Ideal.logistic (l (ix2 r k) + b (ix2 0 k)) := by
  pointwise [val_main_v7, val_main_v6, val_main_v5, val_main_v4, val_main_v3, val_main_v2, val_main_v1, val_main_v0, val_main_cst,
    val_main_cst_0]
  rw [add_comm (b _)]
  rfl

theorem ref_act (r : Fin 8192) (k : Fin 2048) : val_main_v20 (F := Ideal) y (ix2 r k) = act (y (ix2 r k)) := by
  pointwise [val_main_v20, val_main_v19, val_main_v18, val_main_v17, val_main_v16, val_main_v15, val_main_v14, val_main_v13, val_main_v12,
    val_main_v11, val_main_v10, val_main_v9, val_main_v8, val_main_cst_1, val_main_cst_2, val_main_cst_3, val_main_cst_4]
  rw [mul_comm (y _ * y _) (y _)]
  rfl

theorem ref_out : val_main_v21 (F := Ideal) y l b = outArr y l b := by
  funext j
  idx_vars j
  pointwise [val_main_v21]
  rw [ref_gate, ref_act, mul_comm]
  rfl

end

theorem frame_k : Cert.quiescent_GluK := fun m ρ _ => Cert.GluK.Gen.frame m ρ
theorem frame_ki : Cert.quiescent_GluKIdeal := fun m ρ _ => Cert.GluKIdeal.Gen.frame m ρ

theorem frame_ri : Cert.quiescent_GluRIdeal := fun m ρ _ =>
  (θ_run Cert.GluRIdeal.defs _ _).mono (fun _ h => ⟨fun c => (h c).2, funext fun s => nomatch s⟩)
    (Cert.GluRIdeal.Value.run (F := Ideal) m ρ)

theorem value : Cert.algebraic_GluKIdeal_GluRIdeal := by
  intro m ρ m' ρ' _ hm
  refine ⟨fun c => du m c, ?_, ?_⟩
  · refine (θ_run Cert.GluKIdeal.defs _ _).mono (fun r hr c => ?_) (Cert.GluKIdeal.Value.run_blocks m ρ)
    exact ⟨(hr c).1.trans (final m c), (hr c).2⟩
  · refine (θ_run Cert.GluRIdeal.defs _ _).mono (fun r hr c => ?_) (Cert.GluRIdeal.Value.run (F := Ideal) m' ρ')
    obtain ⟨e0, e1, e2⟩ := hm c
    refine ⟨(hr c).1.trans ((val_main_v21_eq _ _ _).trans ((ref_out _ _ _).trans ?_)), (hr c).2⟩
    rw [e0, e1, e2]

end Cert.Glu

end
-- ==== Proof.RotKer.lean ====
/- The rotary embedding's forward kernel on any arguments: what the host prepares, one grid point's two results, and the two
   whole arrays after the sixteen points. -/
module

public import proofs.«01_k».proof.Proof.Gen.RotKIdeal.Frame
public import Idealize.ShloMosaic.Lib.StableHlo.ReadAt
public import Idealize.ShloMosaic.Lib.Pointwise

@[expose] public section

set_option maxRecDepth 16384

noncomputable section

namespace Cert.RotKIdeal.Ker

open Idealize.ShloMosaic Idealize.ShloMosaic.TcCoe Idealize.ShloMosaic.Tactic Cert.RotKIdeal Cert.RotKIdeal.Gen
open Idealize.SL.Sem

theorem hz : (![0, 0] : Fin 2 → Nat) = fun _ => 0 := funext fun a => by fin_cases a <;> rfl

/-! ## One point -/

section
variable (a b cs sn : FVec Ideal S512x544 .f32) (g : FVec Ideal S1x544 .f32)

theorem pay_first (r : Fin 512) (k : Fin 544) :
    out0_5 (F := Ideal) a b cs sn g (ix2 r k) = (a (ix2 r k) * cs (ix2 r k) - b (ix2 r k) * sn (ix2 r k)) * g (ix2 0 k) := by
  unfold out0_5
  rw [View.canon_unit_zero hz]
  simp only [View.ld_unit_zero (S := S512x544) hz, View.ld_unit_zero (S := S1x544) hz]
  pointwise [k0_pay4, k0_pay1, k0_pay2, k0_pay3]

theorem pay_second (r : Fin 512) (k : Fin 544) :
    out0_6 (F := Ideal) a b cs sn g (ix2 r k) = (b (ix2 r k) * cs (ix2 r k) + a (ix2 r k) * sn (ix2 r k)) * g (ix2 0 k) := by
  unfold out0_6
  rw [View.canon_unit_zero hz]
  simp only [View.ld_unit_zero (S := S512x544) hz, View.ld_unit_zero (S := S1x544) hz]
  pointwise [k0_pay5, k0_pay1, k0_pay2, k0_pay3]

end

/-! ## The blocks a point reads -/

variable (m : (ℓ : Loc nD τ sig) → Buf (Elt Ideal) ℓ) (c : Dev nD)

theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0) ∧ (win0_6.index t 0 = t.val ∧ win0_6.index t 1 = 0) :=
  (by decide +kernel : ∀ t : Fin grid0.N, _)

/-- Row `r` of block `t`. -/
abbrev row (t : Fin cfg0.N) (r : Fin 512) : Fin 8192 :=
  ⟨512 * t.val + r.val, by have : t.val < 16 := t.isLt.trans_eq N_0; omega⟩

/-- The five prepared arrays. -/
abbrev lo : S8192x544.Idx → EReal := V m c main_v9
abbrev hi : S8192x544.Idx → EReal := V m c main_v13
abbrev cs : S8192x544.Idx → EReal := V m c main_v2
abbrev sn : S8192x544.Idx → EReal := V m c main_v5
abbrev gain : S1x544.Idx → EReal := V m c main_v16

theorem iblk_lo (t : Fin cfg0.N) (r : Fin 512) (k : Fin 544) : (iblk m c 0 t : Vec Ideal S512x544 .f32) (ix2 r k) = lo m c (ix2 (row t r) k) := by
  obtain ⟨hi, -⟩ := idx_facts t
  unfold iblk
  rw [View.read_apply]
  show V m c main_v9 _ = V m c main_v9 _
  congr 1
  funext a
  apply Fin.ext
  match a with
  | ⟨0, _⟩ => show win0_0.index t 0 * 512 + 1 * r.val = 512 * t.val + r.val; rw [hi.1]; omega
  | ⟨1, _⟩ => show win0_0.index t 1 * 544 + 1 * k.val = k.val; rw [hi.2]; omega

theorem iblk_hi (t : Fin cfg0.N) (r : Fin 512) (k : Fin 544) : (iblk m c 1 t : Vec Ideal S512x544 .f32) (ix2 r k) = hi m c (ix2 (row t r) k) := by
  obtain ⟨-, hi, -⟩ := idx_facts t
  unfold iblk
  rw [View.read_apply]
  show V m c main_v13 _ = V m c main_v13 _
  congr 1
  funext a
  apply Fin.ext
  match a with
  | ⟨0, _⟩ => show win0_1.index t 0 * 512 + 1 * r.val = 512 * t.val + r.val; rw [hi.1]; omega
  | ⟨1, _⟩ => show win0_1.index t 1 * 544 + 1 * k.val = k.val; rw [hi.2]; omega

theorem iblk_cs (t : Fin cfg0.N) (r : Fin 512) (k : Fin 544) : (iblk m c 2 t : Vec Ideal S512x544 .f32) (ix2 r k) = cs m c (ix2 (row t r) k) := by
  obtain ⟨-, -, hi, -⟩ := idx_facts t
  unfold iblk
  rw [View.read_apply]
  show V m c main_v2 _ = V m c main_v2 _
  congr 1
  funext a
  apply Fin.ext
  match a with
  | ⟨0, _⟩ => show win0_2.index t 0 * 512 + 1 * r.val = 512 * t.val + r.val; rw [hi.1]; omega
  | ⟨1, _⟩ => show win0_2.index t 1 * 544 + 1 * k.val = k.val; rw [hi.2]; omega

theorem iblk_sn (t : Fin cfg0.N) (r : Fin 512) (k : Fin 544) : (iblk m c 3 t : Vec Ideal S512x544 .f32) (ix2 r k) = sn m c (ix2 (row t r) k) := by
  obtain ⟨-, -, -, hi, -⟩ := idx_facts t
  unfold iblk
  rw [View.read_apply]
  show V m c main_v5 _ = V m c main_v5 _
  congr 1
  funext a
  apply Fin.ext
  match a with
  | ⟨0, _⟩ => show win0_3.index t 0 * 512 + 1 * r.val = 512 * t.val + r.val; rw [hi.1]; omega
  | ⟨1, _⟩ => show win0_3.index t 1 * 544 + 1 * k.val = k.val; rw [hi.2]; omega

theorem iblk_gain (t : Fin cfg0.N) (k : Fin 544) : (iblk m c 4 t : Vec Ideal S1x544 .f32) (ix2 0 k) = gain m c (ix2 0 k) := by
  obtain ⟨-, -, -, -, hi, -⟩ := idx_facts t
  unfold iblk
  rw [View.read_apply]
  show V m c main_v16 _ = V m c main_v16 _
  congr 1
  funext a
  apply Fin.ext
  match a with
  | ⟨0, _⟩ => show win0_4.index t 0 * 1 + 1 * 0 = 0; rw [hi.1]
  | ⟨1, _⟩ => show win0_4.index t 1 * 544 + 1 * k.val = k.val; rw [hi.2]; omega

/-! ## The two arrays the kernel writes -/

/-- The rotated first halves, times the gain. -/
def first : S8192x544.Idx → EReal := fun i => (lo m c i * cs m c i - hi m c i * sn m c i) * gain m c (ix2 0 (i 1))
/-- The second halves'. -/
def second : S8192x544.Idx → EReal := fun i => (hi m c i * cs m c i + lo m c i * sn m c i) * gain m c (ix2 0 (i 1))

theorem mem5 (t : Fin cfg0.N) (i : S8192x544.Idx) :
    i ∈ ((cfg0.win 5).blk t).view.set ↔ ∀ a : Fin 2, win0_5.index t a * S512x544.size a ≤ i a ∧ (i a : ℕ) < win0_5.index t a * S512x544.size a + S512x544.size a := by
  show i ∈ ((View.whole main_v17_0).slice (win0_5.rect t)).set ↔ _
  rw [View.set_slice_whole, Rect.mem_set_unit]; exact Iff.rfl

theorem mem6 (t : Fin cfg0.N) (i : S8192x544.Idx) :
    i ∈ ((cfg0.win 6).blk t).view.set ↔ ∀ a : Fin 2, win0_6.index t a * S512x544.size a ≤ i a ∧ (i a : ℕ) < win0_6.index t a * S512x544.size a + S512x544.size a := by
  show i ∈ ((View.whole main_v17_1).slice (win0_6.rect t)).set ↔ _
  rw [View.set_slice_whole, Rect.mem_set_unit]; exact Iff.rfl

theorem final_first : (Gen.dats m 0 c).arrAt 5 cfg0.N = first m c := by
  refine (Gen.dats m 0 c).arrAt_eq_of_cover 5 (first m c) (fun t _ => ?_) fun (i : S8192x544.Idx) => ?_
  · show (cfg0.win 5).cut (cfg0.grid.coords t) ((dats m 0 c).after 5 t) = _
    rw [after0_5]
    funext j
    obtain ⟨-, -, -, -, -, hi, -⟩ := idx_facts t
    rw [View.read_apply]
    idx_vars j
    have e : ((cfg0.win 5).blk t).view.emb (ix2 j0 j1) = (ix2 (row t j0) j1 : S8192x544.Idx) := by
      funext a
      apply Fin.ext
      match a with
      | ⟨0, _⟩ => show win0_5.index t 0 * 512 + 1 * j0.val = 512 * t.val + j0.val; rw [hi.1]; omega
      | ⟨1, _⟩ => show win0_5.index t 1 * 544 + 1 * j1.val = j1.val; rw [hi.2]; omega
    refine Eq.trans ((pay_first (iblk m c 0 t) (iblk m c 1 t) (iblk m c 2 t) (iblk m c 3 t) (iblk m c 4 t) j0 j1).trans ?_) (congrArg (first m c) e).symm
    rw [iblk_lo, iblk_hi, iblk_cs, iblk_sn, iblk_gain]
    rfl
  · have h0 : (i 0 : Nat) < 8192 := (i 0).isLt
    have h1 : (i 1 : Nat) < 544 := (i 1).isLt
    have hN : cfg0.N = 16 := N_0
    refine ⟨⟨(i 0).val / 512, by omega⟩, flush0_5 _, ?_⟩
    obtain ⟨-, -, -, -, -, hi, -⟩ := idx_facts ⟨(i 0).val / 512, by omega⟩
    rw [mem5]
    intro a
    match a with
    | ⟨0, _⟩ =>
      show win0_5.index _ 0 * 512 ≤ (i 0).val ∧ (i 0).val < win0_5.index _ 0 * 512 + 512
      rw [hi.1]; dsimp only; omega
    | ⟨1, _⟩ =>
      show win0_5.index _ 1 * 544 ≤ (i 1).val ∧ (i 1).val < win0_5.index _ 1 * 544 + 544
      rw [hi.2]; omega

theorem final_second : (Gen.dats m 0 c).arrAt 6 cfg0.N = second m c := by
  refine (Gen.dats m 0 c).arrAt_eq_of_cover 6 (second m c) (fun t _ => ?_) fun (i : S8192x544.Idx) => ?_
  · show (cfg0.win 6).cut (cfg0.grid.coords t) ((dats m 0 c).after 6 t) = _
    rw [after0_6]
    funext j
    obtain ⟨-, -, -, -, -, -, hi⟩ := idx_facts t
    rw [View.read_apply]
    idx_vars j
    have e : ((cfg0.win 6).blk t).view.emb (ix2 j0 j1) = (ix2 (row t j0) j1 : S8192x544.Idx) := by
      funext a
      apply Fin.ext
      match a with
      | ⟨0, _⟩ => show win0_6.index t 0 * 512 + 1 * j0.val = 512 * t.val + j0.val; rw [hi.1]; omega
      | ⟨1, _⟩ => show win0_6.index t 1 * 544 + 1 * j1.val = j1.val; rw [hi.2]; omega
    refine Eq.trans ((pay_second (iblk m c 0 t) (iblk m c 1 t) (iblk m c 2 t) (iblk m c 3 t) (iblk m c 4 t) j0 j1).trans ?_) (congrArg (second m c) e).symm
    rw [iblk_lo, iblk_hi, iblk_cs, iblk_sn, iblk_gain]
    rfl
  · have h0 : (i 0 : Nat) < 8192 := (i 0).isLt
    have h1 : (i 1 : Nat) < 544 := (i 1).isLt
    have hN : cfg0.N = 16 := N_0
    refine ⟨⟨(i 0).val / 512, by omega⟩, flush0_6 _, ?_⟩
    obtain ⟨-, -, -, -, -, -, hi⟩ := idx_facts ⟨(i 0).val / 512, by omega⟩
    rw [mem6]
    intro a
    match a with
    | ⟨0, _⟩ =>
      show win0_6.index _ 0 * 512 ≤ (i 0).val ∧ (i 0).val < win0_6.index _ 0 * 512 + 512
      rw [hi.1]; dsimp only; omega
    | ⟨1, _⟩ =>
      show win0_6.index _ 1 * 544 ≤ (i 1).val ∧ (i 1).val < win0_6.index _ 1 * 544 + 544
      rw [hi.2]; omega

/-! ## What the host prepared -/

/-- Head `h`'s column `k`. -/
abbrev at32 (h : Fin 17) (k : Fin 32) : Fin 544 := ⟨32 * h.val + k.val, by omega⟩

/-- The arguments: the queries, the shared key's rotary part, the cosines and the sines. -/
abbrev qs : S8192x16x192.Idx → EReal := m ((c : Thread nD τ).loc main_arg0)
abbrev ks : S8192x64.Idx → EReal := m ((c : Thread nD τ).loc main_arg1)
abbrev cos : S8192x32.Idx → EReal := m ((c : Thread nD τ).loc main_arg2)
abbrev sin : S8192x32.Idx → EReal := m ((c : Thread nD τ).loc main_arg3)

theorem cs_at (r : Fin 8192) (h : Fin 17) (k : Fin 32) : cs m c (ix2 r (at32 h k)) = cos m c (ix2 r k) := by
  dsimp only [cs, V, V0, hostOps0]
  after_reads_at
  exact congrArg (fun q => cos m c (ix2 r q)) (Fin.ext (by show (32 * h.val + k.val) % 32 = k.val; omega))

theorem sn_at (r : Fin 8192) (h : Fin 17) (k : Fin 32) : sn m c (ix2 r (at32 h k)) = sin m c (ix2 r k) := by
  dsimp only [sn, V, V0, hostOps0]
  after_reads_at
  exact congrArg (fun q => sin m c (ix2 r q)) (Fin.ext (by show (32 * h.val + k.val) % 32 = k.val; omega))

theorem lo_q (r : Fin 8192) (h : Fin 16) (k : Fin 32) :
    lo m c (ix2 r (at32 ⟨h.val, by omega⟩ k)) = qs m c (ix3 r h ⟨128 + k.val, by omega⟩) := by
  dsimp only [lo, V, V0, hostOps0]
  after_reads_at
  rw [dif_pos (by omega)]
  exact congrArg₂ (fun p q => qs m c (ix3 r p q)) (Fin.ext (by show (32 * h.val + k.val) / 32 = h.val; omega))
    (Fin.ext (by show 128 + (32 * h.val + k.val) % 32 = 128 + k.val; omega))

theorem lo_k (r : Fin 8192) (k : Fin 32) : lo m c (ix2 r (at32 16 k)) = ks m c (ix2 r ⟨k.val, by omega⟩) := by
  dsimp only [lo, V, V0, hostOps0]
  after_reads_at

theorem hi_q (r : Fin 8192) (h : Fin 16) (k : Fin 32) :
    hi m c (ix2 r (at32 ⟨h.val, by omega⟩ k)) = qs m c (ix3 r h ⟨160 + k.val, by omega⟩) := by
  dsimp only [hi, V, V0, hostOps0]
  after_reads_at
  rw [dif_pos (by omega)]
  exact congrArg₂ (fun p q => qs m c (ix3 r p q)) (Fin.ext (by show (32 * h.val + k.val) / 32 = h.val; omega))
    (Fin.ext (by show 160 + (32 * h.val + k.val) % 32 = 160 + k.val; omega))

theorem hi_k (r : Fin 8192) (k : Fin 32) : hi m c (ix2 r (at32 16 k)) = ks m c (ix2 r ⟨32 + k.val, by omega⟩) := by
  dsimp only [hi, V, V0, hostOps0]
  after_reads_at

/-- The queries' gain: the word the step keeps of the logits' scale over the logarithm of two. -/
abbrev scl : EReal := Ideal.ofBits .f32 0x3DD53B95#32

theorem gain_q (h : Fin 16) (k : Fin 32) : gain m c (ix2 0 (at32 ⟨h.val, by omega⟩ k)) = scl := by
  dsimp only [gain, V, V0, hostOps0]
  after_reads_at
  rw [dif_pos (by omega)]

theorem gain_k (k : Fin 32) : gain m c (ix2 0 (at32 16 k)) = 1 := by
  dsimp only [gain, V, V0, hostOps0]
  after_reads_at

/-! ## The results -/

/-- The two halves of a rotated pair. -/
def fst (a b x y : EReal) : EReal := a * x - b * y
def snd (a b x y : EReal) : EReal := b * x + a * y

theorem first_q (r : Fin 8192) (h : Fin 16) (k : Fin 32) : first m c (ix2 r (at32 ⟨h.val, by omega⟩ k))
    = scl * fst (qs m c (ix3 r h ⟨128 + k.val, by omega⟩)) (qs m c (ix3 r h ⟨160 + k.val, by omega⟩)) (cos m c (ix2 r k)) (sin m c (ix2 r k)) := by
  unfold first
  rw [lo_q, hi_q, cs_at, sn_at]
  exact (congrArg _ (gain_q m c h k)).trans (mul_comm _ _)

theorem second_q (r : Fin 8192) (h : Fin 16) (k : Fin 32) : second m c (ix2 r (at32 ⟨h.val, by omega⟩ k))
    = scl * snd (qs m c (ix3 r h ⟨128 + k.val, by omega⟩)) (qs m c (ix3 r h ⟨160 + k.val, by omega⟩)) (cos m c (ix2 r k)) (sin m c (ix2 r k)) := by
  unfold second
  rw [lo_q, hi_q, cs_at, sn_at]
  exact (congrArg _ (gain_q m c h k)).trans (mul_comm _ _)

theorem first_k (r : Fin 8192) (k : Fin 32) : first m c (ix2 r (at32 16 k))
    = fst (ks m c (ix2 r ⟨k.val, by omega⟩)) (ks m c (ix2 r ⟨32 + k.val, by omega⟩)) (cos m c (ix2 r k)) (sin m c (ix2 r k)) := by
  unfold first
  rw [lo_k, hi_k, cs_at, sn_at]
  exact (congrArg _ (gain_k m c k)).trans (mul_one _)

theorem second_k (r : Fin 8192) (k : Fin 32) : second m c (ix2 r (at32 16 k))
    = snd (ks m c (ix2 r ⟨k.val, by omega⟩)) (ks m c (ix2 r ⟨32 + k.val, by omega⟩)) (cos m c (ix2 r k)) (sin m c (ix2 r k)) := by
  unfold second
  rw [lo_k, hi_k, cs_at, sn_at]
  exact (congrArg _ (gain_k m c k)).trans (mul_one _)

/-! ## After the host's last lines -/

/-- What the region leaves. -/
abbrev W (m : (ℓ : Loc nD τ sig) → Buf (Elt Ideal) ℓ) (c : Dev nD) : Valuation τ sig (Elt Ideal) :=
  Pipeline.withArrays spec0 c (V0 m c) fun w => (dats m 0 c).arrAt w cfg0.N

theorem w_first : W m c (Proc.devRef .tc main_v17_0) = first m c :=
  (Pipeline.withArrays_arr spec0 launch0.win.arr_inj c _ _ 5).trans (final_first m c)
theorem w_second : W m c (Proc.devRef .tc main_v17_1) = second m c :=
  (Pipeline.withArrays_arr spec0 launch0.win.arr_inj c _ _ 6).trans (final_second m c)

/-- The rotated queries and the rotated key. -/
abbrev outQ : S8192x16x64.Idx → EReal := Pipeline.afterTail₀ cfgs (dats m) 0 (V0 m) [hostOps1] c main_v22
abbrev outK : S8192x64.Idx → EReal := Pipeline.afterTail₀ cfgs (dats m) 0 (V0 m) [hostOps1] c main_v25

/-- The host's last lines, from whatever the region left. -/
theorem lines_q (X : Valuation τ sig (Elt Ideal)) (r : Fin 8192) (h : Fin 16) (k : Fin 32) :
    StableHlo.after hostOps1 X (Proc.devRef .tc main_v22) (ix3 r h ⟨k.val, by omega⟩) = X (Proc.devRef .tc main_v17_0) (ix2 r (at32 ⟨h.val, by omega⟩ k))
    ∧ StableHlo.after hostOps1 X (Proc.devRef .tc main_v22) (ix3 r h ⟨32 + k.val, by omega⟩) = X (Proc.devRef .tc main_v17_1) (ix2 r (at32 ⟨h.val, by omega⟩ k)) := by
  constructor
  · dsimp only [hostOps1]
    after_reads_at
    exact congrArg (fun q => X (Proc.devRef .tc main_v17_0) (ix2 r q)) (Fin.ext (by show h.val * 32 + k.val = 32 * h.val + k.val; omega))
  · dsimp only [hostOps1]
    after_reads_at
    exact congrArg (fun q => X (Proc.devRef .tc main_v17_1) (ix2 r q)) (Fin.ext (by show h.val * 32 + k.val = 32 * h.val + k.val; omega))

theorem lines_k (X : Valuation τ sig (Elt Ideal)) (r : Fin 8192) (k : Fin 32) :
    StableHlo.after hostOps1 X (Proc.devRef .tc main_v25) (ix2 r ⟨k.val, by omega⟩) = X (Proc.devRef .tc main_v17_0) (ix2 r (at32 16 k))
    ∧ StableHlo.after hostOps1 X (Proc.devRef .tc main_v25) (ix2 r ⟨32 + k.val, by omega⟩) = X (Proc.devRef .tc main_v17_1) (ix2 r (at32 16 k)) := by
  constructor
  · dsimp only [hostOps1]
    after_reads_at
    rfl
  · dsimp only [hostOps1]
    after_reads_at
    rfl

theorem outQ_lo (r : Fin 8192) (h : Fin 16) (k : Fin 32) : outQ m c (ix3 r h ⟨k.val, by omega⟩)
    = scl * fst (qs m c (ix3 r h ⟨128 + k.val, by omega⟩)) (qs m c (ix3 r h ⟨160 + k.val, by omega⟩)) (cos m c (ix2 r k)) (sin m c (ix2 r k)) :=
  (lines_q (W m c) r h k).1.trans ((congrFun (w_first m c) _).trans (first_q m c r h k))

theorem outQ_hi (r : Fin 8192) (h : Fin 16) (k : Fin 32) : outQ m c (ix3 r h ⟨32 + k.val, by omega⟩)
    = scl * snd (qs m c (ix3 r h ⟨128 + k.val, by omega⟩)) (qs m c (ix3 r h ⟨160 + k.val, by omega⟩)) (cos m c (ix2 r k)) (sin m c (ix2 r k)) :=
  (lines_q (W m c) r h k).2.trans ((congrFun (w_second m c) _).trans (second_q m c r h k))

theorem outK_lo (r : Fin 8192) (k : Fin 32) : outK m c (ix2 r ⟨k.val, by omega⟩)
    = fst (ks m c (ix2 r ⟨k.val, by omega⟩)) (ks m c (ix2 r ⟨32 + k.val, by omega⟩)) (cos m c (ix2 r k)) (sin m c (ix2 r k)) :=
  (lines_k (W m c) r k).1.trans ((congrFun (w_first m c) _).trans (first_k m c r k))

theorem outK_hi (r : Fin 8192) (k : Fin 32) : outK m c (ix2 r ⟨32 + k.val, by omega⟩)
    = snd (ks m c (ix2 r ⟨k.val, by omega⟩)) (ks m c (ix2 r ⟨32 + k.val, by omega⟩)) (cos m c (ix2 r k)) (sin m c (ix2 r k)) :=
  (lines_k (W m c) r k).2.trans ((congrFun (w_second m c) _).trans (second_k m c r k))

end Cert.RotKIdeal.Ker

end
-- ==== Proof.RotMain.lean ====
/- The claims about the rotary embedding's forward kernel: its frames, and that its two results are the reference's on any
   arguments. -/
module

public import proofs.«01_k».proof.Defs
public import proofs.«01_k».proof.Proof.RotKer
public import proofs.«01_k».proof.Proof.Gen.RotRIdeal.Read
public import proofs.«01_k».proof.Proof.Gen.RotRIdeal.Run
public import proofs.«01_k».proof.Proof.Gen.RotK.Frame

@[expose] public section

set_option maxRecDepth 16384

noncomputable section

namespace Cert.Rot

open Idealize.ShloMosaic Idealize.ShloMosaic.TcCoe Idealize.SL.Sem Cert.RotKIdeal.Ker

section
open Cert.RotRIdeal Cert.RotRIdeal.Read

variable (q : FVec Ideal S8192x16x192 .f32) (d : FVec Ideal S8192x64 .f32) (x y : FVec Ideal S8192x32 .f32)

/-- The rotated halves, before the two are put side by side. -/
theorem q_lo (r : Fin 8192) (h : Fin 16) (k : Fin 32) : val_main_v9 (F := Ideal) q x y (ix3 r h k)
    = fst (q (ix3 r h ⟨128 + k.val, by omega⟩)) (q (ix3 r h ⟨160 + k.val, by omega⟩)) (x (ix2 r k)) (y (ix2 r k)) := by
  pointwise [val_main_v9, val_main_v8, val_main_v7, val_main_v6, val_main_v5, val_main_v4, val_main_v3, val_main_v2, val_main_v1, val_main_v0]
  exact congrArg (fun j => q (ix3 r h ⟨128 + k.val, by omega⟩) * x (ix2 r k) - q (ix3 r h j) * y (ix2 r k))
    (Fin.ext (by show 128 + (32 + k.val) = 160 + k.val; omega))

theorem q_hi (r : Fin 8192) (h : Fin 16) (k : Fin 32) : val_main_v14 (F := Ideal) q x y (ix3 r h k)
    = snd (q (ix3 r h ⟨128 + k.val, by omega⟩)) (q (ix3 r h ⟨160 + k.val, by omega⟩)) (x (ix2 r k)) (y (ix2 r k)) := by
  pointwise [val_main_v14, val_main_v13, val_main_v12, val_main_v11, val_main_v10, val_main_v4, val_main_v3, val_main_v2, val_main_v1, val_main_v0]
  exact congrArg (fun j => q (ix3 r h j) * x (ix2 r k) + q (ix3 r h ⟨128 + k.val, by omega⟩) * y (ix2 r k))
    (Fin.ext (by show 128 + (32 + k.val) = 160 + k.val; omega))

theorem k_lo (r : Fin 8192) (k : Fin 32) : val_main_v23 (F := Ideal) d x y (ix2 r k)
    = fst (d (ix2 r ⟨k.val, by omega⟩)) (d (ix2 r ⟨32 + k.val, by omega⟩)) (x (ix2 r k)) (y (ix2 r k)) := by
  pointwise [val_main_v23, val_main_v22, val_main_v21, val_main_v20, val_main_v19]
  rfl

theorem k_hi (r : Fin 8192) (k : Fin 32) : val_main_v26 (F := Ideal) d x y (ix2 r k)
    = snd (d (ix2 r ⟨k.val, by omega⟩)) (d (ix2 r ⟨32 + k.val, by omega⟩)) (x (ix2 r k)) (y (ix2 r k)) := by
  pointwise [val_main_v26, val_main_v25, val_main_v24, val_main_v20, val_main_v19]
  rfl

theorem ref_q (r : Fin 8192) (h : Fin 16) (k : Fin 32) :
    val_main_v18 (F := Ideal) q x y (ix3 r h ⟨k.val, by omega⟩) = scl * val_main_v9 (F := Ideal) q x y (ix3 r h k)
    ∧ val_main_v18 (F := Ideal) q x y (ix3 r h ⟨32 + k.val, by omega⟩) = scl * val_main_v14 (F := Ideal) q x y (ix3 r h k) := by
  constructor
  · pointwise [val_main_v18, val_main_v17, val_main_v16, val_main_cst, val_main_v15]
  · pointwise [val_main_v18, val_main_v17, val_main_v16, val_main_cst, val_main_v15]

theorem ref_k (r : Fin 8192) (k : Fin 32) :
    val_main_v28 (F := Ideal) d x y (ix2 r ⟨k.val, by omega⟩) = val_main_v23 (F := Ideal) d x y (ix2 r k)
    ∧ val_main_v28 (F := Ideal) d x y (ix2 r ⟨32 + k.val, by omega⟩) = val_main_v26 (F := Ideal) d x y (ix2 r k) := by
  constructor
  · pointwise [val_main_v28, val_main_v27]
  · pointwise [val_main_v28, val_main_v27]

/-- An index below 64 is in the first half or in the second. -/
theorem half (j : Fin 64) : (∃ k : Fin 32, j = ⟨k.val, by omega⟩) ∨ ∃ k : Fin 32, j = ⟨32 + k.val, by omega⟩ := by
  by_cases h : j.val < 32
  · exact .inl ⟨⟨j.val, h⟩, rfl⟩
  · exact .inr ⟨⟨j.val - 32, by omega⟩, Fin.ext (by dsimp only; omega)⟩

end

section
open Cert.RotKIdeal

variable (m : (ℓ : Loc nD τ sig) → Buf (Elt Ideal) ℓ) (c : Dev nD)

theorem eq_q : Cert.RotRIdeal.Read.val_main_v18 (F := Ideal) (qs m c) (cos m c) (sin m c) = outQ m c := by
  funext j
  idx_vars j
  obtain ⟨k, rfl⟩ | ⟨k, rfl⟩ := half j2
  · exact (ref_q _ _ _ j0 j1 k).1.trans ((congrArg (scl * ·) (q_lo _ _ _ j0 j1 k)).trans (outQ_lo m c j0 j1 k).symm)
  · exact (ref_q _ _ _ j0 j1 k).2.trans ((congrArg (scl * ·) (q_hi _ _ _ j0 j1 k)).trans (outQ_hi m c j0 j1 k).symm)

theorem eq_k : Cert.RotRIdeal.Read.val_main_v28 (F := Ideal) (ks m c) (cos m c) (sin m c) = outK m c := by
  funext j
  idx_vars j
  obtain ⟨k, rfl⟩ | ⟨k, rfl⟩ := half j1
  · exact (ref_k _ _ _ j0 k).1.trans ((k_lo _ _ _ j0 k).trans (outK_lo m c j0 k).symm)
  · exact (ref_k _ _ _ j0 k).2.trans ((k_hi _ _ _ j0 k).trans (outK_hi m c j0 k).symm)

end

theorem frame_k : Cert.quiescent_RotK := fun m ρ _ => Cert.RotK.Gen.frame m ρ
theorem frame_ki : Cert.quiescent_RotKIdeal := fun m ρ _ => Cert.RotKIdeal.Gen.frame m ρ

theorem frame_ri : Cert.quiescent_RotRIdeal := fun m ρ _ =>
  (θ_run Cert.RotRIdeal.defs _ _).mono (fun _ h => ⟨fun c => (h c).2.2, funext fun s => nomatch s⟩)
    (Cert.RotRIdeal.Value.run (F := Ideal) m ρ)

theorem value : Cert.algebraic_RotKIdeal_RotRIdeal := by
  intro m ρ m' ρ' _ hm
  refine ⟨fun c => outQ m c, fun c => outK m c, ?_, ?_⟩
  · refine (θ_run Cert.RotKIdeal.defs _ _).mono (fun r h c => ?_) (Cert.RotKIdeal.Gen.run_main m ρ)
    exact ⟨(h c).2 Cert.RotKIdeal.main_v22 (Pipeline.mem_restRefs_of Cert.RotKIdeal.main_v22 (by decide) (by decide)),
      (h c).2 Cert.RotKIdeal.main_v25 (Pipeline.mem_restRefs_of Cert.RotKIdeal.main_v25 (by decide) (by decide)),
      ((h c).2 Cert.RotKIdeal.main_arg0 (Pipeline.mem_restRefs_of Cert.RotKIdeal.main_arg0 (by decide) (by decide))).trans (Cert.RotKIdeal.Gen.W_main_arg0 m _ c),
      ((h c).2 Cert.RotKIdeal.main_arg1 (Pipeline.mem_restRefs_of Cert.RotKIdeal.main_arg1 (by decide) (by decide))).trans (Cert.RotKIdeal.Gen.W_main_arg1 m _ c),
      ((h c).2 Cert.RotKIdeal.main_arg2 (Pipeline.mem_restRefs_of Cert.RotKIdeal.main_arg2 (by decide) (by decide))).trans (Cert.RotKIdeal.Gen.W_main_arg2 m _ c),
      ((h c).2 Cert.RotKIdeal.main_arg3 (Pipeline.mem_restRefs_of Cert.RotKIdeal.main_arg3 (by decide) (by decide))).trans (Cert.RotKIdeal.Gen.W_main_arg3 m _ c)⟩
  · refine (θ_run Cert.RotRIdeal.defs _ _).mono (fun r hr c => ?_) (Cert.RotRIdeal.Value.run (F := Ideal) m' ρ')
    obtain ⟨e0, e1, e2, e3⟩ := hm c
    refine ⟨(hr c).1.trans ((Cert.RotRIdeal.Read.val_main_v18_eq _ _ _).trans (Eq.trans ?_ (eq_q m c))),
      (hr c).2.1.trans ((Cert.RotRIdeal.Read.val_main_v28_eq _ _ _).trans (Eq.trans ?_ (eq_k m c))), (hr c).2.2⟩
    · rw [e0, e2, e3]
    · rw [e1, e2, e3]

end Cert.Rot

end
-- ==== Proof.AdamKer.lean ====
/- The optimiser's kernel on any arguments: it adds up the eight devices' parts of one weight's gradient and takes one step of
   AdamW. One grid point's four results, and the four whole arrays after the 64 points. -/
module

public import proofs.«01_k».proof.Proof.Gen.AdamKIdeal.Value
public import Idealize.ShloMosaic.Lib.Pointwise

@[expose] public section

set_option maxRecDepth 16384

noncomputable section

namespace Cert.AdamKIdeal.Ker

open Idealize.ShloMosaic Idealize.ShloMosaic.TcCoe Idealize.ShloMosaic.Tactic Cert.AdamKIdeal Cert.AdamKIdeal.Gen
open Idealize.SL.Sem

theorem hz : (![0, 0] : Fin 2 → Nat) = fun _ => 0 := funext fun a => by fin_cases a <;> rfl

/-! ## The step, entry by entry -/

/-- The new first moment. -/
def newM (g p : EReal) : EReal := Ideal.ofBits .f32 0x3F666666#32 * p + Ideal.ofBits .f32 0x3DCCCCCD#32 * g
/-- The new second moment. -/
def newV (g q : EReal) : EReal := Ideal.ofBits .f32 0x3F7FBE77#32 * q + Ideal.ofBits .f32 0x3A83126F#32 * (g * g)
/-- The weight's change. -/
def step (g w p q : EReal) : EReal :=
  Ideal.ofBits .f32 0xBA83126F#32 * (Ideal.div (Ideal.div (newM g p) (Ideal.ofBits .f32 0x3F26BD02#32))
      (Ideal.sqrt (Ideal.div (newV g q) (Ideal.ofBits .f32 0x3C231ACC#32)) + Ideal.ofBits .f32 0x322BCC77#32)
    + Ideal.ofBits .f32 0x3C23D70A#32 * w)

theorem pay_m (g p : FVec Ideal S128x1408 .f32) (r : Fin 128) (k : Fin 1408) :
    k0_pay1 (F := Ideal) g p (ix2 r k) = newM (g (ix2 r k)) (p (ix2 r k)) := by
  pointwise [k0_pay1]
  rfl

theorem pay_v (g q : FVec Ideal S128x1408 .f32) (r : Fin 128) (k : Fin 1408) :
    k0_pay2 (F := Ideal) g q (ix2 r k) = newV (g (ix2 r k)) (q (ix2 r k)) := by
  pointwise [k0_pay2]
  rfl

theorem pay_d (g w p q : FVec Ideal S128x1408 .f32) (r : Fin 128) (k : Fin 1408) :
    k0_pay3 (F := Ideal) g w p q (ix2 r k) = step (g (ix2 r k)) (w (ix2 r k)) (p (ix2 r k)) (q (ix2 r k)) := by
  pointwise [k0_pay3, k0_pay1, k0_pay2]
  rfl

/-- One of the eight parts. -/
theorem ld_part (s : Fin 8) (X : FVec Ideal S8x128x1408 .bf16)
    (inb : ∀ a : Fin 3, (![s.val, 0, 0] : Fin 3 → Nat) a + S1x128x1408.size a ≤ S8x128x1408.size a) (r : Fin 128) (k : Fin 1408) :
    View.ld (Val := Elt Ideal) (e' := .bf16) X (Rect.unit (s := S8x128x1408) ![s.val, 0, 0] S1x128x1408.size inb) (ix3 0 r k) = X (ix3 s r k) := by
  unfold View.ld
  refine congrArg X (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

theorem pay_g (X : FVec Ideal S8x128x1408 .bf16) (w p q : FVec Ideal S128x1408 .f32) (r : Fin 128) (k : Fin 1408) :
    k0_pay5 (F := Ideal) X w p q (ix2 r k) = ∑ s : Fin 8, X (ix3 s r k) := by
  unfold k0_pay5
  pointwise [k0_pay4]
  rw [Fin.sum_univ_eight, ← ld_part 0 X inb_S8x128x1408_S1x128x1408_0_0_0, ← ld_part 1 X inb_S8x128x1408_S1x128x1408_1_0_0,
    ← ld_part 2 X inb_S8x128x1408_S1x128x1408_2_0_0, ← ld_part 3 X inb_S8x128x1408_S1x128x1408_3_0_0,
    ← ld_part 4 X inb_S8x128x1408_S1x128x1408_4_0_0, ← ld_part 5 X inb_S8x128x1408_S1x128x1408_5_0_0,
    ← ld_part 6 X inb_S8x128x1408_S1x128x1408_6_0_0, ← ld_part 7 X inb_S8x128x1408_S1x128x1408_7_0_0]

/-! ## The arrays -/

variable (m : (ℓ : Loc nD τ sig) → Buf (Elt Ideal) ℓ) (c : Dev nD)

/-- The summed gradient, the change, and the two moments, as whole arrays. -/
def gArr (P : S8x8192x1408.Idx → EReal) : S8192x1408.Idx → EReal := fun i => ∑ s : Fin 8, P (ix3 s (i 0) (i 1))
def dArr (P : S8x8192x1408.Idx → EReal) (w p q : S8192x1408.Idx → EReal) : S8192x1408.Idx → EReal :=
  fun i => step (gArr P i) (w i) (p i) (q i)
def mArr (P : S8x8192x1408.Idx → EReal) (p : S8192x1408.Idx → EReal) : S8192x1408.Idx → EReal := fun i => newM (gArr P i) (p i)
def vArr (P : S8x8192x1408.Idx → EReal) (q : S8192x1408.Idx → EReal) : S8192x1408.Idx → EReal := fun i => newV (gArr P i) (q i)

/-- The arguments: the parts, the weight and its moments. -/
abbrev ps : S8x8192x1408.Idx → EReal := m ((c : Thread nD τ).loc main_arg0)
abbrev w : S8192x1408.Idx → EReal := m ((c : Thread nD τ).loc main_arg1)
abbrev m1 : S8192x1408.Idx → EReal := m ((c : Thread nD τ).loc main_arg2)
abbrev m2 : S8192x1408.Idx → EReal := m ((c : Thread nD τ).loc main_arg3)

theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- Row `r` of block `t`. -/
abbrev row (t : Fin cfg0.N) (r : Fin 128) : Fin 8192 :=
  ⟨128 * t.val + r.val, by have : t.val < 64 := t.isLt.trans_eq N_0; omega⟩

theorem iblk_p (t : Fin cfg0.N) (s : Fin 8) (r : Fin 128) (k : Fin 1408) :
    (iblk m c 0 t : Vec Ideal S8x128x1408 .bf16) (ix3 s r k) = ps m c (ix3 s (row t r) k) := by
  obtain ⟨hi, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 8 + 1 * s.val = s.val; rw [hi.1]; omega
  | ⟨1, _⟩ => show win0_0.index t 1 * 128 + 1 * r.val = 128 * t.val + r.val; rw [hi.2.1]; omega
  | ⟨2, _⟩ => show win0_0.index t 2 * 1408 + 1 * k.val = k.val; rw [hi.2.2]; omega

theorem iblk_w (t : Fin cfg0.N) (r : Fin 128) (k : Fin 1408) :
    (iblk m c 1 t : Vec Ideal S128x1408 .f32) (ix2 r k) = w m c (ix2 (row t r) k) := by
  obtain ⟨-, hi, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t 0 * 128 + 1 * r.val = 128 * t.val + r.val; rw [hi.1]; omega
  | ⟨1, _⟩ => show win0_1.index t 1 * 1408 + 1 * k.val = k.val; rw [hi.2]; omega

theorem iblk_m1 (t : Fin cfg0.N) (r : Fin 128) (k : Fin 1408) :
    (iblk m c 2 t : Vec Ideal S128x1408 .f32) (ix2 r k) = m1 m c (ix2 (row t r) k) := by
  obtain ⟨-, -, hi, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t 0 * 128 + 1 * r.val = 128 * t.val + r.val; rw [hi.1]; omega
  | ⟨1, _⟩ => show win0_2.index t 1 * 1408 + 1 * k.val = k.val; rw [hi.2]; omega

theorem iblk_m2 (t : Fin cfg0.N) (r : Fin 128) (k : Fin 1408) :
    (iblk m c 3 t : Vec Ideal S128x1408 .f32) (ix2 r k) = m2 m c (ix2 (row t r) k) := by
  obtain ⟨-, -, -, hi, -⟩ := idx_facts t
  unfold iblk
  rw [View.read_apply]
  show m ((c : Thread nD τ).loc main_arg3) _ = m ((c : Thread nD τ).loc main_arg3) _
  congr 1
  funext a
  apply Fin.ext
  match a with
  | ⟨0, _⟩ => show win0_3.index t 0 * 128 + 1 * r.val = 128 * t.val + r.val; rw [hi.1]; omega
  | ⟨1, _⟩ => show win0_3.index t 1 * 1408 + 1 * k.val = k.val; rw [hi.2]; omega

/-- The gradient of a block. -/
theorem blk_g (t : Fin cfg0.N) (r : Fin 128) (k : Fin 1408) :
    k0_pay5 (F := Ideal) (iblk m c 0 t) (iblk m c 1 t) (iblk m c 2 t) (iblk m c 3 t) (ix2 r k) = gArr (ps m c) (ix2 (row t r) k) := by
  rw [pay_g]
  exact Finset.sum_congr rfl fun s _ => iblk_p m c t s r k

theorem block_g (t : Fin cfg0.N) (r : Fin 128) (k : Fin 1408) :
    out0_4 (F := Ideal) (iblk m c 0 t) (iblk m c 1 t) (iblk m c 2 t) (iblk m c 3 t) (ix2 r k) = (gArr (ps m c)) (ix2 (row t r) k) := by
  unfold out0_4
  rw [View.canon_unit_zero hz]
  show k0_pay5 (F := Ideal) _ _ _ _ (ix2 r k) = _
  exact blk_g m c t r k

theorem mem4 (t : Fin cfg0.N) (i : S8192x1408.Idx) :
    i ∈ ((cfg0.win 4).blk t).view.set ↔ ∀ a : Fin 2, win0_4.index t a * S128x1408.size a ≤ i a ∧ (i a : ℕ) < win0_4.index t a * S128x1408.size a + S128x1408.size a := by
  show i ∈ ((View.whole main_v0_0).slice (win0_4.rect t)).set ↔ _
  rw [View.set_slice_whole, Rect.mem_set_unit]; exact Iff.rfl

theorem final_g : (Gen.dats m 0 c).arrAt 4 cfg0.N = gArr (ps m c) := by
  refine (Gen.dats m 0 c).arrAt_eq_of_cover 4 (gArr (ps m c)) (fun t _ => ?_) fun (i : S8192x1408.Idx) => ?_
  · rw [Value.flushed4]
    funext j
    rw [View.read_apply]
    idx_vars j
    obtain ⟨-, -, -, -, hi, -⟩ := idx_facts t
    have e : ((cfg0.win 4).blk t).view.emb (ix2 j0 j1) = (ix2 (row t j0) j1 : S8192x1408.Idx) := by
      funext a
      apply Fin.ext
      match a with
      | ⟨0, _⟩ => show win0_4.index t 0 * 128 + 1 * j0.val = 128 * t.val + j0.val; rw [hi.1]; omega
      | ⟨1, _⟩ => show win0_4.index t 1 * 1408 + 1 * j1.val = j1.val; rw [hi.2]; omega
    exact (block_g m c t j0 j1).trans (congrArg (gArr (ps m c)) e).symm
  · have h0 : (i 0 : Nat) < 8192 := (i 0).isLt
    have h1 : (i 1 : Nat) < 1408 := (i 1).isLt
    have hN : cfg0.N = 64 := N_0
    refine ⟨⟨(i 0).val / 128, by omega⟩, flush0_4 _, ?_⟩
    obtain ⟨-, -, -, -, hi, -⟩ := idx_facts ⟨(i 0).val / 128, by omega⟩
    rw [mem4]
    intro a
    match a with
    | ⟨0, _⟩ =>
      show win0_4.index _ 0 * 128 ≤ (i 0).val ∧ (i 0).val < win0_4.index _ 0 * 128 + 128
      rw [hi.1]; dsimp only; omega
    | ⟨1, _⟩ =>
      show win0_4.index _ 1 * 1408 ≤ (i 1).val ∧ (i 1).val < win0_4.index _ 1 * 1408 + 1408
      rw [hi.2]; omega

theorem block_d (t : Fin cfg0.N) (r : Fin 128) (k : Fin 1408) :
    out0_5 (F := Ideal) (iblk m c 0 t) (iblk m c 1 t) (iblk m c 2 t) (iblk m c 3 t) (ix2 r k) = (dArr (ps m c) (w m c) (m1 m c) (m2 m c)) (ix2 (row t r) k) := by
  unfold out0_5
  rw [View.canon_unit_zero hz]
  simp only [View.ld_unit_zero (S := S128x1408) hz]
  rw [pay_d, blk_g, iblk_w, iblk_m1, iblk_m2]
  rfl

theorem mem5 (t : Fin cfg0.N) (i : S8192x1408.Idx) :
    i ∈ ((cfg0.win 5).blk t).view.set ↔ ∀ a : Fin 2, win0_5.index t a * S128x1408.size a ≤ i a ∧ (i a : ℕ) < win0_5.index t a * S128x1408.size a + S128x1408.size a := by
  show i ∈ ((View.whole main_v0_1).slice (win0_5.rect t)).set ↔ _
  rw [View.set_slice_whole, Rect.mem_set_unit]; exact Iff.rfl

theorem final_d : (Gen.dats m 0 c).arrAt 5 cfg0.N = dArr (ps m c) (w m c) (m1 m c) (m2 m c) := by
  refine (Gen.dats m 0 c).arrAt_eq_of_cover 5 (dArr (ps m c) (w m c) (m1 m c) (m2 m c)) (fun t _ => ?_) fun (i : S8192x1408.Idx) => ?_
  · rw [Value.flushed5]
    funext j
    rw [View.read_apply]
    idx_vars j
    obtain ⟨-, -, -, -, -, hi, -⟩ := idx_facts t
    have e : ((cfg0.win 5).blk t).view.emb (ix2 j0 j1) = (ix2 (row t j0) j1 : S8192x1408.Idx) := by
      funext a
      apply Fin.ext
      match a with
      | ⟨0, _⟩ => show win0_5.index t 0 * 128 + 1 * j0.val = 128 * t.val + j0.val; rw [hi.1]; omega
      | ⟨1, _⟩ => show win0_5.index t 1 * 1408 + 1 * j1.val = j1.val; rw [hi.2]; omega
    exact (block_d m c t j0 j1).trans (congrArg (dArr (ps m c) (w m c) (m1 m c) (m2 m c)) e).symm
  · have h0 : (i 0 : Nat) < 8192 := (i 0).isLt
    have h1 : (i 1 : Nat) < 1408 := (i 1).isLt
    have hN : cfg0.N = 64 := N_0
    refine ⟨⟨(i 0).val / 128, by omega⟩, flush0_5 _, ?_⟩
    obtain ⟨-, -, -, -, -, hi, -⟩ := idx_facts ⟨(i 0).val / 128, by omega⟩
    rw [mem5]
    intro a
    match a with
    | ⟨0, _⟩ =>
      show win0_5.index _ 0 * 128 ≤ (i 0).val ∧ (i 0).val < win0_5.index _ 0 * 128 + 128
      rw [hi.1]; dsimp only; omega
    | ⟨1, _⟩ =>
      show win0_5.index _ 1 * 1408 ≤ (i 1).val ∧ (i 1).val < win0_5.index _ 1 * 1408 + 1408
      rw [hi.2]; omega

theorem block_m (t : Fin cfg0.N) (r : Fin 128) (k : Fin 1408) :
    out0_6 (F := Ideal) (iblk m c 0 t) (iblk m c 1 t) (iblk m c 2 t) (iblk m c 3 t) (ix2 r k) = (mArr (ps m c) (m1 m c)) (ix2 (row t r) k) := by
  unfold out0_6
  rw [View.canon_unit_zero hz]
  simp only [View.ld_unit_zero (S := S128x1408) hz]
  rw [pay_m, blk_g, iblk_m1]
  rfl

theorem mem6 (t : Fin cfg0.N) (i : S8192x1408.Idx) :
    i ∈ ((cfg0.win 6).blk t).view.set ↔ ∀ a : Fin 2, win0_6.index t a * S128x1408.size a ≤ i a ∧ (i a : ℕ) < win0_6.index t a * S128x1408.size a + S128x1408.size a := by
  show i ∈ ((View.whole main_v0_2).slice (win0_6.rect t)).set ↔ _
  rw [View.set_slice_whole, Rect.mem_set_unit]; exact Iff.rfl

theorem final_m : (Gen.dats m 0 c).arrAt 6 cfg0.N = mArr (ps m c) (m1 m c) := by
  refine (Gen.dats m 0 c).arrAt_eq_of_cover 6 (mArr (ps m c) (m1 m c)) (fun t _ => ?_) fun (i : S8192x1408.Idx) => ?_
  · rw [Value.flushed6]
    funext j
    rw [View.read_apply]
    idx_vars j
    obtain ⟨-, -, -, -, -, -, hi, -⟩ := idx_facts t
    have e : ((cfg0.win 6).blk t).view.emb (ix2 j0 j1) = (ix2 (row t j0) j1 : S8192x1408.Idx) := by
      funext a
      apply Fin.ext
      match a with
      | ⟨0, _⟩ => show win0_6.index t 0 * 128 + 1 * j0.val = 128 * t.val + j0.val; rw [hi.1]; omega
      | ⟨1, _⟩ => show win0_6.index t 1 * 1408 + 1 * j1.val = j1.val; rw [hi.2]; omega
    exact (block_m m c t j0 j1).trans (congrArg (mArr (ps m c) (m1 m c)) e).symm
  · have h0 : (i 0 : Nat) < 8192 := (i 0).isLt
    have h1 : (i 1 : Nat) < 1408 := (i 1).isLt
    have hN : cfg0.N = 64 := N_0
    refine ⟨⟨(i 0).val / 128, by omega⟩, flush0_6 _, ?_⟩
    obtain ⟨-, -, -, -, -, -, hi, -⟩ := idx_facts ⟨(i 0).val / 128, by omega⟩
    rw [mem6]
    intro a
    match a with
    | ⟨0, _⟩ =>
      show win0_6.index _ 0 * 128 ≤ (i 0).val ∧ (i 0).val < win0_6.index _ 0 * 128 + 128
      rw [hi.1]; dsimp only; omega
    | ⟨1, _⟩ =>
      show win0_6.index _ 1 * 1408 ≤ (i 1).val ∧ (i 1).val < win0_6.index _ 1 * 1408 + 1408
      rw [hi.2]; omega

theorem block_v (t : Fin cfg0.N) (r : Fin 128) (k : Fin 1408) :
    out0_7 (F := Ideal) (iblk m c 0 t) (iblk m c 1 t) (iblk m c 2 t) (iblk m c 3 t) (ix2 r k) = (vArr (ps m c) (m2 m c)) (ix2 (row t r) k) := by
  unfold out0_7
  rw [View.canon_unit_zero hz]
  simp only [View.ld_unit_zero (S := S128x1408) hz]
  rw [pay_v, blk_g, iblk_m2]
  rfl

theorem mem7 (t : Fin cfg0.N) (i : S8192x1408.Idx) :
    i ∈ ((cfg0.win 7).blk t).view.set ↔ ∀ a : Fin 2, win0_7.index t a * S128x1408.size a ≤ i a ∧ (i a : ℕ) < win0_7.index t a * S128x1408.size a + S128x1408.size a := by
  show i ∈ ((View.whole main_v0_3).slice (win0_7.rect t)).set ↔ _
  rw [View.set_slice_whole, Rect.mem_set_unit]; exact Iff.rfl

theorem final_v : (Gen.dats m 0 c).arrAt 7 cfg0.N = vArr (ps m c) (m2 m c) := by
  refine (Gen.dats m 0 c).arrAt_eq_of_cover 7 (vArr (ps m c) (m2 m c)) (fun t _ => ?_) fun (i : S8192x1408.Idx) => ?_
  · rw [Value.flushed7]
    funext j
    rw [View.read_apply]
    idx_vars j
    obtain ⟨-, -, -, -, -, -, -, hi⟩ := idx_facts t
    have e : ((cfg0.win 7).blk t).view.emb (ix2 j0 j1) = (ix2 (row t j0) j1 : S8192x1408.Idx) := by
      funext a
      apply Fin.ext
      match a with
      | ⟨0, _⟩ => show win0_7.index t 0 * 128 + 1 * j0.val = 128 * t.val + j0.val; rw [hi.1]; omega
      | ⟨1, _⟩ => show win0_7.index t 1 * 1408 + 1 * j1.val = j1.val; rw [hi.2]; omega
    exact (block_v m c t j0 j1).trans (congrArg (vArr (ps m c) (m2 m c)) e).symm
  · have h0 : (i 0 : Nat) < 8192 := (i 0).isLt
    have h1 : (i 1 : Nat) < 1408 := (i 1).isLt
    have hN : cfg0.N = 64 := N_0
    refine ⟨⟨(i 0).val / 128, by omega⟩, flush0_7 _, ?_⟩
    obtain ⟨-, -, -, -, -, -, -, hi⟩ := idx_facts ⟨(i 0).val / 128, by omega⟩
    rw [mem7]
    intro a
    match a with
    | ⟨0, _⟩ =>
      show win0_7.index _ 0 * 128 ≤ (i 0).val ∧ (i 0).val < win0_7.index _ 0 * 128 + 128
      rw [hi.1]; dsimp only; omega
    | ⟨1, _⟩ =>
      show win0_7.index _ 1 * 1408 ≤ (i 1).val ∧ (i 1).val < win0_7.index _ 1 * 1408 + 1408
      rw [hi.2]; omega

end Cert.AdamKIdeal.Ker

end
-- ==== Proof.AdamMain.lean ====
/- The claims about the optimiser's kernel: its frames, and that its four results are the reference's on any arguments. -/
module

public import proofs.«01_k».proof.Defs
public import proofs.«01_k».proof.Proof.AdamKer
public import proofs.«01_k».proof.Proof.Gen.AdamRIdeal.Read
public import proofs.«01_k».proof.Proof.Gen.AdamRIdeal.Run
public import proofs.«01_k».proof.Proof.Gen.AdamK.Frame

@[expose] public section

set_option maxRecDepth 16384

noncomputable section

namespace Cert.Adam

open Idealize.ShloMosaic Idealize.ShloMosaic.TcCoe Idealize.SL.Sem Cert.AdamKIdeal.Ker Cert.AdamRIdeal Cert.AdamRIdeal.Read

section
variable (P : FVec Ideal S8x8192x1408 .bf16) (w p q : FVec Ideal S8192x1408 .f32)

theorem ref_g : val_main_v1 (F := Ideal) P = gArr P := by
  funext j
  rw [val_main_v1_apply]
  refine (congrArg (· + _) (Ideal.ofBits_zero_f32 : Ideal.ofBits .f32 0x00000000#32 = 0)).trans ((zero_add _).trans ?_)
  refine Finset.sum_congr rfl fun k _ => ?_
  rw [val_main_v0_apply]
  refine congrArg P (funext fun a => ?_)
  match a with
  | ⟨0, _⟩ => rfl
  | ⟨1, _⟩ => rfl
  | ⟨2, _⟩ => rfl

theorem ref_m : val_main_v6 (F := Ideal) P p = mArr P p := by
  funext j
  idx_vars j
  pointwise [val_main_v6, val_main_v5, val_main_v4, val_main_v3, val_main_v2, val_main_cst_0, val_main_cst_1]
  rw [ref_g]
  rfl

theorem ref_v : val_main_v12 (F := Ideal) P q = vArr P q := by
  funext j
  idx_vars j
  pointwise [val_main_v12, val_main_v11, val_main_v10, val_main_v9, val_main_v8, val_main_v7, val_main_cst_2, val_main_cst_3]
  rw [ref_g]
  rfl

theorem ref_d : val_main_v25 (F := Ideal) P w p q = dArr P w p q := by
  funext j
  idx_vars j
  pointwise [val_main_v25, val_main_v24, val_main_v23, val_main_v22, val_main_v21, val_main_v20, val_main_v19,
    val_main_v18, val_main_v17, val_main_v16, val_main_v15, val_main_v14, val_main_v13, val_main_cst_4, val_main_cst_5, val_main_cst_6, val_main_cst_7,
    val_main_cst_8]
  rw [ref_m, ref_v]
  rfl

end

theorem frame_k : Cert.quiescent_AdamK := fun m ρ _ => Cert.AdamK.Gen.frame m ρ
theorem frame_ki : Cert.quiescent_AdamKIdeal := fun m ρ _ => Cert.AdamKIdeal.Gen.frame m ρ

theorem frame_ri : Cert.quiescent_AdamRIdeal := fun m ρ _ =>
  (θ_run Cert.AdamRIdeal.defs _ _).mono (fun _ h => ⟨fun c => (h c).2.2.2.2, funext fun s => nomatch s⟩)
    (Cert.AdamRIdeal.Value.run (F := Ideal) m ρ)

theorem value : Cert.algebraic_AdamKIdeal_AdamRIdeal := by
  intro m ρ m' ρ' _ hm
  refine ⟨fun c => gArr (ps m c), fun c => dArr (ps m c) (Cert.AdamKIdeal.Ker.w m c) (m1 m c) (m2 m c), fun c => mArr (ps m c) (m1 m c),
    fun c => vArr (ps m c) (m2 m c), ?_, ?_⟩
  · refine (θ_run Cert.AdamKIdeal.defs _ _).mono (fun r hr c => ?_) (Cert.AdamKIdeal.Value.run_blocks m ρ)
    exact ⟨(hr c).1.trans (final_g m c), (hr c).2.1.trans (final_d m c), (hr c).2.2.1.trans (final_m m c),
      (hr c).2.2.2.1.trans (final_v m c), (hr c).2.2.2.2⟩
  · refine (θ_run Cert.AdamRIdeal.defs _ _).mono (fun r hr c => ?_) (Cert.AdamRIdeal.Value.run (F := Ideal) m' ρ')
    obtain ⟨e0, e1, e2, e3⟩ := hm c
    refine ⟨(hr c).1.trans ((val_main_v1_eq _).trans ((ref_g _).trans ?_)),
      (hr c).2.1.trans ((val_main_v25_eq _ _ _ _).trans ((ref_d _ _ _ _).trans ?_)),
      (hr c).2.2.1.trans ((val_main_v6_eq _ _).trans ((ref_m _ _).trans ?_)),
      (hr c).2.2.2.1.trans ((val_main_v12_eq _ _).trans ((ref_v _ _).trans ?_)), (hr c).2.2.2.2⟩
    · rw [e0]
    · rw [e0, e1, e2, e3]
    · rw [e0, e2]
    · rw [e0, e3]

end Cert.Adam

end
-- ==== Proof.UpMain.lean ====
/- The claims about the product of the feed-forward layer's first weight, kept in eight blocks of columns: its frames, and that
   its result, in two halves, is the plain product's on any arguments. -/
module

public import proofs.«01_k».proof.Defs
public import proofs.«01_k».proof.Proof.Gen.UpKIdeal.Value
public import proofs.«01_k».proof.Proof.Gen.UpRIdeal.Read
public import proofs.«01_k».proof.Proof.Gen.UpRIdeal.Run
public import proofs.«01_k».proof.Proof.Gen.UpK.Frame
public import Idealize.ShloMosaic.Lib.StableHlo.ReadAt
public import Idealize.ShloMosaic.Lib.Pointwise

@[expose] public section

set_option maxRecDepth 16384

noncomputable section

namespace Cert.UpKIdeal.Ker

open Idealize.ShloMosaic Idealize.ShloMosaic.TcCoe Idealize.ShloMosaic.Tactic Cert.UpKIdeal Cert.UpKIdeal.Gen
open Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (m : (ℓ : Loc nD τ sig) → Buf (Elt Ideal) ℓ) (c : Dev nD)

theorem idx_facts : ∀ t : Fin cfg0.N, (win0_0.index t 0 = t.val / 8 ∧ win0_0.index t 1 = 0)
    ∧ (win0_1.index t 0 = 0 ∧ win0_1.index t 1 = t.val % 8 ∧ win0_1.index t 2 = 0 ∧ win0_1.index t 3 = 0)
    ∧ (win0_2.index t 0 = t.val % 8 / 4 ∧ win0_2.index t 1 = t.val / 8 ∧ win0_2.index t 2 = t.val % 4) :=
  (by decide +kernel : ∀ t : Fin grid0.N, _)

/-- The product: column `k` of half `p` is column `k % 1408` of block `4 p + k / 1408`. -/
def prod (h : S8192x2048.Idx → EReal) (w : S8x2048x1408.Idx → EReal) : S2x8192x5632.Idx → EReal := fun i =>
  ∑ k : Fin 2048, h (ix2 (i 1) k) * w (ix3 ⟨4 * (i 0).val + (i 2).val / 1408, by
    have h0 : (i 0).val < 2 := (i 0).isLt
    have h2 : (i 2).val < 5632 := (i 2).isLt
    omega⟩ k ⟨(i 2).val % 1408, Nat.mod_lt _ (by decide)⟩)

abbrev h (m : (ℓ : Loc nD τ sig) → Buf (Elt Ideal) ℓ) (c : Dev nD) : S8192x2048.Idx → EReal := m ((c : Thread nD τ).loc main_arg0)
abbrev w (m : (ℓ : Loc nD τ sig) → Buf (Elt Ideal) ℓ) (c : Dev nD) : S8x2048x1408.Idx → EReal := m ((c : Thread nD τ).loc main_arg1)

theorem pay (x : FVec Ideal S1024x2048 .bf16) (y : FVec Ideal S1x1x2048x1408 .bf16) (r : Fin 1024) (k : Fin 1408) :
    out0_2 (F := Ideal) x y (ix3 0 r k) = ∑ q : Fin 2048, x (ix2 r q) * y (ix4 0 0 q k) := by
  unfold out0_2
  rw [View.canon_unit_zero hz3]
  simp only [View.ld_unit_zero (S := S1024x2048) hz2, View.ld_unit_zero (S := S1x1x2048x1408) hz4]
  pointwise [k0_pay1]

theorem w_at (p q : Fin 8) (r : Fin 2048) (k : Fin 1408) : V m c main_v0 (ix4 0 p r k) = w m c (ix3 p r k) := by
  dsimp only [V, hostOps0]
  after_reads_at

theorem iblk_h (t : Fin cfg0.N) (r : Fin 1024) (k : Fin 2048) : (iblk m c 0 t : Vec Ideal S1024x2048 .bf16) (ix2 r k)
    = h m c (ix2 ⟨1024 * (t.val / 8) + r.val, by have : t.val < 64 := t.isLt.trans_eq N_0; omega⟩ k) := by
  obtain ⟨hi, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = 1024 * (t.val / 8) + r.val; rw [hi.1]; omega
  | ⟨1, _⟩ => show win0_0.index t 1 * 2048 + 1 * k.val = k.val; rw [hi.2]; omega

theorem iblk_w (t : Fin cfg0.N) (r : Fin 2048) (k : Fin 1408) : (iblk m c 1 t : Vec Ideal S1x1x2048x1408 .bf16) (ix4 0 0 r k)
    = w m c (ix3 ⟨t.val % 8, by omega⟩ r k) := by
  obtain ⟨-, hi, -⟩ := idx_facts t
  unfold iblk
  rw [View.read_apply]
  refine Eq.trans ?_ (w_at m c ⟨t.val % 8, by omega⟩ 0 r k)
  show V m c main_v0 _ = V m c main_v0 _
  congr 1
  funext a
  apply Fin.ext
  match a with
  | ⟨0, _⟩ => show win0_1.index t 0 * 1 + 1 * 0 = 0; rw [hi.1]
  | ⟨1, _⟩ => show win0_1.index t 1 * 1 + 1 * 0 = t.val % 8; rw [hi.2.1]; omega
  | ⟨2, _⟩ => show win0_1.index t 2 * 2048 + 1 * r.val = r.val; rw [hi.2.2.1]; omega
  | ⟨3, _⟩ => show win0_1.index t 3 * 1408 + 1 * k.val = k.val; rw [hi.2.2.2]; omega

theorem mem2 (t : Fin cfg0.N) (i : S2x8192x5632.Idx) :
    i ∈ ((cfg0.win 2).blk t).view.set ↔ ∀ a : Fin 3, win0_2.index t a * S1x1024x1408.size a ≤ i a ∧ (i a : ℕ) < win0_2.index t a * S1x1024x1408.size a + S1x1024x1408.size a := by
  show i ∈ ((View.whole main_v1).slice (win0_2.rect t)).set ↔ _
  rw [View.set_slice_whole, Rect.mem_set_unit]; exact Iff.rfl

theorem final : (Gen.dats m 0 c).arrAt 2 cfg0.N = prod (h m c) (w m c) := by
  refine (Gen.dats m 0 c).arrAt_eq_of_cover 2 (prod (h m c) (w m c)) (fun t _ => ?_) fun (i : S2x8192x5632.Idx) => ?_
  · rw [Value.flushed2]
    funext j
    rw [View.read_apply]
    idx_vars j
    obtain ⟨-, -, hi⟩ := idx_facts t
    have hj : j0 = 0 := Fin.ext (by have : j0.val < 1 := j0.isLt; show j0.val = 0; omega)
    subst hj
    have ht : t.val < 64 := t.isLt.trans_eq N_0
    have e : ((cfg0.win 2).blk t).view.emb (ix3 0 j1 j2) = (ix3 ⟨t.val % 8 / 4, by omega⟩ ⟨1024 * (t.val / 8) + j1.val, by omega⟩
        ⟨1408 * (t.val % 4) + j2.val, by omega⟩ : S2x8192x5632.Idx) := by
      funext a
      apply Fin.ext
      match a with
      | ⟨0, _⟩ => show win0_2.index t 0 * 1 + 1 * 0 = t.val % 8 / 4; rw [hi.1]; omega
      | ⟨1, _⟩ => show win0_2.index t 1 * 1024 + 1 * j1.val = 1024 * (t.val / 8) + j1.val; rw [hi.2.1]; omega
      | ⟨2, _⟩ => show win0_2.index t 2 * 1408 + 1 * j2.val = 1408 * (t.val % 4) + j2.val; rw [hi.2.2]; omega
    refine (pay (iblk m c 0 t) (iblk m c 1 t) j1 j2).trans (Eq.trans ?_ (congrArg (prod (h m c) (w m c)) e).symm)
    refine Finset.sum_congr rfl fun q _ => ?_
    rw [iblk_h, iblk_w]
    refine congrArg₂ (fun a b => h m c _ * w m c (ix3 a q b)) (Fin.ext ?_) (Fin.ext ?_)
    · show t.val % 8 = 4 * (t.val % 8 / 4) + (1408 * (t.val % 4) + j2.val) / 1408
      omega
    · show j2.val = (1408 * (t.val % 4) + j2.val) % 1408
      omega
  · have h0 : (i 0 : Nat) < 2 := (i 0).isLt
    have h1 : (i 1 : Nat) < 8192 := (i 1).isLt
    have h2 : (i 2 : Nat) < 5632 := (i 2).isLt
    have hN : cfg0.N = 64 := N_0
    refine ⟨⟨8 * ((i 1).val / 1024) + 4 * (i 0).val + (i 2).val / 1408, by omega⟩, flush0_2 _, ?_⟩
    obtain ⟨-, -, hi⟩ := idx_facts ⟨8 * ((i 1).val / 1024) + 4 * (i 0).val + (i 2).val / 1408, by omega⟩
    rw [mem2]
    intro a
    match a with
    | ⟨0, _⟩ =>
      show win0_2.index _ 0 * 1 ≤ (i 0).val ∧ (i 0).val < win0_2.index _ 0 * 1 + 1
      rw [hi.1]; dsimp only; omega
    | ⟨1, _⟩ =>
      show win0_2.index _ 1 * 1024 ≤ (i 1).val ∧ (i 1).val < win0_2.index _ 1 * 1024 + 1024
      rw [hi.2.1]; dsimp only; omega
    | ⟨2, _⟩ =>
      show win0_2.index _ 2 * 1408 ≤ (i 2).val ∧ (i 2).val < win0_2.index _ 2 * 1408 + 1408
      rw [hi.2.2]; dsimp only; omega

end Cert.UpKIdeal.Ker

namespace Cert.Up

open Idealize.ShloMosaic Idealize.ShloMosaic.TcCoe Idealize.SL.Sem Cert.UpKIdeal.Ker Cert.UpRIdeal Cert.UpRIdeal.Read

theorem ref (x : FVec Ideal S8192x2048 .bf16) (y : FVec Ideal S8x2048x1408 .bf16) : val_main_v4 (F := Ideal) x y = prod x y := by
  funext j
  idx_vars j
  rw [val_main_v4_apply, val_main_v3_apply, val_main_v2_apply]
  refine Finset.sum_congr rfl fun q _ => ?_
  rw [val_main_v1_apply, val_main_v0_apply]
  refine congrArg₂ (fun a b => x a * y b) (funext fun a => Fin.ext ?_) (funext fun a => Fin.ext ?_)
  · match a with
    | ⟨0, _⟩ => show ((j1.val * 2 + j0.val) * 5632 + j2.val) / 11264 = j1.val; omega
    | ⟨1, _⟩ => rfl
  · match a with
    | ⟨0, _⟩ =>
      show (q.val * 11264 + ((j1.val * 2 + j0.val) * 5632 + j2.val) % 11264) / 1408 % 8 = 4 * j0.val + j2.val / 1408
      omega
    | ⟨1, _⟩ => show (q.val * 11264 + ((j1.val * 2 + j0.val) * 5632 + j2.val) % 11264) / 11264 = q.val; omega
    | ⟨2, _⟩ => show (q.val * 11264 + ((j1.val * 2 + j0.val) * 5632 + j2.val) % 11264) % 1408 = j2.val % 1408; omega

theorem frame_k : Cert.quiescent_UpK := fun m ρ _ => Cert.UpK.Gen.frame m ρ
theorem frame_ki : Cert.quiescent_UpKIdeal := fun m ρ _ => Cert.UpKIdeal.Gen.frame m ρ

theorem frame_ri : Cert.quiescent_UpRIdeal := fun m ρ _ =>
  (θ_run Cert.UpRIdeal.defs _ _).mono (fun _ h => ⟨fun c => (h c).2, funext fun s => nomatch s⟩)
    (Cert.UpRIdeal.Value.run (F := Ideal) m ρ)

theorem value : Cert.algebraic_UpKIdeal_UpRIdeal := by
  intro m ρ m' ρ' _ hm
  refine ⟨fun c => prod (h m c) (Cert.UpKIdeal.Ker.w m c), ?_, ?_⟩
  · refine (θ_run Cert.UpKIdeal.defs _ _).mono (fun r hr c => ?_) (Cert.UpKIdeal.Value.run_blocks m ρ)
    exact ⟨(hr c).1.trans (final m c), (hr c).2⟩
  · refine (θ_run Cert.UpRIdeal.defs _ _).mono (fun r hr c => ?_) (Cert.UpRIdeal.Value.run (F := Ideal) m' ρ')
    obtain ⟨e0, e1⟩ := hm c
    refine ⟨(hr c).1.trans ((val_main_v4_eq _ _).trans ((ref _ _).trans ?_)), (hr c).2⟩
    rw [e0, e1]

end Cert.Up

end
-- ==== Proof.DownMain.lean ====
/- The claims about the product of the feed-forward layer's second weight, added to the stream: its frames, and that its result
   is the plain product's on any arguments. -/
module

public import proofs.«01_k».proof.Defs
public import proofs.«01_k».proof.Proof.Gen.DownKIdeal.Value
public import proofs.«01_k».proof.Proof.Gen.DownRIdeal.Read
public import proofs.«01_k».proof.Proof.Gen.DownRIdeal.Run
public import proofs.«01_k».proof.Proof.Gen.DownK.Frame
public import Idealize.ShloMosaic.Lib.StableHlo.ReadAt
public import Idealize.ShloMosaic.Lib.Pointwise

@[expose] public section

set_option maxRecDepth 16384

noncomputable section

namespace Cert.DownKIdeal.Ker

open Idealize.ShloMosaic Idealize.ShloMosaic.TcCoe Idealize.ShloMosaic.Tactic Cert.DownKIdeal Cert.DownKIdeal.Gen
open Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

variable (m : (ℓ : Loc nD τ sig) → Buf (Elt Ideal) ℓ) (c : Dev nD)

theorem idx_facts : ∀ t : Fin cfg0.N, (win0_0.index t 0 = t.val / 4 ∧ win0_0.index t 1 = 0)
    ∧ (win0_1.index t 0 = 0 ∧ win0_1.index t 1 = 0 ∧ win0_1.index t 2 = 0 ∧ win0_1.index t 3 = t.val % 4)
    ∧ (win0_2.index t 0 = t.val / 4 ∧ win0_2.index t 1 = t.val % 4) ∧ (win0_3.index t 0 = t.val / 4 ∧ win0_3.index t 1 = t.val % 4) :=
  (by decide +kernel : ∀ t : Fin grid0.N, _)

/-- The stream plus the product. -/
def prod (a : S8192x5632.Idx → EReal) (w : S5632x2048.Idx → EReal) (x : S8192x2048.Idx → EReal) : S8192x2048.Idx → EReal := fun i =>
  x i + ∑ k : Fin 5632, a (ix2 (i 0) k) * w (ix2 k (i 1))

abbrev a (m : (ℓ : Loc nD τ sig) → Buf (Elt Ideal) ℓ) (c : Dev nD) : S8192x5632.Idx → EReal := m ((c : Thread nD τ).loc main_arg0)
abbrev w (m : (ℓ : Loc nD τ sig) → Buf (Elt Ideal) ℓ) (c : Dev nD) : S5632x2048.Idx → EReal := m ((c : Thread nD τ).loc main_arg1)
abbrev x (m : (ℓ : Loc nD τ sig) → Buf (Elt Ideal) ℓ) (c : Dev nD) : S8192x2048.Idx → EReal := m ((c : Thread nD τ).loc main_arg2)

theorem pay (u : FVec Ideal S1024x5632 .bf16) (y : FVec Ideal S1x1x5632x512 .bf16) (z : FVec Ideal S1024x512 .f32) (r : Fin 1024) (k : Fin 512) :
    out0_3 (F := Ideal) u y z (ix2 r k) = z (ix2 r k) + ∑ q : Fin 5632, u (ix2 r q) * y (ix4 0 0 q k) := by
  unfold out0_3
  rw [View.canon_unit_zero hz2]
  simp only [View.ld_unit_zero (S := S1024x5632) hz2, View.ld_unit_zero (S := S1024x512) hz2, View.ld_unit_zero (S := S1x1x5632x512) hz4]
  pointwise [k0_pay1]

theorem w_at (r : Fin 5632) (k : Fin 2048) : V m c main_v1 (ix4 0 0 r k) = w m c (ix2 r k) := by
  dsimp only [V, hostOps0]
  after_reads_at

theorem iblk_a (t : Fin cfg0.N) (r : Fin 1024) (k : Fin 5632) : (iblk m c 0 t : Vec Ideal S1024x5632 .bf16) (ix2 r k)
    = a m c (ix2 ⟨1024 * (t.val / 4) + r.val, by have : t.val < 32 := t.isLt.trans_eq N_0; omega⟩ k) := by
  obtain ⟨hi, -⟩ := idx_facts t
  unfold iblk
  rw [View.read_apply]
  show m ((c : Thread nD τ).loc main_arg0) _ = m ((c : Thread nD τ).loc main_arg0) _
  congr 1
  funext b
  apply Fin.ext
  match b with
  | ⟨0, _⟩ => show win0_0.index t 0 * 1024 + 1 * r.val = 1024 * (t.val / 4) + r.val; rw [hi.1]; omega
  | ⟨1, _⟩ => show win0_0.index t 1 * 5632 + 1 * k.val = k.val; rw [hi.2]; omega

theorem iblk_x (t : Fin cfg0.N) (r : Fin 1024) (k : Fin 512) : (iblk m c 2 t : Vec Ideal S1024x512 .f32) (ix2 r k)
    = x m c (ix2 ⟨1024 * (t.val / 4) + r.val, by have : t.val < 32 := t.isLt.trans_eq N_0; omega⟩ ⟨512 * (t.val % 4) + k.val, by omega⟩) := by
  obtain ⟨-, -, hi, -⟩ := idx_facts t
  unfold iblk
  rw [View.read_apply]
  show m ((c : Thread nD τ).loc main_arg2) _ = m ((c : Thread nD τ).loc main_arg2) _
  congr 1
  funext b
  apply Fin.ext
  match b with
  | ⟨0, _⟩ => show win0_2.index t 0 * 1024 + 1 * r.val = 1024 * (t.val / 4) + r.val; rw [hi.1]; omega
  | ⟨1, _⟩ => show win0_2.index t 1 * 512 + 1 * k.val = 512 * (t.val % 4) + k.val; rw [hi.2]; omega

theorem iblk_w (t : Fin cfg0.N) (r : Fin 5632) (k : Fin 512) : (iblk m c 1 t : Vec Ideal S1x1x5632x512 .bf16) (ix4 0 0 r k)
    = w m c (ix2 r ⟨512 * (t.val % 4) + k.val, by omega⟩) := by
  obtain ⟨-, hi, -⟩ := idx_facts t
  unfold iblk
  rw [View.read_apply]
  refine Eq.trans ?_ (w_at m c r ⟨512 * (t.val % 4) + k.val, by omega⟩)
  show V m c main_v1 _ = V m c main_v1 _
  congr 1
  funext b
  apply Fin.ext
  match b with
  | ⟨0, _⟩ => show win0_1.index t 0 * 1 + 1 * 0 = 0; rw [hi.1]
  | ⟨1, _⟩ => show win0_1.index t 1 * 1 + 1 * 0 = 0; rw [hi.2.1]
  | ⟨2, _⟩ => show win0_1.index t 2 * 5632 + 1 * r.val = r.val; rw [hi.2.2.1]; omega
  | ⟨3, _⟩ => show win0_1.index t 3 * 512 + 1 * k.val = 512 * (t.val % 4) + k.val; rw [hi.2.2.2]; omega

theorem mem3 (t : Fin cfg0.N) (i : S8192x2048.Idx) :
    i ∈ ((cfg0.win 3).blk t).view.set ↔ ∀ b : Fin 2, win0_3.index t b * S1024x512.size b ≤ i b ∧ (i b : ℕ) < win0_3.index t b * S1024x512.size b + S1024x512.size b := by
  show i ∈ ((View.whole main_v2).slice (win0_3.rect t)).set ↔ _
  rw [View.set_slice_whole, Rect.mem_set_unit]; exact Iff.rfl

theorem final : (Gen.dats m 0 c).arrAt 3 cfg0.N = prod (a m c) (w m c) (x m c) := by
  refine (Gen.dats m 0 c).arrAt_eq_of_cover 3 (prod (a m c) (w m c) (x m c)) (fun t _ => ?_) fun (i : S8192x2048.Idx) => ?_
  · rw [Value.flushed3]
    funext j
    rw [View.read_apply]
    idx_vars j
    obtain ⟨-, -, -, hi⟩ := idx_facts t
    have ht : t.val < 32 := t.isLt.trans_eq N_0
    have e : ((cfg0.win 3).blk t).view.emb (ix2 j0 j1) = (ix2 ⟨1024 * (t.val / 4) + j0.val, by omega⟩
        ⟨512 * (t.val % 4) + j1.val, by omega⟩ : S8192x2048.Idx) := by
      funext b
      apply Fin.ext
      match b with
      | ⟨0, _⟩ => show win0_3.index t 0 * 1024 + 1 * j0.val = 1024 * (t.val / 4) + j0.val; rw [hi.1]; omega
      | ⟨1, _⟩ => show win0_3.index t 1 * 512 + 1 * j1.val = 512 * (t.val % 4) + j1.val; rw [hi.2]; omega
    refine (pay (iblk m c 0 t) (iblk m c 1 t) (iblk m c 2 t) j0 j1).trans (Eq.trans ?_ (congrArg (prod (a m c) (w m c) (x m c)) e).symm)
    refine congrArg₂ _ (iblk_x m c t j0 j1) (Finset.sum_congr rfl fun q _ => ?_)
    rw [iblk_a, iblk_w]
    rfl
  · have h0 : (i 0 : Nat) < 8192 := (i 0).isLt
    have h1 : (i 1 : Nat) < 2048 := (i 1).isLt
    have hN : cfg0.N = 32 := N_0
    refine ⟨⟨4 * ((i 0).val / 1024) + (i 1).val / 512, by omega⟩, flush0_3 _, ?_⟩
    obtain ⟨-, -, -, hi⟩ := idx_facts ⟨4 * ((i 0).val / 1024) + (i 1).val / 512, by omega⟩
    rw [mem3]
    intro b
    match b with
    | ⟨0, _⟩ =>
      show win0_3.index _ 0 * 1024 ≤ (i 0).val ∧ (i 0).val < win0_3.index _ 0 * 1024 + 1024
      rw [hi.1]; dsimp only; omega
    | ⟨1, _⟩ =>
      show win0_3.index _ 1 * 512 ≤ (i 1).val ∧ (i 1).val < win0_3.index _ 1 * 512 + 512
      rw [hi.2]; dsimp only; omega

end Cert.DownKIdeal.Ker

namespace Cert.Down

open Idealize.ShloMosaic Idealize.ShloMosaic.TcCoe Idealize.SL.Sem Cert.DownKIdeal.Ker Cert.DownRIdeal Cert.DownRIdeal.Read

theorem ref (u : FVec Ideal S8192x5632 .bf16) (y : FVec Ideal S5632x2048 .bf16) (z : FVec Ideal S8192x2048 .f32) :
    val_main_v1 (F := Ideal) u y z = prod u y z := by
  funext j
  idx_vars j
  rw [val_main_v1_apply, val_main_v0_apply]
  show z (ix2 j0 j1) + _ = z (ix2 j0 j1) + _
  refine congrArg _ (Finset.sum_congr rfl fun q _ => ?_)
  refine congrArg₂ (fun a b => u a * y b) (funext fun a => ?_) (funext fun a => ?_)
  · match a with
    | ⟨0, _⟩ => rfl
    | ⟨1, _⟩ => rfl
  · match a with
    | ⟨0, _⟩ => rfl
    | ⟨1, _⟩ => rfl

theorem frame_k : Cert.quiescent_DownK := fun m ρ _ => Cert.DownK.Gen.frame m ρ
theorem frame_ki : Cert.quiescent_DownKIdeal := fun m ρ _ => Cert.DownKIdeal.Gen.frame m ρ

theorem frame_ri : Cert.quiescent_DownRIdeal := fun m ρ _ =>
  (θ_run Cert.DownRIdeal.defs _ _).mono (fun _ h => ⟨fun c => (h c).2, funext fun s => nomatch s⟩)
    (Cert.DownRIdeal.Value.run (F := Ideal) m ρ)

theorem value : Cert.algebraic_DownKIdeal_DownRIdeal := by
  intro m ρ m' ρ' _ hm
  refine ⟨fun c => prod (Cert.DownKIdeal.Ker.a m c) (Cert.DownKIdeal.Ker.w m c) (Cert.DownKIdeal.Ker.x m c), ?_, ?_⟩
  · refine (θ_run Cert.DownKIdeal.defs _ _).mono (fun r hr c => ?_) (Cert.DownKIdeal.Value.run_blocks m ρ)
    exact ⟨(hr c).1.trans (final m c), (hr c).2⟩
  · refine (θ_run Cert.DownRIdeal.defs _ _).mono (fun r hr c => ?_) (Cert.DownRIdeal.Value.run (F := Ideal) m' ρ')
    obtain ⟨e0, e1, e2⟩ := hm c
    refine ⟨(hr c).1.trans ((val_main_v1_eq _ _ _).trans ((ref _ _ _).trans ?_)), (hr c).2⟩
    rw [e0, e1, e2]

end Cert.Down

end
-- ==== Proof.TnKer.lean ====
/- The kernel of the gradient by the feed-forward layer's first weight: over eight blocks of rows it adds up the product of the
   normalised stream's transpose and the gradient by the layer's two halves, and its result is the sum over all rows. -/
module

public import proofs.«01_k».proof.Defs
public import proofs.«01_k».proof.Proof.Gen.TnKIdeal.Value
public import Idealize.ShloMosaic.Lib.Pointwise
public import Idealize.ShloMosaic.Lib.VecWindow
public import proofs.«01_k».proof.Proof.Finite

@[expose] public section

set_option maxRecDepth 16384

noncomputable section

namespace Cert.TnKIdeal.Ker

open Idealize.ShloMosaic Idealize.ShloMosaic.TcCoe Idealize.ShloMosaic.Tactic Cert.TnKIdeal Cert.TnKIdeal.Gen
open Idealize.SL.Sem Cert.Finite

theorem hz : (![0, 0] : Fin 2 → Nat) = fun _ => 0 := funext fun a => by fin_cases a <;> rfl
theorem hz3 : (![0, 0, 0] : Fin 3 → Nat) = fun _ => 0 := funext fun a => by fin_cases a <;> rfl

/-! ## One point -/

section
variable {c : Dev nD} {i : grid0.Coords} {a3 : Memref sig .tc .vmem S1024x1024 .bf16} {h3 : a3.IsWhole}
  {a4 : Memref sig .tc .vmem S1x1024x1408 .bf16} {h4 : a4.IsWhole} {a5 : Memref sig .tc .vmem S1x1024x1408 .bf16} {h5 : a5.IsWhole}
  {a6 : Memref sig .tc .vmem S1024x1408 .f32} {h6 : a6.IsWhole}
  {x : Vec Ideal S1024x1024 .bf16} {y : Vec Ideal S1x1024x1408 .bf16} {s : Vec Ideal S1024x1408 .f32}

theorem first {hc0 : cond0_0 i} {hc1 : ¬cond0_1 i} {hc2 : ¬cond0_2 i} :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  simp only [View.readAt_eq_ld, h3.read_unread, h4.read_unread, View.ld_unit_zero (S := S1024x1024) hz,
    View.ld_unit_zero (S := S1x1024x1408) hz3]
  rw [View.canon_unit_zero hz]

theorem next {hc0 : ¬cond0_0 i} {hc1 : cond0_1 i} {hc2 : ¬cond0_2 i} :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  simp only [View.readAt_eq_ld, h3.read_unread, h4.read_unread, h6.read_unread, View.ld_unit_zero (S := S1024x1024) hz,
    View.ld_unit_zero (S := S1x1024x1408) hz3, View.ld_unit_zero (S := S1024x1408) hz]
  rw [View.canon_unit_zero hz]

theorem last {hc0 : ¬cond0_0 i} {hc1 : cond0_1 i} {hc2 : cond0_2 i} :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  simp only [View.readAt_eq_ld, h3.read_unread, h4.read_unread, h6.read_unread, View.ld_unit_zero (S := S1024x1024) hz,
    View.ld_unit_zero (S := S1x1024x1408) hz3, View.ld_unit_zero (S := S1024x1408) hz]
  rw [View.canon_unit_zero hz3]
  exact congrArg k0_pay4 (View.readCov_full (s := S1024x1408) a6.view _ _ _ _)
end

section
variable (x : FVec Ideal S1024x1024 .bf16) (y : FVec Ideal S1x1024x1408 .bf16) (s : FVec Ideal S1024x1408 .f32)
  (r : Fin 1024) (k : Fin 1408)

theorem pay2 : k0_pay2 (F := Ideal) x y (ix2 r k) = ∑ q : Fin 1024, x (ix2 q r) * y (ix3 0 q k) := by
  pointwise [k0_pay2, k0_pay1]

theorem pay3 : k0_pay3 (F := Ideal) x y s (ix2 r k) = s (ix2 r k) + k0_pay2 (F := Ideal) x y (ix2 r k) := by
  rw [pay2]
  pointwise [k0_pay3, k0_pay1]

theorem pay4 : k0_pay4 (F := Ideal) s (ix3 0 r k) = s (ix2 r k) := by
  pointwise [k0_pay4]
end

/-! ## The blocks a point reads -/

variable (m : (ℓ : Loc nD τ sig) → Buf (Elt Ideal) ℓ) (c : Dev nD)

theorem idx_facts : ∀ t : Fin cfg0.N, (win0_0.index t 0 = t.val % 8 ∧ win0_0.index t 1 = t.val / 64)
    ∧ (win0_1.index t 0 = t.val / 8 % 8 / 4 ∧ win0_1.index t 1 = t.val % 8 ∧ win0_1.index t 2 = t.val / 8 % 4)
    ∧ (win0_2.index t 0 = t.val / 8 % 8 ∧ win0_2.index t 1 = t.val / 64 ∧ win0_2.index t 2 = 0) :=
  (by decide +kernel : ∀ t : Fin grid0.N, _)

abbrev h (m : (ℓ : Loc nD τ sig) → Buf (Elt Ideal) ℓ) (c : Dev nD) : S8192x2048.Idx → EReal := m ((c : Thread nD τ).loc main_arg0)
abbrev du (m : (ℓ : Loc nD τ sig) → Buf (Elt Ideal) ℓ) (c : Dev nD) : S2x8192x5632.Idx → EReal := m ((c : Thread nD τ).loc main_arg1)

/-- Row `n`'s product for entry `(b, r, k)` of the gradient: column `k` of block `b` of the columns. -/
def term (x : S8192x2048.Idx → EReal) (y : S2x8192x5632.Idx → EReal) (b : Fin 8) (r : Fin 2048) (k : Fin 1408) (n : ℕ) : EReal :=
  if hn : n < 8192 then x (ix2 ⟨n, hn⟩ r) * y (ix3 ⟨b.val / 4, by omega⟩ ⟨n, hn⟩ ⟨1408 * (b.val % 4) + k.val, by omega⟩) else 0

/-- The gradient. -/
def grad (x : S8192x2048.Idx → EReal) (y : S2x8192x5632.Idx → EReal) : S8x2048x1408.Idx → EReal := fun i =>
  ∑ n : Fin 8192, term x y (i 0) (i 1) (i 2) n.val

/-- The block of columns and the row of an entry of a point's block. -/
abbrev blk (t : Fin cfg0.N) : Fin 8 := ⟨t.val / 8 % 8, by omega⟩
abbrev row (t : Fin cfg0.N) (r : Fin 1024) : Fin 2048 := ⟨1024 * (t.val / 64) + r.val, by have : t.val < 128 := t.isLt.trans_eq N_0; omega⟩

theorem iblk_h (t : Fin cfg0.N) (q r : Fin 1024) : (iblk m c 0 t : Vec Ideal S1024x1024 .bf16) (ix2 q r)
    = h m c (ix2 ⟨1024 * (t.val % 8) + q.val, by omega⟩ (row t r)) := by
  obtain ⟨hi, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * q.val = 1024 * (t.val % 8) + q.val; rw [hi.1]; omega
  | ⟨1, _⟩ => show win0_0.index t 1 * 1024 + 1 * r.val = 1024 * (t.val / 64) + r.val; rw [hi.2]; omega

theorem iblk_du (t : Fin cfg0.N) (q : Fin 1024) (k : Fin 1408) : (iblk m c 1 t : Vec Ideal S1x1024x1408 .bf16) (ix3 0 q k)
    = du m c (ix3 ⟨(blk t).val / 4, by omega⟩ ⟨1024 * (t.val % 8) + q.val, by omega⟩ ⟨1408 * ((blk t).val % 4) + k.val, by omega⟩) := by
  obtain ⟨-, hi, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = t.val / 8 % 8 / 4; rw [hi.1]; omega
  | ⟨1, _⟩ => show win0_1.index t 1 * 1024 + 1 * q.val = 1024 * (t.val % 8) + q.val; rw [hi.2.1]; omega
  | ⟨2, _⟩ => show win0_1.index t 2 * 1408 + 1 * k.val = 1408 * (t.val / 8 % 8 % 4) + k.val; rw [hi.2.2]; omega

/-- A point's product is the sum over its block of rows. -/
theorem point (t : Fin cfg0.N) (r : Fin 1024) (k : Fin 1408) :
    k0_pay2 (F := Ideal) (iblk m c 0 t) (iblk m c 1 t) (ix2 r k)
      = ∑ q ∈ Finset.range 1024, term (h m c) (du m c) (blk t) (row t r) k (1024 * (t.val % 8) + q) := by
  rw [pay2, Finset.sum_range]
  refine Finset.sum_congr rfl fun q _ => ?_
  rw [iblk_h, iblk_du]
  unfold term
  rw [dif_pos (by omega : 1024 * (t.val % 8) + q.val < 8192)]

/-- After a point that is not its run's last the scratch holds the sum over the run's blocks so far. -/
theorem acc : ∀ (n : ℕ) (hn : n < cfg0.N) (_ : n % 8 ≠ 7) (r : Fin 1024) (k : Fin 1408),
    (outsAt0 m c n hn).2 (ix2 r k) = ∑ p ∈ Finset.range (n % 8 + 1), ∑ q ∈ Finset.range 1024,
      term (h m c) (du m c) (blk ⟨n, hn⟩) (row ⟨n, hn⟩ r) k (1024 * p + q)
  | n, hn, h7, r, k => by
    by_cases h0 : n % 8 = 0
    · rw [outsAt0_A m c ⟨n, hn⟩ h0 (by dsimp only; omega) (by dsimp only; omega)]
      dsimp only
      rw [first, point]
      dsimp only
      rw [h0, Finset.sum_range_one]
    · rw [outsAt0_B m c ⟨n, hn⟩ h0 (by dsimp only; omega) (by dsimp only; omega)]
      dsimp only
      rw [next, pay3, Finset.sum_range_succ]
      refine congrArg₂ _ ((acc (n - 1) (by omega) (by omega) r k).trans ?_) (point m c ⟨n, hn⟩ r k)
      rw [show (n - 1) % 8 + 1 = n % 8 by omega]
      refine Finset.sum_congr rfl fun p _ => Finset.sum_congr rfl fun q _ =>
        congrArg₂ (fun a b => term (h m c) (du m c) a b k (1024 * p + q)) (Fin.ext ?_) (Fin.ext ?_)
      · show (n - 1) / 8 % 8 = n / 8 % 8
        omega
      · show 1024 * ((n - 1) / 64) + r.val = 1024 * (n / 64) + r.val
        omega
termination_by n => n
decreasing_by omega

/-- What a run's last point writes. -/
theorem block (t : Fin cfg0.N) (h7 : t.val % 8 = 7) (r : Fin 1024) (k : Fin 1408) :
    (outsAt0 m c t.val t.isLt).1 (ix3 0 r k) = grad (h m c) (du m c) (ix3 (blk t) (row t r) k) := by
  rw [outsAt0_C m c t (by omega) (by omega) h7]
  dsimp only
  rw [last, pay4, pay3, point]
  have e := acc m c (t.val - 1) (Nat.lt_of_le_of_lt (Nat.sub_le _ _) t.isLt) (by omega) r k
  rw [e]
  show _ = ∑ n : Fin 8192, term (h m c) (du m c) (blk t) (row t r) k n.val
  rw [← Finset.sum_range fun n => term (h m c) (du m c) (blk t) (row t r) k n]
  have hs := sum_blocks (term (h m c) (du m c) (blk t) (row t r) k) 1024 8
  refine Eq.trans ?_ hs
  rw [h7, show (t.val - 1) % 8 + 1 = 7 by omega, Finset.sum_range_succ _ 7]
  refine congrArg₂ _ ?_ rfl
  refine Finset.sum_congr rfl fun p _ => Finset.sum_congr rfl fun q _ =>
    congrArg₂ (fun a b => term (h m c) (du m c) a b k (1024 * p + q)) (Fin.ext ?_) (Fin.ext ?_)
  · show (t.val - 1) / 8 % 8 = t.val / 8 % 8
    omega
  · show 1024 * ((t.val - 1) / 64) + r.val = 1024 * (t.val / 64) + r.val
    omega

theorem mem2 (t : Fin cfg0.N) (i : S8x2048x1408.Idx) :
    i ∈ ((cfg0.win 2).blk t).view.set ↔ ∀ a : Fin 3, win0_2.index t a * S1x1024x1408.size a ≤ i a ∧ (i a : ℕ) < win0_2.index t a * S1x1024x1408.size a + S1x1024x1408.size a := by
  show i ∈ ((View.whole main_v0).slice (win0_2.rect t)).set ↔ _
  rw [View.set_slice_whole, Rect.mem_set_unit]; exact Iff.rfl

theorem final : (Gen.dats m 0 c).arrAt 2 cfg0.N = grad (h m c) (du m c) := by
  refine (Gen.dats m 0 c).arrAt_eq_of_cover 2 (grad (h m c) (du m c)) (fun t hf => ?_) fun (i : S8x2048x1408.Idx) => ?_
  · have h7 : t.val % 8 = 7 := (flush0_2 t).mp hf
    rw [Value.flushed2]
    funext j
    rw [View.read_apply]
    idx_vars j
    obtain ⟨-, -, hi⟩ := idx_facts t
    obtain rfl : j0 = 0 := Subsingleton.elim _ _
    have e : ((cfg0.win 2).blk t).view.emb (ix3 0 j1 j2) = (ix3 (blk t) (row t j1) j2 : S8x2048x1408.Idx) := by
      funext a
      apply Fin.ext
      match a with
      | ⟨0, _⟩ => show win0_2.index t 0 * 1 + 1 * 0 = t.val / 8 % 8; rw [hi.1]; omega
      | ⟨1, _⟩ => show win0_2.index t 1 * 1024 + 1 * j1.val = 1024 * (t.val / 64) + j1.val; rw [hi.2.1]; omega
      | ⟨2, _⟩ => show win0_2.index t 2 * 1408 + 1 * j2.val = j2.val; rw [hi.2.2]; omega
    exact (block m c t h7 j1 j2).trans (congrArg (grad (h m c) (du m c)) e).symm
  · have h0 : (i 0 : Nat) < 8 := (i 0).isLt
    have h1 : (i 1 : Nat) < 2048 := (i 1).isLt
    have h2 : (i 2 : Nat) < 1408 := (i 2).isLt
    have hN : cfg0.N = 128 := N_0
    refine ⟨⟨64 * ((i 1).val / 1024) + 8 * (i 0).val + 7, by omega⟩, (flush0_2 _).mpr (by dsimp only; omega), ?_⟩
    obtain ⟨-, -, hi⟩ := idx_facts ⟨64 * ((i 1).val / 1024) + 8 * (i 0).val + 7, by omega⟩
    rw [mem2]
    intro a
    match a with
    | ⟨0, _⟩ =>
      show win0_2.index _ 0 * 1 ≤ (i 0).val ∧ (i 0).val < win0_2.index _ 0 * 1 + 1
      rw [hi.1]; dsimp only; omega
    | ⟨1, _⟩ =>
      show win0_2.index _ 1 * 1024 ≤ (i 1).val ∧ (i 1).val < win0_2.index _ 1 * 1024 + 1024
      rw [hi.2.1]; dsimp only; omega
    | ⟨2, _⟩ =>
      show win0_2.index _ 2 * 1408 ≤ (i 2).val ∧ (i 2).val < win0_2.index _ 2 * 1408 + 1408
      rw [hi.2.2]; dsimp only; omega

end Cert.TnKIdeal.Ker

end
-- ==== Proof.TnMain.lean ====
/- The claims about the gradient by the feed-forward layer's first weight: its frames, and that its result is the reference's on
   any arguments. -/
module

public import proofs.«01_k».proof.Defs
public import proofs.«01_k».proof.Proof.TnKer
public import proofs.«01_k».proof.Proof.Gen.TnRIdeal.Read
public import proofs.«01_k».proof.Proof.Gen.TnRIdeal.Run
public import proofs.«01_k».proof.Proof.Gen.TnK.Frame

@[expose] public section

set_option maxRecDepth 16384

noncomputable section

namespace Cert.Tn

open Idealize.ShloMosaic Idealize.ShloMosaic.TcCoe Idealize.SL.Sem Cert.TnKIdeal.Ker Cert.TnRIdeal Cert.TnRIdeal.Read

theorem ref (x : FVec Ideal S8192x2048 .bf16) (y : FVec Ideal S2x8192x5632 .bf16) : val_main_v14 (F := Ideal) x y = grad x y := by
  funext j
  idx_vars j
  rw [val_main_v14_apply]
  show val_main_v13 (F := Ideal) x y (ix3 j0 j1 j2) = _
  rw [val_main_v13_apply, val_main_v12_apply, val_main_v11_apply, val_main_v10_apply]
  refine Finset.sum_congr rfl fun q _ => ?_
  rw [val_main_v9_apply, val_main_v8_apply, val_main_v7_apply, val_main_v1_apply]
  show y _ * x _ = _
  unfold term
  rw [dif_pos q.isLt, mul_comm]
  refine congrArg₂ (fun a b => x a * y b) (funext fun a => Fin.ext ?_) (funext fun a => Fin.ext ?_)
  · match a with
    | ⟨0, _⟩ => rfl
    | ⟨1, _⟩ => show ((j1.val * 8 + j0.val) * 1408 + j2.val) / 11264 = j1.val; omega
  · match a with
    | ⟨0, _⟩ =>
      show (q.val * 11264 + ((j1.val * 8 + j0.val) * 1408 + j2.val) % 11264) / 5632 % 2 = j0.val / 4
      omega
    | ⟨1, _⟩ => show (q.val * 11264 + ((j1.val * 8 + j0.val) * 1408 + j2.val) % 11264) / 11264 = q.val; omega
    | ⟨2, _⟩ =>
      show (q.val * 11264 + ((j1.val * 8 + j0.val) * 1408 + j2.val) % 11264) % 5632 = 1408 * (j0.val % 4) + j2.val
      omega

theorem frame_k : Cert.quiescent_TnK := fun m ρ _ => Cert.TnK.Gen.frame m ρ
theorem frame_ki : Cert.quiescent_TnKIdeal := fun m ρ _ => Cert.TnKIdeal.Gen.frame m ρ

theorem frame_ri : Cert.quiescent_TnRIdeal := fun m ρ _ =>
  (θ_run Cert.TnRIdeal.defs _ _).mono (fun _ h => ⟨fun c => (h c).2, funext fun s => nomatch s⟩)
    (Cert.TnRIdeal.Value.run (F := Ideal) m ρ)

theorem value : Cert.algebraic_TnKIdeal_TnRIdeal := by
  intro m ρ m' ρ' _ hm
  refine ⟨fun c => grad (h m c) (Cert.TnKIdeal.Ker.du m c), ?_, ?_⟩
  · refine (θ_run Cert.TnKIdeal.defs _ _).mono (fun r hr c => ?_) (Cert.TnKIdeal.Value.run_blocks m ρ)
    exact ⟨(hr c).1.trans (final m c), (hr c).2⟩
  · refine (θ_run Cert.TnRIdeal.defs _ _).mono (fun r hr c => ?_) (Cert.TnRIdeal.Value.run (F := Ideal) m' ρ')
    obtain ⟨e0, e1⟩ := hm c
    refine ⟨(hr c).1.trans ((val_main_v14_eq _ _).trans ((ref _ _).trans ?_)), (hr c).2⟩
    rw [e0, e1]

end Cert.Tn

end
-- ==== Proof.NtKer.lean ====
/- The kernel of the gradient by the feed-forward layer's input: over the eight blocks of the first weight's columns it adds up the
   product of the gradient by the layer's two halves and the block's transpose, and its result is the sum over all columns. -/
module

public import proofs.«01_k».proof.Defs
public import proofs.«01_k».proof.Proof.Gen.NtKIdeal.Value
public import Idealize.ShloMosaic.Lib.Pointwise
public import Idealize.ShloMosaic.Lib.VecWindow
public import Idealize.ShloMosaic.Lib.StableHlo.ReadAt
public import proofs.«01_k».proof.Proof.Finite

@[expose] public section

set_option maxRecDepth 16384

noncomputable section

namespace Cert.NtKIdeal.Ker

open Idealize.ShloMosaic Idealize.ShloMosaic.TcCoe Idealize.ShloMosaic.Tactic Cert.NtKIdeal Cert.NtKIdeal.Gen
open Idealize.SL.Sem Cert.Finite

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## One point -/

section
variable {c : Dev nD} {i : grid0.Coords} {a3 : Memref sig .tc .vmem S1x1024x1408 .bf16} {h3 : a3.IsWhole}
  {a4 : Memref sig .tc .vmem S1x1x1024x1408 .bf16} {h4 : a4.IsWhole} {a5 : Memref sig .tc .vmem S1024x1024 .f32} {h5 : a5.IsWhole}
  {a6 : Memref sig .tc .vmem S1024x1024 .f32} {h6 : a6.IsWhole}
  {x : Vec Ideal S1x1024x1408 .bf16} {y : Vec Ideal S1x1x1024x1408 .bf16} {s : Vec Ideal S1024x1024 .f32}

theorem first {hc0 : cond0_0 i} {hc1 : ¬cond0_1 i} {hc2 : ¬cond0_2 i} :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  simp only [View.readAt_eq_ld, h3.read_unread, h4.read_unread, View.ld_unit_zero (S := S1024x1024) hz,
    View.ld_unit_zero (S := S1x1024x1408) hz3, View.ld_unit_zero (S := S1x1x1024x1408) hz4]
  rw [View.canon_unit_zero hz]

theorem next {hc0 : ¬cond0_0 i} {hc1 : cond0_1 i} {hc2 : ¬cond0_2 i} :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  simp only [View.readAt_eq_ld, h3.read_unread, h4.read_unread, h6.read_unread, View.ld_unit_zero (S := S1024x1024) hz,
    View.ld_unit_zero (S := S1x1024x1408) hz3, View.ld_unit_zero (S := S1x1x1024x1408) hz4]
  rw [View.canon_unit_zero hz]

theorem last {hc0 : ¬cond0_0 i} {hc1 : cond0_1 i} {hc2 : cond0_2 i} :
    out0_C_2 c i a3 h3 a4 h4 a5 h5 a6 h6 hc0 hc1 hc2 x y s = k0_pay3 x y s := by
  unfold out0_C_2
  rw [View.read_writes_eq_canon _ _ _ (cover0_C_2 c i a3 h3 a4 h4 a5 h5 a6 h6 hc0 hc1 hc2 x y s)]
  unfold kernelRun0_C
  dsimp only
  sl_unfold_words
  simp only [View.readAt_eq_ld, h3.read_unread, h4.read_unread, h6.read_unread, View.ld_unit_zero (S := S1024x1024) hz,
    View.ld_unit_zero (S := S1x1024x1408) hz3, View.ld_unit_zero (S := S1x1x1024x1408) hz4]
  rw [View.canon_unit_zero hz]
  exact View.readCov_full (s := S1024x1024) a6.view _ _ _ _
end

section
variable (x : FVec Ideal S1x1024x1408 .bf16) (y : FVec Ideal S1x1x1024x1408 .bf16) (s : FVec Ideal S1024x1024 .f32) (r k : Fin 1024)

theorem pay2 : k0_pay2 (F := Ideal) x y (ix2 r k) = ∑ q : Fin 1408, x (ix3 0 r q) * y (ix4 0 0 k q) := by
  pointwise [k0_pay2, k0_pay1]

theorem pay3 : k0_pay3 (F := Ideal) x y s (ix2 r k) = s (ix2 r k) + k0_pay2 (F := Ideal) x y (ix2 r k) := by
  rw [pay2]
  pointwise [k0_pay3, k0_pay1]
end

/-! ## The blocks a point reads -/

variable (m : (ℓ : Loc nD τ sig) → Buf (Elt Ideal) ℓ) (c : Dev nD)

theorem idx_facts : ∀ t : Fin cfg0.N, (win0_0.index t 0 = t.val % 8 / 4 ∧ win0_0.index t 1 = t.val / 16 ∧ win0_0.index t 2 = t.val % 8 % 4)
    ∧ (win0_1.index t 0 = 0 ∧ win0_1.index t 1 = t.val % 8 ∧ win0_1.index t 2 = t.val / 8 % 2 ∧ win0_1.index t 3 = 0)
    ∧ (win0_2.index t 0 = t.val / 16 ∧ win0_2.index t 1 = t.val / 8 % 2) :=
  (by decide +kernel : ∀ t : Fin grid0.N, _)

abbrev du (m : (ℓ : Loc nD τ sig) → Buf (Elt Ideal) ℓ) (c : Dev nD) : S2x8192x5632.Idx → EReal := m ((c : Thread nD τ).loc main_arg0)
abbrev w (m : (ℓ : Loc nD τ sig) → Buf (Elt Ideal) ℓ) (c : Dev nD) : S8x2048x1408.Idx → EReal := m ((c : Thread nD τ).loc main_arg1)

/-- Column `n`'s product for entry `(r, k)` of the gradient: it lies in half `n / 5632` of the layer and in block `n / 1408` of
the weight. -/
def term (x : S2x8192x5632.Idx → EReal) (y : S8x2048x1408.Idx → EReal) (r : Fin 8192) (k : Fin 2048) (n : ℕ) : EReal :=
  if hn : n < 11264 then x (ix3 ⟨n / 5632, by omega⟩ r ⟨n % 5632, by omega⟩) * y (ix3 ⟨n / 1408, by omega⟩ k ⟨n % 1408, by omega⟩) else 0

/-- The gradient. -/
def grad (x : S2x8192x5632.Idx → EReal) (y : S8x2048x1408.Idx → EReal) : S8192x2048.Idx → EReal := fun i =>
  ∑ n : Fin 11264, term x y (i 0) (i 1) n.val

/-- The row and the column of an entry of a point's block. -/
abbrev row (t : Fin cfg0.N) (r : Fin 1024) : Fin 8192 := ⟨1024 * (t.val / 16) + r.val, by have : t.val < 128 := t.isLt.trans_eq N_0; omega⟩
abbrev col (t : Fin cfg0.N) (k : Fin 1024) : Fin 2048 := ⟨1024 * (t.val / 8 % 2) + k.val, by omega⟩

theorem w_at (b : Fin 8) (r : Fin 2048) (k : Fin 1408) : V m c main_v0 (ix4 0 b r k) = w m c (ix3 b r k) := by
  dsimp only [V, hostOps0]
  after_reads_at

theorem iblk_du (t : Fin cfg0.N) (r : Fin 1024) (q : Fin 1408) : (iblk m c 0 t : Vec Ideal S1x1024x1408 .bf16) (ix3 0 r q)
    = du m c (ix3 ⟨(1408 * (t.val % 8) + q.val) / 5632, by omega⟩ (row t r) ⟨(1408 * (t.val % 8) + q.val) % 5632, by omega⟩) := by
  obtain ⟨hi, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1 + 1 * 0 = (1408 * (t.val % 8) + q.val) / 5632; rw [hi.1]; omega
  | ⟨1, _⟩ => show win0_0.index t 1 * 1024 + 1 * r.val = 1024 * (t.val / 16) + r.val; rw [hi.2.1]; omega
  | ⟨2, _⟩ => show win0_0.index t 2 * 1408 + 1 * q.val = (1408 * (t.val % 8) + q.val) % 5632; rw [hi.2.2]; omega

theorem iblk_w (t : Fin cfg0.N) (k : Fin 1024) (q : Fin 1408) : (iblk m c 1 t : Vec Ideal S1x1x1024x1408 .bf16) (ix4 0 0 k q)
    = w m c (ix3 ⟨(1408 * (t.val % 8) + q.val) / 1408, by omega⟩ (col t k) ⟨(1408 * (t.val % 8) + q.val) % 1408, by omega⟩) := by
  obtain ⟨-, hi, -⟩ := idx_facts t
  unfold iblk
  rw [View.read_apply]
  refine Eq.trans ?_ (w_at m c ⟨(1408 * (t.val % 8) + q.val) / 1408, by omega⟩ (col t k) ⟨(1408 * (t.val % 8) + q.val) % 1408, by omega⟩)
  show V m c main_v0 _ = V m c main_v0 _
  congr 1
  funext a
  apply Fin.ext
  match a with
  | ⟨0, _⟩ => show win0_1.index t 0 * 1 + 1 * 0 = 0; rw [hi.1]
  | ⟨1, _⟩ => show win0_1.index t 1 * 1 + 1 * 0 = (1408 * (t.val % 8) + q.val) / 1408; rw [hi.2.1]; omega
  | ⟨2, _⟩ => show win0_1.index t 2 * 1024 + 1 * k.val = 1024 * (t.val / 8 % 2) + k.val; rw [hi.2.2.1]; omega
  | ⟨3, _⟩ => show win0_1.index t 3 * 1408 + 1 * q.val = (1408 * (t.val % 8) + q.val) % 1408; rw [hi.2.2.2]; omega

/-- A point's product is the sum over its block of columns. -/
theorem point (t : Fin cfg0.N) (r k : Fin 1024) :
    k0_pay2 (F := Ideal) (iblk m c 0 t) (iblk m c 1 t) (ix2 r k)
      = ∑ q ∈ Finset.range 1408, term (du m c) (w m c) (row t r) (col t k) (1408 * (t.val % 8) + q) := by
  rw [pay2, Finset.sum_range]
  refine Finset.sum_congr rfl fun q _ => ?_
  rw [iblk_du, iblk_w]
  unfold term
  rw [dif_pos (by omega : 1408 * (t.val % 8) + q.val < 11264)]

/-- After a point that is not its run's last the scratch holds the sum over the run's blocks so far. -/
theorem acc : ∀ (n : ℕ) (hn : n < cfg0.N) (_ : n % 8 ≠ 7) (r k : Fin 1024),
    (outsAt0 m c n hn).2 (ix2 r k) = ∑ p ∈ Finset.range (n % 8 + 1), ∑ q ∈ Finset.range 1408,
      term (du m c) (w m c) (row ⟨n, hn⟩ r) (col ⟨n, hn⟩ k) (1408 * p + q)
  | n, hn, h7, r, k => by
    by_cases h0 : n % 8 = 0
    · rw [outsAt0_A m c ⟨n, hn⟩ h0 (by dsimp only; omega) (by dsimp only; omega)]
      dsimp only
      rw [first, point]
      dsimp only
      rw [h0, Finset.sum_range_one]
    · rw [outsAt0_B m c ⟨n, hn⟩ h0 (by dsimp only; omega) (by dsimp only; omega)]
      dsimp only
      rw [next, pay3, Finset.sum_range_succ]
      refine congrArg₂ _ ((acc (n - 1) (by omega) (by omega) r k).trans ?_) (point m c ⟨n, hn⟩ r k)
      rw [show (n - 1) % 8 + 1 = n % 8 by omega]
      refine Finset.sum_congr rfl fun p _ => Finset.sum_congr rfl fun q _ =>
        congrArg₂ (fun a b => term (du m c) (w m c) a b (1408 * p + q)) (Fin.ext ?_) (Fin.ext ?_)
      · show 1024 * ((n - 1) / 16) + r.val = 1024 * (n / 16) + r.val
        omega
      · show 1024 * ((n - 1) / 8 % 2) + k.val = 1024 * (n / 8 % 2) + k.val
        omega
termination_by n => n
decreasing_by omega

/-- What a run's last point writes. -/
theorem block (t : Fin cfg0.N) (h7 : t.val % 8 = 7) (r k : Fin 1024) :
    (outsAt0 m c t.val t.isLt).1 (ix2 r k) = grad (du m c) (w m c) (ix2 (row t r) (col t k)) := by
  rw [outsAt0_C m c t (by omega) (by omega) h7]
  dsimp only
  rw [last, pay3, point]
  have e := acc m c (t.val - 1) (Nat.lt_of_le_of_lt (Nat.sub_le _ _) t.isLt) (by omega) r k
  rw [e]
  show _ = ∑ n : Fin 11264, term (du m c) (w m c) (row t r) (col t k) n.val
  rw [← Finset.sum_range fun n => term (du m c) (w m c) (row t r) (col t k) n]
  have hs := sum_blocks (term (du m c) (w m c) (row t r) (col t k)) 1408 8
  refine Eq.trans ?_ hs
  rw [h7, show (t.val - 1) % 8 + 1 = 7 by omega, Finset.sum_range_succ _ 7]
  refine congrArg₂ _ ?_ rfl
  refine Finset.sum_congr rfl fun p _ => Finset.sum_congr rfl fun q _ =>
    congrArg₂ (fun a b => term (du m c) (w m c) a b (1408 * p + q)) (Fin.ext ?_) (Fin.ext ?_)
  · show 1024 * ((t.val - 1) / 16) + r.val = 1024 * (t.val / 16) + r.val
    omega
  · show 1024 * ((t.val - 1) / 8 % 2) + k.val = 1024 * (t.val / 8 % 2) + k.val
    omega

theorem mem2 (t : Fin cfg0.N) (i : S8192x2048.Idx) :
    i ∈ ((cfg0.win 2).blk t).view.set ↔ ∀ a : Fin 2, win0_2.index t a * S1024x1024.size a ≤ i a ∧ (i a : ℕ) < win0_2.index t a * S1024x1024.size a + S1024x1024.size a := by
  show i ∈ ((View.whole main_v1).slice (win0_2.rect t)).set ↔ _
  rw [View.set_slice_whole, Rect.mem_set_unit]; exact Iff.rfl

theorem final : (Gen.dats m 0 c).arrAt 2 cfg0.N = grad (du m c) (w m c) := by
  refine (Gen.dats m 0 c).arrAt_eq_of_cover 2 (grad (du m c) (w m c)) (fun t hf => ?_) fun (i : S8192x2048.Idx) => ?_
  · have h7 : t.val % 8 = 7 := (flush0_2 t).mp hf
    rw [Value.flushed2]
    funext j
    rw [View.read_apply]
    idx_vars j
    obtain ⟨-, -, hi⟩ := idx_facts t
    have e : ((cfg0.win 2).blk t).view.emb (ix2 j0 j1) = (ix2 (row t j0) (col t j1) : S8192x2048.Idx) := by
      funext a
      apply Fin.ext
      match a with
      | ⟨0, _⟩ => show win0_2.index t 0 * 1024 + 1 * j0.val = 1024 * (t.val / 16) + j0.val; rw [hi.1]; omega
      | ⟨1, _⟩ => show win0_2.index t 1 * 1024 + 1 * j1.val = 1024 * (t.val / 8 % 2) + j1.val; rw [hi.2]; omega
    exact (block m c t h7 j0 j1).trans (congrArg (grad (du m c) (w m c)) e).symm
  · have h0 : (i 0 : Nat) < 8192 := (i 0).isLt
    have h1 : (i 1 : Nat) < 2048 := (i 1).isLt
    have hN : cfg0.N = 128 := N_0
    refine ⟨⟨16 * ((i 0).val / 1024) + 8 * ((i 1).val / 1024) + 7, by omega⟩, (flush0_2 _).mpr (by dsimp only; omega), ?_⟩
    obtain ⟨-, -, hi⟩ := idx_facts ⟨16 * ((i 0).val / 1024) + 8 * ((i 1).val / 1024) + 7, by omega⟩
    rw [mem2]
    intro a
    match a with
    | ⟨0, _⟩ =>
      show win0_2.index _ 0 * 1024 ≤ (i 0).val ∧ (i 0).val < win0_2.index _ 0 * 1024 + 1024
      rw [hi.1]; dsimp only; omega
    | ⟨1, _⟩ =>
      show win0_2.index _ 1 * 1024 ≤ (i 1).val ∧ (i 1).val < win0_2.index _ 1 * 1024 + 1024
      rw [hi.2]; dsimp only; omega

end Cert.NtKIdeal.Ker

end
-- ==== Proof.NtMain.lean ====
/- The claims about the gradient by the feed-forward layer's input: its frames, and that its result is the reference's on
   any arguments. -/
module

public import proofs.«01_k».proof.Defs
public import proofs.«01_k».proof.Proof.NtKer
public import proofs.«01_k».proof.Proof.Gen.NtRIdeal.Read
public import proofs.«01_k».proof.Proof.Gen.NtRIdeal.Run
public import proofs.«01_k».proof.Proof.Gen.NtK.Frame

@[expose] public section

set_option maxRecDepth 16384

noncomputable section

namespace Cert.Nt

open Idealize.ShloMosaic Idealize.ShloMosaic.TcCoe Idealize.SL.Sem Cert.NtKIdeal.Ker Cert.NtRIdeal Cert.NtRIdeal.Read

theorem ref (x : FVec Ideal S2x8192x5632 .bf16) (y : FVec Ideal S8x2048x1408 .bf16) : val_main_v10 (F := Ideal) x y = grad x y := by
  funext j
  idx_vars j
  rw [val_main_v10_apply]
  refine Finset.sum_congr rfl fun q _ => ?_
  rw [val_main_v9_apply, val_main_v8_apply, val_main_v7_apply, val_main_v3_apply, val_main_v2_apply, val_main_v1_apply]
  show x _ * y _ = _
  unfold term
  rw [dif_pos q.isLt]
  refine congrArg₂ (fun a b => x a * y b) (funext fun a => Fin.ext ?_) (funext fun a => Fin.ext ?_)
  · match a with
    | ⟨0, _⟩ => show (j0.val * 11264 + q.val) / 5632 % 2 = q.val / 5632; omega
    | ⟨1, _⟩ => show (j0.val * 11264 + q.val) / 11264 = j0.val; omega
    | ⟨2, _⟩ => show (j0.val * 11264 + q.val) % 5632 = q.val % 5632; omega
  · match a with
    | ⟨0, _⟩ => show (j1.val * 11264 + q.val) / 1408 % 8 = q.val / 1408; omega
    | ⟨1, _⟩ => show (j1.val * 11264 + q.val) / 11264 = j1.val; omega
    | ⟨2, _⟩ => show (j1.val * 11264 + q.val) % 1408 = q.val % 1408; omega

theorem frame_k : Cert.quiescent_NtK := fun m ρ _ => Cert.NtK.Gen.frame m ρ
theorem frame_ki : Cert.quiescent_NtKIdeal := fun m ρ _ => Cert.NtKIdeal.Gen.frame m ρ

theorem frame_ri : Cert.quiescent_NtRIdeal := fun m ρ _ =>
  (θ_run Cert.NtRIdeal.defs _ _).mono (fun _ h => ⟨fun c => (h c).2, funext fun s => nomatch s⟩)
    (Cert.NtRIdeal.Value.run (F := Ideal) m ρ)

theorem value : Cert.algebraic_NtKIdeal_NtRIdeal := by
  intro m ρ m' ρ' _ hm
  refine ⟨fun c => grad (Cert.NtKIdeal.Ker.du m c) (w m c), ?_, ?_⟩
  · refine (θ_run Cert.NtKIdeal.defs _ _).mono (fun r hr c => ?_) (Cert.NtKIdeal.Value.run_blocks m ρ)
    exact ⟨(hr c).1.trans (final m c), (hr c).2⟩
  · refine (θ_run Cert.NtRIdeal.defs _ _).mono (fun r hr c => ?_) (Cert.NtRIdeal.Value.run (F := Ideal) m' ρ')
    obtain ⟨e0, e1⟩ := hm c
    refine ⟨(hr c).1.trans ((val_main_v10_eq _ _).trans ((ref _ _).trans ?_)), (hr c).2⟩
    rw [e0, e1]

end Cert.Nt

end
-- ==== Proof.SumMain.lean ====
/- The claims about the sum of the devices' parts of the loss and the small gradients: its frames, and that its result is the plain
   sum's on any arguments. -/
module

public import proofs.«01_k».proof.Defs
public import proofs.«01_k».proof.Proof.Gen.SumKIdeal.Value
public import proofs.«01_k».proof.Proof.Gen.SumRIdeal.Read
public import proofs.«01_k».proof.Proof.Gen.SumRIdeal.Run
public import proofs.«01_k».proof.Proof.Gen.SumK.Frame
public import Idealize.ShloMosaic.Lib.Pointwise

@[expose] public section

set_option maxRecDepth 16384

noncomputable section

namespace Cert.SumKIdeal.Ker

open Idealize.ShloMosaic Idealize.ShloMosaic.TcCoe Idealize.ShloMosaic.Tactic Cert.SumKIdeal Cert.SumKIdeal.Gen
open Idealize.SL.Sem

/-- The sum of the eight parts. -/
def total (X : S8x208x1024.Idx → EReal) : S208x1024.Idx → EReal := fun i => ∑ s : Fin 8, X (ix3 s (i 0) (i 1))

abbrev parts (m : (ℓ : Loc nD τ sig) → Buf (Elt Ideal) ℓ) (c : Dev nD) : S8x208x1024.Idx → EReal := m ((c : Thread nD τ).loc main_arg0)

/-- One of the eight parts. -/
theorem ld_part (s : Fin 8) (X : FVec Ideal S8x208x1024 .f32)
    (inb : ∀ a : Fin 3, (![s.val, 0, 0] : Fin 3 → Nat) a + S1x208x1024.size a ≤ S8x208x1024.size a) (r : Fin 208) (k : Fin 1024) :
    View.ld (Val := Elt Ideal) (e' := .f32) X (Rect.unit (s := S8x208x1024) ![s.val, 0, 0] S1x208x1024.size inb) (ix3 0 r k) = X (ix3 s r k) := by
  unfold View.ld
  refine congrArg X (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

theorem ker (X : FVec Ideal S8x208x1024 .f32) : Value.G1 (F := Ideal) X = total X := by
  funext j
  idx_vars j
  show Value.G1 (F := Ideal) X (ix2 j0 j1) = ∑ s : Fin 8, X (ix3 s j0 j1)
  dsimp only [Value.G1]
  pointwise [k0_pay1]
  rw [Fin.sum_univ_eight, ← ld_part 0 X inb_S8x208x1024_S1x208x1024_0_0_0, ← ld_part 1 X inb_S8x208x1024_S1x208x1024_1_0_0,
    ← ld_part 2 X inb_S8x208x1024_S1x208x1024_2_0_0, ← ld_part 3 X inb_S8x208x1024_S1x208x1024_3_0_0,
    ← ld_part 4 X inb_S8x208x1024_S1x208x1024_4_0_0, ← ld_part 5 X inb_S8x208x1024_S1x208x1024_5_0_0,
    ← ld_part 6 X inb_S8x208x1024_S1x208x1024_6_0_0, ← ld_part 7 X inb_S8x208x1024_S1x208x1024_7_0_0]

end Cert.SumKIdeal.Ker

namespace Cert.Sum

open Idealize.ShloMosaic Idealize.ShloMosaic.TcCoe Idealize.SL.Sem Cert.SumKIdeal.Ker Cert.SumRIdeal Cert.SumRIdeal.Read

theorem ref (X : FVec Ideal S8x208x1024 .f32) : val_main_v0 (F := Ideal) X = total X := by
  funext j
  rw [val_main_v0_apply]
  refine (congrArg (· + _) (Ideal.ofBits_zero_f32 : Ideal.ofBits .f32 0x00000000#32 = 0)).trans ((zero_add _).trans ?_)
  refine Finset.sum_congr rfl fun k _ => congrArg X (funext fun a => ?_)
  match a with
  | ⟨0, _⟩ => rfl
  | ⟨1, _⟩ => rfl
  | ⟨2, _⟩ => rfl

theorem frame_k : Cert.quiescent_SumK := fun m ρ _ => Cert.SumK.Gen.frame m ρ
theorem frame_ki : Cert.quiescent_SumKIdeal := fun m ρ _ => Cert.SumKIdeal.Gen.frame m ρ

theorem frame_ri : Cert.quiescent_SumRIdeal := fun m ρ _ =>
  (θ_run Cert.SumRIdeal.defs _ _).mono (fun _ h => ⟨fun c => (h c).2, funext fun s => nomatch s⟩)
    (Cert.SumRIdeal.Value.run (F := Ideal) m ρ)

theorem value : Cert.algebraic_SumKIdeal_SumRIdeal := by
  intro m ρ m' ρ' _ hm
  refine ⟨fun c => total (parts m c), ?_, ?_⟩
  · refine (θ_run Cert.SumKIdeal.defs _ _).mono (fun r hr c => ?_) (Cert.SumKIdeal.Value.run (F := Ideal) m ρ)
    exact ⟨(hr c).1.trans (ker _), (hr c).2⟩
  · refine (θ_run Cert.SumRIdeal.defs _ _).mono (fun r hr c => ?_) (Cert.SumRIdeal.Value.run (F := Ideal) m' ρ')
    have e0 := hm c
    refine ⟨(hr c).1.trans ((val_main_v0_eq _).trans ((ref _).trans ?_)), (hr c).2⟩
    rw [e0]

end Cert.Sum

end
-- ==== Proof.FlatMain.lean ====
/- The claims about the optimiser's step on the small weights, packed into one array: its frames, and that its three results are
   the reference's on any arguments. -/
module

public import proofs.«01_k».proof.Defs
public import proofs.«01_k».proof.Proof.Gen.FlatKIdeal.Value
public import proofs.«01_k».proof.Proof.Gen.FlatRIdeal.Read
public import proofs.«01_k».proof.Proof.Gen.FlatRIdeal.Run
public import proofs.«01_k».proof.Proof.Gen.FlatK.Frame
public import Idealize.ShloMosaic.Lib.Pointwise

@[expose] public section

set_option maxRecDepth 16384

noncomputable section

namespace Cert.Flat

open Idealize.ShloMosaic Idealize.ShloMosaic.TcCoe Idealize.SL.Sem Cert.FlatRIdeal Cert.FlatRIdeal.Read

/-- The new first moment. -/
def newM (g p : EReal) : EReal := Ideal.ofBits .f32 0x3F666666#32 * p + Ideal.ofBits .f32 0x3DCCCCCD#32 * g
/-- The new second moment. -/
def newV (g q : EReal) : EReal := Ideal.ofBits .f32 0x3F7FBE77#32 * q + Ideal.ofBits .f32 0x3A83126F#32 * (g * g)
/-- The weight's change. -/
def step (g w p q : EReal) : EReal :=
  Ideal.ofBits .f32 0xBA83126F#32 * (Ideal.div (Ideal.div (newM g p) (Ideal.ofBits .f32 0x3F26BD02#32))
      (Ideal.sqrt (Ideal.div (newV g q) (Ideal.ofBits .f32 0x3C231ACC#32)) + Ideal.ofBits .f32 0x322BCC77#32)
    + Ideal.ofBits .f32 0x3C23D70A#32 * w)

/-- The three results as whole arrays. -/
def dArr (g w p q : S1152x1024.Idx → EReal) : S1152x1024.Idx → EReal := fun i => step (g i) (w i) (p i) (q i)
def mArr (g p : S1152x1024.Idx → EReal) : S1152x1024.Idx → EReal := fun i => newM (g i) (p i)
def vArr (g q : S1152x1024.Idx → EReal) : S1152x1024.Idx → EReal := fun i => newV (g i) (q i)

/-! ## The kernel's results and the reference's are these -/

section
variable (g w p q : FVec Ideal S1152x1024 .f32)

theorem ker_d : Cert.FlatKIdeal.Value.G4 (F := Ideal) w g p q = dArr g w p q := rfl
theorem ker_m : Cert.FlatKIdeal.Value.G5 (F := Ideal) g p = mArr g p := rfl
theorem ker_v : Cert.FlatKIdeal.Value.G6 (F := Ideal) g q = vArr g q := rfl

theorem ref_m : val_main_v4 (F := Ideal) g p = mArr g p := by
  funext j
  idx_vars j
  pointwise [val_main_v4, val_main_v3, val_main_v2, val_main_v1, val_main_v0, val_main_cst, val_main_cst_0]
  rfl

theorem ref_v : val_main_v10 (F := Ideal) g q = vArr g q := by
  funext j
  idx_vars j
  pointwise [val_main_v10, val_main_v9, val_main_v8, val_main_v7, val_main_v6, val_main_v5, val_main_cst_1, val_main_cst_2]
  rfl

theorem ref_d : val_main_v23 (F := Ideal) g w p q = dArr g w p q := by
  funext j
  idx_vars j
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [ref_m, ref_v]
  rfl

end

theorem frame_k : Cert.quiescent_FlatK := fun m ρ _ => Cert.FlatK.Gen.frame m ρ
theorem frame_ki : Cert.quiescent_FlatKIdeal := fun m ρ _ => Cert.FlatKIdeal.Gen.frame m ρ

theorem frame_ri : Cert.quiescent_FlatRIdeal := fun m ρ _ =>
  (θ_run Cert.FlatRIdeal.defs _ _).mono (fun _ h => ⟨fun c => (h c).2.2.2, funext fun s => nomatch s⟩)
    (Cert.FlatRIdeal.Value.run (F := Ideal) m ρ)

section
variable (m : (ℓ : Loc Cert.FlatKIdeal.nD Cert.FlatKIdeal.τ Cert.FlatKIdeal.sig) → Buf (Elt Ideal) ℓ) (c : Dev Cert.FlatKIdeal.nD)

/-- The arguments: the gradient, the weight and its moments. -/
abbrev gg : S1152x1024.Idx → EReal := m ((c.tc : Thread Cert.FlatKIdeal.nD Cert.FlatKIdeal.τ).loc Cert.FlatKIdeal.main_arg0)
abbrev ww : S1152x1024.Idx → EReal := m ((c.tc : Thread Cert.FlatKIdeal.nD Cert.FlatKIdeal.τ).loc Cert.FlatKIdeal.main_arg1)
abbrev pp : S1152x1024.Idx → EReal := m ((c.tc : Thread Cert.FlatKIdeal.nD Cert.FlatKIdeal.τ).loc Cert.FlatKIdeal.main_arg2)
abbrev qq : S1152x1024.Idx → EReal := m ((c.tc : Thread Cert.FlatKIdeal.nD Cert.FlatKIdeal.τ).loc Cert.FlatKIdeal.main_arg3)
end

theorem value : Cert.algebraic_FlatKIdeal_FlatRIdeal := by
  intro m ρ m' ρ' _ hm
  refine ⟨fun c => dArr (gg m c) (ww m c) (pp m c) (qq m c), fun c => mArr (gg m c) (pp m c), fun c => vArr (gg m c) (qq m c), ?_, ?_⟩
  · refine (θ_run Cert.FlatKIdeal.defs _ _).mono (fun r hr c => ?_) (Cert.FlatKIdeal.Value.run (F := Ideal) m ρ)
    exact ⟨(hr c).1.trans (ker_d _ _ _ _), (hr c).2.1.trans (ker_m _ _), (hr c).2.2.1.trans (ker_v _ _), (hr c).2.2.2⟩
  · refine (θ_run Cert.FlatRIdeal.defs _ _).mono (fun r hr c => ?_) (Cert.FlatRIdeal.Value.run (F := Ideal) m' ρ')
    obtain ⟨e0, e1, e2, e3⟩ := hm c
    refine ⟨(hr c).1.trans ((val_main_v23_eq _ _ _ _).trans ((ref_d _ _ _ _).trans ?_)),
      (hr c).2.1.trans ((val_main_v4_eq _ _).trans ((ref_m _ _).trans ?_)),
      (hr c).2.2.1.trans ((val_main_v10_eq _ _).trans ((ref_v _ _).trans ?_)), (hr c).2.2.2⟩
    · rw [e0, e1, e2, e3]
    · rw [e0, e2]
    · rw [e0, e3]

end Cert.Flat

end
-- ==== Proof.lean ====
module

public import proofs.«01_k».proof.Defs
public import proofs.«01_k».proof.Proof.LossMain
public import proofs.«01_k».proof.Proof.MlaMain
public import proofs.«01_k».proof.Proof.NormMain
public import proofs.«01_k».proof.Proof.QnormMain
public import proofs.«01_k».proof.Proof.MixMain
public import proofs.«01_k».proof.Proof.FeedMain
public import proofs.«01_k».proof.Proof.FnormMain
public import proofs.«01_k».proof.Proof.GeluMain
public import proofs.«01_k».proof.Proof.RopeMain
public import proofs.«01_k».proof.Proof.ConvMain
public import proofs.«01_k».proof.Proof.GateMain
public import proofs.«01_k».proof.Proof.YfwdMain
public import proofs.«01_k».proof.Proof.GluMain
public import proofs.«01_k».proof.Proof.RotMain
public import proofs.«01_k».proof.Proof.AdamMain
public import proofs.«01_k».proof.Proof.UpMain
public import proofs.«01_k».proof.Proof.DownMain
public import proofs.«01_k».proof.Proof.TnMain
public import proofs.«01_k».proof.Proof.NtMain
public import proofs.«01_k».proof.Proof.SumMain
public import proofs.«01_k».proof.Proof.FlatMain
public import proofs.«01_k».proof.Proof.Gen.MlaRIdeal.Read

@[expose] public section

noncomputable section

namespace Cert.Proof

theorem claim : Cert.Claim :=
  ⟨Cert.LossK.Gen.facts, Cert.LossKIdeal.Gen.facts, Cert.LossRIdeal.Gen.facts,
    Cert.MlaK.Gen.facts, Cert.MlaKIdeal.Gen.facts, Cert.MlaRIdeal.Gen.facts,
    Cert.NormK.Gen.facts, Cert.NormKIdeal.Gen.facts, Cert.NormRIdeal.Gen.facts,
    Cert.QnormK.Gen.facts, Cert.QnormKIdeal.Gen.facts, Cert.QnormRIdeal.Gen.facts,
    Cert.MixK.Gen.facts, Cert.MixKIdeal.Gen.facts, Cert.MixRIdeal.Gen.facts,
    Cert.FeedK.Gen.facts, Cert.FeedKIdeal.Gen.facts, Cert.FeedRIdeal.Gen.facts,
    Cert.FnormK.Gen.facts, Cert.FnormKIdeal.Gen.facts, Cert.FnormRIdeal.Gen.facts,
    Cert.GeluK.Gen.facts, Cert.GeluKIdeal.Gen.facts, Cert.GeluRIdeal.Gen.facts, Cert.GeluR.Gen.facts,
    Cert.RopeK.Gen.facts, Cert.RopeKIdeal.Gen.facts, Cert.RopeRIdeal.Gen.facts,
    Cert.ConvK.Gen.facts, Cert.ConvKIdeal.Gen.facts, Cert.ConvRIdeal.Gen.facts,
    Cert.GateK.Gen.facts, Cert.GateKIdeal.Gen.facts, Cert.GateRIdeal.Gen.facts,
    Cert.YfwdK.Gen.facts, Cert.YfwdKIdeal.Gen.facts, Cert.YfwdRIdeal.Gen.facts,
    Cert.GluK.Gen.facts, Cert.GluKIdeal.Gen.facts, Cert.GluRIdeal.Gen.facts,
    Cert.RotK.Gen.facts, Cert.RotKIdeal.Gen.facts, Cert.RotRIdeal.Gen.facts,
    Cert.AdamK.Gen.facts, Cert.AdamKIdeal.Gen.facts, Cert.AdamRIdeal.Gen.facts,
    Cert.UpK.Gen.facts, Cert.UpKIdeal.Gen.facts, Cert.UpRIdeal.Gen.facts,
    Cert.DownK.Gen.facts, Cert.DownKIdeal.Gen.facts, Cert.DownRIdeal.Gen.facts,
    Cert.TnK.Gen.facts, Cert.TnKIdeal.Gen.facts, Cert.TnRIdeal.Gen.facts,
    Cert.NtK.Gen.facts, Cert.NtKIdeal.Gen.facts, Cert.NtRIdeal.Gen.facts,
    Cert.SumK.Gen.facts, Cert.SumKIdeal.Gen.facts, Cert.SumRIdeal.Gen.facts,
    Cert.FlatK.Gen.facts, Cert.FlatKIdeal.Gen.facts, Cert.FlatRIdeal.Gen.facts,
    Cert.Pre_loss_finite.facts, Cert.Pre_mla_finite.Gen.facts, Cert.Pre_norm_finite.Gen.facts, Cert.Pre_qnorm_finite.Gen.facts,
    Cert.Pre_gelu_finite.Gen.facts, Cert.Pre_conv_finite.Gen.facts,
    Cert.Loss.frame_k, Cert.Loss.frame_ki, Cert.Loss.frame_ki_pre, Cert.Loss.frame_ri, Cert.Loss.frame_ri_pre,
    Cert.Mla.frame_k, Cert.Mla.frame_ki, Cert.Mla.frame_ki_pre, Cert.Mla.frame_ri, Cert.Mla.frame_ri_pre,
    Cert.Norm.frame_k, Cert.Norm.frame_ki, Cert.Norm.frame_ki_pre, Cert.Norm.frame_ri, Cert.Norm.frame_ri_pre,
    Cert.Qnorm.frame_k, Cert.Qnorm.frame_ki, Cert.Qnorm.frame_ki_pre, Cert.Qnorm.frame_ri, Cert.Qnorm.frame_ri_pre,
    Cert.Mix.frame_k, Cert.Mix.frame_ki, Cert.Mix.frame_ri,
    Cert.Feed.frame_k, Cert.Feed.frame_ki, Cert.Feed.frame_ri,
    Cert.Fnorm.frame_k, Cert.Fnorm.frame_ki, Cert.Fnorm.frame_ri,
    Cert.Gelu.frame_k, Cert.Gelu.frame_ki, Cert.Gelu.frame_ki_pre, Cert.Gelu.frame_ri, Cert.Gelu.frame_ri_pre, Cert.Gelu.frame_r,
    Cert.Rope.frame_k, Cert.Rope.frame_ki, Cert.Rope.frame_ri,
    Cert.Conv.frame_k, Cert.Conv.frame_ki, Cert.Conv.frame_ki_pre, Cert.Conv.frame_ri, Cert.Conv.frame_ri_pre,
    Cert.Gate.frame_k, Cert.Gate.frame_ki, Cert.Gate.frame_ri,
    Cert.Yfwd.frame_k, Cert.Yfwd.frame_ki, Cert.Yfwd.frame_ri,
    Cert.Glu.frame_k, Cert.Glu.frame_ki, Cert.Glu.frame_ri,
    Cert.Rot.frame_k, Cert.Rot.frame_ki, Cert.Rot.frame_ri,
    Cert.Adam.frame_k, Cert.Adam.frame_ki, Cert.Adam.frame_ri,
    Cert.Up.frame_k, Cert.Up.frame_ki, Cert.Up.frame_ri,
    Cert.Down.frame_k, Cert.Down.frame_ki, Cert.Down.frame_ri,
    Cert.Tn.frame_k, Cert.Tn.frame_ki, Cert.Tn.frame_ri,
    Cert.Nt.frame_k, Cert.Nt.frame_ki, Cert.Nt.frame_ri,
    Cert.Sum.frame_k, Cert.Sum.frame_ki, Cert.Sum.frame_ri,
    Cert.Flat.frame_k, Cert.Flat.frame_ki, Cert.Flat.frame_ri,
    trivial, Cert.Loss.value,
    Cert.Mla.named, Cert.Mla.value,
    trivial, Cert.Norm.value,
    trivial, Cert.Qnorm.value,
    trivial, Cert.Mix.value,
    trivial, Cert.Feed.value,
    trivial, Cert.Fnorm.value,
    Cert.Gelu.named_k, Cert.Gelu.named_r, Cert.Gelu.value,
    trivial, Cert.Rope.value,
    trivial, Cert.Conv.value,
    trivial, Cert.Gate.value,
    trivial, Cert.Yfwd.value,
    trivial, Cert.Glu.value,
    trivial, Cert.Rot.value,
    trivial, Cert.Adam.value,
    trivial, Cert.Up.value,
    trivial, Cert.Down.value,
    trivial, Cert.Tn.value,
    trivial, Cert.Nt.value,
    trivial, Cert.Sum.value,
    trivial, Cert.Flat.value⟩

end Cert.Proof

end
